-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Ddown (m : (ℓ : Loc Cert.Ddown.nD Cert.Ddown.τ Cert.Ddown.sig) → Buf (Elt Bits) ℓ) : Prop :=
  True

def Pre_DdownIdeal (m : (ℓ : Loc Cert.DdownIdeal.nD Cert.DdownIdeal.τ Cert.DdownIdeal.sig) → Buf (Elt Ideal) ℓ) : Prop :=
  True

def Pre_DdownRefIdeal (m : (ℓ : Loc Cert.DdownRefIdeal.nD Cert.DdownRefIdeal.τ Cert.DdownRefIdeal.sig) → Buf (Elt Ideal) ℓ) : Prop :=
  True

def Pre_Gdown (m : (ℓ : Loc Cert.Gdown.nD Cert.Gdown.τ Cert.Gdown.sig) → Buf (Elt Bits) ℓ) : Prop :=
  True

def Pre_GdownIdeal (m : (ℓ : Loc Cert.GdownIdeal.nD Cert.GdownIdeal.τ Cert.GdownIdeal.sig) → Buf (Elt Ideal) ℓ) : Prop :=
  True

def Pre_GdownRefIdeal (m : (ℓ : Loc Cert.GdownRefIdeal.nD Cert.GdownRefIdeal.τ Cert.GdownRefIdeal.sig) → Buf (Elt Ideal) ℓ) : Prop :=
  True

def Pre_Dup (m : (ℓ : Loc Cert.Dup.nD Cert.Dup.τ Cert.Dup.sig) → Buf (Elt Bits) ℓ) : Prop :=
  True

def Pre_DupIdeal (m : (ℓ : Loc Cert.DupIdeal.nD Cert.DupIdeal.τ Cert.DupIdeal.sig) → Buf (Elt Ideal) ℓ) : Prop :=
  True

def Pre_DupRefIdeal (m : (ℓ : Loc Cert.DupRefIdeal.nD Cert.DupRefIdeal.τ Cert.DupRefIdeal.sig) → Buf (Elt Ideal) ℓ) : Prop :=
  True

def Pre_Gup (m : (ℓ : Loc Cert.Gup.nD Cert.Gup.τ Cert.Gup.sig) → Buf (Elt Bits) ℓ) : Prop :=
  True

def Pre_GupIdeal (m : (ℓ : Loc Cert.GupIdeal.nD Cert.GupIdeal.τ Cert.GupIdeal.sig) → Buf (Elt Ideal) ℓ) : Prop :=
  True

def Pre_GupRefIdeal (m : (ℓ : Loc Cert.GupRefIdeal.nD Cert.GupRefIdeal.τ Cert.GupRefIdeal.sig) → Buf (Elt Ideal) ℓ) : Prop :=
  True

def Pre_Dout (m : (ℓ : Loc Cert.Dout.nD Cert.Dout.τ Cert.Dout.sig) → Buf (Elt Bits) ℓ) : Prop :=
  True

def Pre_DoutIdeal (m : (ℓ : Loc Cert.DoutIdeal.nD Cert.DoutIdeal.τ Cert.DoutIdeal.sig) → Buf (Elt Ideal) ℓ) : Prop :=
  True

def Pre_DoutRefIdeal (m : (ℓ : Loc Cert.DoutRefIdeal.nD Cert.DoutRefIdeal.τ Cert.DoutRefIdeal.sig) → Buf (Elt Ideal) ℓ) : Prop :=
  True

def Pre_Gout (m : (ℓ : Loc Cert.Gout.nD Cert.Gout.τ Cert.Gout.sig) → Buf (Elt Bits) ℓ) : Prop :=
  True

def Pre_GoutIdeal (m : (ℓ : Loc Cert.GoutIdeal.nD Cert.GoutIdeal.τ Cert.GoutIdeal.sig) → Buf (Elt Ideal) ℓ) : Prop :=
  True

def Pre_GoutRefIdeal (m : (ℓ : Loc Cert.GoutRefIdeal.nD Cert.GoutRefIdeal.τ Cert.GoutRefIdeal.sig) → Buf (Elt Ideal) ℓ) : Prop :=
  True

def Pre_Dq (m : (ℓ : Loc Cert.Dq.nD Cert.Dq.τ Cert.Dq.sig) → Buf (Elt Bits) ℓ) : Prop :=
  True

def Pre_DqIdeal (m : (ℓ : Loc Cert.DqIdeal.nD Cert.DqIdeal.τ Cert.DqIdeal.sig) → Buf (Elt Ideal) ℓ) : Prop :=
  True

def Pre_DqRefIdeal (m : (ℓ : Loc Cert.DqRefIdeal.nD Cert.DqRefIdeal.τ Cert.DqRefIdeal.sig) → Buf (Elt Ideal) ℓ) : Prop :=
  True

def Pre_Gq (m : (ℓ : Loc Cert.Gq.nD Cert.Gq.τ Cert.Gq.sig) → Buf (Elt Bits) ℓ) : Prop :=
  True

def Pre_GqIdeal (m : (ℓ : Loc Cert.GqIdeal.nD Cert.GqIdeal.τ Cert.GqIdeal.sig) → Buf (Elt Ideal) ℓ) : Prop :=
  True

def Pre_GqRefIdeal (m : (ℓ : Loc Cert.GqRefIdeal.nD Cert.GqRefIdeal.τ Cert.GqRefIdeal.sig) → Buf (Elt Ideal) ℓ) : Prop :=
  True

def Pre_Dkv (m : (ℓ : Loc Cert.Dkv.nD Cert.Dkv.τ Cert.Dkv.sig) → Buf (Elt Bits) ℓ) : Prop :=
  True

def Pre_DkvIdeal (m : (ℓ : Loc Cert.DkvIdeal.nD Cert.DkvIdeal.τ Cert.DkvIdeal.sig) → Buf (Elt Ideal) ℓ) : Prop :=
  True

def Pre_DkvRefIdeal (m : (ℓ : Loc Cert.DkvRefIdeal.nD Cert.DkvRefIdeal.τ Cert.DkvRefIdeal.sig) → Buf (Elt Ideal) ℓ) : Prop :=
  True

def Pre_Gkv (m : (ℓ : Loc Cert.Gkv.nD Cert.Gkv.τ Cert.Gkv.sig) → Buf (Elt Bits) ℓ) : Prop :=
  True

def Pre_GkvIdeal (m : (ℓ : Loc Cert.GkvIdeal.nD Cert.GkvIdeal.τ Cert.GkvIdeal.sig) → Buf (Elt Ideal) ℓ) : Prop :=
  True

def Pre_GkvRefIdeal (m : (ℓ : Loc Cert.GkvRefIdeal.nD Cert.GkvRefIdeal.τ Cert.GkvRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.2.2 = (fun _ => 1#1)

def Pre_Din (m : (ℓ : Loc Cert.Din.nD Cert.Din.τ Cert.Din.sig) → Buf (Elt Bits) ℓ) : Prop :=
  True

def Pre_DinIdeal (m : (ℓ : Loc Cert.DinIdeal.nD Cert.DinIdeal.τ Cert.DinIdeal.sig) → Buf (Elt Ideal) ℓ) : Prop :=
  True

def Pre_DinRefIdeal (m : (ℓ : Loc Cert.DinRefIdeal.nD Cert.DinRefIdeal.τ Cert.DinRefIdeal.sig) → Buf (Elt Ideal) ℓ) : Prop :=
  True

def Pre_Gin (m : (ℓ : Loc Cert.Gin.nD Cert.Gin.τ Cert.Gin.sig) → Buf (Elt Bits) ℓ) : Prop :=
  True

def Pre_GinIdeal (m : (ℓ : Loc Cert.GinIdeal.nD Cert.GinIdeal.τ Cert.GinIdeal.sig) → Buf (Elt Ideal) ℓ) : Prop :=
  True

def Pre_GinRefIdeal (m : (ℓ : Loc Cert.GinRefIdeal.nD Cert.GinRefIdeal.τ Cert.GinRefIdeal.sig) → Buf (Elt Ideal) ℓ) : Prop :=
  True

def Pre_Ain (m : (ℓ : Loc Cert.Ain.nD Cert.Ain.τ Cert.Ain.sig) → Buf (Elt Bits) ℓ) : Prop :=
  True

def Pre_AinIdeal (m : (ℓ : Loc Cert.AinIdeal.nD Cert.AinIdeal.τ Cert.AinIdeal.sig) → Buf (Elt Ideal) ℓ) : Prop :=
  True

def Pre_AinRefIdeal (m : (ℓ : Loc Cert.AinRefIdeal.nD Cert.AinRefIdeal.τ Cert.AinRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_View0 (m : (ℓ : Loc Cert.View0.nD Cert.View0.τ Cert.View0.sig) → Buf (Elt Bits) ℓ) : Prop :=
  True

def Pre_View0Ideal (m : (ℓ : Loc Cert.View0Ideal.nD Cert.View0Ideal.τ Cert.View0Ideal.sig) → Buf (Elt Ideal) ℓ) : Prop :=
  True

def Pre_View0RefIdeal (m : (ℓ : Loc Cert.View0RefIdeal.nD Cert.View0RefIdeal.τ Cert.View0RefIdeal.sig) → Buf (Elt Ideal) ℓ) : Prop :=
  True

def Pre_View1 (m : (ℓ : Loc Cert.View1.nD Cert.View1.τ Cert.View1.sig) → Buf (Elt Bits) ℓ) : Prop :=
  True

def Pre_View1Ideal (m : (ℓ : Loc Cert.View1Ideal.nD Cert.View1Ideal.τ Cert.View1Ideal.sig) → Buf (Elt Ideal) ℓ) : Prop :=
  True

def Pre_View1RefIdeal (m : (ℓ : Loc Cert.View1RefIdeal.nD Cert.View1RefIdeal.τ Cert.View1RefIdeal.sig) → Buf (Elt Ideal) ℓ) : Prop :=
  True

def Pre_View2 (m : (ℓ : Loc Cert.View2.nD Cert.View2.τ Cert.View2.sig) → Buf (Elt Bits) ℓ) : Prop :=
  True

def Pre_View2Ideal (m : (ℓ : Loc Cert.View2Ideal.nD Cert.View2Ideal.τ Cert.View2Ideal.sig) → Buf (Elt Ideal) ℓ) : Prop :=
  True

def Pre_View2RefIdeal (m : (ℓ : Loc Cert.View2RefIdeal.nD Cert.View2RefIdeal.τ Cert.View2RefIdeal.sig) → Buf (Elt Ideal) ℓ) : Prop :=
  True

def Pre_UpAct (m : (ℓ : Loc Cert.UpAct.nD Cert.UpAct.τ Cert.UpAct.sig) → Buf (Elt Bits) ℓ) : Prop :=
  True

def Pre_UpActIdeal (m : (ℓ : Loc Cert.UpActIdeal.nD Cert.UpActIdeal.τ Cert.UpActIdeal.sig) → Buf (Elt Ideal) ℓ) : Prop :=
  True

def Pre_UpActRefIdeal (m : (ℓ : Loc Cert.UpActRefIdeal.nD Cert.UpActRefIdeal.τ Cert.UpActRefIdeal.sig) → Buf (Elt Ideal) ℓ) : Prop :=
  True

def Pre_Dnorm (m : (ℓ : Loc Cert.Dnorm.nD Cert.Dnorm.τ Cert.Dnorm.sig) → Buf (Elt Bits) ℓ) : Prop :=
  True

def Pre_DnormIdeal (m : (ℓ : Loc Cert.DnormIdeal.nD Cert.DnormIdeal.τ Cert.DnormIdeal.sig) → Buf (Elt Ideal) ℓ) : Prop :=
  True

def Pre_DnormRefIdeal (m : (ℓ : Loc Cert.DnormRefIdeal.nD Cert.DnormRefIdeal.τ Cert.DnormRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvRefIdeal (m : (ℓ : Loc Cert.AdamKvRefIdeal.nD Cert.AdamKvRefIdeal.τ Cert.AdamKvRefIdeal.sig) → Buf (Elt Ideal) ℓ) : Prop :=
  True

def Pre_AdamQ (m : (ℓ : Loc Cert.AdamQ.nD Cert.AdamQ.τ Cert.AdamQ.sig) → Buf (Elt Bits) ℓ) : Prop :=
  True

def Pre_AdamQIdeal (m : (ℓ : Loc Cert.AdamQIdeal.nD Cert.AdamQIdeal.τ Cert.AdamQIdeal.sig) → Buf (Elt Ideal) ℓ) : Prop :=
  True

def Pre_AdamQRefIdeal (m : (ℓ : Loc Cert.AdamQRefIdeal.nD Cert.AdamQRefIdeal.τ Cert.AdamQRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamGain (m : (ℓ : Loc Cert.AdamGain.nD Cert.AdamGain.τ Cert.AdamGain.sig) → Buf (Elt Bits) ℓ) : Prop :=
  True

def Pre_AdamGainIdeal (m : (ℓ : Loc Cert.AdamGainIdeal.nD Cert.AdamGainIdeal.τ Cert.AdamGainIdeal.sig) → Buf (Elt Ideal) ℓ) : Prop :=
  True

def Pre_AdamGainRefIdeal (m : (ℓ : Loc Cert.AdamGainRefIdeal.nD Cert.AdamGainRefIdeal.τ Cert.AdamGainRefIdeal.sig) → Buf (Elt Ideal) ℓ) : Prop :=
  True

def Pre_AdamGains (m : (ℓ : Loc Cert.AdamGains.nD Cert.AdamGains.τ Cert.AdamGains.sig) → Buf (Elt Bits) ℓ) : Prop :=
  True

def Pre_AdamGainsIdeal (m : (ℓ : Loc Cert.AdamGainsIdeal.nD Cert.AdamGainsIdeal.τ Cert.AdamGainsIdeal.sig) → Buf (Elt Ideal) ℓ) : Prop :=
  True

def Pre_AdamGainsRefIdeal (m : (ℓ : Loc Cert.AdamGainsRefIdeal.nD Cert.AdamGainsRefIdeal.τ Cert.AdamGainsRefIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormRefIdeal (m : (ℓ : Loc Cert.AdamNormRefIdeal.nD Cert.AdamNormRefIdeal.τ Cert.AdamNormRefIdeal.sig) → Buf (Elt Ideal) ℓ) : Prop :=
  True

def Pre_AdamHeads (m : (ℓ : Loc Cert.AdamHeads.nD Cert.AdamHeads.τ Cert.AdamHeads.sig) → Buf (Elt Bits) ℓ) : Prop :=
  True

def Pre_AdamHeadsIdeal (m : (ℓ : Loc Cert.AdamHeadsIdeal.nD Cert.AdamHeadsIdeal.τ Cert.AdamHeadsIdeal.sig) → Buf (Elt Ideal) ℓ) : Prop :=
  True

def Pre_AdamHeadsRefIdeal (m : (ℓ : Loc Cert.AdamHeadsRefIdeal.nD Cert.AdamHeadsRefIdeal.τ Cert.AdamHeadsRefIdeal.sig) → Buf (Elt Ideal) ℓ) : Prop :=
  True

def Pre_AdamGates (m : (ℓ : Loc Cert.AdamGates.nD Cert.AdamGates.τ Cert.AdamGates.sig) → Buf (Elt Bits) ℓ) : Prop :=
  True

def Pre_AdamGatesIdeal (m : (ℓ : Loc Cert.AdamGatesIdeal.nD Cert.AdamGatesIdeal.τ Cert.AdamGatesIdeal.sig) → Buf (Elt Ideal) ℓ) : Prop :=
  True

def Pre_AdamGatesRefIdeal (m : (ℓ : Loc Cert.AdamGatesRefIdeal.nD Cert.AdamGatesRefIdeal.τ Cert.AdamGatesRefIdeal.sig) → Buf (Elt Ideal) ℓ) : Prop :=
  True

def Pre_AdamRel (m : (ℓ : Loc Cert.AdamRel.nD Cert.AdamRel.τ Cert.AdamRel.sig) → Buf (Elt Bits) ℓ) : Prop :=
  True

def Pre_AdamRelIdeal (m : (ℓ : Loc Cert.AdamRelIdeal.nD Cert.AdamRelIdeal.τ Cert.AdamRelIdeal.sig) → Buf (Elt Ideal) ℓ) : Prop :=
  True

def Pre_AdamRelRefIdeal (m : (ℓ : Loc Cert.AdamRelRefIdeal.nD Cert.AdamRelRefIdeal.τ Cert.AdamRelRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamConvB (m : (ℓ : Loc Cert.AdamConvB.nD Cert.AdamConvB.τ Cert.AdamConvB.sig) → Buf (Elt Bits) ℓ) : Prop :=
  True

def Pre_AdamConvBIdeal (m : (ℓ : Loc Cert.AdamConvBIdeal.nD Cert.AdamConvBIdeal.τ Cert.AdamConvBIdeal.sig) → Buf (Elt Ideal) ℓ) : Prop :=
  True

def Pre_AdamConvBRefIdeal (m : (ℓ : Loc Cert.AdamConvBRefIdeal.nD Cert.AdamConvBRefIdeal.τ Cert.AdamConvBRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ddown [hDdown : Cert.Ddown.Facts] : Prop :=
  ∀ (m : (ℓ : Loc Cert.Ddown.nD Cert.Ddown.τ Cert.Ddown.sig) → Buf (Elt Bits) ℓ) (g : Dev Cert.Ddown.nD → PrngReg), Pre_Ddown m →
    θ_run (Cert.Ddown.defs (F := Bits)) (onTc (τ := Cert.Ddown.τ) (Cert.Ddown.main (F := Bits))) ⟨m, fun _ => 0, g⟩ (fun r => (∀ c : Dev Cert.Ddown.nD,
      r.2.mem ((c.tc : Thread Cert.Ddown.nD Cert.Ddown.τ).loc Cert.Ddown.main_arg0) = m ((c.tc : Thread Cert.Ddown.nD Cert.Ddown.τ).loc Cert.Ddown.main_arg0)
      ∧ r.2.mem ((c.tc : Thread Cert.Ddown.nD Cert.Ddown.τ).loc Cert.Ddown.main_arg1) = m ((c.tc : Thread Cert.Ddown.nD Cert.Ddown.τ).loc Cert.Ddown.main_arg1))
      ∧ r.2.sem = fun _ => 0)

def quiescent_DdownIdeal [hDdownIdeal : Cert.DdownIdeal.Facts] : Prop :=
  ∀ (m : (ℓ : Loc Cert.DdownIdeal.nD Cert.DdownIdeal.τ Cert.DdownIdeal.sig) → Buf (Elt Ideal) ℓ) (g : Dev Cert.DdownIdeal.nD → PrngReg), Pre_DdownIdeal m →
    θ_run (Cert.DdownIdeal.defs (F := Ideal)) (onTc (τ := Cert.DdownIdeal.τ) (Cert.DdownIdeal.main (F := Ideal))) ⟨m, fun _ => 0, g⟩ (fun r => (∀ c : Dev Cert.DdownIdeal.nD,
      r.2.mem ((c.tc : Thread Cert.DdownIdeal.nD Cert.DdownIdeal.τ).loc Cert.DdownIdeal.main_arg0) = m ((c.tc : Thread Cert.DdownIdeal.nD Cert.DdownIdeal.τ).loc Cert.DdownIdeal.main_arg0)
      ∧ r.2.mem ((c.tc : Thread Cert.DdownIdeal.nD Cert.DdownIdeal.τ).loc Cert.DdownIdeal.main_arg1) = m ((c.tc : Thread Cert.DdownIdeal.nD Cert.DdownIdeal.τ).loc Cert.DdownIdeal.main_arg1))
      ∧ r.2.sem = fun _ => 0)

def quiescent_DdownRefIdeal [hDdownRefIdeal : Cert.DdownRefIdeal.Facts] : Prop :=
  ∀ (m : (ℓ : Loc Cert.DdownRefIdeal.nD Cert.DdownRefIdeal.τ Cert.DdownRefIdeal.sig) → Buf (Elt Ideal) ℓ) (g : Dev Cert.DdownRefIdeal.nD → PrngReg), Pre_DdownRefIdeal m →
    θ_run (Cert.DdownRefIdeal.defs (F := Ideal)) (onTc (τ := Cert.DdownRefIdeal.τ) (Cert.DdownRefIdeal.main (F := Ideal))) ⟨m, fun _ => 0, g⟩ (fun r => (∀ c : Dev Cert.DdownRefIdeal.nD,
      r.2.mem ((c.tc : Thread Cert.DdownRefIdeal.nD Cert.DdownRefIdeal.τ).loc Cert.DdownRefIdeal.main_arg0) = m ((c.tc : Thread Cert.DdownRefIdeal.nD Cert.DdownRefIdeal.τ).loc Cert.DdownRefIdeal.main_arg0)
      ∧ r.2.mem ((c.tc : Thread Cert.DdownRefIdeal.nD Cert.DdownRefIdeal.τ).loc Cert.DdownRefIdeal.main_arg1) = m ((c.tc : Thread Cert.DdownRefIdeal.nD Cert.DdownRefIdeal.τ).loc Cert.DdownRefIdeal.main_arg1))
      ∧ r.2.sem = fun _ => 0)

def quiescent_Gdown [hGdown : Cert.Gdown.Facts] : Prop :=
  ∀ (m : (ℓ : Loc Cert.Gdown.nD Cert.Gdown.τ Cert.Gdown.sig) → Buf (Elt Bits) ℓ) (g : Dev Cert.Gdown.nD → PrngReg), Pre_Gdown m →
    θ_run (Cert.Gdown.defs (F := Bits)) (onTc (τ := Cert.Gdown.τ) (Cert.Gdown.main (F := Bits))) ⟨m, fun _ => 0, g⟩ (fun r => (∀ c : Dev Cert.Gdown.nD,
      r.2.mem ((c.tc : Thread Cert.Gdown.nD Cert.Gdown.τ).loc Cert.Gdown.main_arg0) = m ((c.tc : Thread Cert.Gdown.nD Cert.Gdown.τ).loc Cert.Gdown.main_arg0)
      ∧ r.2.mem ((c.tc : Thread Cert.Gdown.nD Cert.Gdown.τ).loc Cert.Gdown.main_arg1) = m ((c.tc : Thread Cert.Gdown.nD Cert.Gdown.τ).loc Cert.Gdown.main_arg1))
      ∧ r.2.sem = fun _ => 0)

def quiescent_GdownIdeal [hGdownIdeal : Cert.GdownIdeal.Facts] : Prop :=
  ∀ (m : (ℓ : Loc Cert.GdownIdeal.nD Cert.GdownIdeal.τ Cert.GdownIdeal.sig) → Buf (Elt Ideal) ℓ) (g : Dev Cert.GdownIdeal.nD → PrngReg), Pre_GdownIdeal m →
    θ_run (Cert.GdownIdeal.defs (F := Ideal)) (onTc (τ := Cert.GdownIdeal.τ) (Cert.GdownIdeal.main (F := Ideal))) ⟨m, fun _ => 0, g⟩ (fun r => (∀ c : Dev Cert.GdownIdeal.nD,
      r.2.mem ((c.tc : Thread Cert.GdownIdeal.nD Cert.GdownIdeal.τ).loc Cert.GdownIdeal.main_arg0) = m ((c.tc : Thread Cert.GdownIdeal.nD Cert.GdownIdeal.τ).loc Cert.GdownIdeal.main_arg0)
      ∧ r.2.mem ((c.tc : Thread Cert.GdownIdeal.nD Cert.GdownIdeal.τ).loc Cert.GdownIdeal.main_arg1) = m ((c.tc : Thread Cert.GdownIdeal.nD Cert.GdownIdeal.τ).loc Cert.GdownIdeal.main_arg1))
      ∧ r.2.sem = fun _ => 0)

def quiescent_GdownRefIdeal [hGdownRefIdeal : Cert.GdownRefIdeal.Facts] : Prop :=
  ∀ (m : (ℓ : Loc Cert.GdownRefIdeal.nD Cert.GdownRefIdeal.τ Cert.GdownRefIdeal.sig) → Buf (Elt Ideal) ℓ) (g : Dev Cert.GdownRefIdeal.nD → PrngReg), Pre_GdownRefIdeal m →
    θ_run (Cert.GdownRefIdeal.defs (F := Ideal)) (onTc (τ := Cert.GdownRefIdeal.τ) (Cert.GdownRefIdeal.main (F := Ideal))) ⟨m, fun _ => 0, g⟩ (fun r => (∀ c : Dev Cert.GdownRefIdeal.nD,
      r.2.mem ((c.tc : Thread Cert.GdownRefIdeal.nD Cert.GdownRefIdeal.τ).loc Cert.GdownRefIdeal.main_arg0) = m ((c.tc : Thread Cert.GdownRefIdeal.nD Cert.GdownRefIdeal.τ).loc Cert.GdownRefIdeal.main_arg0)
      ∧ r.2.mem ((c.tc : Thread Cert.GdownRefIdeal.nD Cert.GdownRefIdeal.τ).loc Cert.GdownRefIdeal.main_arg1) = m ((c.tc : Thread Cert.GdownRefIdeal.nD Cert.GdownRefIdeal.τ).loc Cert.GdownRefIdeal.main_arg1))
      ∧ r.2.sem = fun _ => 0)

def quiescent_Dup [hDup : Cert.Dup.Facts] : Prop :=
  ∀ (m : (ℓ : Loc Cert.Dup.nD Cert.Dup.τ Cert.Dup.sig) → Buf (Elt Bits) ℓ) (g : Dev Cert.Dup.nD → PrngReg), Pre_Dup m →
    θ_run (Cert.Dup.defs (F := Bits)) (onTc (τ := Cert.Dup.τ) (Cert.Dup.main (F := Bits))) ⟨m, fun _ => 0, g⟩ (fun r => (∀ c : Dev Cert.Dup.nD,
      r.2.mem ((c.tc : Thread Cert.Dup.nD Cert.Dup.τ).loc Cert.Dup.main_arg0) = m ((c.tc : Thread Cert.Dup.nD Cert.Dup.τ).loc Cert.Dup.main_arg0)
      ∧ r.2.mem ((c.tc : Thread Cert.Dup.nD Cert.Dup.τ).loc Cert.Dup.main_arg1) = m ((c.tc : Thread Cert.Dup.nD Cert.Dup.τ).loc Cert.Dup.main_arg1))
      ∧ r.2.sem = fun _ => 0)

def quiescent_DupIdeal [hDupIdeal : Cert.DupIdeal.Facts] : Prop :=
  ∀ (m : (ℓ : Loc Cert.DupIdeal.nD Cert.DupIdeal.τ Cert.DupIdeal.sig) → Buf (Elt Ideal) ℓ) (g : Dev Cert.DupIdeal.nD → PrngReg), Pre_DupIdeal m →
    θ_run (Cert.DupIdeal.defs (F := Ideal)) (onTc (τ := Cert.DupIdeal.τ) (Cert.DupIdeal.main (F := Ideal))) ⟨m, fun _ => 0, g⟩ (fun r => (∀ c : Dev Cert.DupIdeal.nD,
      r.2.mem ((c.tc : Thread Cert.DupIdeal.nD Cert.DupIdeal.τ).loc Cert.DupIdeal.main_arg0) = m ((c.tc : Thread Cert.DupIdeal.nD Cert.DupIdeal.τ).loc Cert.DupIdeal.main_arg0)
      ∧ r.2.mem ((c.tc : Thread Cert.DupIdeal.nD Cert.DupIdeal.τ).loc Cert.DupIdeal.main_arg1) = m ((c.tc : Thread Cert.DupIdeal.nD Cert.DupIdeal.τ).loc Cert.DupIdeal.main_arg1))
      ∧ r.2.sem = fun _ => 0)

def quiescent_DupRefIdeal [hDupRefIdeal : Cert.DupRefIdeal.Facts] : Prop :=
  ∀ (m : (ℓ : Loc Cert.DupRefIdeal.nD Cert.DupRefIdeal.τ Cert.DupRefIdeal.sig) → Buf (Elt Ideal) ℓ) (g : Dev Cert.DupRefIdeal.nD → PrngReg), Pre_DupRefIdeal m →
    θ_run (Cert.DupRefIdeal.defs (F := Ideal)) (onTc (τ := Cert.DupRefIdeal.τ) (Cert.DupRefIdeal.main (F := Ideal))) ⟨m, fun _ => 0, g⟩ (fun r => (∀ c : Dev Cert.DupRefIdeal.nD,
      r.2.mem ((c.tc : Thread Cert.DupRefIdeal.nD Cert.DupRefIdeal.τ).loc Cert.DupRefIdeal.main_arg0) = m ((c.tc : Thread Cert.DupRefIdeal.nD Cert.DupRefIdeal.τ).loc Cert.DupRefIdeal.main_arg0)
      ∧ r.2.mem ((c.tc : Thread Cert.DupRefIdeal.nD Cert.DupRefIdeal.τ).loc Cert.DupRefIdeal.main_arg1) = m ((c.tc : Thread Cert.DupRefIdeal.nD Cert.DupRefIdeal.τ).loc Cert.DupRefIdeal.main_arg1))
      ∧ r.2.sem = fun _ => 0)

def quiescent_Gup [hGup : Cert.Gup.Facts] : Prop :=
  ∀ (m : (ℓ : Loc Cert.Gup.nD Cert.Gup.τ Cert.Gup.sig) → Buf (Elt Bits) ℓ) (g : Dev Cert.Gup.nD → PrngReg), Pre_Gup m →
    θ_run (Cert.Gup.defs (F := Bits)) (onTc (τ := Cert.Gup.τ) (Cert.Gup.main (F := Bits))) ⟨m, fun _ => 0, g⟩ (fun r => (∀ c : Dev Cert.Gup.nD,
      r.2.mem ((c.tc : Thread Cert.Gup.nD Cert.Gup.τ).loc Cert.Gup.main_arg0) = m ((c.tc : Thread Cert.Gup.nD Cert.Gup.τ).loc Cert.Gup.main_arg0)
      ∧ r.2.mem ((c.tc : Thread Cert.Gup.nD Cert.Gup.τ).loc Cert.Gup.main_arg1) = m ((c.tc : Thread Cert.Gup.nD Cert.Gup.τ).loc Cert.Gup.main_arg1))
      ∧ r.2.sem = fun _ => 0)

def quiescent_GupIdeal [hGupIdeal : Cert.GupIdeal.Facts] : Prop :=
  ∀ (m : (ℓ : Loc Cert.GupIdeal.nD Cert.GupIdeal.τ Cert.GupIdeal.sig) → Buf (Elt Ideal) ℓ) (g : Dev Cert.GupIdeal.nD → PrngReg), Pre_GupIdeal m →
    θ_run (Cert.GupIdeal.defs (F := Ideal)) (onTc (τ := Cert.GupIdeal.τ) (Cert.GupIdeal.main (F := Ideal))) ⟨m, fun _ => 0, g⟩ (fun r => (∀ c : Dev Cert.GupIdeal.nD,
      r.2.mem ((c.tc : Thread Cert.GupIdeal.nD Cert.GupIdeal.τ).loc Cert.GupIdeal.main_arg0) = m ((c.tc : Thread Cert.GupIdeal.nD Cert.GupIdeal.τ).loc Cert.GupIdeal.main_arg0)
      ∧ r.2.mem ((c.tc : Thread Cert.GupIdeal.nD Cert.GupIdeal.τ).loc Cert.GupIdeal.main_arg1) = m ((c.tc : Thread Cert.GupIdeal.nD Cert.GupIdeal.τ).loc Cert.GupIdeal.main_arg1))
      ∧ r.2.sem = fun _ => 0)

def quiescent_GupRefIdeal [hGupRefIdeal : Cert.GupRefIdeal.Facts] : Prop :=
  ∀ (m : (ℓ : Loc Cert.GupRefIdeal.nD Cert.GupRefIdeal.τ Cert.GupRefIdeal.sig) → Buf (Elt Ideal) ℓ) (g : Dev Cert.GupRefIdeal.nD → PrngReg), Pre_GupRefIdeal m →
    θ_run (Cert.GupRefIdeal.defs (F := Ideal)) (onTc (τ := Cert.GupRefIdeal.τ) (Cert.GupRefIdeal.main (F := Ideal))) ⟨m, fun _ => 0, g⟩ (fun r => (∀ c : Dev Cert.GupRefIdeal.nD,
      r.2.mem ((c.tc : Thread Cert.GupRefIdeal.nD Cert.GupRefIdeal.τ).loc Cert.GupRefIdeal.main_arg0) = m ((c.tc : Thread Cert.GupRefIdeal.nD Cert.GupRefIdeal.τ).loc Cert.GupRefIdeal.main_arg0)
      ∧ r.2.mem ((c.tc : Thread Cert.GupRefIdeal.nD Cert.GupRefIdeal.τ).loc Cert.GupRefIdeal.main_arg1) = m ((c.tc : Thread Cert.GupRefIdeal.nD Cert.GupRefIdeal.τ).loc Cert.GupRefIdeal.main_arg1))
      ∧ r.2.sem = fun _ => 0)

def quiescent_Dout [hDout : Cert.Dout.Facts] : Prop :=
  ∀ (m : (ℓ : Loc Cert.Dout.nD Cert.Dout.τ Cert.Dout.sig) → Buf (Elt Bits) ℓ) (g : Dev Cert.Dout.nD → PrngReg), Pre_Dout m →
    θ_run (Cert.Dout.defs (F := Bits)) (onTc (τ := Cert.Dout.τ) (Cert.Dout.main (F := Bits))) ⟨m, fun _ => 0, g⟩ (fun r => (∀ c : Dev Cert.Dout.nD,
      r.2.mem ((c.tc : Thread Cert.Dout.nD Cert.Dout.τ).loc Cert.Dout.main_arg0) = m ((c.tc : Thread Cert.Dout.nD Cert.Dout.τ).loc Cert.Dout.main_arg0)
      ∧ r.2.mem ((c.tc : Thread Cert.Dout.nD Cert.Dout.τ).loc Cert.Dout.main_arg1) = m ((c.tc : Thread Cert.Dout.nD Cert.Dout.τ).loc Cert.Dout.main_arg1))
      ∧ r.2.sem = fun _ => 0)

def quiescent_DoutIdeal [hDoutIdeal : Cert.DoutIdeal.Facts] : Prop :=
  ∀ (m : (ℓ : Loc Cert.DoutIdeal.nD Cert.DoutIdeal.τ Cert.DoutIdeal.sig) → Buf (Elt Ideal) ℓ) (g : Dev Cert.DoutIdeal.nD → PrngReg), Pre_DoutIdeal m →
    θ_run (Cert.DoutIdeal.defs (F := Ideal)) (onTc (τ := Cert.DoutIdeal.τ) (Cert.DoutIdeal.main (F := Ideal))) ⟨m, fun _ => 0, g⟩ (fun r => (∀ c : Dev Cert.DoutIdeal.nD,
      r.2.mem ((c.tc : Thread Cert.DoutIdeal.nD Cert.DoutIdeal.τ).loc Cert.DoutIdeal.main_arg0) = m ((c.tc : Thread Cert.DoutIdeal.nD Cert.DoutIdeal.τ).loc Cert.DoutIdeal.main_arg0)
      ∧ r.2.mem ((c.tc : Thread Cert.DoutIdeal.nD Cert.DoutIdeal.τ).loc Cert.DoutIdeal.main_arg1) = m ((c.tc : Thread Cert.DoutIdeal.nD Cert.DoutIdeal.τ).loc Cert.DoutIdeal.main_arg1))
      ∧ r.2.sem = fun _ => 0)

def quiescent_DoutRefIdeal [hDoutRefIdeal : Cert.DoutRefIdeal.Facts] : Prop :=
  ∀ (m : (ℓ : Loc Cert.DoutRefIdeal.nD Cert.DoutRefIdeal.τ Cert.DoutRefIdeal.sig) → Buf (Elt Ideal) ℓ) (g : Dev Cert.DoutRefIdeal.nD → PrngReg), Pre_DoutRefIdeal m →
    θ_run (Cert.DoutRefIdeal.defs (F := Ideal)) (onTc (τ := Cert.DoutRefIdeal.τ) (Cert.DoutRefIdeal.main (F := Ideal))) ⟨m, fun _ => 0, g⟩ (fun r => (∀ c : Dev Cert.DoutRefIdeal.nD,
      r.2.mem ((c.tc : Thread Cert.DoutRefIdeal.nD Cert.DoutRefIdeal.τ).loc Cert.DoutRefIdeal.main_arg0) = m ((c.tc : Thread Cert.DoutRefIdeal.nD Cert.DoutRefIdeal.τ).loc Cert.DoutRefIdeal.main_arg0)
      ∧ r.2.mem ((c.tc : Thread Cert.DoutRefIdeal.nD Cert.DoutRefIdeal.τ).loc Cert.DoutRefIdeal.main_arg1) = m ((c.tc : Thread Cert.DoutRefIdeal.nD Cert.DoutRefIdeal.τ).loc Cert.DoutRefIdeal.main_arg1))
      ∧ r.2.sem = fun _ => 0)

def quiescent_Gout [hGout : Cert.Gout.Facts] : Prop :=
  ∀ (m : (ℓ : Loc Cert.Gout.nD Cert.Gout.τ Cert.Gout.sig) → Buf (Elt Bits) ℓ) (g : Dev Cert.Gout.nD → PrngReg), Pre_Gout m →
    θ_run (Cert.Gout.defs (F := Bits)) (onTc (τ := Cert.Gout.τ) (Cert.Gout.main (F := Bits))) ⟨m, fun _ => 0, g⟩ (fun r => (∀ c : Dev Cert.Gout.nD,
      r.2.mem ((c.tc : Thread Cert.Gout.nD Cert.Gout.τ).loc Cert.Gout.main_arg0) = m ((c.tc : Thread Cert.Gout.nD Cert.Gout.τ).loc Cert.Gout.main_arg0)
      ∧ r.2.mem ((c.tc : Thread Cert.Gout.nD Cert.Gout.τ).loc Cert.Gout.main_arg1) = m ((c.tc : Thread Cert.Gout.nD Cert.Gout.τ).loc Cert.Gout.main_arg1))
      ∧ r.2.sem = fun _ => 0)

def quiescent_GoutIdeal [hGoutIdeal : Cert.GoutIdeal.Facts] : Prop :=
  ∀ (m : (ℓ : Loc Cert.GoutIdeal.nD Cert.GoutIdeal.τ Cert.GoutIdeal.sig) → Buf (Elt Ideal) ℓ) (g : Dev Cert.GoutIdeal.nD → PrngReg), Pre_GoutIdeal m →
    θ_run (Cert.GoutIdeal.defs (F := Ideal)) (onTc (τ := Cert.GoutIdeal.τ) (Cert.GoutIdeal.main (F := Ideal))) ⟨m, fun _ => 0, g⟩ (fun r => (∀ c : Dev Cert.GoutIdeal.nD,
      r.2.mem ((c.tc : Thread Cert.GoutIdeal.nD Cert.GoutIdeal.τ).loc Cert.GoutIdeal.main_arg0) = m ((c.tc : Thread Cert.GoutIdeal.nD Cert.GoutIdeal.τ).loc Cert.GoutIdeal.main_arg0)
      ∧ r.2.mem ((c.tc : Thread Cert.GoutIdeal.nD Cert.GoutIdeal.τ).loc Cert.GoutIdeal.main_arg1) = m ((c.tc : Thread Cert.GoutIdeal.nD Cert.GoutIdeal.τ).loc Cert.GoutIdeal.main_arg1))
      ∧ r.2.sem = fun _ => 0)

def quiescent_GoutRefIdeal [hGoutRefIdeal : Cert.GoutRefIdeal.Facts] : Prop :=
  ∀ (m : (ℓ : Loc Cert.GoutRefIdeal.nD Cert.GoutRefIdeal.τ Cert.GoutRefIdeal.sig) → Buf (Elt Ideal) ℓ) (g : Dev Cert.GoutRefIdeal.nD → PrngReg), Pre_GoutRefIdeal m →
    θ_run (Cert.GoutRefIdeal.defs (F := Ideal)) (onTc (τ := Cert.GoutRefIdeal.τ) (Cert.GoutRefIdeal.main (F := Ideal))) ⟨m, fun _ => 0, g⟩ (fun r => (∀ c : Dev Cert.GoutRefIdeal.nD,
      r.2.mem ((c.tc : Thread Cert.GoutRefIdeal.nD Cert.GoutRefIdeal.τ).loc Cert.GoutRefIdeal.main_arg0) = m ((c.tc : Thread Cert.GoutRefIdeal.nD Cert.GoutRefIdeal.τ).loc Cert.GoutRefIdeal.main_arg0)
      ∧ r.2.mem ((c.tc : Thread Cert.GoutRefIdeal.nD Cert.GoutRefIdeal.τ).loc Cert.GoutRefIdeal.main_arg1) = m ((c.tc : Thread Cert.GoutRefIdeal.nD Cert.GoutRefIdeal.τ).loc Cert.GoutRefIdeal.main_arg1))
      ∧ r.2.sem = fun _ => 0)

def quiescent_Dq [hDq : Cert.Dq.Facts] : Prop :=
  ∀ (m : (ℓ : Loc Cert.Dq.nD Cert.Dq.τ Cert.Dq.sig) → Buf (Elt Bits) ℓ) (g : Dev Cert.Dq.nD → PrngReg), Pre_Dq m →
    θ_run (Cert.Dq.defs (F := Bits)) (onTc (τ := Cert.Dq.τ) (Cert.Dq.main (F := Bits))) ⟨m, fun _ => 0, g⟩ (fun r => (∀ c : Dev Cert.Dq.nD,
      r.2.mem ((c.tc : Thread Cert.Dq.nD Cert.Dq.τ).loc Cert.Dq.main_arg0) = m ((c.tc : Thread Cert.Dq.nD Cert.Dq.τ).loc Cert.Dq.main_arg0)
      ∧ r.2.mem ((c.tc : Thread Cert.Dq.nD Cert.Dq.τ).loc Cert.Dq.main_arg1) = m ((c.tc : Thread Cert.Dq.nD Cert.Dq.τ).loc Cert.Dq.main_arg1))
      ∧ r.2.sem = fun _ => 0)

def quiescent_DqIdeal [hDqIdeal : Cert.DqIdeal.Facts] : Prop :=
  ∀ (m : (ℓ : Loc Cert.DqIdeal.nD Cert.DqIdeal.τ Cert.DqIdeal.sig) → Buf (Elt Ideal) ℓ) (g : Dev Cert.DqIdeal.nD → PrngReg), Pre_DqIdeal m →
    θ_run (Cert.DqIdeal.defs (F := Ideal)) (onTc (τ := Cert.DqIdeal.τ) (Cert.DqIdeal.main (F := Ideal))) ⟨m, fun _ => 0, g⟩ (fun r => (∀ c : Dev Cert.DqIdeal.nD,
      r.2.mem ((c.tc : Thread Cert.DqIdeal.nD Cert.DqIdeal.τ).loc Cert.DqIdeal.main_arg0) = m ((c.tc : Thread Cert.DqIdeal.nD Cert.DqIdeal.τ).loc Cert.DqIdeal.main_arg0)
      ∧ r.2.mem ((c.tc : Thread Cert.DqIdeal.nD Cert.DqIdeal.τ).loc Cert.DqIdeal.main_arg1) = m ((c.tc : Thread Cert.DqIdeal.nD Cert.DqIdeal.τ).loc Cert.DqIdeal.main_arg1))
      ∧ r.2.sem = fun _ => 0)

def quiescent_DqRefIdeal [hDqRefIdeal : Cert.DqRefIdeal.Facts] : Prop :=
  ∀ (m : (ℓ : Loc Cert.DqRefIdeal.nD Cert.DqRefIdeal.τ Cert.DqRefIdeal.sig) → Buf (Elt Ideal) ℓ) (g : Dev Cert.DqRefIdeal.nD → PrngReg), Pre_DqRefIdeal m →
    θ_run (Cert.DqRefIdeal.defs (F := Ideal)) (onTc (τ := Cert.DqRefIdeal.τ) (Cert.DqRefIdeal.main (F := Ideal))) ⟨m, fun _ => 0, g⟩ (fun r => (∀ c : Dev Cert.DqRefIdeal.nD,
      r.2.mem ((c.tc : Thread Cert.DqRefIdeal.nD Cert.DqRefIdeal.τ).loc Cert.DqRefIdeal.main_arg0) = m ((c.tc : Thread Cert.DqRefIdeal.nD Cert.DqRefIdeal.τ).loc Cert.DqRefIdeal.main_arg0)
      ∧ r.2.mem ((c.tc : Thread Cert.DqRefIdeal.nD Cert.DqRefIdeal.τ).loc Cert.DqRefIdeal.main_arg1) = m ((c.tc : Thread Cert.DqRefIdeal.nD Cert.DqRefIdeal.τ).loc Cert.DqRefIdeal.main_arg1))
      ∧ r.2.sem = fun _ => 0)

def quiescent_Gq [hGq : Cert.Gq.Facts] : Prop :=
  ∀ (m : (ℓ : Loc Cert.Gq.nD Cert.Gq.τ Cert.Gq.sig) → Buf (Elt Bits) ℓ) (g : Dev Cert.Gq.nD → PrngReg), Pre_Gq m →
    θ_run (Cert.Gq.defs (F := Bits)) (onTc (τ := Cert.Gq.τ) (Cert.Gq.main (F := Bits))) ⟨m, fun _ => 0, g⟩ (fun r => (∀ c : Dev Cert.Gq.nD,
      r.2.mem ((c.tc : Thread Cert.Gq.nD Cert.Gq.τ).loc Cert.Gq.main_arg0) = m ((c.tc : Thread Cert.Gq.nD Cert.Gq.τ).loc Cert.Gq.main_arg0)
      ∧ r.2.mem ((c.tc : Thread Cert.Gq.nD Cert.Gq.τ).loc Cert.Gq.main_arg1) = m ((c.tc : Thread Cert.Gq.nD Cert.Gq.τ).loc Cert.Gq.main_arg1))
      ∧ r.2.sem = fun _ => 0)

def quiescent_GqIdeal [hGqIdeal : Cert.GqIdeal.Facts] : Prop :=
  ∀ (m : (ℓ : Loc Cert.GqIdeal.nD Cert.GqIdeal.τ Cert.GqIdeal.sig) → Buf (Elt Ideal) ℓ) (g : Dev Cert.GqIdeal.nD → PrngReg), Pre_GqIdeal m →
    θ_run (Cert.GqIdeal.defs (F := Ideal)) (onTc (τ := Cert.GqIdeal.τ) (Cert.GqIdeal.main (F := Ideal))) ⟨m, fun _ => 0, g⟩ (fun r => (∀ c : Dev Cert.GqIdeal.nD,
      r.2.mem ((c.tc : Thread Cert.GqIdeal.nD Cert.GqIdeal.τ).loc Cert.GqIdeal.main_arg0) = m ((c.tc : Thread Cert.GqIdeal.nD Cert.GqIdeal.τ).loc Cert.GqIdeal.main_arg0)
      ∧ r.2.mem ((c.tc : Thread Cert.GqIdeal.nD Cert.GqIdeal.τ).loc Cert.GqIdeal.main_arg1) = m ((c.tc : Thread Cert.GqIdeal.nD Cert.GqIdeal.τ).loc Cert.GqIdeal.main_arg1))
      ∧ r.2.sem = fun _ => 0)

def quiescent_GqRefIdeal [hGqRefIdeal : Cert.GqRefIdeal.Facts] : Prop :=
  ∀ (m : (ℓ : Loc Cert.GqRefIdeal.nD Cert.GqRefIdeal.τ Cert.GqRefIdeal.sig) → Buf (Elt Ideal) ℓ) (g : Dev Cert.GqRefIdeal.nD → PrngReg), Pre_GqRefIdeal m →
    θ_run (Cert.GqRefIdeal.defs (F := Ideal)) (onTc (τ := Cert.GqRefIdeal.τ) (Cert.GqRefIdeal.main (F := Ideal))) ⟨m, fun _ => 0, g⟩ (fun r => (∀ c : Dev Cert.GqRefIdeal.nD,
      r.2.mem ((c.tc : Thread Cert.GqRefIdeal.nD Cert.GqRefIdeal.τ).loc Cert.GqRefIdeal.main_arg0) = m ((c.tc : Thread Cert.GqRefIdeal.nD Cert.GqRefIdeal.τ).loc Cert.GqRefIdeal.main_arg0)
      ∧ r.2.mem ((c.tc : Thread Cert.GqRefIdeal.nD Cert.GqRefIdeal.τ).loc Cert.GqRefIdeal.main_arg1) = m ((c.tc : Thread Cert.GqRefIdeal.nD Cert.GqRefIdeal.τ).loc Cert.GqRefIdeal.main_arg1))
      ∧ r.2.sem = fun _ => 0)

def quiescent_Dkv [hDkv : Cert.Dkv.Facts] : Prop :=
  ∀ (m : (ℓ : Loc Cert.Dkv.nD Cert.Dkv.τ Cert.Dkv.sig) → Buf (Elt Bits) ℓ) (g : Dev Cert.Dkv.nD → PrngReg), Pre_Dkv m →
    θ_run (Cert.Dkv.defs (F := Bits)) (onTc (τ := Cert.Dkv.τ) (Cert.Dkv.main (F := Bits))) ⟨m, fun _ => 0, g⟩ (fun r => (∀ c : Dev Cert.Dkv.nD,
      r.2.mem ((c.tc : Thread Cert.Dkv.nD Cert.Dkv.τ).loc Cert.Dkv.main_arg0) = m ((c.tc : Thread Cert.Dkv.nD Cert.Dkv.τ).loc Cert.Dkv.main_arg0)
      ∧ r.2.mem ((c.tc : Thread Cert.Dkv.nD Cert.Dkv.τ).loc Cert.Dkv.main_arg1) = m ((c.tc : Thread Cert.Dkv.nD Cert.Dkv.τ).loc Cert.Dkv.main_arg1))
      ∧ r.2.sem = fun _ => 0)

def quiescent_DkvIdeal [hDkvIdeal : Cert.DkvIdeal.Facts] : Prop :=
  ∀ (m : (ℓ : Loc Cert.DkvIdeal.nD Cert.DkvIdeal.τ Cert.DkvIdeal.sig) → Buf (Elt Ideal) ℓ) (g : Dev Cert.DkvIdeal.nD → PrngReg), Pre_DkvIdeal m →
    θ_run (Cert.DkvIdeal.defs (F := Ideal)) (onTc (τ := Cert.DkvIdeal.τ) (Cert.DkvIdeal.main (F := Ideal))) ⟨m, fun _ => 0, g⟩ (fun r => (∀ c : Dev Cert.DkvIdeal.nD,
      r.2.mem ((c.tc : Thread Cert.DkvIdeal.nD Cert.DkvIdeal.τ).loc Cert.DkvIdeal.main_arg0) = m ((c.tc : Thread Cert.DkvIdeal.nD Cert.DkvIdeal.τ).loc Cert.DkvIdeal.main_arg0)
      ∧ r.2.mem ((c.tc : Thread Cert.DkvIdeal.nD Cert.DkvIdeal.τ).loc Cert.DkvIdeal.main_arg1) = m ((c.tc : Thread Cert.DkvIdeal.nD Cert.DkvIdeal.τ).loc Cert.DkvIdeal.main_arg1))
      ∧ r.2.sem = fun _ => 0)

def quiescent_DkvRefIdeal [hDkvRefIdeal : Cert.DkvRefIdeal.Facts] : Prop :=
  ∀ (m : (ℓ : Loc Cert.DkvRefIdeal.nD Cert.DkvRefIdeal.τ Cert.DkvRefIdeal.sig) → Buf (Elt Ideal) ℓ) (g : Dev Cert.DkvRefIdeal.nD → PrngReg), Pre_DkvRefIdeal m →
    θ_run (Cert.DkvRefIdeal.defs (F := Ideal)) (onTc (τ := Cert.DkvRefIdeal.τ) (Cert.DkvRefIdeal.main (F := Ideal))) ⟨m, fun _ => 0, g⟩ (fun r => (∀ c : Dev Cert.DkvRefIdeal.nD,
      r.2.mem ((c.tc : Thread Cert.DkvRefIdeal.nD Cert.DkvRefIdeal.τ).loc Cert.DkvRefIdeal.main_arg0) = m ((c.tc : Thread Cert.DkvRefIdeal.nD Cert.DkvRefIdeal.τ).loc Cert.DkvRefIdeal.main_arg0)
      ∧ r.2.mem ((c.tc : Thread Cert.DkvRefIdeal.nD Cert.DkvRefIdeal.τ).loc Cert.DkvRefIdeal.main_arg1) = m ((c.tc : Thread Cert.DkvRefIdeal.nD Cert.DkvRefIdeal.τ).loc Cert.DkvRefIdeal.main_arg1))
      ∧ r.2.sem = fun _ => 0)

def quiescent_Gkv [hGkv : Cert.Gkv.Facts] : Prop :=
  ∀ (m : (ℓ : Loc Cert.Gkv.nD Cert.Gkv.τ Cert.Gkv.sig) → Buf (Elt Bits) ℓ) (g : Dev Cert.Gkv.nD → PrngReg), Pre_Gkv m →
    θ_run (Cert.Gkv.defs (F := Bits)) (onTc (τ := Cert.Gkv.τ) (Cert.Gkv.main (F := Bits))) ⟨m, fun _ => 0, g⟩ (fun r => (∀ c : Dev Cert.Gkv.nD,
      r.2.mem ((c.tc : Thread Cert.Gkv.nD Cert.Gkv.τ).loc Cert.Gkv.main_arg0) = m ((c.tc : Thread Cert.Gkv.nD Cert.Gkv.τ).loc Cert.Gkv.main_arg0)
      ∧ r.2.mem ((c.tc : Thread Cert.Gkv.nD Cert.Gkv.τ).loc Cert.Gkv.main_arg1) = m ((c.tc : Thread Cert.Gkv.nD Cert.Gkv.τ).loc Cert.Gkv.main_arg1))
      ∧ r.2.sem = fun _ => 0)

def quiescent_GkvIdeal [hGkvIdeal : Cert.GkvIdeal.Facts] : Prop :=
  ∀ (m : (ℓ : Loc Cert.GkvIdeal.nD Cert.GkvIdeal.τ Cert.GkvIdeal.sig) → Buf (Elt Ideal) ℓ) (g : Dev Cert.GkvIdeal.nD → PrngReg), Pre_GkvIdeal m →
    θ_run (Cert.GkvIdeal.defs (F := Ideal)) (onTc (τ := Cert.GkvIdeal.τ) (Cert.GkvIdeal.main (F := Ideal))) ⟨m, fun _ => 0, g⟩ (fun r => (∀ c : Dev Cert.GkvIdeal.nD,
      r.2.mem ((c.tc : Thread Cert.GkvIdeal.nD Cert.GkvIdeal.τ).loc Cert.GkvIdeal.main_arg0) = m ((c.tc : Thread Cert.GkvIdeal.nD Cert.GkvIdeal.τ).loc Cert.GkvIdeal.main_arg0)
      ∧ r.2.mem ((c.tc : Thread Cert.GkvIdeal.nD Cert.GkvIdeal.τ).loc Cert.GkvIdeal.main_arg1) = m ((c.tc : Thread Cert.GkvIdeal.nD Cert.GkvIdeal.τ).loc Cert.GkvIdeal.main_arg1))
      ∧ r.2.sem = fun _ => 0)

def quiescent_GkvRefIdeal [hGkvRefIdeal : Cert.GkvRefIdeal.Facts] : Prop :=
  ∀ (m : (ℓ : Loc Cert.GkvRefIdeal.nD Cert.GkvRefIdeal.τ Cert.GkvRefIdeal.sig) → Buf (Elt Ideal) ℓ) (g : Dev Cert.GkvRefIdeal.nD → PrngReg), Pre_GkvRefIdeal m →
    θ_run (Cert.GkvRefIdeal.defs (F := Ideal)) (onTc (τ := Cert.GkvRefIdeal.τ) (Cert.GkvRefIdeal.main (F := Ideal))) ⟨m, fun _ => 0, g⟩ (fun r => (∀ c : Dev Cert.GkvRefIdeal.nD,
      r.2.mem ((c.tc : Thread Cert.GkvRefIdeal.nD Cert.GkvRefIdeal.τ).loc Cert.GkvRefIdeal.main_arg0) = m ((c.tc : Thread Cert.GkvRefIdeal.nD Cert.GkvRefIdeal.τ).loc Cert.GkvRefIdeal.main_arg0)
      ∧ r.2.mem ((c.tc : Thread Cert.GkvRefIdeal.nD Cert.GkvRefIdeal.τ).loc Cert.GkvRefIdeal.main_arg1) = m ((c.tc : Thread Cert.GkvRefIdeal.nD Cert.GkvRefIdeal.τ).loc Cert.GkvRefIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_Din [hDin : Cert.Din.Facts] : Prop :=
  ∀ (m : (ℓ : Loc Cert.Din.nD Cert.Din.τ Cert.Din.sig) → Buf (Elt Bits) ℓ) (g : Dev Cert.Din.nD → PrngReg), Pre_Din m →
    θ_run (Cert.Din.defs (F := Bits)) (onTc (τ := Cert.Din.τ) (Cert.Din.main (F := Bits))) ⟨m, fun _ => 0, g⟩ (fun r => (∀ c : Dev Cert.Din.nD,
      r.2.mem ((c.tc : Thread Cert.Din.nD Cert.Din.τ).loc Cert.Din.main_arg0) = m ((c.tc : Thread Cert.Din.nD Cert.Din.τ).loc Cert.Din.main_arg0)
      ∧ r.2.mem ((c.tc : Thread Cert.Din.nD Cert.Din.τ).loc Cert.Din.main_arg1) = m ((c.tc : Thread Cert.Din.nD Cert.Din.τ).loc Cert.Din.main_arg1))
      ∧ r.2.sem = fun _ => 0)

def quiescent_DinIdeal [hDinIdeal : Cert.DinIdeal.Facts] : Prop :=
  ∀ (m : (ℓ : Loc Cert.DinIdeal.nD Cert.DinIdeal.τ Cert.DinIdeal.sig) → Buf (Elt Ideal) ℓ) (g : Dev Cert.DinIdeal.nD → PrngReg), Pre_DinIdeal m →
    θ_run (Cert.DinIdeal.defs (F := Ideal)) (onTc (τ := Cert.DinIdeal.τ) (Cert.DinIdeal.main (F := Ideal))) ⟨m, fun _ => 0, g⟩ (fun r => (∀ c : Dev Cert.DinIdeal.nD,
      r.2.mem ((c.tc : Thread Cert.DinIdeal.nD Cert.DinIdeal.τ).loc Cert.DinIdeal.main_arg0) = m ((c.tc : Thread Cert.DinIdeal.nD Cert.DinIdeal.τ).loc Cert.DinIdeal.main_arg0)
      ∧ r.2.mem ((c.tc : Thread Cert.DinIdeal.nD Cert.DinIdeal.τ).loc Cert.DinIdeal.main_arg1) = m ((c.tc : Thread Cert.DinIdeal.nD Cert.DinIdeal.τ).loc Cert.DinIdeal.main_arg1))
      ∧ r.2.sem = fun _ => 0)

def quiescent_DinRefIdeal [hDinRefIdeal : Cert.DinRefIdeal.Facts] : Prop :=
  ∀ (m : (ℓ : Loc Cert.DinRefIdeal.nD Cert.DinRefIdeal.τ Cert.DinRefIdeal.sig) → Buf (Elt Ideal) ℓ) (g : Dev Cert.DinRefIdeal.nD → PrngReg), Pre_DinRefIdeal m →
    θ_run (Cert.DinRefIdeal.defs (F := Ideal)) (onTc (τ := Cert.DinRefIdeal.τ) (Cert.DinRefIdeal.main (F := Ideal))) ⟨m, fun _ => 0, g⟩ (fun r => (∀ c : Dev Cert.DinRefIdeal.nD,
      r.2.mem ((c.tc : Thread Cert.DinRefIdeal.nD Cert.DinRefIdeal.τ).loc Cert.DinRefIdeal.main_arg0) = m ((c.tc : Thread Cert.DinRefIdeal.nD Cert.DinRefIdeal.τ).loc Cert.DinRefIdeal.main_arg0)
      ∧ r.2.mem ((c.tc : Thread Cert.DinRefIdeal.nD Cert.DinRefIdeal.τ).loc Cert.DinRefIdeal.main_arg1) = m ((c.tc : Thread Cert.DinRefIdeal.nD Cert.DinRefIdeal.τ).loc Cert.DinRefIdeal.main_arg1))
      ∧ r.2.sem = fun _ => 0)

def quiescent_Gin [hGin : Cert.Gin.Facts] : Prop :=
  ∀ (m : (ℓ : Loc Cert.Gin.nD Cert.Gin.τ Cert.Gin.sig) → Buf (Elt Bits) ℓ) (g : Dev Cert.Gin.nD → PrngReg), Pre_Gin m →
    θ_run (Cert.Gin.defs (F := Bits)) (onTc (τ := Cert.Gin.τ) (Cert.Gin.main (F := Bits))) ⟨m, fun _ => 0, g⟩ (fun r => (∀ c : Dev Cert.Gin.nD,
      r.2.mem ((c.tc : Thread Cert.Gin.nD Cert.Gin.τ).loc Cert.Gin.main_arg0) = m ((c.tc : Thread Cert.Gin.nD Cert.Gin.τ).loc Cert.Gin.main_arg0)
      ∧ r.2.mem ((c.tc : Thread Cert.Gin.nD Cert.Gin.τ).loc Cert.Gin.main_arg1) = m ((c.tc : Thread Cert.Gin.nD Cert.Gin.τ).loc Cert.Gin.main_arg1))
      ∧ r.2.sem = fun _ => 0)

def quiescent_GinIdeal [hGinIdeal : Cert.GinIdeal.Facts] : Prop :=
  ∀ (m : (ℓ : Loc Cert.GinIdeal.nD Cert.GinIdeal.τ Cert.GinIdeal.sig) → Buf (Elt Ideal) ℓ) (g : Dev Cert.GinIdeal.nD → PrngReg), Pre_GinIdeal m →
    θ_run (Cert.GinIdeal.defs (F := Ideal)) (onTc (τ := Cert.GinIdeal.τ) (Cert.GinIdeal.main (F := Ideal))) ⟨m, fun _ => 0, g⟩ (fun r => (∀ c : Dev Cert.GinIdeal.nD,
      r.2.mem ((c.tc : Thread Cert.GinIdeal.nD Cert.GinIdeal.τ).loc Cert.GinIdeal.main_arg0) = m ((c.tc : Thread Cert.GinIdeal.nD Cert.GinIdeal.τ).loc Cert.GinIdeal.main_arg0)
      ∧ r.2.mem ((c.tc : Thread Cert.GinIdeal.nD Cert.GinIdeal.τ).loc Cert.GinIdeal.main_arg1) = m ((c.tc : Thread Cert.GinIdeal.nD Cert.GinIdeal.τ).loc Cert.GinIdeal.main_arg1))
      ∧ r.2.sem = fun _ => 0)

def quiescent_GinRefIdeal [hGinRefIdeal : Cert.GinRefIdeal.Facts] : Prop :=
  ∀ (m : (ℓ : Loc Cert.GinRefIdeal.nD Cert.GinRefIdeal.τ Cert.GinRefIdeal.sig) → Buf (Elt Ideal) ℓ) (g : Dev Cert.GinRefIdeal.nD → PrngReg), Pre_GinRefIdeal m →
    θ_run (Cert.GinRefIdeal.defs (F := Ideal)) (onTc (τ := Cert.GinRefIdeal.τ) (Cert.GinRefIdeal.main (F := Ideal))) ⟨m, fun _ => 0, g⟩ (fun r => (∀ c : Dev Cert.GinRefIdeal.nD,
      r.2.mem ((c.tc : Thread Cert.GinRefIdeal.nD Cert.GinRefIdeal.τ).loc Cert.GinRefIdeal.main_arg0) = m ((c.tc : Thread Cert.GinRefIdeal.nD Cert.GinRefIdeal.τ).loc Cert.GinRefIdeal.main_arg0)
      ∧ r.2.mem ((c.tc : Thread Cert.GinRefIdeal.nD Cert.GinRefIdeal.τ).loc Cert.GinRefIdeal.main_arg1) = m ((c.tc : Thread Cert.GinRefIdeal.nD Cert.GinRefIdeal.τ).loc Cert.GinRefIdeal.main_arg1))
      ∧ r.2.sem = fun _ => 0)

def quiescent_Ain [hAin : Cert.Ain.Facts] : Prop :=
  ∀ (m : (ℓ : Loc Cert.Ain.nD Cert.Ain.τ Cert.Ain.sig) → Buf (Elt Bits) ℓ) (g : Dev Cert.Ain.nD → PrngReg), Pre_Ain m →
    θ_run (Cert.Ain.defs (F := Bits)) (onTc (τ := Cert.Ain.τ) (Cert.Ain.main (F := Bits))) ⟨m, fun _ => 0, g⟩ (fun r => (∀ c : Dev Cert.Ain.nD,
      r.2.mem ((c.tc : Thread Cert.Ain.nD Cert.Ain.τ).loc Cert.Ain.main_arg0) = m ((c.tc : Thread Cert.Ain.nD Cert.Ain.τ).loc Cert.Ain.main_arg0)
      ∧ r.2.mem ((c.tc : Thread Cert.Ain.nD Cert.Ain.τ).loc Cert.Ain.main_arg1) = m ((c.tc : Thread Cert.Ain.nD Cert.Ain.τ).loc Cert.Ain.main_arg1))
      ∧ r.2.sem = fun _ => 0)

def quiescent_AinIdeal [hAinIdeal : Cert.AinIdeal.Facts] : Prop :=
  ∀ (m : (ℓ : Loc Cert.AinIdeal.nD Cert.AinIdeal.τ Cert.AinIdeal.sig) → Buf (Elt Ideal) ℓ) (g : Dev Cert.AinIdeal.nD → PrngReg), Pre_AinIdeal m →
    θ_run (Cert.AinIdeal.defs (F := Ideal)) (onTc (τ := Cert.AinIdeal.τ) (Cert.AinIdeal.main (F := Ideal))) ⟨m, fun _ => 0, g⟩ (fun r => (∀ c : Dev Cert.AinIdeal.nD,
      r.2.mem ((c.tc : Thread Cert.AinIdeal.nD Cert.AinIdeal.τ).loc Cert.AinIdeal.main_arg0) = m ((c.tc : Thread Cert.AinIdeal.nD Cert.AinIdeal.τ).loc Cert.AinIdeal.main_arg0)
      ∧ r.2.mem ((c.tc : Thread Cert.AinIdeal.nD Cert.AinIdeal.τ).loc Cert.AinIdeal.main_arg1) = m ((c.tc : Thread Cert.AinIdeal.nD Cert.AinIdeal.τ).loc Cert.AinIdeal.main_arg1))
      ∧ r.2.sem = fun _ => 0)

def quiescent_AinRefIdeal [hAinRefIdeal : Cert.AinRefIdeal.Facts] : Prop :=
  ∀ (m : (ℓ : Loc Cert.AinRefIdeal.nD Cert.AinRefIdeal.τ Cert.AinRefIdeal.sig) → Buf (Elt Ideal) ℓ) (g : Dev Cert.AinRefIdeal.nD → PrngReg), Pre_AinRefIdeal m →
    θ_run (Cert.AinRefIdeal.defs (F := Ideal)) (onTc (τ := Cert.AinRefIdeal.τ) (Cert.AinRefIdeal.main (F := Ideal))) ⟨m, fun _ => 0, g⟩ (fun r => (∀ c : Dev Cert.AinRefIdeal.nD,
      r.2.mem ((c.tc : Thread Cert.AinRefIdeal.nD Cert.AinRefIdeal.τ).loc Cert.AinRefIdeal.main_arg0) = m ((c.tc : Thread Cert.AinRefIdeal.nD Cert.AinRefIdeal.τ).loc Cert.AinRefIdeal.main_arg0)
      ∧ r.2.mem ((c.tc : Thread Cert.AinRefIdeal.nD Cert.AinRefIdeal.τ).loc Cert.AinRefIdeal.main_arg1) = m ((c.tc : Thread Cert.AinRefIdeal.nD Cert.AinRefIdeal.τ).loc Cert.AinRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_View0 [hView0 : Cert.View0.Facts] : Prop :=
  ∀ (m : (ℓ : Loc Cert.View0.nD Cert.View0.τ Cert.View0.sig) → Buf (Elt Bits) ℓ) (g : Dev Cert.View0.nD → PrngReg), Pre_View0 m →
    θ_run (Cert.View0.defs (F := Bits)) (onTc (τ := Cert.View0.τ) (Cert.View0.main (F := Bits))) ⟨m, fun _ => 0, g⟩ (fun r => (∀ c : Dev Cert.View0.nD,
      r.2.mem ((c.tc : Thread Cert.View0.nD Cert.View0.τ).loc Cert.View0.main_arg0) = m ((c.tc : Thread Cert.View0.nD Cert.View0.τ).loc Cert.View0.main_arg0)
      ∧ r.2.mem ((c.tc : Thread Cert.View0.nD Cert.View0.τ).loc Cert.View0.main_arg1) = m ((c.tc : Thread Cert.View0.nD Cert.View0.τ).loc Cert.View0.main_arg1))
      ∧ r.2.sem = fun _ => 0)

def quiescent_View0Ideal [hView0Ideal : Cert.View0Ideal.Facts] : Prop :=
  ∀ (m : (ℓ : Loc Cert.View0Ideal.nD Cert.View0Ideal.τ Cert.View0Ideal.sig) → Buf (Elt Ideal) ℓ) (g : Dev Cert.View0Ideal.nD → PrngReg), Pre_View0Ideal m →
    θ_run (Cert.View0Ideal.defs (F := Ideal)) (onTc (τ := Cert.View0Ideal.τ) (Cert.View0Ideal.main (F := Ideal))) ⟨m, fun _ => 0, g⟩ (fun r => (∀ c : Dev Cert.View0Ideal.nD,
      r.2.mem ((c.tc : Thread Cert.View0Ideal.nD Cert.View0Ideal.τ).loc Cert.View0Ideal.main_arg0) = m ((c.tc : Thread Cert.View0Ideal.nD Cert.View0Ideal.τ).loc Cert.View0Ideal.main_arg0)
      ∧ r.2.mem ((c.tc : Thread Cert.View0Ideal.nD Cert.View0Ideal.τ).loc Cert.View0Ideal.main_arg1) = m ((c.tc : Thread Cert.View0Ideal.nD Cert.View0Ideal.τ).loc Cert.View0Ideal.main_arg1))
      ∧ r.2.sem = fun _ => 0)

def quiescent_View0RefIdeal [hView0RefIdeal : Cert.View0RefIdeal.Facts] : Prop :=
  ∀ (m : (ℓ : Loc Cert.View0RefIdeal.nD Cert.View0RefIdeal.τ Cert.View0RefIdeal.sig) → Buf (Elt Ideal) ℓ) (g : Dev Cert.View0RefIdeal.nD → PrngReg), Pre_View0RefIdeal m →
    θ_run (Cert.View0RefIdeal.defs (F := Ideal)) (onTc (τ := Cert.View0RefIdeal.τ) (Cert.View0RefIdeal.main (F := Ideal))) ⟨m, fun _ => 0, g⟩ (fun r => (∀ c : Dev Cert.View0RefIdeal.nD,
      r.2.mem ((c.tc : Thread Cert.View0RefIdeal.nD Cert.View0RefIdeal.τ).loc Cert.View0RefIdeal.main_arg0) = m ((c.tc : Thread Cert.View0RefIdeal.nD Cert.View0RefIdeal.τ).loc Cert.View0RefIdeal.main_arg0)
      ∧ r.2.mem ((c.tc : Thread Cert.View0RefIdeal.nD Cert.View0RefIdeal.τ).loc Cert.View0RefIdeal.main_arg1) = m ((c.tc : Thread Cert.View0RefIdeal.nD Cert.View0RefIdeal.τ).loc Cert.View0RefIdeal.main_arg1))
      ∧ r.2.sem = fun _ => 0)

def quiescent_View1 [hView1 : Cert.View1.Facts] : Prop :=
  ∀ (m : (ℓ : Loc Cert.View1.nD Cert.View1.τ Cert.View1.sig) → Buf (Elt Bits) ℓ) (g : Dev Cert.View1.nD → PrngReg), Pre_View1 m →
    θ_run (Cert.View1.defs (F := Bits)) (onTc (τ := Cert.View1.τ) (Cert.View1.main (F := Bits))) ⟨m, fun _ => 0, g⟩ (fun r => (∀ c : Dev Cert.View1.nD,
      r.2.mem ((c.tc : Thread Cert.View1.nD Cert.View1.τ).loc Cert.View1.main_arg0) = m ((c.tc : Thread Cert.View1.nD Cert.View1.τ).loc Cert.View1.main_arg0)
      ∧ r.2.mem ((c.tc : Thread Cert.View1.nD Cert.View1.τ).loc Cert.View1.main_arg1) = m ((c.tc : Thread Cert.View1.nD Cert.View1.τ).loc Cert.View1.main_arg1))
      ∧ r.2.sem = fun _ => 0)

def quiescent_View1Ideal [hView1Ideal : Cert.View1Ideal.Facts] : Prop :=
  ∀ (m : (ℓ : Loc Cert.View1Ideal.nD Cert.View1Ideal.τ Cert.View1Ideal.sig) → Buf (Elt Ideal) ℓ) (g : Dev Cert.View1Ideal.nD → PrngReg), Pre_View1Ideal m →
    θ_run (Cert.View1Ideal.defs (F := Ideal)) (onTc (τ := Cert.View1Ideal.τ) (Cert.View1Ideal.main (F := Ideal))) ⟨m, fun _ => 0, g⟩ (fun r => (∀ c : Dev Cert.View1Ideal.nD,
      r.2.mem ((c.tc : Thread Cert.View1Ideal.nD Cert.View1Ideal.τ).loc Cert.View1Ideal.main_arg0) = m ((c.tc : Thread Cert.View1Ideal.nD Cert.View1Ideal.τ).loc Cert.View1Ideal.main_arg0)
      ∧ r.2.mem ((c.tc : Thread Cert.View1Ideal.nD Cert.View1Ideal.τ).loc Cert.View1Ideal.main_arg1) = m ((c.tc : Thread Cert.View1Ideal.nD Cert.View1Ideal.τ).loc Cert.View1Ideal.main_arg1))
      ∧ r.2.sem = fun _ => 0)

def quiescent_View1RefIdeal [hView1RefIdeal : Cert.View1RefIdeal.Facts] : Prop :=
  ∀ (m : (ℓ : Loc Cert.View1RefIdeal.nD Cert.View1RefIdeal.τ Cert.View1RefIdeal.sig) → Buf (Elt Ideal) ℓ) (g : Dev Cert.View1RefIdeal.nD → PrngReg), Pre_View1RefIdeal m →
    θ_run (Cert.View1RefIdeal.defs (F := Ideal)) (onTc (τ := Cert.View1RefIdeal.τ) (Cert.View1RefIdeal.main (F := Ideal))) ⟨m, fun _ => 0, g⟩ (fun r => (∀ c : Dev Cert.View1RefIdeal.nD,
      r.2.mem ((c.tc : Thread Cert.View1RefIdeal.nD Cert.View1RefIdeal.τ).loc Cert.View1RefIdeal.main_arg0) = m ((c.tc : Thread Cert.View1RefIdeal.nD Cert.View1RefIdeal.τ).loc Cert.View1RefIdeal.main_arg0)
      ∧ r.2.mem ((c.tc : Thread Cert.View1RefIdeal.nD Cert.View1RefIdeal.τ).loc Cert.View1RefIdeal.main_arg1) = m ((c.tc : Thread Cert.View1RefIdeal.nD Cert.View1RefIdeal.τ).loc Cert.View1RefIdeal.main_arg1))
      ∧ r.2.sem = fun _ => 0)

def quiescent_View2 [hView2 : Cert.View2.Facts] : Prop :=
  ∀ (m : (ℓ : Loc Cert.View2.nD Cert.View2.τ Cert.View2.sig) → Buf (Elt Bits) ℓ) (g : Dev Cert.View2.nD → PrngReg), Pre_View2 m →
    θ_run (Cert.View2.defs (F := Bits)) (onTc (τ := Cert.View2.τ) (Cert.View2.main (F := Bits))) ⟨m, fun _ => 0, g⟩ (fun r => (∀ c : Dev Cert.View2.nD,
      r.2.mem ((c.tc : Thread Cert.View2.nD Cert.View2.τ).loc Cert.View2.main_arg0) = m ((c.tc : Thread Cert.View2.nD Cert.View2.τ).loc Cert.View2.main_arg0)
      ∧ r.2.mem ((c.tc : Thread Cert.View2.nD Cert.View2.τ).loc Cert.View2.main_arg1) = m ((c.tc : Thread Cert.View2.nD Cert.View2.τ).loc Cert.View2.main_arg1))
      ∧ r.2.sem = fun _ => 0)

def quiescent_View2Ideal [hView2Ideal : Cert.View2Ideal.Facts] : Prop :=
  ∀ (m : (ℓ : Loc Cert.View2Ideal.nD Cert.View2Ideal.τ Cert.View2Ideal.sig) → Buf (Elt Ideal) ℓ) (g : Dev Cert.View2Ideal.nD → PrngReg), Pre_View2Ideal m →
    θ_run (Cert.View2Ideal.defs (F := Ideal)) (onTc (τ := Cert.View2Ideal.τ) (Cert.View2Ideal.main (F := Ideal))) ⟨m, fun _ => 0, g⟩ (fun r => (∀ c : Dev Cert.View2Ideal.nD,
      r.2.mem ((c.tc : Thread Cert.View2Ideal.nD Cert.View2Ideal.τ).loc Cert.View2Ideal.main_arg0) = m ((c.tc : Thread Cert.View2Ideal.nD Cert.View2Ideal.τ).loc Cert.View2Ideal.main_arg0)
      ∧ r.2.mem ((c.tc : Thread Cert.View2Ideal.nD Cert.View2Ideal.τ).loc Cert.View2Ideal.main_arg1) = m ((c.tc : Thread Cert.View2Ideal.nD Cert.View2Ideal.τ).loc Cert.View2Ideal.main_arg1))
      ∧ r.2.sem = fun _ => 0)

def quiescent_View2RefIdeal [hView2RefIdeal : Cert.View2RefIdeal.Facts] : Prop :=
  ∀ (m : (ℓ : Loc Cert.View2RefIdeal.nD Cert.View2RefIdeal.τ Cert.View2RefIdeal.sig) → Buf (Elt Ideal) ℓ) (g : Dev Cert.View2RefIdeal.nD → PrngReg), Pre_View2RefIdeal m →
    θ_run (Cert.View2RefIdeal.defs (F := Ideal)) (onTc (τ := Cert.View2RefIdeal.τ) (Cert.View2RefIdeal.main (F := Ideal))) ⟨m, fun _ => 0, g⟩ (fun r => (∀ c : Dev Cert.View2RefIdeal.nD,
      r.2.mem ((c.tc : Thread Cert.View2RefIdeal.nD Cert.View2RefIdeal.τ).loc Cert.View2RefIdeal.main_arg0) = m ((c.tc : Thread Cert.View2RefIdeal.nD Cert.View2RefIdeal.τ).loc Cert.View2RefIdeal.main_arg0)
      ∧ r.2.mem ((c.tc : Thread Cert.View2RefIdeal.nD Cert.View2RefIdeal.τ).loc Cert.View2RefIdeal.main_arg1) = m ((c.tc : Thread Cert.View2RefIdeal.nD Cert.View2RefIdeal.τ).loc Cert.View2RefIdeal.main_arg1))
      ∧ r.2.sem = fun _ => 0)

def quiescent_UpAct [hUpAct : Cert.UpAct.Facts] : Prop :=
  ∀ (m : (ℓ : Loc Cert.UpAct.nD Cert.UpAct.τ Cert.UpAct.sig) → Buf (Elt Bits) ℓ) (g : Dev Cert.UpAct.nD → PrngReg), Pre_UpAct m →
    θ_run (Cert.UpAct.defs (F := Bits)) (onTc (τ := Cert.UpAct.τ) (Cert.UpAct.main (F := Bits))) ⟨m, fun _ => 0, g⟩ (fun r => (∀ c : Dev Cert.UpAct.nD,
      r.2.mem ((c.tc : Thread Cert.UpAct.nD Cert.UpAct.τ).loc Cert.UpAct.main_arg0) = m ((c.tc : Thread Cert.UpAct.nD Cert.UpAct.τ).loc Cert.UpAct.main_arg0)
      ∧ r.2.mem ((c.tc : Thread Cert.UpAct.nD Cert.UpAct.τ).loc Cert.UpAct.main_arg1) = m ((c.tc : Thread Cert.UpAct.nD Cert.UpAct.τ).loc Cert.UpAct.main_arg1)
      ∧ r.2.mem ((c.tc : Thread Cert.UpAct.nD Cert.UpAct.τ).loc Cert.UpAct.main_arg2) = m ((c.tc : Thread Cert.UpAct.nD Cert.UpAct.τ).loc Cert.UpAct.main_arg2)
      ∧ r.2.mem ((c.tc : Thread Cert.UpAct.nD Cert.UpAct.τ).loc Cert.UpAct.main_arg3) = m ((c.tc : Thread Cert.UpAct.nD Cert.UpAct.τ).loc Cert.UpAct.main_arg3))
      ∧ r.2.sem = fun _ => 0)

def quiescent_UpActIdeal [hUpActIdeal : Cert.UpActIdeal.Facts] : Prop :=
  ∀ (m : (ℓ : Loc Cert.UpActIdeal.nD Cert.UpActIdeal.τ Cert.UpActIdeal.sig) → Buf (Elt Ideal) ℓ) (g : Dev Cert.UpActIdeal.nD → PrngReg), Pre_UpActIdeal m →
    θ_run (Cert.UpActIdeal.defs (F := Ideal)) (onTc (τ := Cert.UpActIdeal.τ) (Cert.UpActIdeal.main (F := Ideal))) ⟨m, fun _ => 0, g⟩ (fun r => (∀ c : Dev Cert.UpActIdeal.nD,
      r.2.mem ((c.tc : Thread Cert.UpActIdeal.nD Cert.UpActIdeal.τ).loc Cert.UpActIdeal.main_arg0) = m ((c.tc : Thread Cert.UpActIdeal.nD Cert.UpActIdeal.τ).loc Cert.UpActIdeal.main_arg0)
      ∧ r.2.mem ((c.tc : Thread Cert.UpActIdeal.nD Cert.UpActIdeal.τ).loc Cert.UpActIdeal.main_arg1) = m ((c.tc : Thread Cert.UpActIdeal.nD Cert.UpActIdeal.τ).loc Cert.UpActIdeal.main_arg1)
      ∧ r.2.mem ((c.tc : Thread Cert.UpActIdeal.nD Cert.UpActIdeal.τ).loc Cert.UpActIdeal.main_arg2) = m ((c.tc : Thread Cert.UpActIdeal.nD Cert.UpActIdeal.τ).loc Cert.UpActIdeal.main_arg2)
      ∧ r.2.mem ((c.tc : Thread Cert.UpActIdeal.nD Cert.UpActIdeal.τ).loc Cert.UpActIdeal.main_arg3) = m ((c.tc : Thread Cert.UpActIdeal.nD Cert.UpActIdeal.τ).loc Cert.UpActIdeal.main_arg3))
      ∧ r.2.sem = fun _ => 0)

def quiescent_UpActRefIdeal [hUpActRefIdeal : Cert.UpActRefIdeal.Facts] : Prop :=
  ∀ (m : (ℓ : Loc Cert.UpActRefIdeal.nD Cert.UpActRefIdeal.τ Cert.UpActRefIdeal.sig) → Buf (Elt Ideal) ℓ) (g : Dev Cert.UpActRefIdeal.nD → PrngReg), Pre_UpActRefIdeal m →
    θ_run (Cert.UpActRefIdeal.defs (F := Ideal)) (onTc (τ := Cert.UpActRefIdeal.τ) (Cert.UpActRefIdeal.main (F := Ideal))) ⟨m, fun _ => 0, g⟩ (fun r => (∀ c : Dev Cert.UpActRefIdeal.nD,
      r.2.mem ((c.tc : Thread Cert.UpActRefIdeal.nD Cert.UpActRefIdeal.τ).loc Cert.UpActRefIdeal.main_arg0) = m ((c.tc : Thread Cert.UpActRefIdeal.nD Cert.UpActRefIdeal.τ).loc Cert.UpActRefIdeal.main_arg0)
      ∧ r.2.mem ((c.tc : Thread Cert.UpActRefIdeal.nD Cert.UpActRefIdeal.τ).loc Cert.UpActRefIdeal.main_arg1) = m ((c.tc : Thread Cert.UpActRefIdeal.nD Cert.UpActRefIdeal.τ).loc Cert.UpActRefIdeal.main_arg1)
      ∧ r.2.mem ((c.tc : Thread Cert.UpActRefIdeal.nD Cert.UpActRefIdeal.τ).loc Cert.UpActRefIdeal.main_arg2) = m ((c.tc : Thread Cert.UpActRefIdeal.nD Cert.UpActRefIdeal.τ).loc Cert.UpActRefIdeal.main_arg2)
      ∧ r.2.mem ((c.tc : Thread Cert.UpActRefIdeal.nD Cert.UpActRefIdeal.τ).loc Cert.UpActRefIdeal.main_arg3) = m ((c.tc : Thread Cert.UpActRefIdeal.nD Cert.UpActRefIdeal.τ).loc Cert.UpActRefIdeal.main_arg3))
      ∧ r.2.sem = fun _ => 0)

def quiescent_Dnorm [hDnorm : Cert.Dnorm.Facts] : Prop :=
  ∀ (m : (ℓ : Loc Cert.Dnorm.nD Cert.Dnorm.τ Cert.Dnorm.sig) → Buf (Elt Bits) ℓ) (g : Dev Cert.Dnorm.nD → PrngReg), Pre_Dnorm m →
    θ_run (Cert.Dnorm.defs (F := Bits)) (onTc (τ := Cert.Dnorm.τ) (Cert.Dnorm.main (F := Bits))) ⟨m, fun _ => 0, g⟩ (fun r => (∀ c : Dev Cert.Dnorm.nD,
      r.2.mem ((c.tc : Thread Cert.Dnorm.nD Cert.Dnorm.τ).loc Cert.Dnorm.main_arg0) = m ((c.tc : Thread Cert.Dnorm.nD Cert.Dnorm.τ).loc Cert.Dnorm.main_arg0)
      ∧ r.2.mem ((c.tc : Thread Cert.Dnorm.nD Cert.Dnorm.τ).loc Cert.Dnorm.main_arg1) = m ((c.tc : Thread Cert.Dnorm.nD Cert.Dnorm.τ).loc Cert.Dnorm.main_arg1)
      ∧ r.2.mem ((c.tc : Thread Cert.Dnorm.nD Cert.Dnorm.τ).loc Cert.Dnorm.main_arg2) = m ((c.tc : Thread Cert.Dnorm.nD Cert.Dnorm.τ).loc Cert.Dnorm.main_arg2)
      ∧ r.2.mem ((c.tc : Thread Cert.Dnorm.nD Cert.Dnorm.τ).loc Cert.Dnorm.main_arg3) = m ((c.tc : Thread Cert.Dnorm.nD Cert.Dnorm.τ).loc Cert.Dnorm.main_arg3))
      ∧ r.2.sem = fun _ => 0)

def quiescent_DnormIdeal [hDnormIdeal : Cert.DnormIdeal.Facts] : Prop :=
  ∀ (m : (ℓ : Loc Cert.DnormIdeal.nD Cert.DnormIdeal.τ Cert.DnormIdeal.sig) → Buf (Elt Ideal) ℓ) (g : Dev Cert.DnormIdeal.nD → PrngReg), Pre_DnormIdeal m →
    θ_run (Cert.DnormIdeal.defs (F := Ideal)) (onTc (τ := Cert.DnormIdeal.τ) (Cert.DnormIdeal.main (F := Ideal))) ⟨m, fun _ => 0, g⟩ (fun r => (∀ c : Dev Cert.DnormIdeal.nD,
      r.2.mem ((c.tc : Thread Cert.DnormIdeal.nD Cert.DnormIdeal.τ).loc Cert.DnormIdeal.main_arg0) = m ((c.tc : Thread Cert.DnormIdeal.nD Cert.DnormIdeal.τ).loc Cert.DnormIdeal.main_arg0)
      ∧ r.2.mem ((c.tc : Thread Cert.DnormIdeal.nD Cert.DnormIdeal.τ).loc Cert.DnormIdeal.main_arg1) = m ((c.tc : Thread Cert.DnormIdeal.nD Cert.DnormIdeal.τ).loc Cert.DnormIdeal.main_arg1)
      ∧ r.2.mem ((c.tc : Thread Cert.DnormIdeal.nD Cert.DnormIdeal.τ).loc Cert.DnormIdeal.main_arg2) = m ((c.tc : Thread Cert.DnormIdeal.nD Cert.DnormIdeal.τ).loc Cert.DnormIdeal.main_arg2)
      ∧ r.2.mem ((c.tc : Thread Cert.DnormIdeal.nD Cert.DnormIdeal.τ).loc Cert.DnormIdeal.main_arg3) = m ((c.tc : Thread Cert.DnormIdeal.nD Cert.DnormIdeal.τ).loc Cert.DnormIdeal.main_arg3))
      ∧ r.2.sem = fun _ => 0)

def quiescent_DnormRefIdeal [hDnormRefIdeal : Cert.DnormRefIdeal.Facts] : Prop :=
  ∀ (m : (ℓ : Loc Cert.DnormRefIdeal.nD Cert.DnormRefIdeal.τ Cert.DnormRefIdeal.sig) → Buf (Elt Ideal) ℓ) (g : Dev Cert.DnormRefIdeal.nD → PrngReg), Pre_DnormRefIdeal m →
    θ_run (Cert.DnormRefIdeal.defs (F := Ideal)) (onTc (τ := Cert.DnormRefIdeal.τ) (Cert.DnormRefIdeal.main (F := Ideal))) ⟨m, fun _ => 0, g⟩ (fun r => (∀ c : Dev Cert.DnormRefIdeal.nD,
      r.2.mem ((c.tc : Thread Cert.DnormRefIdeal.nD Cert.DnormRefIdeal.τ).loc Cert.DnormRefIdeal.main_arg0) = m ((c.tc : Thread Cert.DnormRefIdeal.nD Cert.DnormRefIdeal.τ).loc Cert.DnormRefIdeal.main_arg0)
      ∧ r.2.mem ((c.tc : Thread Cert.DnormRefIdeal.nD Cert.DnormRefIdeal.τ).loc Cert.DnormRefIdeal.main_arg1) = m ((c.tc : Thread Cert.DnormRefIdeal.nD Cert.DnormRefIdeal.τ).loc Cert.DnormRefIdeal.main_arg1)
      ∧ r.2.mem ((c.tc : Thread Cert.DnormRefIdeal.nD Cert.DnormRefIdeal.τ).loc Cert.DnormRefIdeal.main_arg2) = m ((c.tc : Thread Cert.DnormRefIdeal.nD Cert.DnormRefIdeal.τ).loc Cert.DnormRefIdeal.main_arg2)
      ∧ r.2.mem ((c.tc : Thread Cert.DnormRefIdeal.nD Cert.DnormRefIdeal.τ).loc Cert.DnormRefIdeal.main_arg3) = m ((c.tc : Thread Cert.DnormRefIdeal.nD Cert.DnormRefIdeal.τ).loc Cert.DnormRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ r.2.sem = fun _ => 0)

def quiescent_AdamKvRefIdeal [hAdamKvRefIdeal : Cert.AdamKvRefIdeal.Facts] : Prop :=
  ∀ (m : (ℓ : Loc Cert.AdamKvRefIdeal.nD Cert.AdamKvRefIdeal.τ Cert.AdamKvRefIdeal.sig) → Buf (Elt Ideal) ℓ) (g : Dev Cert.AdamKvRefIdeal.nD → PrngReg), Pre_AdamKvRefIdeal m →
    θ_run (Cert.AdamKvRefIdeal.defs (F := Ideal)) (onTc (τ := Cert.AdamKvRefIdeal.τ) (Cert.AdamKvRefIdeal.main (F := Ideal))) ⟨m, fun _ => 0, g⟩ (fun r => (∀ c : Dev Cert.AdamKvRefIdeal.nD,
      r.2.mem ((c.tc : Thread Cert.AdamKvRefIdeal.nD Cert.AdamKvRefIdeal.τ).loc Cert.AdamKvRefIdeal.main_arg0) = m ((c.tc : Thread Cert.AdamKvRefIdeal.nD Cert.AdamKvRefIdeal.τ).loc Cert.AdamKvRefIdeal.main_arg0)
      ∧ r.2.mem ((c.tc : Thread Cert.AdamKvRefIdeal.nD Cert.AdamKvRefIdeal.τ).loc Cert.AdamKvRefIdeal.main_arg1) = m ((c.tc : Thread Cert.AdamKvRefIdeal.nD Cert.AdamKvRefIdeal.τ).loc Cert.AdamKvRefIdeal.main_arg1)
      ∧ r.2.mem ((c.tc : Thread Cert.AdamKvRefIdeal.nD Cert.AdamKvRefIdeal.τ).loc Cert.AdamKvRefIdeal.main_arg2) = m ((c.tc : Thread Cert.AdamKvRefIdeal.nD Cert.AdamKvRefIdeal.τ).loc Cert.AdamKvRefIdeal.main_arg2)
      ∧ r.2.mem ((c.tc : Thread Cert.AdamKvRefIdeal.nD Cert.AdamKvRefIdeal.τ).loc Cert.AdamKvRefIdeal.main_arg3) = m ((c.tc : Thread Cert.AdamKvRefIdeal.nD Cert.AdamKvRefIdeal.τ).loc Cert.AdamKvRefIdeal.main_arg3))
      ∧ r.2.sem = fun _ => 0)

def quiescent_AdamQ [hAdamQ : Cert.AdamQ.Facts] : Prop :=
  ∀ (m : (ℓ : Loc Cert.AdamQ.nD Cert.AdamQ.τ Cert.AdamQ.sig) → Buf (Elt Bits) ℓ) (g : Dev Cert.AdamQ.nD → PrngReg), Pre_AdamQ m →
    θ_run (Cert.AdamQ.defs (F := Bits)) (onTc (τ := Cert.AdamQ.τ) (Cert.AdamQ.main (F := Bits))) ⟨m, fun _ => 0, g⟩ (fun r => (∀ c : Dev Cert.AdamQ.nD,
      r.2.mem ((c.tc : Thread Cert.AdamQ.nD Cert.AdamQ.τ).loc Cert.AdamQ.main_arg0) = m ((c.tc : Thread Cert.AdamQ.nD Cert.AdamQ.τ).loc Cert.AdamQ.main_arg0)
      ∧ r.2.mem ((c.tc : Thread Cert.AdamQ.nD Cert.AdamQ.τ).loc Cert.AdamQ.main_arg1) = m ((c.tc : Thread Cert.AdamQ.nD Cert.AdamQ.τ).loc Cert.AdamQ.main_arg1)
      ∧ r.2.mem ((c.tc : Thread Cert.AdamQ.nD Cert.AdamQ.τ).loc Cert.AdamQ.main_arg2) = m ((c.tc : Thread Cert.AdamQ.nD Cert.AdamQ.τ).loc Cert.AdamQ.main_arg2)
      ∧ r.2.mem ((c.tc : Thread Cert.AdamQ.nD Cert.AdamQ.τ).loc Cert.AdamQ.main_arg3) = m ((c.tc : Thread Cert.AdamQ.nD Cert.AdamQ.τ).loc Cert.AdamQ.main_arg3))
      ∧ r.2.sem = fun _ => 0)

def quiescent_AdamQIdeal [hAdamQIdeal : Cert.AdamQIdeal.Facts] : Prop :=
  ∀ (m : (ℓ : Loc Cert.AdamQIdeal.nD Cert.AdamQIdeal.τ Cert.AdamQIdeal.sig) → Buf (Elt Ideal) ℓ) (g : Dev Cert.AdamQIdeal.nD → PrngReg), Pre_AdamQIdeal m →
    θ_run (Cert.AdamQIdeal.defs (F := Ideal)) (onTc (τ := Cert.AdamQIdeal.τ) (Cert.AdamQIdeal.main (F := Ideal))) ⟨m, fun _ => 0, g⟩ (fun r => (∀ c : Dev Cert.AdamQIdeal.nD,
      r.2.mem ((c.tc : Thread Cert.AdamQIdeal.nD Cert.AdamQIdeal.τ).loc Cert.AdamQIdeal.main_arg0) = m ((c.tc : Thread Cert.AdamQIdeal.nD Cert.AdamQIdeal.τ).loc Cert.AdamQIdeal.main_arg0)
      ∧ r.2.mem ((c.tc : Thread Cert.AdamQIdeal.nD Cert.AdamQIdeal.τ).loc Cert.AdamQIdeal.main_arg1) = m ((c.tc : Thread Cert.AdamQIdeal.nD Cert.AdamQIdeal.τ).loc Cert.AdamQIdeal.main_arg1)
      ∧ r.2.mem ((c.tc : Thread Cert.AdamQIdeal.nD Cert.AdamQIdeal.τ).loc Cert.AdamQIdeal.main_arg2) = m ((c.tc : Thread Cert.AdamQIdeal.nD Cert.AdamQIdeal.τ).loc Cert.AdamQIdeal.main_arg2)
      ∧ r.2.mem ((c.tc : Thread Cert.AdamQIdeal.nD Cert.AdamQIdeal.τ).loc Cert.AdamQIdeal.main_arg3) = m ((c.tc : Thread Cert.AdamQIdeal.nD Cert.AdamQIdeal.τ).loc Cert.AdamQIdeal.main_arg3))
      ∧ r.2.sem = fun _ => 0)

def quiescent_AdamQRefIdeal [hAdamQRefIdeal : Cert.AdamQRefIdeal.Facts] : Prop :=
  ∀ (m : (ℓ : Loc Cert.AdamQRefIdeal.nD Cert.AdamQRefIdeal.τ Cert.AdamQRefIdeal.sig) → Buf (Elt Ideal) ℓ) (g : Dev Cert.AdamQRefIdeal.nD → PrngReg), Pre_AdamQRefIdeal m →
    θ_run (Cert.AdamQRefIdeal.defs (F := Ideal)) (onTc (τ := Cert.AdamQRefIdeal.τ) (Cert.AdamQRefIdeal.main (F := Ideal))) ⟨m, fun _ => 0, g⟩ (fun r => (∀ c : Dev Cert.AdamQRefIdeal.nD,
      r.2.mem ((c.tc : Thread Cert.AdamQRefIdeal.nD Cert.AdamQRefIdeal.τ).loc Cert.AdamQRefIdeal.main_arg0) = m ((c.tc : Thread Cert.AdamQRefIdeal.nD Cert.AdamQRefIdeal.τ).loc Cert.AdamQRefIdeal.main_arg0)
      ∧ r.2.mem ((c.tc : Thread Cert.AdamQRefIdeal.nD Cert.AdamQRefIdeal.τ).loc Cert.AdamQRefIdeal.main_arg1) = m ((c.tc : Thread Cert.AdamQRefIdeal.nD Cert.AdamQRefIdeal.τ).loc Cert.AdamQRefIdeal.main_arg1)
      ∧ r.2.mem ((c.tc : Thread Cert.AdamQRefIdeal.nD Cert.AdamQRefIdeal.τ).loc Cert.AdamQRefIdeal.main_arg2) = m ((c.tc : Thread Cert.AdamQRefIdeal.nD Cert.AdamQRefIdeal.τ).loc Cert.AdamQRefIdeal.main_arg2)
      ∧ r.2.mem ((c.tc : Thread Cert.AdamQRefIdeal.nD Cert.AdamQRefIdeal.τ).loc Cert.AdamQRefIdeal.main_arg3) = m ((c.tc : Thread Cert.AdamQRefIdeal.nD Cert.AdamQRefIdeal.τ).loc Cert.AdamQRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamGain [hAdamGain : Cert.AdamGain.Facts] : Prop :=
  ∀ (m : (ℓ : Loc Cert.AdamGain.nD Cert.AdamGain.τ Cert.AdamGain.sig) → Buf (Elt Bits) ℓ) (g : Dev Cert.AdamGain.nD → PrngReg), Pre_AdamGain m →
    θ_run (Cert.AdamGain.defs (F := Bits)) (onTc (τ := Cert.AdamGain.τ) (Cert.AdamGain.main (F := Bits))) ⟨m, fun _ => 0, g⟩ (fun r => (∀ c : Dev Cert.AdamGain.nD,
      r.2.mem ((c.tc : Thread Cert.AdamGain.nD Cert.AdamGain.τ).loc Cert.AdamGain.main_arg0) = m ((c.tc : Thread Cert.AdamGain.nD Cert.AdamGain.τ).loc Cert.AdamGain.main_arg0)
      ∧ r.2.mem ((c.tc : Thread Cert.AdamGain.nD Cert.AdamGain.τ).loc Cert.AdamGain.main_arg1) = m ((c.tc : Thread Cert.AdamGain.nD Cert.AdamGain.τ).loc Cert.AdamGain.main_arg1)
      ∧ r.2.mem ((c.tc : Thread Cert.AdamGain.nD Cert.AdamGain.τ).loc Cert.AdamGain.main_arg2) = m ((c.tc : Thread Cert.AdamGain.nD Cert.AdamGain.τ).loc Cert.AdamGain.main_arg2)
      ∧ r.2.mem ((c.tc : Thread Cert.AdamGain.nD Cert.AdamGain.τ).loc Cert.AdamGain.main_arg3) = m ((c.tc : Thread Cert.AdamGain.nD Cert.AdamGain.τ).loc Cert.AdamGain.main_arg3))
      ∧ r.2.sem = fun _ => 0)

def quiescent_AdamGainIdeal [hAdamGainIdeal : Cert.AdamGainIdeal.Facts] : Prop :=
  ∀ (m : (ℓ : Loc Cert.AdamGainIdeal.nD Cert.AdamGainIdeal.τ Cert.AdamGainIdeal.sig) → Buf (Elt Ideal) ℓ) (g : Dev Cert.AdamGainIdeal.nD → PrngReg), Pre_AdamGainIdeal m →
    θ_run (Cert.AdamGainIdeal.defs (F := Ideal)) (onTc (τ := Cert.AdamGainIdeal.τ) (Cert.AdamGainIdeal.main (F := Ideal))) ⟨m, fun _ => 0, g⟩ (fun r => (∀ c : Dev Cert.AdamGainIdeal.nD,
      r.2.mem ((c.tc : Thread Cert.AdamGainIdeal.nD Cert.AdamGainIdeal.τ).loc Cert.AdamGainIdeal.main_arg0) = m ((c.tc : Thread Cert.AdamGainIdeal.nD Cert.AdamGainIdeal.τ).loc Cert.AdamGainIdeal.main_arg0)
      ∧ r.2.mem ((c.tc : Thread Cert.AdamGainIdeal.nD Cert.AdamGainIdeal.τ).loc Cert.AdamGainIdeal.main_arg1) = m ((c.tc : Thread Cert.AdamGainIdeal.nD Cert.AdamGainIdeal.τ).loc Cert.AdamGainIdeal.main_arg1)
      ∧ r.2.mem ((c.tc : Thread Cert.AdamGainIdeal.nD Cert.AdamGainIdeal.τ).loc Cert.AdamGainIdeal.main_arg2) = m ((c.tc : Thread Cert.AdamGainIdeal.nD Cert.AdamGainIdeal.τ).loc Cert.AdamGainIdeal.main_arg2)
      ∧ r.2.mem ((c.tc : Thread Cert.AdamGainIdeal.nD Cert.AdamGainIdeal.τ).loc Cert.AdamGainIdeal.main_arg3) = m ((c.tc : Thread Cert.AdamGainIdeal.nD Cert.AdamGainIdeal.τ).loc Cert.AdamGainIdeal.main_arg3))
      ∧ r.2.sem = fun _ => 0)

def quiescent_AdamGainRefIdeal [hAdamGainRefIdeal : Cert.AdamGainRefIdeal.Facts] : Prop :=
  ∀ (m : (ℓ : Loc Cert.AdamGainRefIdeal.nD Cert.AdamGainRefIdeal.τ Cert.AdamGainRefIdeal.sig) → Buf (Elt Ideal) ℓ) (g : Dev Cert.AdamGainRefIdeal.nD → PrngReg), Pre_AdamGainRefIdeal m →
    θ_run (Cert.AdamGainRefIdeal.defs (F := Ideal)) (onTc (τ := Cert.AdamGainRefIdeal.τ) (Cert.AdamGainRefIdeal.main (F := Ideal))) ⟨m, fun _ => 0, g⟩ (fun r => (∀ c : Dev Cert.AdamGainRefIdeal.nD,
      r.2.mem ((c.tc : Thread Cert.AdamGainRefIdeal.nD Cert.AdamGainRefIdeal.τ).loc Cert.AdamGainRefIdeal.main_arg0) = m ((c.tc : Thread Cert.AdamGainRefIdeal.nD Cert.AdamGainRefIdeal.τ).loc Cert.AdamGainRefIdeal.main_arg0)
      ∧ r.2.mem ((c.tc : Thread Cert.AdamGainRefIdeal.nD Cert.AdamGainRefIdeal.τ).loc Cert.AdamGainRefIdeal.main_arg1) = m ((c.tc : Thread Cert.AdamGainRefIdeal.nD Cert.AdamGainRefIdeal.τ).loc Cert.AdamGainRefIdeal.main_arg1)
      ∧ r.2.mem ((c.tc : Thread Cert.AdamGainRefIdeal.nD Cert.AdamGainRefIdeal.τ).loc Cert.AdamGainRefIdeal.main_arg2) = m ((c.tc : Thread Cert.AdamGainRefIdeal.nD Cert.AdamGainRefIdeal.τ).loc Cert.AdamGainRefIdeal.main_arg2)
      ∧ r.2.mem ((c.tc : Thread Cert.AdamGainRefIdeal.nD Cert.AdamGainRefIdeal.τ).loc Cert.AdamGainRefIdeal.main_arg3) = m ((c.tc : Thread Cert.AdamGainRefIdeal.nD Cert.AdamGainRefIdeal.τ).loc Cert.AdamGainRefIdeal.main_arg3))
      ∧ r.2.sem = fun _ => 0)

def quiescent_AdamGains [hAdamGains : Cert.AdamGains.Facts] : Prop :=
  ∀ (m : (ℓ : Loc Cert.AdamGains.nD Cert.AdamGains.τ Cert.AdamGains.sig) → Buf (Elt Bits) ℓ) (g : Dev Cert.AdamGains.nD → PrngReg), Pre_AdamGains m →
    θ_run (Cert.AdamGains.defs (F := Bits)) (onTc (τ := Cert.AdamGains.τ) (Cert.AdamGains.main (F := Bits))) ⟨m, fun _ => 0, g⟩ (fun r => (∀ c : Dev Cert.AdamGains.nD,
      r.2.mem ((c.tc : Thread Cert.AdamGains.nD Cert.AdamGains.τ).loc Cert.AdamGains.main_arg0) = m ((c.tc : Thread Cert.AdamGains.nD Cert.AdamGains.τ).loc Cert.AdamGains.main_arg0)
      ∧ r.2.mem ((c.tc : Thread Cert.AdamGains.nD Cert.AdamGains.τ).loc Cert.AdamGains.main_arg1) = m ((c.tc : Thread Cert.AdamGains.nD Cert.AdamGains.τ).loc Cert.AdamGains.main_arg1)
      ∧ r.2.mem ((c.tc : Thread Cert.AdamGains.nD Cert.AdamGains.τ).loc Cert.AdamGains.main_arg2) = m ((c.tc : Thread Cert.AdamGains.nD Cert.AdamGains.τ).loc Cert.AdamGains.main_arg2)
      ∧ r.2.mem ((c.tc : Thread Cert.AdamGains.nD Cert.AdamGains.τ).loc Cert.AdamGains.main_arg3) = m ((c.tc : Thread Cert.AdamGains.nD Cert.AdamGains.τ).loc Cert.AdamGains.main_arg3))
      ∧ r.2.sem = fun _ => 0)

def quiescent_AdamGainsIdeal [hAdamGainsIdeal : Cert.AdamGainsIdeal.Facts] : Prop :=
  ∀ (m : (ℓ : Loc Cert.AdamGainsIdeal.nD Cert.AdamGainsIdeal.τ Cert.AdamGainsIdeal.sig) → Buf (Elt Ideal) ℓ) (g : Dev Cert.AdamGainsIdeal.nD → PrngReg), Pre_AdamGainsIdeal m →
    θ_run (Cert.AdamGainsIdeal.defs (F := Ideal)) (onTc (τ := Cert.AdamGainsIdeal.τ) (Cert.AdamGainsIdeal.main (F := Ideal))) ⟨m, fun _ => 0, g⟩ (fun r => (∀ c : Dev Cert.AdamGainsIdeal.nD,
      r.2.mem ((c.tc : Thread Cert.AdamGainsIdeal.nD Cert.AdamGainsIdeal.τ).loc Cert.AdamGainsIdeal.main_arg0) = m ((c.tc : Thread Cert.AdamGainsIdeal.nD Cert.AdamGainsIdeal.τ).loc Cert.AdamGainsIdeal.main_arg0)
      ∧ r.2.mem ((c.tc : Thread Cert.AdamGainsIdeal.nD Cert.AdamGainsIdeal.τ).loc Cert.AdamGainsIdeal.main_arg1) = m ((c.tc : Thread Cert.AdamGainsIdeal.nD Cert.AdamGainsIdeal.τ).loc Cert.AdamGainsIdeal.main_arg1)
      ∧ r.2.mem ((c.tc : Thread Cert.AdamGainsIdeal.nD Cert.AdamGainsIdeal.τ).loc Cert.AdamGainsIdeal.main_arg2) = m ((c.tc : Thread Cert.AdamGainsIdeal.nD Cert.AdamGainsIdeal.τ).loc Cert.AdamGainsIdeal.main_arg2)
      ∧ r.2.mem ((c.tc : Thread Cert.AdamGainsIdeal.nD Cert.AdamGainsIdeal.τ).loc Cert.AdamGainsIdeal.main_arg3) = m ((c.tc : Thread Cert.AdamGainsIdeal.nD Cert.AdamGainsIdeal.τ).loc Cert.AdamGainsIdeal.main_arg3))
      ∧ r.2.sem = fun _ => 0)

def quiescent_AdamGainsRefIdeal [hAdamGainsRefIdeal : Cert.AdamGainsRefIdeal.Facts] : Prop :=
  ∀ (m : (ℓ : Loc Cert.AdamGainsRefIdeal.nD Cert.AdamGainsRefIdeal.τ Cert.AdamGainsRefIdeal.sig) → Buf (Elt Ideal) ℓ) (g : Dev Cert.AdamGainsRefIdeal.nD → PrngReg), Pre_AdamGainsRefIdeal m →
    θ_run (Cert.AdamGainsRefIdeal.defs (F := Ideal)) (onTc (τ := Cert.AdamGainsRefIdeal.τ) (Cert.AdamGainsRefIdeal.main (F := Ideal))) ⟨m, fun _ => 0, g⟩ (fun r => (∀ c : Dev Cert.AdamGainsRefIdeal.nD,
      r.2.mem ((c.tc : Thread Cert.AdamGainsRefIdeal.nD Cert.AdamGainsRefIdeal.τ).loc Cert.AdamGainsRefIdeal.main_arg0) = m ((c.tc : Thread Cert.AdamGainsRefIdeal.nD Cert.AdamGainsRefIdeal.τ).loc Cert.AdamGainsRefIdeal.main_arg0)
      ∧ r.2.mem ((c.tc : Thread Cert.AdamGainsRefIdeal.nD Cert.AdamGainsRefIdeal.τ).loc Cert.AdamGainsRefIdeal.main_arg1) = m ((c.tc : Thread Cert.AdamGainsRefIdeal.nD Cert.AdamGainsRefIdeal.τ).loc Cert.AdamGainsRefIdeal.main_arg1)
      ∧ r.2.mem ((c.tc : Thread Cert.AdamGainsRefIdeal.nD Cert.AdamGainsRefIdeal.τ).loc Cert.AdamGainsRefIdeal.main_arg2) = m ((c.tc : Thread Cert.AdamGainsRefIdeal.nD Cert.AdamGainsRefIdeal.τ).loc Cert.AdamGainsRefIdeal.main_arg2)
      ∧ r.2.mem ((c.tc : Thread Cert.AdamGainsRefIdeal.nD Cert.AdamGainsRefIdeal.τ).loc Cert.AdamGainsRefIdeal.main_arg3) = m ((c.tc : Thread Cert.AdamGainsRefIdeal.nD Cert.AdamGainsRefIdeal.τ).loc Cert.AdamGainsRefIdeal.main_arg3))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormRefIdeal [hAdamNormRefIdeal : Cert.AdamNormRefIdeal.Facts] : Prop :=
  ∀ (m : (ℓ : Loc Cert.AdamNormRefIdeal.nD Cert.AdamNormRefIdeal.τ Cert.AdamNormRefIdeal.sig) → Buf (Elt Ideal) ℓ) (g : Dev Cert.AdamNormRefIdeal.nD → PrngReg), Pre_AdamNormRefIdeal m →
    θ_run (Cert.AdamNormRefIdeal.defs (F := Ideal)) (onTc (τ := Cert.AdamNormRefIdeal.τ) (Cert.AdamNormRefIdeal.main (F := Ideal))) ⟨m, fun _ => 0, g⟩ (fun r => (∀ c : Dev Cert.AdamNormRefIdeal.nD,
      r.2.mem ((c.tc : Thread Cert.AdamNormRefIdeal.nD Cert.AdamNormRefIdeal.τ).loc Cert.AdamNormRefIdeal.main_arg0) = m ((c.tc : Thread Cert.AdamNormRefIdeal.nD Cert.AdamNormRefIdeal.τ).loc Cert.AdamNormRefIdeal.main_arg0)
      ∧ r.2.mem ((c.tc : Thread Cert.AdamNormRefIdeal.nD Cert.AdamNormRefIdeal.τ).loc Cert.AdamNormRefIdeal.main_arg1) = m ((c.tc : Thread Cert.AdamNormRefIdeal.nD Cert.AdamNormRefIdeal.τ).loc Cert.AdamNormRefIdeal.main_arg1)
      ∧ r.2.mem ((c.tc : Thread Cert.AdamNormRefIdeal.nD Cert.AdamNormRefIdeal.τ).loc Cert.AdamNormRefIdeal.main_arg2) = m ((c.tc : Thread Cert.AdamNormRefIdeal.nD Cert.AdamNormRefIdeal.τ).loc Cert.AdamNormRefIdeal.main_arg2)
      ∧ r.2.mem ((c.tc : Thread Cert.AdamNormRefIdeal.nD Cert.AdamNormRefIdeal.τ).loc Cert.AdamNormRefIdeal.main_arg3) = m ((c.tc : Thread Cert.AdamNormRefIdeal.nD Cert.AdamNormRefIdeal.τ).loc Cert.AdamNormRefIdeal.main_arg3))
      ∧ r.2.sem = fun _ => 0)

def quiescent_AdamHeads [hAdamHeads : Cert.AdamHeads.Facts] : Prop :=
  ∀ (m : (ℓ : Loc Cert.AdamHeads.nD Cert.AdamHeads.τ Cert.AdamHeads.sig) → Buf (Elt Bits) ℓ) (g : Dev Cert.AdamHeads.nD → PrngReg), Pre_AdamHeads m →
    θ_run (Cert.AdamHeads.defs (F := Bits)) (onTc (τ := Cert.AdamHeads.τ) (Cert.AdamHeads.main (F := Bits))) ⟨m, fun _ => 0, g⟩ (fun r => (∀ c : Dev Cert.AdamHeads.nD,
      r.2.mem ((c.tc : Thread Cert.AdamHeads.nD Cert.AdamHeads.τ).loc Cert.AdamHeads.main_arg0) = m ((c.tc : Thread Cert.AdamHeads.nD Cert.AdamHeads.τ).loc Cert.AdamHeads.main_arg0)
      ∧ r.2.mem ((c.tc : Thread Cert.AdamHeads.nD Cert.AdamHeads.τ).loc Cert.AdamHeads.main_arg1) = m ((c.tc : Thread Cert.AdamHeads.nD Cert.AdamHeads.τ).loc Cert.AdamHeads.main_arg1)
      ∧ r.2.mem ((c.tc : Thread Cert.AdamHeads.nD Cert.AdamHeads.τ).loc Cert.AdamHeads.main_arg2) = m ((c.tc : Thread Cert.AdamHeads.nD Cert.AdamHeads.τ).loc Cert.AdamHeads.main_arg2)
      ∧ r.2.mem ((c.tc : Thread Cert.AdamHeads.nD Cert.AdamHeads.τ).loc Cert.AdamHeads.main_arg3) = m ((c.tc : Thread Cert.AdamHeads.nD Cert.AdamHeads.τ).loc Cert.AdamHeads.main_arg3))
      ∧ r.2.sem = fun _ => 0)

def quiescent_AdamHeadsIdeal [hAdamHeadsIdeal : Cert.AdamHeadsIdeal.Facts] : Prop :=
  ∀ (m : (ℓ : Loc Cert.AdamHeadsIdeal.nD Cert.AdamHeadsIdeal.τ Cert.AdamHeadsIdeal.sig) → Buf (Elt Ideal) ℓ) (g : Dev Cert.AdamHeadsIdeal.nD → PrngReg), Pre_AdamHeadsIdeal m →
    θ_run (Cert.AdamHeadsIdeal.defs (F := Ideal)) (onTc (τ := Cert.AdamHeadsIdeal.τ) (Cert.AdamHeadsIdeal.main (F := Ideal))) ⟨m, fun _ => 0, g⟩ (fun r => (∀ c : Dev Cert.AdamHeadsIdeal.nD,
      r.2.mem ((c.tc : Thread Cert.AdamHeadsIdeal.nD Cert.AdamHeadsIdeal.τ).loc Cert.AdamHeadsIdeal.main_arg0) = m ((c.tc : Thread Cert.AdamHeadsIdeal.nD Cert.AdamHeadsIdeal.τ).loc Cert.AdamHeadsIdeal.main_arg0)
      ∧ r.2.mem ((c.tc : Thread Cert.AdamHeadsIdeal.nD Cert.AdamHeadsIdeal.τ).loc Cert.AdamHeadsIdeal.main_arg1) = m ((c.tc : Thread Cert.AdamHeadsIdeal.nD Cert.AdamHeadsIdeal.τ).loc Cert.AdamHeadsIdeal.main_arg1)
      ∧ r.2.mem ((c.tc : Thread Cert.AdamHeadsIdeal.nD Cert.AdamHeadsIdeal.τ).loc Cert.AdamHeadsIdeal.main_arg2) = m ((c.tc : Thread Cert.AdamHeadsIdeal.nD Cert.AdamHeadsIdeal.τ).loc Cert.AdamHeadsIdeal.main_arg2)
      ∧ r.2.mem ((c.tc : Thread Cert.AdamHeadsIdeal.nD Cert.AdamHeadsIdeal.τ).loc Cert.AdamHeadsIdeal.main_arg3) = m ((c.tc : Thread Cert.AdamHeadsIdeal.nD Cert.AdamHeadsIdeal.τ).loc Cert.AdamHeadsIdeal.main_arg3))
      ∧ r.2.sem = fun _ => 0)

def quiescent_AdamHeadsRefIdeal [hAdamHeadsRefIdeal : Cert.AdamHeadsRefIdeal.Facts] : Prop :=
  ∀ (m : (ℓ : Loc Cert.AdamHeadsRefIdeal.nD Cert.AdamHeadsRefIdeal.τ Cert.AdamHeadsRefIdeal.sig) → Buf (Elt Ideal) ℓ) (g : Dev Cert.AdamHeadsRefIdeal.nD → PrngReg), Pre_AdamHeadsRefIdeal m →
    θ_run (Cert.AdamHeadsRefIdeal.defs (F := Ideal)) (onTc (τ := Cert.AdamHeadsRefIdeal.τ) (Cert.AdamHeadsRefIdeal.main (F := Ideal))) ⟨m, fun _ => 0, g⟩ (fun r => (∀ c : Dev Cert.AdamHeadsRefIdeal.nD,
      r.2.mem ((c.tc : Thread Cert.AdamHeadsRefIdeal.nD Cert.AdamHeadsRefIdeal.τ).loc Cert.AdamHeadsRefIdeal.main_arg0) = m ((c.tc : Thread Cert.AdamHeadsRefIdeal.nD Cert.AdamHeadsRefIdeal.τ).loc Cert.AdamHeadsRefIdeal.main_arg0)
      ∧ r.2.mem ((c.tc : Thread Cert.AdamHeadsRefIdeal.nD Cert.AdamHeadsRefIdeal.τ).loc Cert.AdamHeadsRefIdeal.main_arg1) = m ((c.tc : Thread Cert.AdamHeadsRefIdeal.nD Cert.AdamHeadsRefIdeal.τ).loc Cert.AdamHeadsRefIdeal.main_arg1)
      ∧ r.2.mem ((c.tc : Thread Cert.AdamHeadsRefIdeal.nD Cert.AdamHeadsRefIdeal.τ).loc Cert.AdamHeadsRefIdeal.main_arg2) = m ((c.tc : Thread Cert.AdamHeadsRefIdeal.nD Cert.AdamHeadsRefIdeal.τ).loc Cert.AdamHeadsRefIdeal.main_arg2)
      ∧ r.2.mem ((c.tc : Thread Cert.AdamHeadsRefIdeal.nD Cert.AdamHeadsRefIdeal.τ).loc Cert.AdamHeadsRefIdeal.main_arg3) = m ((c.tc : Thread Cert.AdamHeadsRefIdeal.nD Cert.AdamHeadsRefIdeal.τ).loc Cert.AdamHeadsRefIdeal.main_arg3))
      ∧ r.2.sem = fun _ => 0)

def quiescent_AdamGates [hAdamGates : Cert.AdamGates.Facts] : Prop :=
  ∀ (m : (ℓ : Loc Cert.AdamGates.nD Cert.AdamGates.τ Cert.AdamGates.sig) → Buf (Elt Bits) ℓ) (g : Dev Cert.AdamGates.nD → PrngReg), Pre_AdamGates m →
    θ_run (Cert.AdamGates.defs (F := Bits)) (onTc (τ := Cert.AdamGates.τ) (Cert.AdamGates.main (F := Bits))) ⟨m, fun _ => 0, g⟩ (fun r => (∀ c : Dev Cert.AdamGates.nD,
      r.2.mem ((c.tc : Thread Cert.AdamGates.nD Cert.AdamGates.τ).loc Cert.AdamGates.main_arg0) = m ((c.tc : Thread Cert.AdamGates.nD Cert.AdamGates.τ).loc Cert.AdamGates.main_arg0)
      ∧ r.2.mem ((c.tc : Thread Cert.AdamGates.nD Cert.AdamGates.τ).loc Cert.AdamGates.main_arg1) = m ((c.tc : Thread Cert.AdamGates.nD Cert.AdamGates.τ).loc Cert.AdamGates.main_arg1)
      ∧ r.2.mem ((c.tc : Thread Cert.AdamGates.nD Cert.AdamGates.τ).loc Cert.AdamGates.main_arg2) = m ((c.tc : Thread Cert.AdamGates.nD Cert.AdamGates.τ).loc Cert.AdamGates.main_arg2)
      ∧ r.2.mem ((c.tc : Thread Cert.AdamGates.nD Cert.AdamGates.τ).loc Cert.AdamGates.main_arg3) = m ((c.tc : Thread Cert.AdamGates.nD Cert.AdamGates.τ).loc Cert.AdamGates.main_arg3))
      ∧ r.2.sem = fun _ => 0)

def quiescent_AdamGatesIdeal [hAdamGatesIdeal : Cert.AdamGatesIdeal.Facts] : Prop :=
  ∀ (m : (ℓ : Loc Cert.AdamGatesIdeal.nD Cert.AdamGatesIdeal.τ Cert.AdamGatesIdeal.sig) → Buf (Elt Ideal) ℓ) (g : Dev Cert.AdamGatesIdeal.nD → PrngReg), Pre_AdamGatesIdeal m →
    θ_run (Cert.AdamGatesIdeal.defs (F := Ideal)) (onTc (τ := Cert.AdamGatesIdeal.τ) (Cert.AdamGatesIdeal.main (F := Ideal))) ⟨m, fun _ => 0, g⟩ (fun r => (∀ c : Dev Cert.AdamGatesIdeal.nD,
      r.2.mem ((c.tc : Thread Cert.AdamGatesIdeal.nD Cert.AdamGatesIdeal.τ).loc Cert.AdamGatesIdeal.main_arg0) = m ((c.tc : Thread Cert.AdamGatesIdeal.nD Cert.AdamGatesIdeal.τ).loc Cert.AdamGatesIdeal.main_arg0)
      ∧ r.2.mem ((c.tc : Thread Cert.AdamGatesIdeal.nD Cert.AdamGatesIdeal.τ).loc Cert.AdamGatesIdeal.main_arg1) = m ((c.tc : Thread Cert.AdamGatesIdeal.nD Cert.AdamGatesIdeal.τ).loc Cert.AdamGatesIdeal.main_arg1)
      ∧ r.2.mem ((c.tc : Thread Cert.AdamGatesIdeal.nD Cert.AdamGatesIdeal.τ).loc Cert.AdamGatesIdeal.main_arg2) = m ((c.tc : Thread Cert.AdamGatesIdeal.nD Cert.AdamGatesIdeal.τ).loc Cert.AdamGatesIdeal.main_arg2)
      ∧ r.2.mem ((c.tc : Thread Cert.AdamGatesIdeal.nD Cert.AdamGatesIdeal.τ).loc Cert.AdamGatesIdeal.main_arg3) = m ((c.tc : Thread Cert.AdamGatesIdeal.nD Cert.AdamGatesIdeal.τ).loc Cert.AdamGatesIdeal.main_arg3))
      ∧ r.2.sem = fun _ => 0)

def quiescent_AdamGatesRefIdeal [hAdamGatesRefIdeal : Cert.AdamGatesRefIdeal.Facts] : Prop :=
  ∀ (m : (ℓ : Loc Cert.AdamGatesRefIdeal.nD Cert.AdamGatesRefIdeal.τ Cert.AdamGatesRefIdeal.sig) → Buf (Elt Ideal) ℓ) (g : Dev Cert.AdamGatesRefIdeal.nD → PrngReg), Pre_AdamGatesRefIdeal m →
    θ_run (Cert.AdamGatesRefIdeal.defs (F := Ideal)) (onTc (τ := Cert.AdamGatesRefIdeal.τ) (Cert.AdamGatesRefIdeal.main (F := Ideal))) ⟨m, fun _ => 0, g⟩ (fun r => (∀ c : Dev Cert.AdamGatesRefIdeal.nD,
      r.2.mem ((c.tc : Thread Cert.AdamGatesRefIdeal.nD Cert.AdamGatesRefIdeal.τ).loc Cert.AdamGatesRefIdeal.main_arg0) = m ((c.tc : Thread Cert.AdamGatesRefIdeal.nD Cert.AdamGatesRefIdeal.τ).loc Cert.AdamGatesRefIdeal.main_arg0)
      ∧ r.2.mem ((c.tc : Thread Cert.AdamGatesRefIdeal.nD Cert.AdamGatesRefIdeal.τ).loc Cert.AdamGatesRefIdeal.main_arg1) = m ((c.tc : Thread Cert.AdamGatesRefIdeal.nD Cert.AdamGatesRefIdeal.τ).loc Cert.AdamGatesRefIdeal.main_arg1)
      ∧ r.2.mem ((c.tc : Thread Cert.AdamGatesRefIdeal.nD Cert.AdamGatesRefIdeal.τ).loc Cert.AdamGatesRefIdeal.main_arg2) = m ((c.tc : Thread Cert.AdamGatesRefIdeal.nD Cert.AdamGatesRefIdeal.τ).loc Cert.AdamGatesRefIdeal.main_arg2)
      ∧ r.2.mem ((c.tc : Thread Cert.AdamGatesRefIdeal.nD Cert.AdamGatesRefIdeal.τ).loc Cert.AdamGatesRefIdeal.main_arg3) = m ((c.tc : Thread Cert.AdamGatesRefIdeal.nD Cert.AdamGatesRefIdeal.τ).loc Cert.AdamGatesRefIdeal.main_arg3))
      ∧ r.2.sem = fun _ => 0)

def quiescent_AdamRel [hAdamRel : Cert.AdamRel.Facts] : Prop :=
  ∀ (m : (ℓ : Loc Cert.AdamRel.nD Cert.AdamRel.τ Cert.AdamRel.sig) → Buf (Elt Bits) ℓ) (g : Dev Cert.AdamRel.nD → PrngReg), Pre_AdamRel m →
    θ_run (Cert.AdamRel.defs (F := Bits)) (onTc (τ := Cert.AdamRel.τ) (Cert.AdamRel.main (F := Bits))) ⟨m, fun _ => 0, g⟩ (fun r => (∀ c : Dev Cert.AdamRel.nD,
      r.2.mem ((c.tc : Thread Cert.AdamRel.nD Cert.AdamRel.τ).loc Cert.AdamRel.main_arg0) = m ((c.tc : Thread Cert.AdamRel.nD Cert.AdamRel.τ).loc Cert.AdamRel.main_arg0)
      ∧ r.2.mem ((c.tc : Thread Cert.AdamRel.nD Cert.AdamRel.τ).loc Cert.AdamRel.main_arg1) = m ((c.tc : Thread Cert.AdamRel.nD Cert.AdamRel.τ).loc Cert.AdamRel.main_arg1)
      ∧ r.2.mem ((c.tc : Thread Cert.AdamRel.nD Cert.AdamRel.τ).loc Cert.AdamRel.main_arg2) = m ((c.tc : Thread Cert.AdamRel.nD Cert.AdamRel.τ).loc Cert.AdamRel.main_arg2)
      ∧ r.2.mem ((c.tc : Thread Cert.AdamRel.nD Cert.AdamRel.τ).loc Cert.AdamRel.main_arg3) = m ((c.tc : Thread Cert.AdamRel.nD Cert.AdamRel.τ).loc Cert.AdamRel.main_arg3))
      ∧ r.2.sem = fun _ => 0)

def quiescent_AdamRelIdeal [hAdamRelIdeal : Cert.AdamRelIdeal.Facts] : Prop :=
  ∀ (m : (ℓ : Loc Cert.AdamRelIdeal.nD Cert.AdamRelIdeal.τ Cert.AdamRelIdeal.sig) → Buf (Elt Ideal) ℓ) (g : Dev Cert.AdamRelIdeal.nD → PrngReg), Pre_AdamRelIdeal m →
    θ_run (Cert.AdamRelIdeal.defs (F := Ideal)) (onTc (τ := Cert.AdamRelIdeal.τ) (Cert.AdamRelIdeal.main (F := Ideal))) ⟨m, fun _ => 0, g⟩ (fun r => (∀ c : Dev Cert.AdamRelIdeal.nD,
      r.2.mem ((c.tc : Thread Cert.AdamRelIdeal.nD Cert.AdamRelIdeal.τ).loc Cert.AdamRelIdeal.main_arg0) = m ((c.tc : Thread Cert.AdamRelIdeal.nD Cert.AdamRelIdeal.τ).loc Cert.AdamRelIdeal.main_arg0)
      ∧ r.2.mem ((c.tc : Thread Cert.AdamRelIdeal.nD Cert.AdamRelIdeal.τ).loc Cert.AdamRelIdeal.main_arg1) = m ((c.tc : Thread Cert.AdamRelIdeal.nD Cert.AdamRelIdeal.τ).loc Cert.AdamRelIdeal.main_arg1)
      ∧ r.2.mem ((c.tc : Thread Cert.AdamRelIdeal.nD Cert.AdamRelIdeal.τ).loc Cert.AdamRelIdeal.main_arg2) = m ((c.tc : Thread Cert.AdamRelIdeal.nD Cert.AdamRelIdeal.τ).loc Cert.AdamRelIdeal.main_arg2)
      ∧ r.2.mem ((c.tc : Thread Cert.AdamRelIdeal.nD Cert.AdamRelIdeal.τ).loc Cert.AdamRelIdeal.main_arg3) = m ((c.tc : Thread Cert.AdamRelIdeal.nD Cert.AdamRelIdeal.τ).loc Cert.AdamRelIdeal.main_arg3))
      ∧ r.2.sem = fun _ => 0)

def quiescent_AdamRelRefIdeal [hAdamRelRefIdeal : Cert.AdamRelRefIdeal.Facts] : Prop :=
  ∀ (m : (ℓ : Loc Cert.AdamRelRefIdeal.nD Cert.AdamRelRefIdeal.τ Cert.AdamRelRefIdeal.sig) → Buf (Elt Ideal) ℓ) (g : Dev Cert.AdamRelRefIdeal.nD → PrngReg), Pre_AdamRelRefIdeal m →
    θ_run (Cert.AdamRelRefIdeal.defs (F := Ideal)) (onTc (τ := Cert.AdamRelRefIdeal.τ) (Cert.AdamRelRefIdeal.main (F := Ideal))) ⟨m, fun _ => 0, g⟩ (fun r => (∀ c : Dev Cert.AdamRelRefIdeal.nD,
      r.2.mem ((c.tc : Thread Cert.AdamRelRefIdeal.nD Cert.AdamRelRefIdeal.τ).loc Cert.AdamRelRefIdeal.main_arg0) = m ((c.tc : Thread Cert.AdamRelRefIdeal.nD Cert.AdamRelRefIdeal.τ).loc Cert.AdamRelRefIdeal.main_arg0)
      ∧ r.2.mem ((c.tc : Thread Cert.AdamRelRefIdeal.nD Cert.AdamRelRefIdeal.τ).loc Cert.AdamRelRefIdeal.main_arg1) = m ((c.tc : Thread Cert.AdamRelRefIdeal.nD Cert.AdamRelRefIdeal.τ).loc Cert.AdamRelRefIdeal.main_arg1)
      ∧ r.2.mem ((c.tc : Thread Cert.AdamRelRefIdeal.nD Cert.AdamRelRefIdeal.τ).loc Cert.AdamRelRefIdeal.main_arg2) = m ((c.tc : Thread Cert.AdamRelRefIdeal.nD Cert.AdamRelRefIdeal.τ).loc Cert.AdamRelRefIdeal.main_arg2)
      ∧ r.2.mem ((c.tc : Thread Cert.AdamRelRefIdeal.nD Cert.AdamRelRefIdeal.τ).loc Cert.AdamRelRefIdeal.main_arg3) = m ((c.tc : Thread Cert.AdamRelRefIdeal.nD Cert.AdamRelRefIdeal.τ).loc Cert.AdamRelRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_AdamConvB [hAdamConvB : Cert.AdamConvB.Facts] : Prop :=
  ∀ (m : (ℓ : Loc Cert.AdamConvB.nD Cert.AdamConvB.τ Cert.AdamConvB.sig) → Buf (Elt Bits) ℓ) (g : Dev Cert.AdamConvB.nD → PrngReg), Pre_AdamConvB m →
    θ_run (Cert.AdamConvB.defs (F := Bits)) (onTc (τ := Cert.AdamConvB.τ) (Cert.AdamConvB.main (F := Bits))) ⟨m, fun _ => 0, g⟩ (fun r => (∀ c : Dev Cert.AdamConvB.nD,
      r.2.mem ((c.tc : Thread Cert.AdamConvB.nD Cert.AdamConvB.τ).loc Cert.AdamConvB.main_arg0) = m ((c.tc : Thread Cert.AdamConvB.nD Cert.AdamConvB.τ).loc Cert.AdamConvB.main_arg0)
      ∧ r.2.mem ((c.tc : Thread Cert.AdamConvB.nD Cert.AdamConvB.τ).loc Cert.AdamConvB.main_arg1) = m ((c.tc : Thread Cert.AdamConvB.nD Cert.AdamConvB.τ).loc Cert.AdamConvB.main_arg1)
      ∧ r.2.mem ((c.tc : Thread Cert.AdamConvB.nD Cert.AdamConvB.τ).loc Cert.AdamConvB.main_arg2) = m ((c.tc : Thread Cert.AdamConvB.nD Cert.AdamConvB.τ).loc Cert.AdamConvB.main_arg2)
      ∧ r.2.mem ((c.tc : Thread Cert.AdamConvB.nD Cert.AdamConvB.τ).loc Cert.AdamConvB.main_arg3) = m ((c.tc : Thread Cert.AdamConvB.nD Cert.AdamConvB.τ).loc Cert.AdamConvB.main_arg3))
      ∧ r.2.sem = fun _ => 0)

def quiescent_AdamConvBIdeal [hAdamConvBIdeal : Cert.AdamConvBIdeal.Facts] : Prop :=
  ∀ (m : (ℓ : Loc Cert.AdamConvBIdeal.nD Cert.AdamConvBIdeal.τ Cert.AdamConvBIdeal.sig) → Buf (Elt Ideal) ℓ) (g : Dev Cert.AdamConvBIdeal.nD → PrngReg), Pre_AdamConvBIdeal m →
    θ_run (Cert.AdamConvBIdeal.defs (F := Ideal)) (onTc (τ := Cert.AdamConvBIdeal.τ) (Cert.AdamConvBIdeal.main (F := Ideal))) ⟨m, fun _ => 0, g⟩ (fun r => (∀ c : Dev Cert.AdamConvBIdeal.nD,
      r.2.mem ((c.tc : Thread Cert.AdamConvBIdeal.nD Cert.AdamConvBIdeal.τ).loc Cert.AdamConvBIdeal.main_arg0) = m ((c.tc : Thread Cert.AdamConvBIdeal.nD Cert.AdamConvBIdeal.τ).loc Cert.AdamConvBIdeal.main_arg0)
      ∧ r.2.mem ((c.tc : Thread Cert.AdamConvBIdeal.nD Cert.AdamConvBIdeal.τ).loc Cert.AdamConvBIdeal.main_arg1) = m ((c.tc : Thread Cert.AdamConvBIdeal.nD Cert.AdamConvBIdeal.τ).loc Cert.AdamConvBIdeal.main_arg1)
      ∧ r.2.mem ((c.tc : Thread Cert.AdamConvBIdeal.nD Cert.AdamConvBIdeal.τ).loc Cert.AdamConvBIdeal.main_arg2) = m ((c.tc : Thread Cert.AdamConvBIdeal.nD Cert.AdamConvBIdeal.τ).loc Cert.AdamConvBIdeal.main_arg2)
      ∧ r.2.mem ((c.tc : Thread Cert.AdamConvBIdeal.nD Cert.AdamConvBIdeal.τ).loc Cert.AdamConvBIdeal.main_arg3) = m ((c.tc : Thread Cert.AdamConvBIdeal.nD Cert.AdamConvBIdeal.τ).loc Cert.AdamConvBIdeal.main_arg3))
      ∧ r.2.sem = fun _ => 0)

def quiescent_AdamConvBRefIdeal [hAdamConvBRefIdeal : Cert.AdamConvBRefIdeal.Facts] : Prop :=
  ∀ (m : (ℓ : Loc Cert.AdamConvBRefIdeal.nD Cert.AdamConvBRefIdeal.τ Cert.AdamConvBRefIdeal.sig) → Buf (Elt Ideal) ℓ) (g : Dev Cert.AdamConvBRefIdeal.nD → PrngReg), Pre_AdamConvBRefIdeal m →
    θ_run (Cert.AdamConvBRefIdeal.defs (F := Ideal)) (onTc (τ := Cert.AdamConvBRefIdeal.τ) (Cert.AdamConvBRefIdeal.main (F := Ideal))) ⟨m, fun _ => 0, g⟩ (fun r => (∀ c : Dev Cert.AdamConvBRefIdeal.nD,
      r.2.mem ((c.tc : Thread Cert.AdamConvBRefIdeal.nD Cert.AdamConvBRefIdeal.τ).loc Cert.AdamConvBRefIdeal.main_arg0) = m ((c.tc : Thread Cert.AdamConvBRefIdeal.nD Cert.AdamConvBRefIdeal.τ).loc Cert.AdamConvBRefIdeal.main_arg0)
      ∧ r.2.mem ((c.tc : Thread Cert.AdamConvBRefIdeal.nD Cert.AdamConvBRefIdeal.τ).loc Cert.AdamConvBRefIdeal.main_arg1) = m ((c.tc : Thread Cert.AdamConvBRefIdeal.nD Cert.AdamConvBRefIdeal.τ).loc Cert.AdamConvBRefIdeal.main_arg1)
      ∧ r.2.mem ((c.tc : Thread Cert.AdamConvBRefIdeal.nD Cert.AdamConvBRefIdeal.τ).loc Cert.AdamConvBRefIdeal.main_arg2) = m ((c.tc : Thread Cert.AdamConvBRefIdeal.nD Cert.AdamConvBRefIdeal.τ).loc Cert.AdamConvBRefIdeal.main_arg2)
      ∧ r.2.mem ((c.tc : Thread Cert.AdamConvBRefIdeal.nD Cert.AdamConvBRefIdeal.τ).loc Cert.AdamConvBRefIdeal.main_arg3) = m ((c.tc : Thread Cert.AdamConvBRefIdeal.nD Cert.AdamConvBRefIdeal.τ).loc Cert.AdamConvBRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ddown_DdownIdeal : Prop :=
  True

def algebraic_DdownIdeal_DdownRefIdeal [hDdownIdeal : Cert.DdownIdeal.Facts] [hDdownRefIdeal : Cert.DdownRefIdeal.Facts] : Prop :=
  ∀ (m : (ℓ : Loc Cert.DdownIdeal.nD Cert.DdownIdeal.τ Cert.DdownIdeal.sig) → Buf (Elt Ideal) ℓ) (g : Dev Cert.DdownIdeal.nD → PrngReg)
    (m' : (ℓ : Loc Cert.DdownRefIdeal.nD Cert.DdownRefIdeal.τ Cert.DdownRefIdeal.sig) → Buf (Elt Ideal) ℓ) (g' : Dev Cert.DdownRefIdeal.nD → PrngReg), Pre_DdownIdeal m →
    (∀ c : Dev Cert.DdownIdeal.nD,
      m' ((c.tc : Thread Cert.DdownRefIdeal.nD Cert.DdownRefIdeal.τ).loc Cert.DdownRefIdeal.main_arg0) = m ((c.tc : Thread Cert.DdownIdeal.nD Cert.DdownIdeal.τ).loc Cert.DdownIdeal.main_arg0)
      ∧ m' ((c.tc : Thread Cert.DdownRefIdeal.nD Cert.DdownRefIdeal.τ).loc Cert.DdownRefIdeal.main_arg1) = m ((c.tc : Thread Cert.DdownIdeal.nD Cert.DdownIdeal.τ).loc Cert.DdownIdeal.main_arg1)) →
    ∃ (v0 : (c : Dev Cert.DdownIdeal.nD) → Buf (Elt Ideal) ((c.tc : Thread Cert.DdownIdeal.nD Cert.DdownIdeal.τ).loc Cert.DdownIdeal.main_v1)),
      θ_run (Cert.DdownIdeal.defs (F := Ideal)) (onTc (τ := Cert.DdownIdeal.τ) (Cert.DdownIdeal.main (F := Ideal))) ⟨m, fun _ => 0, g⟩ (fun r => ∀ c : Dev Cert.DdownIdeal.nD,
          r.2.mem ((c.tc : Thread Cert.DdownIdeal.nD Cert.DdownIdeal.τ).loc Cert.DdownIdeal.main_v1) = v0 c
          ∧ r.2.mem ((c.tc : Thread Cert.DdownIdeal.nD Cert.DdownIdeal.τ).loc Cert.DdownIdeal.main_arg0) = m ((c.tc : Thread Cert.DdownIdeal.nD Cert.DdownIdeal.τ).loc Cert.DdownIdeal.main_arg0)
          ∧ r.2.mem ((c.tc : Thread Cert.DdownIdeal.nD Cert.DdownIdeal.τ).loc Cert.DdownIdeal.main_arg1) = m ((c.tc : Thread Cert.DdownIdeal.nD Cert.DdownIdeal.τ).loc Cert.DdownIdeal.main_arg1))
      ∧ θ_run (Cert.DdownRefIdeal.defs (F := Ideal)) (onTc (τ := Cert.DdownRefIdeal.τ) (Cert.DdownRefIdeal.main (F := Ideal))) ⟨m', fun _ => 0, g'⟩ (fun r => ∀ c : Dev Cert.DdownRefIdeal.nD,
          r.2.mem ((c.tc : Thread Cert.DdownRefIdeal.nD Cert.DdownRefIdeal.τ).loc Cert.DdownRefIdeal.main_v3) = v0 c
          ∧ r.2.mem ((c.tc : Thread Cert.DdownRefIdeal.nD Cert.DdownRefIdeal.τ).loc Cert.DdownRefIdeal.main_arg0) = m' ((c.tc : Thread Cert.DdownRefIdeal.nD Cert.DdownRefIdeal.τ).loc Cert.DdownRefIdeal.main_arg0)
          ∧ r.2.mem ((c.tc : Thread Cert.DdownRefIdeal.nD Cert.DdownRefIdeal.τ).loc Cert.DdownRefIdeal.main_arg1) = m' ((c.tc : Thread Cert.DdownRefIdeal.nD Cert.DdownRefIdeal.τ).loc Cert.DdownRefIdeal.main_arg1))

def preserves_Gdown_GdownIdeal : Prop :=
  True

def algebraic_GdownIdeal_GdownRefIdeal [hGdownIdeal : Cert.GdownIdeal.Facts] [hGdownRefIdeal : Cert.GdownRefIdeal.Facts] : Prop :=
  ∀ (m : (ℓ : Loc Cert.GdownIdeal.nD Cert.GdownIdeal.τ Cert.GdownIdeal.sig) → Buf (Elt Ideal) ℓ) (g : Dev Cert.GdownIdeal.nD → PrngReg)
    (m' : (ℓ : Loc Cert.GdownRefIdeal.nD Cert.GdownRefIdeal.τ Cert.GdownRefIdeal.sig) → Buf (Elt Ideal) ℓ) (g' : Dev Cert.GdownRefIdeal.nD → PrngReg), Pre_GdownIdeal m →
    (∀ c : Dev Cert.GdownIdeal.nD,
      m' ((c.tc : Thread Cert.GdownRefIdeal.nD Cert.GdownRefIdeal.τ).loc Cert.GdownRefIdeal.main_arg0) = m ((c.tc : Thread Cert.GdownIdeal.nD Cert.GdownIdeal.τ).loc Cert.GdownIdeal.main_arg0)
      ∧ m' ((c.tc : Thread Cert.GdownRefIdeal.nD Cert.GdownRefIdeal.τ).loc Cert.GdownRefIdeal.main_arg1) = m ((c.tc : Thread Cert.GdownIdeal.nD Cert.GdownIdeal.τ).loc Cert.GdownIdeal.main_arg1)) →
    ∃ (v0 : (c : Dev Cert.GdownIdeal.nD) → Buf (Elt Ideal) ((c.tc : Thread Cert.GdownIdeal.nD Cert.GdownIdeal.τ).loc Cert.GdownIdeal.main_v0)),
      θ_run (Cert.GdownIdeal.defs (F := Ideal)) (onTc (τ := Cert.GdownIdeal.τ) (Cert.GdownIdeal.main (F := Ideal))) ⟨m, fun _ => 0, g⟩ (fun r => ∀ c : Dev Cert.GdownIdeal.nD,
          r.2.mem ((c.tc : Thread Cert.GdownIdeal.nD Cert.GdownIdeal.τ).loc Cert.GdownIdeal.main_v0) = v0 c
          ∧ r.2.mem ((c.tc : Thread Cert.GdownIdeal.nD Cert.GdownIdeal.τ).loc Cert.GdownIdeal.main_arg0) = m ((c.tc : Thread Cert.GdownIdeal.nD Cert.GdownIdeal.τ).loc Cert.GdownIdeal.main_arg0)
          ∧ r.2.mem ((c.tc : Thread Cert.GdownIdeal.nD Cert.GdownIdeal.τ).loc Cert.GdownIdeal.main_arg1) = m ((c.tc : Thread Cert.GdownIdeal.nD Cert.GdownIdeal.τ).loc Cert.GdownIdeal.main_arg1))
      ∧ θ_run (Cert.GdownRefIdeal.defs (F := Ideal)) (onTc (τ := Cert.GdownRefIdeal.τ) (Cert.GdownRefIdeal.main (F := Ideal))) ⟨m', fun _ => 0, g'⟩ (fun r => ∀ c : Dev Cert.GdownRefIdeal.nD,
          r.2.mem ((c.tc : Thread Cert.GdownRefIdeal.nD Cert.GdownRefIdeal.τ).loc Cert.GdownRefIdeal.main_v4) = v0 c
          ∧ r.2.mem ((c.tc : Thread Cert.GdownRefIdeal.nD Cert.GdownRefIdeal.τ).loc Cert.GdownRefIdeal.main_arg0) = m' ((c.tc : Thread Cert.GdownRefIdeal.nD Cert.GdownRefIdeal.τ).loc Cert.GdownRefIdeal.main_arg0)
          ∧ r.2.mem ((c.tc : Thread Cert.GdownRefIdeal.nD Cert.GdownRefIdeal.τ).loc Cert.GdownRefIdeal.main_arg1) = m' ((c.tc : Thread Cert.GdownRefIdeal.nD Cert.GdownRefIdeal.τ).loc Cert.GdownRefIdeal.main_arg1))

def preserves_Dup_DupIdeal : Prop :=
  True

def algebraic_DupIdeal_DupRefIdeal [hDupIdeal : Cert.DupIdeal.Facts] [hDupRefIdeal : Cert.DupRefIdeal.Facts] : Prop :=
  ∀ (m : (ℓ : Loc Cert.DupIdeal.nD Cert.DupIdeal.τ Cert.DupIdeal.sig) → Buf (Elt Ideal) ℓ) (g : Dev Cert.DupIdeal.nD → PrngReg)
    (m' : (ℓ : Loc Cert.DupRefIdeal.nD Cert.DupRefIdeal.τ Cert.DupRefIdeal.sig) → Buf (Elt Ideal) ℓ) (g' : Dev Cert.DupRefIdeal.nD → PrngReg), Pre_DupIdeal m →
    (∀ c : Dev Cert.DupIdeal.nD,
      m' ((c.tc : Thread Cert.DupRefIdeal.nD Cert.DupRefIdeal.τ).loc Cert.DupRefIdeal.main_arg0) = m ((c.tc : Thread Cert.DupIdeal.nD Cert.DupIdeal.τ).loc Cert.DupIdeal.main_arg0)
      ∧ m' ((c.tc : Thread Cert.DupRefIdeal.nD Cert.DupRefIdeal.τ).loc Cert.DupRefIdeal.main_arg1) = m ((c.tc : Thread Cert.DupIdeal.nD Cert.DupIdeal.τ).loc Cert.DupIdeal.main_arg1)) →
    ∃ (v0 : (c : Dev Cert.DupIdeal.nD) → Buf (Elt Ideal) ((c.tc : Thread Cert.DupIdeal.nD Cert.DupIdeal.τ).loc Cert.DupIdeal.main_v7)),
      θ_run (Cert.DupIdeal.defs (F := Ideal)) (onTc (τ := Cert.DupIdeal.τ) (Cert.DupIdeal.main (F := Ideal))) ⟨m, fun _ => 0, g⟩ (fun r => ∀ c : Dev Cert.DupIdeal.nD,
          r.2.mem ((c.tc : Thread Cert.DupIdeal.nD Cert.DupIdeal.τ).loc Cert.DupIdeal.main_v7) = v0 c
          ∧ r.2.mem ((c.tc : Thread Cert.DupIdeal.nD Cert.DupIdeal.τ).loc Cert.DupIdeal.main_arg0) = m ((c.tc : Thread Cert.DupIdeal.nD Cert.DupIdeal.τ).loc Cert.DupIdeal.main_arg0)
          ∧ r.2.mem ((c.tc : Thread Cert.DupIdeal.nD Cert.DupIdeal.τ).loc Cert.DupIdeal.main_arg1) = m ((c.tc : Thread Cert.DupIdeal.nD Cert.DupIdeal.τ).loc Cert.DupIdeal.main_arg1))
      ∧ θ_run (Cert.DupRefIdeal.defs (F := Ideal)) (onTc (τ := Cert.DupRefIdeal.τ) (Cert.DupRefIdeal.main (F := Ideal))) ⟨m', fun _ => 0, g'⟩ (fun r => ∀ c : Dev Cert.DupRefIdeal.nD,
          r.2.mem ((c.tc : Thread Cert.DupRefIdeal.nD Cert.DupRefIdeal.τ).loc Cert.DupRefIdeal.main_v4) = v0 c
          ∧ r.2.mem ((c.tc : Thread Cert.DupRefIdeal.nD Cert.DupRefIdeal.τ).loc Cert.DupRefIdeal.main_arg0) = m' ((c.tc : Thread Cert.DupRefIdeal.nD Cert.DupRefIdeal.τ).loc Cert.DupRefIdeal.main_arg0)
          ∧ r.2.mem ((c.tc : Thread Cert.DupRefIdeal.nD Cert.DupRefIdeal.τ).loc Cert.DupRefIdeal.main_arg1) = m' ((c.tc : Thread Cert.DupRefIdeal.nD Cert.DupRefIdeal.τ).loc Cert.DupRefIdeal.main_arg1))

def preserves_Gup_GupIdeal : Prop :=
  True

def algebraic_GupIdeal_GupRefIdeal [hGupIdeal : Cert.GupIdeal.Facts] [hGupRefIdeal : Cert.GupRefIdeal.Facts] : Prop :=
  ∀ (m : (ℓ : Loc Cert.GupIdeal.nD Cert.GupIdeal.τ Cert.GupIdeal.sig) → Buf (Elt Ideal) ℓ) (g : Dev Cert.GupIdeal.nD → PrngReg)
    (m' : (ℓ : Loc Cert.GupRefIdeal.nD Cert.GupRefIdeal.τ Cert.GupRefIdeal.sig) → Buf (Elt Ideal) ℓ) (g' : Dev Cert.GupRefIdeal.nD → PrngReg), Pre_GupIdeal m →
    (∀ c : Dev Cert.GupIdeal.nD,
      m' ((c.tc : Thread Cert.GupRefIdeal.nD Cert.GupRefIdeal.τ).loc Cert.GupRefIdeal.main_arg0) = m ((c.tc : Thread Cert.GupIdeal.nD Cert.GupIdeal.τ).loc Cert.GupIdeal.main_arg0)
      ∧ m' ((c.tc : Thread Cert.GupRefIdeal.nD Cert.GupRefIdeal.τ).loc Cert.GupRefIdeal.main_arg1) = m ((c.tc : Thread Cert.GupIdeal.nD Cert.GupIdeal.τ).loc Cert.GupIdeal.main_arg1)) →
    ∃ (v0 : (c : Dev Cert.GupIdeal.nD) → Buf (Elt Ideal) ((c.tc : Thread Cert.GupIdeal.nD Cert.GupIdeal.τ).loc Cert.GupIdeal.main_v6)),
      θ_run (Cert.GupIdeal.defs (F := Ideal)) (onTc (τ := Cert.GupIdeal.τ) (Cert.GupIdeal.main (F := Ideal))) ⟨m, fun _ => 0, g⟩ (fun r => ∀ c : Dev Cert.GupIdeal.nD,
          r.2.mem ((c.tc : Thread Cert.GupIdeal.nD Cert.GupIdeal.τ).loc Cert.GupIdeal.main_v6) = v0 c
          ∧ r.2.mem ((c.tc : Thread Cert.GupIdeal.nD Cert.GupIdeal.τ).loc Cert.GupIdeal.main_arg0) = m ((c.tc : Thread Cert.GupIdeal.nD Cert.GupIdeal.τ).loc Cert.GupIdeal.main_arg0)
          ∧ r.2.mem ((c.tc : Thread Cert.GupIdeal.nD Cert.GupIdeal.τ).loc Cert.GupIdeal.main_arg1) = m ((c.tc : Thread Cert.GupIdeal.nD Cert.GupIdeal.τ).loc Cert.GupIdeal.main_arg1))
      ∧ θ_run (Cert.GupRefIdeal.defs (F := Ideal)) (onTc (τ := Cert.GupRefIdeal.τ) (Cert.GupRefIdeal.main (F := Ideal))) ⟨m', fun _ => 0, g'⟩ (fun r => ∀ c : Dev Cert.GupRefIdeal.nD,
          r.2.mem ((c.tc : Thread Cert.GupRefIdeal.nD Cert.GupRefIdeal.τ).loc Cert.GupRefIdeal.main_v5) = v0 c
          ∧ r.2.mem ((c.tc : Thread Cert.GupRefIdeal.nD Cert.GupRefIdeal.τ).loc Cert.GupRefIdeal.main_arg0) = m' ((c.tc : Thread Cert.GupRefIdeal.nD Cert.GupRefIdeal.τ).loc Cert.GupRefIdeal.main_arg0)
          ∧ r.2.mem ((c.tc : Thread Cert.GupRefIdeal.nD Cert.GupRefIdeal.τ).loc Cert.GupRefIdeal.main_arg1) = m' ((c.tc : Thread Cert.GupRefIdeal.nD Cert.GupRefIdeal.τ).loc Cert.GupRefIdeal.main_arg1))

def preserves_Dout_DoutIdeal : Prop :=
  True

def algebraic_DoutIdeal_DoutRefIdeal [hDoutIdeal : Cert.DoutIdeal.Facts] [hDoutRefIdeal : Cert.DoutRefIdeal.Facts] : Prop :=
  ∀ (m : (ℓ : Loc Cert.DoutIdeal.nD Cert.DoutIdeal.τ Cert.DoutIdeal.sig) → Buf (Elt Ideal) ℓ) (g : Dev Cert.DoutIdeal.nD → PrngReg)
    (m' : (ℓ : Loc Cert.DoutRefIdeal.nD Cert.DoutRefIdeal.τ Cert.DoutRefIdeal.sig) → Buf (Elt Ideal) ℓ) (g' : Dev Cert.DoutRefIdeal.nD → PrngReg), Pre_DoutIdeal m →
    (∀ c : Dev Cert.DoutIdeal.nD,
      m' ((c.tc : Thread Cert.DoutRefIdeal.nD Cert.DoutRefIdeal.τ).loc Cert.DoutRefIdeal.main_arg0) = m ((c.tc : Thread Cert.DoutIdeal.nD Cert.DoutIdeal.τ).loc Cert.DoutIdeal.main_arg0)
      ∧ m' ((c.tc : Thread Cert.DoutRefIdeal.nD Cert.DoutRefIdeal.τ).loc Cert.DoutRefIdeal.main_arg1) = m ((c.tc : Thread Cert.DoutIdeal.nD Cert.DoutIdeal.τ).loc Cert.DoutIdeal.main_arg1)) →
    ∃ (v0 : (c : Dev Cert.DoutIdeal.nD) → Buf (Elt Ideal) ((c.tc : Thread Cert.DoutIdeal.nD Cert.DoutIdeal.τ).loc Cert.DoutIdeal.main_v1)),
      θ_run (Cert.DoutIdeal.defs (F := Ideal)) (onTc (τ := Cert.DoutIdeal.τ) (Cert.DoutIdeal.main (F := Ideal))) ⟨m, fun _ => 0, g⟩ (fun r => ∀ c : Dev Cert.DoutIdeal.nD,
          r.2.mem ((c.tc : Thread Cert.DoutIdeal.nD Cert.DoutIdeal.τ).loc Cert.DoutIdeal.main_v1) = v0 c
          ∧ r.2.mem ((c.tc : Thread Cert.DoutIdeal.nD Cert.DoutIdeal.τ).loc Cert.DoutIdeal.main_arg0) = m ((c.tc : Thread Cert.DoutIdeal.nD Cert.DoutIdeal.τ).loc Cert.DoutIdeal.main_arg0)
          ∧ r.2.mem ((c.tc : Thread Cert.DoutIdeal.nD Cert.DoutIdeal.τ).loc Cert.DoutIdeal.main_arg1) = m ((c.tc : Thread Cert.DoutIdeal.nD Cert.DoutIdeal.τ).loc Cert.DoutIdeal.main_arg1))
      ∧ θ_run (Cert.DoutRefIdeal.defs (F := Ideal)) (onTc (τ := Cert.DoutRefIdeal.τ) (Cert.DoutRefIdeal.main (F := Ideal))) ⟨m', fun _ => 0, g'⟩ (fun r => ∀ c : Dev Cert.DoutRefIdeal.nD,
          r.2.mem ((c.tc : Thread Cert.DoutRefIdeal.nD Cert.DoutRefIdeal.τ).loc Cert.DoutRefIdeal.main_v3) = v0 c
          ∧ r.2.mem ((c.tc : Thread Cert.DoutRefIdeal.nD Cert.DoutRefIdeal.τ).loc Cert.DoutRefIdeal.main_arg0) = m' ((c.tc : Thread Cert.DoutRefIdeal.nD Cert.DoutRefIdeal.τ).loc Cert.DoutRefIdeal.main_arg0)
          ∧ r.2.mem ((c.tc : Thread Cert.DoutRefIdeal.nD Cert.DoutRefIdeal.τ).loc Cert.DoutRefIdeal.main_arg1) = m' ((c.tc : Thread Cert.DoutRefIdeal.nD Cert.DoutRefIdeal.τ).loc Cert.DoutRefIdeal.main_arg1))

def preserves_Gout_GoutIdeal : Prop :=
  True

def algebraic_GoutIdeal_GoutRefIdeal [hGoutIdeal : Cert.GoutIdeal.Facts] [hGoutRefIdeal : Cert.GoutRefIdeal.Facts] : Prop :=
  ∀ (m : (ℓ : Loc Cert.GoutIdeal.nD Cert.GoutIdeal.τ Cert.GoutIdeal.sig) → Buf (Elt Ideal) ℓ) (g : Dev Cert.GoutIdeal.nD → PrngReg)
    (m' : (ℓ : Loc Cert.GoutRefIdeal.nD Cert.GoutRefIdeal.τ Cert.GoutRefIdeal.sig) → Buf (Elt Ideal) ℓ) (g' : Dev Cert.GoutRefIdeal.nD → PrngReg), Pre_GoutIdeal m →
    (∀ c : Dev Cert.GoutIdeal.nD,
      m' ((c.tc : Thread Cert.GoutRefIdeal.nD Cert.GoutRefIdeal.τ).loc Cert.GoutRefIdeal.main_arg0) = m ((c.tc : Thread Cert.GoutIdeal.nD Cert.GoutIdeal.τ).loc Cert.GoutIdeal.main_arg0)
      ∧ m' ((c.tc : Thread Cert.GoutRefIdeal.nD Cert.GoutRefIdeal.τ).loc Cert.GoutRefIdeal.main_arg1) = m ((c.tc : Thread Cert.GoutIdeal.nD Cert.GoutIdeal.τ).loc Cert.GoutIdeal.main_arg1)) →
    ∃ (v0 : (c : Dev Cert.GoutIdeal.nD) → Buf (Elt Ideal) ((c.tc : Thread Cert.GoutIdeal.nD Cert.GoutIdeal.τ).loc Cert.GoutIdeal.main_v0)),
      θ_run (Cert.GoutIdeal.defs (F := Ideal)) (onTc (τ := Cert.GoutIdeal.τ) (Cert.GoutIdeal.main (F := Ideal))) ⟨m, fun _ => 0, g⟩ (fun r => ∀ c : Dev Cert.GoutIdeal.nD,
          r.2.mem ((c.tc : Thread Cert.GoutIdeal.nD Cert.GoutIdeal.τ).loc Cert.GoutIdeal.main_v0) = v0 c
          ∧ r.2.mem ((c.tc : Thread Cert.GoutIdeal.nD Cert.GoutIdeal.τ).loc Cert.GoutIdeal.main_arg0) = m ((c.tc : Thread Cert.GoutIdeal.nD Cert.GoutIdeal.τ).loc Cert.GoutIdeal.main_arg0)
          ∧ r.2.mem ((c.tc : Thread Cert.GoutIdeal.nD Cert.GoutIdeal.τ).loc Cert.GoutIdeal.main_arg1) = m ((c.tc : Thread Cert.GoutIdeal.nD Cert.GoutIdeal.τ).loc Cert.GoutIdeal.main_arg1))
      ∧ θ_run (Cert.GoutRefIdeal.defs (F := Ideal)) (onTc (τ := Cert.GoutRefIdeal.τ) (Cert.GoutRefIdeal.main (F := Ideal))) ⟨m', fun _ => 0, g'⟩ (fun r => ∀ c : Dev Cert.GoutRefIdeal.nD,
          r.2.mem ((c.tc : Thread Cert.GoutRefIdeal.nD Cert.GoutRefIdeal.τ).loc Cert.GoutRefIdeal.main_v4) = v0 c
          ∧ r.2.mem ((c.tc : Thread Cert.GoutRefIdeal.nD Cert.GoutRefIdeal.τ).loc Cert.GoutRefIdeal.main_arg0) = m' ((c.tc : Thread Cert.GoutRefIdeal.nD Cert.GoutRefIdeal.τ).loc Cert.GoutRefIdeal.main_arg0)
          ∧ r.2.mem ((c.tc : Thread Cert.GoutRefIdeal.nD Cert.GoutRefIdeal.τ).loc Cert.GoutRefIdeal.main_arg1) = m' ((c.tc : Thread Cert.GoutRefIdeal.nD Cert.GoutRefIdeal.τ).loc Cert.GoutRefIdeal.main_arg1))

def preserves_Dq_DqIdeal : Prop :=
  True

def algebraic_DqIdeal_DqRefIdeal [hDqIdeal : Cert.DqIdeal.Facts] [hDqRefIdeal : Cert.DqRefIdeal.Facts] : Prop :=
  ∀ (m : (ℓ : Loc Cert.DqIdeal.nD Cert.DqIdeal.τ Cert.DqIdeal.sig) → Buf (Elt Ideal) ℓ) (g : Dev Cert.DqIdeal.nD → PrngReg)
    (m' : (ℓ : Loc Cert.DqRefIdeal.nD Cert.DqRefIdeal.τ Cert.DqRefIdeal.sig) → Buf (Elt Ideal) ℓ) (g' : Dev Cert.DqRefIdeal.nD → PrngReg), Pre_DqIdeal m →
    (∀ c : Dev Cert.DqIdeal.nD,
      m' ((c.tc : Thread Cert.DqRefIdeal.nD Cert.DqRefIdeal.τ).loc Cert.DqRefIdeal.main_arg0) = m ((c.tc : Thread Cert.DqIdeal.nD Cert.DqIdeal.τ).loc Cert.DqIdeal.main_arg0)
      ∧ m' ((c.tc : Thread Cert.DqRefIdeal.nD Cert.DqRefIdeal.τ).loc Cert.DqRefIdeal.main_arg1) = m ((c.tc : Thread Cert.DqIdeal.nD Cert.DqIdeal.τ).loc Cert.DqIdeal.main_arg1)) →
    ∃ (v0 : (c : Dev Cert.DqIdeal.nD) → Buf (Elt Ideal) ((c.tc : Thread Cert.DqIdeal.nD Cert.DqIdeal.τ).loc Cert.DqIdeal.main_v1)),
      θ_run (Cert.DqIdeal.defs (F := Ideal)) (onTc (τ := Cert.DqIdeal.τ) (Cert.DqIdeal.main (F := Ideal))) ⟨m, fun _ => 0, g⟩ (fun r => ∀ c : Dev Cert.DqIdeal.nD,
          r.2.mem ((c.tc : Thread Cert.DqIdeal.nD Cert.DqIdeal.τ).loc Cert.DqIdeal.main_v1) = v0 c
          ∧ r.2.mem ((c.tc : Thread Cert.DqIdeal.nD Cert.DqIdeal.τ).loc Cert.DqIdeal.main_arg0) = m ((c.tc : Thread Cert.DqIdeal.nD Cert.DqIdeal.τ).loc Cert.DqIdeal.main_arg0)
          ∧ r.2.mem ((c.tc : Thread Cert.DqIdeal.nD Cert.DqIdeal.τ).loc Cert.DqIdeal.main_arg1) = m ((c.tc : Thread Cert.DqIdeal.nD Cert.DqIdeal.τ).loc Cert.DqIdeal.main_arg1))
      ∧ θ_run (Cert.DqRefIdeal.defs (F := Ideal)) (onTc (τ := Cert.DqRefIdeal.τ) (Cert.DqRefIdeal.main (F := Ideal))) ⟨m', fun _ => 0, g'⟩ (fun r => ∀ c : Dev Cert.DqRefIdeal.nD,
          r.2.mem ((c.tc : Thread Cert.DqRefIdeal.nD Cert.DqRefIdeal.τ).loc Cert.DqRefIdeal.main_v4) = v0 c
          ∧ r.2.mem ((c.tc : Thread Cert.DqRefIdeal.nD Cert.DqRefIdeal.τ).loc Cert.DqRefIdeal.main_arg0) = m' ((c.tc : Thread Cert.DqRefIdeal.nD Cert.DqRefIdeal.τ).loc Cert.DqRefIdeal.main_arg0)
          ∧ r.2.mem ((c.tc : Thread Cert.DqRefIdeal.nD Cert.DqRefIdeal.τ).loc Cert.DqRefIdeal.main_arg1) = m' ((c.tc : Thread Cert.DqRefIdeal.nD Cert.DqRefIdeal.τ).loc Cert.DqRefIdeal.main_arg1))

def preserves_Gq_GqIdeal : Prop :=
  True

def algebraic_GqIdeal_GqRefIdeal [hGqIdeal : Cert.GqIdeal.Facts] [hGqRefIdeal : Cert.GqRefIdeal.Facts] : Prop :=
  ∀ (m : (ℓ : Loc Cert.GqIdeal.nD Cert.GqIdeal.τ Cert.GqIdeal.sig) → Buf (Elt Ideal) ℓ) (g : Dev Cert.GqIdeal.nD → PrngReg)
    (m' : (ℓ : Loc Cert.GqRefIdeal.nD Cert.GqRefIdeal.τ Cert.GqRefIdeal.sig) → Buf (Elt Ideal) ℓ) (g' : Dev Cert.GqRefIdeal.nD → PrngReg), Pre_GqIdeal m →
    (∀ c : Dev Cert.GqIdeal.nD,
      m' ((c.tc : Thread Cert.GqRefIdeal.nD Cert.GqRefIdeal.τ).loc Cert.GqRefIdeal.main_arg0) = m ((c.tc : Thread Cert.GqIdeal.nD Cert.GqIdeal.τ).loc Cert.GqIdeal.main_arg0)
      ∧ m' ((c.tc : Thread Cert.GqRefIdeal.nD Cert.GqRefIdeal.τ).loc Cert.GqRefIdeal.main_arg1) = m ((c.tc : Thread Cert.GqIdeal.nD Cert.GqIdeal.τ).loc Cert.GqIdeal.main_arg1)) →
    ∃ (v0 : (c : Dev Cert.GqIdeal.nD) → Buf (Elt Ideal) ((c.tc : Thread Cert.GqIdeal.nD Cert.GqIdeal.τ).loc Cert.GqIdeal.main_v0)),
      θ_run (Cert.GqIdeal.defs (F := Ideal)) (onTc (τ := Cert.GqIdeal.τ) (Cert.GqIdeal.main (F := Ideal))) ⟨m, fun _ => 0, g⟩ (fun r => ∀ c : Dev Cert.GqIdeal.nD,
          r.2.mem ((c.tc : Thread Cert.GqIdeal.nD Cert.GqIdeal.τ).loc Cert.GqIdeal.main_v0) = v0 c
          ∧ r.2.mem ((c.tc : Thread Cert.GqIdeal.nD Cert.GqIdeal.τ).loc Cert.GqIdeal.main_arg0) = m ((c.tc : Thread Cert.GqIdeal.nD Cert.GqIdeal.τ).loc Cert.GqIdeal.main_arg0)
          ∧ r.2.mem ((c.tc : Thread Cert.GqIdeal.nD Cert.GqIdeal.τ).loc Cert.GqIdeal.main_arg1) = m ((c.tc : Thread Cert.GqIdeal.nD Cert.GqIdeal.τ).loc Cert.GqIdeal.main_arg1))
      ∧ θ_run (Cert.GqRefIdeal.defs (F := Ideal)) (onTc (τ := Cert.GqRefIdeal.τ) (Cert.GqRefIdeal.main (F := Ideal))) ⟨m', fun _ => 0, g'⟩ (fun r => ∀ c : Dev Cert.GqRefIdeal.nD,
          r.2.mem ((c.tc : Thread Cert.GqRefIdeal.nD Cert.GqRefIdeal.τ).loc Cert.GqRefIdeal.main_v5) = v0 c
          ∧ r.2.mem ((c.tc : Thread Cert.GqRefIdeal.nD Cert.GqRefIdeal.τ).loc Cert.GqRefIdeal.main_arg0) = m' ((c.tc : Thread Cert.GqRefIdeal.nD Cert.GqRefIdeal.τ).loc Cert.GqRefIdeal.main_arg0)
          ∧ r.2.mem ((c.tc : Thread Cert.GqRefIdeal.nD Cert.GqRefIdeal.τ).loc Cert.GqRefIdeal.main_arg1) = m' ((c.tc : Thread Cert.GqRefIdeal.nD Cert.GqRefIdeal.τ).loc Cert.GqRefIdeal.main_arg1))

def preserves_Dkv_DkvIdeal : Prop :=
  True

def algebraic_DkvIdeal_DkvRefIdeal [hDkvIdeal : Cert.DkvIdeal.Facts] [hDkvRefIdeal : Cert.DkvRefIdeal.Facts] : Prop :=
  ∀ (m : (ℓ : Loc Cert.DkvIdeal.nD Cert.DkvIdeal.τ Cert.DkvIdeal.sig) → Buf (Elt Ideal) ℓ) (g : Dev Cert.DkvIdeal.nD → PrngReg)
    (m' : (ℓ : Loc Cert.DkvRefIdeal.nD Cert.DkvRefIdeal.τ Cert.DkvRefIdeal.sig) → Buf (Elt Ideal) ℓ) (g' : Dev Cert.DkvRefIdeal.nD → PrngReg), Pre_DkvIdeal m →
    (∀ c : Dev Cert.DkvIdeal.nD,
      m' ((c.tc : Thread Cert.DkvRefIdeal.nD Cert.DkvRefIdeal.τ).loc Cert.DkvRefIdeal.main_arg0) = m ((c.tc : Thread Cert.DkvIdeal.nD Cert.DkvIdeal.τ).loc Cert.DkvIdeal.main_arg0)
      ∧ m' ((c.tc : Thread Cert.DkvRefIdeal.nD Cert.DkvRefIdeal.τ).loc Cert.DkvRefIdeal.main_arg1) = m ((c.tc : Thread Cert.DkvIdeal.nD Cert.DkvIdeal.τ).loc Cert.DkvIdeal.main_arg1)) →
    ∃ (v0 : (c : Dev Cert.DkvIdeal.nD) → Buf (Elt Ideal) ((c.tc : Thread Cert.DkvIdeal.nD Cert.DkvIdeal.τ).loc Cert.DkvIdeal.main_v1)),
      θ_run (Cert.DkvIdeal.defs (F := Ideal)) (onTc (τ := Cert.DkvIdeal.τ) (Cert.DkvIdeal.main (F := Ideal))) ⟨m, fun _ => 0, g⟩ (fun r => ∀ c : Dev Cert.DkvIdeal.nD,
          r.2.mem ((c.tc : Thread Cert.DkvIdeal.nD Cert.DkvIdeal.τ).loc Cert.DkvIdeal.main_v1) = v0 c
          ∧ r.2.mem ((c.tc : Thread Cert.DkvIdeal.nD Cert.DkvIdeal.τ).loc Cert.DkvIdeal.main_arg0) = m ((c.tc : Thread Cert.DkvIdeal.nD Cert.DkvIdeal.τ).loc Cert.DkvIdeal.main_arg0)
          ∧ r.2.mem ((c.tc : Thread Cert.DkvIdeal.nD Cert.DkvIdeal.τ).loc Cert.DkvIdeal.main_arg1) = m ((c.tc : Thread Cert.DkvIdeal.nD Cert.DkvIdeal.τ).loc Cert.DkvIdeal.main_arg1))
      ∧ θ_run (Cert.DkvRefIdeal.defs (F := Ideal)) (onTc (τ := Cert.DkvRefIdeal.τ) (Cert.DkvRefIdeal.main (F := Ideal))) ⟨m', fun _ => 0, g'⟩ (fun r => ∀ c : Dev Cert.DkvRefIdeal.nD,
          r.2.mem ((c.tc : Thread Cert.DkvRefIdeal.nD Cert.DkvRefIdeal.τ).loc Cert.DkvRefIdeal.main_v4) = v0 c
          ∧ r.2.mem ((c.tc : Thread Cert.DkvRefIdeal.nD Cert.DkvRefIdeal.τ).loc Cert.DkvRefIdeal.main_arg0) = m' ((c.tc : Thread Cert.DkvRefIdeal.nD Cert.DkvRefIdeal.τ).loc Cert.DkvRefIdeal.main_arg0)
          ∧ r.2.mem ((c.tc : Thread Cert.DkvRefIdeal.nD Cert.DkvRefIdeal.τ).loc Cert.DkvRefIdeal.main_arg1) = m' ((c.tc : Thread Cert.DkvRefIdeal.nD Cert.DkvRefIdeal.τ).loc Cert.DkvRefIdeal.main_arg1))

def preserves_Gkv_GkvIdeal : Prop :=
  True

def algebraic_GkvIdeal_GkvRefIdeal [hGkvIdeal : Cert.GkvIdeal.Facts] [hGkvRefIdeal : Cert.GkvRefIdeal.Facts] : Prop :=
  ∀ (m : (ℓ : Loc Cert.GkvIdeal.nD Cert.GkvIdeal.τ Cert.GkvIdeal.sig) → Buf (Elt Ideal) ℓ) (g : Dev Cert.GkvIdeal.nD → PrngReg)
    (m' : (ℓ : Loc Cert.GkvRefIdeal.nD Cert.GkvRefIdeal.τ Cert.GkvRefIdeal.sig) → Buf (Elt Ideal) ℓ) (g' : Dev Cert.GkvRefIdeal.nD → PrngReg), Pre_GkvIdeal m →
    (∀ c : Dev Cert.GkvIdeal.nD,
      m' ((c.tc : Thread Cert.GkvRefIdeal.nD Cert.GkvRefIdeal.τ).loc Cert.GkvRefIdeal.main_arg0) = m ((c.tc : Thread Cert.GkvIdeal.nD Cert.GkvIdeal.τ).loc Cert.GkvIdeal.main_arg0)
      ∧ m' ((c.tc : Thread Cert.GkvRefIdeal.nD Cert.GkvRefIdeal.τ).loc Cert.GkvRefIdeal.main_arg1) = m ((c.tc : Thread Cert.GkvIdeal.nD Cert.GkvIdeal.τ).loc Cert.GkvIdeal.main_arg1)) →
    ∃ (v0 : (c : Dev Cert.GkvIdeal.nD) → Buf (Elt Ideal) ((c.tc : Thread Cert.GkvIdeal.nD Cert.GkvIdeal.τ).loc Cert.GkvIdeal.main_v0)),
      θ_run (Cert.GkvIdeal.defs (F := Ideal)) (onTc (τ := Cert.GkvIdeal.τ) (Cert.GkvIdeal.main (F := Ideal))) ⟨m, fun _ => 0, g⟩ (fun r => ∀ c : Dev Cert.GkvIdeal.nD,
          r.2.mem ((c.tc : Thread Cert.GkvIdeal.nD Cert.GkvIdeal.τ).loc Cert.GkvIdeal.main_v0) = v0 c
          ∧ r.2.mem ((c.tc : Thread Cert.GkvIdeal.nD Cert.GkvIdeal.τ).loc Cert.GkvIdeal.main_arg0) = m ((c.tc : Thread Cert.GkvIdeal.nD Cert.GkvIdeal.τ).loc Cert.GkvIdeal.main_arg0)
          ∧ r.2.mem ((c.tc : Thread Cert.GkvIdeal.nD Cert.GkvIdeal.τ).loc Cert.GkvIdeal.main_arg1) = m ((c.tc : Thread Cert.GkvIdeal.nD Cert.GkvIdeal.τ).loc Cert.GkvIdeal.main_arg1))
      ∧ θ_run (Cert.GkvRefIdeal.defs (F := Ideal)) (onTc (τ := Cert.GkvRefIdeal.τ) (Cert.GkvRefIdeal.main (F := Ideal))) ⟨m', fun _ => 0, g'⟩ (fun r => ∀ c : Dev Cert.GkvRefIdeal.nD,
          r.2.mem ((c.tc : Thread Cert.GkvRefIdeal.nD Cert.GkvRefIdeal.τ).loc Cert.GkvRefIdeal.main_v5) = v0 c
          ∧ r.2.mem ((c.tc : Thread Cert.GkvRefIdeal.nD Cert.GkvRefIdeal.τ).loc Cert.GkvRefIdeal.main_arg0) = m' ((c.tc : Thread Cert.GkvRefIdeal.nD Cert.GkvRefIdeal.τ).loc Cert.GkvRefIdeal.main_arg0)
          ∧ r.2.mem ((c.tc : Thread Cert.GkvRefIdeal.nD Cert.GkvRefIdeal.τ).loc Cert.GkvRefIdeal.main_arg1) = m' ((c.tc : Thread Cert.GkvRefIdeal.nD Cert.GkvRefIdeal.τ).loc Cert.GkvRefIdeal.main_arg1))

def preserves_Attn_AttnIdeal : Prop :=
  True

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v73_0)) (v1 : (c : Dev Cert.AttnIdeal.nD) → Buf (Elt Ideal) ((c.tc : Thread Cert.AttnIdeal.nD Cert.AttnIdeal.τ).loc Cert.AttnIdeal.main_v73_1)) (v2 : (c : Dev Cert.AttnIdeal.nD) → Buf (Elt Ideal) ((c.tc : Thread Cert.AttnIdeal.nD Cert.AttnIdeal.τ).loc Cert.AttnIdeal.main_v73_2)) (v3 : (c : Dev Cert.AttnIdeal.nD) → Buf (Elt Ideal) ((c.tc : Thread Cert.AttnIdeal.nD Cert.AttnIdeal.τ).loc Cert.AttnIdeal.main_v73_3)) (v4 : (c : Dev Cert.AttnIdeal.nD) → Buf (Elt Ideal) ((c.tc : Thread Cert.AttnIdeal.nD Cert.AttnIdeal.τ).loc Cert.AttnIdeal.main_v73_4)) (v5 : (c : Dev Cert.AttnIdeal.nD) → Buf (Elt Ideal) ((c.tc : Thread Cert.AttnIdeal.nD Cert.AttnIdeal.τ).loc Cert.AttnIdeal.main_v73_5)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v73_0) = v0 c
          ∧ r.2.mem ((c.tc : Thread Cert.AttnIdeal.nD Cert.AttnIdeal.τ).loc Cert.AttnIdeal.main_v73_1) = v1 c
          ∧ r.2.mem ((c.tc : Thread Cert.AttnIdeal.nD Cert.AttnIdeal.τ).loc Cert.AttnIdeal.main_v73_2) = v2 c
          ∧ r.2.mem ((c.tc : Thread Cert.AttnIdeal.nD Cert.AttnIdeal.τ).loc Cert.AttnIdeal.main_v73_3) = v3 c
          ∧ r.2.mem ((c.tc : Thread Cert.AttnIdeal.nD Cert.AttnIdeal.τ).loc Cert.AttnIdeal.main_v73_4) = v4 c
          ∧ r.2.mem ((c.tc : Thread Cert.AttnIdeal.nD Cert.AttnIdeal.τ).loc Cert.AttnIdeal.main_v73_5) = v5 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v111) = v0 c
          ∧ r.2.mem ((c.tc : Thread Cert.AttnRefIdeal.nD Cert.AttnRefIdeal.τ).loc Cert.AttnRefIdeal.main_v115) = v1 c
          ∧ r.2.mem ((c.tc : Thread Cert.AttnRefIdeal.nD Cert.AttnRefIdeal.τ).loc Cert.AttnRefIdeal.main_v113) = v2 c
          ∧ r.2.mem ((c.tc : Thread Cert.AttnRefIdeal.nD Cert.AttnRefIdeal.τ).loc Cert.AttnRefIdeal.main_v119) = v3 c
          ∧ r.2.mem ((c.tc : Thread Cert.AttnRefIdeal.nD Cert.AttnRefIdeal.τ).loc Cert.AttnRefIdeal.main_v117) = v4 c
          ∧ r.2.mem ((c.tc : Thread Cert.AttnRefIdeal.nD Cert.AttnRefIdeal.τ).loc Cert.AttnRefIdeal.main_v99) = v5 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_Din_DinIdeal : Prop :=
  True

def algebraic_DinIdeal_DinRefIdeal [hDinIdeal : Cert.DinIdeal.Facts] [hDinRefIdeal : Cert.DinRefIdeal.Facts] : Prop :=
  ∀ (m : (ℓ : Loc Cert.DinIdeal.nD Cert.DinIdeal.τ Cert.DinIdeal.sig) → Buf (Elt Ideal) ℓ) (g : Dev Cert.DinIdeal.nD → PrngReg)
    (m' : (ℓ : Loc Cert.DinRefIdeal.nD Cert.DinRefIdeal.τ Cert.DinRefIdeal.sig) → Buf (Elt Ideal) ℓ) (g' : Dev Cert.DinRefIdeal.nD → PrngReg), Pre_DinIdeal m →
    (∀ c : Dev Cert.DinIdeal.nD,
      m' ((c.tc : Thread Cert.DinRefIdeal.nD Cert.DinRefIdeal.τ).loc Cert.DinRefIdeal.main_arg0) = m ((c.tc : Thread Cert.DinIdeal.nD Cert.DinIdeal.τ).loc Cert.DinIdeal.main_arg0)
      ∧ m' ((c.tc : Thread Cert.DinRefIdeal.nD Cert.DinRefIdeal.τ).loc Cert.DinRefIdeal.main_arg1) = m ((c.tc : Thread Cert.DinIdeal.nD Cert.DinIdeal.τ).loc Cert.DinIdeal.main_arg1)) →
    ∃ (v0 : (c : Dev Cert.DinIdeal.nD) → Buf (Elt Ideal) ((c.tc : Thread Cert.DinIdeal.nD Cert.DinIdeal.τ).loc Cert.DinIdeal.main_v2)),
      θ_run (Cert.DinIdeal.defs (F := Ideal)) (onTc (τ := Cert.DinIdeal.τ) (Cert.DinIdeal.main (F := Ideal))) ⟨m, fun _ => 0, g⟩ (fun r => ∀ c : Dev Cert.DinIdeal.nD,
          r.2.mem ((c.tc : Thread Cert.DinIdeal.nD Cert.DinIdeal.τ).loc Cert.DinIdeal.main_v2) = v0 c
          ∧ r.2.mem ((c.tc : Thread Cert.DinIdeal.nD Cert.DinIdeal.τ).loc Cert.DinIdeal.main_arg0) = m ((c.tc : Thread Cert.DinIdeal.nD Cert.DinIdeal.τ).loc Cert.DinIdeal.main_arg0)
          ∧ r.2.mem ((c.tc : Thread Cert.DinIdeal.nD Cert.DinIdeal.τ).loc Cert.DinIdeal.main_arg1) = m ((c.tc : Thread Cert.DinIdeal.nD Cert.DinIdeal.τ).loc Cert.DinIdeal.main_arg1))
      ∧ θ_run (Cert.DinRefIdeal.defs (F := Ideal)) (onTc (τ := Cert.DinRefIdeal.τ) (Cert.DinRefIdeal.main (F := Ideal))) ⟨m', fun _ => 0, g'⟩ (fun r => ∀ c : Dev Cert.DinRefIdeal.nD,
          r.2.mem ((c.tc : Thread Cert.DinRefIdeal.nD Cert.DinRefIdeal.τ).loc Cert.DinRefIdeal.main_v5) = v0 c
          ∧ r.2.mem ((c.tc : Thread Cert.DinRefIdeal.nD Cert.DinRefIdeal.τ).loc Cert.DinRefIdeal.main_arg0) = m' ((c.tc : Thread Cert.DinRefIdeal.nD Cert.DinRefIdeal.τ).loc Cert.DinRefIdeal.main_arg0)
          ∧ r.2.mem ((c.tc : Thread Cert.DinRefIdeal.nD Cert.DinRefIdeal.τ).loc Cert.DinRefIdeal.main_arg1) = m' ((c.tc : Thread Cert.DinRefIdeal.nD Cert.DinRefIdeal.τ).loc Cert.DinRefIdeal.main_arg1))

def preserves_Gin_GinIdeal : Prop :=
  True

def algebraic_GinIdeal_GinRefIdeal [hGinIdeal : Cert.GinIdeal.Facts] [hGinRefIdeal : Cert.GinRefIdeal.Facts] : Prop :=
  ∀ (m : (ℓ : Loc Cert.GinIdeal.nD Cert.GinIdeal.τ Cert.GinIdeal.sig) → Buf (Elt Ideal) ℓ) (g : Dev Cert.GinIdeal.nD → PrngReg)
    (m' : (ℓ : Loc Cert.GinRefIdeal.nD Cert.GinRefIdeal.τ Cert.GinRefIdeal.sig) → Buf (Elt Ideal) ℓ) (g' : Dev Cert.GinRefIdeal.nD → PrngReg), Pre_GinIdeal m →
    (∀ c : Dev Cert.GinIdeal.nD,
      m' ((c.tc : Thread Cert.GinRefIdeal.nD Cert.GinRefIdeal.τ).loc Cert.GinRefIdeal.main_arg0) = m ((c.tc : Thread Cert.GinIdeal.nD Cert.GinIdeal.τ).loc Cert.GinIdeal.main_arg0)
      ∧ m' ((c.tc : Thread Cert.GinRefIdeal.nD Cert.GinRefIdeal.τ).loc Cert.GinRefIdeal.main_arg1) = m ((c.tc : Thread Cert.GinIdeal.nD Cert.GinIdeal.τ).loc Cert.GinIdeal.main_arg1)) →
    ∃ (v0 : (c : Dev Cert.GinIdeal.nD) → Buf (Elt Ideal) ((c.tc : Thread Cert.GinIdeal.nD Cert.GinIdeal.τ).loc Cert.GinIdeal.main_v1)),
      θ_run (Cert.GinIdeal.defs (F := Ideal)) (onTc (τ := Cert.GinIdeal.τ) (Cert.GinIdeal.main (F := Ideal))) ⟨m, fun _ => 0, g⟩ (fun r => ∀ c : Dev Cert.GinIdeal.nD,
          r.2.mem ((c.tc : Thread Cert.GinIdeal.nD Cert.GinIdeal.τ).loc Cert.GinIdeal.main_v1) = v0 c
          ∧ r.2.mem ((c.tc : Thread Cert.GinIdeal.nD Cert.GinIdeal.τ).loc Cert.GinIdeal.main_arg0) = m ((c.tc : Thread Cert.GinIdeal.nD Cert.GinIdeal.τ).loc Cert.GinIdeal.main_arg0)
          ∧ r.2.mem ((c.tc : Thread Cert.GinIdeal.nD Cert.GinIdeal.τ).loc Cert.GinIdeal.main_arg1) = m ((c.tc : Thread Cert.GinIdeal.nD Cert.GinIdeal.τ).loc Cert.GinIdeal.main_arg1))
      ∧ θ_run (Cert.GinRefIdeal.defs (F := Ideal)) (onTc (τ := Cert.GinRefIdeal.τ) (Cert.GinRefIdeal.main (F := Ideal))) ⟨m', fun _ => 0, g'⟩ (fun r => ∀ c : Dev Cert.GinRefIdeal.nD,
          r.2.mem ((c.tc : Thread Cert.GinRefIdeal.nD Cert.GinRefIdeal.τ).loc Cert.GinRefIdeal.main_v6) = v0 c
          ∧ r.2.mem ((c.tc : Thread Cert.GinRefIdeal.nD Cert.GinRefIdeal.τ).loc Cert.GinRefIdeal.main_arg0) = m' ((c.tc : Thread Cert.GinRefIdeal.nD Cert.GinRefIdeal.τ).loc Cert.GinRefIdeal.main_arg0)
          ∧ r.2.mem ((c.tc : Thread Cert.GinRefIdeal.nD Cert.GinRefIdeal.τ).loc Cert.GinRefIdeal.main_arg1) = m' ((c.tc : Thread Cert.GinRefIdeal.nD Cert.GinRefIdeal.τ).loc Cert.GinRefIdeal.main_arg1))

def preserves_Ain_AinIdeal : Prop :=
  True

def algebraic_AinIdeal_AinRefIdeal [hAinIdeal : Cert.AinIdeal.Facts] [hAinRefIdeal : Cert.AinRefIdeal.Facts] : Prop :=
  ∀ (m : (ℓ : Loc Cert.AinIdeal.nD Cert.AinIdeal.τ Cert.AinIdeal.sig) → Buf (Elt Ideal) ℓ) (g : Dev Cert.AinIdeal.nD → PrngReg)
    (m' : (ℓ : Loc Cert.AinRefIdeal.nD Cert.AinRefIdeal.τ Cert.AinRefIdeal.sig) → Buf (Elt Ideal) ℓ) (g' : Dev Cert.AinRefIdeal.nD → PrngReg), Pre_AinIdeal m →
    (∀ c : Dev Cert.AinIdeal.nD,
      m' ((c.tc : Thread Cert.AinRefIdeal.nD Cert.AinRefIdeal.τ).loc Cert.AinRefIdeal.main_arg0) = m ((c.tc : Thread Cert.AinIdeal.nD Cert.AinIdeal.τ).loc Cert.AinIdeal.main_arg0)
      ∧ m' ((c.tc : Thread Cert.AinRefIdeal.nD Cert.AinRefIdeal.τ).loc Cert.AinRefIdeal.main_arg1) = m ((c.tc : Thread Cert.AinIdeal.nD Cert.AinIdeal.τ).loc Cert.AinIdeal.main_arg1)) →
    ∃ (v0 : (c : Dev Cert.AinIdeal.nD) → Buf (Elt Ideal) ((c.tc : Thread Cert.AinIdeal.nD Cert.AinIdeal.τ).loc Cert.AinIdeal.main_v1)),
      θ_run (Cert.AinIdeal.defs (F := Ideal)) (onTc (τ := Cert.AinIdeal.τ) (Cert.AinIdeal.main (F := Ideal))) ⟨m, fun _ => 0, g⟩ (fun r => ∀ c : Dev Cert.AinIdeal.nD,
          r.2.mem ((c.tc : Thread Cert.AinIdeal.nD Cert.AinIdeal.τ).loc Cert.AinIdeal.main_v1) = v0 c
          ∧ r.2.mem ((c.tc : Thread Cert.AinIdeal.nD Cert.AinIdeal.τ).loc Cert.AinIdeal.main_arg0) = m ((c.tc : Thread Cert.AinIdeal.nD Cert.AinIdeal.τ).loc Cert.AinIdeal.main_arg0)
          ∧ r.2.mem ((c.tc : Thread Cert.AinIdeal.nD Cert.AinIdeal.τ).loc Cert.AinIdeal.main_arg1) = m ((c.tc : Thread Cert.AinIdeal.nD Cert.AinIdeal.τ).loc Cert.AinIdeal.main_arg1))
      ∧ θ_run (Cert.AinRefIdeal.defs (F := Ideal)) (onTc (τ := Cert.AinRefIdeal.τ) (Cert.AinRefIdeal.main (F := Ideal))) ⟨m', fun _ => 0, g'⟩ (fun r => ∀ c : Dev Cert.AinRefIdeal.nD,
          r.2.mem ((c.tc : Thread Cert.AinRefIdeal.nD Cert.AinRefIdeal.τ).loc Cert.AinRefIdeal.main_v3) = v0 c
          ∧ r.2.mem ((c.tc : Thread Cert.AinRefIdeal.nD Cert.AinRefIdeal.τ).loc Cert.AinRefIdeal.main_arg0) = m' ((c.tc : Thread Cert.AinRefIdeal.nD Cert.AinRefIdeal.τ).loc Cert.AinRefIdeal.main_arg0)
          ∧ r.2.mem ((c.tc : Thread Cert.AinRefIdeal.nD Cert.AinRefIdeal.τ).loc Cert.AinRefIdeal.main_arg1) = m' ((c.tc : Thread Cert.AinRefIdeal.nD Cert.AinRefIdeal.τ).loc Cert.AinRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_View0_View0Ideal : Prop :=
  True

def algebraic_View0Ideal_View0RefIdeal [hView0Ideal : Cert.View0Ideal.Facts] [hView0RefIdeal : Cert.View0RefIdeal.Facts] : Prop :=
  ∀ (m : (ℓ : Loc Cert.View0Ideal.nD Cert.View0Ideal.τ Cert.View0Ideal.sig) → Buf (Elt Ideal) ℓ) (g : Dev Cert.View0Ideal.nD → PrngReg)
    (m' : (ℓ : Loc Cert.View0RefIdeal.nD Cert.View0RefIdeal.τ Cert.View0RefIdeal.sig) → Buf (Elt Ideal) ℓ) (g' : Dev Cert.View0RefIdeal.nD → PrngReg), Pre_View0Ideal m →
    (∀ c : Dev Cert.View0Ideal.nD,
      m' ((c.tc : Thread Cert.View0RefIdeal.nD Cert.View0RefIdeal.τ).loc Cert.View0RefIdeal.main_arg0) = m ((c.tc : Thread Cert.View0Ideal.nD Cert.View0Ideal.τ).loc Cert.View0Ideal.main_arg0)
      ∧ m' ((c.tc : Thread Cert.View0RefIdeal.nD Cert.View0RefIdeal.τ).loc Cert.View0RefIdeal.main_arg1) = m ((c.tc : Thread Cert.View0Ideal.nD Cert.View0Ideal.τ).loc Cert.View0Ideal.main_arg1)) →
    ∃ (v0 : (c : Dev Cert.View0Ideal.nD) → Buf (Elt Ideal) ((c.tc : Thread Cert.View0Ideal.nD Cert.View0Ideal.τ).loc Cert.View0Ideal.main_v0)),
      θ_run (Cert.View0Ideal.defs (F := Ideal)) (onTc (τ := Cert.View0Ideal.τ) (Cert.View0Ideal.main (F := Ideal))) ⟨m, fun _ => 0, g⟩ (fun r => ∀ c : Dev Cert.View0Ideal.nD,
          r.2.mem ((c.tc : Thread Cert.View0Ideal.nD Cert.View0Ideal.τ).loc Cert.View0Ideal.main_v0) = v0 c
          ∧ r.2.mem ((c.tc : Thread Cert.View0Ideal.nD Cert.View0Ideal.τ).loc Cert.View0Ideal.main_arg0) = m ((c.tc : Thread Cert.View0Ideal.nD Cert.View0Ideal.τ).loc Cert.View0Ideal.main_arg0)
          ∧ r.2.mem ((c.tc : Thread Cert.View0Ideal.nD Cert.View0Ideal.τ).loc Cert.View0Ideal.main_arg1) = m ((c.tc : Thread Cert.View0Ideal.nD Cert.View0Ideal.τ).loc Cert.View0Ideal.main_arg1))
      ∧ θ_run (Cert.View0RefIdeal.defs (F := Ideal)) (onTc (τ := Cert.View0RefIdeal.τ) (Cert.View0RefIdeal.main (F := Ideal))) ⟨m', fun _ => 0, g'⟩ (fun r => ∀ c : Dev Cert.View0RefIdeal.nD,
          r.2.mem ((c.tc : Thread Cert.View0RefIdeal.nD Cert.View0RefIdeal.τ).loc Cert.View0RefIdeal.main_v3) = v0 c
          ∧ r.2.mem ((c.tc : Thread Cert.View0RefIdeal.nD Cert.View0RefIdeal.τ).loc Cert.View0RefIdeal.main_arg0) = m' ((c.tc : Thread Cert.View0RefIdeal.nD Cert.View0RefIdeal.τ).loc Cert.View0RefIdeal.main_arg0)
          ∧ r.2.mem ((c.tc : Thread Cert.View0RefIdeal.nD Cert.View0RefIdeal.τ).loc Cert.View0RefIdeal.main_arg1) = m' ((c.tc : Thread Cert.View0RefIdeal.nD Cert.View0RefIdeal.τ).loc Cert.View0RefIdeal.main_arg1))

def preserves_View1_View1Ideal : Prop :=
  True

def algebraic_View1Ideal_View1RefIdeal [hView1Ideal : Cert.View1Ideal.Facts] [hView1RefIdeal : Cert.View1RefIdeal.Facts] : Prop :=
  ∀ (m : (ℓ : Loc Cert.View1Ideal.nD Cert.View1Ideal.τ Cert.View1Ideal.sig) → Buf (Elt Ideal) ℓ) (g : Dev Cert.View1Ideal.nD → PrngReg)
    (m' : (ℓ : Loc Cert.View1RefIdeal.nD Cert.View1RefIdeal.τ Cert.View1RefIdeal.sig) → Buf (Elt Ideal) ℓ) (g' : Dev Cert.View1RefIdeal.nD → PrngReg), Pre_View1Ideal m →
    (∀ c : Dev Cert.View1Ideal.nD,
      m' ((c.tc : Thread Cert.View1RefIdeal.nD Cert.View1RefIdeal.τ).loc Cert.View1RefIdeal.main_arg0) = m ((c.tc : Thread Cert.View1Ideal.nD Cert.View1Ideal.τ).loc Cert.View1Ideal.main_arg0)
      ∧ m' ((c.tc : Thread Cert.View1RefIdeal.nD Cert.View1RefIdeal.τ).loc Cert.View1RefIdeal.main_arg1) = m ((c.tc : Thread Cert.View1Ideal.nD Cert.View1Ideal.τ).loc Cert.View1Ideal.main_arg1)) →
    ∃ (v0 : (c : Dev Cert.View1Ideal.nD) → Buf (Elt Ideal) ((c.tc : Thread Cert.View1Ideal.nD Cert.View1Ideal.τ).loc Cert.View1Ideal.main_v0)),
      θ_run (Cert.View1Ideal.defs (F := Ideal)) (onTc (τ := Cert.View1Ideal.τ) (Cert.View1Ideal.main (F := Ideal))) ⟨m, fun _ => 0, g⟩ (fun r => ∀ c : Dev Cert.View1Ideal.nD,
          r.2.mem ((c.tc : Thread Cert.View1Ideal.nD Cert.View1Ideal.τ).loc Cert.View1Ideal.main_v0) = v0 c
          ∧ r.2.mem ((c.tc : Thread Cert.View1Ideal.nD Cert.View1Ideal.τ).loc Cert.View1Ideal.main_arg0) = m ((c.tc : Thread Cert.View1Ideal.nD Cert.View1Ideal.τ).loc Cert.View1Ideal.main_arg0)
          ∧ r.2.mem ((c.tc : Thread Cert.View1Ideal.nD Cert.View1Ideal.τ).loc Cert.View1Ideal.main_arg1) = m ((c.tc : Thread Cert.View1Ideal.nD Cert.View1Ideal.τ).loc Cert.View1Ideal.main_arg1))
      ∧ θ_run (Cert.View1RefIdeal.defs (F := Ideal)) (onTc (τ := Cert.View1RefIdeal.τ) (Cert.View1RefIdeal.main (F := Ideal))) ⟨m', fun _ => 0, g'⟩ (fun r => ∀ c : Dev Cert.View1RefIdeal.nD,
          r.2.mem ((c.tc : Thread Cert.View1RefIdeal.nD Cert.View1RefIdeal.τ).loc Cert.View1RefIdeal.main_v4) = v0 c
          ∧ r.2.mem ((c.tc : Thread Cert.View1RefIdeal.nD Cert.View1RefIdeal.τ).loc Cert.View1RefIdeal.main_arg0) = m' ((c.tc : Thread Cert.View1RefIdeal.nD Cert.View1RefIdeal.τ).loc Cert.View1RefIdeal.main_arg0)
          ∧ r.2.mem ((c.tc : Thread Cert.View1RefIdeal.nD Cert.View1RefIdeal.τ).loc Cert.View1RefIdeal.main_arg1) = m' ((c.tc : Thread Cert.View1RefIdeal.nD Cert.View1RefIdeal.τ).loc Cert.View1RefIdeal.main_arg1))

def preserves_View2_View2Ideal : Prop :=
  True

def algebraic_View2Ideal_View2RefIdeal [hView2Ideal : Cert.View2Ideal.Facts] [hView2RefIdeal : Cert.View2RefIdeal.Facts] : Prop :=
  ∀ (m : (ℓ : Loc Cert.View2Ideal.nD Cert.View2Ideal.τ Cert.View2Ideal.sig) → Buf (Elt Ideal) ℓ) (g : Dev Cert.View2Ideal.nD → PrngReg)
    (m' : (ℓ : Loc Cert.View2RefIdeal.nD Cert.View2RefIdeal.τ Cert.View2RefIdeal.sig) → Buf (Elt Ideal) ℓ) (g' : Dev Cert.View2RefIdeal.nD → PrngReg), Pre_View2Ideal m →
    (∀ c : Dev Cert.View2Ideal.nD,
      m' ((c.tc : Thread Cert.View2RefIdeal.nD Cert.View2RefIdeal.τ).loc Cert.View2RefIdeal.main_arg0) = m ((c.tc : Thread Cert.View2Ideal.nD Cert.View2Ideal.τ).loc Cert.View2Ideal.main_arg0)
      ∧ m' ((c.tc : Thread Cert.View2RefIdeal.nD Cert.View2RefIdeal.τ).loc Cert.View2RefIdeal.main_arg1) = m ((c.tc : Thread Cert.View2Ideal.nD Cert.View2Ideal.τ).loc Cert.View2Ideal.main_arg1)) →
    ∃ (v0 : (c : Dev Cert.View2Ideal.nD) → Buf (Elt Ideal) ((c.tc : Thread Cert.View2Ideal.nD Cert.View2Ideal.τ).loc Cert.View2Ideal.main_v0)),
      θ_run (Cert.View2Ideal.defs (F := Ideal)) (onTc (τ := Cert.View2Ideal.τ) (Cert.View2Ideal.main (F := Ideal))) ⟨m, fun _ => 0, g⟩ (fun r => ∀ c : Dev Cert.View2Ideal.nD,
          r.2.mem ((c.tc : Thread Cert.View2Ideal.nD Cert.View2Ideal.τ).loc Cert.View2Ideal.main_v0) = v0 c
          ∧ r.2.mem ((c.tc : Thread Cert.View2Ideal.nD Cert.View2Ideal.τ).loc Cert.View2Ideal.main_arg0) = m ((c.tc : Thread Cert.View2Ideal.nD Cert.View2Ideal.τ).loc Cert.View2Ideal.main_arg0)
          ∧ r.2.mem ((c.tc : Thread Cert.View2Ideal.nD Cert.View2Ideal.τ).loc Cert.View2Ideal.main_arg1) = m ((c.tc : Thread Cert.View2Ideal.nD Cert.View2Ideal.τ).loc Cert.View2Ideal.main_arg1))
      ∧ θ_run (Cert.View2RefIdeal.defs (F := Ideal)) (onTc (τ := Cert.View2RefIdeal.τ) (Cert.View2RefIdeal.main (F := Ideal))) ⟨m', fun _ => 0, g'⟩ (fun r => ∀ c : Dev Cert.View2RefIdeal.nD,
          r.2.mem ((c.tc : Thread Cert.View2RefIdeal.nD Cert.View2RefIdeal.τ).loc Cert.View2RefIdeal.main_v4) = v0 c
          ∧ r.2.mem ((c.tc : Thread Cert.View2RefIdeal.nD Cert.View2RefIdeal.τ).loc Cert.View2RefIdeal.main_arg0) = m' ((c.tc : Thread Cert.View2RefIdeal.nD Cert.View2RefIdeal.τ).loc Cert.View2RefIdeal.main_arg0)
          ∧ r.2.mem ((c.tc : Thread Cert.View2RefIdeal.nD Cert.View2RefIdeal.τ).loc Cert.View2RefIdeal.main_arg1) = m' ((c.tc : Thread Cert.View2RefIdeal.nD Cert.View2RefIdeal.τ).loc Cert.View2RefIdeal.main_arg1))

def preserves_UpAct_UpActIdeal : Prop :=
  True

def algebraic_UpActIdeal_UpActRefIdeal [hUpActIdeal : Cert.UpActIdeal.Facts] [hUpActRefIdeal : Cert.UpActRefIdeal.Facts] : Prop :=
  ∀ (m : (ℓ : Loc Cert.UpActIdeal.nD Cert.UpActIdeal.τ Cert.UpActIdeal.sig) → Buf (Elt Ideal) ℓ) (g : Dev Cert.UpActIdeal.nD → PrngReg)
    (m' : (ℓ : Loc Cert.UpActRefIdeal.nD Cert.UpActRefIdeal.τ Cert.UpActRefIdeal.sig) → Buf (Elt Ideal) ℓ) (g' : Dev Cert.UpActRefIdeal.nD → PrngReg), Pre_UpActIdeal m →
    (∀ c : Dev Cert.UpActIdeal.nD,
      m' ((c.tc : Thread Cert.UpActRefIdeal.nD Cert.UpActRefIdeal.τ).loc Cert.UpActRefIdeal.main_arg0) = m ((c.tc : Thread Cert.UpActIdeal.nD Cert.UpActIdeal.τ).loc Cert.UpActIdeal.main_arg0)
      ∧ m' ((c.tc : Thread Cert.UpActRefIdeal.nD Cert.UpActRefIdeal.τ).loc Cert.UpActRefIdeal.main_arg1) = m ((c.tc : Thread Cert.UpActIdeal.nD Cert.UpActIdeal.τ).loc Cert.UpActIdeal.main_arg1)
      ∧ m' ((c.tc : Thread Cert.UpActRefIdeal.nD Cert.UpActRefIdeal.τ).loc Cert.UpActRefIdeal.main_arg2) = m ((c.tc : Thread Cert.UpActIdeal.nD Cert.UpActIdeal.τ).loc Cert.UpActIdeal.main_arg2)
      ∧ m' ((c.tc : Thread Cert.UpActRefIdeal.nD Cert.UpActRefIdeal.τ).loc Cert.UpActRefIdeal.main_arg3) = m ((c.tc : Thread Cert.UpActIdeal.nD Cert.UpActIdeal.τ).loc Cert.UpActIdeal.main_arg3)) →
    ∃ (v0 : (c : Dev Cert.UpActIdeal.nD) → Buf (Elt Ideal) ((c.tc : Thread Cert.UpActIdeal.nD Cert.UpActIdeal.τ).loc Cert.UpActIdeal.main_v13)) (v1 : (c : Dev Cert.UpActIdeal.nD) → Buf (Elt Ideal) ((c.tc : Thread Cert.UpActIdeal.nD Cert.UpActIdeal.τ).loc Cert.UpActIdeal.main_v10_1)),
      θ_run (Cert.UpActIdeal.defs (F := Ideal)) (onTc (τ := Cert.UpActIdeal.τ) (Cert.UpActIdeal.main (F := Ideal))) ⟨m, fun _ => 0, g⟩ (fun r => ∀ c : Dev Cert.UpActIdeal.nD,
          r.2.mem ((c.tc : Thread Cert.UpActIdeal.nD Cert.UpActIdeal.τ).loc Cert.UpActIdeal.main_v13) = v0 c
          ∧ r.2.mem ((c.tc : Thread Cert.UpActIdeal.nD Cert.UpActIdeal.τ).loc Cert.UpActIdeal.main_v10_1) = v1 c
          ∧ r.2.mem ((c.tc : Thread Cert.UpActIdeal.nD Cert.UpActIdeal.τ).loc Cert.UpActIdeal.main_arg0) = m ((c.tc : Thread Cert.UpActIdeal.nD Cert.UpActIdeal.τ).loc Cert.UpActIdeal.main_arg0)
          ∧ r.2.mem ((c.tc : Thread Cert.UpActIdeal.nD Cert.UpActIdeal.τ).loc Cert.UpActIdeal.main_arg1) = m ((c.tc : Thread Cert.UpActIdeal.nD Cert.UpActIdeal.τ).loc Cert.UpActIdeal.main_arg1)
          ∧ r.2.mem ((c.tc : Thread Cert.UpActIdeal.nD Cert.UpActIdeal.τ).loc Cert.UpActIdeal.main_arg2) = m ((c.tc : Thread Cert.UpActIdeal.nD Cert.UpActIdeal.τ).loc Cert.UpActIdeal.main_arg2)
          ∧ r.2.mem ((c.tc : Thread Cert.UpActIdeal.nD Cert.UpActIdeal.τ).loc Cert.UpActIdeal.main_arg3) = m ((c.tc : Thread Cert.UpActIdeal.nD Cert.UpActIdeal.τ).loc Cert.UpActIdeal.main_arg3))
      ∧ θ_run (Cert.UpActRefIdeal.defs (F := Ideal)) (onTc (τ := Cert.UpActRefIdeal.τ) (Cert.UpActRefIdeal.main (F := Ideal))) ⟨m', fun _ => 0, g'⟩ (fun r => ∀ c : Dev Cert.UpActRefIdeal.nD,
          r.2.mem ((c.tc : Thread Cert.UpActRefIdeal.nD Cert.UpActRefIdeal.τ).loc Cert.UpActRefIdeal.main_v2) = v0 c
          ∧ r.2.mem ((c.tc : Thread Cert.UpActRefIdeal.nD Cert.UpActRefIdeal.τ).loc Cert.UpActRefIdeal.main_v32) = v1 c
          ∧ r.2.mem ((c.tc : Thread Cert.UpActRefIdeal.nD Cert.UpActRefIdeal.τ).loc Cert.UpActRefIdeal.main_arg0) = m' ((c.tc : Thread Cert.UpActRefIdeal.nD Cert.UpActRefIdeal.τ).loc Cert.UpActRefIdeal.main_arg0)
          ∧ r.2.mem ((c.tc : Thread Cert.UpActRefIdeal.nD Cert.UpActRefIdeal.τ).loc Cert.UpActRefIdeal.main_arg1) = m' ((c.tc : Thread Cert.UpActRefIdeal.nD Cert.UpActRefIdeal.τ).loc Cert.UpActRefIdeal.main_arg1)
          ∧ r.2.mem ((c.tc : Thread Cert.UpActRefIdeal.nD Cert.UpActRefIdeal.τ).loc Cert.UpActRefIdeal.main_arg2) = m' ((c.tc : Thread Cert.UpActRefIdeal.nD Cert.UpActRefIdeal.τ).loc Cert.UpActRefIdeal.main_arg2)
          ∧ r.2.mem ((c.tc : Thread Cert.UpActRefIdeal.nD Cert.UpActRefIdeal.τ).loc Cert.UpActRefIdeal.main_arg3) = m' ((c.tc : Thread Cert.UpActRefIdeal.nD Cert.UpActRefIdeal.τ).loc Cert.UpActRefIdeal.main_arg3))

def preserves_Dnorm_DnormIdeal : Prop :=
  True

def algebraic_DnormIdeal_DnormRefIdeal [hDnormIdeal : Cert.DnormIdeal.Facts] [hDnormRefIdeal : Cert.DnormRefIdeal.Facts] : Prop :=
  ∀ (m : (ℓ : Loc Cert.DnormIdeal.nD Cert.DnormIdeal.τ Cert.DnormIdeal.sig) → Buf (Elt Ideal) ℓ) (g : Dev Cert.DnormIdeal.nD → PrngReg)
    (m' : (ℓ : Loc Cert.DnormRefIdeal.nD Cert.DnormRefIdeal.τ Cert.DnormRefIdeal.sig) → Buf (Elt Ideal) ℓ) (g' : Dev Cert.DnormRefIdeal.nD → PrngReg), Pre_DnormIdeal m →
    (∀ c : Dev Cert.DnormIdeal.nD,
      m' ((c.tc : Thread Cert.DnormRefIdeal.nD Cert.DnormRefIdeal.τ).loc Cert.DnormRefIdeal.main_arg0) = m ((c.tc : Thread Cert.DnormIdeal.nD Cert.DnormIdeal.τ).loc Cert.DnormIdeal.main_arg0)
      ∧ m' ((c.tc : Thread Cert.DnormRefIdeal.nD Cert.DnormRefIdeal.τ).loc Cert.DnormRefIdeal.main_arg1) = m ((c.tc : Thread Cert.DnormIdeal.nD Cert.DnormIdeal.τ).loc Cert.DnormIdeal.main_arg1)
      ∧ m' ((c.tc : Thread Cert.DnormRefIdeal.nD Cert.DnormRefIdeal.τ).loc Cert.DnormRefIdeal.main_arg2) = m ((c.tc : Thread Cert.DnormIdeal.nD Cert.DnormIdeal.τ).loc Cert.DnormIdeal.main_arg2)
      ∧ m' ((c.tc : Thread Cert.DnormRefIdeal.nD Cert.DnormRefIdeal.τ).loc Cert.DnormRefIdeal.main_arg3) = m ((c.tc : Thread Cert.DnormIdeal.nD Cert.DnormIdeal.τ).loc Cert.DnormIdeal.main_arg3)) →
    ∃ (v0 : (c : Dev Cert.DnormIdeal.nD) → Buf (Elt Ideal) ((c.tc : Thread Cert.DnormIdeal.nD Cert.DnormIdeal.τ).loc Cert.DnormIdeal.main_v1_0)) (v1 : (c : Dev Cert.DnormIdeal.nD) → Buf (Elt Ideal) ((c.tc : Thread Cert.DnormIdeal.nD Cert.DnormIdeal.τ).loc Cert.DnormIdeal.main_v1_1)),
      θ_run (Cert.DnormIdeal.defs (F := Ideal)) (onTc (τ := Cert.DnormIdeal.τ) (Cert.DnormIdeal.main (F := Ideal))) ⟨m, fun _ => 0, g⟩ (fun r => ∀ c : Dev Cert.DnormIdeal.nD,
          r.2.mem ((c.tc : Thread Cert.DnormIdeal.nD Cert.DnormIdeal.τ).loc Cert.DnormIdeal.main_v1_0) = v0 c
          ∧ r.2.mem ((c.tc : Thread Cert.DnormIdeal.nD Cert.DnormIdeal.τ).loc Cert.DnormIdeal.main_v1_1) = v1 c
          ∧ r.2.mem ((c.tc : Thread Cert.DnormIdeal.nD Cert.DnormIdeal.τ).loc Cert.DnormIdeal.main_arg0) = m ((c.tc : Thread Cert.DnormIdeal.nD Cert.DnormIdeal.τ).loc Cert.DnormIdeal.main_arg0)
          ∧ r.2.mem ((c.tc : Thread Cert.DnormIdeal.nD Cert.DnormIdeal.τ).loc Cert.DnormIdeal.main_arg1) = m ((c.tc : Thread Cert.DnormIdeal.nD Cert.DnormIdeal.τ).loc Cert.DnormIdeal.main_arg1)
          ∧ r.2.mem ((c.tc : Thread Cert.DnormIdeal.nD Cert.DnormIdeal.τ).loc Cert.DnormIdeal.main_arg2) = m ((c.tc : Thread Cert.DnormIdeal.nD Cert.DnormIdeal.τ).loc Cert.DnormIdeal.main_arg2)
          ∧ r.2.mem ((c.tc : Thread Cert.DnormIdeal.nD Cert.DnormIdeal.τ).loc Cert.DnormIdeal.main_arg3) = m ((c.tc : Thread Cert.DnormIdeal.nD Cert.DnormIdeal.τ).loc Cert.DnormIdeal.main_arg3))
      ∧ θ_run (Cert.DnormRefIdeal.defs (F := Ideal)) (onTc (τ := Cert.DnormRefIdeal.τ) (Cert.DnormRefIdeal.main (F := Ideal))) ⟨m', fun _ => 0, g'⟩ (fun r => ∀ c : Dev Cert.DnormRefIdeal.nD,
          r.2.mem ((c.tc : Thread Cert.DnormRefIdeal.nD Cert.DnormRefIdeal.τ).loc Cert.DnormRefIdeal.main_v36) = v0 c
          ∧ r.2.mem ((c.tc : Thread Cert.DnormRefIdeal.nD Cert.DnormRefIdeal.τ).loc Cert.DnormRefIdeal.main_v37) = v1 c
          ∧ r.2.mem ((c.tc : Thread Cert.DnormRefIdeal.nD Cert.DnormRefIdeal.τ).loc Cert.DnormRefIdeal.main_arg0) = m' ((c.tc : Thread Cert.DnormRefIdeal.nD Cert.DnormRefIdeal.τ).loc Cert.DnormRefIdeal.main_arg0)
          ∧ r.2.mem ((c.tc : Thread Cert.DnormRefIdeal.nD Cert.DnormRefIdeal.τ).loc Cert.DnormRefIdeal.main_arg1) = m' ((c.tc : Thread Cert.DnormRefIdeal.nD Cert.DnormRefIdeal.τ).loc Cert.DnormRefIdeal.main_arg1)
          ∧ r.2.mem ((c.tc : Thread Cert.DnormRefIdeal.nD Cert.DnormRefIdeal.τ).loc Cert.DnormRefIdeal.main_arg2) = m' ((c.tc : Thread Cert.DnormRefIdeal.nD Cert.DnormRefIdeal.τ).loc Cert.DnormRefIdeal.main_arg2)
          ∧ r.2.mem ((c.tc : Thread Cert.DnormRefIdeal.nD Cert.DnormRefIdeal.τ).loc Cert.DnormRefIdeal.main_arg3) = m' ((c.tc : Thread Cert.DnormRefIdeal.nD Cert.DnormRefIdeal.τ).loc Cert.DnormRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v23) = v0 c
          ∧ r.2.mem ((c.tc : Thread Cert.AdamUpRefIdeal.nD Cert.AdamUpRefIdeal.τ).loc Cert.AdamUpRefIdeal.main_v4) = v1 c
          ∧ r.2.mem ((c.tc : Thread Cert.AdamUpRefIdeal.nD Cert.AdamUpRefIdeal.τ).loc Cert.AdamUpRefIdeal.main_v10) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamKv_AdamKvIdeal : Prop :=
  True

def algebraic_AdamKvIdeal_AdamKvRefIdeal [hAdamKvIdeal : Cert.AdamKvIdeal.Facts] [hAdamKvRefIdeal : Cert.AdamKvRefIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvRefIdeal.nD Cert.AdamKvRefIdeal.τ Cert.AdamKvRefIdeal.sig) → Buf (Elt Ideal) ℓ) (g' : Dev Cert.AdamKvRefIdeal.nD → PrngReg), Pre_AdamKvIdeal m →
    (∀ c : Dev Cert.AdamKvIdeal.nD,
      m' ((c.tc : Thread Cert.AdamKvRefIdeal.nD Cert.AdamKvRefIdeal.τ).loc Cert.AdamKvRefIdeal.main_arg0) = m ((c.tc : Thread Cert.AdamKvIdeal.nD Cert.AdamKvIdeal.τ).loc Cert.AdamKvIdeal.main_arg0)
      ∧ m' ((c.tc : Thread Cert.AdamKvRefIdeal.nD Cert.AdamKvRefIdeal.τ).loc Cert.AdamKvRefIdeal.main_arg1) = m ((c.tc : Thread Cert.AdamKvIdeal.nD Cert.AdamKvIdeal.τ).loc Cert.AdamKvIdeal.main_arg1)
      ∧ m' ((c.tc : Thread Cert.AdamKvRefIdeal.nD Cert.AdamKvRefIdeal.τ).loc Cert.AdamKvRefIdeal.main_arg2) = m ((c.tc : Thread Cert.AdamKvIdeal.nD Cert.AdamKvIdeal.τ).loc Cert.AdamKvIdeal.main_arg2)
      ∧ m' ((c.tc : Thread Cert.AdamKvRefIdeal.nD Cert.AdamKvRefIdeal.τ).loc Cert.AdamKvRefIdeal.main_arg3) = m ((c.tc : Thread Cert.AdamKvIdeal.nD Cert.AdamKvIdeal.τ).loc Cert.AdamKvIdeal.main_arg3)) →
    ∃ (v0 : (c : Dev Cert.AdamKvIdeal.nD) → Buf (Elt Ideal) ((c.tc : Thread Cert.AdamKvIdeal.nD Cert.AdamKvIdeal.τ).loc Cert.AdamKvIdeal.main_v0_0)) (v1 : (c : Dev Cert.AdamKvIdeal.nD) → Buf (Elt Ideal) ((c.tc : Thread Cert.AdamKvIdeal.nD Cert.AdamKvIdeal.τ).loc Cert.AdamKvIdeal.main_v0_1)) (v2 : (c : Dev Cert.AdamKvIdeal.nD) → Buf (Elt Ideal) ((c.tc : Thread Cert.AdamKvIdeal.nD Cert.AdamKvIdeal.τ).loc Cert.AdamKvIdeal.main_v0_2)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v0_0) = v0 c
          ∧ r.2.mem ((c.tc : Thread Cert.AdamKvIdeal.nD Cert.AdamKvIdeal.τ).loc Cert.AdamKvIdeal.main_v0_1) = v1 c
          ∧ r.2.mem ((c.tc : Thread Cert.AdamKvIdeal.nD Cert.AdamKvIdeal.τ).loc Cert.AdamKvIdeal.main_v0_2) = v2 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ θ_run (Cert.AdamKvRefIdeal.defs (F := Ideal)) (onTc (τ := Cert.AdamKvRefIdeal.τ) (Cert.AdamKvRefIdeal.main (F := Ideal))) ⟨m', fun _ => 0, g'⟩ (fun r => ∀ c : Dev Cert.AdamKvRefIdeal.nD,
          r.2.mem ((c.tc : Thread Cert.AdamKvRefIdeal.nD Cert.AdamKvRefIdeal.τ).loc Cert.AdamKvRefIdeal.main_v23) = v0 c
          ∧ r.2.mem ((c.tc : Thread Cert.AdamKvRefIdeal.nD Cert.AdamKvRefIdeal.τ).loc Cert.AdamKvRefIdeal.main_v4) = v1 c
          ∧ r.2.mem ((c.tc : Thread Cert.AdamKvRefIdeal.nD Cert.AdamKvRefIdeal.τ).loc Cert.AdamKvRefIdeal.main_v10) = v2 c
          ∧ r.2.mem ((c.tc : Thread Cert.AdamKvRefIdeal.nD Cert.AdamKvRefIdeal.τ).loc Cert.AdamKvRefIdeal.main_arg0) = m' ((c.tc : Thread Cert.AdamKvRefIdeal.nD Cert.AdamKvRefIdeal.τ).loc Cert.AdamKvRefIdeal.main_arg0)
          ∧ r.2.mem ((c.tc : Thread Cert.AdamKvRefIdeal.nD Cert.AdamKvRefIdeal.τ).loc Cert.AdamKvRefIdeal.main_arg1) = m' ((c.tc : Thread Cert.AdamKvRefIdeal.nD Cert.AdamKvRefIdeal.τ).loc Cert.AdamKvRefIdeal.main_arg1)
          ∧ r.2.mem ((c.tc : Thread Cert.AdamKvRefIdeal.nD Cert.AdamKvRefIdeal.τ).loc Cert.AdamKvRefIdeal.main_arg2) = m' ((c.tc : Thread Cert.AdamKvRefIdeal.nD Cert.AdamKvRefIdeal.τ).loc Cert.AdamKvRefIdeal.main_arg2)
          ∧ r.2.mem ((c.tc : Thread Cert.AdamKvRefIdeal.nD Cert.AdamKvRefIdeal.τ).loc Cert.AdamKvRefIdeal.main_arg3) = m' ((c.tc : Thread Cert.AdamKvRefIdeal.nD Cert.AdamKvRefIdeal.τ).loc Cert.AdamKvRefIdeal.main_arg3))

def preserves_AdamQ_AdamQIdeal : Prop :=
  True

def algebraic_AdamQIdeal_AdamQRefIdeal [hAdamQIdeal : Cert.AdamQIdeal.Facts] [hAdamQRefIdeal : Cert.AdamQRefIdeal.Facts] : Prop :=
  ∀ (m : (ℓ : Loc Cert.AdamQIdeal.nD Cert.AdamQIdeal.τ Cert.AdamQIdeal.sig) → Buf (Elt Ideal) ℓ) (g : Dev Cert.AdamQIdeal.nD → PrngReg)
    (m' : (ℓ : Loc Cert.AdamQRefIdeal.nD Cert.AdamQRefIdeal.τ Cert.AdamQRefIdeal.sig) → Buf (Elt Ideal) ℓ) (g' : Dev Cert.AdamQRefIdeal.nD → PrngReg), Pre_AdamQIdeal m →
    (∀ c : Dev Cert.AdamQIdeal.nD,
      m' ((c.tc : Thread Cert.AdamQRefIdeal.nD Cert.AdamQRefIdeal.τ).loc Cert.AdamQRefIdeal.main_arg0) = m ((c.tc : Thread Cert.AdamQIdeal.nD Cert.AdamQIdeal.τ).loc Cert.AdamQIdeal.main_arg0)
      ∧ m' ((c.tc : Thread Cert.AdamQRefIdeal.nD Cert.AdamQRefIdeal.τ).loc Cert.AdamQRefIdeal.main_arg1) = m ((c.tc : Thread Cert.AdamQIdeal.nD Cert.AdamQIdeal.τ).loc Cert.AdamQIdeal.main_arg1)
      ∧ m' ((c.tc : Thread Cert.AdamQRefIdeal.nD Cert.AdamQRefIdeal.τ).loc Cert.AdamQRefIdeal.main_arg2) = m ((c.tc : Thread Cert.AdamQIdeal.nD Cert.AdamQIdeal.τ).loc Cert.AdamQIdeal.main_arg2)
      ∧ m' ((c.tc : Thread Cert.AdamQRefIdeal.nD Cert.AdamQRefIdeal.τ).loc Cert.AdamQRefIdeal.main_arg3) = m ((c.tc : Thread Cert.AdamQIdeal.nD Cert.AdamQIdeal.τ).loc Cert.AdamQIdeal.main_arg3)) →
    ∃ (v0 : (c : Dev Cert.AdamQIdeal.nD) → Buf (Elt Ideal) ((c.tc : Thread Cert.AdamQIdeal.nD Cert.AdamQIdeal.τ).loc Cert.AdamQIdeal.main_v0_0)) (v1 : (c : Dev Cert.AdamQIdeal.nD) → Buf (Elt Ideal) ((c.tc : Thread Cert.AdamQIdeal.nD Cert.AdamQIdeal.τ).loc Cert.AdamQIdeal.main_v0_1)) (v2 : (c : Dev Cert.AdamQIdeal.nD) → Buf (Elt Ideal) ((c.tc : Thread Cert.AdamQIdeal.nD Cert.AdamQIdeal.τ).loc Cert.AdamQIdeal.main_v0_2)),
      θ_run (Cert.AdamQIdeal.defs (F := Ideal)) (onTc (τ := Cert.AdamQIdeal.τ) (Cert.AdamQIdeal.main (F := Ideal))) ⟨m, fun _ => 0, g⟩ (fun r => ∀ c : Dev Cert.AdamQIdeal.nD,
          r.2.mem ((c.tc : Thread Cert.AdamQIdeal.nD Cert.AdamQIdeal.τ).loc Cert.AdamQIdeal.main_v0_0) = v0 c
          ∧ r.2.mem ((c.tc : Thread Cert.AdamQIdeal.nD Cert.AdamQIdeal.τ).loc Cert.AdamQIdeal.main_v0_1) = v1 c
          ∧ r.2.mem ((c.tc : Thread Cert.AdamQIdeal.nD Cert.AdamQIdeal.τ).loc Cert.AdamQIdeal.main_v0_2) = v2 c
          ∧ r.2.mem ((c.tc : Thread Cert.AdamQIdeal.nD Cert.AdamQIdeal.τ).loc Cert.AdamQIdeal.main_arg0) = m ((c.tc : Thread Cert.AdamQIdeal.nD Cert.AdamQIdeal.τ).loc Cert.AdamQIdeal.main_arg0)
          ∧ r.2.mem ((c.tc : Thread Cert.AdamQIdeal.nD Cert.AdamQIdeal.τ).loc Cert.AdamQIdeal.main_arg1) = m ((c.tc : Thread Cert.AdamQIdeal.nD Cert.AdamQIdeal.τ).loc Cert.AdamQIdeal.main_arg1)
          ∧ r.2.mem ((c.tc : Thread Cert.AdamQIdeal.nD Cert.AdamQIdeal.τ).loc Cert.AdamQIdeal.main_arg2) = m ((c.tc : Thread Cert.AdamQIdeal.nD Cert.AdamQIdeal.τ).loc Cert.AdamQIdeal.main_arg2)
          ∧ r.2.mem ((c.tc : Thread Cert.AdamQIdeal.nD Cert.AdamQIdeal.τ).loc Cert.AdamQIdeal.main_arg3) = m ((c.tc : Thread Cert.AdamQIdeal.nD Cert.AdamQIdeal.τ).loc Cert.AdamQIdeal.main_arg3))
      ∧ θ_run (Cert.AdamQRefIdeal.defs (F := Ideal)) (onTc (τ := Cert.AdamQRefIdeal.τ) (Cert.AdamQRefIdeal.main (F := Ideal))) ⟨m', fun _ => 0, g'⟩ (fun r => ∀ c : Dev Cert.AdamQRefIdeal.nD,
          r.2.mem ((c.tc : Thread Cert.AdamQRefIdeal.nD Cert.AdamQRefIdeal.τ).loc Cert.AdamQRefIdeal.main_v23) = v0 c
          ∧ r.2.mem ((c.tc : Thread Cert.AdamQRefIdeal.nD Cert.AdamQRefIdeal.τ).loc Cert.AdamQRefIdeal.main_v4) = v1 c
          ∧ r.2.mem ((c.tc : Thread Cert.AdamQRefIdeal.nD Cert.AdamQRefIdeal.τ).loc Cert.AdamQRefIdeal.main_v10) = v2 c
          ∧ r.2.mem ((c.tc : Thread Cert.AdamQRefIdeal.nD Cert.AdamQRefIdeal.τ).loc Cert.AdamQRefIdeal.main_arg0) = m' ((c.tc : Thread Cert.AdamQRefIdeal.nD Cert.AdamQRefIdeal.τ).loc Cert.AdamQRefIdeal.main_arg0)
          ∧ r.2.mem ((c.tc : Thread Cert.AdamQRefIdeal.nD Cert.AdamQRefIdeal.τ).loc Cert.AdamQRefIdeal.main_arg1) = m' ((c.tc : Thread Cert.AdamQRefIdeal.nD Cert.AdamQRefIdeal.τ).loc Cert.AdamQRefIdeal.main_arg1)
          ∧ r.2.mem ((c.tc : Thread Cert.AdamQRefIdeal.nD Cert.AdamQRefIdeal.τ).loc Cert.AdamQRefIdeal.main_arg2) = m' ((c.tc : Thread Cert.AdamQRefIdeal.nD Cert.AdamQRefIdeal.τ).loc Cert.AdamQRefIdeal.main_arg2)
          ∧ r.2.mem ((c.tc : Thread Cert.AdamQRefIdeal.nD Cert.AdamQRefIdeal.τ).loc Cert.AdamQRefIdeal.main_arg3) = m' ((c.tc : Thread Cert.AdamQRefIdeal.nD Cert.AdamQRefIdeal.τ).loc Cert.AdamQRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamGain_AdamGainIdeal : Prop :=
  True

def algebraic_AdamGainIdeal_AdamGainRefIdeal [hAdamGainIdeal : Cert.AdamGainIdeal.Facts] [hAdamGainRefIdeal : Cert.AdamGainRefIdeal.Facts] : Prop :=
  ∀ (m : (ℓ : Loc Cert.AdamGainIdeal.nD Cert.AdamGainIdeal.τ Cert.AdamGainIdeal.sig) → Buf (Elt Ideal) ℓ) (g : Dev Cert.AdamGainIdeal.nD → PrngReg)
    (m' : (ℓ : Loc Cert.AdamGainRefIdeal.nD Cert.AdamGainRefIdeal.τ Cert.AdamGainRefIdeal.sig) → Buf (Elt Ideal) ℓ) (g' : Dev Cert.AdamGainRefIdeal.nD → PrngReg), Pre_AdamGainIdeal m →
    (∀ c : Dev Cert.AdamGainIdeal.nD,
      m' ((c.tc : Thread Cert.AdamGainRefIdeal.nD Cert.AdamGainRefIdeal.τ).loc Cert.AdamGainRefIdeal.main_arg0) = m ((c.tc : Thread Cert.AdamGainIdeal.nD Cert.AdamGainIdeal.τ).loc Cert.AdamGainIdeal.main_arg0)
      ∧ m' ((c.tc : Thread Cert.AdamGainRefIdeal.nD Cert.AdamGainRefIdeal.τ).loc Cert.AdamGainRefIdeal.main_arg1) = m ((c.tc : Thread Cert.AdamGainIdeal.nD Cert.AdamGainIdeal.τ).loc Cert.AdamGainIdeal.main_arg1)
      ∧ m' ((c.tc : Thread Cert.AdamGainRefIdeal.nD Cert.AdamGainRefIdeal.τ).loc Cert.AdamGainRefIdeal.main_arg2) = m ((c.tc : Thread Cert.AdamGainIdeal.nD Cert.AdamGainIdeal.τ).loc Cert.AdamGainIdeal.main_arg2)
      ∧ m' ((c.tc : Thread Cert.AdamGainRefIdeal.nD Cert.AdamGainRefIdeal.τ).loc Cert.AdamGainRefIdeal.main_arg3) = m ((c.tc : Thread Cert.AdamGainIdeal.nD Cert.AdamGainIdeal.τ).loc Cert.AdamGainIdeal.main_arg3)) →
    ∃ (v0 : (c : Dev Cert.AdamGainIdeal.nD) → Buf (Elt Ideal) ((c.tc : Thread Cert.AdamGainIdeal.nD Cert.AdamGainIdeal.τ).loc Cert.AdamGainIdeal.main_v0_0)) (v1 : (c : Dev Cert.AdamGainIdeal.nD) → Buf (Elt Ideal) ((c.tc : Thread Cert.AdamGainIdeal.nD Cert.AdamGainIdeal.τ).loc Cert.AdamGainIdeal.main_v0_1)) (v2 : (c : Dev Cert.AdamGainIdeal.nD) → Buf (Elt Ideal) ((c.tc : Thread Cert.AdamGainIdeal.nD Cert.AdamGainIdeal.τ).loc Cert.AdamGainIdeal.main_v0_2)),
      θ_run (Cert.AdamGainIdeal.defs (F := Ideal)) (onTc (τ := Cert.AdamGainIdeal.τ) (Cert.AdamGainIdeal.main (F := Ideal))) ⟨m, fun _ => 0, g⟩ (fun r => ∀ c : Dev Cert.AdamGainIdeal.nD,
          r.2.mem ((c.tc : Thread Cert.AdamGainIdeal.nD Cert.AdamGainIdeal.τ).loc Cert.AdamGainIdeal.main_v0_0) = v0 c
          ∧ r.2.mem ((c.tc : Thread Cert.AdamGainIdeal.nD Cert.AdamGainIdeal.τ).loc Cert.AdamGainIdeal.main_v0_1) = v1 c
          ∧ r.2.mem ((c.tc : Thread Cert.AdamGainIdeal.nD Cert.AdamGainIdeal.τ).loc Cert.AdamGainIdeal.main_v0_2) = v2 c
          ∧ r.2.mem ((c.tc : Thread Cert.AdamGainIdeal.nD Cert.AdamGainIdeal.τ).loc Cert.AdamGainIdeal.main_arg0) = m ((c.tc : Thread Cert.AdamGainIdeal.nD Cert.AdamGainIdeal.τ).loc Cert.AdamGainIdeal.main_arg0)
          ∧ r.2.mem ((c.tc : Thread Cert.AdamGainIdeal.nD Cert.AdamGainIdeal.τ).loc Cert.AdamGainIdeal.main_arg1) = m ((c.tc : Thread Cert.AdamGainIdeal.nD Cert.AdamGainIdeal.τ).loc Cert.AdamGainIdeal.main_arg1)
          ∧ r.2.mem ((c.tc : Thread Cert.AdamGainIdeal.nD Cert.AdamGainIdeal.τ).loc Cert.AdamGainIdeal.main_arg2) = m ((c.tc : Thread Cert.AdamGainIdeal.nD Cert.AdamGainIdeal.τ).loc Cert.AdamGainIdeal.main_arg2)
          ∧ r.2.mem ((c.tc : Thread Cert.AdamGainIdeal.nD Cert.AdamGainIdeal.τ).loc Cert.AdamGainIdeal.main_arg3) = m ((c.tc : Thread Cert.AdamGainIdeal.nD Cert.AdamGainIdeal.τ).loc Cert.AdamGainIdeal.main_arg3))
      ∧ θ_run (Cert.AdamGainRefIdeal.defs (F := Ideal)) (onTc (τ := Cert.AdamGainRefIdeal.τ) (Cert.AdamGainRefIdeal.main (F := Ideal))) ⟨m', fun _ => 0, g'⟩ (fun r => ∀ c : Dev Cert.AdamGainRefIdeal.nD,
          r.2.mem ((c.tc : Thread Cert.AdamGainRefIdeal.nD Cert.AdamGainRefIdeal.τ).loc Cert.AdamGainRefIdeal.main_v23) = v0 c
          ∧ r.2.mem ((c.tc : Thread Cert.AdamGainRefIdeal.nD Cert.AdamGainRefIdeal.τ).loc Cert.AdamGainRefIdeal.main_v4) = v1 c
          ∧ r.2.mem ((c.tc : Thread Cert.AdamGainRefIdeal.nD Cert.AdamGainRefIdeal.τ).loc Cert.AdamGainRefIdeal.main_v10) = v2 c
          ∧ r.2.mem ((c.tc : Thread Cert.AdamGainRefIdeal.nD Cert.AdamGainRefIdeal.τ).loc Cert.AdamGainRefIdeal.main_arg0) = m' ((c.tc : Thread Cert.AdamGainRefIdeal.nD Cert.AdamGainRefIdeal.τ).loc Cert.AdamGainRefIdeal.main_arg0)
          ∧ r.2.mem ((c.tc : Thread Cert.AdamGainRefIdeal.nD Cert.AdamGainRefIdeal.τ).loc Cert.AdamGainRefIdeal.main_arg1) = m' ((c.tc : Thread Cert.AdamGainRefIdeal.nD Cert.AdamGainRefIdeal.τ).loc Cert.AdamGainRefIdeal.main_arg1)
          ∧ r.2.mem ((c.tc : Thread Cert.AdamGainRefIdeal.nD Cert.AdamGainRefIdeal.τ).loc Cert.AdamGainRefIdeal.main_arg2) = m' ((c.tc : Thread Cert.AdamGainRefIdeal.nD Cert.AdamGainRefIdeal.τ).loc Cert.AdamGainRefIdeal.main_arg2)
          ∧ r.2.mem ((c.tc : Thread Cert.AdamGainRefIdeal.nD Cert.AdamGainRefIdeal.τ).loc Cert.AdamGainRefIdeal.main_arg3) = m' ((c.tc : Thread Cert.AdamGainRefIdeal.nD Cert.AdamGainRefIdeal.τ).loc Cert.AdamGainRefIdeal.main_arg3))

def preserves_AdamGains_AdamGainsIdeal : Prop :=
  True

def algebraic_AdamGainsIdeal_AdamGainsRefIdeal [hAdamGainsIdeal : Cert.AdamGainsIdeal.Facts] [hAdamGainsRefIdeal : Cert.AdamGainsRefIdeal.Facts] : Prop :=
  ∀ (m : (ℓ : Loc Cert.AdamGainsIdeal.nD Cert.AdamGainsIdeal.τ Cert.AdamGainsIdeal.sig) → Buf (Elt Ideal) ℓ) (g : Dev Cert.AdamGainsIdeal.nD → PrngReg)
    (m' : (ℓ : Loc Cert.AdamGainsRefIdeal.nD Cert.AdamGainsRefIdeal.τ Cert.AdamGainsRefIdeal.sig) → Buf (Elt Ideal) ℓ) (g' : Dev Cert.AdamGainsRefIdeal.nD → PrngReg), Pre_AdamGainsIdeal m →
    (∀ c : Dev Cert.AdamGainsIdeal.nD,
      m' ((c.tc : Thread Cert.AdamGainsRefIdeal.nD Cert.AdamGainsRefIdeal.τ).loc Cert.AdamGainsRefIdeal.main_arg0) = m ((c.tc : Thread Cert.AdamGainsIdeal.nD Cert.AdamGainsIdeal.τ).loc Cert.AdamGainsIdeal.main_arg0)
      ∧ m' ((c.tc : Thread Cert.AdamGainsRefIdeal.nD Cert.AdamGainsRefIdeal.τ).loc Cert.AdamGainsRefIdeal.main_arg1) = m ((c.tc : Thread Cert.AdamGainsIdeal.nD Cert.AdamGainsIdeal.τ).loc Cert.AdamGainsIdeal.main_arg1)
      ∧ m' ((c.tc : Thread Cert.AdamGainsRefIdeal.nD Cert.AdamGainsRefIdeal.τ).loc Cert.AdamGainsRefIdeal.main_arg2) = m ((c.tc : Thread Cert.AdamGainsIdeal.nD Cert.AdamGainsIdeal.τ).loc Cert.AdamGainsIdeal.main_arg2)
      ∧ m' ((c.tc : Thread Cert.AdamGainsRefIdeal.nD Cert.AdamGainsRefIdeal.τ).loc Cert.AdamGainsRefIdeal.main_arg3) = m ((c.tc : Thread Cert.AdamGainsIdeal.nD Cert.AdamGainsIdeal.τ).loc Cert.AdamGainsIdeal.main_arg3)) →
    ∃ (v0 : (c : Dev Cert.AdamGainsIdeal.nD) → Buf (Elt Ideal) ((c.tc : Thread Cert.AdamGainsIdeal.nD Cert.AdamGainsIdeal.τ).loc Cert.AdamGainsIdeal.main_v0_0)) (v1 : (c : Dev Cert.AdamGainsIdeal.nD) → Buf (Elt Ideal) ((c.tc : Thread Cert.AdamGainsIdeal.nD Cert.AdamGainsIdeal.τ).loc Cert.AdamGainsIdeal.main_v0_1)) (v2 : (c : Dev Cert.AdamGainsIdeal.nD) → Buf (Elt Ideal) ((c.tc : Thread Cert.AdamGainsIdeal.nD Cert.AdamGainsIdeal.τ).loc Cert.AdamGainsIdeal.main_v0_2)),
      θ_run (Cert.AdamGainsIdeal.defs (F := Ideal)) (onTc (τ := Cert.AdamGainsIdeal.τ) (Cert.AdamGainsIdeal.main (F := Ideal))) ⟨m, fun _ => 0, g⟩ (fun r => ∀ c : Dev Cert.AdamGainsIdeal.nD,
          r.2.mem ((c.tc : Thread Cert.AdamGainsIdeal.nD Cert.AdamGainsIdeal.τ).loc Cert.AdamGainsIdeal.main_v0_0) = v0 c
          ∧ r.2.mem ((c.tc : Thread Cert.AdamGainsIdeal.nD Cert.AdamGainsIdeal.τ).loc Cert.AdamGainsIdeal.main_v0_1) = v1 c
          ∧ r.2.mem ((c.tc : Thread Cert.AdamGainsIdeal.nD Cert.AdamGainsIdeal.τ).loc Cert.AdamGainsIdeal.main_v0_2) = v2 c
          ∧ r.2.mem ((c.tc : Thread Cert.AdamGainsIdeal.nD Cert.AdamGainsIdeal.τ).loc Cert.AdamGainsIdeal.main_arg0) = m ((c.tc : Thread Cert.AdamGainsIdeal.nD Cert.AdamGainsIdeal.τ).loc Cert.AdamGainsIdeal.main_arg0)
          ∧ r.2.mem ((c.tc : Thread Cert.AdamGainsIdeal.nD Cert.AdamGainsIdeal.τ).loc Cert.AdamGainsIdeal.main_arg1) = m ((c.tc : Thread Cert.AdamGainsIdeal.nD Cert.AdamGainsIdeal.τ).loc Cert.AdamGainsIdeal.main_arg1)
          ∧ r.2.mem ((c.tc : Thread Cert.AdamGainsIdeal.nD Cert.AdamGainsIdeal.τ).loc Cert.AdamGainsIdeal.main_arg2) = m ((c.tc : Thread Cert.AdamGainsIdeal.nD Cert.AdamGainsIdeal.τ).loc Cert.AdamGainsIdeal.main_arg2)
          ∧ r.2.mem ((c.tc : Thread Cert.AdamGainsIdeal.nD Cert.AdamGainsIdeal.τ).loc Cert.AdamGainsIdeal.main_arg3) = m ((c.tc : Thread Cert.AdamGainsIdeal.nD Cert.AdamGainsIdeal.τ).loc Cert.AdamGainsIdeal.main_arg3))
      ∧ θ_run (Cert.AdamGainsRefIdeal.defs (F := Ideal)) (onTc (τ := Cert.AdamGainsRefIdeal.τ) (Cert.AdamGainsRefIdeal.main (F := Ideal))) ⟨m', fun _ => 0, g'⟩ (fun r => ∀ c : Dev Cert.AdamGainsRefIdeal.nD,
          r.2.mem ((c.tc : Thread Cert.AdamGainsRefIdeal.nD Cert.AdamGainsRefIdeal.τ).loc Cert.AdamGainsRefIdeal.main_v23) = v0 c
          ∧ r.2.mem ((c.tc : Thread Cert.AdamGainsRefIdeal.nD Cert.AdamGainsRefIdeal.τ).loc Cert.AdamGainsRefIdeal.main_v4) = v1 c
          ∧ r.2.mem ((c.tc : Thread Cert.AdamGainsRefIdeal.nD Cert.AdamGainsRefIdeal.τ).loc Cert.AdamGainsRefIdeal.main_v10) = v2 c
          ∧ r.2.mem ((c.tc : Thread Cert.AdamGainsRefIdeal.nD Cert.AdamGainsRefIdeal.τ).loc Cert.AdamGainsRefIdeal.main_arg0) = m' ((c.tc : Thread Cert.AdamGainsRefIdeal.nD Cert.AdamGainsRefIdeal.τ).loc Cert.AdamGainsRefIdeal.main_arg0)
          ∧ r.2.mem ((c.tc : Thread Cert.AdamGainsRefIdeal.nD Cert.AdamGainsRefIdeal.τ).loc Cert.AdamGainsRefIdeal.main_arg1) = m' ((c.tc : Thread Cert.AdamGainsRefIdeal.nD Cert.AdamGainsRefIdeal.τ).loc Cert.AdamGainsRefIdeal.main_arg1)
          ∧ r.2.mem ((c.tc : Thread Cert.AdamGainsRefIdeal.nD Cert.AdamGainsRefIdeal.τ).loc Cert.AdamGainsRefIdeal.main_arg2) = m' ((c.tc : Thread Cert.AdamGainsRefIdeal.nD Cert.AdamGainsRefIdeal.τ).loc Cert.AdamGainsRefIdeal.main_arg2)
          ∧ r.2.mem ((c.tc : Thread Cert.AdamGainsRefIdeal.nD Cert.AdamGainsRefIdeal.τ).loc Cert.AdamGainsRefIdeal.main_arg3) = m' ((c.tc : Thread Cert.AdamGainsRefIdeal.nD Cert.AdamGainsRefIdeal.τ).loc Cert.AdamGainsRefIdeal.main_arg3))

def preserves_AdamNorm_AdamNormIdeal : Prop :=
  True

def algebraic_AdamNormIdeal_AdamNormRefIdeal [hAdamNormIdeal : Cert.AdamNormIdeal.Facts] [hAdamNormRefIdeal : Cert.AdamNormRefIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormRefIdeal.nD Cert.AdamNormRefIdeal.τ Cert.AdamNormRefIdeal.sig) → Buf (Elt Ideal) ℓ) (g' : Dev Cert.AdamNormRefIdeal.nD → PrngReg), Pre_AdamNormIdeal m →
    (∀ c : Dev Cert.AdamNormIdeal.nD,
      m' ((c.tc : Thread Cert.AdamNormRefIdeal.nD Cert.AdamNormRefIdeal.τ).loc Cert.AdamNormRefIdeal.main_arg0) = m ((c.tc : Thread Cert.AdamNormIdeal.nD Cert.AdamNormIdeal.τ).loc Cert.AdamNormIdeal.main_arg0)
      ∧ m' ((c.tc : Thread Cert.AdamNormRefIdeal.nD Cert.AdamNormRefIdeal.τ).loc Cert.AdamNormRefIdeal.main_arg1) = m ((c.tc : Thread Cert.AdamNormIdeal.nD Cert.AdamNormIdeal.τ).loc Cert.AdamNormIdeal.main_arg1)
      ∧ m' ((c.tc : Thread Cert.AdamNormRefIdeal.nD Cert.AdamNormRefIdeal.τ).loc Cert.AdamNormRefIdeal.main_arg2) = m ((c.tc : Thread Cert.AdamNormIdeal.nD Cert.AdamNormIdeal.τ).loc Cert.AdamNormIdeal.main_arg2)
      ∧ m' ((c.tc : Thread Cert.AdamNormRefIdeal.nD Cert.AdamNormRefIdeal.τ).loc Cert.AdamNormRefIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormRefIdeal.defs (F := Ideal)) (onTc (τ := Cert.AdamNormRefIdeal.τ) (Cert.AdamNormRefIdeal.main (F := Ideal))) ⟨m', fun _ => 0, g'⟩ (fun r => ∀ c : Dev Cert.AdamNormRefIdeal.nD,
          r.2.mem ((c.tc : Thread Cert.AdamNormRefIdeal.nD Cert.AdamNormRefIdeal.τ).loc Cert.AdamNormRefIdeal.main_v23) = v0 c
          ∧ r.2.mem ((c.tc : Thread Cert.AdamNormRefIdeal.nD Cert.AdamNormRefIdeal.τ).loc Cert.AdamNormRefIdeal.main_v4) = v1 c
          ∧ r.2.mem ((c.tc : Thread Cert.AdamNormRefIdeal.nD Cert.AdamNormRefIdeal.τ).loc Cert.AdamNormRefIdeal.main_v10) = v2 c
          ∧ r.2.mem ((c.tc : Thread Cert.AdamNormRefIdeal.nD Cert.AdamNormRefIdeal.τ).loc Cert.AdamNormRefIdeal.main_arg0) = m' ((c.tc : Thread Cert.AdamNormRefIdeal.nD Cert.AdamNormRefIdeal.τ).loc Cert.AdamNormRefIdeal.main_arg0)
          ∧ r.2.mem ((c.tc : Thread Cert.AdamNormRefIdeal.nD Cert.AdamNormRefIdeal.τ).loc Cert.AdamNormRefIdeal.main_arg1) = m' ((c.tc : Thread Cert.AdamNormRefIdeal.nD Cert.AdamNormRefIdeal.τ).loc Cert.AdamNormRefIdeal.main_arg1)
          ∧ r.2.mem ((c.tc : Thread Cert.AdamNormRefIdeal.nD Cert.AdamNormRefIdeal.τ).loc Cert.AdamNormRefIdeal.main_arg2) = m' ((c.tc : Thread Cert.AdamNormRefIdeal.nD Cert.AdamNormRefIdeal.τ).loc Cert.AdamNormRefIdeal.main_arg2)
          ∧ r.2.mem ((c.tc : Thread Cert.AdamNormRefIdeal.nD Cert.AdamNormRefIdeal.τ).loc Cert.AdamNormRefIdeal.main_arg3) = m' ((c.tc : Thread Cert.AdamNormRefIdeal.nD Cert.AdamNormRefIdeal.τ).loc Cert.AdamNormRefIdeal.main_arg3))

def preserves_AdamHeads_AdamHeadsIdeal : Prop :=
  True

def algebraic_AdamHeadsIdeal_AdamHeadsRefIdeal [hAdamHeadsIdeal : Cert.AdamHeadsIdeal.Facts] [hAdamHeadsRefIdeal : Cert.AdamHeadsRefIdeal.Facts] : Prop :=
  ∀ (m : (ℓ : Loc Cert.AdamHeadsIdeal.nD Cert.AdamHeadsIdeal.τ Cert.AdamHeadsIdeal.sig) → Buf (Elt Ideal) ℓ) (g : Dev Cert.AdamHeadsIdeal.nD → PrngReg)
    (m' : (ℓ : Loc Cert.AdamHeadsRefIdeal.nD Cert.AdamHeadsRefIdeal.τ Cert.AdamHeadsRefIdeal.sig) → Buf (Elt Ideal) ℓ) (g' : Dev Cert.AdamHeadsRefIdeal.nD → PrngReg), Pre_AdamHeadsIdeal m →
    (∀ c : Dev Cert.AdamHeadsIdeal.nD,
      m' ((c.tc : Thread Cert.AdamHeadsRefIdeal.nD Cert.AdamHeadsRefIdeal.τ).loc Cert.AdamHeadsRefIdeal.main_arg0) = m ((c.tc : Thread Cert.AdamHeadsIdeal.nD Cert.AdamHeadsIdeal.τ).loc Cert.AdamHeadsIdeal.main_arg0)
      ∧ m' ((c.tc : Thread Cert.AdamHeadsRefIdeal.nD Cert.AdamHeadsRefIdeal.τ).loc Cert.AdamHeadsRefIdeal.main_arg1) = m ((c.tc : Thread Cert.AdamHeadsIdeal.nD Cert.AdamHeadsIdeal.τ).loc Cert.AdamHeadsIdeal.main_arg1)
      ∧ m' ((c.tc : Thread Cert.AdamHeadsRefIdeal.nD Cert.AdamHeadsRefIdeal.τ).loc Cert.AdamHeadsRefIdeal.main_arg2) = m ((c.tc : Thread Cert.AdamHeadsIdeal.nD Cert.AdamHeadsIdeal.τ).loc Cert.AdamHeadsIdeal.main_arg2)
      ∧ m' ((c.tc : Thread Cert.AdamHeadsRefIdeal.nD Cert.AdamHeadsRefIdeal.τ).loc Cert.AdamHeadsRefIdeal.main_arg3) = m ((c.tc : Thread Cert.AdamHeadsIdeal.nD Cert.AdamHeadsIdeal.τ).loc Cert.AdamHeadsIdeal.main_arg3)) →
    ∃ (v0 : (c : Dev Cert.AdamHeadsIdeal.nD) → Buf (Elt Ideal) ((c.tc : Thread Cert.AdamHeadsIdeal.nD Cert.AdamHeadsIdeal.τ).loc Cert.AdamHeadsIdeal.main_v0_0)) (v1 : (c : Dev Cert.AdamHeadsIdeal.nD) → Buf (Elt Ideal) ((c.tc : Thread Cert.AdamHeadsIdeal.nD Cert.AdamHeadsIdeal.τ).loc Cert.AdamHeadsIdeal.main_v0_1)) (v2 : (c : Dev Cert.AdamHeadsIdeal.nD) → Buf (Elt Ideal) ((c.tc : Thread Cert.AdamHeadsIdeal.nD Cert.AdamHeadsIdeal.τ).loc Cert.AdamHeadsIdeal.main_v0_2)),
      θ_run (Cert.AdamHeadsIdeal.defs (F := Ideal)) (onTc (τ := Cert.AdamHeadsIdeal.τ) (Cert.AdamHeadsIdeal.main (F := Ideal))) ⟨m, fun _ => 0, g⟩ (fun r => ∀ c : Dev Cert.AdamHeadsIdeal.nD,
          r.2.mem ((c.tc : Thread Cert.AdamHeadsIdeal.nD Cert.AdamHeadsIdeal.τ).loc Cert.AdamHeadsIdeal.main_v0_0) = v0 c
          ∧ r.2.mem ((c.tc : Thread Cert.AdamHeadsIdeal.nD Cert.AdamHeadsIdeal.τ).loc Cert.AdamHeadsIdeal.main_v0_1) = v1 c
          ∧ r.2.mem ((c.tc : Thread Cert.AdamHeadsIdeal.nD Cert.AdamHeadsIdeal.τ).loc Cert.AdamHeadsIdeal.main_v0_2) = v2 c
          ∧ r.2.mem ((c.tc : Thread Cert.AdamHeadsIdeal.nD Cert.AdamHeadsIdeal.τ).loc Cert.AdamHeadsIdeal.main_arg0) = m ((c.tc : Thread Cert.AdamHeadsIdeal.nD Cert.AdamHeadsIdeal.τ).loc Cert.AdamHeadsIdeal.main_arg0)
          ∧ r.2.mem ((c.tc : Thread Cert.AdamHeadsIdeal.nD Cert.AdamHeadsIdeal.τ).loc Cert.AdamHeadsIdeal.main_arg1) = m ((c.tc : Thread Cert.AdamHeadsIdeal.nD Cert.AdamHeadsIdeal.τ).loc Cert.AdamHeadsIdeal.main_arg1)
          ∧ r.2.mem ((c.tc : Thread Cert.AdamHeadsIdeal.nD Cert.AdamHeadsIdeal.τ).loc Cert.AdamHeadsIdeal.main_arg2) = m ((c.tc : Thread Cert.AdamHeadsIdeal.nD Cert.AdamHeadsIdeal.τ).loc Cert.AdamHeadsIdeal.main_arg2)
          ∧ r.2.mem ((c.tc : Thread Cert.AdamHeadsIdeal.nD Cert.AdamHeadsIdeal.τ).loc Cert.AdamHeadsIdeal.main_arg3) = m ((c.tc : Thread Cert.AdamHeadsIdeal.nD Cert.AdamHeadsIdeal.τ).loc Cert.AdamHeadsIdeal.main_arg3))
      ∧ θ_run (Cert.AdamHeadsRefIdeal.defs (F := Ideal)) (onTc (τ := Cert.AdamHeadsRefIdeal.τ) (Cert.AdamHeadsRefIdeal.main (F := Ideal))) ⟨m', fun _ => 0, g'⟩ (fun r => ∀ c : Dev Cert.AdamHeadsRefIdeal.nD,
          r.2.mem ((c.tc : Thread Cert.AdamHeadsRefIdeal.nD Cert.AdamHeadsRefIdeal.τ).loc Cert.AdamHeadsRefIdeal.main_v23) = v0 c
          ∧ r.2.mem ((c.tc : Thread Cert.AdamHeadsRefIdeal.nD Cert.AdamHeadsRefIdeal.τ).loc Cert.AdamHeadsRefIdeal.main_v4) = v1 c
          ∧ r.2.mem ((c.tc : Thread Cert.AdamHeadsRefIdeal.nD Cert.AdamHeadsRefIdeal.τ).loc Cert.AdamHeadsRefIdeal.main_v10) = v2 c
          ∧ r.2.mem ((c.tc : Thread Cert.AdamHeadsRefIdeal.nD Cert.AdamHeadsRefIdeal.τ).loc Cert.AdamHeadsRefIdeal.main_arg0) = m' ((c.tc : Thread Cert.AdamHeadsRefIdeal.nD Cert.AdamHeadsRefIdeal.τ).loc Cert.AdamHeadsRefIdeal.main_arg0)
          ∧ r.2.mem ((c.tc : Thread Cert.AdamHeadsRefIdeal.nD Cert.AdamHeadsRefIdeal.τ).loc Cert.AdamHeadsRefIdeal.main_arg1) = m' ((c.tc : Thread Cert.AdamHeadsRefIdeal.nD Cert.AdamHeadsRefIdeal.τ).loc Cert.AdamHeadsRefIdeal.main_arg1)
          ∧ r.2.mem ((c.tc : Thread Cert.AdamHeadsRefIdeal.nD Cert.AdamHeadsRefIdeal.τ).loc Cert.AdamHeadsRefIdeal.main_arg2) = m' ((c.tc : Thread Cert.AdamHeadsRefIdeal.nD Cert.AdamHeadsRefIdeal.τ).loc Cert.AdamHeadsRefIdeal.main_arg2)
          ∧ r.2.mem ((c.tc : Thread Cert.AdamHeadsRefIdeal.nD Cert.AdamHeadsRefIdeal.τ).loc Cert.AdamHeadsRefIdeal.main_arg3) = m' ((c.tc : Thread Cert.AdamHeadsRefIdeal.nD Cert.AdamHeadsRefIdeal.τ).loc Cert.AdamHeadsRefIdeal.main_arg3))

def preserves_AdamGates_AdamGatesIdeal : Prop :=
  True

def algebraic_AdamGatesIdeal_AdamGatesRefIdeal [hAdamGatesIdeal : Cert.AdamGatesIdeal.Facts] [hAdamGatesRefIdeal : Cert.AdamGatesRefIdeal.Facts] : Prop :=
  ∀ (m : (ℓ : Loc Cert.AdamGatesIdeal.nD Cert.AdamGatesIdeal.τ Cert.AdamGatesIdeal.sig) → Buf (Elt Ideal) ℓ) (g : Dev Cert.AdamGatesIdeal.nD → PrngReg)
    (m' : (ℓ : Loc Cert.AdamGatesRefIdeal.nD Cert.AdamGatesRefIdeal.τ Cert.AdamGatesRefIdeal.sig) → Buf (Elt Ideal) ℓ) (g' : Dev Cert.AdamGatesRefIdeal.nD → PrngReg), Pre_AdamGatesIdeal m →
    (∀ c : Dev Cert.AdamGatesIdeal.nD,
      m' ((c.tc : Thread Cert.AdamGatesRefIdeal.nD Cert.AdamGatesRefIdeal.τ).loc Cert.AdamGatesRefIdeal.main_arg0) = m ((c.tc : Thread Cert.AdamGatesIdeal.nD Cert.AdamGatesIdeal.τ).loc Cert.AdamGatesIdeal.main_arg0)
      ∧ m' ((c.tc : Thread Cert.AdamGatesRefIdeal.nD Cert.AdamGatesRefIdeal.τ).loc Cert.AdamGatesRefIdeal.main_arg1) = m ((c.tc : Thread Cert.AdamGatesIdeal.nD Cert.AdamGatesIdeal.τ).loc Cert.AdamGatesIdeal.main_arg1)
      ∧ m' ((c.tc : Thread Cert.AdamGatesRefIdeal.nD Cert.AdamGatesRefIdeal.τ).loc Cert.AdamGatesRefIdeal.main_arg2) = m ((c.tc : Thread Cert.AdamGatesIdeal.nD Cert.AdamGatesIdeal.τ).loc Cert.AdamGatesIdeal.main_arg2)
      ∧ m' ((c.tc : Thread Cert.AdamGatesRefIdeal.nD Cert.AdamGatesRefIdeal.τ).loc Cert.AdamGatesRefIdeal.main_arg3) = m ((c.tc : Thread Cert.AdamGatesIdeal.nD Cert.AdamGatesIdeal.τ).loc Cert.AdamGatesIdeal.main_arg3)) →
    ∃ (v0 : (c : Dev Cert.AdamGatesIdeal.nD) → Buf (Elt Ideal) ((c.tc : Thread Cert.AdamGatesIdeal.nD Cert.AdamGatesIdeal.τ).loc Cert.AdamGatesIdeal.main_v0_0)) (v1 : (c : Dev Cert.AdamGatesIdeal.nD) → Buf (Elt Ideal) ((c.tc : Thread Cert.AdamGatesIdeal.nD Cert.AdamGatesIdeal.τ).loc Cert.AdamGatesIdeal.main_v0_1)) (v2 : (c : Dev Cert.AdamGatesIdeal.nD) → Buf (Elt Ideal) ((c.tc : Thread Cert.AdamGatesIdeal.nD Cert.AdamGatesIdeal.τ).loc Cert.AdamGatesIdeal.main_v0_2)),
      θ_run (Cert.AdamGatesIdeal.defs (F := Ideal)) (onTc (τ := Cert.AdamGatesIdeal.τ) (Cert.AdamGatesIdeal.main (F := Ideal))) ⟨m, fun _ => 0, g⟩ (fun r => ∀ c : Dev Cert.AdamGatesIdeal.nD,
          r.2.mem ((c.tc : Thread Cert.AdamGatesIdeal.nD Cert.AdamGatesIdeal.τ).loc Cert.AdamGatesIdeal.main_v0_0) = v0 c
          ∧ r.2.mem ((c.tc : Thread Cert.AdamGatesIdeal.nD Cert.AdamGatesIdeal.τ).loc Cert.AdamGatesIdeal.main_v0_1) = v1 c
          ∧ r.2.mem ((c.tc : Thread Cert.AdamGatesIdeal.nD Cert.AdamGatesIdeal.τ).loc Cert.AdamGatesIdeal.main_v0_2) = v2 c
          ∧ r.2.mem ((c.tc : Thread Cert.AdamGatesIdeal.nD Cert.AdamGatesIdeal.τ).loc Cert.AdamGatesIdeal.main_arg0) = m ((c.tc : Thread Cert.AdamGatesIdeal.nD Cert.AdamGatesIdeal.τ).loc Cert.AdamGatesIdeal.main_arg0)
          ∧ r.2.mem ((c.tc : Thread Cert.AdamGatesIdeal.nD Cert.AdamGatesIdeal.τ).loc Cert.AdamGatesIdeal.main_arg1) = m ((c.tc : Thread Cert.AdamGatesIdeal.nD Cert.AdamGatesIdeal.τ).loc Cert.AdamGatesIdeal.main_arg1)
          ∧ r.2.mem ((c.tc : Thread Cert.AdamGatesIdeal.nD Cert.AdamGatesIdeal.τ).loc Cert.AdamGatesIdeal.main_arg2) = m ((c.tc : Thread Cert.AdamGatesIdeal.nD Cert.AdamGatesIdeal.τ).loc Cert.AdamGatesIdeal.main_arg2)
          ∧ r.2.mem ((c.tc : Thread Cert.AdamGatesIdeal.nD Cert.AdamGatesIdeal.τ).loc Cert.AdamGatesIdeal.main_arg3) = m ((c.tc : Thread Cert.AdamGatesIdeal.nD Cert.AdamGatesIdeal.τ).loc Cert.AdamGatesIdeal.main_arg3))
      ∧ θ_run (Cert.AdamGatesRefIdeal.defs (F := Ideal)) (onTc (τ := Cert.AdamGatesRefIdeal.τ) (Cert.AdamGatesRefIdeal.main (F := Ideal))) ⟨m', fun _ => 0, g'⟩ (fun r => ∀ c : Dev Cert.AdamGatesRefIdeal.nD,
          r.2.mem ((c.tc : Thread Cert.AdamGatesRefIdeal.nD Cert.AdamGatesRefIdeal.τ).loc Cert.AdamGatesRefIdeal.main_v23) = v0 c
          ∧ r.2.mem ((c.tc : Thread Cert.AdamGatesRefIdeal.nD Cert.AdamGatesRefIdeal.τ).loc Cert.AdamGatesRefIdeal.main_v4) = v1 c
          ∧ r.2.mem ((c.tc : Thread Cert.AdamGatesRefIdeal.nD Cert.AdamGatesRefIdeal.τ).loc Cert.AdamGatesRefIdeal.main_v10) = v2 c
          ∧ r.2.mem ((c.tc : Thread Cert.AdamGatesRefIdeal.nD Cert.AdamGatesRefIdeal.τ).loc Cert.AdamGatesRefIdeal.main_arg0) = m' ((c.tc : Thread Cert.AdamGatesRefIdeal.nD Cert.AdamGatesRefIdeal.τ).loc Cert.AdamGatesRefIdeal.main_arg0)
          ∧ r.2.mem ((c.tc : Thread Cert.AdamGatesRefIdeal.nD Cert.AdamGatesRefIdeal.τ).loc Cert.AdamGatesRefIdeal.main_arg1) = m' ((c.tc : Thread Cert.AdamGatesRefIdeal.nD Cert.AdamGatesRefIdeal.τ).loc Cert.AdamGatesRefIdeal.main_arg1)
          ∧ r.2.mem ((c.tc : Thread Cert.AdamGatesRefIdeal.nD Cert.AdamGatesRefIdeal.τ).loc Cert.AdamGatesRefIdeal.main_arg2) = m' ((c.tc : Thread Cert.AdamGatesRefIdeal.nD Cert.AdamGatesRefIdeal.τ).loc Cert.AdamGatesRefIdeal.main_arg2)
          ∧ r.2.mem ((c.tc : Thread Cert.AdamGatesRefIdeal.nD Cert.AdamGatesRefIdeal.τ).loc Cert.AdamGatesRefIdeal.main_arg3) = m' ((c.tc : Thread Cert.AdamGatesRefIdeal.nD Cert.AdamGatesRefIdeal.τ).loc Cert.AdamGatesRefIdeal.main_arg3))

def preserves_AdamRel_AdamRelIdeal : Prop :=
  True

def algebraic_AdamRelIdeal_AdamRelRefIdeal [hAdamRelIdeal : Cert.AdamRelIdeal.Facts] [hAdamRelRefIdeal : Cert.AdamRelRefIdeal.Facts] : Prop :=
  ∀ (m : (ℓ : Loc Cert.AdamRelIdeal.nD Cert.AdamRelIdeal.τ Cert.AdamRelIdeal.sig) → Buf (Elt Ideal) ℓ) (g : Dev Cert.AdamRelIdeal.nD → PrngReg)
    (m' : (ℓ : Loc Cert.AdamRelRefIdeal.nD Cert.AdamRelRefIdeal.τ Cert.AdamRelRefIdeal.sig) → Buf (Elt Ideal) ℓ) (g' : Dev Cert.AdamRelRefIdeal.nD → PrngReg), Pre_AdamRelIdeal m →
    (∀ c : Dev Cert.AdamRelIdeal.nD,
      m' ((c.tc : Thread Cert.AdamRelRefIdeal.nD Cert.AdamRelRefIdeal.τ).loc Cert.AdamRelRefIdeal.main_arg0) = m ((c.tc : Thread Cert.AdamRelIdeal.nD Cert.AdamRelIdeal.τ).loc Cert.AdamRelIdeal.main_arg0)
      ∧ m' ((c.tc : Thread Cert.AdamRelRefIdeal.nD Cert.AdamRelRefIdeal.τ).loc Cert.AdamRelRefIdeal.main_arg1) = m ((c.tc : Thread Cert.AdamRelIdeal.nD Cert.AdamRelIdeal.τ).loc Cert.AdamRelIdeal.main_arg1)
      ∧ m' ((c.tc : Thread Cert.AdamRelRefIdeal.nD Cert.AdamRelRefIdeal.τ).loc Cert.AdamRelRefIdeal.main_arg2) = m ((c.tc : Thread Cert.AdamRelIdeal.nD Cert.AdamRelIdeal.τ).loc Cert.AdamRelIdeal.main_arg2)
      ∧ m' ((c.tc : Thread Cert.AdamRelRefIdeal.nD Cert.AdamRelRefIdeal.τ).loc Cert.AdamRelRefIdeal.main_arg3) = m ((c.tc : Thread Cert.AdamRelIdeal.nD Cert.AdamRelIdeal.τ).loc Cert.AdamRelIdeal.main_arg3)) →
    ∃ (v0 : (c : Dev Cert.AdamRelIdeal.nD) → Buf (Elt Ideal) ((c.tc : Thread Cert.AdamRelIdeal.nD Cert.AdamRelIdeal.τ).loc Cert.AdamRelIdeal.main_v0_0)) (v1 : (c : Dev Cert.AdamRelIdeal.nD) → Buf (Elt Ideal) ((c.tc : Thread Cert.AdamRelIdeal.nD Cert.AdamRelIdeal.τ).loc Cert.AdamRelIdeal.main_v0_1)) (v2 : (c : Dev Cert.AdamRelIdeal.nD) → Buf (Elt Ideal) ((c.tc : Thread Cert.AdamRelIdeal.nD Cert.AdamRelIdeal.τ).loc Cert.AdamRelIdeal.main_v0_2)),
      θ_run (Cert.AdamRelIdeal.defs (F := Ideal)) (onTc (τ := Cert.AdamRelIdeal.τ) (Cert.AdamRelIdeal.main (F := Ideal))) ⟨m, fun _ => 0, g⟩ (fun r => ∀ c : Dev Cert.AdamRelIdeal.nD,
          r.2.mem ((c.tc : Thread Cert.AdamRelIdeal.nD Cert.AdamRelIdeal.τ).loc Cert.AdamRelIdeal.main_v0_0) = v0 c
          ∧ r.2.mem ((c.tc : Thread Cert.AdamRelIdeal.nD Cert.AdamRelIdeal.τ).loc Cert.AdamRelIdeal.main_v0_1) = v1 c
          ∧ r.2.mem ((c.tc : Thread Cert.AdamRelIdeal.nD Cert.AdamRelIdeal.τ).loc Cert.AdamRelIdeal.main_v0_2) = v2 c
          ∧ r.2.mem ((c.tc : Thread Cert.AdamRelIdeal.nD Cert.AdamRelIdeal.τ).loc Cert.AdamRelIdeal.main_arg0) = m ((c.tc : Thread Cert.AdamRelIdeal.nD Cert.AdamRelIdeal.τ).loc Cert.AdamRelIdeal.main_arg0)
          ∧ r.2.mem ((c.tc : Thread Cert.AdamRelIdeal.nD Cert.AdamRelIdeal.τ).loc Cert.AdamRelIdeal.main_arg1) = m ((c.tc : Thread Cert.AdamRelIdeal.nD Cert.AdamRelIdeal.τ).loc Cert.AdamRelIdeal.main_arg1)
          ∧ r.2.mem ((c.tc : Thread Cert.AdamRelIdeal.nD Cert.AdamRelIdeal.τ).loc Cert.AdamRelIdeal.main_arg2) = m ((c.tc : Thread Cert.AdamRelIdeal.nD Cert.AdamRelIdeal.τ).loc Cert.AdamRelIdeal.main_arg2)
          ∧ r.2.mem ((c.tc : Thread Cert.AdamRelIdeal.nD Cert.AdamRelIdeal.τ).loc Cert.AdamRelIdeal.main_arg3) = m ((c.tc : Thread Cert.AdamRelIdeal.nD Cert.AdamRelIdeal.τ).loc Cert.AdamRelIdeal.main_arg3))
      ∧ θ_run (Cert.AdamRelRefIdeal.defs (F := Ideal)) (onTc (τ := Cert.AdamRelRefIdeal.τ) (Cert.AdamRelRefIdeal.main (F := Ideal))) ⟨m', fun _ => 0, g'⟩ (fun r => ∀ c : Dev Cert.AdamRelRefIdeal.nD,
          r.2.mem ((c.tc : Thread Cert.AdamRelRefIdeal.nD Cert.AdamRelRefIdeal.τ).loc Cert.AdamRelRefIdeal.main_v23) = v0 c
          ∧ r.2.mem ((c.tc : Thread Cert.AdamRelRefIdeal.nD Cert.AdamRelRefIdeal.τ).loc Cert.AdamRelRefIdeal.main_v4) = v1 c
          ∧ r.2.mem ((c.tc : Thread Cert.AdamRelRefIdeal.nD Cert.AdamRelRefIdeal.τ).loc Cert.AdamRelRefIdeal.main_v10) = v2 c
          ∧ r.2.mem ((c.tc : Thread Cert.AdamRelRefIdeal.nD Cert.AdamRelRefIdeal.τ).loc Cert.AdamRelRefIdeal.main_arg0) = m' ((c.tc : Thread Cert.AdamRelRefIdeal.nD Cert.AdamRelRefIdeal.τ).loc Cert.AdamRelRefIdeal.main_arg0)
          ∧ r.2.mem ((c.tc : Thread Cert.AdamRelRefIdeal.nD Cert.AdamRelRefIdeal.τ).loc Cert.AdamRelRefIdeal.main_arg1) = m' ((c.tc : Thread Cert.AdamRelRefIdeal.nD Cert.AdamRelRefIdeal.τ).loc Cert.AdamRelRefIdeal.main_arg1)
          ∧ r.2.mem ((c.tc : Thread Cert.AdamRelRefIdeal.nD Cert.AdamRelRefIdeal.τ).loc Cert.AdamRelRefIdeal.main_arg2) = m' ((c.tc : Thread Cert.AdamRelRefIdeal.nD Cert.AdamRelRefIdeal.τ).loc Cert.AdamRelRefIdeal.main_arg2)
          ∧ r.2.mem ((c.tc : Thread Cert.AdamRelRefIdeal.nD Cert.AdamRelRefIdeal.τ).loc Cert.AdamRelRefIdeal.main_arg3) = m' ((c.tc : Thread Cert.AdamRelRefIdeal.nD Cert.AdamRelRefIdeal.τ).loc Cert.AdamRelRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v23) = v0 c
          ∧ r.2.mem ((c.tc : Thread Cert.AdamConvRefIdeal.nD Cert.AdamConvRefIdeal.τ).loc Cert.AdamConvRefIdeal.main_v4) = v1 c
          ∧ r.2.mem ((c.tc : Thread Cert.AdamConvRefIdeal.nD Cert.AdamConvRefIdeal.τ).loc Cert.AdamConvRefIdeal.main_v10) = v2 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_AdamConvB_AdamConvBIdeal : Prop :=
  True

def algebraic_AdamConvBIdeal_AdamConvBRefIdeal [hAdamConvBIdeal : Cert.AdamConvBIdeal.Facts] [hAdamConvBRefIdeal : Cert.AdamConvBRefIdeal.Facts] : Prop :=
  ∀ (m : (ℓ : Loc Cert.AdamConvBIdeal.nD Cert.AdamConvBIdeal.τ Cert.AdamConvBIdeal.sig) → Buf (Elt Ideal) ℓ) (g : Dev Cert.AdamConvBIdeal.nD → PrngReg)
    (m' : (ℓ : Loc Cert.AdamConvBRefIdeal.nD Cert.AdamConvBRefIdeal.τ Cert.AdamConvBRefIdeal.sig) → Buf (Elt Ideal) ℓ) (g' : Dev Cert.AdamConvBRefIdeal.nD → PrngReg), Pre_AdamConvBIdeal m →
    (∀ c : Dev Cert.AdamConvBIdeal.nD,
      m' ((c.tc : Thread Cert.AdamConvBRefIdeal.nD Cert.AdamConvBRefIdeal.τ).loc Cert.AdamConvBRefIdeal.main_arg0) = m ((c.tc : Thread Cert.AdamConvBIdeal.nD Cert.AdamConvBIdeal.τ).loc Cert.AdamConvBIdeal.main_arg0)
      ∧ m' ((c.tc : Thread Cert.AdamConvBRefIdeal.nD Cert.AdamConvBRefIdeal.τ).loc Cert.AdamConvBRefIdeal.main_arg1) = m ((c.tc : Thread Cert.AdamConvBIdeal.nD Cert.AdamConvBIdeal.τ).loc Cert.AdamConvBIdeal.main_arg1)
      ∧ m' ((c.tc : Thread Cert.AdamConvBRefIdeal.nD Cert.AdamConvBRefIdeal.τ).loc Cert.AdamConvBRefIdeal.main_arg2) = m ((c.tc : Thread Cert.AdamConvBIdeal.nD Cert.AdamConvBIdeal.τ).loc Cert.AdamConvBIdeal.main_arg2)
      ∧ m' ((c.tc : Thread Cert.AdamConvBRefIdeal.nD Cert.AdamConvBRefIdeal.τ).loc Cert.AdamConvBRefIdeal.main_arg3) = m ((c.tc : Thread Cert.AdamConvBIdeal.nD Cert.AdamConvBIdeal.τ).loc Cert.AdamConvBIdeal.main_arg3)) →
    ∃ (v0 : (c : Dev Cert.AdamConvBIdeal.nD) → Buf (Elt Ideal) ((c.tc : Thread Cert.AdamConvBIdeal.nD Cert.AdamConvBIdeal.τ).loc Cert.AdamConvBIdeal.main_v0_0)) (v1 : (c : Dev Cert.AdamConvBIdeal.nD) → Buf (Elt Ideal) ((c.tc : Thread Cert.AdamConvBIdeal.nD Cert.AdamConvBIdeal.τ).loc Cert.AdamConvBIdeal.main_v0_1)) (v2 : (c : Dev Cert.AdamConvBIdeal.nD) → Buf (Elt Ideal) ((c.tc : Thread Cert.AdamConvBIdeal.nD Cert.AdamConvBIdeal.τ).loc Cert.AdamConvBIdeal.main_v0_2)),
      θ_run (Cert.AdamConvBIdeal.defs (F := Ideal)) (onTc (τ := Cert.AdamConvBIdeal.τ) (Cert.AdamConvBIdeal.main (F := Ideal))) ⟨m, fun _ => 0, g⟩ (fun r => ∀ c : Dev Cert.AdamConvBIdeal.nD,
          r.2.mem ((c.tc : Thread Cert.AdamConvBIdeal.nD Cert.AdamConvBIdeal.τ).loc Cert.AdamConvBIdeal.main_v0_0) = v0 c
          ∧ r.2.mem ((c.tc : Thread Cert.AdamConvBIdeal.nD Cert.AdamConvBIdeal.τ).loc Cert.AdamConvBIdeal.main_v0_1) = v1 c
          ∧ r.2.mem ((c.tc : Thread Cert.AdamConvBIdeal.nD Cert.AdamConvBIdeal.τ).loc Cert.AdamConvBIdeal.main_v0_2) = v2 c
          ∧ r.2.mem ((c.tc : Thread Cert.AdamConvBIdeal.nD Cert.AdamConvBIdeal.τ).loc Cert.AdamConvBIdeal.main_arg0) = m ((c.tc : Thread Cert.AdamConvBIdeal.nD Cert.AdamConvBIdeal.τ).loc Cert.AdamConvBIdeal.main_arg0)
          ∧ r.2.mem ((c.tc : Thread Cert.AdamConvBIdeal.nD Cert.AdamConvBIdeal.τ).loc Cert.AdamConvBIdeal.main_arg1) = m ((c.tc : Thread Cert.AdamConvBIdeal.nD Cert.AdamConvBIdeal.τ).loc Cert.AdamConvBIdeal.main_arg1)
          ∧ r.2.mem ((c.tc : Thread Cert.AdamConvBIdeal.nD Cert.AdamConvBIdeal.τ).loc Cert.AdamConvBIdeal.main_arg2) = m ((c.tc : Thread Cert.AdamConvBIdeal.nD Cert.AdamConvBIdeal.τ).loc Cert.AdamConvBIdeal.main_arg2)
          ∧ r.2.mem ((c.tc : Thread Cert.AdamConvBIdeal.nD Cert.AdamConvBIdeal.τ).loc Cert.AdamConvBIdeal.main_arg3) = m ((c.tc : Thread Cert.AdamConvBIdeal.nD Cert.AdamConvBIdeal.τ).loc Cert.AdamConvBIdeal.main_arg3))
      ∧ θ_run (Cert.AdamConvBRefIdeal.defs (F := Ideal)) (onTc (τ := Cert.AdamConvBRefIdeal.τ) (Cert.AdamConvBRefIdeal.main (F := Ideal))) ⟨m', fun _ => 0, g'⟩ (fun r => ∀ c : Dev Cert.AdamConvBRefIdeal.nD,
          r.2.mem ((c.tc : Thread Cert.AdamConvBRefIdeal.nD Cert.AdamConvBRefIdeal.τ).loc Cert.AdamConvBRefIdeal.main_v23) = v0 c
          ∧ r.2.mem ((c.tc : Thread Cert.AdamConvBRefIdeal.nD Cert.AdamConvBRefIdeal.τ).loc Cert.AdamConvBRefIdeal.main_v4) = v1 c
          ∧ r.2.mem ((c.tc : Thread Cert.AdamConvBRefIdeal.nD Cert.AdamConvBRefIdeal.τ).loc Cert.AdamConvBRefIdeal.main_v10) = v2 c
          ∧ r.2.mem ((c.tc : Thread Cert.AdamConvBRefIdeal.nD Cert.AdamConvBRefIdeal.τ).loc Cert.AdamConvBRefIdeal.main_arg0) = m' ((c.tc : Thread Cert.AdamConvBRefIdeal.nD Cert.AdamConvBRefIdeal.τ).loc Cert.AdamConvBRefIdeal.main_arg0)
          ∧ r.2.mem ((c.tc : Thread Cert.AdamConvBRefIdeal.nD Cert.AdamConvBRefIdeal.τ).loc Cert.AdamConvBRefIdeal.main_arg1) = m' ((c.tc : Thread Cert.AdamConvBRefIdeal.nD Cert.AdamConvBRefIdeal.τ).loc Cert.AdamConvBRefIdeal.main_arg1)
          ∧ r.2.mem ((c.tc : Thread Cert.AdamConvBRefIdeal.nD Cert.AdamConvBRefIdeal.τ).loc Cert.AdamConvBRefIdeal.main_arg2) = m' ((c.tc : Thread Cert.AdamConvBRefIdeal.nD Cert.AdamConvBRefIdeal.τ).loc Cert.AdamConvBRefIdeal.main_arg2)
          ∧ r.2.mem ((c.tc : Thread Cert.AdamConvBRefIdeal.nD Cert.AdamConvBRefIdeal.τ).loc Cert.AdamConvBRefIdeal.main_arg3) = m' ((c.tc : Thread Cert.AdamConvBRefIdeal.nD Cert.AdamConvBRefIdeal.τ).loc Cert.AdamConvBRefIdeal.main_arg3))

def Claim : Prop :=
  ∃ (hKernel : Cert.Kernel.Facts) (hKernelIdeal : Cert.KernelIdeal.Facts) (hReferenceIdeal : Cert.ReferenceIdeal.Facts) (hDdown : Cert.Ddown.Facts) (hDdownIdeal : Cert.DdownIdeal.Facts) (hDdownRefIdeal : Cert.DdownRefIdeal.Facts) (hGdown : Cert.Gdown.Facts) (hGdownIdeal : Cert.GdownIdeal.Facts) (hGdownRefIdeal : Cert.GdownRefIdeal.Facts) (hDup : Cert.Dup.Facts) (hDupIdeal : Cert.DupIdeal.Facts) (hDupRefIdeal : Cert.DupRefIdeal.Facts) (hGup : Cert.Gup.Facts) (hGupIdeal : Cert.GupIdeal.Facts) (hGupRefIdeal : Cert.GupRefIdeal.Facts) (hDout : Cert.Dout.Facts) (hDoutIdeal : Cert.DoutIdeal.Facts) (hDoutRefIdeal : Cert.DoutRefIdeal.Facts) (hGout : Cert.Gout.Facts) (hGoutIdeal : Cert.GoutIdeal.Facts) (hGoutRefIdeal : Cert.GoutRefIdeal.Facts) (hDq : Cert.Dq.Facts) (hDqIdeal : Cert.DqIdeal.Facts) (hDqRefIdeal : Cert.DqRefIdeal.Facts) (hGq : Cert.Gq.Facts) (hGqIdeal : Cert.GqIdeal.Facts) (hGqRefIdeal : Cert.GqRefIdeal.Facts) (hDkv : Cert.Dkv.Facts) (hDkvIdeal : Cert.DkvIdeal.Facts) (hDkvRefIdeal : Cert.DkvRefIdeal.Facts) (hGkv : Cert.Gkv.Facts) (hGkvIdeal : Cert.GkvIdeal.Facts) (hGkvRefIdeal : Cert.GkvRefIdeal.Facts) (hAttn : Cert.Attn.Facts) (hAttnIdeal : Cert.AttnIdeal.Facts) (hAttnRefIdeal : Cert.AttnRefIdeal.Facts) (hDin : Cert.Din.Facts) (hDinIdeal : Cert.DinIdeal.Facts) (hDinRefIdeal : Cert.DinRefIdeal.Facts) (hGin : Cert.Gin.Facts) (hGinIdeal : Cert.GinIdeal.Facts) (hGinRefIdeal : Cert.GinRefIdeal.Facts) (hAin : Cert.Ain.Facts) (hAinIdeal : Cert.AinIdeal.Facts) (hAinRefIdeal : Cert.AinRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hView0 : Cert.View0.Facts) (hView0Ideal : Cert.View0Ideal.Facts) (hView0RefIdeal : Cert.View0RefIdeal.Facts) (hView1 : Cert.View1.Facts) (hView1Ideal : Cert.View1Ideal.Facts) (hView1RefIdeal : Cert.View1RefIdeal.Facts) (hView2 : Cert.View2.Facts) (hView2Ideal : Cert.View2Ideal.Facts) (hView2RefIdeal : Cert.View2RefIdeal.Facts) (hUpAct : Cert.UpAct.Facts) (hUpActIdeal : Cert.UpActIdeal.Facts) (hUpActRefIdeal : Cert.UpActRefIdeal.Facts) (hDnorm : Cert.Dnorm.Facts) (hDnormIdeal : Cert.DnormIdeal.Facts) (hDnormRefIdeal : Cert.DnormRefIdeal.Facts) (hAdamUp : Cert.AdamUp.Facts) (hAdamUpIdeal : Cert.AdamUpIdeal.Facts) (hAdamUpRefIdeal : Cert.AdamUpRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamKv : Cert.AdamKv.Facts) (hAdamKvIdeal : Cert.AdamKvIdeal.Facts) (hAdamKvRefIdeal : Cert.AdamKvRefIdeal.Facts) (hAdamQ : Cert.AdamQ.Facts) (hAdamQIdeal : Cert.AdamQIdeal.Facts) (hAdamQRefIdeal : Cert.AdamQRefIdeal.Facts) (hAdamDown : Cert.AdamDown.Facts) (hAdamDownIdeal : Cert.AdamDownIdeal.Facts) (hAdamDownRefIdeal : Cert.AdamDownRefIdeal.Facts) (hAdamGain : Cert.AdamGain.Facts) (hAdamGainIdeal : Cert.AdamGainIdeal.Facts) (hAdamGainRefIdeal : Cert.AdamGainRefIdeal.Facts) (hAdamGains : Cert.AdamGains.Facts) (hAdamGainsIdeal : Cert.AdamGainsIdeal.Facts) (hAdamGainsRefIdeal : Cert.AdamGainsRefIdeal.Facts) (hAdamNorm : Cert.AdamNorm.Facts) (hAdamNormIdeal : Cert.AdamNormIdeal.Facts) (hAdamNormRefIdeal : Cert.AdamNormRefIdeal.Facts) (hAdamHeads : Cert.AdamHeads.Facts) (hAdamHeadsIdeal : Cert.AdamHeadsIdeal.Facts) (hAdamHeadsRefIdeal : Cert.AdamHeadsRefIdeal.Facts) (hAdamGates : Cert.AdamGates.Facts) (hAdamGatesIdeal : Cert.AdamGatesIdeal.Facts) (hAdamGatesRefIdeal : Cert.AdamGatesRefIdeal.Facts) (hAdamRel : Cert.AdamRel.Facts) (hAdamRelIdeal : Cert.AdamRelIdeal.Facts) (hAdamRelRefIdeal : Cert.AdamRelRefIdeal.Facts) (hAdamConv : Cert.AdamConv.Facts) (hAdamConvIdeal : Cert.AdamConvIdeal.Facts) (hAdamConvRefIdeal : Cert.AdamConvRefIdeal.Facts) (hAdamConvB : Cert.AdamConvB.Facts) (hAdamConvBIdeal : Cert.AdamConvBIdeal.Facts) (hAdamConvBRefIdeal : Cert.AdamConvBRefIdeal.Facts) (hPre_finite : Cert.Pre_finite.Facts) (hPre_finite_attn : Cert.Pre_finite_attn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ddown (hDdown := hDdown)
    ∧ quiescent_DdownIdeal (hDdownIdeal := hDdownIdeal)
    ∧ quiescent_DdownRefIdeal (hDdownRefIdeal := hDdownRefIdeal)
    ∧ quiescent_Gdown (hGdown := hGdown)
    ∧ quiescent_GdownIdeal (hGdownIdeal := hGdownIdeal)
    ∧ quiescent_GdownRefIdeal (hGdownRefIdeal := hGdownRefIdeal)
    ∧ quiescent_Dup (hDup := hDup)
    ∧ quiescent_DupIdeal (hDupIdeal := hDupIdeal)
    ∧ quiescent_DupRefIdeal (hDupRefIdeal := hDupRefIdeal)
    ∧ quiescent_Gup (hGup := hGup)
    ∧ quiescent_GupIdeal (hGupIdeal := hGupIdeal)
    ∧ quiescent_GupRefIdeal (hGupRefIdeal := hGupRefIdeal)
    ∧ quiescent_Dout (hDout := hDout)
    ∧ quiescent_DoutIdeal (hDoutIdeal := hDoutIdeal)
    ∧ quiescent_DoutRefIdeal (hDoutRefIdeal := hDoutRefIdeal)
    ∧ quiescent_Gout (hGout := hGout)
    ∧ quiescent_GoutIdeal (hGoutIdeal := hGoutIdeal)
    ∧ quiescent_GoutRefIdeal (hGoutRefIdeal := hGoutRefIdeal)
    ∧ quiescent_Dq (hDq := hDq)
    ∧ quiescent_DqIdeal (hDqIdeal := hDqIdeal)
    ∧ quiescent_DqRefIdeal (hDqRefIdeal := hDqRefIdeal)
    ∧ quiescent_Gq (hGq := hGq)
    ∧ quiescent_GqIdeal (hGqIdeal := hGqIdeal)
    ∧ quiescent_GqRefIdeal (hGqRefIdeal := hGqRefIdeal)
    ∧ quiescent_Dkv (hDkv := hDkv)
    ∧ quiescent_DkvIdeal (hDkvIdeal := hDkvIdeal)
    ∧ quiescent_DkvRefIdeal (hDkvRefIdeal := hDkvRefIdeal)
    ∧ quiescent_Gkv (hGkv := hGkv)
    ∧ quiescent_GkvIdeal (hGkvIdeal := hGkvIdeal)
    ∧ quiescent_GkvRefIdeal (hGkvRefIdeal := hGkvRefIdeal)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_Din (hDin := hDin)
    ∧ quiescent_DinIdeal (hDinIdeal := hDinIdeal)
    ∧ quiescent_DinRefIdeal (hDinRefIdeal := hDinRefIdeal)
    ∧ quiescent_Gin (hGin := hGin)
    ∧ quiescent_GinIdeal (hGinIdeal := hGinIdeal)
    ∧ quiescent_GinRefIdeal (hGinRefIdeal := hGinRefIdeal)
    ∧ quiescent_Ain (hAin := hAin)
    ∧ quiescent_AinIdeal (hAinIdeal := hAinIdeal)
    ∧ quiescent_AinRefIdeal (hAinRefIdeal := hAinRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_View0 (hView0 := hView0)
    ∧ quiescent_View0Ideal (hView0Ideal := hView0Ideal)
    ∧ quiescent_View0RefIdeal (hView0RefIdeal := hView0RefIdeal)
    ∧ quiescent_View1 (hView1 := hView1)
    ∧ quiescent_View1Ideal (hView1Ideal := hView1Ideal)
    ∧ quiescent_View1RefIdeal (hView1RefIdeal := hView1RefIdeal)
    ∧ quiescent_View2 (hView2 := hView2)
    ∧ quiescent_View2Ideal (hView2Ideal := hView2Ideal)
    ∧ quiescent_View2RefIdeal (hView2RefIdeal := hView2RefIdeal)
    ∧ quiescent_UpAct (hUpAct := hUpAct)
    ∧ quiescent_UpActIdeal (hUpActIdeal := hUpActIdeal)
    ∧ quiescent_UpActRefIdeal (hUpActRefIdeal := hUpActRefIdeal)
    ∧ quiescent_Dnorm (hDnorm := hDnorm)
    ∧ quiescent_DnormIdeal (hDnormIdeal := hDnormIdeal)
    ∧ quiescent_DnormRefIdeal (hDnormRefIdeal := hDnormRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamKv (hAdamKv := hAdamKv)
    ∧ quiescent_AdamKvIdeal (hAdamKvIdeal := hAdamKvIdeal)
    ∧ quiescent_AdamKvRefIdeal (hAdamKvRefIdeal := hAdamKvRefIdeal)
    ∧ quiescent_AdamQ (hAdamQ := hAdamQ)
    ∧ quiescent_AdamQIdeal (hAdamQIdeal := hAdamQIdeal)
    ∧ quiescent_AdamQRefIdeal (hAdamQRefIdeal := hAdamQRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamGain (hAdamGain := hAdamGain)
    ∧ quiescent_AdamGainIdeal (hAdamGainIdeal := hAdamGainIdeal)
    ∧ quiescent_AdamGainRefIdeal (hAdamGainRefIdeal := hAdamGainRefIdeal)
    ∧ quiescent_AdamGains (hAdamGains := hAdamGains)
    ∧ quiescent_AdamGainsIdeal (hAdamGainsIdeal := hAdamGainsIdeal)
    ∧ quiescent_AdamGainsRefIdeal (hAdamGainsRefIdeal := hAdamGainsRefIdeal)
    ∧ quiescent_AdamNorm (hAdamNorm := hAdamNorm)
    ∧ quiescent_AdamNormIdeal (hAdamNormIdeal := hAdamNormIdeal)
    ∧ quiescent_AdamNormRefIdeal (hAdamNormRefIdeal := hAdamNormRefIdeal)
    ∧ quiescent_AdamHeads (hAdamHeads := hAdamHeads)
    ∧ quiescent_AdamHeadsIdeal (hAdamHeadsIdeal := hAdamHeadsIdeal)
    ∧ quiescent_AdamHeadsRefIdeal (hAdamHeadsRefIdeal := hAdamHeadsRefIdeal)
    ∧ quiescent_AdamGates (hAdamGates := hAdamGates)
    ∧ quiescent_AdamGatesIdeal (hAdamGatesIdeal := hAdamGatesIdeal)
    ∧ quiescent_AdamGatesRefIdeal (hAdamGatesRefIdeal := hAdamGatesRefIdeal)
    ∧ quiescent_AdamRel (hAdamRel := hAdamRel)
    ∧ quiescent_AdamRelIdeal (hAdamRelIdeal := hAdamRelIdeal)
    ∧ quiescent_AdamRelRefIdeal (hAdamRelRefIdeal := hAdamRelRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamConvB (hAdamConvB := hAdamConvB)
    ∧ quiescent_AdamConvBIdeal (hAdamConvBIdeal := hAdamConvBIdeal)
    ∧ quiescent_AdamConvBRefIdeal (hAdamConvBRefIdeal := hAdamConvBRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ddown_DdownIdeal
    ∧ algebraic_DdownIdeal_DdownRefIdeal (hDdownIdeal := hDdownIdeal) (hDdownRefIdeal := hDdownRefIdeal)
    ∧ preserves_Gdown_GdownIdeal
    ∧ algebraic_GdownIdeal_GdownRefIdeal (hGdownIdeal := hGdownIdeal) (hGdownRefIdeal := hGdownRefIdeal)
    ∧ preserves_Dup_DupIdeal
    ∧ algebraic_DupIdeal_DupRefIdeal (hDupIdeal := hDupIdeal) (hDupRefIdeal := hDupRefIdeal)
    ∧ preserves_Gup_GupIdeal
    ∧ algebraic_GupIdeal_GupRefIdeal (hGupIdeal := hGupIdeal) (hGupRefIdeal := hGupRefIdeal)
    ∧ preserves_Dout_DoutIdeal
    ∧ algebraic_DoutIdeal_DoutRefIdeal (hDoutIdeal := hDoutIdeal) (hDoutRefIdeal := hDoutRefIdeal)
    ∧ preserves_Gout_GoutIdeal
    ∧ algebraic_GoutIdeal_GoutRefIdeal (hGoutIdeal := hGoutIdeal) (hGoutRefIdeal := hGoutRefIdeal)
    ∧ preserves_Dq_DqIdeal
    ∧ algebraic_DqIdeal_DqRefIdeal (hDqIdeal := hDqIdeal) (hDqRefIdeal := hDqRefIdeal)
    ∧ preserves_Gq_GqIdeal
    ∧ algebraic_GqIdeal_GqRefIdeal (hGqIdeal := hGqIdeal) (hGqRefIdeal := hGqRefIdeal)
    ∧ preserves_Dkv_DkvIdeal
    ∧ algebraic_DkvIdeal_DkvRefIdeal (hDkvIdeal := hDkvIdeal) (hDkvRefIdeal := hDkvRefIdeal)
    ∧ preserves_Gkv_GkvIdeal
    ∧ algebraic_GkvIdeal_GkvRefIdeal (hGkvIdeal := hGkvIdeal) (hGkvRefIdeal := hGkvRefIdeal)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_Din_DinIdeal
    ∧ algebraic_DinIdeal_DinRefIdeal (hDinIdeal := hDinIdeal) (hDinRefIdeal := hDinRefIdeal)
    ∧ preserves_Gin_GinIdeal
    ∧ algebraic_GinIdeal_GinRefIdeal (hGinIdeal := hGinIdeal) (hGinRefIdeal := hGinRefIdeal)
    ∧ preserves_Ain_AinIdeal
    ∧ algebraic_AinIdeal_AinRefIdeal (hAinIdeal := hAinIdeal) (hAinRefIdeal := hAinRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_View0_View0Ideal
    ∧ algebraic_View0Ideal_View0RefIdeal (hView0Ideal := hView0Ideal) (hView0RefIdeal := hView0RefIdeal)
    ∧ preserves_View1_View1Ideal
    ∧ algebraic_View1Ideal_View1RefIdeal (hView1Ideal := hView1Ideal) (hView1RefIdeal := hView1RefIdeal)
    ∧ preserves_View2_View2Ideal
    ∧ algebraic_View2Ideal_View2RefIdeal (hView2Ideal := hView2Ideal) (hView2RefIdeal := hView2RefIdeal)
    ∧ preserves_UpAct_UpActIdeal
    ∧ algebraic_UpActIdeal_UpActRefIdeal (hUpActIdeal := hUpActIdeal) (hUpActRefIdeal := hUpActRefIdeal)
    ∧ preserves_Dnorm_DnormIdeal
    ∧ algebraic_DnormIdeal_DnormRefIdeal (hDnormIdeal := hDnormIdeal) (hDnormRefIdeal := hDnormRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamKv_AdamKvIdeal
    ∧ algebraic_AdamKvIdeal_AdamKvRefIdeal (hAdamKvIdeal := hAdamKvIdeal) (hAdamKvRefIdeal := hAdamKvRefIdeal)
    ∧ preserves_AdamQ_AdamQIdeal
    ∧ algebraic_AdamQIdeal_AdamQRefIdeal (hAdamQIdeal := hAdamQIdeal) (hAdamQRefIdeal := hAdamQRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamGain_AdamGainIdeal
    ∧ algebraic_AdamGainIdeal_AdamGainRefIdeal (hAdamGainIdeal := hAdamGainIdeal) (hAdamGainRefIdeal := hAdamGainRefIdeal)
    ∧ preserves_AdamGains_AdamGainsIdeal
    ∧ algebraic_AdamGainsIdeal_AdamGainsRefIdeal (hAdamGainsIdeal := hAdamGainsIdeal) (hAdamGainsRefIdeal := hAdamGainsRefIdeal)
    ∧ preserves_AdamNorm_AdamNormIdeal
    ∧ algebraic_AdamNormIdeal_AdamNormRefIdeal (hAdamNormIdeal := hAdamNormIdeal) (hAdamNormRefIdeal := hAdamNormRefIdeal)
    ∧ preserves_AdamHeads_AdamHeadsIdeal
    ∧ algebraic_AdamHeadsIdeal_AdamHeadsRefIdeal (hAdamHeadsIdeal := hAdamHeadsIdeal) (hAdamHeadsRefIdeal := hAdamHeadsRefIdeal)
    ∧ preserves_AdamGates_AdamGatesIdeal
    ∧ algebraic_AdamGatesIdeal_AdamGatesRefIdeal (hAdamGatesIdeal := hAdamGatesIdeal) (hAdamGatesRefIdeal := hAdamGatesRefIdeal)
    ∧ preserves_AdamRel_AdamRelIdeal
    ∧ algebraic_AdamRelIdeal_AdamRelRefIdeal (hAdamRelIdeal := hAdamRelIdeal) (hAdamRelRefIdeal := hAdamRelRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamConvB_AdamConvBIdeal
    ∧ algebraic_AdamConvBIdeal_AdamConvBRefIdeal (hAdamConvBIdeal := hAdamConvBIdeal) (hAdamConvBRefIdeal := hAdamConvBRefIdeal)
-- ==== Pre_finite.lean ====
abbrev S16384x5632 : Shape := ⟨2, ![16384, 5632]⟩
abbrev S16384x2816 : Shape := ⟨2, ![16384, 2816]⟩
abbrev S3x5632 : Shape := ⟨2, ![3, 5632]⟩
abbrev S5632 : Shape := ⟨1, ![5632]⟩
abbrev S_ : Shape := ⟨0, ![]⟩

class Facts : Prop where
  bcast_S_S16384x5632 : S_.BroadcastsInDim S16384x5632 (![] : Fin 0 → Fin S16384x5632.rank)
  bcast_S_S16384x2816 : S_.BroadcastsInDim S16384x2816 (![] : Fin 0 → Fin S16384x2816.rank)
  bcast_S_S3x5632 : S_.BroadcastsInDim S3x5632 (![] : Fin 0 → Fin S3x5632.rank)
  bcast_S_S5632 : S_.BroadcastsInDim S5632 (![] : Fin 0 → Fin S5632.rank)

variable [Facts]

def fn {F : FTy → Type} [FloatOps F] (main_arg0 : FVec F S16384x5632 .f32) (main_arg1 : FVec F S16384x2816 .f32) (main_arg2 : FVec F S3x5632 .f32) (main_arg3 : FVec F S5632 .f32) : IVec S16384x5632 1 × IVec S16384x2816 1 × IVec S3x5632 1 × IVec S5632 1 :=
  let main_v0 : FVec F S16384x5632 .f32 := Host.absf main_arg0
  let main_cst : FVec F S_ .f32 := constant S_ .f32 0x7F800000#32
  let main_v1 : FVec F S16384x5632 .f32 := broadcastInDim S16384x5632 ![] bcast_S_S16384x5632 main_cst
  let main_v2 : IVec S16384x5632 1 := cmpf .olt main_v0 main_v1
  let main_v3 : FVec F S16384x2816 .f32 := Host.absf main_arg1
  let main_cst_0 : FVec F S_ .f32 := constant S_ .f32 0x7F800000#32
  let main_v4 : FVec F S16384x2816 .f32 := broadcastInDim S16384x2816 ![] bcast_S_S16384x2816 main_cst_0
  let main_v5 : IVec S16384x2816 1 := cmpf .olt main_v3 main_v4
  let main_v6 : FVec F S3x5632 .f32 := Host.absf main_arg2
  let main_cst_1 : FVec F S_ .f32 := constant S_ .f32 0x7F800000#32
  let main_v7 : FVec F S3x5632 .f32 := broadcastInDim S3x5632 ![] bcast_S_S3x5632 main_cst_1
  let main_v8 : IVec S3x5632 1 := cmpf .olt main_v6 main_v7
  let main_v9 : FVec F S5632 .f32 := Host.absf main_arg3
  let main_cst_2 : FVec F S_ .f32 := constant S_ .f32 0x7F800000#32
  let main_v10 : FVec F S5632 .f32 := broadcastInDim S5632 ![] bcast_S_S5632 main_cst_2
  let main_v11 : IVec S5632 1 := cmpf .olt main_v9 main_v10
  (main_v2, main_v5, main_v8, main_v11)
-- ==== Pre_finite_attn.lean ====
abbrev S16384x16x64 : Shape := ⟨3, ![16384, 16, 64]⟩
abbrev S16x128x256 : Shape := ⟨3, ![16, 128, 256]⟩
abbrev S16384x16 : Shape := ⟨2, ![16384, 16]⟩
abbrev S_ : Shape := ⟨0, ![]⟩

class Facts : Prop where
  bitsLt_bf16_f32 : FTy.bits .bf16 < FTy.bits .f32
  bcast_S_S16384x16x64 : S_.BroadcastsInDim S16384x16x64 (![] : Fin 0 → Fin S16384x16x64.rank)
  bcast_S_S16x128x256 : S_.BroadcastsInDim S16x128x256 (![] : Fin 0 → Fin S16x128x256.rank)
  bcast_S_S16384x16 : S_.BroadcastsInDim S16384x16 (![] : Fin 0 → Fin S16384x16.rank)

variable [Facts]

def fn_part1 {F : FTy → Type} [FloatOps F] (main_arg5 : FVec F S16384x16 .f32) (main_v3 : IVec S16384x16x64 1) (main_v7 : IVec S16384x16x64 1) (main_v11 : IVec S16384x16x64 1) (main_v14 : IVec S16x128x256 1) (main_v18 : IVec S16384x16x64 1) : IVec S16384x16x64 1 × IVec S16384x16x64 1 × IVec S16384x16x64 1 × IVec S16x128x256 1 × IVec S16384x16x64 1 × IVec S16384x16 1 :=
  let main_v19 : FVec F S16384x16 .f32 := Host.absf main_arg5
  let main_cst_4 : FVec F S_ .f32 := constant S_ .f32 0x7F800000#32
  let main_v20 : FVec F S16384x16 .f32 := broadcastInDim S16384x16 ![] bcast_S_S16384x16 main_cst_4
  let main_v21 : IVec S16384x16 1 := cmpf .olt main_v19 main_v20
  (main_v3, main_v7, main_v11, main_v14, main_v18, main_v21)

def fn {F : FTy → Type} [FloatOps F] (main_arg0 : FVec F S16384x16x64 .bf16) (main_arg1 : FVec F S16384x16x64 .bf16) (main_arg2 : FVec F S16384x16x64 .bf16) (main_arg3 : FVec F S16x128x256 .f32) (main_arg4 : FVec F S16384x16x64 .bf16) (main_arg5 : FVec F S16384x16 .f32) : IVec S16384x16x64 1 × IVec S16384x16x64 1 × IVec S16384x16x64 1 × IVec S16x128x256 1 × IVec S16384x16x64 1 × IVec S16384x16 1 :=
  let main_v0 : FVec F S16384x16x64 .f32 := (extf .f32 · bitsLt_bf16_f32) main_arg0
  let main_v1 : FVec F S16384x16x64 .f32 := Host.absf main_v0
  let main_cst : FVec F S_ .f32 := constant S_ .f32 0x7F800000#32
  let main_v2 : FVec F S16384x16x64 .f32 := broadcastInDim S16384x16x64 ![] bcast_S_S16384x16x64 main_cst
  let main_v3 : IVec S16384x16x64 1 := cmpf .olt main_v1 main_v2
  let main_v4 : FVec F S16384x16x64 .f32 := (extf .f32 · bitsLt_bf16_f32) main_arg1
  let main_v5 : FVec F S16384x16x64 .f32 := Host.absf main_v4
  let main_cst_0 : FVec F S_ .f32 := constant S_ .f32 0x7F800000#32
  let main_v6 : FVec F S16384x16x64 .f32 := broadcastInDim S16384x16x64 ![] bcast_S_S16384x16x64 main_cst_0
  let main_v7 : IVec S16384x16x64 1 := cmpf .olt main_v5 main_v6
  let main_v8 : FVec F S16384x16x64 .f32 := (extf .f32 · bitsLt_bf16_f32) main_arg2
  let main_v9 : FVec F S16384x16x64 .f32 := Host.absf main_v8
  let main_cst_1 : FVec F S_ .f32 := constant S_ .f32 0x7F800000#32
  let main_v10 : FVec F S16384x16x64 .f32 := broadcastInDim S16384x16x64 ![] bcast_S_S16384x16x64 main_cst_1
  let main_v11 : IVec S16384x16x64 1 := cmpf .olt main_v9 main_v10
  let main_v12 : FVec F S16x128x256 .f32 := Host.absf main_arg3
  let main_cst_2 : FVec F S_ .f32 := constant S_ .f32 0x7F800000#32
  let main_v13 : FVec F S16x128x256 .f32 := broadcastInDim S16x128x256 ![] bcast_S_S16x128x256 main_cst_2
  let main_v14 : IVec S16x128x256 1 := cmpf .olt main_v12 main_v13
  let main_v15 : FVec F S16384x16x64 .f32 := (extf .f32 · bitsLt_bf16_f32) main_arg4
  let main_v16 : FVec F S16384x16x64 .f32 := Host.absf main_v15
  let main_cst_3 : FVec F S_ .f32 := constant S_ .f32 0x7F800000#32
  let main_v17 : FVec F S16384x16x64 .f32 := broadcastInDim S16384x16x64 ![] bcast_S_S16384x16x64 main_cst_3
  let main_v18 : IVec S16384x16x64 1 := cmpf .olt main_v16 main_v17
  fn_part1 (F := F) main_arg5 main_v3 main_v7 main_v11 main_v14 main_v18
-- ==== Kernel.lean ====
abbrev S16384x5632 : Shape := ⟨2, ![16384, 5632]⟩
abbrev S16384x2816 : Shape := ⟨2, ![16384, 2816]⟩
abbrev S3x5632 : Shape := ⟨2, ![3, 5632]⟩
abbrev S5632 : Shape := ⟨1, ![5632]⟩
abbrev S16384x2x11x256 : Shape := ⟨4, ![16384, 2, 11, 256]⟩
abbrev S16384x11x2x256 : Shape := ⟨4, ![16384, 11, 2, 256]⟩
abbrev S3x2x11x256 : Shape := ⟨4, ![3, 2, 11, 256]⟩
abbrev S3x11x2x256 : Shape := ⟨4, ![3, 11, 2, 256]⟩
abbrev S1x5632 : Shape := ⟨2, ![1, 5632]⟩
abbrev S1x2x11x256 : Shape := ⟨4, ![1, 2, 11, 256]⟩
abbrev S1x11x2x256 : Shape := ⟨4, ![1, 11, 2, 256]⟩
abbrev S2048x512 : Shape := ⟨2, ![2048, 512]⟩
abbrev S8x512 : Shape := ⟨2, ![8, 512]⟩
abbrev S2048x256 : Shape := ⟨2, ![2048, 256]⟩
abbrev S8x256 : Shape := ⟨2, ![8, 256]⟩
abbrev S3x512 : Shape := ⟨2, ![3, 512]⟩
abbrev S1x512 : Shape := ⟨2, ![1, 512]⟩
abbrev S2056x512 : Shape := ⟨2, ![2056, 512]⟩
abbrev S2056x256 : Shape := ⟨2, ![2056, 256]⟩
abbrev S512 : Shape := ⟨1, ![512]⟩

abbrev nBuf : Space → Nat
  | .hbm => 26
  | .vmem => 20
  | .smem => 0
  | _ => 0

abbrev bufTy : (tb : Table) → Fin (tcTables nBuf tb) → BufTy
  | .hbm, ⟨0, _⟩ => ⟨S16384x5632, .f32⟩
  | .hbm, ⟨1, _⟩ => ⟨S16384x2816, .f32⟩
  | .hbm, ⟨2, _⟩ => ⟨S3x5632, .f32⟩
  | .hbm, ⟨3, _⟩ => ⟨S5632, .f32⟩
  | .hbm, ⟨4, _⟩ => ⟨S16384x2x11x256, .f32⟩
  | .hbm, ⟨5, _⟩ => ⟨S16384x11x2x256, .f32⟩
  | .hbm, ⟨6, _⟩ => ⟨S16384x5632, .f32⟩
  | .hbm, ⟨7, _⟩ => ⟨S3x2x11x256, .f32⟩
  | .hbm, ⟨8, _⟩ => ⟨S3x11x2x256, .f32⟩
  | .hbm, ⟨9, _⟩ => ⟨S3x5632, .f32⟩
  | .hbm, ⟨10, _⟩ => ⟨S1x5632, .f32⟩
  | .hbm, ⟨11, _⟩ => ⟨S1x2x11x256, .f32⟩
  | .hbm, ⟨12, _⟩ => ⟨S1x11x2x256, .f32⟩
  | .hbm, ⟨13, _⟩ => ⟨S1x5632, .f32⟩
  | .hbm, ⟨14, _⟩ => ⟨S16384x5632, .bf16⟩
  | .hbm, ⟨15, _⟩ => ⟨S3x5632, .f32⟩
  | .hbm, ⟨16, _⟩ => ⟨S1x5632, .f32⟩
  | .hbm, ⟨17, _⟩ => ⟨S16384x11x2x256, .bf16⟩
  | .hbm, ⟨18, _⟩ => ⟨S16384x2x11x256, .bf16⟩
  | .hbm, ⟨19, _⟩ => ⟨S16384x5632, .bf16⟩
  | .hbm, ⟨20, _⟩ => ⟨S3x11x2x256, .f32⟩
  | .hbm, ⟨21, _⟩ => ⟨S3x2x11x256, .f32⟩
  | .hbm, ⟨22, _⟩ => ⟨S3x5632, .f32⟩
  | .hbm, ⟨23, _⟩ => ⟨S1x11x2x256, .f32⟩
  | .hbm, ⟨24, _⟩ => ⟨S1x2x11x256, .f32⟩
  | .hbm, ⟨25, _⟩ => ⟨S1x5632, .f32⟩
  | .local _ .vmem, ⟨0, _⟩ => ⟨S2048x512, .f32⟩
  | .local _ .vmem, ⟨1, _⟩ => ⟨S2048x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S2048x256, .f32⟩
  | .local _ .vmem, ⟨7, _⟩ => ⟨S2048x256, .f32⟩
  | .local _ .vmem, ⟨8, _⟩ => ⟨S8x256, .f32⟩
  | .local _ .vmem, ⟨9, _⟩ => ⟨S8x256, .f32⟩
  | .local _ .vmem, ⟨10, _⟩ => ⟨S3x512, .f32⟩
  | .local _ .vmem, ⟨11, _⟩ => ⟨S3x512, .f32⟩
  | .local _ .vmem, ⟨12, _⟩ => ⟨S1x512, .f32⟩
  | .local _ .vmem, ⟨13, _⟩ => ⟨S1x512, .f32⟩
  | .local _ .vmem, ⟨14, _⟩ => ⟨S2048x512, .bf16⟩
  | .local _ .vmem, ⟨15, _⟩ => ⟨S2048x512, .bf16⟩
  | .local _ .vmem, ⟨16, _⟩ => ⟨S3x512, .f32⟩
  | .local _ .vmem, ⟨17, _⟩ => ⟨S3x512, .f32⟩
  | .local _ .vmem, ⟨18, _⟩ => ⟨S1x512, .f32⟩
  | .local _ .vmem, ⟨19, _⟩ => ⟨S1x512, .f32⟩
  | _, _ => ⟨S16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v10_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![11, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v111 : BitVec 32 := Scalar.extui v0
  let c0_i32_31 : BitVec 32 := 0#32
  let v112 : BitVec 1 := Scalar.cmpi .ne v111 c0_i32_31
  v112

def k0_cond2 (i : grid0.Coords) : BitVec 1 :=
  let arg1 : BitVec 32 := BitVec.ofNat 32 (i 1).val
  let c0_i32_32 : BitVec 32 := 0#32
  let v113 : BitVec 1 := Scalar.cmpi .sgt arg1 c0_i32_32
  let v114 : BitVec 32 := Scalar.extui v113
  let c0_i32_33 : BitVec 32 := 0#32
  let v115 : BitVec 1 := Scalar.cmpi .ne v114 c0_i32_33
  v115

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c2047_i32 : BitVec 32 := 2047#32
  let v2 : BitVec 32 := Scalar.minsi v1 c2047_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c2047_i32 : BitVec 32 := 2047#32
  let v2 : BitVec 32 := Scalar.minsi v1 c2047_i32
  let c0_i32 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S16384x5632 : Shape := ⟨2, ![16384, 5632]⟩
abbrev S16384x2816 : Shape := ⟨2, ![16384, 2816]⟩
abbrev S3x5632 : Shape := ⟨2, ![3, 5632]⟩
abbrev S5632 : Shape := ⟨1, ![5632]⟩
abbrev S_ : Shape := ⟨0, ![]⟩
abbrev S2x5632 : Shape := ⟨2, ![2, 5632]⟩
abbrev S16386x5632 : Shape := ⟨2, ![16386, 5632]⟩
abbrev S1x5632 : Shape := ⟨2, ![1, 5632]⟩

abbrev nBuf : Space → Nat
  | .hbm => 107
  | .vmem => 0
  | .smem => 0
  | _ => 0

abbrev bufTy : (tb : Table) → Fin (tcTables nBuf tb) → BufTy
  | .hbm, ⟨0, _⟩ => ⟨S16384x5632, .f32⟩
  | .hbm, ⟨1, _⟩ => ⟨S16384x2816, .f32⟩
  | .hbm, ⟨2, _⟩ => ⟨S3x5632, .f32⟩
  | .hbm, ⟨3, _⟩ => ⟨S5632, .f32⟩
  | .hbm, ⟨4, _⟩ => ⟨S_, .f32⟩
  | .hbm, ⟨5, _⟩ => ⟨S2x5632, .f32⟩
  | .hbm, ⟨6, _⟩ => ⟨S16386x5632, .f32⟩
  | .hbm, ⟨7, _⟩ => ⟨S_, .f32⟩
  | .hbm, ⟨8, _⟩ => ⟨S2x5632, .f32⟩
  | .hbm, ⟨9, _⟩ => ⟨S16384x5632, .f32⟩
  | .hbm, ⟨10, _⟩ => ⟨S1x5632, .f32⟩
  | .hbm, ⟨11, _⟩ => ⟨S5632, .f32⟩
  | .hbm, ⟨12, _⟩ => ⟨S1x5632, .f32⟩
  | .hbm, ⟨13, _⟩ => ⟨S16384x5632, .f32⟩
  | .hbm, ⟨14, _⟩ => ⟨S16384x5632, .f32⟩
  | .hbm, ⟨15, _⟩ => ⟨S16384x5632, .f32⟩
  | .hbm, ⟨16, _⟩ => ⟨S1x5632, .f32⟩
  | .hbm, ⟨17, _⟩ => ⟨S5632, .f32⟩
  | .hbm, ⟨18, _⟩ => ⟨S1x5632, .f32⟩
  | .hbm, ⟨19, _⟩ => ⟨S16384x5632, .f32⟩
  | .hbm, ⟨20, _⟩ => ⟨S16384x5632, .f32⟩
  | .hbm, ⟨21, _⟩ => ⟨S16384x5632, .f32⟩
  | .hbm, ⟨22, _⟩ => ⟨S16384x5632, .f32⟩
  | .hbm, ⟨23, _⟩ => ⟨S1x5632, .f32⟩
  | .hbm, ⟨24, _⟩ => ⟨S5632, .f32⟩
  | .hbm, ⟨25, _⟩ => ⟨S1x5632, .f32⟩
  | .hbm, ⟨26, _⟩ => ⟨S16384x5632, .f32⟩
  | .hbm, ⟨27, _⟩ => ⟨S16384x5632, .f32⟩
  | .hbm, ⟨28, _⟩ => ⟨S16384x5632, .f32⟩
  | .hbm, ⟨29, _⟩ => ⟨S1x5632, .f32⟩
  | .hbm, ⟨30, _⟩ => ⟨S16384x5632, .f32⟩
  | .hbm, ⟨31, _⟩ => ⟨S16384x5632, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S_, .f32⟩
  | .hbm, ⟨37, _⟩ => ⟨S16384x2816, .f32⟩
  | .hbm, ⟨38, _⟩ => ⟨S16384x2816, .f32⟩
  | .hbm, ⟨39, _⟩ => ⟨S_, .f32⟩
  | .hbm, ⟨40, _⟩ => ⟨S16384x2816, .f32⟩
  | .hbm, ⟨41, _⟩ => ⟨S16384x2816, .f32⟩
  | .hbm, ⟨42, _⟩ => ⟨S_, .f32⟩
  | .hbm, ⟨43, _⟩ => ⟨S16384x2816, .f32⟩
  | .hbm, ⟨44, _⟩ => ⟨S16384x2816, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S16384x2816, .f32⟩
  | .hbm, ⟨50, _⟩ => ⟨S16384x2816, .f32⟩
  | .hbm, ⟨51, _⟩ => ⟨S16384x2816, .f32⟩
  | .hbm, ⟨52, _⟩ => ⟨S16384x2816, .f32⟩
  | .hbm, ⟨53, _⟩ => ⟨S16384x2816, .f32⟩
  | .hbm, ⟨54, _⟩ => ⟨S16384x5632, .f32⟩
  | .hbm, ⟨55, _⟩ => ⟨S_, .f32⟩
  | .hbm, ⟨56, _⟩ => ⟨S5632, .f32⟩
  | .hbm, ⟨57, _⟩ => ⟨S1x5632, .f32⟩
  | .hbm, ⟨58, _⟩ => ⟨S_, .f32⟩
  | .hbm, ⟨59, _⟩ => ⟨S5632, .f32⟩
  | .hbm, ⟨60, _⟩ => ⟨S16384x5632, .f32⟩
  | .hbm, ⟨61, _⟩ => ⟨S_, .f32⟩
  | .hbm, ⟨62, _⟩ => ⟨S5632, .f32⟩
  | .hbm, ⟨63, _⟩ => ⟨S1x5632, .f32⟩
  | .hbm, ⟨64, _⟩ => ⟨S16384x5632, .f32⟩
  | .hbm, ⟨65, _⟩ => ⟨S16384x5632, .f32⟩
  | .hbm, ⟨66, _⟩ => ⟨S_, .f32⟩
  | .hbm, ⟨67, _⟩ => ⟨S5632, .f32⟩
  | .hbm, ⟨68, _⟩ => ⟨S1x5632, .f32⟩
  | .hbm, ⟨69, _⟩ => ⟨S_, .f32⟩
  | .hbm, ⟨70, _⟩ => ⟨S3x5632, .f32⟩
  | .hbm, ⟨71, _⟩ => ⟨S_, .f32⟩
  | .hbm, ⟨72, _⟩ => ⟨S16386x5632, .f32⟩
  | .hbm, ⟨73, _⟩ => ⟨S16384x5632, .f32⟩
  | .hbm, ⟨74, _⟩ => ⟨S_, .f32⟩
  | .hbm, ⟨75, _⟩ => ⟨S5632, .f32⟩
  | .hbm, ⟨76, _⟩ => ⟨S1x5632, .f32⟩
  | .hbm, ⟨77, _⟩ => ⟨S16384x5632, .f32⟩
  | .hbm, ⟨78, _⟩ => ⟨S16384x5632, .f32⟩
  | .hbm, ⟨79, _⟩ => ⟨S_, .f32⟩
  | .hbm, ⟨80, _⟩ => ⟨S5632, .f32⟩
  | .hbm, ⟨81, _⟩ => ⟨S1x5632, .f32⟩
  | .hbm, ⟨82, _⟩ => ⟨S_, .f32⟩
  | .hbm, ⟨83, _⟩ => ⟨S3x5632, .f32⟩
  | .hbm, ⟨84, _⟩ => ⟨S3x5632, .f32⟩
  | .hbm, ⟨85, _⟩ => ⟨S_, .f32⟩
  | .hbm, ⟨86, _⟩ => ⟨S16386x5632, .f32⟩
  | .hbm, ⟨87, _⟩ => ⟨S16386x5632, .f32⟩
  | .hbm, ⟨88, _⟩ => ⟨S16384x5632, .f32⟩
  | .hbm, ⟨89, _⟩ => ⟨S_, .f32⟩
  | .hbm, ⟨90, _⟩ => ⟨S5632, .f32⟩
  | .hbm, ⟨91, _⟩ => ⟨S1x5632, .f32⟩
  | .hbm, ⟨92, _⟩ => ⟨S16384x5632, .f32⟩
  | .hbm, ⟨93, _⟩ => ⟨S16384x5632, .f32⟩
  | .hbm, ⟨94, _⟩ => ⟨S_, .f32⟩
  | .hbm, ⟨95, _⟩ => ⟨S5632, .f32⟩
  | .hbm, ⟨96, _⟩ => ⟨S1x5632, .f32⟩
  | .hbm, ⟨97, _⟩ => ⟨S_, .f32⟩
  | .hbm, ⟨98, _⟩ => ⟨S3x5632, .f32⟩
  | .hbm, ⟨99, _⟩ => ⟨S3x5632, .f32⟩
  | .hbm, ⟨100, _⟩ => ⟨S_, .f32⟩
  | .hbm, ⟨101, _⟩ => ⟨S16386x5632, .f32⟩
  | .hbm, ⟨102, _⟩ => ⟨S16386x5632, .f32⟩
  | .hbm, ⟨103, _⟩ => ⟨S2x5632, .f32⟩
  | .hbm, ⟨104, _⟩ => ⟨S16384x5632, .f32⟩
  | .hbm, ⟨105, _⟩ => ⟨S16384x5632, .bf16⟩
  | .hbm, ⟨106, _⟩ => ⟨S1x5632, .f32⟩
  | _, _ => ⟨S16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v28_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v28_1 : Ref sig .tc := ⟨.hbm, 45, rfl⟩
abbrev main_v28_0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v32 : Ref sig .tc := ⟨.hbm, 53, rfl⟩
abbrev main_v33 : Ref sig .tc := ⟨.hbm, 54, rfl⟩
abbrev main_cst_1 : Ref sig .tc := ⟨.hbm, 55, rfl⟩
abbrev main_v34 : Ref sig .tc := ⟨.hbm, 56, rfl⟩
abbrev main_v35 : Ref sig .tc := ⟨.hbm, 57, rfl⟩
abbrev main_cst_2 : Ref sig .tc := ⟨.hbm, 58, rfl⟩
abbrev main_v36 : Ref sig .tc := ⟨.hbm, 59, rfl⟩
abbrev main_v37 : Ref sig .tc := ⟨.hbm, 60, rfl⟩
abbrev main_cst_3 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_4 : Ref sig .tc := ⟨.hbm, 66, rfl⟩
abbrev main_v42 : Ref sig .tc := ⟨.hbm, 67, rfl⟩
abbrev main_v43 : Ref sig .tc := ⟨.hbm, 68, rfl⟩
abbrev main_cst_5 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_cst_7 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_12 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_v65 : Ref sig .tc := ⟨.hbm, 99, rfl⟩
abbrev main_cst_14 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩

abbrev nD : Nat := 1
abbrev τ : Topo := Topo.v7x

variable {F : FTy → Type} [FloatOps F]
-- ==== Ddown.lean ====
abbrev S16384x1024 : Shape := ⟨2, ![16384, 1024]⟩
abbrev S2816x1024 : Shape := ⟨2, ![2816, 1024]⟩
abbrev S1024x2816 : Shape := ⟨2, ![1024, 2816]⟩
abbrev S16384x2816 : Shape := ⟨2, ![16384, 2816]⟩
abbrev S1024x1024 : Shape := ⟨2, ![1024, 1024]⟩
abbrev S8x128 : Shape := ⟨2, ![8, 128]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S2816x1024, .bf16⟩
  | .hbm, ⟨2, _⟩ => ⟨S1024x2816, .bf16⟩
  | .hbm, ⟨3, _⟩ => ⟨S16384x2816, .f32⟩
  | .local _ .vmem, ⟨0, _⟩ => ⟨S1024x1024, .f32⟩
  | .local _ .vmem, ⟨1, _⟩ => ⟨S1024x1024, .f32⟩
  | .local _ .vmem, ⟨2, _⟩ => ⟨S1024x2816, .bf16⟩
  | .local _ .vmem, ⟨3, _⟩ => ⟨S1024x2816, .f32⟩
  | .local _ .vmem, ⟨4, _⟩ => ⟨S1024x2816, .f32⟩
  | .local _ .vmem, ⟨5, _⟩ => ⟨S8x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DdownRefIdeal.lean ====
abbrev S16384x1024 : Shape := ⟨2, ![16384, 1024]⟩
abbrev S2816x1024 : Shape := ⟨2, ![2816, 1024]⟩
abbrev S_ : Shape := ⟨0, ![]⟩
abbrev S16384x2816 : Shape := ⟨2, ![16384, 2816]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2816x1024, .bf16⟩
  | .hbm, ⟨2, _⟩ => ⟨S_, .f32⟩
  | .hbm, ⟨3, _⟩ => ⟨S16384x2816, .f32⟩
  | .hbm, ⟨4, _⟩ => ⟨S2816x1024, .f32⟩
  | .hbm, ⟨5, _⟩ => ⟨S16384x1024, .f32⟩
  | .hbm, ⟨6, _⟩ => ⟨S16384x2816, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Gdown.lean ====
abbrev S16384x2816 : Shape := ⟨2, ![16384, 2816]⟩
abbrev S16384x1024 : Shape := ⟨2, ![16384, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .f32⟩
  | .local _ .vmem, ⟨5, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GdownRefIdeal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S_, .f32⟩
  | .hbm, ⟨3, _⟩ => ⟨S2816x1024, .f32⟩
  | .hbm, ⟨4, _⟩ => ⟨S16384x2816, .f32⟩
  | .hbm, ⟨5, _⟩ => ⟨S16384x1024, .f32⟩
  | .hbm, ⟨6, _⟩ => ⟨S1024x2816, .f32⟩
  | .hbm, ⟨7, _⟩ => ⟨S2816x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dup.lean ====
abbrev S16384x5632 : Shape := ⟨2, ![16384, 5632]⟩
abbrev S1024x5632 : Shape := ⟨2, ![1024, 5632]⟩
abbrev S16384x2x11x256 : Shape := ⟨4, ![16384, 2, 11, 256]⟩
abbrev S16384x11x2x256 : Shape := ⟨4, ![16384, 11, 2, 256]⟩
abbrev S1024x2x11x256 : Shape := ⟨4, ![1024, 2, 11, 256]⟩
abbrev S1024x11x2x256 : Shape := ⟨4, ![1024, 11, 2, 256]⟩
abbrev S5632x1024 : Shape := ⟨2, ![5632, 1024]⟩
abbrev S16384x1024 : Shape := ⟨2, ![16384, 1024]⟩
abbrev S512x5632 : Shape := ⟨2, ![512, 5632]⟩
abbrev S512x1024 : Shape := ⟨2, ![512, 1024]⟩
abbrev S8x128 : Shape := ⟨2, ![8, 128]⟩

abbrev nBuf : Space → Nat
  | .hbm => 10
  | .vmem => 6
  | .smem => 0
  | _ => 0

abbrev bufTy : (tb : Table) → Fin (tcTables nBuf tb) → BufTy
  | .hbm, ⟨0, _⟩ => ⟨S16384x5632, .bf16⟩
  | .hbm, ⟨1, _⟩ => ⟨S1024x5632, .bf16⟩
  | .hbm, ⟨2, _⟩ => ⟨S16384x2x11x256, .bf16⟩
  | .hbm, ⟨3, _⟩ => ⟨S16384x11x2x256, .bf16⟩
  | .hbm, ⟨4, _⟩ => ⟨S16384x5632, .bf16⟩
  | .hbm, ⟨5, _⟩ => ⟨S1024x2x11x256, .bf16⟩
  | .hbm, ⟨6, _⟩ => ⟨S1024x11x2x256, .bf16⟩
  | .hbm, ⟨7, _⟩ => ⟨S1024x5632, .bf16⟩
  | .hbm, ⟨8, _⟩ => ⟨S5632x1024, .bf16⟩
  | .hbm, ⟨9, _⟩ => ⟨S16384x1024, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DupRefIdeal.lean ====
abbrev S16384x5632 : Shape := ⟨2, ![16384, 5632]⟩
abbrev S1024x5632 : Shape := ⟨2, ![1024, 5632]⟩
abbrev S_ : Shape := ⟨0, ![]⟩
abbrev S16384x1024 : Shape := ⟨2, ![16384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S1024x5632, .bf16⟩
  | .hbm, ⟨2, _⟩ => ⟨S_, .f32⟩
  | .hbm, ⟨3, _⟩ => ⟨S16384x1024, .f32⟩
  | .hbm, ⟨4, _⟩ => ⟨S1024x5632, .f32⟩
  | .hbm, ⟨5, _⟩ => ⟨S16384x5632, .f32⟩
  | .hbm, ⟨6, _⟩ => ⟨S16384x5632, .f32⟩
  | .hbm, ⟨7, _⟩ => ⟨S16384x1024, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Gup.lean ====
abbrev S16384x1024 : Shape := ⟨2, ![16384, 1024]⟩
abbrev S16384x5632 : Shape := ⟨2, ![16384, 5632]⟩
abbrev S16384x2x11x256 : Shape := ⟨4, ![16384, 2, 11, 256]⟩
abbrev S16384x11x2x256 : Shape := ⟨4, ![16384, 11, 2, 256]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩
abbrev S1024x11x2x256 : Shape := ⟨4, ![1024, 11, 2, 256]⟩
abbrev S1024x2x11x256 : Shape := ⟨4, ![1024, 2, 11, 256]⟩

abbrev nBuf : Space → Nat
  | .hbm => 9
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S16384x2x11x256, .bf16⟩
  | .hbm, ⟨3, _⟩ => ⟨S16384x11x2x256, .bf16⟩
  | .hbm, ⟨4, _⟩ => ⟨S16384x5632, .bf16⟩
  | .hbm, ⟨5, _⟩ => ⟨S1024x5632, .f32⟩
  | .hbm, ⟨6, _⟩ => ⟨S1024x11x2x256, .f32⟩
  | .hbm, ⟨7, _⟩ => ⟨S1024x2x11x256, .f32⟩
  | .hbm, ⟨8, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GupRefIdeal.lean ====
abbrev S16384x1024 : Shape := ⟨2, ![16384, 1024]⟩
abbrev S16384x5632 : Shape := ⟨2, ![16384, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S_, .f32⟩
  | .hbm, ⟨3, _⟩ => ⟨S1024x5632, .f32⟩
  | .hbm, ⟨4, _⟩ => ⟨S16384x1024, .f32⟩
  | .hbm, ⟨5, _⟩ => ⟨S16384x5632, .f32⟩
  | .hbm, ⟨6, _⟩ => ⟨S16384x5632, .f32⟩
  | .hbm, ⟨7, _⟩ => ⟨S5632x1024, .f32⟩
  | .hbm, ⟨8, _⟩ => ⟨S1024x5632, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dout.lean ====
abbrev S16384x1024 : Shape := ⟨2, ![16384, 1024]⟩
abbrev S1024x1024 : Shape := ⟨2, ![1024, 1024]⟩
abbrev S8x128 : Shape := ⟨2, ![8, 128]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S1024x1024, .bf16⟩
  | .hbm, ⟨3, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DoutRefIdeal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S_, .f32⟩
  | .hbm, ⟨3, _⟩ => ⟨S16384x1024, .f32⟩
  | .hbm, ⟨4, _⟩ => ⟨S1024x1024, .f32⟩
  | .hbm, ⟨5, _⟩ => ⟨S16384x1024, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Gout.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GoutRefIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dq.lean ====
abbrev S16384x3072 : Shape := ⟨2, ![16384, 3072]⟩
abbrev S1024x3072 : Shape := ⟨2, ![1024, 3072]⟩
abbrev S3072x1024 : Shape := ⟨2, ![3072, 1024]⟩
abbrev S16384x1024 : Shape := ⟨2, ![16384, 1024]⟩
abbrev S1024x1024 : Shape := ⟨2, ![1024, 1024]⟩
abbrev S8x128 : Shape := ⟨2, ![8, 128]⟩

abbrev nBuf : Space → Nat
  | .hbm => 4
  | .vmem => 6
  | .smem => 0
  | _ => 0

abbrev bufTy : (tb : Table) → Fin (tcTables nBuf tb) → BufTy
  | .hbm, ⟨0, _⟩ => ⟨S16384x3072, .bf16⟩
  | .hbm, ⟨1, _⟩ => ⟨S1024x3072, .bf16⟩
  | .hbm, ⟨2, _⟩ => ⟨S3072x1024, .bf16⟩
  | .hbm, ⟨3, _⟩ => ⟨S16384x1024, .f32⟩
  | .local _ .vmem, ⟨0, _⟩ => ⟨S1024x3072, .bf16⟩
  | .local _ .vmem, ⟨1, _⟩ => ⟨S1024x3072, .bf16⟩
  | .local _ .vmem, ⟨2, _⟩ => ⟨S3072x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DqRefIdeal.lean ====
abbrev S16384x3072 : Shape := ⟨2, ![16384, 3072]⟩
abbrev S1024x3072 : Shape := ⟨2, ![1024, 3072]⟩
abbrev S_ : Shape := ⟨0, ![]⟩
abbrev S16384x1024 : Shape := ⟨2, ![16384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S1024x3072, .bf16⟩
  | .hbm, ⟨2, _⟩ => ⟨S_, .f32⟩
  | .hbm, ⟨3, _⟩ => ⟨S16384x1024, .f32⟩
  | .hbm, ⟨4, _⟩ => ⟨S1024x3072, .f32⟩
  | .hbm, ⟨5, _⟩ => ⟨S16384x3072, .f32⟩
  | .hbm, ⟨6, _⟩ => ⟨S16384x3072, .f32⟩
  | .hbm, ⟨7, _⟩ => ⟨S16384x1024, .f32⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Gq.lean ====
abbrev S16384x1024 : Shape := ⟨2, ![16384, 1024]⟩
abbrev S16384x3072 : Shape := ⟨2, ![16384, 3072]⟩
abbrev S1024x3072 : Shape := ⟨2, ![1024, 3072]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x3072, .bf16⟩
  | .hbm, ⟨2, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x3072, .bf16⟩
  | .local _ .vmem, ⟨3, _⟩ => ⟨S1024x3072, .bf16⟩
  | .local _ .vmem, ⟨4, _⟩ => ⟨S1024x3072, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GqRefIdeal.lean ====
abbrev S16384x1024 : Shape := ⟨2, ![16384, 1024]⟩
abbrev S16384x3072 : Shape := ⟨2, ![16384, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x3072, .bf16⟩
  | .hbm, ⟨2, _⟩ => ⟨S_, .f32⟩
  | .hbm, ⟨3, _⟩ => ⟨S1024x3072, .f32⟩
  | .hbm, ⟨4, _⟩ => ⟨S16384x1024, .f32⟩
  | .hbm, ⟨5, _⟩ => ⟨S16384x3072, .f32⟩
  | .hbm, ⟨6, _⟩ => ⟨S16384x3072, .f32⟩
  | .hbm, ⟨7, _⟩ => ⟨S3072x1024, .f32⟩
  | .hbm, ⟨8, _⟩ => ⟨S1024x3072, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dkv.lean ====
abbrev S16384x6144 : Shape := ⟨2, ![16384, 6144]⟩
abbrev S1024x6144 : Shape := ⟨2, ![1024, 6144]⟩
abbrev S6144x1024 : Shape := ⟨2, ![6144, 1024]⟩
abbrev S16384x1024 : Shape := ⟨2, ![16384, 1024]⟩
abbrev S512x6144 : Shape := ⟨2, ![512, 6144]⟩
abbrev S512x1024 : Shape := ⟨2, ![512, 1024]⟩
abbrev S8x128 : Shape := ⟨2, ![8, 128]⟩

abbrev nBuf : Space → Nat
  | .hbm => 4
  | .vmem => 6
  | .smem => 0
  | _ => 0

abbrev bufTy : (tb : Table) → Fin (tcTables nBuf tb) → BufTy
  | .hbm, ⟨0, _⟩ => ⟨S16384x6144, .bf16⟩
  | .hbm, ⟨1, _⟩ => ⟨S1024x6144, .bf16⟩
  | .hbm, ⟨2, _⟩ => ⟨S6144x1024, .bf16⟩
  | .hbm, ⟨3, _⟩ => ⟨S16384x1024, .f32⟩
  | .local _ .vmem, ⟨0, _⟩ => ⟨S512x6144, .bf16⟩
  | .local _ .vmem, ⟨1, _⟩ => ⟨S512x6144, .bf16⟩
  | .local _ .vmem, ⟨2, _⟩ => ⟨S6144x1024, .bf16⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S6144x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DkvRefIdeal.lean ====
abbrev S16384x6144 : Shape := ⟨2, ![16384, 6144]⟩
abbrev S1024x6144 : Shape := ⟨2, ![1024, 6144]⟩
abbrev S_ : Shape := ⟨0, ![]⟩
abbrev S16384x1024 : Shape := ⟨2, ![16384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S1024x6144, .bf16⟩
  | .hbm, ⟨2, _⟩ => ⟨S_, .f32⟩
  | .hbm, ⟨3, _⟩ => ⟨S16384x1024, .f32⟩
  | .hbm, ⟨4, _⟩ => ⟨S1024x6144, .f32⟩
  | .hbm, ⟨5, _⟩ => ⟨S16384x6144, .f32⟩
  | .hbm, ⟨6, _⟩ => ⟨S16384x6144, .f32⟩
  | .hbm, ⟨7, _⟩ => ⟨S16384x1024, .f32⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Gkv.lean ====
abbrev S16384x1024 : Shape := ⟨2, ![16384, 1024]⟩
abbrev S16384x6144 : Shape := ⟨2, ![16384, 6144]⟩
abbrev S1024x6144 : Shape := ⟨2, ![1024, 6144]⟩
abbrev S2048x1024 : Shape := ⟨2, ![2048, 1024]⟩
abbrev S2048x1536 : Shape := ⟨2, ![2048, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x6144, .bf16⟩
  | .hbm, ⟨2, _⟩ => ⟨S1024x6144, .f32⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | .local _ .vmem, ⟨5, _⟩ => ⟨S1024x1536, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GkvRefIdeal.lean ====
abbrev S16384x1024 : Shape := ⟨2, ![16384, 1024]⟩
abbrev S16384x6144 : Shape := ⟨2, ![16384, 6144]⟩
abbrev S_ : Shape := ⟨0, ![]⟩
abbrev S1024x6144 : Shape := ⟨2, ![1024, 6144]⟩
abbrev S6144x1024 : Shape := ⟨2, ![6144, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x6144, .bf16⟩
  | .hbm, ⟨2, _⟩ => ⟨S_, .f32⟩
  | .hbm, ⟨3, _⟩ => ⟨S1024x6144, .f32⟩
  | .hbm, ⟨4, _⟩ => ⟨S16384x1024, .f32⟩
  | .hbm, ⟨5, _⟩ => ⟨S16384x6144, .f32⟩
  | .hbm, ⟨6, _⟩ => ⟨S16384x6144, .f32⟩
  | .hbm, ⟨7, _⟩ => ⟨S6144x1024, .f32⟩
  | .hbm, ⟨8, _⟩ => ⟨S1024x6144, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Attn.lean ====
abbrev S16384x16x64 : Shape := ⟨3, ![16384, 16, 64]⟩
abbrev S16x128x256 : Shape := ⟨3, ![16, 128, 256]⟩
abbrev S16384x16 : Shape := ⟨2, ![16384, 16]⟩
abbrev S8x128x16x16x64 : Shape := ⟨5, ![8, 128, 16, 16, 64]⟩
abbrev S1x128x16x16x64 : Shape := ⟨5, ![1, 128, 16, 16, 64]⟩
abbrev S_ : Shape := ⟨0, ![]⟩
abbrev S7x128x16x16x64 : Shape := ⟨5, ![7, 128, 16, 16, 64]⟩
abbrev S8x256x16x16x64 : Shape := ⟨5, ![8, 256, 16, 16, 64]⟩
abbrev S8x1x1x128x256 : Shape := ⟨5, ![8, 1, 1, 128, 256]⟩
abbrev S8x16x16x128x256 : Shape := ⟨5, ![8, 16, 16, 128, 256]⟩
abbrev S1x1x16x128x256 : Shape := ⟨5, ![1, 1, 16, 128, 256]⟩
abbrev S8x16x16x128 : Shape := ⟨4, ![8, 16, 16, 128]⟩
abbrev S8x16x16x128x1 : Shape := ⟨5, ![8, 16, 16, 128, 1]⟩
abbrev S8x16x16x128x64 : Shape := ⟨5, ![8, 16, 16, 128, 64]⟩
abbrev S8x128x16x16 : Shape := ⟨4, ![8, 128, 16, 16]⟩
abbrev S1024x16384 : Shape := ⟨2, ![1024, 16384]⟩
abbrev S8x128x16x112 : Shape := ⟨4, ![8, 128, 16, 112]⟩
abbrev S8x128x16x128 : Shape := ⟨4, ![8, 128, 16, 128]⟩
abbrev S1024x2048 : Shape := ⟨2, ![1024, 2048]⟩
abbrev S16x256x128 : Shape := ⟨3, ![16, 256, 128]⟩
abbrev S128x1024 : Shape := ⟨2, ![128, 1024]⟩
abbrev S128x128 : Shape := ⟨2, ![128, 128]⟩
abbrev S128x256 : Shape := ⟨2, ![128, 256]⟩
abbrev S256x128 : Shape := ⟨2, ![256, 128]⟩
abbrev S128x64 : Shape := ⟨2, ![128, 64]⟩
abbrev S256x64 : Shape := ⟨2, ![256, 64]⟩
abbrev S1x128x256 : Shape := ⟨3, ![1, 128, 256]⟩
abbrev S128x1 : Shape := ⟨2, ![128, 1]⟩
abbrev S1x256x128 : Shape := ⟨3, ![1, 256, 128]⟩
abbrev S1x128 : Shape := ⟨2, ![1, 128]⟩

abbrev nBuf : Space → Nat
  | .hbm => 102
  | .vmem => 29
  | .smem => 0
  | _ => 0

abbrev bufTy : (tb : Table) → Fin (tcTables nBuf tb) → BufTy
  | .hbm, ⟨0, _⟩ => ⟨S16384x16x64, .bf16⟩
  | .hbm, ⟨1, _⟩ => ⟨S16384x16x64, .bf16⟩
  | .hbm, ⟨2, _⟩ => ⟨S16384x16x64, .bf16⟩
  | .hbm, ⟨3, _⟩ => ⟨S16x128x256, .f32⟩
  | .hbm, ⟨4, _⟩ => ⟨S16384x16x64, .bf16⟩
  | .hbm, ⟨5, _⟩ => ⟨S16384x16, .f32⟩
  | .hbm, ⟨6, _⟩ => ⟨S16384x16x64, .f32⟩
  | .hbm, ⟨7, _⟩ => ⟨S8x128x16x16x64, .f32⟩
  | .hbm, ⟨8, _⟩ => ⟨S16384x16x64, .f32⟩
  | .hbm, ⟨9, _⟩ => ⟨S8x128x16x16x64, .f32⟩
  | .hbm, ⟨10, _⟩ => ⟨S16384x16x64, .f32⟩
  | .hbm, ⟨11, _⟩ => ⟨S8x128x16x16x64, .f32⟩
  | .hbm, ⟨12, _⟩ => ⟨S1x128x16x16x64, .f32⟩
  | .hbm, ⟨13, _⟩ => ⟨S_, .f32⟩
  | .hbm, ⟨14, _⟩ => ⟨S1x128x16x16x64, .f32⟩
  | .hbm, ⟨15, _⟩ => ⟨S7x128x16x16x64, .f32⟩
  | .hbm, ⟨16, _⟩ => ⟨S8x128x16x16x64, .f32⟩
  | .hbm, ⟨17, _⟩ => ⟨S1x128x16x16x64, .f32⟩
  | .hbm, ⟨18, _⟩ => ⟨S_, .f32⟩
  | .hbm, ⟨19, _⟩ => ⟨S1x128x16x16x64, .f32⟩
  | .hbm, ⟨20, _⟩ => ⟨S7x128x16x16x64, .f32⟩
  | .hbm, ⟨21, _⟩ => ⟨S8x128x16x16x64, .f32⟩
  | .hbm, ⟨22, _⟩ => ⟨S8x256x16x16x64, .f32⟩
  | .hbm, ⟨23, _⟩ => ⟨S8x256x16x16x64, .f32⟩
  | .hbm, ⟨24, _⟩ => ⟨S8x1x1x128x256, .i32⟩
  | .hbm, ⟨25, _⟩ => ⟨S8x1x1x128x256, .i32⟩
  | .hbm, ⟨26, _⟩ => ⟨S8x1x1x128x256, .i32⟩
  | .hbm, ⟨27, _⟩ => ⟨S_, .i32⟩
  | .hbm, ⟨28, _⟩ => ⟨S8x1x1x128x256, .i32⟩
  | .hbm, ⟨29, _⟩ => ⟨S8x1x1x128x256, .i32⟩
  | .hbm, ⟨30, _⟩ => ⟨S8x1x1x128x256, .i32⟩
  | .hbm, ⟨31, _⟩ => ⟨S_, .i32⟩
  | .hbm, ⟨32, _⟩ => ⟨S8x1x1x128x256, .i32⟩
  | .hbm, ⟨33, _⟩ => ⟨S8x1x1x128x256, .i1⟩
  | .hbm, ⟨34, _⟩ => ⟨S_, .i32⟩
  | .hbm, ⟨35, _⟩ => ⟨S8x1x1x128x256, .i32⟩
  | .hbm, ⟨36, _⟩ => ⟨S8x1x1x128x256, .i1⟩
  | .hbm, ⟨37, _⟩ => ⟨S8x1x1x128x256, .i1⟩
  | .hbm, ⟨38, _⟩ => ⟨S_, .i32⟩
  | .hbm, ⟨39, _⟩ => ⟨S8x1x1x128x256, .i32⟩
  | .hbm, ⟨40, _⟩ => ⟨S8x1x1x128x256, .i1⟩
  | .hbm, ⟨41, _⟩ => ⟨S_, .i32⟩
  | .hbm, ⟨42, _⟩ => ⟨S8x1x1x128x256, .i32⟩
  | .hbm, ⟨43, _⟩ => ⟨S8x1x1x128x256, .i1⟩
  | .hbm, ⟨44, _⟩ => ⟨S8x1x1x128x256, .i1⟩
  | .hbm, ⟨45, _⟩ => ⟨S8x1x1x128x256, .i1⟩
  | .hbm, ⟨46, _⟩ => ⟨S8x1x1x128x256, .i1⟩
  | .hbm, ⟨47, _⟩ => ⟨S8x16x16x128x256, .f32⟩
  | .hbm, ⟨48, _⟩ => ⟨S_, .f32⟩
  | .hbm, ⟨49, _⟩ => ⟨S8x16x16x128x256, .f32⟩
  | .hbm, ⟨50, _⟩ => ⟨S8x16x16x128x256, .f32⟩
  | .hbm, ⟨51, _⟩ => ⟨S1x1x16x128x256, .f32⟩
  | .hbm, ⟨52, _⟩ => ⟨S8x16x16x128x256, .f32⟩
  | .hbm, ⟨53, _⟩ => ⟨S8x16x16x128x256, .f32⟩
  | .hbm, ⟨54, _⟩ => ⟨S_, .f32⟩
  | .hbm, ⟨55, _⟩ => ⟨S_, .f32⟩
  | .hbm, ⟨56, _⟩ => ⟨S8x16x16x128x256, .i1⟩
  | .hbm, ⟨57, _⟩ => ⟨S8x16x16x128x256, .f32⟩
  | .hbm, ⟨58, _⟩ => ⟨S8x16x16x128x256, .f32⟩
  | .hbm, ⟨59, _⟩ => ⟨S_, .f32⟩
  | .hbm, ⟨60, _⟩ => ⟨S8x16x16x128, .f32⟩
  | .hbm, ⟨61, _⟩ => ⟨S8x16x16x128x1, .f32⟩
  | .hbm, ⟨62, _⟩ => ⟨S8x16x16x128x256, .f32⟩
  | .hbm, ⟨63, _⟩ => ⟨S8x16x16x128x256, .f32⟩
  | .hbm, ⟨64, _⟩ => ⟨S8x16x16x128x256, .f32⟩
  | .hbm, ⟨65, _⟩ => ⟨S_, .f32⟩
  | .hbm, ⟨66, _⟩ => ⟨S8x16x16x128, .f32⟩
  | .hbm, ⟨67, _⟩ => ⟨S8x16x16x128x64, .f32⟩
  | .hbm, ⟨68, _⟩ => ⟨S8x16x16x128x1, .f32⟩
  | .hbm, ⟨69, _⟩ => ⟨S8x16x16x128x64, .f32⟩
  | .hbm, ⟨70, _⟩ => ⟨S8x16x16x128x64, .f32⟩
  | .hbm, ⟨71, _⟩ => ⟨S8x16x16x128, .f32⟩
  | .hbm, ⟨72, _⟩ => ⟨S8x16x16x128, .f32⟩
  | .hbm, ⟨73, _⟩ => ⟨S8x16x16x128, .f32⟩
  | .hbm, ⟨74, _⟩ => ⟨S8x128x16x16x64, .f32⟩
  | .hbm, ⟨75, _⟩ => ⟨S8x128x16x16, .f32⟩
  | .hbm, ⟨76, _⟩ => ⟨S16384x16x64, .f32⟩
  | .hbm, ⟨77, _⟩ => ⟨S8x128x16x16x64, .f32⟩
  | .hbm, ⟨78, _⟩ => ⟨S8x128x16x16x64, .f32⟩
  | .hbm, ⟨79, _⟩ => ⟨S_, .f32⟩
  | .hbm, ⟨80, _⟩ => ⟨S8x128x16x16, .f32⟩
  | .hbm, ⟨81, _⟩ => ⟨S8x128x16x16, .f32⟩
  | .hbm, ⟨82, _⟩ => ⟨S8x128x16x16, .f32⟩
  | .hbm, ⟨83, _⟩ => ⟨S1024x16384, .bf16⟩
  | .hbm, ⟨84, _⟩ => ⟨S1024x16384, .bf16⟩
  | .hbm, ⟨85, _⟩ => ⟨S1024x16384, .bf16⟩
  | .hbm, ⟨86, _⟩ => ⟨S1024x16384, .bf16⟩
  | .hbm, ⟨87, _⟩ => ⟨S_, .f32⟩
  | .hbm, ⟨88, _⟩ => ⟨S8x128x16x112, .f32⟩
  | .hbm, ⟨89, _⟩ => ⟨S8x128x16x128, .f32⟩
  | .hbm, ⟨90, _⟩ => ⟨S1024x2048, .f32⟩
  | .hbm, ⟨91, _⟩ => ⟨S_, .f32⟩
  | .hbm, ⟨92, _⟩ => ⟨S8x128x16x112, .f32⟩
  | .hbm, ⟨93, _⟩ => ⟨S8x128x16x128, .f32⟩
  | .hbm, ⟨94, _⟩ => ⟨S1024x2048, .f32⟩
  | .hbm, ⟨95, _⟩ => ⟨S16x256x128, .f32⟩
  | .hbm, ⟨96, _⟩ => ⟨S1024x16384, .bf16⟩
  | .hbm, ⟨97, _⟩ => ⟨S1024x16384, .bf16⟩
  | .hbm, ⟨98, _⟩ => ⟨S1024x16384, .bf16⟩
  | .hbm, ⟨99, _⟩ => ⟨S1024x16384, .bf16⟩
  | .hbm, ⟨100, _⟩ => ⟨S1024x16384, .bf16⟩
  | .hbm, ⟨101, _⟩ => ⟨S16x128x256, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S16x128x256, .f32⟩
  | .local _ .vmem, ⟨11, _⟩ => ⟨S16x256x128, .f32⟩
  | .local _ .vmem, ⟨12, _⟩ => ⟨S128x1024, .bf16⟩
  | .local _ .vmem, ⟨13, _⟩ => ⟨S128x1024, .bf16⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x1024, .bf16⟩
  | .local _ .vmem, ⟨19, _⟩ => ⟨S128x1024, .bf16⟩
  | .local _ .vmem, ⟨20, _⟩ => ⟨S128x1024, .bf16⟩
  | .local _ .vmem, ⟨21, _⟩ => ⟨S128x1024, .bf16⟩
  | .local _ .vmem, ⟨22, _⟩ => ⟨S128x1024, .bf16⟩
  | .local _ .vmem, ⟨23, _⟩ => ⟨S128x1024, .bf16⟩
  | .local _ .vmem, ⟨24, _⟩ => ⟨S128x1024, .bf16⟩
  | .local _ .vmem, ⟨25, _⟩ => ⟨S128x1024, .bf16⟩
  | .local _ .vmem, ⟨26, _⟩ => ⟨S128x1024, .bf16⟩
  | .local _ .vmem, ⟨27, _⟩ => ⟨S128x1024, .bf16⟩
  | .local _ .vmem, ⟨28, _⟩ => ⟨S16x128x256, .f32⟩
  | _, _ => ⟨S16384x16x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_1 : Ref sig .tc := ⟨.hbm, 31, rfl⟩
abbrev main_v22 : Ref sig .tc := ⟨.hbm, 32, rfl⟩
abbrev main_v23 : Ref sig .tc := ⟨.hbm, 33, rfl⟩
abbrev main_c_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_9 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_10 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_11 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73_0 : Ref sig .tc := ⟨.hbm, 96, rfl⟩
abbrev main_v73_1 : Ref sig .tc := ⟨.hbm, 97, rfl⟩
abbrev main_v73_2 : Ref sig .tc := ⟨.hbm, 98, rfl⟩
abbrev main_v73_3 : Ref sig .tc := ⟨.hbm, 99, rfl⟩
abbrev main_v73_4 : Ref sig .tc := ⟨.hbm, 100, rfl⟩
abbrev main_v73_5 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S16x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S16x128x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== AttnRefIdeal.lean ====
abbrev S16384x16x64 : Shape := ⟨3, ![16384, 16, 64]⟩
abbrev S16x128x256 : Shape := ⟨3, ![16, 128, 256]⟩
abbrev S16384x16 : Shape := ⟨2, ![16384, 16]⟩
abbrev S8x128x16x16x64 : Shape := ⟨5, ![8, 128, 16, 16, 64]⟩
abbrev S8x128x16x16 : Shape := ⟨4, ![8, 128, 16, 16]⟩
abbrev S1x128x16x16x64 : Shape := ⟨5, ![1, 128, 16, 16, 64]⟩
abbrev S_ : Shape := ⟨0, ![]⟩
abbrev S7x128x16x16x64 : Shape := ⟨5, ![7, 128, 16, 16, 64]⟩
abbrev S8x256x16x16x64 : Shape := ⟨5, ![8, 256, 16, 16, 64]⟩
abbrev S8x1x1x128x256 : Shape := ⟨5, ![8, 1, 1, 128, 256]⟩
abbrev S8x16x16x128x256 : Shape := ⟨5, ![8, 16, 16, 128, 256]⟩
abbrev S1x1x16x128x256 : Shape := ⟨5, ![1, 1, 16, 128, 256]⟩
abbrev S8x16x16x128 : Shape := ⟨4, ![8, 16, 16, 128]⟩
abbrev S8x16x16x128x1 : Shape := ⟨5, ![8, 16, 16, 128, 1]⟩
abbrev S8x16x16x128x64 : Shape := ⟨5, ![8, 16, 16, 128, 64]⟩
abbrev S8x16x16x64x256 : Shape := ⟨5, ![8, 16, 16, 64, 256]⟩
abbrev S8x16x16x256x64 : Shape := ⟨5, ![8, 16, 16, 256, 64]⟩
abbrev S1024x16384 : Shape := ⟨2, ![1024, 16384]⟩

abbrev nBuf : Space → Nat
  | .hbm => 153
  | .vmem => 0
  | .smem => 0
  | _ => 0

abbrev hbmTy0_0 (i : Nat) : BufTy := match i % 128 with
  | 0 => ⟨S16384x16x64, .bf16⟩
  | 1 => ⟨S16384x16x64, .bf16⟩
  | 2 => ⟨S16384x16x64, .bf16⟩
  | 3 => ⟨S16x128x256, .f32⟩
  | 4 => ⟨S16384x16x64, .bf16⟩
  | 5 => ⟨S16384x16, .f32⟩
  | 6 => ⟨S16384x16x64, .f32⟩
  | 7 => ⟨S8x128x16x16x64, .f32⟩
  | 8 => ⟨S16384x16x64, .f32⟩
  | 9 => ⟨S8x128x16x16x64, .f32⟩
  | 10 => ⟨S16384x16x64, .f32⟩
  | 11 => ⟨S8x128x16x16x64, .f32⟩
  | 12 => ⟨S16384x16x64, .f32⟩
  | 13 => ⟨S8x128x16x16x64, .f32⟩
  | 14 => ⟨S8x128x16x16, .f32⟩
  | 15 => ⟨S1x128x16x16x64, .f32⟩
  | 16 => ⟨S_, .f32⟩
  | 17 => ⟨S1x128x16x16x64, .f32⟩
  | 18 => ⟨S7x128x16x16x64, .f32⟩
  | 19 => ⟨S8x128x16x16x64, .f32⟩
  | 20 => ⟨S1x128x16x16x64, .f32⟩
  | 21 => ⟨S_, .f32⟩
  | 22 => ⟨S1x128x16x16x64, .f32⟩
  | 23 => ⟨S7x128x16x16x64, .f32⟩
  | 24 => ⟨S8x128x16x16x64, .f32⟩
  | 25 => ⟨S8x256x16x16x64, .f32⟩
  | 26 => ⟨S8x256x16x16x64, .f32⟩
  | 27 => ⟨S8x1x1x128x256, .i32⟩
  | 28 => ⟨S8x1x1x128x256, .i32⟩
  | 29 => ⟨S8x1x1x128x256, .i32⟩
  | 30 => ⟨S_, .i32⟩
  | 31 => ⟨S8x1x1x128x256, .i32⟩
  | 32 => ⟨S8x1x1x128x256, .i32⟩
  | 33 => ⟨S8x1x1x128x256, .i32⟩
  | 34 => ⟨S_, .i32⟩
  | 35 => ⟨S8x1x1x128x256, .i32⟩
  | 36 => ⟨S8x1x1x128x256, .i1⟩
  | 37 => ⟨S_, .i32⟩
  | 38 => ⟨S8x1x1x128x256, .i32⟩
  | 39 => ⟨S8x1x1x128x256, .i1⟩
  | 40 => ⟨S8x1x1x128x256, .i1⟩
  | 41 => ⟨S_, .i32⟩
  | 42 => ⟨S8x1x1x128x256, .i32⟩
  | 43 => ⟨S8x1x1x128x256, .i1⟩
  | 44 => ⟨S_, .i32⟩
  | 45 => ⟨S8x1x1x128x256, .i32⟩
  | 46 => ⟨S8x1x1x128x256, .i1⟩
  | 47 => ⟨S8x1x1x128x256, .i1⟩
  | 48 => ⟨S8x1x1x128x256, .i1⟩
  | 49 => ⟨S8x1x1x128x256, .i1⟩
  | 50 => ⟨S8x16x16x128x256, .f32⟩
  | 51 => ⟨S_, .f32⟩
  | 52 => ⟨S8x16x16x128x256, .f32⟩
  | 53 => ⟨S8x16x16x128x256, .f32⟩
  | 54 => ⟨S1x1x16x128x256, .f32⟩
  | 55 => ⟨S8x16x16x128x256, .f32⟩
  | 56 => ⟨S8x16x16x128x256, .f32⟩
  | 57 => ⟨S_, .f32⟩
  | 58 => ⟨S_, .f32⟩
  | 59 => ⟨S8x16x16x128x256, .i1⟩
  | 60 => ⟨S8x16x16x128x256, .f32⟩
  | 61 => ⟨S8x16x16x128x256, .f32⟩
  | 62 => ⟨S_, .f32⟩
  | 63 => ⟨S8x16x16x128x256, .f32⟩
  | 64 => ⟨S_, .f32⟩
  | 65 => ⟨S8x16x16x128, .f32⟩
  | 66 => ⟨S8x16x16x128x1, .f32⟩
  | 67 => ⟨S8x16x16x128x256, .f32⟩
  | 68 => ⟨S8x16x16x128x256, .i1⟩
  | 69 => ⟨S8x16x16x128x256, .f32⟩
  | 70 => ⟨S_, .f32⟩
  | 71 => ⟨S8x16x16x128, .f32⟩
  | 72 => ⟨S8x16x16x128x1, .f32⟩
  | 73 => ⟨S8x16x16x128x256, .f32⟩
  | 74 => ⟨S8x16x16x128x256, .f32⟩
  | 75 => ⟨S8x16x16x128x256, .f32⟩
  | 76 => ⟨S_, .f32⟩
  | 77 => ⟨S8x16x16x128, .f32⟩
  | 78 => ⟨S8x16x16x128x64, .f32⟩
  | 79 => ⟨S8x16x16x128x1, .f32⟩
  | 80 => ⟨S8x16x16x128x64, .f32⟩
  | 81 => ⟨S8x16x16x128x64, .f32⟩
  | 82 => ⟨S8x16x16x128x1, .f32⟩
  | 83 => ⟨S_, .f32⟩
  | 84 => ⟨S8x16x16x128x1, .f32⟩
  | 85 => ⟨S8x16x16x128x1, .f32⟩
  | 86 => ⟨S8x16x16x128, .f32⟩
  | 87 => ⟨S8x16x16x128, .f32⟩
  | 88 => ⟨S8x16x16x128, .f32⟩
  | 89 => ⟨S8x128x16x16x64, .f32⟩
  | 90 => ⟨S8x128x16x16, .f32⟩
  | 91 => ⟨S8x16x16x128, .f32⟩
  | 92 => ⟨S8x16x16x128x64, .f32⟩
  | 93 => ⟨S8x16x16x128, .f32⟩
  | 94 => ⟨S8x16x16x128x1, .f32⟩
  | 95 => ⟨S8x16x16x128x64, .f32⟩
  | 96 => ⟨S8x16x16x128x64, .f32⟩
  | 97 => ⟨S8x16x16x128x64, .f32⟩
  | 98 => ⟨S_, .f32⟩
  | 99 => ⟨S8x16x16x128, .f32⟩
  | 100 => ⟨S8x16x16x128x1, .f32⟩
  | 101 => ⟨S8x16x16x128x1, .f32⟩
  | 102 => ⟨S8x16x16x128x64, .f32⟩
  | 103 => ⟨S8x16x16x128x64, .f32⟩
  | 104 => ⟨S_, .f32⟩
  | 105 => ⟨S8x16x16x128, .f32⟩
  | 106 => ⟨S8x16x16x128, .f32⟩
  | 107 => ⟨S8x16x16x64x256, .f32⟩
  | 108 => ⟨S8x256x16x16x64, .f32⟩
  | 109 => ⟨S8x16x16x128x256, .f32⟩
  | 110 => ⟨S8x16x16x128x256, .f32⟩
  | 111 => ⟨S8x16x16x128x256, .f32⟩
  | 112 => ⟨S8x16x16x128x256, .f32⟩
  | 113 => ⟨S8x16x16x128x256, .f32⟩
  | 114 => ⟨S_, .f32⟩
  | 115 => ⟨S8x16x16x128, .f32⟩
  | 116 => ⟨S8x16x16x128x1, .f32⟩
  | 117 => ⟨S8x16x16x128x1, .f32⟩
  | 118 => ⟨S_, .f32⟩
  | 119 => ⟨S8x16x16x128, .f32⟩
  | 120 => ⟨S8x16x16x128, .f32⟩
  | 121 => ⟨S8x16x16x128x256, .f32⟩
  | 122 => ⟨S8x16x16x128x256, .f32⟩
  | 123 => ⟨S8x16x16x128x256, .f32⟩
  | 124 => ⟨S_, .f32⟩
  | 125 => ⟨S8x16x16x128x256, .f32⟩
  | 126 => ⟨S8x16x16x128x256, .f32⟩
  | 127 => ⟨S_, .f32⟩
  | _ => ⟨S16384x16x64, .bf16⟩

abbrev hbmTy0_1 (i : Nat) : BufTy := match i % 128 with
  | 0 => ⟨S16x128x256, .f32⟩
  | 1 => ⟨S1x1x16x128x256, .f32⟩
  | 2 => ⟨S_, .f32⟩
  | 3 => ⟨S16x128x256, .f32⟩
  | 4 => ⟨S_, .f32⟩
  | 5 => ⟨S8x16x16x128x256, .f32⟩
  | 6 => ⟨S8x16x16x128x256, .f32⟩
  | 7 => ⟨S8x16x16x256x64, .f32⟩
  | 8 => ⟨S8x256x16x16x64, .f32⟩
  | 9 => ⟨S8x16x16x128x64, .f32⟩
  | 10 => ⟨S8x128x16x16x64, .f32⟩
  | 11 => ⟨S8x128x16x16x64, .f32⟩
  | 12 => ⟨S8x128x16x16x64, .f32⟩
  | 13 => ⟨S8x128x16x16x64, .f32⟩
  | 14 => ⟨S8x128x16x16x64, .f32⟩
  | 15 => ⟨S1024x16384, .f32⟩
  | 16 => ⟨S1024x16384, .bf16⟩
  | 17 => ⟨S1024x16384, .f32⟩
  | 18 => ⟨S1024x16384, .bf16⟩
  | 19 => ⟨S1024x16384, .f32⟩
  | 20 => ⟨S1024x16384, .bf16⟩
  | 21 => ⟨S1024x16384, .f32⟩
  | 22 => ⟨S1024x16384, .bf16⟩
  | 23 => ⟨S1024x16384, .f32⟩
  | 24 => ⟨S1024x16384, .bf16⟩
  | _ => ⟨S16384x16x64, .bf16⟩

abbrev hbmTy (i : Nat) : BufTy := match i / 128 with
  | 0 => hbmTy0_0 i
  | 1 => hbmTy0_1 i
  | _ => ⟨S16384x16x64, .bf16⟩

abbrev bufTy : (tb : Table) → Fin (tcTables nBuf tb) → BufTy
  | .hbm, ⟨i, _⟩ => hbmTy i
  | _, _ => ⟨S16384x16x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_1 : Ref sig .tc := ⟨.hbm, 34, rfl⟩
abbrev main_v25 : Ref sig .tc := ⟨.hbm, 35, rfl⟩
abbrev main_v26 : Ref sig .tc := ⟨.hbm, 36, rfl⟩
abbrev main_c_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_3 : Ref sig .tc := ⟨.hbm, 41, rfl⟩
abbrev main_v30 : Ref sig .tc := ⟨.hbm, 42, rfl⟩
abbrev main_v31 : Ref sig .tc := ⟨.hbm, 43, rfl⟩
abbrev main_c_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_call0_v0 : Ref sig .tc := ⟨.hbm, 58, rfl⟩
abbrev main_v43_1 : Ref sig .tc := ⟨.hbm, 59, rfl⟩
abbrev main_call0_v2 : Ref sig .tc := ⟨.hbm, 60, rfl⟩
abbrev main_v43_0 : Ref sig .tc := ⟨.hbm, 61, rfl⟩
abbrev main_call0_cst : Ref sig .tc := ⟨.hbm, 62, rfl⟩
abbrev main_v43_2 : Ref sig .tc := ⟨.hbm, 63, rfl⟩
abbrev main_cst_7 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_8 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_10 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_11 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_12 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_13 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_14 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_call1_cst : Ref sig .tc := ⟨.hbm, 124, rfl⟩
abbrev main_call1_v0 : Ref sig .tc := ⟨.hbm, 125, rfl⟩
abbrev main_v96 : Ref sig .tc := ⟨.hbm, 126, rfl⟩
abbrev main_cst_15 : Ref sig .tc := ⟨.hbm, 127, rfl⟩
abbrev main_v97 : Ref sig .tc := ⟨.hbm, 128, rfl⟩
abbrev main_v98 : Ref sig .tc := ⟨.hbm, 129, rfl⟩
abbrev main_cst_16 : Ref sig .tc := ⟨.hbm, 130, rfl⟩
abbrev main_v99 : Ref sig .tc := ⟨.hbm, 131, rfl⟩
abbrev main_cst_17 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩

abbrev nD : Nat := 1
abbrev τ : Topo := Topo.v7x

variable {F : FTy → Type} [FloatOps F]
-- ==== Din.lean ====
abbrev S16384x3200 : Shape := ⟨2, ![16384, 3200]⟩
abbrev S1024x3080 : Shape := ⟨2, ![1024, 3080]⟩
abbrev S_ : Shape := ⟨0, ![]⟩
abbrev S1024x3200 : Shape := ⟨2, ![1024, 3200]⟩
abbrev S3200x1024 : Shape := ⟨2, ![3200, 1024]⟩
abbrev S16384x1024 : Shape := ⟨2, ![16384, 1024]⟩
abbrev S1024x1024 : Shape := ⟨2, ![1024, 1024]⟩
abbrev S8x128 : Shape := ⟨2, ![8, 128]⟩

abbrev nBuf : Space → Nat
  | .hbm => 7
  | .vmem => 6
  | .smem => 0
  | _ => 0

abbrev bufTy : (tb : Table) → Fin (tcTables nBuf tb) → BufTy
  | .hbm, ⟨0, _⟩ => ⟨S16384x3200, .bf16⟩
  | .hbm, ⟨1, _⟩ => ⟨S1024x3080, .bf16⟩
  | .hbm, ⟨2, _⟩ => ⟨S_, .i32⟩
  | .hbm, ⟨3, _⟩ => ⟨S_, .bf16⟩
  | .hbm, ⟨4, _⟩ => ⟨S1024x3200, .bf16⟩
  | .hbm, ⟨5, _⟩ => ⟨S3200x1024, .bf16⟩
  | .hbm, ⟨6, _⟩ => ⟨S16384x1024, .f32⟩
  | .local _ .vmem, ⟨0, _⟩ => ⟨S1024x3200, .bf16⟩
  | .local _ .vmem, ⟨1, _⟩ => ⟨S1024x3200, .bf16⟩
  | .local _ .vmem, ⟨2, _⟩ => ⟨S3200x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S16384x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S3200x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DinRefIdeal.lean ====
abbrev S16384x3200 : Shape := ⟨2, ![16384, 3200]⟩
abbrev S1024x3080 : Shape := ⟨2, ![1024, 3080]⟩
abbrev S16384x3080 : Shape := ⟨2, ![16384, 3080]⟩
abbrev S_ : Shape := ⟨0, ![]⟩
abbrev S16384x1024 : Shape := ⟨2, ![16384, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x3200, .bf16⟩
  | .hbm, ⟨1, _⟩ => ⟨S1024x3080, .bf16⟩
  | .hbm, ⟨2, _⟩ => ⟨S16384x3080, .bf16⟩
  | .hbm, ⟨3, _⟩ => ⟨S_, .f32⟩
  | .hbm, ⟨4, _⟩ => ⟨S16384x1024, .f32⟩
  | .hbm, ⟨5, _⟩ => ⟨S1024x3080, .f32⟩
  | .hbm, ⟨6, _⟩ => ⟨S16384x3080, .f32⟩
  | .hbm, ⟨7, _⟩ => ⟨S16384x3080, .f32⟩
  | .hbm, ⟨8, _⟩ => ⟨S16384x1024, .f32⟩
  | _, _ => ⟨S16384x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Gin.lean ====
abbrev S16384x1024 : Shape := ⟨2, ![16384, 1024]⟩
abbrev S16384x3200 : Shape := ⟨2, ![16384, 3200]⟩
abbrev S1024x3200 : Shape := ⟨2, ![1024, 3200]⟩
abbrev S1024x1024 : Shape := ⟨2, ![1024, 1024]⟩
abbrev S1024x3080 : Shape := ⟨2, ![1024, 3080]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x3200, .bf16⟩
  | .hbm, ⟨2, _⟩ => ⟨S1024x3200, .f32⟩
  | .hbm, ⟨3, _⟩ => ⟨S1024x3080, .f32⟩
  | .local _ .vmem, ⟨0, _⟩ => ⟨S1024x1024, .bf16⟩
  | .local _ .vmem, ⟨1, _⟩ => ⟨S1024x1024, .bf16⟩
  | .local _ .vmem, ⟨2, _⟩ => ⟨S1024x3200, .bf16⟩
  | .local _ .vmem, ⟨3, _⟩ => ⟨S1024x3200, .bf16⟩
  | .local _ .vmem, ⟨4, _⟩ => ⟨S1024x3200, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x3200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GinRefIdeal.lean ====
abbrev S16384x1024 : Shape := ⟨2, ![16384, 1024]⟩
abbrev S16384x3200 : Shape := ⟨2, ![16384, 3200]⟩
abbrev S16384x3080 : Shape := ⟨2, ![16384, 3080]⟩
abbrev S_ : Shape := ⟨0, ![]⟩
abbrev S1024x3080 : Shape := ⟨2, ![1024, 3080]⟩
abbrev S3080x1024 : Shape := ⟨2, ![3080, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x3200, .bf16⟩
  | .hbm, ⟨2, _⟩ => ⟨S16384x3080, .bf16⟩
  | .hbm, ⟨3, _⟩ => ⟨S_, .f32⟩
  | .hbm, ⟨4, _⟩ => ⟨S1024x3080, .f32⟩
  | .hbm, ⟨5, _⟩ => ⟨S16384x1024, .f32⟩
  | .hbm, ⟨6, _⟩ => ⟨S16384x3080, .f32⟩
  | .hbm, ⟨7, _⟩ => ⟨S16384x3080, .f32⟩
  | .hbm, ⟨8, _⟩ => ⟨S3080x1024, .f32⟩
  | .hbm, ⟨9, _⟩ => ⟨S1024x3080, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Ain.lean ====
abbrev S16384x1024 : Shape := ⟨2, ![16384, 1024]⟩
abbrev S1024x3080 : Shape := ⟨2, ![1024, 3080]⟩
abbrev S_ : Shape := ⟨0, ![]⟩
abbrev S1024x3200 : Shape := ⟨2, ![1024, 3200]⟩
abbrev S16384x3200 : Shape := ⟨2, ![16384, 3200]⟩
abbrev S1024x1024 : Shape := ⟨2, ![1024, 1024]⟩
abbrev S8x128 : Shape := ⟨2, ![8, 128]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x3080, .bf16⟩
  | .hbm, ⟨2, _⟩ => ⟨S_, .i32⟩
  | .hbm, ⟨3, _⟩ => ⟨S_, .bf16⟩
  | .hbm, ⟨4, _⟩ => ⟨S1024x3200, .bf16⟩
  | .hbm, ⟨5, _⟩ => ⟨S16384x3200, .f32⟩
  | .local _ .vmem, ⟨0, _⟩ => ⟨S1024x1024, .bf16⟩
  | .local _ .vmem, ⟨1, _⟩ => ⟨S1024x1024, .bf16⟩
  | .local _ .vmem, ⟨2, _⟩ => ⟨S1024x3200, .bf16⟩
  | .local _ .vmem, ⟨3, _⟩ => ⟨S1024x3200, .f32⟩
  | .local _ .vmem, ⟨4, _⟩ => ⟨S1024x3200, .f32⟩
  | .local _ .vmem, ⟨5, _⟩ => ⟨S8x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AinRefIdeal.lean ====
abbrev S16384x1024 : Shape := ⟨2, ![16384, 1024]⟩
abbrev S1024x3080 : Shape := ⟨2, ![1024, 3080]⟩
abbrev S16384x3080 : Shape := ⟨2, ![16384, 3080]⟩
abbrev S_ : Shape := ⟨0, ![]⟩
abbrev S16384x3200 : Shape := ⟨2, ![16384, 3200]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x3080, .bf16⟩
  | .hbm, ⟨2, _⟩ => ⟨S16384x1024, .f32⟩
  | .hbm, ⟨3, _⟩ => ⟨S1024x3080, .f32⟩
  | .hbm, ⟨4, _⟩ => ⟨S16384x3080, .f32⟩
  | .hbm, ⟨5, _⟩ => ⟨S_, .i32⟩
  | .hbm, ⟨6, _⟩ => ⟨S_, .f32⟩
  | .hbm, ⟨7, _⟩ => ⟨S16384x3200, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Down.lean ====
abbrev S16384x2816 : Shape := ⟨2, ![16384, 2816]⟩
abbrev S2816x1024 : Shape := ⟨2, ![2816, 1024]⟩
abbrev S16384x1024 : Shape := ⟨2, ![16384, 1024]⟩
abbrev S1024x2816 : Shape := ⟨2, ![1024, 2816]⟩
abbrev S1024x1024 : Shape := ⟨2, ![1024, 1024]⟩
abbrev S8x128 : Shape := ⟨2, ![8, 128]⟩

abbrev nBuf : Space → Nat
  | .hbm => 4
  | .vmem => 8
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S16384x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S8x128, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S16384x2816 : Shape := ⟨2, ![16384, 2816]⟩
abbrev S2816x1024 : Shape := ⟨2, ![2816, 1024]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S16384x2816, .f32⟩
  | .hbm, ⟨4, _⟩ => ⟨S2816x1024, .f32⟩
  | .hbm, ⟨5, _⟩ => ⟨S16384x1024, .f32⟩
  | .hbm, ⟨6, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Out.lean ====
abbrev S16384x1024 : Shape := ⟨2, ![16384, 1024]⟩
abbrev S1024x1024 : Shape := ⟨2, ![1024, 1024]⟩
abbrev S8x128 : Shape := ⟨2, ![8, 128]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S8x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S16384x1024 : Shape := ⟨2, ![16384, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S16384x1024, .f32⟩
  | .hbm, ⟨6, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== View0.lean ====
abbrev S16384x1024 : Shape := ⟨2, ![16384, 1024]⟩
abbrev S1024x1024 : Shape := ⟨2, ![1024, 1024]⟩
abbrev S8x1024x128 : Shape := ⟨3, ![8, 1024, 128]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S8x1024x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== View0RefIdeal.lean ====
abbrev S16384x1024 : Shape := ⟨2, ![16384, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1024x1024, .f32⟩
  | .hbm, ⟨4, _⟩ => ⟨S16384x1024, .f32⟩
  | .hbm, ⟨5, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== View1.lean ====
abbrev S16384x1024 : Shape := ⟨2, ![16384, 1024]⟩
abbrev S1024x1024 : Shape := ⟨2, ![1024, 1024]⟩
abbrev S4096x4096 : Shape := ⟨2, ![4096, 4096]⟩
abbrev S256x4096 : Shape := ⟨2, ![256, 4096]⟩
abbrev S8x1024x128 : Shape := ⟨3, ![8, 1024, 128]⟩
abbrev S1024x128 : Shape := ⟨2, ![1024, 128]⟩
abbrev S1x1024x128 : Shape := ⟨3, ![1, 1024, 128]⟩
abbrev S1x256x128 : Shape := ⟨3, ![1, 256, 128]⟩
abbrev S256x128 : Shape := ⟨2, ![256, 128]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S256x4096, .bf16⟩
  | .local _ .vmem, ⟨4, _⟩ => ⟨S256x4096, .bf16⟩
  | .local _ .vmem, ⟨5, _⟩ => ⟨S8x1024x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== View1RefIdeal.lean ====
abbrev S16384x1024 : Shape := ⟨2, ![16384, 1024]⟩
abbrev S1024x1024 : Shape := ⟨2, ![1024, 1024]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1024x1024, .f32⟩
  | .hbm, ⟨4, _⟩ => ⟨S16384x1024, .f32⟩
  | .hbm, ⟨5, _⟩ => ⟨S16384x1024, .bf16⟩
  | .hbm, ⟨6, _⟩ => ⟨S4096x4096, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== View2.lean ====
abbrev S16384x1024 : Shape := ⟨2, ![16384, 1024]⟩
abbrev S1024x1024 : Shape := ⟨2, ![1024, 1024]⟩
abbrev S1024x16384 : Shape := ⟨2, ![1024, 16384]⟩
abbrev S64x16384 : Shape := ⟨2, ![64, 16384]⟩
abbrev S8x1024x128 : Shape := ⟨3, ![8, 1024, 128]⟩
abbrev S1024x128 : Shape := ⟨2, ![1024, 128]⟩
abbrev S1x1024x128 : Shape := ⟨3, ![1, 1024, 128]⟩
abbrev S1x64x128 : Shape := ⟨3, ![1, 64, 128]⟩
abbrev S64x128 : Shape := ⟨2, ![64, 128]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S1024x16384, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S64x16384, .bf16⟩
  | .local _ .vmem, ⟨4, _⟩ => ⟨S64x16384, .bf16⟩
  | .local _ .vmem, ⟨5, _⟩ => ⟨S8x1024x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== View2RefIdeal.lean ====
abbrev S16384x1024 : Shape := ⟨2, ![16384, 1024]⟩
abbrev S1024x1024 : Shape := ⟨2, ![1024, 1024]⟩
abbrev S1024x16384 : Shape := ⟨2, ![1024, 16384]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1024x1024, .f32⟩
  | .hbm, ⟨4, _⟩ => ⟨S16384x1024, .f32⟩
  | .hbm, ⟨5, _⟩ => ⟨S16384x1024, .bf16⟩
  | .hbm, ⟨6, _⟩ => ⟨S1024x16384, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== UpAct.lean ====
abbrev S16384x1024 : Shape := ⟨2, ![16384, 1024]⟩
abbrev S1024x5632 : Shape := ⟨2, ![1024, 5632]⟩
abbrev S3x5632 : Shape := ⟨2, ![3, 5632]⟩
abbrev S5632 : Shape := ⟨1, ![5632]⟩
abbrev S1024x2x11x256 : Shape := ⟨4, ![1024, 2, 11, 256]⟩
abbrev S1024x11x2x256 : Shape := ⟨4, ![1024, 11, 2, 256]⟩
abbrev S3x2x11x256 : Shape := ⟨4, ![3, 2, 11, 256]⟩
abbrev S3x11x2x256 : Shape := ⟨4, ![3, 11, 2, 256]⟩
abbrev S1x5632 : Shape := ⟨2, ![1, 5632]⟩
abbrev S1x2x11x256 : Shape := ⟨4, ![1, 2, 11, 256]⟩
abbrev S1x11x2x256 : Shape := ⟨4, ![1, 11, 2, 256]⟩
abbrev S16384x5632 : Shape := ⟨2, ![16384, 5632]⟩
abbrev S16384x2816 : Shape := ⟨2, ![16384, 2816]⟩
abbrev S2048x1024 : Shape := ⟨2, ![2048, 1024]⟩
abbrev S1024x512 : Shape := ⟨2, ![1024, 512]⟩
abbrev S3x512 : Shape := ⟨2, ![3, 512]⟩
abbrev S1x512 : Shape := ⟨2, ![1, 512]⟩
abbrev S2048x512 : Shape := ⟨2, ![2048, 512]⟩
abbrev S2048x256 : Shape := ⟨2, ![2048, 256]⟩
abbrev S8x512 : Shape := ⟨2, ![8, 512]⟩
abbrev S16384x11x2x256 : Shape := ⟨4, ![16384, 11, 2, 256]⟩
abbrev S16384x2x11x256 : Shape := ⟨4, ![16384, 2, 11, 256]⟩

abbrev nBuf : Space → Nat
  | .hbm => 19
  | .vmem => 13
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .bf16⟩
  | .hbm, ⟨2, _⟩ => ⟨S3x5632, .f32⟩
  | .hbm, ⟨3, _⟩ => ⟨S5632, .f32⟩
  | .hbm, ⟨4, _⟩ => ⟨S1024x2x11x256, .bf16⟩
  | .hbm, ⟨5, _⟩ => ⟨S1024x11x2x256, .bf16⟩
  | .hbm, ⟨6, _⟩ => ⟨S1024x5632, .bf16⟩
  | .hbm, ⟨7, _⟩ => ⟨S3x2x11x256, .f32⟩
  | .hbm, ⟨8, _⟩ => ⟨S3x11x2x256, .f32⟩
  | .hbm, ⟨9, _⟩ => ⟨S3x5632, .f32⟩
  | .hbm, ⟨10, _⟩ => ⟨S1x5632, .f32⟩
  | .hbm, ⟨11, _⟩ => ⟨S1x2x11x256, .f32⟩
  | .hbm, ⟨12, _⟩ => ⟨S1x11x2x256, .f32⟩
  | .hbm, ⟨13, _⟩ => ⟨S1x5632, .f32⟩
  | .hbm, ⟨14, _⟩ => ⟨S16384x5632, .f32⟩
  | .hbm, ⟨15, _⟩ => ⟨S16384x2816, .bf16⟩
  | .hbm, ⟨16, _⟩ => ⟨S16384x11x2x256, .f32⟩
  | .hbm, ⟨17, _⟩ => ⟨S16384x2x11x256, .f32⟩
  | .hbm, ⟨18, _⟩ => ⟨S16384x5632, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S3x512, .f32⟩
  | .local _ .vmem, ⟨5, _⟩ => ⟨S3x512, .f32⟩
  | .local _ .vmem, ⟨6, _⟩ => ⟨S1x512, .f32⟩
  | .local _ .vmem, ⟨7, _⟩ => ⟨S1x512, .f32⟩
  | .local _ .vmem, ⟨8, _⟩ => ⟨S2048x512, .f32⟩
  | .local _ .vmem, ⟨9, _⟩ => ⟨S2048x512, .f32⟩
  | .local _ .vmem, ⟨10, _⟩ => ⟨S2048x256, .bf16⟩
  | .local _ .vmem, ⟨11, _⟩ => ⟨S2048x256, .bf16⟩
  | .local _ .vmem, ⟨12, _⟩ => ⟨S8x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpActRefIdeal.lean ====
abbrev S16384x1024 : Shape := ⟨2, ![16384, 1024]⟩
abbrev S1024x5632 : Shape := ⟨2, ![1024, 5632]⟩
abbrev S3x5632 : Shape := ⟨2, ![3, 5632]⟩
abbrev S5632 : Shape := ⟨1, ![5632]⟩
abbrev S16384x5632 : Shape := ⟨2, ![16384, 5632]⟩
abbrev S_ : Shape := ⟨0, ![]⟩
abbrev S2x5632 : Shape := ⟨2, ![2, 5632]⟩
abbrev S16386x5632 : Shape := ⟨2, ![16386, 5632]⟩
abbrev S1x5632 : Shape := ⟨2, ![1, 5632]⟩
abbrev S16384x2816 : Shape := ⟨2, ![16384, 2816]⟩

abbrev nBuf : Space → Nat
  | .hbm => 46
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .bf16⟩
  | .hbm, ⟨2, _⟩ => ⟨S3x5632, .f32⟩
  | .hbm, ⟨3, _⟩ => ⟨S5632, .f32⟩
  | .hbm, ⟨4, _⟩ => ⟨S16384x1024, .f32⟩
  | .hbm, ⟨5, _⟩ => ⟨S1024x5632, .f32⟩
  | .hbm, ⟨6, _⟩ => ⟨S16384x5632, .f32⟩
  | .hbm, ⟨7, _⟩ => ⟨S_, .f32⟩
  | .hbm, ⟨8, _⟩ => ⟨S2x5632, .f32⟩
  | .hbm, ⟨9, _⟩ => ⟨S16386x5632, .f32⟩
  | .hbm, ⟨10, _⟩ => ⟨S16384x5632, .f32⟩
  | .hbm, ⟨11, _⟩ => ⟨S1x5632, .f32⟩
  | .hbm, ⟨12, _⟩ => ⟨S5632, .f32⟩
  | .hbm, ⟨13, _⟩ => ⟨S1x5632, .f32⟩
  | .hbm, ⟨14, _⟩ => ⟨S16384x5632, .f32⟩
  | .hbm, ⟨15, _⟩ => ⟨S16384x5632, .f32⟩
  | .hbm, ⟨16, _⟩ => ⟨S16384x5632, .f32⟩
  | .hbm, ⟨17, _⟩ => ⟨S1x5632, .f32⟩
  | .hbm, ⟨18, _⟩ => ⟨S5632, .f32⟩
  | .hbm, ⟨19, _⟩ => ⟨S1x5632, .f32⟩
  | .hbm, ⟨20, _⟩ => ⟨S16384x5632, .f32⟩
  | .hbm, ⟨21, _⟩ => ⟨S16384x5632, .f32⟩
  | .hbm, ⟨22, _⟩ => ⟨S16384x5632, .f32⟩
  | .hbm, ⟨23, _⟩ => ⟨S16384x5632, .f32⟩
  | .hbm, ⟨24, _⟩ => ⟨S1x5632, .f32⟩
  | .hbm, ⟨25, _⟩ => ⟨S5632, .f32⟩
  | .hbm, ⟨26, _⟩ => ⟨S1x5632, .f32⟩
  | .hbm, ⟨27, _⟩ => ⟨S16384x5632, .f32⟩
  | .hbm, ⟨28, _⟩ => ⟨S16384x5632, .f32⟩
  | .hbm, ⟨29, _⟩ => ⟨S16384x5632, .f32⟩
  | .hbm, ⟨30, _⟩ => ⟨S1x5632, .f32⟩
  | .hbm, ⟨31, _⟩ => ⟨S16384x5632, .f32⟩
  | .hbm, ⟨32, _⟩ => ⟨S16384x5632, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S_, .f32⟩
  | .hbm, ⟨38, _⟩ => ⟨S16384x2816, .f32⟩
  | .hbm, ⟨39, _⟩ => ⟨S16384x2816, .f32⟩
  | .hbm, ⟨40, _⟩ => ⟨S_, .f32⟩
  | .hbm, ⟨41, _⟩ => ⟨S16384x2816, .f32⟩
  | .hbm, ⟨42, _⟩ => ⟨S16384x2816, .f32⟩
  | .hbm, ⟨43, _⟩ => ⟨S16384x2816, .f32⟩
  | .hbm, ⟨44, _⟩ => ⟨S16384x2816, .f32⟩
  | .hbm, ⟨45, _⟩ => ⟨S16384x2816, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Dnorm.lean ====
abbrev S16384x1024 : Shape := ⟨2, ![16384, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024, .f32⟩
  | .hbm, ⟨4, _⟩ => ⟨S1x1024, .f32⟩
  | .hbm, ⟨5, _⟩ => ⟨S16384x1024, .f32⟩
  | .hbm, ⟨6, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_12 : BitVec 32 := 0#32
  let v33 : BitVec 1 := Scalar.cmpi .ne v32 c0_i32_12
  v33

def k0_cond2 (i : grid0.Coords) : BitVec 1 :=
  let arg0 : BitVec 32 := BitVec.ofNat 32 (i 0).val
  let c0_i32_13 : BitVec 32 := 0#32
  let v34 : BitVec 1 := Scalar.cmpi .sgt arg0 c0_i32_13
  let v35 : BitVec 32 := Scalar.extui v34
  let c0_i32_14 : BitVec 32 := 0#32
  let v36 : BitVec 1 := Scalar.cmpi .ne v35 c0_i32_14
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== DnormRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S1024, .f32⟩
  | .hbm, ⟨32, _⟩ => ⟨S16384x1024, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== AdamUp.lean ====
abbrev S2048x1408 : Shape := ⟨2, ![2048, 1408]⟩
abbrev S128x1408 : Shape := ⟨2, ![128, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpRefIdeal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S1024x770 : Shape := ⟨2, ![1024, 770]⟩
abbrev S256x770 : Shape := ⟨2, ![256, 770]⟩

abbrev nBuf : Space → Nat
  | .hbm => 7
  | .vmem => 14
  | .smem => 0
  | _ => 0

abbrev bufTy : (tb : Table) → Fin (tcTables nBuf tb) → BufTy
  | .hbm, ⟨0, _⟩ => ⟨S1024x770, .f32⟩
  | .hbm, ⟨1, _⟩ => ⟨S1024x770, .f32⟩
  | .hbm, ⟨2, _⟩ => ⟨S1024x770, .f32⟩
  | .hbm, ⟨3, _⟩ => ⟨S1024x770, .f32⟩
  | .hbm, ⟨4, _⟩ => ⟨S1024x770, .f32⟩
  | .hbm, ⟨5, _⟩ => ⟨S1024x770, .f32⟩
  | .hbm, ⟨6, _⟩ => ⟨S1024x770, .f32⟩
  | .local _ .vmem, ⟨0, _⟩ => ⟨S256x770, .f32⟩
  | .local _ .vmem, ⟨1, _⟩ => ⟨S256x770, .f32⟩
  | .local _ .vmem, ⟨2, _⟩ => ⟨S256x770, .f32⟩
  | .local _ .vmem, ⟨3, _⟩ => ⟨S256x770, .f32⟩
  | .local _ .vmem, ⟨4, _⟩ => ⟨S256x770, .f32⟩
  | .local _ .vmem, ⟨5, _⟩ => ⟨S256x770, .f32⟩
  | .local _ .vmem, ⟨6, _⟩ => ⟨S256x770, .f32⟩
  | .local _ .vmem, ⟨7, _⟩ => ⟨S256x770, .f32⟩
  | .local _ .vmem, ⟨8, _⟩ => ⟨S256x770, .f32⟩
  | .local _ .vmem, ⟨9, _⟩ => ⟨S256x770, .f32⟩
  | .local _ .vmem, ⟨10, _⟩ => ⟨S256x770, .f32⟩
  | .local _ .vmem, ⟨11, _⟩ => ⟨S256x770, .f32⟩
  | .local _ .vmem, ⟨12, _⟩ => ⟨S256x770, .f32⟩
  | .local _ .vmem, ⟨13, _⟩ => ⟨S256x770, .f32⟩
  | _, _ => ⟨S1024x770, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x770 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x770 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x770 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x770 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x770 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x770 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x770 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S1024x770 : Shape := ⟨2, ![1024, 770]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x770, .f32⟩
  | .hbm, ⟨1, _⟩ => ⟨S1024x770, .f32⟩
  | .hbm, ⟨2, _⟩ => ⟨S1024x770, .f32⟩
  | .hbm, ⟨3, _⟩ => ⟨S1024x770, .f32⟩
  | .hbm, ⟨4, _⟩ => ⟨S_, .f32⟩
  | .hbm, ⟨5, _⟩ => ⟨S1024x770, .f32⟩
  | .hbm, ⟨6, _⟩ => ⟨S1024x770, .f32⟩
  | .hbm, ⟨7, _⟩ => ⟨S_, .f32⟩
  | .hbm, ⟨8, _⟩ => ⟨S1024x770, .f32⟩
  | .hbm, ⟨9, _⟩ => ⟨S1024x770, .f32⟩
  | .hbm, ⟨10, _⟩ => ⟨S1024x770, .f32⟩
  | .hbm, ⟨11, _⟩ => ⟨S_, .f32⟩
  | .hbm, ⟨12, _⟩ => ⟨S1024x770, .f32⟩
  | .hbm, ⟨13, _⟩ => ⟨S1024x770, .f32⟩
  | .hbm, ⟨14, _⟩ => ⟨S1024x770, .f32⟩
  | .hbm, ⟨15, _⟩ => ⟨S_, .f32⟩
  | .hbm, ⟨16, _⟩ => ⟨S1024x770, .f32⟩
  | .hbm, ⟨17, _⟩ => ⟨S1024x770, .f32⟩
  | .hbm, ⟨18, _⟩ => ⟨S1024x770, .f32⟩
  | .hbm, ⟨19, _⟩ => ⟨S_, .f32⟩
  | .hbm, ⟨20, _⟩ => ⟨S1024x770, .f32⟩
  | .hbm, ⟨21, _⟩ => ⟨S1024x770, .f32⟩
  | .hbm, ⟨22, _⟩ => ⟨S_, .f32⟩
  | .hbm, ⟨23, _⟩ => ⟨S1024x770, .f32⟩
  | .hbm, ⟨24, _⟩ => ⟨S1024x770, .f32⟩
  | .hbm, ⟨25, _⟩ => ⟨S1024x770, .f32⟩
  | .hbm, ⟨26, _⟩ => ⟨S_, .f32⟩
  | .hbm, ⟨27, _⟩ => ⟨S1024x770, .f32⟩
  | .hbm, ⟨28, _⟩ => ⟨S1024x770, .f32⟩
  | .hbm, ⟨29, _⟩ => ⟨S1024x770, .f32⟩
  | .hbm, ⟨30, _⟩ => ⟨S_, .f32⟩
  | .hbm, ⟨31, _⟩ => ⟨S1024x770, .f32⟩
  | .hbm, ⟨32, _⟩ => ⟨S1024x770, .f32⟩
  | .hbm, ⟨33, _⟩ => ⟨S1024x770, .f32⟩
  | .hbm, ⟨34, _⟩ => ⟨S_, .f32⟩
  | .hbm, ⟨35, _⟩ => ⟨S1024x770, .f32⟩
  | .hbm, ⟨36, _⟩ => ⟨S1024x770, .f32⟩
  | _, _ => ⟨S1024x770, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamKv.lean ====
abbrev S1024x1536 : Shape := ⟨2, ![1024, 1536]⟩
abbrev S128x1536 : Shape := ⟨2, ![128, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamKvRefIdeal.lean ====
abbrev S1024x1536 : Shape := ⟨2, ![1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S_, .f32⟩
  | .hbm, ⟨5, _⟩ => ⟨S1024x1536, .f32⟩
  | .hbm, ⟨6, _⟩ => ⟨S1024x1536, .f32⟩
  | .hbm, ⟨7, _⟩ => ⟨S_, .f32⟩
  | .hbm, ⟨8, _⟩ => ⟨S1024x1536, .f32⟩
  | .hbm, ⟨9, _⟩ => ⟨S1024x1536, .f32⟩
  | .hbm, ⟨10, _⟩ => ⟨S1024x1536, .f32⟩
  | .hbm, ⟨11, _⟩ => ⟨S_, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S_, .f32⟩
  | .hbm, ⟨23, _⟩ => ⟨S1024x1536, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamQ.lean ====
abbrev S1024x768 : Shape := ⟨2, ![1024, 768]⟩
abbrev S256x768 : Shape := ⟨2, ![256, 768]⟩

abbrev nBuf : Space → Nat
  | .hbm => 7
  | .vmem => 14
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamQRefIdeal.lean ====
abbrev S1024x768 : Shape := ⟨2, ![1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S_, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S1024x768, .f32⟩
  | .hbm, ⟨26, _⟩ => ⟨S_, .f32⟩
  | .hbm, ⟨27, _⟩ => ⟨S1024x768, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S_, .f32⟩
  | .hbm, ⟨35, _⟩ => ⟨S1024x768, .f32⟩
  | .hbm, ⟨36, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S1408x1024 : Shape := ⟨2, ![1408, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGain.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGainRefIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGains.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGainsRefIdeal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamNorm.lean ====
abbrev S1x256 : Shape := ⟨2, ![1, 256]⟩

abbrev nBuf : Space → Nat
  | .hbm => 7
  | .vmem => 7
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormRefIdeal.lean ====
abbrev S1x256 : Shape := ⟨2, ![1, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S_, .f32⟩
  | .hbm, ⟨5, _⟩ => ⟨S1x256, .f32⟩
  | .hbm, ⟨6, _⟩ => ⟨S1x256, .f32⟩
  | .hbm, ⟨7, _⟩ => ⟨S_, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S_, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S_, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S_, .f32⟩
  | .hbm, ⟨20, _⟩ => ⟨S1x256, .f32⟩
  | .hbm, ⟨21, _⟩ => ⟨S1x256, .f32⟩
  | .hbm, ⟨22, _⟩ => ⟨S_, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S_, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S_, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | _, _ => ⟨S1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamHeads.lean ====
abbrev S4x64 : Shape := ⟨2, ![4, 64]⟩

abbrev nBuf : Space → Nat
  | .hbm => 7
  | .vmem => 7
  | .smem => 0
  | _ => 0

abbrev bufTy : (tb : Table) → Fin (tcTables nBuf tb) → BufTy
  | .hbm, ⟨0, _⟩ => ⟨S4x64, .f32⟩
  | .hbm, ⟨1, _⟩ => ⟨S4x64, .f32⟩
  | .hbm, ⟨2, _⟩ => ⟨S4x64, .f32⟩
  | .hbm, ⟨3, _⟩ => ⟨S4x64, .f32⟩
  | .hbm, ⟨4, _⟩ => ⟨S4x64, .f32⟩
  | .hbm, ⟨5, _⟩ => ⟨S4x64, .f32⟩
  | .hbm, ⟨6, _⟩ => ⟨S4x64, .f32⟩
  | .local _ .vmem, ⟨0, _⟩ => ⟨S4x64, .f32⟩
  | .local _ .vmem, ⟨1, _⟩ => ⟨S4x64, .f32⟩
  | .local _ .vmem, ⟨2, _⟩ => ⟨S4x64, .f32⟩
  | .local _ .vmem, ⟨3, _⟩ => ⟨S4x64, .f32⟩
  | .local _ .vmem, ⟨4, _⟩ => ⟨S4x64, .f32⟩
  | .local _ .vmem, ⟨5, _⟩ => ⟨S4x64, .f32⟩
  | .local _ .vmem, ⟨6, _⟩ => ⟨S4x64, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamHeadsRefIdeal.lean ====
abbrev S4x64 : Shape := ⟨2, ![4, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x64, .f32⟩
  | .hbm, ⟨1, _⟩ => ⟨S4x64, .f32⟩
  | .hbm, ⟨2, _⟩ => ⟨S4x64, .f32⟩
  | .hbm, ⟨3, _⟩ => ⟨S4x64, .f32⟩
  | .hbm, ⟨4, _⟩ => ⟨S_, .f32⟩
  | .hbm, ⟨5, _⟩ => ⟨S4x64, .f32⟩
  | .hbm, ⟨6, _⟩ => ⟨S4x64, .f32⟩
  | .hbm, ⟨7, _⟩ => ⟨S_, .f32⟩
  | .hbm, ⟨8, _⟩ => ⟨S4x64, .f32⟩
  | .hbm, ⟨9, _⟩ => ⟨S4x64, .f32⟩
  | .hbm, ⟨10, _⟩ => ⟨S4x64, .f32⟩
  | .hbm, ⟨11, _⟩ => ⟨S_, .f32⟩
  | .hbm, ⟨12, _⟩ => ⟨S4x64, .f32⟩
  | .hbm, ⟨13, _⟩ => ⟨S4x64, .f32⟩
  | .hbm, ⟨14, _⟩ => ⟨S4x64, .f32⟩
  | .hbm, ⟨15, _⟩ => ⟨S_, .f32⟩
  | .hbm, ⟨16, _⟩ => ⟨S4x64, .f32⟩
  | .hbm, ⟨17, _⟩ => ⟨S4x64, .f32⟩
  | .hbm, ⟨18, _⟩ => ⟨S4x64, .f32⟩
  | .hbm, ⟨19, _⟩ => ⟨S_, .f32⟩
  | .hbm, ⟨20, _⟩ => ⟨S4x64, .f32⟩
  | .hbm, ⟨21, _⟩ => ⟨S4x64, .f32⟩
  | .hbm, ⟨22, _⟩ => ⟨S_, .f32⟩
  | .hbm, ⟨23, _⟩ => ⟨S4x64, .f32⟩
  | .hbm, ⟨24, _⟩ => ⟨S4x64, .f32⟩
  | .hbm, ⟨25, _⟩ => ⟨S4x64, .f32⟩
  | .hbm, ⟨26, _⟩ => ⟨S_, .f32⟩
  | .hbm, ⟨27, _⟩ => ⟨S4x64, .f32⟩
  | .hbm, ⟨28, _⟩ => ⟨S4x64, .f32⟩
  | .hbm, ⟨29, _⟩ => ⟨S4x64, .f32⟩
  | .hbm, ⟨30, _⟩ => ⟨S_, .f32⟩
  | .hbm, ⟨31, _⟩ => ⟨S4x64, .f32⟩
  | .hbm, ⟨32, _⟩ => ⟨S4x64, .f32⟩
  | .hbm, ⟨33, _⟩ => ⟨S4x64, .f32⟩
  | .hbm, ⟨34, _⟩ => ⟨S_, .f32⟩
  | .hbm, ⟨35, _⟩ => ⟨S4x64, .f32⟩
  | .hbm, ⟨36, _⟩ => ⟨S4x64, .f32⟩
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGates.lean ====
abbrev S1x8 : Shape := ⟨2, ![1, 8]⟩

abbrev nBuf : Space → Nat
  | .hbm => 7
  | .vmem => 7
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S1x8, .f32⟩
  | .hbm, ⟨5, _⟩ => ⟨S1x8, .f32⟩
  | .hbm, ⟨6, _⟩ => ⟨S1x8, .f32⟩
  | .local _ .vmem, ⟨0, _⟩ => ⟨S1x8, .f32⟩
  | .local _ .vmem, ⟨1, _⟩ => ⟨S1x8, .f32⟩
  | .local _ .vmem, ⟨2, _⟩ => ⟨S1x8, .f32⟩
  | .local _ .vmem, ⟨3, _⟩ => ⟨S1x8, .f32⟩
  | .local _ .vmem, ⟨4, _⟩ => ⟨S1x8, .f32⟩
  | .local _ .vmem, ⟨5, _⟩ => ⟨S1x8, .f32⟩
  | .local _ .vmem, ⟨6, _⟩ => ⟨S1x8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGatesRefIdeal.lean ====
abbrev S1x8 : Shape := ⟨2, ![1, 8]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S_, .f32⟩
  | .hbm, ⟨5, _⟩ => ⟨S1x8, .f32⟩
  | .hbm, ⟨6, _⟩ => ⟨S1x8, .f32⟩
  | .hbm, ⟨7, _⟩ => ⟨S_, .f32⟩
  | .hbm, ⟨8, _⟩ => ⟨S1x8, .f32⟩
  | .hbm, ⟨9, _⟩ => ⟨S1x8, .f32⟩
  | .hbm, ⟨10, _⟩ => ⟨S1x8, .f32⟩
  | .hbm, ⟨11, _⟩ => ⟨S_, .f32⟩
  | .hbm, ⟨12, _⟩ => ⟨S1x8, .f32⟩
  | .hbm, ⟨13, _⟩ => ⟨S1x8, .f32⟩
  | .hbm, ⟨14, _⟩ => ⟨S1x8, .f32⟩
  | .hbm, ⟨15, _⟩ => ⟨S_, .f32⟩
  | .hbm, ⟨16, _⟩ => ⟨S1x8, .f32⟩
  | .hbm, ⟨17, _⟩ => ⟨S1x8, .f32⟩
  | .hbm, ⟨18, _⟩ => ⟨S1x8, .f32⟩
  | .hbm, ⟨19, _⟩ => ⟨S_, .f32⟩
  | .hbm, ⟨20, _⟩ => ⟨S1x8, .f32⟩
  | .hbm, ⟨21, _⟩ => ⟨S1x8, .f32⟩
  | .hbm, ⟨22, _⟩ => ⟨S_, .f32⟩
  | .hbm, ⟨23, _⟩ => ⟨S1x8, .f32⟩
  | .hbm, ⟨24, _⟩ => ⟨S1x8, .f32⟩
  | .hbm, ⟨25, _⟩ => ⟨S1x8, .f32⟩
  | .hbm, ⟨26, _⟩ => ⟨S_, .f32⟩
  | .hbm, ⟨27, _⟩ => ⟨S1x8, .f32⟩
  | .hbm, ⟨28, _⟩ => ⟨S1x8, .f32⟩
  | .hbm, ⟨29, _⟩ => ⟨S1x8, .f32⟩
  | .hbm, ⟨30, _⟩ => ⟨S_, .f32⟩
  | .hbm, ⟨31, _⟩ => ⟨S1x8, .f32⟩
  | .hbm, ⟨32, _⟩ => ⟨S1x8, .f32⟩
  | .hbm, ⟨33, _⟩ => ⟨S1x8, .f32⟩
  | .hbm, ⟨34, _⟩ => ⟨S_, .f32⟩
  | .hbm, ⟨35, _⟩ => ⟨S1x8, .f32⟩
  | .hbm, ⟨36, _⟩ => ⟨S1x8, .f32⟩
  | _, _ => ⟨S1x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamRel.lean ====
abbrev S32x48 : Shape := ⟨2, ![32, 48]⟩

abbrev nBuf : Space → Nat
  | .hbm => 7
  | .vmem => 7
  | .smem => 0
  | _ => 0

abbrev bufTy : (tb : Table) → Fin (tcTables nBuf tb) → BufTy
  | .hbm, ⟨0, _⟩ => ⟨S32x48, .f32⟩
  | .hbm, ⟨1, _⟩ => ⟨S32x48, .f32⟩
  | .hbm, ⟨2, _⟩ => ⟨S32x48, .f32⟩
  | .hbm, ⟨3, _⟩ => ⟨S32x48, .f32⟩
  | .hbm, ⟨4, _⟩ => ⟨S32x48, .f32⟩
  | .hbm, ⟨5, _⟩ => ⟨S32x48, .f32⟩
  | .hbm, ⟨6, _⟩ => ⟨S32x48, .f32⟩
  | .local _ .vmem, ⟨0, _⟩ => ⟨S32x48, .f32⟩
  | .local _ .vmem, ⟨1, _⟩ => ⟨S32x48, .f32⟩
  | .local _ .vmem, ⟨2, _⟩ => ⟨S32x48, .f32⟩
  | .local _ .vmem, ⟨3, _⟩ => ⟨S32x48, .f32⟩
  | .local _ .vmem, ⟨4, _⟩ => ⟨S32x48, .f32⟩
  | .local _ .vmem, ⟨5, _⟩ => ⟨S32x48, .f32⟩
  | .local _ .vmem, ⟨6, _⟩ => ⟨S32x48, .f32⟩
  | _, _ => ⟨S32x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRelRefIdeal.lean ====
abbrev S32x48 : Shape := ⟨2, ![32, 48]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S32x48, .f32⟩
  | .hbm, ⟨1, _⟩ => ⟨S32x48, .f32⟩
  | .hbm, ⟨2, _⟩ => ⟨S32x48, .f32⟩
  | .hbm, ⟨3, _⟩ => ⟨S32x48, .f32⟩
  | .hbm, ⟨4, _⟩ => ⟨S_, .f32⟩
  | .hbm, ⟨5, _⟩ => ⟨S32x48, .f32⟩
  | .hbm, ⟨6, _⟩ => ⟨S32x48, .f32⟩
  | .hbm, ⟨7, _⟩ => ⟨S_, .f32⟩
  | .hbm, ⟨8, _⟩ => ⟨S32x48, .f32⟩
  | .hbm, ⟨9, _⟩ => ⟨S32x48, .f32⟩
  | .hbm, ⟨10, _⟩ => ⟨S32x48, .f32⟩
  | .hbm, ⟨11, _⟩ => ⟨S_, .f32⟩
  | .hbm, ⟨12, _⟩ => ⟨S32x48, .f32⟩
  | .hbm, ⟨13, _⟩ => ⟨S32x48, .f32⟩
  | .hbm, ⟨14, _⟩ => ⟨S32x48, .f32⟩
  | .hbm, ⟨15, _⟩ => ⟨S_, .f32⟩
  | .hbm, ⟨16, _⟩ => ⟨S32x48, .f32⟩
  | .hbm, ⟨17, _⟩ => ⟨S32x48, .f32⟩
  | .hbm, ⟨18, _⟩ => ⟨S32x48, .f32⟩
  | .hbm, ⟨19, _⟩ => ⟨S_, .f32⟩
  | .hbm, ⟨20, _⟩ => ⟨S32x48, .f32⟩
  | .hbm, ⟨21, _⟩ => ⟨S32x48, .f32⟩
  | .hbm, ⟨22, _⟩ => ⟨S_, .f32⟩
  | .hbm, ⟨23, _⟩ => ⟨S32x48, .f32⟩
  | .hbm, ⟨24, _⟩ => ⟨S32x48, .f32⟩
  | .hbm, ⟨25, _⟩ => ⟨S32x48, .f32⟩
  | .hbm, ⟨26, _⟩ => ⟨S_, .f32⟩
  | .hbm, ⟨27, _⟩ => ⟨S32x48, .f32⟩
  | .hbm, ⟨28, _⟩ => ⟨S32x48, .f32⟩
  | .hbm, ⟨29, _⟩ => ⟨S32x48, .f32⟩
  | .hbm, ⟨30, _⟩ => ⟨S_, .f32⟩
  | .hbm, ⟨31, _⟩ => ⟨S32x48, .f32⟩
  | .hbm, ⟨32, _⟩ => ⟨S32x48, .f32⟩
  | .hbm, ⟨33, _⟩ => ⟨S32x48, .f32⟩
  | .hbm, ⟨34, _⟩ => ⟨S_, .f32⟩
  | .hbm, ⟨35, _⟩ => ⟨S32x48, .f32⟩
  | .hbm, ⟨36, _⟩ => ⟨S32x48, .f32⟩
  | _, _ => ⟨S32x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConv.lean ====
abbrev S6x1408 : Shape := ⟨2, ![6, 1408]⟩

abbrev nBuf : Space → Nat
  | .hbm => 7
  | .vmem => 7
  | .smem => 0
  | _ => 0

abbrev bufTy : (tb : Table) → Fin (tcTables nBuf tb) → BufTy
  | .hbm, ⟨0, _⟩ => ⟨S6x1408, .f32⟩
  | .hbm, ⟨1, _⟩ => ⟨S6x1408, .f32⟩
  | .hbm, ⟨2, _⟩ => ⟨S6x1408, .f32⟩
  | .hbm, ⟨3, _⟩ => ⟨S6x1408, .f32⟩
  | .hbm, ⟨4, _⟩ => ⟨S6x1408, .f32⟩
  | .hbm, ⟨5, _⟩ => ⟨S6x1408, .f32⟩
  | .hbm, ⟨6, _⟩ => ⟨S6x1408, .f32⟩
  | .local _ .vmem, ⟨0, _⟩ => ⟨S6x1408, .f32⟩
  | .local _ .vmem, ⟨1, _⟩ => ⟨S6x1408, .f32⟩
  | .local _ .vmem, ⟨2, _⟩ => ⟨S6x1408, .f32⟩
  | .local _ .vmem, ⟨3, _⟩ => ⟨S6x1408, .f32⟩
  | .local _ .vmem, ⟨4, _⟩ => ⟨S6x1408, .f32⟩
  | .local _ .vmem, ⟨5, _⟩ => ⟨S6x1408, .f32⟩
  | .local _ .vmem, ⟨6, _⟩ => ⟨S6x1408, .f32⟩
  | _, _ => ⟨S6x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvRefIdeal.lean ====
abbrev S6x1408 : Shape := ⟨2, ![6, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S6x1408, .f32⟩
  | .hbm, ⟨1, _⟩ => ⟨S6x1408, .f32⟩
  | .hbm, ⟨2, _⟩ => ⟨S6x1408, .f32⟩
  | .hbm, ⟨3, _⟩ => ⟨S6x1408, .f32⟩
  | .hbm, ⟨4, _⟩ => ⟨S_, .f32⟩
  | .hbm, ⟨5, _⟩ => ⟨S6x1408, .f32⟩
  | .hbm, ⟨6, _⟩ => ⟨S6x1408, .f32⟩
  | .hbm, ⟨7, _⟩ => ⟨S_, .f32⟩
  | .hbm, ⟨8, _⟩ => ⟨S6x1408, .f32⟩
  | .hbm, ⟨9, _⟩ => ⟨S6x1408, .f32⟩
  | .hbm, ⟨10, _⟩ => ⟨S6x1408, .f32⟩
  | .hbm, ⟨11, _⟩ => ⟨S_, .f32⟩
  | .hbm, ⟨12, _⟩ => ⟨S6x1408, .f32⟩
  | .hbm, ⟨13, _⟩ => ⟨S6x1408, .f32⟩
  | .hbm, ⟨14, _⟩ => ⟨S6x1408, .f32⟩
  | .hbm, ⟨15, _⟩ => ⟨S_, .f32⟩
  | .hbm, ⟨16, _⟩ => ⟨S6x1408, .f32⟩
  | .hbm, ⟨17, _⟩ => ⟨S6x1408, .f32⟩
  | .hbm, ⟨18, _⟩ => ⟨S6x1408, .f32⟩
  | .hbm, ⟨19, _⟩ => ⟨S_, .f32⟩
  | .hbm, ⟨20, _⟩ => ⟨S6x1408, .f32⟩
  | .hbm, ⟨21, _⟩ => ⟨S6x1408, .f32⟩
  | .hbm, ⟨22, _⟩ => ⟨S_, .f32⟩
  | .hbm, ⟨23, _⟩ => ⟨S6x1408, .f32⟩
  | .hbm, ⟨24, _⟩ => ⟨S6x1408, .f32⟩
  | .hbm, ⟨25, _⟩ => ⟨S6x1408, .f32⟩
  | .hbm, ⟨26, _⟩ => ⟨S_, .f32⟩
  | .hbm, ⟨27, _⟩ => ⟨S6x1408, .f32⟩
  | .hbm, ⟨28, _⟩ => ⟨S6x1408, .f32⟩
  | .hbm, ⟨29, _⟩ => ⟨S6x1408, .f32⟩
  | .hbm, ⟨30, _⟩ => ⟨S_, .f32⟩
  | .hbm, ⟨31, _⟩ => ⟨S6x1408, .f32⟩
  | .hbm, ⟨32, _⟩ => ⟨S6x1408, .f32⟩
  | .hbm, ⟨33, _⟩ => ⟨S6x1408, .f32⟩
  | .hbm, ⟨34, _⟩ => ⟨S_, .f32⟩
  | .hbm, ⟨35, _⟩ => ⟨S6x1408, .f32⟩
  | .hbm, ⟨36, _⟩ => ⟨S6x1408, .f32⟩
  | _, _ => ⟨S6x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConvB.lean ====
abbrev S2x5632 : Shape := ⟨2, ![2, 5632]⟩

abbrev nBuf : Space → Nat
  | .hbm => 7
  | .vmem => 7
  | .smem => 0
  | _ => 0

abbrev bufTy : (tb : Table) → Fin (tcTables nBuf tb) → BufTy
  | .hbm, ⟨0, _⟩ => ⟨S2x5632, .f32⟩
  | .hbm, ⟨1, _⟩ => ⟨S2x5632, .f32⟩
  | .hbm, ⟨2, _⟩ => ⟨S2x5632, .f32⟩
  | .hbm, ⟨3, _⟩ => ⟨S2x5632, .f32⟩
  | .hbm, ⟨4, _⟩ => ⟨S2x5632, .f32⟩
  | .hbm, ⟨5, _⟩ => ⟨S2x5632, .f32⟩
  | .hbm, ⟨6, _⟩ => ⟨S2x5632, .f32⟩
  | .local _ .vmem, ⟨0, _⟩ => ⟨S2x5632, .f32⟩
  | .local _ .vmem, ⟨1, _⟩ => ⟨S2x5632, .f32⟩
  | .local _ .vmem, ⟨2, _⟩ => ⟨S2x5632, .f32⟩
  | .local _ .vmem, ⟨3, _⟩ => ⟨S2x5632, .f32⟩
  | .local _ .vmem, ⟨4, _⟩ => ⟨S2x5632, .f32⟩
  | .local _ .vmem, ⟨5, _⟩ => ⟨S2x5632, .f32⟩
  | .local _ .vmem, ⟨6, _⟩ => ⟨S2x5632, .f32⟩
  | _, _ => ⟨S2x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvBRefIdeal.lean ====
abbrev S2x5632 : Shape := ⟨2, ![2, 5632]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x5632, .f32⟩
  | .hbm, ⟨1, _⟩ => ⟨S2x5632, .f32⟩
  | .hbm, ⟨2, _⟩ => ⟨S2x5632, .f32⟩
  | .hbm, ⟨3, _⟩ => ⟨S2x5632, .f32⟩
  | .hbm, ⟨4, _⟩ => ⟨S_, .f32⟩
  | .hbm, ⟨5, _⟩ => ⟨S2x5632, .f32⟩
  | .hbm, ⟨6, _⟩ => ⟨S2x5632, .f32⟩
  | .hbm, ⟨7, _⟩ => ⟨S_, .f32⟩
  | .hbm, ⟨8, _⟩ => ⟨S2x5632, .f32⟩
  | .hbm, ⟨9, _⟩ => ⟨S2x5632, .f32⟩
  | .hbm, ⟨10, _⟩ => ⟨S2x5632, .f32⟩
  | .hbm, ⟨11, _⟩ => ⟨S_, .f32⟩
  | .hbm, ⟨12, _⟩ => ⟨S2x5632, .f32⟩
  | .hbm, ⟨13, _⟩ => ⟨S2x5632, .f32⟩
  | .hbm, ⟨14, _⟩ => ⟨S2x5632, .f32⟩
  | .hbm, ⟨15, _⟩ => ⟨S_, .f32⟩
  | .hbm, ⟨16, _⟩ => ⟨S2x5632, .f32⟩
  | .hbm, ⟨17, _⟩ => ⟨S2x5632, .f32⟩
  | .hbm, ⟨18, _⟩ => ⟨S2x5632, .f32⟩
  | .hbm, ⟨19, _⟩ => ⟨S_, .f32⟩
  | .hbm, ⟨20, _⟩ => ⟨S2x5632, .f32⟩
  | .hbm, ⟨21, _⟩ => ⟨S2x5632, .f32⟩
  | .hbm, ⟨22, _⟩ => ⟨S_, .f32⟩
  | .hbm, ⟨23, _⟩ => ⟨S2x5632, .f32⟩
  | .hbm, ⟨24, _⟩ => ⟨S2x5632, .f32⟩
  | .hbm, ⟨25, _⟩ => ⟨S2x5632, .f32⟩
  | .hbm, ⟨26, _⟩ => ⟨S_, .f32⟩
  | .hbm, ⟨27, _⟩ => ⟨S2x5632, .f32⟩
  | .hbm, ⟨28, _⟩ => ⟨S2x5632, .f32⟩
  | .hbm, ⟨29, _⟩ => ⟨S2x5632, .f32⟩
  | .hbm, ⟨30, _⟩ => ⟨S_, .f32⟩
  | .hbm, ⟨31, _⟩ => ⟨S2x5632, .f32⟩
  | .hbm, ⟨32, _⟩ => ⟨S2x5632, .f32⟩
  | .hbm, ⟨33, _⟩ => ⟨S2x5632, .f32⟩
  | .hbm, ⟨34, _⟩ => ⟨S_, .f32⟩
  | .hbm, ⟨35, _⟩ => ⟨S2x5632, .f32⟩
  | .hbm, ⟨36, _⟩ => ⟨S2x5632, .f32⟩
  | _, _ => ⟨S2x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Prod.lean ====
/- Products of two arrays, entry by entry. -/
module

public import Idealize.ShloMosaic.Lib.Pipeline.ValueKit
public import Idealize.ShloMosaic.Lib.Claim

@[expose] public section

noncomputable section

open Idealize.ShloMosaic

namespace Cert.Prod

/-- A row of the first against a row of the second. -/
def nt {M N K : ℕ} {f g : FTy} (a : FVec Ideal ⟨2, ![M, K]⟩ f) (b : FVec Ideal ⟨2, ![N, K]⟩ g)
    (y : Shape.Idx ⟨2, ![M, N]⟩) : EReal :=
  ∑ k : Fin K, a (ix2 (y 0) k) * b (ix2 (y 1) k)

/-- A row of the first against a column of the second. -/
def nn {M N K : ℕ} {f g : FTy} (a : FVec Ideal ⟨2, ![M, K]⟩ f) (b : FVec Ideal ⟨2, ![K, N]⟩ g)
    (y : Shape.Idx ⟨2, ![M, N]⟩) : EReal :=
  ∑ k : Fin K, a (ix2 (y 0) k) * b (ix2 k (y 1))

/-- A column of the first against a column of the second. -/
def tn {M N K : ℕ} {f g : FTy} (a : FVec Ideal ⟨2, ![K, M]⟩ f) (b : FVec Ideal ⟨2, ![K, N]⟩ g)
    (y : Shape.Idx ⟨2, ![M, N]⟩) : EReal :=
  ∑ k : Fin K, a (ix2 k (y 0)) * b (ix2 k (y 1))

/-- The integer zero as a float. -/
theorem zero_int {f : FTy} : FloatOps.sitofp (F := Ideal) f 0#32 = (0 : EReal) := by
  show (((0#32 : BitVec 32).toInt : ℝ) : EReal) = 0
  simp

/-- A weight with columns of zeros added. -/
def wide {M N Q : ℕ} {g : FTy} (w : FVec Ideal ⟨2, ![M, N]⟩ g) (y : Shape.Idx ⟨2, ![M, Q]⟩) : EReal :=
  if h : (y 1).val < N then w (ix2 (y 0) ⟨(y 1).val, h⟩) else 0

/-- Against such a weight's rows the further columns count for nothing, whatever they hold. -/
theorem nt_wide {M N K Q : ℕ} {f g : FTy} (hQ : K ≤ Q) (a : FVec Ideal ⟨2, ![M, Q]⟩ f) (w : FVec Ideal ⟨2, ![N, K]⟩ g)
    (y : Shape.Idx ⟨2, ![M, N]⟩) :
    nt (g := g) a (wide w) y = ∑ k : Fin K, a (ix2 (y 0) (k.castLE hQ)) * w (ix2 (y 1) k) := by
  obtain ⟨d, rfl⟩ := Nat.exists_eq_add_of_le hQ
  refine (Fin.sum_univ_add _).trans ((congrArg₂ (· + ·) (Finset.sum_congr rfl fun k _ => ?_)
    (Finset.sum_eq_zero fun k _ => ?_)).trans (add_zero _))
  · exact congrArg (a _ * ·) (dif_pos k.isLt)
  · exact (congrArg (a _ * ·) (dif_neg (by show ¬K + k.val < K; omega))).trans (mul_zero _)

/-- Against its columns the product has zeros in the columns added. -/
theorem nn_wide {M N K Q : ℕ} {f g : FTy} (a : FVec Ideal ⟨2, ![M, K]⟩ f) (w : FVec Ideal ⟨2, ![K, N]⟩ g)
    (y : Shape.Idx ⟨2, ![M, Q]⟩) :
    nn (g := g) a (wide w) y = if h : (y 1).val < N then nn a w (ix2 (y 0) ⟨(y 1).val, h⟩) else 0 := by
  by_cases h : (y 1).val < N
  · rw [dif_pos h]
    exact Finset.sum_congr rfl fun k _ => congrArg (a _ * ·) (dif_pos h)
  · rw [dif_neg h]
    exact Finset.sum_eq_zero fun k _ => (congrArg (a _ * ·) (dif_neg h)).trans (mul_zero _)

/-- A product over `S` blocks of `n` rows each, block by block. -/
theorem tn_rows {M N M' N' n S K : ℕ} {f g : FTy} (a : FVec Ideal ⟨2, ![K, M]⟩ f) (b : FVec Ideal ⟨2, ![K, N]⟩ g)
    (y : Shape.Idx ⟨2, ![M, N]⟩) (A : Fin S → FVec Ideal ⟨2, ![n, M']⟩ f) (B : Fin S → FVec Ideal ⟨2, ![n, N']⟩ g)
    (z : Shape.Idx ⟨2, ![M', N']⟩) (hK : S * n = K)
    (hA : ∀ (s : Fin S) (k : Fin n) (h : s.val * n + k.val < K), A s (ix2 k (z 0)) = a (ix2 ⟨s.val * n + k.val, h⟩ (y 0)))
    (hB : ∀ (s : Fin S) (k : Fin n) (h : s.val * n + k.val < K), B s (ix2 k (z 1)) = b (ix2 ⟨s.val * n + k.val, h⟩ (y 1))) :
    ∑ s : Fin S, tn (A s) (B s) z = tn a b y := by
  subst hK
  exact Fin.sum_mul_add_congr (fun s k h => by rw [hA s k h, hB s k h])

/-- A product accumulated over runs of `S` points: at the point that ends a run the block holds the whole sum, where
    the run's points take their rows from the `S` row blocks in turn. -/
theorem tn_run {T M N M' N' n S K : ℕ} [NeZero S] {f g : FTy} (o : (t : ℕ) → t < T → Shape.Idx ⟨2, ![M', N']⟩ → EReal)
    (A : Fin T → FVec Ideal ⟨2, ![n, M']⟩ f) (B : Fin T → FVec Ideal ⟨2, ![n, N']⟩ g)
    (h0 : ∀ t : Fin T, t.val % S = 0 → ∀ y, o t.val t.isLt y = tn (A t) (B t) y)
    (hs : ∀ t : Fin T, ¬t.val % S = 0 → ∀ y,
      o t.val t.isLt y = o (t.val - 1) (Nat.lt_of_le_of_lt (Nat.sub_le _ _) t.isLt) y + tn (A t) (B t) y)
    (a : FVec Ideal ⟨2, ![K, M]⟩ f) (b : FVec Ideal ⟨2, ![K, N]⟩ g) (hK : S * n = K)
    (t : Fin T) (hf : t.val % S = S - 1) (y : Shape.Idx ⟨2, ![M', N']⟩) (z : Shape.Idx ⟨2, ![M, N]⟩)
    (hA : ∀ u : Fin T, u.val / S = t.val / S → ∀ (k : Fin n) (h : u.val % S * n + k.val < K),
      A u (ix2 k (y 0)) = a (ix2 ⟨u.val % S * n + k.val, h⟩ (z 0)))
    (hB : ∀ u : Fin T, u.val / S = t.val / S → ∀ (k : Fin n) (h : u.val % S * n + k.val < K),
      B u (ix2 k (y 1)) = b (ix2 ⟨u.val % S * n + k.val, h⟩ (z 1))) :
    o t.val t.isLt y = tn a b z := by
  rw [Pipeline.eq_sum_fin_of_reset_step_apply_of_flush o S (fun _ => (0 : EReal)) (fun t => tn (A t) (B t))
    (fun t h y => (h0 t h y).trans (zero_add _).symm) hs t hf y, zero_add]
  have hd : ∀ s : Fin S, (S * (t.val / S) + s.val) / S = t.val / S := fun s => by
    rw [Nat.mul_add_div (Nat.pos_of_neZero S), Nat.div_eq_of_lt s.isLt, Nat.add_zero]
  have hm : ∀ s : Fin S, (S * (t.val / S) + s.val) % S = s.val := fun s => by
    rw [Nat.mul_add_mod, Nat.mod_eq_of_lt s.isLt]
  refine tn_rows (S := S) (n := n) a b z (fun s => A ⟨S * (t.val / S) + s.val, _⟩) (fun s => B ⟨S * (t.val / S) + s.val, _⟩) y hK
    (fun s k h => (hA _ (hd s) k (by show (S * _ + _) % S * n + _ < K; rw [hm s]; exact h)).trans ?_)
    (fun s k h => (hB _ (hd s) k (by show (S * _ + _) % S * n + _ < K; rw [hm s]; exact h)).trans ?_)
  · exact congrArg (fun q => a (ix2 q (z 0))) (Fin.ext (congrArg (· * n + k.val) (hm s)))
  · exact congrArg (fun q => b (ix2 q (z 1))) (Fin.ext (congrArg (· * n + k.val) (hm s)))

end Cert.Prod
-- ==== Proof.Ddown.lean ====
/- The gradient of the down projection's input: what the region leaves, and what the reference holds. -/
module

public import proofs.«01_k».proof.Proof.Gen.DdownIdeal.Value
public import proofs.«01_k».proof.Proof.Gen.DdownRefIdeal.Read
public import proofs.«01_k».proof.Proof.Prod
public import Idealize.ShloMosaic.Lib.StableHlo.ReadAt
public import Idealize.ShloMosaic.Lib.Tactic.IndexArith

@[expose] public section

set_option maxRecDepth 16384

noncomputable section

open Idealize.ShloMosaic Idealize.ShloMosaic.TcCoe Idealize.SL.Sem

namespace Cert.DdownIdeal.Value

open Cert.DdownIdeal Cert.DdownIdeal.Gen

variable (m : (ℓ : Loc nD τ sig) → Buf (Elt Ideal) ℓ)

abbrev argA (c : Dev nD) : FVec Ideal S16384x1024 .f32 := m (c.tc.loc main_arg0)
abbrev argW (c : Dev nD) : FVec Ideal S2816x1024 .bf16 := m (c.tc.loc main_arg1)

theorem idx : ∀ t : Fin cfg0.N, t.val < 16 ∧ win0_0.index t = ![t.val, 0] ∧ win0_1.index t = ![0, 0]
    ∧ win0_2.index t = ![t.val, 0] :=
  (by decide +kernel : ∀ t : Fin grid0.N, _)

theorem entry0 (c : Dev nD) (k : Fin 1024) (q : Fin 2816) : V m c main_v0 (ix2 k q) = argW m c (ix2 q k) := by
  unfold V
  after_reads_at

theorem blk0 (c : Dev nD) (t : Fin cfg0.N) (r : Fin 1024) (k : Fin 1024) (h : t.val * 1024 + r.val < 16384) :
    iblk m c 0 t (ix2 r k) = argA m c (ix2 ⟨t.val * 1024 + r.val, h⟩ k) := by
  blk_ext [iblk, V, idx t]

theorem blk1 (c : Dev nD) (t : Fin cfg0.N) (k : Fin 1024) (l : Fin 2816) : iblk m c 1 t (ix2 k l) = argW m c (ix2 l k) := by
  refine Eq.trans ?_ (entry0 m c k l)
  blk_ext [iblk, V, idx t]

theorem pay (a : FVec Ideal S1024x1024 .f32) (b : FVec Ideal S1024x2816 .bf16) (r : Fin 1024) (l : Fin 2816) :
    k0_pay1 (F := Ideal) a b (ix2 r l) = ∑ k : Fin 1024, a (ix2 r k) * b (ix2 k l) := by
  pointwise [k0_pay1]

theorem final (c : Dev nD) : (dats m 0 c).arrAt 2 (cfgs 0).N = Prod.nt (argA m c) (argW m c) := by
  refine (dats m 0 c).arrAt_eq_of_covers 2 _ (by decide +kernel) fun t hf y => ?_
  blk_simp
  rw [after0_2]
  idx_vars y
  unfold outsAt0
  frame_out
  refine (pay _ _ _ _).trans (Finset.sum_congr rfl fun k _ => congrArg₂ (· * ·) ?_ ?_)
  · refine (blk0 m c t y0 k (by have := (idx t).1; omega)).trans ?_
    blk_ext [idx t]
  · refine (blk1 m c t k y1).trans ?_
    blk_ext [idx t]

/-- The reference holds the same product. -/
theorem ref (a : FVec Ideal S16384x1024 .f32) (w : FVec Ideal S2816x1024 .bf16) :
    DdownRefIdeal.Read.val_main_v3 (F := Ideal) a w = Prod.nt a w := by
  funext i
  rw [DdownRefIdeal.Read.val_main_v3_apply]
  exact Finset.sum_congr rfl fun k _ => congrArg₂ (· * ·) (congrArg a (ix2_eta _).symm) (congrArg w (ix2_eta _).symm)

end Cert.DdownIdeal.Value
-- ==== Proof.Gdown.lean ====
/- The gradient of the down projection. -/
module

public import proofs.«01_k».proof.Proof.Gen.GdownIdeal.Value
public import proofs.«01_k».proof.Proof.Gen.GdownRefIdeal.Read
public import proofs.«01_k».proof.Proof.Prod
public import Idealize.ShloMosaic.Lib.StableHlo.ReadAt
public import Idealize.ShloMosaic.Lib.Tactic.IndexArith

@[expose] public section

set_option maxRecDepth 16384

noncomputable section

open Idealize.ShloMosaic Idealize.ShloMosaic.TcCoe Idealize.SL.Sem

namespace Cert.GdownIdeal.Value

open Cert.GdownIdeal Cert.GdownIdeal.Gen

variable (m : (ℓ : Loc nD τ sig) → Buf (Elt Ideal) ℓ)

abbrev argA (c : Dev nD) : FVec Ideal S16384x2816 .bf16 := m (c.tc.loc main_arg0)
abbrev argB (c : Dev nD) : FVec Ideal S16384x1024 .f32 := m (c.tc.loc main_arg1)

theorem idx : ∀ t : Fin cfg0.N, t.val / 8 < 2 ∧ win0_0.index t = ![t.val % 8, t.val / 8] ∧ win0_1.index t = ![t.val % 8, 0]
    ∧ win0_2.index t = ![t.val / 8, 0] :=
  (by decide +kernel : ∀ t : Fin grid0.N, _)

theorem pay (a : FVec Ideal S2048x1408 .bf16) (b : FVec Ideal S2048x1024 .f32) (y : S1408x1024.Idx) :
    k0_pay1 (F := Ideal) a b y = Prod.tn (M := 1408) (N := 1024) (K := 2048) a b y := by
  idx_vars y
  pointwise [k0_pay1]
  rfl

/-- A block of the result when its last row block has been added. -/
theorem out (c : Dev nD) (t : Fin cfg0.N) (hf : t.val % 8 = 8 - 1) (y : S1408x1024.Idx) (h : t.val / 8 * 1408 + (y 0).val < 2816) :
    outsAt0 m c t.val t.isLt y
      = Prod.tn (M := 2816) (N := 1024) (argA m c) (argB m c) (ix2 ⟨t.val / 8 * 1408 + (y 0).val, h⟩ (y 1)) := by
  refine Prod.tn_run (S := 8) (n := 2048) (fun n h => outsAt0 m c n h) (fun t => iblk m c 0 t) (fun t => iblk m c 1 t)
    (fun t h0 y => ?_) (fun t h0 y => ?_) (argA m c) (argB m c) rfl t hf y _
    (fun u hu k hk => ?_) (fun u hu k hk => ?_)
  · rw [Gen.outsAt0_A m c t h0 (by have := (idx t).1; omega)]
    frame_out
    exact pay _ _ y
  · rw [Gen.outsAt0_B m c t h0 (by have := (idx t).1; omega)]
    frame_out
    idx_vars y
    pointwise [k0_pay2]
    exact congrArg (_ + ·) (pay _ _ (ix2 y0 y1))
  · simp only [← hu]
    blk_ext [iblk, V, idx u]
  · blk_ext [iblk, V, idx u]

theorem final (c : Dev nD) : (dats m 0 c).arrAt 2 (cfgs 0).N = Prod.tn (M := 2816) (N := 1024) (argA m c) (argB m c) := by
  refine (dats m 0 c).arrAt_eq_of_covers 2 _ (by decide +kernel) fun t hf y => ?_
  blk_simp
  rw [after0_2]
  idx_vars y
  refine (out m c t ((flush0_2 t).mp hf) (ix2 y0 y1) (by have := (idx t).1; show _ + y0.val < _; omega)).trans ?_
  refine congrArg (Prod.tn (M := 2816) (N := 1024) (argA m c) (argB m c)) ?_
  blk_ext [idx t]

/-- The reference holds the same product. -/
theorem ref (a : FVec Ideal S16384x2816 .bf16) (b : FVec Ideal S16384x1024 .f32) :
    GdownRefIdeal.Read.val_main_v4 (F := Ideal) a b = Prod.tn (M := 2816) (N := 1024) a b := by
  funext i
  rw [GdownRefIdeal.Read.val_main_v4_apply, GdownRefIdeal.Read.val_main_v3_apply]
  exact Finset.sum_congr rfl fun k _ => (mul_comm _ _).trans
    (congrArg₂ (· * ·) (congrArg a (ix2_eta _).symm) (congrArg b (ix2_eta _).symm))

end Cert.GdownIdeal.Value
-- ==== Proof.Spec.lean ====
/- What both programs compute, as functions of a row and a column: the shifted input, the
   convolution, the gradient of the convolution's result and the three results. -/
module

public import Idealize.ShloMosaic.Lib.Pointwise

@[expose] public section

set_option maxRecDepth 16384

noncomputable section

open Idealize.ShloMosaic

namespace Cert.Conv

abbrev U2 : Shape := ⟨2, ![16384, 5632]⟩
abbrev D2 : Shape := ⟨2, ![16384, 2816]⟩
abbrev W2 : Shape := ⟨2, ![3, 5632]⟩
abbrev B1 : Shape := ⟨1, ![5632]⟩

/-- The input under two rows of zeros: row `x` of it is row `x - 2` of the input. -/
def up (U : FVec Ideal U2 .f32) (x : ℕ) (k : Fin 5632) : EReal :=
  if h : 2 ≤ x ∧ x - 2 < 16384 then U (ix2 ⟨x - 2, h.2⟩ k) else 0

theorem up_of (U : FVec Ideal U2 .f32) {x : ℕ} (y : ℕ) (hy : y < 16384) (h : x = y + 2) (k : Fin 5632) :
    up U x k = U (ix2 ⟨y, hy⟩ k) := by
  subst h
  unfold up
  rw [dif_pos ⟨by omega, by omega⟩]
  congr 2

theorem up_lt (U : FVec Ideal U2 .f32) {x : ℕ} (h : x < 2) (k : Fin 5632) : up U x k = 0 :=
  dif_neg fun h' => by omega

/-- The convolution's result. -/
def cv (U : FVec Ideal U2 .f32) (W : FVec Ideal W2 .f32) (B : FVec Ideal B1 .f32) (x : ℕ) (k : Fin 5632) : EReal :=
  up U x k * W (ix2 0 k) + up U (x + 1) k * W (ix2 1 k) + up U (x + 2) k * W (ix2 2 k) + B (ix1 k)

/-- The sigmoid by the hyperbolic tangent. -/
def sg (g : EReal) : EReal :=
  Ideal.ofBits FTy.f32 1056964608#32 * Ideal.tanh (Ideal.ofBits FTy.f32 1056964608#32 * g)
    + Ideal.ofBits FTy.f32 1056964608#32

/-- The gradient with respect to the gate, from the gate, the value and the gradient of their product. -/
def gateGrad (g v d : EReal) : EReal := d * v * (sg g * (1 + g * (1 - sg g)))

/-- The gradient with respect to the value. -/
def valGrad (g d : EReal) : EReal := d * (g * sg g)

/-- The gradient of the convolution's result; zero below the last row. -/
def dc (U : FVec Ideal U2 .f32) (D : FVec Ideal D2 .f32) (W : FVec Ideal W2 .f32) (B : FVec Ideal B1 .f32)
    (x : ℕ) (k : Fin 5632) : EReal :=
  if hx : x < 16384 then
    if hk : k.val < 2816 then
      gateGrad (cv U W B x k) (cv U W B x ⟨2816 + k.val, by omega⟩) (D (ix2 ⟨x, hx⟩ ⟨k.val, hk⟩))
    else
      valGrad (cv U W B x ⟨k.val - 2816, by omega⟩) (D (ix2 ⟨x, hx⟩ ⟨k.val - 2816, by omega⟩))
  else 0

section Results

variable (G : ℕ → Fin 5632 → EReal) (U : FVec Ideal U2 .f32) (W : FVec Ideal W2 .f32)

/-- The input's gradient, from the gradient `G` of the convolution's result. -/
def du (x : ℕ) (k : Fin 5632) : EReal :=
  G x k * W (ix2 2 k) + G (x + 1) k * W (ix2 1 k) + G (x + 2) k * W (ix2 0 k)

/-- The filter's gradient. -/
def dw (a : ℕ) (k : Fin 5632) : EReal := ∑ x : Fin 16384, G x.val k * up U (x.val + a) k

/-- The bias's gradient. -/
def db (k : Fin 5632) : EReal := ∑ x : Fin 16384, G x.val k

end Results

/-- The column of the input at lane `l` of column block `j`: 256 lanes of the gate, then 256 of the value. -/
def col (j : ℕ) (hj : j < 11) (l : Fin 512) : Fin 5632 :=
  ⟨l.val / 256 * 2816 + j * 256 + l.val % 256, by omega⟩

end Cert.Conv
-- ==== Proof.Pay.lean ====
/- What the body's payloads hold at an index, in terms of its blocks. -/
module

public import proofs.«01_k».proof.Proof.Gen.KernelIdeal.Frame
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem

namespace Cert.KernelIdeal.Value

open Cert.KernelIdeal Cert.KernelIdeal.Gen Cert.Conv

/-- The blocks of a point, row block `i` of column block `j`, as parts of the arrays. -/
structure Reads (U : FVec Ideal U2 .f32) (D : FVec Ideal D2 .f32) (W : FVec Ideal W2 .f32) (B : FVec Ideal B1 .f32)
    (i j : ℕ) (hi : i < 8) (hj : j < 11)
    (u : FVec Ideal S2048x512 .f32) (p n : FVec Ideal S8x512 .f32) (d : FVec Ideal S2048x256 .f32)
    (dn : FVec Ideal S8x256 .f32) (w : FVec Ideal S3x512 .f32) (b : FVec Ideal S1x512 .f32) : Prop where
  hu : ∀ (r : Fin 2048) (l : Fin 512) (h : i * 2048 + r.val < 16384), u (ix2 r l) = U (ix2 ⟨i * 2048 + r.val, h⟩ (col j hj l))
  hp : ∀ (r : Fin 8) (l : Fin 512) (h0 : 0 < i) (h : i * 2048 + r.val - 8 < 16384),
    p (ix2 r l) = U (ix2 ⟨i * 2048 + r.val - 8, h⟩ (col j hj l))
  hn : ∀ (r : Fin 8) (l : Fin 512) (h : i * 2048 + 2048 + r.val < 16384),
    n (ix2 r l) = U (ix2 ⟨i * 2048 + 2048 + r.val, h⟩ (col j hj l))
  hd : ∀ (r : Fin 2048) (l : Fin 256) (h : i * 2048 + r.val < 16384) (h' : j * 256 + l.val < 2816),
    d (ix2 r l) = D (ix2 ⟨i * 2048 + r.val, h⟩ ⟨j * 256 + l.val, h'⟩)
  hdn : ∀ (r : Fin 8) (l : Fin 256) (h : i * 2048 + 2048 + r.val < 16384) (h' : j * 256 + l.val < 2816),
    dn (ix2 r l) = D (ix2 ⟨i * 2048 + 2048 + r.val, h⟩ ⟨j * 256 + l.val, h'⟩)
  hw : ∀ (a : Fin 3) (l : Fin 512), w (ix2 a l) = W (ix2 a (col j hj l))
  hb : ∀ (l : Fin 512), b (ix2 0 l) = B (ix1 (col j hj l))

/-- A choice by an equality of two small words. -/
theorem sel_eq (a b : ℕ) (ha : a < 4294967296) (hb : b < 4294967296) (x y : EReal) :
    Scalar.select (IntOp.cmpi .eq (BitVec.ofNat 32 a) (BitVec.ofNat 32 b)) x y = if a = b then x else y := by
  by_cases h : a = b
  · subst h; simp [Scalar.select, IntOp.cmpi]
  · have : BitVec.ofNat 32 a ≠ BitVec.ofNat 32 b := fun e => h (by
      have := congrArg BitVec.toNat e
      simpa [BitVec.toNat_ofNat, Nat.mod_eq_of_lt ha, Nat.mod_eq_of_lt hb] using this)
    have hbe : (BitVec.ofNat 32 a == BitVec.ofNat 32 b) = false := beq_eq_false_iff_ne.mpr this
    simp [Scalar.select, IntOp.cmpi, hbe, h]

section

variable {U : FVec Ideal U2 .f32} {D : FVec Ideal D2 .f32} {W : FVec Ideal W2 .f32} {B : FVec Ideal B1 .f32}
  {g : grid0.Coords} {i j : ℕ} {hi : i < 8} {hj : j < 11}
  {u : FVec Ideal S2048x512 .f32} {p n : FVec Ideal S8x512 .f32} {d : FVec Ideal S2048x256 .f32}
  {dn : FVec Ideal S8x256 .f32} {w : FVec Ideal S3x512 .f32} {b : FVec Ideal S1x512 .f32}

theorem Reads.ue (h : Reads U D W B i j hi hj u p n d dn w b) (r : Fin 2056) (l : Fin 512)
    (hr : i * 2048 + r.val < 16384) :
    k0_pay8 (F := Ideal) u n (ix2 r l) = up U (i * 2048 + r.val + 2) (col j hj l) := by
  rw [up_of U (i * 2048 + r.val) hr rfl]
  pointwise [k0_pay8]
  split
  · exact h.hu _ _ hr
  · rename_i hlt
    refine (h.hn _ _ (by show i * 2048 + 2048 + (r.val - 2048) < _; omega)).trans ?_
    congr 2
    apply Fin.ext; show i * 2048 + 2048 + (r.val - 2048) = i * 2048 + r.val; omega

theorem Reads.um2 (h : Reads U D W B i j hi hj u p n d dn w b) (hg : (g 1).val = i) (r : Fin 2056) (l : Fin 512)
    (hr : i * 2048 + r.val < 16384) :
    k0_pay10 (F := Ideal) g u n p (ix2 r l) = up U (i * 2048 + r.val) (col j hj l) := by
  pointwise [k0_pay10]
  rw [hg]
  simp only [Scalar.cmpi]
  rw [sel_eq r.val 1 (by omega) (by omega), sel_eq r.val 0 (by omega) (by omega), sel_eq i 0 (by omega) (by omega),
    sel_eq i 0 (by omega) (by omega)]
  by_cases h1 : r.val = 1
  · rw [if_pos h1]
    by_cases h2 : i = 0
    · rw [if_pos h2, up_lt U (by omega)]
    · rw [if_neg h2, h.hp 7 l (by omega) (by show i * 2048 + 7 - 8 < _; omega)]
      exact (up_of U _ _ (by show _ = i * 2048 + 7 - 8 + 2; omega) _).symm
  · rw [if_neg h1]
    by_cases h0 : r.val = 0
    · rw [if_pos h0]
      by_cases h2 : i = 0
      · rw [if_pos h2, up_lt U (by omega)]
      · rw [if_neg h2, h.hp 6 l (by omega) (by show i * 2048 + 6 - 8 < _; omega)]
        exact (up_of U _ _ (by show _ = i * 2048 + 6 - 8 + 2; omega) _).symm
    · rw [if_neg h0, h.ue _ _ (by show i * 2048 + (r.val + 2056 - 2) % 2056 < _; omega)]
      congr 1
      show i * 2048 + (r.val + 2056 - 2) % 2056 + 2 = _
      omega

theorem Reads.um1 (h : Reads U D W B i j hi hj u p n d dn w b) (r : Fin 2056) (l : Fin 512)
    (hr : i * 2048 + r.val < 16384) :
    k0_pay13 (F := Ideal) (Scalar.cmpi .eq (BitVec.ofNat 32 i) 0#32) (k0_pay11 (F := Ideal) p) (k0_pay12 (F := Ideal) u n)
      (iota .tc S2056x512 32 [0] iota_S2056x512_d0_w32) (ix2 r l) = up U (i * 2048 + r.val + 1) (col j hj l) := by
  pointwise [k0_pay13, k0_pay12, k0_pay11]
  simp only [Scalar.cmpi]
  rw [sel_eq r.val 0 (by omega) (by omega), sel_eq i 0 (by omega) (by omega)]
  by_cases h0 : r.val = 0
  · rw [if_pos h0]
    by_cases h2 : i = 0
    · rw [if_pos h2, up_lt U (by omega)]
    · rw [if_neg h2, h.hp 7 l (by omega) (by show i * 2048 + 7 - 8 < _; omega)]
      exact (up_of U _ _ (by show _ = i * 2048 + 7 - 8 + 2; omega) _).symm
  · rw [if_neg h0, h.ue _ _ (by show i * 2048 + (r.val + 2056 - 1) % 2056 < _; omega)]
    congr 1
    show i * 2048 + (r.val + 2056 - 1) % 2056 + 2 = _
    omega

theorem Reads.dae (h : Reads U D W B i j hi hj u p n d dn w b) (hg : (g 1).val = i) (r : Fin 2056) (l : Fin 256)
    (h' : j * 256 + l.val < 2816) :
    k0_pay9 (F := Ideal) g d dn (ix2 r l)
      = if hr : i * 2048 + r.val < 16384 then D (ix2 ⟨i * 2048 + r.val, hr⟩ ⟨j * 256 + l.val, h'⟩) else 0 := by
  pointwise [k0_pay9]
  rw [hg]
  simp only [Scalar.cmpi]
  by_cases h1 : r.val < 2048
  · rw [dif_pos (show i * 2048 + r.val < 16384 by omega)]
    exact (dif_pos h1).trans (h.hd ⟨r.val, h1⟩ l (by show i * 2048 + r.val < _; omega) h')
  · refine (dif_neg h1).trans ?_
    rw [sel_eq i 7 (by omega) (by omega)]
    by_cases h2 : i = 7
    · rw [if_pos h2, dif_neg (by omega)]
    · rw [if_neg h2, dif_pos (by omega)]
      refine (h.hdn _ _ (by show i * 2048 + 2048 + (r.val - 2048) < _; omega) h').trans ?_
      congr 2
      apply Fin.ext; show i * 2048 + 2048 + (r.val - 2048) = i * 2048 + r.val; omega

/-- The gradient of the convolution's result, as a point computes it. -/
abbrev dcP (i : ℕ) (g : grid0.Coords) (u : FVec Ideal S2048x512 .f32) (p n : FVec Ideal S8x512 .f32)
    (d : FVec Ideal S2048x256 .f32) (dn : FVec Ideal S8x256 .f32) (w : FVec Ideal S3x512 .f32)
    (b : FVec Ideal S1x512 .f32) : FVec Ideal S2056x512 .f32 :=
  k0_pay14 (Scalar.cmpi .eq (BitVec.ofNat 32 i) 0#32) (k0_pay7 w) (k0_pay8 u n) (k0_pay9 g d dn)
    (k0_pay10 g u n p) (k0_pay11 p) (k0_pay12 u n) (iota .tc S2056x512 32 [0] iota_S2056x512_d0_w32) b

theorem Reads.dc (h : Reads U D W B i j hi hj u p n d dn w b) (hg : (g 1).val = i) (r : Fin 2056) (l : Fin 512) :
    dcP i g u p n d dn w b (ix2 r l) = Conv.dc U D W B (i * 2048 + r.val) (col j hj l) := by
  have cvl (l : Fin 512) (hr : i * 2048 + r.val < 16384) :
      k0_pay10 (F := Ideal) g u n p (ix2 r l) * w (ix2 0 l)
        + k0_pay13 (F := Ideal) (Scalar.cmpi .eq (BitVec.ofNat 32 i) 0#32) (k0_pay11 (F := Ideal) p) (k0_pay12 (F := Ideal) u n)
          (iota .tc S2056x512 32 [0] iota_S2056x512_d0_w32) (ix2 r l) * w (ix2 1 l)
        + k0_pay8 (F := Ideal) u n (ix2 r l) * w (ix2 2 l) + b (ix2 0 l) = cv U W B (i * 2048 + r.val) (col j hj l) := by
    rw [h.um2 hg r l hr, h.um1 r l hr, h.ue r l hr, h.hw, h.hw, h.hw, h.hb]; rfl
  unfold dcP
  pointwise [k0_pay14, k0_pay7]
  unfold Conv.dc
  have hl := l.isLt
  by_cases hk : l.val < 256
  · have hcol : (col j hj l).val < 2816 := by show l.val / 256 * 2816 + j * 256 + l.val % 256 < 2816; omega
    rw [dif_pos hk, h.dae hg r ⟨l.val, hk⟩ (by show j * 256 + l.val < 2816; omega)]
    by_cases hr : i * 2048 + r.val < 16384
    · rw [dif_pos hr, dif_pos hr, dif_pos hcol]
      have e1 : (⟨2816 + (col j hj l).val, by omega⟩ : Fin 5632) = col j hj ⟨256 + l.val, by omega⟩ :=
        Fin.ext (by
          show 2816 + (l.val / 256 * 2816 + j * 256 + l.val % 256)
            = (256 + l.val) / 256 * 2816 + j * 256 + (256 + l.val) % 256
          omega)
      have e2 : (⟨(col j hj l).val, hcol⟩ : Fin 2816) = ⟨j * 256 + l.val, by omega⟩ :=
        Fin.ext (by show l.val / 256 * 2816 + j * 256 + l.val % 256 = j * 256 + l.val; omega)
      rw [e1, e2, ← cvl l hr, ← cvl ⟨256 + l.val, by omega⟩ hr]
      rfl
    · rw [dif_neg hr, dif_neg hr]; simp only [zero_mul]
  · have hcol : ¬ (col j hj l).val < 2816 := by show ¬ l.val / 256 * 2816 + j * 256 + l.val % 256 < 2816; omega
    rw [dif_neg hk, h.dae hg r ⟨l.val - 256, by omega⟩ (by show j * 256 + (l.val - 256) < 2816; omega)]
    by_cases hr : i * 2048 + r.val < 16384
    · rw [dif_pos hr, dif_pos hr, dif_neg hcol]
      have e1 : (⟨(col j hj l).val - 2816, by omega⟩ : Fin 5632) = col j hj ⟨l.val - 256, by omega⟩ :=
        Fin.ext (by
          show l.val / 256 * 2816 + j * 256 + l.val % 256 - 2816
            = (l.val - 256) / 256 * 2816 + j * 256 + (l.val - 256) % 256
          omega)
      have e2 : (⟨(col j hj l).val - 2816, by omega⟩ : Fin 2816) = ⟨j * 256 + (l.val - 256), by omega⟩ :=
        Fin.ext (by show l.val / 256 * 2816 + j * 256 + l.val % 256 - 2816 = j * 256 + (l.val - 256); omega)
      rw [e1, e2, ← cvl ⟨l.val - 256, by omega⟩ hr]
      rfl
    · rw [dif_neg hr, dif_neg hr]; simp only [zero_mul]

/-- A point's rows of the input's gradient. -/
theorem Reads.du (h : Reads U D W B i j hi hj u p n d dn w b) (hg : (g 1).val = i) (r : Fin 2048) (l : Fin 512) :
    k0_pay1 (F := Ideal) (k0_pay7 w) (dcP i g u p n d dn w b)
      (k0_pay15 (Scalar.cmpi .eq (BitVec.ofNat 32 i) 0#32) (k0_pay7 w) (k0_pay8 u n) (k0_pay9 g d dn)
        (k0_pay10 g u n p) (k0_pay11 p) (k0_pay12 u n) (iota .tc S2056x512 32 [0] iota_S2056x512_d0_w32) b)
      (k0_pay16 (Scalar.cmpi .eq (BitVec.ofNat 32 i) 0#32) (k0_pay7 w) (k0_pay8 u n) (k0_pay9 g d dn)
        (k0_pay10 g u n p) (k0_pay11 p) (k0_pay12 u n) (iota .tc S2056x512 32 [0] iota_S2056x512_d0_w32) b) (ix2 r l)
      = Conv.du (Conv.dc U D W B) W (i * 2048 + r.val) (col j hj l) := by
  have e (a : ℕ) (ha : a < 3) (r' : Fin 2056) (hr' : r'.val = r.val + a) :
      dcP i g u p n d dn w b (ix2 r' l) = Conv.dc U D W B (i * 2048 + r.val + a) (col j hj l) := by
    rw [h.dc hg]; congr 1; omega
  refine Eq.trans (b := dcP i g u p n d dn w b (ix2 ⟨r.val, by omega⟩ l) * w (ix2 2 l)
    + dcP i g u p n d dn w b (ix2 ⟨(r.val + 2056 - 2055) % 2056, by omega⟩ l) * w (ix2 1 l)
    + dcP i g u p n d dn w b (ix2 ⟨(r.val + 2056 - 2054) % 2056, by omega⟩ l) * w (ix2 0 l)) ?_ ?_
  · unfold dcP
    pointwise [k0_pay1, k0_pay15, k0_pay16, k0_pay7]
  · rw [e 0 (by omega) ⟨r.val, by omega⟩ rfl, h.hw, h.hw, h.hw,
      e 1 (by omega) ⟨(r.val + 2056 - 2055) % 2056, by omega⟩ (by show (r.val + 2056 - 2055) % 2056 = _; omega),
      e 2 (by omega) ⟨(r.val + 2056 - 2054) % 2056, by omega⟩ (by show (r.val + 2056 - 2054) % 2056 = _; omega)]
    rfl

/-- A point's sum over its rows for the filter's gradient. -/
theorem Reads.dw (h : Reads U D W B i j hi hj u p n d dn w b) (hg : (g 1).val = i) (a : Fin 3) (l : Fin 512) :
    k0_pay3 (F := Ideal) (k0_pay8 u n) (k0_pay10 g u n p)
      (k0_pay13 (Scalar.cmpi .eq (BitVec.ofNat 32 i) 0#32) (k0_pay11 p) (k0_pay12 u n)
        (iota .tc S2056x512 32 [0] iota_S2056x512_d0_w32))
      (dcP i g u p n d dn w b) (ix2 a l)
      = ∑ r : Fin 2048, Conv.dc U D W B (i * 2048 + r.val) (col j hj l) * up U (i * 2048 + r.val + a.val) (col j hj l) := by
  have hr (r : Fin 2048) : i * 2048 + (⟨r.val, by omega⟩ : Fin 2056).val < 16384 := by
    show i * 2048 + r.val < _; omega
  obtain rfl | rfl | rfl : a = 0 ∨ a = 1 ∨ a = 2 := by omega
  · refine Eq.trans (b := ∑ r : Fin 2048, dcP i g u p n d dn w b (ix2 ⟨r.val, by omega⟩ l)
      * k0_pay10 (F := Ideal) g u n p (ix2 ⟨r.val, by omega⟩ l)) ?_ (Finset.sum_congr rfl fun r _ => ?_)
    · pointwise [k0_pay3, k0_pay2]
    · rw [h.dc hg, h.um2 hg _ _ (hr r)]; rfl
  · refine Eq.trans (b := ∑ r : Fin 2048, dcP i g u p n d dn w b (ix2 ⟨r.val, by omega⟩ l)
      * k0_pay13 (F := Ideal) (Scalar.cmpi .eq (BitVec.ofNat 32 i) 0#32) (k0_pay11 p) (k0_pay12 u n)
        (iota .tc S2056x512 32 [0] iota_S2056x512_d0_w32) (ix2 ⟨r.val, by omega⟩ l)) ?_ (Finset.sum_congr rfl fun r _ => ?_)
    · pointwise [k0_pay3, k0_pay2]
    · rw [h.dc hg, h.um1 _ _ (hr r)]; rfl
  · refine Eq.trans (b := ∑ r : Fin 2048, dcP i g u p n d dn w b (ix2 ⟨r.val, by omega⟩ l)
      * k0_pay8 (F := Ideal) u n (ix2 ⟨r.val, by omega⟩ l)) ?_ (Finset.sum_congr rfl fun r _ => ?_)
    · pointwise [k0_pay3, k0_pay2]
    · rw [h.dc hg, h.ue _ _ (hr r)]; rfl

/-- A point's sum over its rows for the bias's gradient. -/
theorem Reads.db (h : Reads U D W B i j hi hj u p n d dn w b) (hg : (g 1).val = i) (l : Fin 512) :
    k0_pay4 (F := Ideal) (dcP i g u p n d dn w b) (ix2 0 l)
      = ∑ r : Fin 2048, Conv.dc U D W B (i * 2048 + r.val) (col j hj l) := by
  pointwise [k0_pay4, k0_pay2]
  exact Finset.sum_congr rfl fun r _ => h.dc hg _ _

end

end Cert.KernelIdeal.Value
-- ==== Proof.Blocks.lean ====
/- The blocks that a grid point reads, as reads of the arguments: point `t` is row block `t % 8` of
   column block `t / 8`. -/
module

public import proofs.«01_k».proof.Proof.Gen.KernelIdeal.Frame
public import proofs.«01_k».proof.Proof.Spec
public import Idealize.ShloMosaic.Lib.Pipeline.ValueKit
public import Idealize.ShloMosaic.Lib.Claim
public import Idealize.ShloMosaic.Lib.StableHlo.ReadAt
public import Idealize.ShloMosaic.Lib.Tactic.IndexArith

@[expose] public section

set_option maxRecDepth 16384

noncomputable section

open Idealize.ShloMosaic Idealize.ShloMosaic.TcCoe Idealize.SL.Sem

namespace Cert.KernelIdeal.Value

open Cert.KernelIdeal Cert.KernelIdeal.Gen Cert.Conv

variable (m : (ℓ : Loc nD τ sig) → Buf (Elt Ideal) ℓ)

/-- The four arguments on a device. -/
abbrev argU (c : Dev nD) : FVec Ideal U2 .f32 := m (c.tc.loc main_arg0)
abbrev argD (c : Dev nD) : FVec Ideal D2 .f32 := m (c.tc.loc main_arg1)
abbrev argW (c : Dev nD) : FVec Ideal W2 .f32 := m (c.tc.loc main_arg2)
abbrev argB (c : Dev nD) : FVec Ideal B1 .f32 := m (c.tc.loc main_arg3)

theorem idx : ∀ t : Fin cfg0.N, t.val / 8 < 11 ∧ t.val % 8 < 8 ∧ (grid0.coords t 1).val = t.val % 8
    ∧ win0_0.index t = ![t.val % 8, t.val / 8]
    ∧ win0_1.index t = ![t.val % 8 * 256 - 1, t.val / 8]
    ∧ win0_2.index t = ![min (t.val % 8 * 256 + 256) 2047, t.val / 8]
    ∧ win0_3.index t = ![t.val % 8, t.val / 8]
    ∧ win0_4.index t = ![min (t.val % 8 * 256 + 256) 2047, t.val / 8]
    ∧ win0_5.index t = ![0, t.val / 8] ∧ win0_6.index t = ![0, t.val / 8]
    ∧ win0_7.index t = ![t.val % 8, t.val / 8] ∧ win0_8.index t = ![0, t.val / 8] ∧ win0_9.index t = ![0, t.val / 8] :=
  (by decide +kernel : ∀ t : Fin grid0.N, _)

/-- The standard column of an interleaved one. -/
def std (q : ℕ) (hq : q < 5632) : Fin 5632 :=
  ⟨q / 256 % 2 * 2816 + q / 512 * 256 + q % 256, by omega⟩

theorem entry2 (c : Dev nD) (r : Fin 16384) (q : Fin 5632) :
    V0 m c (Proc.devRef .tc main_v2) (ix2 r q) = argU m c (ix2 r (std q.val q.isLt)) := by
  unfold V0
  after_reads_at
  rfl

theorem entry5 (c : Dev nD) (r : Fin 3) (q : Fin 5632) :
    V0 m c (Proc.devRef .tc main_v5) (ix2 r q) = argW m c (ix2 r (std q.val q.isLt)) := by
  unfold V0
  after_reads_at
  rfl

theorem entry9 (c : Dev nD) (q : Fin 5632) :
    V0 m c (Proc.devRef .tc main_v9) (ix2 0 q) = argB m c (ix1 (std q.val q.isLt)) := by
  unfold V0
  after_reads_at
  rfl

theorem blk0 (c : Dev nD) (t : Fin cfg0.N) (r : Fin 2048) (l : Fin 512) (h : t.val % 8 * 2048 + r.val < 16384) :
    iblk m c 0 t (ix2 r l) = argU m c (ix2 ⟨t.val % 8 * 2048 + r.val, h⟩ (col (t.val / 8) (idx t).1 l)) := by
  refine Eq.trans ?_ ((entry2 m c ⟨t.val % 8 * 2048 + r.val, h⟩
    ⟨t.val / 8 * 512 + l.val, by have := (idx t).1; omega⟩).trans ?_)
  · blk_ext [iblk, V, idx t]
  · blk_ext [std, col]

theorem blk1 (c : Dev nD) (t : Fin cfg0.N) (r : Fin 8) (l : Fin 512) (h0 : 0 < t.val % 8)
    (h : t.val % 8 * 2048 + r.val - 8 < 16384) :
    iblk m c 1 t (ix2 r l) = argU m c (ix2 ⟨t.val % 8 * 2048 + r.val - 8, h⟩ (col (t.val / 8) (idx t).1 l)) := by
  refine Eq.trans ?_ ((entry2 m c ⟨t.val % 8 * 2048 + r.val - 8, h⟩
    ⟨t.val / 8 * 512 + l.val, by have := (idx t).1; omega⟩).trans ?_)
  · blk_ext [iblk, V, idx t]
  · blk_ext [std, col]

theorem blk2 (c : Dev nD) (t : Fin cfg0.N) (r : Fin 8) (l : Fin 512) (h : t.val % 8 * 2048 + 2048 + r.val < 16384) :
    iblk m c 2 t (ix2 r l) = argU m c (ix2 ⟨t.val % 8 * 2048 + 2048 + r.val, h⟩ (col (t.val / 8) (idx t).1 l)) := by
  refine Eq.trans ?_ ((entry2 m c ⟨t.val % 8 * 2048 + 2048 + r.val, h⟩
    ⟨t.val / 8 * 512 + l.val, by have := (idx t).1; omega⟩).trans ?_)
  · blk_ext [iblk, V, idx t]
  · blk_ext [std, col]

theorem blk3 (c : Dev nD) (t : Fin cfg0.N) (r : Fin 2048) (l : Fin 256) (h : t.val % 8 * 2048 + r.val < 16384)
    (h' : t.val / 8 * 256 + l.val < 2816) :
    iblk m c 3 t (ix2 r l) = argD m c (ix2 ⟨t.val % 8 * 2048 + r.val, h⟩ ⟨t.val / 8 * 256 + l.val, h'⟩) := by
  blk_ext [iblk, V, idx t]

theorem blk4 (c : Dev nD) (t : Fin cfg0.N) (r : Fin 8) (l : Fin 256) (h : t.val % 8 * 2048 + 2048 + r.val < 16384)
    (h' : t.val / 8 * 256 + l.val < 2816) :
    iblk m c 4 t (ix2 r l) = argD m c (ix2 ⟨t.val % 8 * 2048 + 2048 + r.val, h⟩ ⟨t.val / 8 * 256 + l.val, h'⟩) := by
  blk_ext [iblk, V, idx t]

theorem blk5 (c : Dev nD) (t : Fin cfg0.N) (a : Fin 3) (l : Fin 512) :
    iblk m c 5 t (ix2 a l) = argW m c (ix2 a (col (t.val / 8) (idx t).1 l)) := by
  refine Eq.trans ?_ ((entry5 m c a ⟨t.val / 8 * 512 + l.val, by have := (idx t).1; omega⟩).trans ?_)
  · blk_ext [iblk, V, idx t]
  · blk_ext [std, col]

theorem blk6 (c : Dev nD) (t : Fin cfg0.N) (l : Fin 512) :
    iblk m c 6 t (ix2 0 l) = argB m c (ix1 (col (t.val / 8) (idx t).1 l)) := by
  refine Eq.trans ?_ ((entry9 m c ⟨t.val / 8 * 512 + l.val, by have := (idx t).1; omega⟩).trans ?_)
  · blk_ext [iblk, V, idx t]
  · blk_ext [std, col]

end Cert.KernelIdeal.Value
-- ==== Proof.Arrays.lean ====
/- The three arrays that the pipelined region leaves. -/
module

public import proofs.«01_k».proof.Proof.Pay
public import proofs.«01_k».proof.Proof.Blocks

@[expose] public section

set_option maxRecDepth 16384

noncomputable section

open Idealize.ShloMosaic Idealize.ShloMosaic.TcCoe Idealize.SL.Sem

namespace Cert.KernelIdeal.Value

open Cert.KernelIdeal Cert.KernelIdeal.Gen Cert.Conv

variable (m : (ℓ : Loc nD τ sig) → Buf (Elt Ideal) ℓ)

theorem reads (c : Dev nD) (t : Fin cfg0.N) :
    Reads (argU m c) (argD m c) (argW m c) (argB m c) (t.val % 8) (t.val / 8) (idx t).2.1 (idx t).1
      (iblk m c 0 t) (iblk m c 1 t) (iblk m c 2 t) (iblk m c 3 t) (iblk m c 4 t) (iblk m c 5 t) (iblk m c 6 t) where
  hu r l h := blk0 m c t r l h
  hp r l h0 h := blk1 m c t r l h0 h
  hn r l h := blk2 m c t r l h
  hd r l h h' := blk3 m c t r l h h'
  hdn r l h h' := blk4 m c t r l h h'
  hw a l := blk5 m c t a l
  hb l := blk6 m c t l

/-- The gradient of the convolution's result, from the arguments on a device. -/
abbrev G (c : Dev nD) : ℕ → Fin 5632 → EReal := Conv.dc (argU m c) (argD m c) (argW m c) (argB m c)

theorem outDu (c : Dev nD) (t : Fin cfg0.N) (r : Fin 2048) (l : Fin 512) :
    (outsAt0 m c t.val t.isLt).1 (ix2 r l)
      = Conv.du (G m c) (argW m c) (t.val % 8 * 2048 + r.val) (col (t.val / 8) (idx t).1 l) := by
  have hg : (grid0.coords t 1).val = t.val % 8 := (idx t).2.2.1
  by_cases h0 : t.val % 8 = 0
  · rw [Gen.outsAt0_A m c t h0 (by omega)]
    frame_out
    simp only [hg]
    exact (reads m c t).du hg r l
  · rw [Gen.outsAt0_B m c t h0 (by omega)]
    frame_out
    simp only [hg]
    exact (reads m c t).du hg r l

theorem std_col (j : ℕ) (hj : j < 11) (l : Fin 512) (q : ℕ) (hq : q < 5632) (e : q = j * 512 + l.val) :
    std q hq = col j hj l :=
  Fin.ext (by
    subst e
    show (j * 512 + l.val) / 256 % 2 * 2816 + (j * 512 + l.val) / 512 * 256 + (j * 512 + l.val) % 256
      = l.val / 256 * 2816 + j * 256 + l.val % 256
    omega)

/-- The input's gradient, interleaved. -/
theorem final7 (c : Dev nD) : (dats m 0 c).arrAt 7 (cfgs 0).N
    = fun y => Conv.du (G m c) (argW m c) (y 0).val (std (y 1).val (y 1).isLt) := by
  refine (dats m 0 c).arrAt_eq_of_covers 7 _ (by decide +kernel) fun t hf y => ?_
  blk_simp
  rw [after0_7]
  idx_vars y
  refine (outDu m c t y0 y1).trans ?_
  obtain ⟨h1, h2⟩ : win0_7.index t 0 = t.val % 8 ∧ win0_7.index t 1 = t.val / 8 := by
    rw [(idx t).2.2.2.2.2.2.2.2.2.2.1]; exact ⟨rfl, rfl⟩
  rw [std_col (t.val / 8) (idx t).1 y1 _ _ (by rw [h2]), h1]

/-- A point's share of the filter's gradient. -/
def termW (c : Dev nD) (t : Fin cfg0.N) (y : S3x512.Idx) : EReal :=
  ∑ r : Fin 2048, G m c (t.val % 8 * 2048 + r.val) (col (t.val / 8) (idx t).1 (y 1))
    * up (argU m c) (t.val % 8 * 2048 + r.val + (y 0).val) (col (t.val / 8) (idx t).1 (y 1))

/-- A point's share of the bias's gradient. -/
def termB (c : Dev nD) (t : Fin cfg0.N) (y : S1x512.Idx) : EReal :=
  ∑ r : Fin 2048, G m c (t.val % 8 * 2048 + r.val) (col (t.val / 8) (idx t).1 (y 1))

theorem col_eq {j j' : ℕ} (e : j = j') (hj : j < 11) (hj' : j' < 11) (l : Fin 512) : col j hj l = col j' hj' l := by
  subst e; rfl

theorem outDw (c : Dev nD) (t : Fin cfg0.N) (hf : t.val % 8 = 8 - 1) (y : S3x512.Idx) :
    (outsAt0 m c t.val t.isLt).2.1 y = Conv.dw (G m c) (argU m c) (y 0).val (col (t.val / 8) (idx t).1 (y 1)) := by
  rw [Pipeline.eq_sum_fin_of_reset_step_apply_of_flush (fun n h => (outsAt0 m c n h).2.1) 8 (fun _ => (0 : EReal))
    (termW m c) ?_ ?_ t hf y]
  · rw [zero_add]
    refine Fin.sum_mul_add_congr (S := 8) (n := 2048) (L := 16384) fun s k hl => ?_
    have h1 : (8 * (t.val / 8) + s.val) / 8 = t.val / 8 := by omega
    have h2 : (8 * (t.val / 8) + s.val) % 8 = s.val := by omega
    have h3 := col_eq h1 (h1.symm ▸ (idx t).1 : (8 * (t.val / 8) + s.val) / 8 < 11) (idx t).1 (y 1)
    simp only [h2, h3]
  · intro t h0 y
    have hg : (grid0.coords t 1).val = t.val % 8 := (idx t).2.2.1
    rw [Gen.outsAt0_A m c t h0 (by omega)]
    frame_out
    rw [hg]
    idx_vars y
    rw [zero_add]
    exact (reads m c t).dw hg _ _
  · intro t h0 y
    have hg : (grid0.coords t 1).val = t.val % 8 := (idx t).2.2.1
    rw [Gen.outsAt0_B m c t h0 (by omega)]
    frame_out
    rw [hg]
    idx_vars y
    pointwise [k0_pay5]
    exact congrArg (_ + ·) ((reads m c t).dw hg _ _)

theorem outDb (c : Dev nD) (t : Fin cfg0.N) (hf : t.val % 8 = 8 - 1) (y : S1x512.Idx) :
    (outsAt0 m c t.val t.isLt).2.2 y = Conv.db (G m c) (col (t.val / 8) (idx t).1 (y 1)) := by
  rw [Pipeline.eq_sum_fin_of_reset_step_apply_of_flush (fun n h => (outsAt0 m c n h).2.2) 8 (fun _ => (0 : EReal))
    (termB m c) ?_ ?_ t hf y]
  · rw [zero_add]
    refine Fin.sum_mul_add_congr (S := 8) (n := 2048) (L := 16384) fun s k hl => ?_
    have h1 : (8 * (t.val / 8) + s.val) / 8 = t.val / 8 := by omega
    have h2 : (8 * (t.val / 8) + s.val) % 8 = s.val := by omega
    have h3 := col_eq h1 (h1.symm ▸ (idx t).1 : (8 * (t.val / 8) + s.val) / 8 < 11) (idx t).1 (y 1)
    simp only [h2, h3]
  · intro t h0 y
    have hg : (grid0.coords t 1).val = t.val % 8 := (idx t).2.2.1
    rw [Gen.outsAt0_A m c t h0 (by omega)]
    frame_out
    rw [hg]
    idx_vars y
    obtain rfl : y0 = 0 := by omega
    rw [zero_add]
    exact (reads m c t).db hg _
  · intro t h0 y
    have hg : (grid0.coords t 1).val = t.val % 8 := (idx t).2.2.1
    rw [Gen.outsAt0_B m c t h0 (by omega)]
    frame_out
    rw [hg]
    idx_vars y
    obtain rfl : y0 = 0 := by omega
    pointwise [k0_pay6]
    exact congrArg (_ + ·) ((reads m c t).db hg _)

/-- The filter's gradient, interleaved. -/
theorem final8 (c : Dev nD) : (dats m 0 c).arrAt 8 (cfgs 0).N
    = fun y => Conv.dw (G m c) (argU m c) (y 0).val (std (y 1).val (y 1).isLt) := by
  refine (dats m 0 c).arrAt_eq_of_covers 8 _ (by decide +kernel) fun t hf y => ?_
  blk_simp
  rw [after0_8]
  idx_vars y
  refine (outDw m c t ((flush0_8 t).mp hf) (ix2 y0 y1)).trans ?_
  obtain ⟨h1, h2⟩ : win0_8.index t 0 = 0 ∧ win0_8.index t 1 = t.val / 8 := by
    rw [(idx t).2.2.2.2.2.2.2.2.2.2.2.1]; exact ⟨rfl, rfl⟩
  rw [std_col (t.val / 8) (idx t).1 y1 _ _ (by rw [h2]), h1, Nat.zero_mul, Nat.zero_add]
  rfl

/-- The bias's gradient, interleaved. -/
theorem final9 (c : Dev nD) : (dats m 0 c).arrAt 9 (cfgs 0).N
    = fun y => Conv.db (G m c) (std (y 1).val (y 1).isLt) := by
  refine (dats m 0 c).arrAt_eq_of_covers 9 _ (by decide +kernel) fun t hf y => ?_
  blk_simp
  rw [after0_9]
  idx_vars y
  refine (outDb m c t ((flush0_9 t).mp hf) (ix2 y0 y1)).trans ?_
  obtain ⟨h1, h2⟩ : win0_9.index t 0 = 0 ∧ win0_9.index t 1 = t.val / 8 := by
    rw [(idx t).2.2.2.2.2.2.2.2.2.2.2.2]; exact ⟨rfl, rfl⟩
  rw [std_col (t.val / 8) (idx t).1 y1 _ _ (by rw [h2])]
  rfl

end Cert.KernelIdeal.Value
-- ==== Proof.Tail.lean ====
/- The kernel's three results at the end of the run: the arrays of the call with their column blocks
   put back in order. -/
module

public import proofs.«01_k».proof.Proof.Arrays
public import Idealize.ShloMosaic.Lib.StableHlo.ReadAt

@[expose] public section

set_option maxRecDepth 16384

noncomputable section

open Idealize.ShloMosaic Idealize.ShloMosaic.TcCoe Idealize.SL.Sem

namespace Cert.KernelIdeal.Value

open Cert.KernelIdeal Cert.KernelIdeal.Gen

variable (m : (ℓ : Loc nD τ sig) → Buf (Elt Ideal) ℓ) (c : Dev nD)

/-- The buffers of a device when the call has ended. -/
abbrev ended (m : (ℓ : Loc nD τ sig) → Buf (Elt Ideal) ℓ) (c : Dev nD) :=
  Pipeline.withArrays (cfgs 0).spec c (V0 m c) fun w => (dats m 0 c).arrAt w (cfgs 0).N

theorem ended_at (w : Fin (cfgs 0).W) :
    ended m c (Proc.devRef .tc (Pipeline.arrRef spec0 w)) = (dats m 0 c).arrAt w (cfgs 0).N :=
  Pipeline.withArrays_arr_shared spec0 c (V0 m c) _
    ((dats m 0 c).arrAt_sharedIn (by decide) (V0 m c) (A_eq m c) _) w

/-- Where column `k` of a result lies in the call's array. -/
def at' (k : Fin 5632) : Fin 5632 := ⟨k.val / 256 % 11 * 512 + k.val / 2816 * 256 + k.val % 256, by omega⟩

theorem std_at (k : Fin 5632) : std (at' k).val (at' k).isLt = k := by
  apply Fin.ext
  show (at' k).val / 256 % 2 * 2816 + (at' k).val / 512 * 256 + (at' k).val % 256 = k.val
  have hk := k.isLt
  have e1 : k.val / 2816 = k.val / 256 / 11 := by rw [Nat.div_div_eq_div_mul]
  have hq : (at' k).val = k.val / 256 % 11 * 512 + k.val / 256 / 11 * 256 + k.val % 256 := by rw [← e1]; rfl
  rw [hq]
  generalize hd : k.val / 256 = d
  have hr : k.val % 256 < 256 := Nat.mod_lt _ (by decide)
  have hk' : k.val = 256 * d + k.val % 256 := by omega
  generalize k.val % 256 = r at hr hk' ⊢
  rcases (by omega : d / 11 = 0 ∧ d % 11 = d ∨ d / 11 = 1 ∧ d % 11 = d - 11 ∧ 11 ≤ d) with ⟨h1, h2⟩ | ⟨h1, h2, h3⟩ <;>
    rw [h1, h2] <;> omega

/-- The input's gradient as the run leaves it. -/
def resDu : S16384x5632.Idx → EReal := fun y => Conv.du (G m c) (argW m c) (y 0).val (y 1)
/-- The filter's gradient. -/
def resDw : S3x5632.Idx → EReal := fun y => Conv.dw (G m c) (argU m c) (y 0).val (y 1)
/-- The bias's gradient. -/
def resDb : S1x5632.Idx → EReal := fun y => Conv.db (G m c) (y 1)

theorem tail13 : StableHlo.after hostOps1 (ended m c) (Proc.devRef .tc main_v13) = resDu m c := by
  funext y
  obtain ⟨r, k, rfl⟩ : ∃ r k, y = ix2 r k := ⟨y 0, y 1, (ix2_eta y).symm⟩
  refine Eq.trans (b := ended m c (Proc.devRef .tc main_v10_0) (ix2 r (at' k))) ?_ ?_
  · unfold_abbrev_sides
    after_reads_at
    rfl
  · refine (congrFun (ended_at m c 7) (ix2 r (at' k))).trans ((congrFun (final7 m c) (ix2 r (at' k))).trans ?_)
    show Conv.du _ _ r.val (std (at' k).val (at' k).isLt) = Conv.du _ _ r.val k
    rw [std_at]

theorem tail16 : StableHlo.after hostOps1 (ended m c) (Proc.devRef .tc main_v16) = resDw m c := by
  funext y
  obtain ⟨r, k, rfl⟩ : ∃ r k, y = ix2 r k := ⟨y 0, y 1, (ix2_eta y).symm⟩
  refine Eq.trans (b := ended m c (Proc.devRef .tc main_v10_1) (ix2 r (at' k))) ?_ ?_
  · unfold_abbrev_sides
    after_reads_at
    rfl
  · refine (congrFun (ended_at m c 8) (ix2 r (at' k))).trans ((congrFun (final8 m c) (ix2 r (at' k))).trans ?_)
    show Conv.dw _ _ r.val (std (at' k).val (at' k).isLt) = Conv.dw _ _ r.val k
    rw [std_at]

theorem tail19 : StableHlo.after hostOps1 (ended m c) (Proc.devRef .tc main_v19) = resDb m c := by
  funext y
  obtain ⟨r, k, rfl⟩ : ∃ r k, y = ix2 r k := ⟨y 0, y 1, (ix2_eta y).symm⟩
  obtain rfl : 0 = r := Subsingleton.elim _ _
  refine Eq.trans (b := ended m c (Proc.devRef .tc main_v10_2) (ix2 0 (at' k))) ?_ ?_
  · unfold_abbrev_sides
    after_reads_at
    rfl
  · refine (congrFun (ended_at m c 9) (ix2 0 (at' k))).trans ((congrFun (final9 m c) (ix2 0 (at' k))).trans ?_)
    show Conv.db _ (std (at' k).val (at' k).isLt) = Conv.db _ k
    rw [std_at]

end Cert.KernelIdeal.Value
-- ==== Proof.Dup.lean ====
/- The gradient of the up projection's input: both factors' columns interleaved alike. -/
module

public import proofs.«01_k».proof.Proof.Gen.DupIdeal.Value
public import proofs.«01_k».proof.Proof.Gen.DupRefIdeal.Read
public import proofs.«01_k».proof.Proof.Prod
public import proofs.«01_k».proof.Proof.Tail
public import Idealize.ShloMosaic.Lib.StableHlo.ReadAt
public import Idealize.ShloMosaic.Lib.Tactic.IndexArith

@[expose] public section

set_option maxRecDepth 16384

noncomputable section

open Idealize.ShloMosaic Idealize.ShloMosaic.TcCoe Idealize.SL.Sem

namespace Cert.DupIdeal.Value

open Cert.DupIdeal Cert.DupIdeal.Gen
open Cert.KernelIdeal.Value (std at' std_at)

variable (m : (ℓ : Loc nD τ sig) → Buf (Elt Ideal) ℓ)

abbrev argA (c : Dev nD) : FVec Ideal S16384x5632 .bf16 := m (c.tc.loc main_arg0)
abbrev argW (c : Dev nD) : FVec Ideal S1024x5632 .bf16 := m (c.tc.loc main_arg1)

theorem idx : ∀ t : Fin cfg0.N, t.val < 32 ∧ win0_0.index t = ![t.val, 0] ∧ win0_1.index t = ![0, 0]
    ∧ win0_2.index t = ![t.val, 0] :=
  (by decide +kernel : ∀ t : Fin grid0.N, _)

/-- The standard column of an interleaved one. -/
abbrev col (q : Fin 5632) : Fin 5632 := std q.val q.isLt

theorem col_bijective : Function.Bijective col :=
  Finite.surjective_iff_bijective.1 fun k => ⟨at' k, std_at k⟩

theorem entry0 (c : Dev nD) (r : Fin 16384) (k : Fin 5632) : V m c main_v2 (ix2 r k) = argA m c (ix2 r (col k)) := by
  unfold V
  after_reads_at
  rfl

theorem entry1 (c : Dev nD) (k : Fin 5632) (q : Fin 1024) : V m c main_v6 (ix2 k q) = argW m c (ix2 q (col k)) := by
  unfold V
  after_reads_at
  rfl

theorem blk0 (c : Dev nD) (t : Fin cfg0.N) (r : Fin 512) (k : Fin 5632) (h : t.val * 512 + r.val < 16384) :
    iblk m c 0 t (ix2 r k) = argA m c (ix2 ⟨t.val * 512 + r.val, h⟩ (col k)) := by
  refine Eq.trans ?_ (entry0 m c _ k)
  blk_ext [iblk, V, idx t]

theorem blk1 (c : Dev nD) (t : Fin cfg0.N) (k : Fin 5632) (l : Fin 1024) : iblk m c 1 t (ix2 k l) = argW m c (ix2 l (col k)) := by
  refine Eq.trans ?_ (entry1 m c k l)
  blk_ext [iblk, V, idx t]

theorem pay (a : FVec Ideal S512x5632 .bf16) (b : FVec Ideal S5632x1024 .bf16) (r : Fin 512) (l : Fin 1024) :
    k0_pay1 (F := Ideal) a b (ix2 r l) = ∑ k : Fin 5632, a (ix2 r k) * b (ix2 k l) := by
  pointwise [k0_pay1]

theorem final (c : Dev nD) : (dats m 0 c).arrAt 2 (cfgs 0).N = Prod.nt (argA m c) (argW m c) := by
  refine (dats m 0 c).arrAt_eq_of_covers 2 _ (by decide +kernel) fun t hf y => ?_
  blk_simp
  rw [after0_2]
  idx_vars y
  unfold outsAt0
  frame_out
  rw [Prod.nt, ← col_bijective.sum_comp]
  refine (pay _ _ _ _).trans (Finset.sum_congr rfl fun k _ => congrArg₂ (· * ·) ?_ ?_)
  · refine (blk0 m c t y0 k (by have := (idx t).1; omega)).trans ?_
    blk_ext [idx t]
  · refine (blk1 m c t k y1).trans ?_
    blk_ext [idx t]

/-- The reference holds the same product. -/
theorem ref (a : FVec Ideal S16384x5632 .bf16) (w : FVec Ideal S1024x5632 .bf16) :
    DupRefIdeal.Read.val_main_v4 (F := Ideal) a w = Prod.nt a w := by
  funext i
  rw [DupRefIdeal.Read.val_main_v4_apply]
  exact Finset.sum_congr rfl fun k _ => congrArg₂ (· * ·) (congrArg a (ix2_eta _).symm) (congrArg w (ix2_eta _).symm)

end Cert.DupIdeal.Value
-- ==== Proof.Gup.lean ====
/- The gradient of the up projection: the product of interleaved columns, put back in order. -/
module

public import proofs.«01_k».proof.Proof.Gen.GupIdeal.Frame
public import proofs.«01_k».proof.Proof.Gen.GupRefIdeal.Read
public import proofs.«01_k».proof.Proof.Prod
public import proofs.«01_k».proof.Proof.Tail
public import Idealize.ShloMosaic.Lib.StableHlo.ReadAt
public import Idealize.ShloMosaic.Lib.Tactic.IndexArith

@[expose] public section

set_option maxRecDepth 16384

noncomputable section

open Idealize.ShloMosaic Idealize.ShloMosaic.TcCoe Idealize.SL.Sem

namespace Cert.GupIdeal.Value

open Cert.GupIdeal Cert.GupIdeal.Gen
open Cert.KernelIdeal.Value (std at' std_at)

variable (m : (ℓ : Loc nD τ sig) → Buf (Elt Ideal) ℓ)

abbrev argA (c : Dev nD) : FVec Ideal S16384x1024 .bf16 := m (c.tc.loc main_arg0)
abbrev argB (c : Dev nD) : FVec Ideal S16384x5632 .bf16 := m (c.tc.loc main_arg1)

theorem idx : ∀ t : Fin cfg0.N, t.val / 8 < 4 ∧ win0_0.index t = ![t.val % 8, 0] ∧ win0_1.index t = ![t.val % 8, t.val / 8]
    ∧ win0_2.index t = ![0, t.val / 8] :=
  (by decide +kernel : ∀ t : Fin grid0.N, _)

/-- The second factor with its columns interleaved, as the region finds it. -/
def mixed (c : Dev nD) : FVec Ideal S16384x5632 .bf16 := fun y => argB m c (ix2 (y 0) (std (y 1).val (y 1).isLt))

theorem entry (c : Dev nD) (r : Fin 16384) (q : Fin 5632) : V0 m c (Proc.devRef .tc main_v2) (ix2 r q) = mixed m c (ix2 r q) := by
  unfold V0
  after_reads_at
  rfl

theorem pay (a : FVec Ideal S2048x1024 .bf16) (b : FVec Ideal S2048x1408 .bf16) (y : S1024x1408.Idx) :
    k0_pay1 (F := Ideal) a b y = Prod.tn (M := 1024) (N := 1408) (K := 2048) a b y := by
  idx_vars y
  pointwise [k0_pay1]
  rfl

/-- A block of the result when its last row block has been added. -/
theorem out (c : Dev nD) (t : Fin cfg0.N) (hf : t.val % 8 = 8 - 1) (y : S1024x1408.Idx) (h : t.val / 8 * 1408 + (y 1).val < 5632) :
    outsAt0 m c t.val t.isLt y
      = Prod.tn (M := 1024) (N := 5632) (argA m c) (mixed m c) (ix2 (y 0) ⟨t.val / 8 * 1408 + (y 1).val, h⟩) := by
  refine Prod.tn_run (S := 8) (n := 2048) (fun n h => outsAt0 m c n h) (fun t => iblk m c 0 t) (fun t => iblk m c 1 t)
    (fun t h0 y => ?_) (fun t h0 y => ?_) (argA m c) (mixed m c) rfl t hf y _
    (fun u hu k hk => ?_) (fun u hu k hk => ?_)
  · rw [Gen.outsAt0_A m c t h0 (by have := (idx t).1; omega)]
    frame_out
    exact pay _ _ y
  · rw [Gen.outsAt0_B m c t h0 (by have := (idx t).1; omega)]
    frame_out
    idx_vars y
    pointwise [k0_pay2]
    exact congrArg (_ + ·) (pay _ _ (ix2 y0 y1))
  · blk_ext [iblk, V, idx u]
  · simp only [← hu]
    refine Eq.trans ?_ (entry m c _ _)
    blk_ext [iblk, V, idx u]

theorem final (c : Dev nD) : (dats m 0 c).arrAt 2 (cfgs 0).N = Prod.tn (M := 1024) (N := 5632) (argA m c) (mixed m c) := by
  refine (dats m 0 c).arrAt_eq_of_covers 2 _ (by decide +kernel) fun t hf y => ?_
  blk_simp
  rw [after0_2]
  idx_vars y
  refine (out m c t ((flush0_2 t).mp hf) (ix2 y0 y1) (by have := (idx t).1; show _ + y1.val < _; omega)).trans ?_
  refine congrArg (Prod.tn (M := 1024) (N := 5632) (argA m c) (mixed m c)) ?_
  blk_ext [idx t]

/-- The buffers of a device when the call has ended. -/
abbrev ended (c : Dev nD) :=
  Pipeline.withArrays (cfgs 0).spec c (V0 m c) fun w => (dats m 0 c).arrAt w (cfgs 0).N

/-- The result with its columns put back in order. -/
theorem tail6 (c : Dev nD) : StableHlo.after hostOps1 (ended m c) (Proc.devRef .tc main_v6)
    = Prod.tn (M := 1024) (N := 5632) (argA m c) (argB m c) := by
  funext y
  idx_vars y
  refine Eq.trans (b := ended m c (Proc.devRef .tc main_v3) (ix2 y0 (at' y1))) ?_ ?_
  · unfold_abbrev_sides
    after_reads_at
    rfl
  · refine (congrFun (Pipeline.withArrays_arr_shared spec0 c (V0 m c) _
      ((dats m 0 c).arrAt_sharedIn (by decide) (V0 m c) (A_eq m c) _) 2) (ix2 y0 (at' y1))).trans
      ((congrFun (final m c) (ix2 y0 (at' y1))).trans ?_)
    show Prod.tn (M := 1024) (N := 5632) (argA m c) (argB m c) (ix2 y0 (std (at' y1).val (at' y1).isLt)) = _
    rw [std_at]

/-- The reference holds the same product. -/
theorem ref (a : FVec Ideal S16384x1024 .bf16) (b : FVec Ideal S16384x5632 .bf16) :
    GupRefIdeal.Read.val_main_v5 (F := Ideal) a b = Prod.tn (M := 1024) (N := 5632) a b := by
  funext i
  rw [GupRefIdeal.Read.val_main_v5_apply, GupRefIdeal.Read.val_main_v4_apply]
  exact Finset.sum_congr rfl fun k _ => (mul_comm _ _).trans
    (congrArg₂ (· * ·) (congrArg a (ix2_eta _).symm) (congrArg b (ix2_eta _).symm))

end Cert.GupIdeal.Value
-- ==== Proof.Dout.lean ====
/- The gradient of an output projection's input. -/
module

public import proofs.«01_k».proof.Proof.Gen.DoutIdeal.Value
public import proofs.«01_k».proof.Proof.Gen.DoutRefIdeal.Read
public import proofs.«01_k».proof.Proof.Prod
public import Idealize.ShloMosaic.Lib.StableHlo.ReadAt
public import Idealize.ShloMosaic.Lib.Tactic.IndexArith

@[expose] public section

set_option maxRecDepth 16384

noncomputable section

open Idealize.ShloMosaic Idealize.ShloMosaic.TcCoe Idealize.SL.Sem

namespace Cert.DoutIdeal.Value

open Cert.DoutIdeal Cert.DoutIdeal.Gen

variable (m : (ℓ : Loc nD τ sig) → Buf (Elt Ideal) ℓ)

abbrev argA (c : Dev nD) : FVec Ideal S16384x1024 .f32 := m (c.tc.loc main_arg0)
abbrev argW (c : Dev nD) : FVec Ideal S1024x1024 .bf16 := m (c.tc.loc main_arg1)

theorem idx : ∀ t : Fin cfg0.N, t.val < 16 ∧ win0_0.index t = ![t.val, 0] ∧ win0_1.index t = ![0, 0]
    ∧ win0_2.index t = ![t.val, 0] :=
  (by decide +kernel : ∀ t : Fin grid0.N, _)

theorem entry0 (c : Dev nD) (k : Fin 1024) (q : Fin 1024) : V m c main_v0 (ix2 k q) = argW m c (ix2 q k) := by
  unfold V
  after_reads_at

theorem blk0 (c : Dev nD) (t : Fin cfg0.N) (r : Fin 1024) (k : Fin 1024) (h : t.val * 1024 + r.val < 16384) :
    iblk m c 0 t (ix2 r k) = argA m c (ix2 ⟨t.val * 1024 + r.val, h⟩ k) := by
  blk_ext [iblk, V, idx t]

theorem blk1 (c : Dev nD) (t : Fin cfg0.N) (k : Fin 1024) (l : Fin 1024) : iblk m c 1 t (ix2 k l) = argW m c (ix2 l k) := by
  refine Eq.trans ?_ (entry0 m c k l)
  blk_ext [iblk, V, idx t]

theorem pay (a : FVec Ideal S1024x1024 .f32) (b : FVec Ideal S1024x1024 .bf16) (r : Fin 1024) (l : Fin 1024) :
    k0_pay1 (F := Ideal) a b (ix2 r l) = ∑ k : Fin 1024, a (ix2 r k) * b (ix2 k l) := by
  pointwise [k0_pay1]

theorem final (c : Dev nD) : (dats m 0 c).arrAt 2 (cfgs 0).N = Prod.nt (argA m c) (argW m c) := by
  refine (dats m 0 c).arrAt_eq_of_covers 2 _ (by decide +kernel) fun t hf y => ?_
  blk_simp
  rw [after0_2]
  idx_vars y
  unfold outsAt0
  frame_out
  refine (pay _ _ _ _).trans (Finset.sum_congr rfl fun k _ => congrArg₂ (· * ·) ?_ ?_)
  · refine (blk0 m c t y0 k (by have := (idx t).1; omega)).trans ?_
    blk_ext [idx t]
  · refine (blk1 m c t k y1).trans ?_
    blk_ext [idx t]

/-- The reference holds the same product. -/
theorem ref (a : FVec Ideal S16384x1024 .f32) (w : FVec Ideal S1024x1024 .bf16) :
    DoutRefIdeal.Read.val_main_v3 (F := Ideal) a w = Prod.nt a w := by
  funext i
  rw [DoutRefIdeal.Read.val_main_v3_apply]
  exact Finset.sum_congr rfl fun k _ => congrArg₂ (· * ·) (congrArg a (ix2_eta _).symm) (congrArg w (ix2_eta _).symm)

end Cert.DoutIdeal.Value
-- ==== Proof.Gout.lean ====
/- The gradient of an output projection. -/
module

public import proofs.«01_k».proof.Proof.Gen.GoutIdeal.Value
public import proofs.«01_k».proof.Proof.Gen.GoutRefIdeal.Read
public import proofs.«01_k».proof.Proof.Prod
public import Idealize.ShloMosaic.Lib.StableHlo.ReadAt
public import Idealize.ShloMosaic.Lib.Tactic.IndexArith

@[expose] public section

set_option maxRecDepth 16384

noncomputable section

open Idealize.ShloMosaic Idealize.ShloMosaic.TcCoe Idealize.SL.Sem

namespace Cert.GoutIdeal.Value

open Cert.GoutIdeal Cert.GoutIdeal.Gen

variable (m : (ℓ : Loc nD τ sig) → Buf (Elt Ideal) ℓ)

abbrev argA (c : Dev nD) : FVec Ideal S16384x1024 .bf16 := m (c.tc.loc main_arg0)
abbrev argB (c : Dev nD) : FVec Ideal S16384x1024 .f32 := m (c.tc.loc main_arg1)

theorem idx : ∀ t : Fin cfg0.N, t.val / 8 < 1 ∧ win0_0.index t = ![t.val % 8, 0] ∧ win0_1.index t = ![t.val % 8, t.val / 8]
    ∧ win0_2.index t = ![0, t.val / 8] :=
  (by decide +kernel : ∀ t : Fin grid0.N, _)

theorem pay (a : FVec Ideal S2048x1024 .bf16) (b : FVec Ideal S2048x1024 .f32) (y : S1024x1024.Idx) :
    k0_pay1 (F := Ideal) a b y = Prod.tn (M := 1024) (N := 1024) (K := 2048) a b y := by
  idx_vars y
  pointwise [k0_pay1]
  rfl

/-- A block of the result when its last row block has been added. -/
theorem out (c : Dev nD) (t : Fin cfg0.N) (hf : t.val % 8 = 8 - 1) (y : S1024x1024.Idx) (h : t.val / 8 * 1024 + (y 1).val < 1024) :
    outsAt0 m c t.val t.isLt y
      = Prod.tn (M := 1024) (N := 1024) (argA m c) (argB m c) (ix2 (y 0) ⟨t.val / 8 * 1024 + (y 1).val, h⟩) := by
  refine Prod.tn_run (S := 8) (n := 2048) (fun n h => outsAt0 m c n h) (fun t => iblk m c 0 t) (fun t => iblk m c 1 t)
    (fun t h0 y => ?_) (fun t h0 y => ?_) (argA m c) (argB m c) rfl t hf y _
    (fun u hu k hk => ?_) (fun u hu k hk => ?_)
  · rw [Gen.outsAt0_A m c t h0 (by have := (idx t).1; omega)]
    frame_out
    exact pay _ _ y
  · rw [Gen.outsAt0_B m c t h0 (by have := (idx t).1; omega)]
    frame_out
    idx_vars y
    pointwise [k0_pay2]
    exact congrArg (_ + ·) (pay _ _ (ix2 y0 y1))
  · blk_ext [iblk, V, idx u]
  · simp only [← hu]
    blk_ext [iblk, V, idx u]

theorem final (c : Dev nD) : (dats m 0 c).arrAt 2 (cfgs 0).N = Prod.tn (M := 1024) (N := 1024) (argA m c) (argB m c) := by
  refine (dats m 0 c).arrAt_eq_of_covers 2 _ (by decide +kernel) fun t hf y => ?_
  blk_simp
  rw [after0_2]
  idx_vars y
  refine (out m c t ((flush0_2 t).mp hf) (ix2 y0 y1) (by have := (idx t).1; show _ + y1.val < _; omega)).trans ?_
  refine congrArg (Prod.tn (M := 1024) (N := 1024) (argA m c) (argB m c)) ?_
  blk_ext [idx t]

/-- The reference holds the same product. -/
theorem ref (a : FVec Ideal S16384x1024 .bf16) (b : FVec Ideal S16384x1024 .f32) :
    GoutRefIdeal.Read.val_main_v4 (F := Ideal) a b = Prod.tn (M := 1024) (N := 1024) a b := by
  funext i
  rw [GoutRefIdeal.Read.val_main_v4_apply, GoutRefIdeal.Read.val_main_v3_apply]
  exact Finset.sum_congr rfl fun k _ => (mul_comm _ _).trans
    (congrArg₂ (· * ·) (congrArg a (ix2_eta _).symm) (congrArg b (ix2_eta _).symm))

end Cert.GoutIdeal.Value
-- ==== Proof.Dq.lean ====
/- The gradient of the query projection's input. -/
module

public import proofs.«01_k».proof.Proof.Gen.DqIdeal.Value
public import proofs.«01_k».proof.Proof.Gen.DqRefIdeal.Read
public import proofs.«01_k».proof.Proof.Prod
public import Idealize.ShloMosaic.Lib.StableHlo.ReadAt
public import Idealize.ShloMosaic.Lib.Tactic.IndexArith

@[expose] public section

set_option maxRecDepth 16384

noncomputable section

open Idealize.ShloMosaic Idealize.ShloMosaic.TcCoe Idealize.SL.Sem

namespace Cert.DqIdeal.Value

open Cert.DqIdeal Cert.DqIdeal.Gen

variable (m : (ℓ : Loc nD τ sig) → Buf (Elt Ideal) ℓ)

abbrev argA (c : Dev nD) : FVec Ideal S16384x3072 .bf16 := m (c.tc.loc main_arg0)
abbrev argW (c : Dev nD) : FVec Ideal S1024x3072 .bf16 := m (c.tc.loc main_arg1)

theorem idx : ∀ t : Fin cfg0.N, t.val < 16 ∧ win0_0.index t = ![t.val, 0] ∧ win0_1.index t = ![0, 0]
    ∧ win0_2.index t = ![t.val, 0] :=
  (by decide +kernel : ∀ t : Fin grid0.N, _)

theorem entry0 (c : Dev nD) (k : Fin 3072) (q : Fin 1024) : V m c main_v0 (ix2 k q) = argW m c (ix2 q k) := by
  unfold V
  after_reads_at

theorem blk0 (c : Dev nD) (t : Fin cfg0.N) (r : Fin 1024) (k : Fin 3072) (h : t.val * 1024 + r.val < 16384) :
    iblk m c 0 t (ix2 r k) = argA m c (ix2 ⟨t.val * 1024 + r.val, h⟩ k) := by
  blk_ext [iblk, V, idx t]

theorem blk1 (c : Dev nD) (t : Fin cfg0.N) (k : Fin 3072) (l : Fin 1024) : iblk m c 1 t (ix2 k l) = argW m c (ix2 l k) := by
  refine Eq.trans ?_ (entry0 m c k l)
  blk_ext [iblk, V, idx t]

theorem pay (a : FVec Ideal S1024x3072 .bf16) (b : FVec Ideal S3072x1024 .bf16) (r : Fin 1024) (l : Fin 1024) :
    k0_pay1 (F := Ideal) a b (ix2 r l) = ∑ k : Fin 3072, a (ix2 r k) * b (ix2 k l) := by
  pointwise [k0_pay1]

theorem final (c : Dev nD) : (dats m 0 c).arrAt 2 (cfgs 0).N = Prod.nt (argA m c) (argW m c) := by
  refine (dats m 0 c).arrAt_eq_of_covers 2 _ (by decide +kernel) fun t hf y => ?_
  blk_simp
  rw [after0_2]
  idx_vars y
  unfold outsAt0
  frame_out
  refine (pay _ _ _ _).trans (Finset.sum_congr rfl fun k _ => congrArg₂ (· * ·) ?_ ?_)
  · refine (blk0 m c t y0 k (by have := (idx t).1; omega)).trans ?_
    blk_ext [idx t]
  · refine (blk1 m c t k y1).trans ?_
    blk_ext [idx t]

/-- The reference holds the same product. -/
theorem ref (a : FVec Ideal S16384x3072 .bf16) (w : FVec Ideal S1024x3072 .bf16) :
    DqRefIdeal.Read.val_main_v4 (F := Ideal) a w = Prod.nt a w := by
  funext i
  rw [DqRefIdeal.Read.val_main_v4_apply]
  exact Finset.sum_congr rfl fun k _ => congrArg₂ (· * ·) (congrArg a (ix2_eta _).symm) (congrArg w (ix2_eta _).symm)

end Cert.DqIdeal.Value
-- ==== Proof.Gq.lean ====
/- The gradient of the query projection. -/
module

public import proofs.«01_k».proof.Proof.Gen.GqIdeal.Value
public import proofs.«01_k».proof.Proof.Gen.GqRefIdeal.Read
public import proofs.«01_k».proof.Proof.Prod
public import Idealize.ShloMosaic.Lib.StableHlo.ReadAt
public import Idealize.ShloMosaic.Lib.Tactic.IndexArith

@[expose] public section

set_option maxRecDepth 16384

noncomputable section

open Idealize.ShloMosaic Idealize.ShloMosaic.TcCoe Idealize.SL.Sem

namespace Cert.GqIdeal.Value

open Cert.GqIdeal Cert.GqIdeal.Gen

variable (m : (ℓ : Loc nD τ sig) → Buf (Elt Ideal) ℓ)

abbrev argA (c : Dev nD) : FVec Ideal S16384x1024 .bf16 := m (c.tc.loc main_arg0)
abbrev argB (c : Dev nD) : FVec Ideal S16384x3072 .bf16 := m (c.tc.loc main_arg1)

theorem idx : ∀ t : Fin cfg0.N, t.val / 16 < 1 ∧ win0_0.index t = ![t.val % 16, 0] ∧ win0_1.index t = ![t.val % 16, t.val / 16]
    ∧ win0_2.index t = ![0, t.val / 16] :=
  (by decide +kernel : ∀ t : Fin grid0.N, _)

theorem pay (a : FVec Ideal S1024x1024 .bf16) (b : FVec Ideal S1024x3072 .bf16) (y : S1024x3072.Idx) :
    k0_pay1 (F := Ideal) a b y = Prod.tn (M := 1024) (N := 3072) (K := 1024) a b y := by
  idx_vars y
  pointwise [k0_pay1]
  rfl

/-- A block of the result when its last row block has been added. -/
theorem out (c : Dev nD) (t : Fin cfg0.N) (hf : t.val % 16 = 16 - 1) (y : S1024x3072.Idx) (h : t.val / 16 * 3072 + (y 1).val < 3072) :
    outsAt0 m c t.val t.isLt y
      = Prod.tn (M := 1024) (N := 3072) (argA m c) (argB m c) (ix2 (y 0) ⟨t.val / 16 * 3072 + (y 1).val, h⟩) := by
  refine Prod.tn_run (S := 16) (n := 1024) (fun n h => outsAt0 m c n h) (fun t => iblk m c 0 t) (fun t => iblk m c 1 t)
    (fun t h0 y => ?_) (fun t h0 y => ?_) (argA m c) (argB m c) rfl t hf y _
    (fun u hu k hk => ?_) (fun u hu k hk => ?_)
  · rw [Gen.outsAt0_A m c t h0 (by have := (idx t).1; omega)]
    frame_out
    exact pay _ _ y
  · rw [Gen.outsAt0_B m c t h0 (by have := (idx t).1; omega)]
    frame_out
    idx_vars y
    pointwise [k0_pay2]
    exact congrArg (_ + ·) (pay _ _ (ix2 y0 y1))
  · blk_ext [iblk, V, idx u]
  · simp only [← hu]
    blk_ext [iblk, V, idx u]

theorem final (c : Dev nD) : (dats m 0 c).arrAt 2 (cfgs 0).N = Prod.tn (M := 1024) (N := 3072) (argA m c) (argB m c) := by
  refine (dats m 0 c).arrAt_eq_of_covers 2 _ (by decide +kernel) fun t hf y => ?_
  blk_simp
  rw [after0_2]
  idx_vars y
  refine (out m c t ((flush0_2 t).mp hf) (ix2 y0 y1) (by have := (idx t).1; show _ + y1.val < _; omega)).trans ?_
  refine congrArg (Prod.tn (M := 1024) (N := 3072) (argA m c) (argB m c)) ?_
  blk_ext [idx t]

/-- The reference holds the same product. -/
theorem ref (a : FVec Ideal S16384x1024 .bf16) (b : FVec Ideal S16384x3072 .bf16) :
    GqRefIdeal.Read.val_main_v5 (F := Ideal) a b = Prod.tn (M := 1024) (N := 3072) a b := by
  funext i
  rw [GqRefIdeal.Read.val_main_v5_apply, GqRefIdeal.Read.val_main_v4_apply]
  exact Finset.sum_congr rfl fun k _ => (mul_comm _ _).trans
    (congrArg₂ (· * ·) (congrArg a (ix2_eta _).symm) (congrArg b (ix2_eta _).symm))

end Cert.GqIdeal.Value
-- ==== Proof.Dkv.lean ====
/- The gradient of the key and value projection's input. -/
module

public import proofs.«01_k».proof.Proof.Gen.DkvIdeal.Value
public import proofs.«01_k».proof.Proof.Gen.DkvRefIdeal.Read
public import proofs.«01_k».proof.Proof.Prod
public import Idealize.ShloMosaic.Lib.StableHlo.ReadAt
public import Idealize.ShloMosaic.Lib.Tactic.IndexArith

@[expose] public section

set_option maxRecDepth 16384

noncomputable section

open Idealize.ShloMosaic Idealize.ShloMosaic.TcCoe Idealize.SL.Sem

namespace Cert.DkvIdeal.Value

open Cert.DkvIdeal Cert.DkvIdeal.Gen

variable (m : (ℓ : Loc nD τ sig) → Buf (Elt Ideal) ℓ)

abbrev argA (c : Dev nD) : FVec Ideal S16384x6144 .bf16 := m (c.tc.loc main_arg0)
abbrev argW (c : Dev nD) : FVec Ideal S1024x6144 .bf16 := m (c.tc.loc main_arg1)

theorem idx : ∀ t : Fin cfg0.N, t.val < 32 ∧ win0_0.index t = ![t.val, 0] ∧ win0_1.index t = ![0, 0]
    ∧ win0_2.index t = ![t.val, 0] :=
  (by decide +kernel : ∀ t : Fin grid0.N, _)

theorem entry0 (c : Dev nD) (k : Fin 6144) (q : Fin 1024) : V m c main_v0 (ix2 k q) = argW m c (ix2 q k) := by
  unfold V
  after_reads_at

theorem blk0 (c : Dev nD) (t : Fin cfg0.N) (r : Fin 512) (k : Fin 6144) (h : t.val * 512 + r.val < 16384) :
    iblk m c 0 t (ix2 r k) = argA m c (ix2 ⟨t.val * 512 + r.val, h⟩ k) := by
  blk_ext [iblk, V, idx t]

theorem blk1 (c : Dev nD) (t : Fin cfg0.N) (k : Fin 6144) (l : Fin 1024) : iblk m c 1 t (ix2 k l) = argW m c (ix2 l k) := by
  refine Eq.trans ?_ (entry0 m c k l)
  blk_ext [iblk, V, idx t]

theorem pay (a : FVec Ideal S512x6144 .bf16) (b : FVec Ideal S6144x1024 .bf16) (r : Fin 512) (l : Fin 1024) :
    k0_pay1 (F := Ideal) a b (ix2 r l) = ∑ k : Fin 6144, a (ix2 r k) * b (ix2 k l) := by
  pointwise [k0_pay1]

theorem final (c : Dev nD) : (dats m 0 c).arrAt 2 (cfgs 0).N = Prod.nt (argA m c) (argW m c) := by
  refine (dats m 0 c).arrAt_eq_of_covers 2 _ (by decide +kernel) fun t hf y => ?_
  blk_simp
  rw [after0_2]
  idx_vars y
  unfold outsAt0
  frame_out
  refine (pay _ _ _ _).trans (Finset.sum_congr rfl fun k _ => congrArg₂ (· * ·) ?_ ?_)
  · refine (blk0 m c t y0 k (by have := (idx t).1; omega)).trans ?_
    blk_ext [idx t]
  · refine (blk1 m c t k y1).trans ?_
    blk_ext [idx t]

/-- The reference holds the same product. -/
theorem ref (a : FVec Ideal S16384x6144 .bf16) (w : FVec Ideal S1024x6144 .bf16) :
    DkvRefIdeal.Read.val_main_v4 (F := Ideal) a w = Prod.nt a w := by
  funext i
  rw [DkvRefIdeal.Read.val_main_v4_apply]
  exact Finset.sum_congr rfl fun k _ => congrArg₂ (· * ·) (congrArg a (ix2_eta _).symm) (congrArg w (ix2_eta _).symm)

end Cert.DkvIdeal.Value
-- ==== Proof.Gkv.lean ====
/- The gradient of the key and value projection. -/
module

public import proofs.«01_k».proof.Proof.Gen.GkvIdeal.Value
public import proofs.«01_k».proof.Proof.Gen.GkvRefIdeal.Read
public import proofs.«01_k».proof.Proof.Prod
public import Idealize.ShloMosaic.Lib.StableHlo.ReadAt
public import Idealize.ShloMosaic.Lib.Tactic.IndexArith

@[expose] public section

set_option maxRecDepth 16384

noncomputable section

open Idealize.ShloMosaic Idealize.ShloMosaic.TcCoe Idealize.SL.Sem

namespace Cert.GkvIdeal.Value

open Cert.GkvIdeal Cert.GkvIdeal.Gen

variable (m : (ℓ : Loc nD τ sig) → Buf (Elt Ideal) ℓ)

abbrev argA (c : Dev nD) : FVec Ideal S16384x1024 .bf16 := m (c.tc.loc main_arg0)
abbrev argB (c : Dev nD) : FVec Ideal S16384x6144 .bf16 := m (c.tc.loc main_arg1)

theorem idx : ∀ t : Fin cfg0.N, t.val / 8 < 4 ∧ win0_0.index t = ![t.val % 8, 0] ∧ win0_1.index t = ![t.val % 8, t.val / 8]
    ∧ win0_2.index t = ![0, t.val / 8] :=
  (by decide +kernel : ∀ t : Fin grid0.N, _)

theorem pay (a : FVec Ideal S2048x1024 .bf16) (b : FVec Ideal S2048x1536 .bf16) (y : S1024x1536.Idx) :
    k0_pay1 (F := Ideal) a b y = Prod.tn (M := 1024) (N := 1536) (K := 2048) a b y := by
  idx_vars y
  pointwise [k0_pay1]
  rfl

/-- A block of the result when its last row block has been added. -/
theorem out (c : Dev nD) (t : Fin cfg0.N) (hf : t.val % 8 = 8 - 1) (y : S1024x1536.Idx) (h : t.val / 8 * 1536 + (y 1).val < 6144) :
    outsAt0 m c t.val t.isLt y
      = Prod.tn (M := 1024) (N := 6144) (argA m c) (argB m c) (ix2 (y 0) ⟨t.val / 8 * 1536 + (y 1).val, h⟩) := by
  refine Prod.tn_run (S := 8) (n := 2048) (fun n h => outsAt0 m c n h) (fun t => iblk m c 0 t) (fun t => iblk m c 1 t)
    (fun t h0 y => ?_) (fun t h0 y => ?_) (argA m c) (argB m c) rfl t hf y _
    (fun u hu k hk => ?_) (fun u hu k hk => ?_)
  · rw [Gen.outsAt0_A m c t h0 (by have := (idx t).1; omega)]
    frame_out
    exact pay _ _ y
  · rw [Gen.outsAt0_B m c t h0 (by have := (idx t).1; omega)]
    frame_out
    idx_vars y
    pointwise [k0_pay2]
    exact congrArg (_ + ·) (pay _ _ (ix2 y0 y1))
  · blk_ext [iblk, V, idx u]
  · simp only [← hu]
    blk_ext [iblk, V, idx u]

theorem final (c : Dev nD) : (dats m 0 c).arrAt 2 (cfgs 0).N = Prod.tn (M := 1024) (N := 6144) (argA m c) (argB m c) := by
  refine (dats m 0 c).arrAt_eq_of_covers 2 _ (by decide +kernel) fun t hf y => ?_
  blk_simp
  rw [after0_2]
  idx_vars y
  refine (out m c t ((flush0_2 t).mp hf) (ix2 y0 y1) (by have := (idx t).1; show _ + y1.val < _; omega)).trans ?_
  refine congrArg (Prod.tn (M := 1024) (N := 6144) (argA m c) (argB m c)) ?_
  blk_ext [idx t]

/-- The reference holds the same product. -/
theorem ref (a : FVec Ideal S16384x1024 .bf16) (b : FVec Ideal S16384x6144 .bf16) :
    GkvRefIdeal.Read.val_main_v5 (F := Ideal) a b = Prod.tn (M := 1024) (N := 6144) a b := by
  funext i
  rw [GkvRefIdeal.Read.val_main_v5_apply, GkvRefIdeal.Read.val_main_v4_apply]
  exact Finset.sum_congr rfl fun k _ => (mul_comm _ _).trans
    (congrArg₂ (· * ·) (congrArg a (ix2_eta _).symm) (congrArg b (ix2_eta _).symm))

end Cert.GkvIdeal.Value
-- ==== Proof.AttnMath.lean ====
/- The attention gradient of one head of one block, as sums over the extended reals. -/
module

public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Attn

/-- Query row `i` of block `n` looks at key row `j` of the two blocks before and at it. -/
def band (n : ℕ) (i : Fin 128) (j : Fin 256) : Prop := i.val ≤ j.val ∧ j.val ≤ i.val + 128 ∧ (128 ≤ j.val ∨ 0 < n)

instance (n : ℕ) (i : Fin 128) (j : Fin 256) : Decidable (band n i j) := by unfold band; infer_instance

variable (n : ℕ) (Q D : Fin 128 → Fin 64 → EReal) (K V : Fin 256 → Fin 64 → EReal) (B : Fin 128 → Fin 256 → EReal)
  (L Dl : Fin 128 → EReal)

/-- The scale of the scores. -/
def sc : EReal := Ideal.ofBits .f32 1040187392#32

/-- The masked scores. -/
def S (i : Fin 128) (j : Fin 256) : EReal := if band n i j then (∑ e, Q i e * K j e) * sc + B i j else ⊥

/-- The probabilities from the scores and the saved log of their sum. -/
def P (i : Fin 128) (j : Fin 256) : EReal := Ideal.exp (S n Q K B i j - L i)

/-- The gradient at the scores. -/
def DS (i : Fin 128) (j : Fin 256) : EReal := P n Q K B L i j * (∑ e, D i e * V j e - Dl i)

def DQ (i : Fin 128) (e : Fin 64) : EReal := ∑ j, DS n Q D K V B L Dl i j * sc * K j e

def DK (j : Fin 256) (e : Fin 64) : EReal := ∑ i, DS n Q D K V B L Dl i j * sc * Q i e

def DV (j : Fin 256) (e : Fin 64) : EReal := ∑ i, P n Q K B L i j * D i e

/-- The block before and the block itself, one under the other. -/
def cat (a b : Fin 128 → Fin 64 → EReal) (j : Fin 256) (e : Fin 64) : EReal :=
  if h : j.val < 128 then a ⟨j.val, h⟩ e else b ⟨j.val - 128, by omega⟩ e

/-- Head `h`'s columns of a block of all heads. -/
def head (x : (⟨2, ![128, 1024]⟩ : Shape).Idx → EReal) (h : Fin 16) (i : Fin 128) (e : Fin 64) : EReal :=
  x (ix2 i ⟨64 * h.val + e.val, by omega⟩)

end Cert.Attn
-- ==== Proof.AttnHead.lean ====
/- One head of the attention gradient's body. -/
module

public import proofs.«01_k».proof.Proof.Gen.AttnIdeal.Value
public import proofs.«01_k».proof.Proof.AttnMath
public import Idealize.ShloMosaic.Lib.Pipeline.ReadBack
public import Idealize.ShloMosaic.Lib.Tactic.IndexArith

@[expose] public section

set_option maxRecDepth 16384

noncomputable section

open Idealize.ShloMosaic Idealize.ShloMosaic.TcCoe Idealize.SL.Sem

namespace Cert.AttnIdeal.Value

open Cert.AttnIdeal Cert.AttnIdeal.Gen Cert.Attn

theorem sle_word (a b : ℕ) (ha : a < 2 ^ 31) (hb : b < 2 ^ 31) :
    (BitVec.ofNat 32 a).sle (BitVec.ofNat 32 b) = decide (a ≤ b) := by
  rw [Bool.eq_iff_iff, BitVec.sle_iff_toInt_le, BitVec.toInt_eq_toNat_of_lt (by simp; omega), BitVec.toInt_eq_toNat_of_lt (by simp; omega)]
  simp only [BitVec.toNat_ofNat, decide_eq_true_eq]
  omega

theorem slt_word (a b : ℕ) (ha : a < 2 ^ 31) (hb : b < 2 ^ 31) :
    (BitVec.ofNat 32 a).slt (BitVec.ofNat 32 b) = decide (a < b) := by
  rw [Bool.eq_iff_iff, BitVec.slt_iff_toInt_lt, BitVec.toInt_eq_toNat_of_lt (by simp; omega), BitVec.toInt_eq_toNat_of_lt (by simp; omega)]
  simp only [BitVec.toNat_ofNat, decide_eq_true_eq]
  omega

theorem band_word (n : ℕ) (hn : n < 8) (a : Fin 128) (b : Fin 256) :
    IntOp.andi (IntOp.andi (IntOp.cmpi CmpIPredicate.sge (BitVec.ofNat 32 b.val) (BitVec.ofNat 32 a.val))
        (IntOp.cmpi CmpIPredicate.sle (BitVec.ofNat 32 b.val) (IntOp.addi (BitVec.ofNat 32 a.val) 128#32)))
      (IntOp.ori (IntOp.cmpi CmpIPredicate.sge (BitVec.ofNat 32 b.val) 128#32)
        (Scalar.cmpi CmpIPredicate.sgt (BitVec.ofNat 32 n) 0#32)) = if band n a b then 1#1 else 0#1 := by
  have e : IntOp.addi (BitVec.ofNat 32 a.val) 128#32 = BitVec.ofNat 32 (a.val + 128) := by
    simp only [IntOp.addi, BitVec.ofNat_add]
  have hz : (0#32 : BitVec 32) = BitVec.ofNat 32 0 := rfl
  have hc : (128#32 : BitVec 32) = BitVec.ofNat 32 128 := rfl
  rw [e]
  simp only [Scalar.cmpi, IntOp.cmpi]
  rw [hz, hc, sle_word _ _ (by omega) (by omega), sle_word _ _ (by omega) (by omega), sle_word _ _ (by omega) (by omega),
    slt_word _ _ (by omega) (by omega)]
  unfold band
  by_cases h1 : a.val ≤ b.val <;> by_cases h2 : b.val ≤ a.val + 128 <;> by_cases h3 : 128 ≤ b.val <;>
    by_cases h4 : 0 < n <;> simp [h1, h2, h3, h4, IntOp.andi, IntOp.ori]

/-- The mask. -/
theorem mask (i : grid0.Coords) (a : Fin 128) (b : Fin 256) :
    k0_pay2 i (ix2 a b) = if band (i 1).val a b then 1#1 else 0#1 := by
  pointwise [k0_pay2]
  exact band_word _ (i 1).isLt a b

theorem mask_t (i : grid0.Coords) (a : Fin 128) (b : Fin 256) :
    k0_pay3 i (ix2 b a) = if band (i 1).val a b then 1#1 else 0#1 := by
  pointwise [k0_pay3]
  exact band_word _ (i 1).isLt a b

theorem sel (p : Prop) [Decidable p] (a b : EReal) : Scalar.select (if p then 1#1 else 0#1) a b = if p then a else b := by
  by_cases h : p <;> simp [h, Scalar.select]

theorem bot : Ideal.ofBits .f32 4286578688#32 = ⊥ := by
  simp [Ideal.ofBits, Ideal.ieee]

section head

variable (i : grid0.Coords) (q d kp kc vp vc : FVec Ideal S128x64 .bf16) (b : FVec Ideal S1x128x256 .f32)
  (bt : FVec Ideal S1x256x128 .f32) (l dl : FVec Ideal S128x1 .f32) (lt dlt : FVec Ideal S1x128 .f32)

abbrev mat (x : FVec Ideal S128x64 .bf16) (i : Fin 128) (e : Fin 64) : EReal := x (ix2 i e)

def dsH : FVec Ideal S128x256 .f32 := k0_pay10 (k0_pay2 i) (k0_pay6 q) d kp kc vp vc b l dl

theorem kcat (j : Fin 256) (e : Fin 64) : k0_pay8 (F := Ideal) kp kc (ix2 j e) = cat (mat kp) (mat kc) j e := by
  pointwise [k0_pay8]
  rfl

theorem vcat (j : Fin 256) (e : Fin 64) : k0_pay9 (F := Ideal) kp kc (ix2 j e) = cat (mat kp) (mat kc) j e := by
  pointwise [k0_pay9]
  rfl

theorem dsH_apply (a : Fin 128) (j : Fin 256) : dsH i q d kp kc vp vc b l dl (ix2 a j)
    = DS (i 1).val (mat q) (mat d) (cat (mat kp) (mat kc)) (cat (mat vp) (mat vc)) (fun a j => b (ix3 0 a j))
      (fun a => l (ix2 a 0)) (fun a => dl (ix2 a 0)) a j := by
  pointwise [dsH, k0_pay10, k0_pay6, k0_pay7]
  simp only [mask, sel, kcat, vcat, bot]
  rfl

def dqH : FVec Ideal S128x64 .bf16 :=
  truncf .bf16 (matmul dot_S128x256_S256x64_S128x64_1_0_0_1_n_n none (k0_pay13 (dsH i q d kp kc vp vc b l dl)) (k0_pay8 kp kc)
    (constant S128x64 .f32 0x00000000#32)) bitsLt_bf16_f32

theorem dqH_apply (a : Fin 128) (e : Fin 64) : dqH i q d kp kc vp vc b l dl (ix2 a e)
    = DQ (i 1).val (mat q) (mat d) (cat (mat kp) (mat kc)) (cat (mat vp) (mat vc)) (fun a j => b (ix3 0 a j))
      (fun a => l (ix2 a 0)) (fun a => dl (ix2 a 0)) a e := by
  pointwise [dqH, k0_pay13]
  simp only [dsH_apply, kcat]
  rfl

/-- The probabilities, transposed. -/
def ptH : FVec Ideal S256x128 .f32 :=
  exp (subf (select (k0_pay3 i) (addf (mulf (matmul dot_S256x64_S128x64_S256x128_1_1_0_0_n_n none (k0_pay8 kp kc) (k0_pay6 q)
      (constant S256x128 .f32 0x00000000#32)) (broadcast S256x128 (Scalar.ofBits .f32 0x3E000000#32)))
      (shapeCast S256x128 bt shapeCasts_S1x256x128_S256x128)) (broadcast S256x128 (Scalar.ofBits .f32 0xFF800000#32)))
    (broadcastTo S256x128 lt broadcasts_S1x128_S256x128))

theorem ptH_apply (a : Fin 128) (j : Fin 256) : ptH i q kp kc bt lt (ix2 j a)
    = P (i 1).val (mat q) (cat (mat kp) (mat kc)) (fun a j => bt (ix3 0 j a)) (fun a => lt (ix2 0 a)) a j := by
  pointwise [ptH, k0_pay6]
  simp only [mask_t, sel, kcat, vcat, bot, mul_comm (cat _ _ _ _)]
  rfl

def dstH : FVec Ideal S256x128 .bf16 :=
  truncf .bf16 (mulf (mulf (ptH i q kp kc bt lt) (subf (matmul dot_S256x64_S128x64_S256x128_1_1_0_0_n_n none (k0_pay9 vp vc)
      (k0_pay7 d) (constant S256x128 .f32 0x00000000#32)) (broadcastTo S256x128 dlt broadcasts_S1x128_S256x128)))
    (broadcast S256x128 (Scalar.ofBits .f32 0x3E000000#32))) bitsLt_bf16_f32

theorem dstH_apply (a : Fin 128) (j : Fin 256) : dstH i q d kp kc vp vc bt lt dlt (ix2 j a)
    = DS (i 1).val (mat q) (mat d) (cat (mat kp) (mat kc)) (cat (mat vp) (mat vc)) (fun a j => bt (ix3 0 j a))
      (fun a => lt (ix2 0 a)) (fun a => dlt (ix2 0 a)) a j * sc := by
  pointwise [dstH, k0_pay7]
  simp only [ptH_apply, vcat, mul_comm (cat _ _ _ _)]
  rfl

def dkH : FVec Ideal S256x64 .bf16 := k0_pay191 (dstH i q d kp kc vp vc bt lt dlt) q

theorem dkH_apply (j : Fin 256) (e : Fin 64) : dkH i q d kp kc vp vc bt lt dlt (ix2 j e)
    = DK (i 1).val (mat q) (mat d) (cat (mat kp) (mat kc)) (cat (mat vp) (mat vc)) (fun a j => bt (ix3 0 j a))
      (fun a => lt (ix2 0 a)) (fun a => dlt (ix2 0 a)) j e := by
  pointwise [dkH, k0_pay191]
  simp only [dstH_apply]
  rfl

def dvH : FVec Ideal S256x64 .bf16 := k0_pay192 (truncf .bf16 (ptH i q kp kc bt lt) bitsLt_bf16_f32) d

theorem dvH_apply (j : Fin 256) (e : Fin 64) : dvH i q d kp kc bt lt (ix2 j e)
    = DV (i 1).val (mat q) (mat d) (cat (mat kp) (mat kc)) (fun a j => bt (ix3 0 j a)) (fun a => lt (ix2 0 a)) j e := by
  pointwise [dvH, k0_pay192]
  simp only [ptH_apply]
  rfl

end head

end Cert.AttnIdeal.Value
-- ==== Proof.AttnPiece.lean ====
/- The pieces of one point of the attention gradient. -/
module

public import proofs.«01_k».proof.Proof.AttnHead

@[expose] public section

set_option maxRecDepth 16384

noncomputable section

open Idealize.ShloMosaic Idealize.ShloMosaic.TcCoe Idealize.SL.Sem

namespace Cert.AttnIdeal.Value

open Cert.AttnIdeal Cert.AttnIdeal.Gen Cert.Attn

/-- A function of the head, the row and the lane, as a block of all heads. -/
def ofHeads (f : Fin 16 → Fin 128 → Fin 64 → EReal) (y : S128x1024.Idx) : EReal :=
  f ⟨(y 1).val / 64, by have := (y 1).isLt; simp at this; omega⟩ (y 0) ⟨(y 1).val % 64, by omega⟩

theorem ofHeads_eq (f : Fin 16 → Fin 128 → Fin 64 → EReal) (y : S128x1024.Idx) (x : S128x64.Idx) (h : Fin 16)
    (h0 : (y 0).val = (x 0).val) (h1 : (y 1).val = 64 * h.val + (x 1).val) (v : EReal) (hv : v = f h (x 0) (x 1)) :
    v = ofHeads f y := by
  have hx := (x 1).isLt
  simp at hx
  rw [hv]
  unfold ofHeads
  have e0 : (⟨(y 1).val / 64, by have := (y 1).isLt; simp at this; omega⟩ : Fin 16) = h := Fin.ext (by simp only []; omega)
  have e1 : y 0 = x 0 := Fin.ext h0
  have e2 : (⟨(y 1).val % 64, by omega⟩ : Fin 64) = x 1 := Fin.ext (by simp only []; omega)
  rw [e0, e1, e2]

section pieces

variable (i : grid0.Coords) (x0 x1 x2 x3 x4 x7 : Vec Ideal S128x1024 .bf16) (x5 : Vec Ideal S16x128x256 .f32)
  (x6 : Vec Ideal S16x256x128 .f32) (x8 x9 : Vec Ideal S128x128 .f32)

/-- The columns of a head, from `o`. -/
abbrev cols (x : Vec Ideal S128x1024 .bf16) (o : ℕ) (hb : ∀ a, (![0, o] : Fin 2 → ℕ) a + S128x64.size a ≤ S128x1024.size a) :
    Vec Ideal S128x64 .bf16 := View.ld (Val := Elt Ideal) x (Rect.unit ![0, o] S128x64.size hb)

theorem mat_cols (x : Vec Ideal S128x1024 .bf16) (o : ℕ) (h : Fin 16) (ho : o = 64 * h.val) (hb) : mat (cols x o hb) = head x h := by
  subst ho
  funext a e
  refine View.ld_unit_apply_of (Val := Elt Ideal) x _ _ _ _ _ ?_
  intro b
  match b with
  | ⟨0, _⟩ => simp [ix2]
  | ⟨1, _⟩ => simp [ix2]

/-- The column of head `h`. -/
def col (x : Vec Ideal S128x128 .f32) (h : ℕ) (hb : ∀ a, (![0, h] : Fin 2 → ℕ) a + S128x1.size a ≤ S128x128.size a) :
    Vec Ideal S128x1 .f32 := View.ld (Val := Elt Ideal) x (Rect.unit ![0, h] S128x1.size hb)

theorem col_apply (x : Vec Ideal S128x128 .f32) (h : Fin 16) (hb) (a : Fin 128) :
    col x h.val hb (ix2 a 0) = x (ix2 a ⟨h.val, by omega⟩) := by
  refine View.ld_unit_apply_of (Val := Elt Ideal) x _ _ _ _ _ ?_
  intro b
  match b with
  | ⟨0, _⟩ => simp [ix2]
  | ⟨1, _⟩ => simp [ix2]

/-- The row of head `h` of the transposed block. -/
abbrev row (x : Vec Ideal S128x128 .f32) (h : ℕ) (hb : ∀ a, (![0, 0] : Fin 2 → ℕ) a + S128x128.size a ≤ S128x128.size a)
    (hs : S128x128.Slices ![h, 0] S1x128) : FVec Ideal S1x128 .f32 :=
  extractStridedSlice S1x128 ![h, 0] (k0_pay4 (F := Ideal) (View.ld (Val := Elt Ideal) x (Rect.unit ![0, 0] S128x128.size hb))) hs

theorem row_apply (x : Vec Ideal S128x128 .f32) (h : Fin 16) (hb hs) (a : Fin 128) :
    row x h.val hb hs (ix2 0 a) = x (ix2 a ⟨h.val, by omega⟩) := by
  pointwise [k0_pay4]

/-- The bias of head `h`. -/
def bias (x : Vec Ideal S16x128x256 .f32) (h : ℕ)
    (hb : ∀ a, (![h, 0, 0] : Fin 3 → ℕ) a + S1x128x256.size a ≤ S16x128x256.size a) :
    Vec Ideal S1x128x256 .f32 := View.ld (Val := Elt Ideal) x (Rect.unit ![h, 0, 0] S1x128x256.size hb)

theorem bias_apply (x : Vec Ideal S16x128x256 .f32) (h : Fin 16) (hb) (a : Fin 128) (j : Fin 256) :
    bias x h.val hb (ix3 0 a j) = x (ix3 h a j) := by
  refine View.ld_unit_apply_of (Val := Elt Ideal) x _ _ _ _ _ ?_
  intro b
  match b with
  | ⟨0, _⟩ => simp [ix3]
  | ⟨1, _⟩ => simp [ix3]
  | ⟨2, _⟩ => simp [ix3]

/-- The transposed bias of head `h`. -/
def bias_t (x : Vec Ideal S16x256x128 .f32) (h : ℕ)
    (hb : ∀ a, (![h, 0, 0] : Fin 3 → ℕ) a + S1x256x128.size a ≤ S16x256x128.size a) :
    Vec Ideal S1x256x128 .f32 := View.ld (Val := Elt Ideal) x (Rect.unit ![h, 0, 0] S1x256x128.size hb)

theorem bias_t_apply (x : Vec Ideal S16x256x128 .f32) (h : Fin 16) (hb) (j : Fin 256) (a : Fin 128) :
    bias_t x h.val hb (ix3 0 j a) = x (ix3 h j a) := by
  refine View.ld_unit_apply_of (Val := Elt Ideal) x _ _ _ _ _ ?_
  intro b
  match b with
  | ⟨0, _⟩ => simp [ix3]
  | ⟨1, _⟩ => simp [ix3]
  | ⟨2, _⟩ => simp [ix3]

/-- The row statistics of head `h`. -/
abbrev stat (x : Vec Ideal S128x128 .f32) (h : Fin 16) (a : Fin 128) : EReal := x (ix2 a ⟨h.val, by omega⟩)

theorem dq_piece (o h : ℕ) (x : S128x64.Idx) (y : S128x1024.Idx) (ho : o = 64 * h) (hh : h < 16)
    (h0 : (y 0).val = (x 0).val) (h1 : (y 1).val = o + (x 1).val)
    (hb : ∀ a, (![0, o] : Fin 2 → ℕ) a + S128x64.size a ≤ S128x1024.size a)
    (hc : ∀ a, (![0, h] : Fin 2 → ℕ) a + S128x1.size a ≤ S128x128.size a)
    (hd : ∀ a, (![h, 0, 0] : Fin 3 → ℕ) a + S1x128x256.size a ≤ S16x128x256.size a) :
    dqH i (cols x0 o hb) (cols x7 o hb) (cols x1 o hb) (cols x2 o hb) (cols x3 o hb) (cols x4 o hb)
      (bias x5 h hd) (col x8 h hc) (col x9 h hc) x
    = ofHeads (fun h => DQ (i 1).val (head x0 h) (head x7 h) (cat (head x1 h) (head x2 h)) (cat (head x3 h) (head x4 h))
      (fun a j => x5 (ix3 h a j)) (stat x8 h) (stat x9 h)) y := by
  obtain ⟨h, rfl⟩ : ∃ k : Fin 16, h = k.val := ⟨⟨h, hh⟩, rfl⟩
  refine ofHeads_eq _ y x h h0 (by omega) _ ?_
  obtain ⟨a, e, rfl⟩ : ∃ a e, x = ix2 a e := ⟨x 0, x 1, (ix2_eta x).symm⟩
  rw [dqH_apply]
  simp only [mat_cols _ o h ho, bias_apply, col_apply]
  rfl

/-- The upper half of the rows of a block pair. -/
theorem lo_apply (w : FVec Ideal S256x64 .bf16) (hs) (a : Fin 128) (e : Fin 64) :
    extractStridedSlice S128x64 ![0, 0] w hs (ix2 a e) = w (ix2 ⟨a.val, by omega⟩ e) := by
  pointwise []

/-- The lower half of the rows of a block pair. -/
theorem hi_apply (w : FVec Ideal S256x64 .bf16) (hs) (a : Fin 128) (e : Fin 64) :
    extractStridedSlice S128x64 ![128, 0] w hs (ix2 a e) = w (ix2 ⟨128 + a.val, by omega⟩ e) := by
  pointwise []

/-- The gradient of one head at the keys of both blocks, from whole blocks. -/
def dkB (h : Fin 16) (j : Fin 256) (e : Fin 64) : EReal :=
  DK (i 1).val (head x0 h) (head x7 h) (cat (head x1 h) (head x2 h)) (cat (head x3 h) (head x4 h))
      (fun a j => x6 (ix3 h j a)) (stat x8 h) (stat x9 h) j e

def dvB (h : Fin 16) (j : Fin 256) (e : Fin 64) : EReal :=
  DV (i 1).val (head x0 h) (head x7 h) (cat (head x1 h) (head x2 h)) (fun a j => x6 (ix3 h j a)) (stat x8 h) j e

section keys

variable (o h : ℕ) (x : S128x64.Idx) (y : S128x1024.Idx) (ho : o = 64 * h) (hh : h < 16)
    (h0 : (y 0).val = (x 0).val) (h1 : (y 1).val = o + (x 1).val)
    (hb : ∀ a, (![0, o] : Fin 2 → ℕ) a + S128x64.size a ≤ S128x1024.size a)
    (hc : ∀ a, (![0, 0] : Fin 2 → ℕ) a + S128x128.size a ≤ S128x128.size a) (hs : S128x128.Slices ![h, 0] S1x128)
    (hd : ∀ a, (![h, 0, 0] : Fin 3 → ℕ) a + S1x256x128.size a ≤ S16x256x128.size a)

include ho hh

theorem dk_head (j : Fin 256) (e : Fin 64) : dkH i (cols x0 o hb) (cols x7 o hb) (cols x1 o hb) (cols x2 o hb) (cols x3 o hb)
      (cols x4 o hb) (bias_t x6 h hd) (row x8 h hc hs) (row x9 h hc hs) (ix2 j e)
    = dkB i x0 x1 x2 x3 x4 x7 x6 x8 x9 ⟨h, hh⟩ j e := by
  obtain ⟨h, rfl⟩ : ∃ k : Fin 16, h = k.val := ⟨⟨h, hh⟩, rfl⟩
  rw [dkH_apply]
  simp only [mat_cols _ o h ho, bias_t_apply, row_apply]
  rfl

theorem dv_head (j : Fin 256) (e : Fin 64) : dvH i (cols x0 o hb) (cols x7 o hb) (cols x1 o hb) (cols x2 o hb)
      (bias_t x6 h hd) (row x8 h hc hs) (ix2 j e)
    = dvB i x0 x1 x2 x7 x6 x8 ⟨h, hh⟩ j e := by
  obtain ⟨h, rfl⟩ : ∃ k : Fin 16, h = k.val := ⟨⟨h, hh⟩, rfl⟩
  rw [dvH_apply]
  simp only [mat_cols _ o h ho, bias_t_apply, row_apply]
  rfl

include h0 h1

theorem dkp_piece (hz) : extractStridedSlice S128x64 ![0, 0] (dkH i (cols x0 o hb) (cols x7 o hb) (cols x1 o hb) (cols x2 o hb)
      (cols x3 o hb) (cols x4 o hb) (bias_t x6 h hd) (row x8 h hc hs) (row x9 h hc hs)) hz x
    = ofHeads (fun h a e => dkB i x0 x1 x2 x3 x4 x7 x6 x8 x9 h ⟨a.val, by omega⟩ e) y := by
  refine ofHeads_eq _ y x ⟨h, hh⟩ h0 (h1.trans (by rw [ho])) _ ?_
  obtain ⟨a, e, rfl⟩ : ∃ a e, x = ix2 a e := ⟨x 0, x 1, (ix2_eta x).symm⟩
  rw [lo_apply, dk_head i x0 x1 x2 x3 x4 x7 x6 x8 x9 o h ho hh]
  rfl

theorem dkc_piece (hz) : extractStridedSlice S128x64 ![128, 0] (dkH i (cols x0 o hb) (cols x7 o hb) (cols x1 o hb) (cols x2 o hb)
      (cols x3 o hb) (cols x4 o hb) (bias_t x6 h hd) (row x8 h hc hs) (row x9 h hc hs)) hz x
    = ofHeads (fun h a e => dkB i x0 x1 x2 x3 x4 x7 x6 x8 x9 h ⟨128 + a.val, by omega⟩ e) y := by
  refine ofHeads_eq _ y x ⟨h, hh⟩ h0 (h1.trans (by rw [ho])) _ ?_
  obtain ⟨a, e, rfl⟩ : ∃ a e, x = ix2 a e := ⟨x 0, x 1, (ix2_eta x).symm⟩
  rw [hi_apply, dk_head i x0 x1 x2 x3 x4 x7 x6 x8 x9 o h ho hh]
  rfl

theorem dvp_piece (hz) : extractStridedSlice S128x64 ![0, 0] (dvH i (cols x0 o hb) (cols x7 o hb) (cols x1 o hb) (cols x2 o hb)
      (bias_t x6 h hd) (row x8 h hc hs)) hz x
    = ofHeads (fun h a e => dvB i x0 x1 x2 x7 x6 x8 h ⟨a.val, by omega⟩ e) y := by
  refine ofHeads_eq _ y x ⟨h, hh⟩ h0 (h1.trans (by rw [ho])) _ ?_
  obtain ⟨a, e, rfl⟩ : ∃ a e, x = ix2 a e := ⟨x 0, x 1, (ix2_eta x).symm⟩
  rw [lo_apply, dv_head i x0 x1 x2 x7 x6 x8 o h ho hh]
  rfl

theorem dvc_piece (hz) : extractStridedSlice S128x64 ![128, 0] (dvH i (cols x0 o hb) (cols x7 o hb) (cols x1 o hb) (cols x2 o hb)
      (bias_t x6 h hd) (row x8 h hc hs)) hz x
    = ofHeads (fun h a e => dvB i x0 x1 x2 x7 x6 x8 h ⟨128 + a.val, by omega⟩ e) y := by
  refine ofHeads_eq _ y x ⟨h, hh⟩ h0 (h1.trans (by rw [ho])) _ ?_
  obtain ⟨a, e, rfl⟩ : ∃ a e, x = ix2 a e := ⟨x 0, x 1, (ix2_eta x).symm⟩
  rw [hi_apply, dv_head i x0 x1 x2 x7 x6 x8 o h ho hh]
  rfl

end keys

/-- The gradient at the bias: what stood there, and the block's own. -/
theorem db_piece (X : Vec Ideal S16x128x256 .f32) (o h : ℕ) (x : S1x128x256.Idx) (y : S16x128x256.Idx) (ho : o = 64 * h) (hh : h < 16)
    (h0 : (y 0).val = h + (x 0).val) (h1 : (y 1).val = (x 1).val) (h2 : (y 2).val = (x 2).val)
    (hb : ∀ a, (![0, o] : Fin 2 → ℕ) a + S128x64.size a ≤ S128x1024.size a)
    (hc : ∀ a, (![0, h] : Fin 2 → ℕ) a + S128x1.size a ≤ S128x128.size a)
    (hd : ∀ a, (![h, 0, 0] : Fin 3 → ℕ) a + S1x128x256.size a ≤ S16x128x256.size a) :
    k0_pay12 (F := Ideal) (addf (shapeCast S128x256 (bias X h hd) shapeCasts_S1x128x256_S128x256)
      (dsH i (cols x0 o hb) (cols x7 o hb) (cols x1 o hb) (cols x2 o hb) (cols x3 o hb) (cols x4 o hb)
        (bias x5 h hd) (col x8 h hc) (col x9 h hc))) x
    = X y + DS (i 1).val (head x0 (y 0)) (head x7 (y 0)) (cat (head x1 (y 0)) (head x2 (y 0))) (cat (head x3 (y 0)) (head x4 (y 0)))
      (fun a j => x5 (ix3 (y 0) a j)) (stat x8 (y 0)) (stat x9 (y 0)) (y 1) (y 2) := by
  obtain ⟨h, rfl⟩ : ∃ k : Fin 16, h = k.val := ⟨⟨h, hh⟩, rfl⟩
  idx_vars x
  idx_vars y
  obtain rfl : y0 = h := Fin.ext (by simpa [ix3] using h0)
  obtain rfl : y1 = x1 := Fin.ext (by simpa [ix3] using h1)
  obtain rfl : y2 = x2 := Fin.ext (by simpa [ix3] using h2)
  pointwise [k0_pay12]
  simp only [dsH_apply, mat_cols _ o _ ho, bias_apply, col_apply]

end pieces

end Cert.AttnIdeal.Value
-- ==== Proof.AttnBlock.lean ====
/- One point of the attention gradient. -/
module

public import proofs.«01_k».proof.Proof.AttnPiece

@[expose] public section

set_option maxRecDepth 16384

noncomputable section

open Idealize.ShloMosaic Idealize.ShloMosaic.TcCoe Idealize.SL.Sem

namespace Cert.AttnIdeal.Value

open Cert.AttnIdeal Cert.AttnIdeal.Gen Cert.Attn

variable (m : (ℓ : Loc nD τ sig) → Buf (Elt Ideal) ℓ)

set_option maxHeartbeats 4000000 in
theorem out_dq (c : Dev nD) (t : Fin cfg0.N) (y : S128x1024.Idx) :
    (outsAt0 m c t.val t.isLt).1 y = ofHeads (fun h => DQ (grid0.coords t 1).val (head (iblk m c 0 t) h) (head (iblk m c 7 t) h)
      (cat (head (iblk m c 1 t) h) (head (iblk m c 2 t) h)) (cat (head (iblk m c 3 t) h) (head (iblk m c 4 t) h))
      (fun a j => iblk m c 5 t (ix3 h a j)) (stat (iblk m c 8 t) h) (stat (iblk m c 9 t) h)) y := by
  generalize hv : ofHeads _ y = v
  by_cases h0 : t.val % 128 = 0
  · rw [outsAt0_A m c t h0]
    dsimp only
    frame_open
    rw [View.read_writes_junk_eq_canon]
    canon_tiles x h
    all_goals
      simp only [View.readAt_eq_ld, Memref.IsWhole.read_unread]
      subst hv
      exact dq_piece _ _ _ _ _ _ _ _ _ _ _ _ x y (by omega) (by omega) (by omega) (by omega) (by decide) (by decide) (by decide)
  · rw [outsAt0_B m c t h0]
    dsimp only
    frame_open
    rw [View.read_writes_junk_eq_canon]
    canon_tiles x h
    all_goals
      simp only [View.readAt_eq_ld, Memref.IsWhole.read_unread]
      subst hv
      exact dq_piece _ _ _ _ _ _ _ _ _ _ _ _ x y (by omega) (by omega) (by omega) (by omega) (by decide) (by decide) (by decide)

set_option maxHeartbeats 4000000 in
theorem out_dkc (c : Dev nD) (t : Fin cfg0.N) (y : S128x1024.Idx) :
    (outsAt0 m c t.val t.isLt).2.1 y = ofHeads (fun h a e => dkB (grid0.coords t) (iblk m c 0 t) (iblk m c 1 t) (iblk m c 2 t) (iblk m c 3 t) (iblk m c 4 t) (iblk m c 7 t) (iblk m c 6 t) (iblk m c 8 t) (iblk m c 9 t)
      h ⟨128 + a.val, by omega⟩ e) y := by
  generalize hv : ofHeads _ y = v
  by_cases h0 : t.val % 128 = 0
  · rw [outsAt0_A m c t h0]
    dsimp only
    frame_open
    rw [View.read_writes_junk_eq_canon]
    canon_tiles x h
    all_goals
      simp only [View.readAt_eq_ld, Memref.IsWhole.read_unread]
      subst hv
      exact dkc_piece _ _ _ _ _ _ _ _ _ _ _ _ x y (by omega) (by omega) (by omega) (by omega) (by decide) (by decide) (by decide) (by decide) (by decide)
  · rw [outsAt0_B m c t h0]
    dsimp only
    frame_open
    rw [View.read_writes_junk_eq_canon]
    canon_tiles x h
    all_goals
      simp only [View.readAt_eq_ld, Memref.IsWhole.read_unread]
      subst hv
      exact dkc_piece _ _ _ _ _ _ _ _ _ _ _ _ x y (by omega) (by omega) (by omega) (by omega) (by decide) (by decide) (by decide) (by decide) (by decide)

set_option maxHeartbeats 4000000 in
theorem out_dkp (c : Dev nD) (t : Fin cfg0.N) (y : S128x1024.Idx) :
    (outsAt0 m c t.val t.isLt).2.2.1 y = ofHeads (fun h a e => dkB (grid0.coords t) (iblk m c 0 t) (iblk m c 1 t) (iblk m c 2 t) (iblk m c 3 t) (iblk m c 4 t) (iblk m c 7 t) (iblk m c 6 t) (iblk m c 8 t) (iblk m c 9 t)
      h ⟨a.val, by omega⟩ e) y := by
  generalize hv : ofHeads _ y = v
  by_cases h0 : t.val % 128 = 0
  · rw [outsAt0_A m c t h0]
    dsimp only
    frame_open
    rw [View.read_writes_junk_eq_canon]
    canon_tiles x h
    all_goals
      simp only [View.readAt_eq_ld, Memref.IsWhole.read_unread]
      subst hv
      exact dkp_piece _ _ _ _ _ _ _ _ _ _ _ _ x y (by omega) (by omega) (by omega) (by omega) (by decide) (by decide) (by decide) (by decide) (by decide)
  · rw [outsAt0_B m c t h0]
    dsimp only
    frame_open
    rw [View.read_writes_junk_eq_canon]
    canon_tiles x h
    all_goals
      simp only [View.readAt_eq_ld, Memref.IsWhole.read_unread]
      subst hv
      exact dkp_piece _ _ _ _ _ _ _ _ _ _ _ _ x y (by omega) (by omega) (by omega) (by omega) (by decide) (by decide) (by decide) (by decide) (by decide)

set_option maxHeartbeats 4000000 in
theorem out_dvc (c : Dev nD) (t : Fin cfg0.N) (y : S128x1024.Idx) :
    (outsAt0 m c t.val t.isLt).2.2.2.1 y = ofHeads (fun h a e => dvB (grid0.coords t) (iblk m c 0 t) (iblk m c 1 t) (iblk m c 2 t) (iblk m c 7 t) (iblk m c 6 t) (iblk m c 8 t)
      h ⟨128 + a.val, by omega⟩ e) y := by
  generalize hv : ofHeads _ y = v
  by_cases h0 : t.val % 128 = 0
  · rw [outsAt0_A m c t h0]
    dsimp only
    frame_open
    rw [View.read_writes_junk_eq_canon]
    canon_tiles x h
    all_goals
      simp only [View.readAt_eq_ld, Memref.IsWhole.read_unread]
      subst hv
      exact dvc_piece _ _ _ _ _ _ _ _ _ x y (by omega) (by omega) (by omega) (by omega) (by decide) (by decide) (by decide) (by decide) (by decide)
  · rw [outsAt0_B m c t h0]
    dsimp only
    frame_open
    rw [View.read_writes_junk_eq_canon]
    canon_tiles x h
    all_goals
      simp only [View.readAt_eq_ld, Memref.IsWhole.read_unread]
      subst hv
      exact dvc_piece _ _ _ _ _ _ _ _ _ x y (by omega) (by omega) (by omega) (by omega) (by decide) (by decide) (by decide) (by decide) (by decide)

set_option maxHeartbeats 4000000 in
theorem out_dvp (c : Dev nD) (t : Fin cfg0.N) (y : S128x1024.Idx) :
    (outsAt0 m c t.val t.isLt).2.2.2.2.1 y = ofHeads (fun h a e => dvB (grid0.coords t) (iblk m c 0 t) (iblk m c 1 t) (iblk m c 2 t) (iblk m c 7 t) (iblk m c 6 t) (iblk m c 8 t)
      h ⟨a.val, by omega⟩ e) y := by
  generalize hv : ofHeads _ y = v
  by_cases h0 : t.val % 128 = 0
  · rw [outsAt0_A m c t h0]
    dsimp only
    frame_open
    rw [View.read_writes_junk_eq_canon]
    canon_tiles x h
    all_goals
      simp only [View.readAt_eq_ld, Memref.IsWhole.read_unread]
      subst hv
      exact dvp_piece _ _ _ _ _ _ _ _ _ x y (by omega) (by omega) (by omega) (by omega) (by decide) (by decide) (by decide) (by decide) (by decide)
  · rw [outsAt0_B m c t h0]
    dsimp only
    frame_open
    rw [View.read_writes_junk_eq_canon]
    canon_tiles x h
    all_goals
      simp only [View.readAt_eq_ld, Memref.IsWhole.read_unread]
      subst hv
      exact dvp_piece _ _ _ _ _ _ _ _ _ x y (by omega) (by omega) (by omega) (by omega) (by decide) (by decide) (by decide) (by decide) (by decide)

/-- What a point adds to the bias's gradient. -/
def dbB (c : Dev nD) (t : Fin cfg0.N) (y : S16x128x256.Idx) : EReal :=
  DS (grid0.coords t 1).val (head (iblk m c 0 t) (y 0)) (head (iblk m c 7 t) (y 0))
      (cat (head (iblk m c 1 t) (y 0)) (head (iblk m c 2 t) (y 0))) (cat (head (iblk m c 3 t) (y 0)) (head (iblk m c 4 t) (y 0)))
      (fun a j => iblk m c 5 t (ix3 (y 0) a j)) (stat (iblk m c 8 t) (y 0)) (stat (iblk m c 9 t) (y 0)) (y 1) (y 2)

set_option maxHeartbeats 4000000 in
theorem out_db (c : Dev nD) (t : Fin cfg0.N) (h0 : ¬t.val % 128 = 0) (y : S16x128x256.Idx) :
    (outsAt0 m c t.val t.isLt).2.2.2.2.2 y
      = (outsAt0 m c (t.val - 1) (Nat.lt_of_le_of_lt (Nat.sub_le _ _) t.isLt)).2.2.2.2.2 y + dbB m c t y := by
  generalize hv : (outsAt0 m c (t.val - 1) (Nat.lt_of_le_of_lt (Nat.sub_le _ _) t.isLt)).2.2.2.2.2 y + dbB m c t y = v
  rw [outsAt0_B m c t h0]
  dsimp only
  frame_open
  simp (disch := decide) only [↓ View.readCov_skip, ↓ View.readCov_cons_toLoadRect, ↓ View.readCov_fill]
  rw [View.read_writes_junk_eq_canon]
  canon_tiles x h
  all_goals
    simp only [View.readAt_eq_ld, Memref.IsWhole.read_unread]
    subst hv
    exact db_piece _ _ _ _ _ _ _ _ _ _ _ _ _ x y (by omega) (by omega) (by omega) (by omega) (by omega) (by decide) (by decide) (by decide)

end Cert.AttnIdeal.Value
-- ==== Proof.AttnFirst.lean ====
/- The first point of the attention gradient's grid, which clears the bias's gradient. -/
module

public import proofs.«01_k».proof.Proof.AttnBlock

@[expose] public section

set_option maxRecDepth 16384

noncomputable section

open Idealize.ShloMosaic Idealize.ShloMosaic.TcCoe Idealize.SL.Sem

namespace Cert.AttnIdeal.Value

open Cert.AttnIdeal Cert.AttnIdeal.Gen Cert.Attn

variable (m : (ℓ : Loc nD τ sig) → Buf (Elt Ideal) ℓ)

theorem clear (y : S16x128x256.Idx) : k0_pay1 (F := Ideal) y = 0 := by
  idx_vars y
  pointwise [k0_pay1]

set_option maxHeartbeats 4000000 in
theorem out_db_first (c : Dev nD) (t : Fin cfg0.N) (h0 : t.val % 128 = 0) (y : S16x128x256.Idx) :
    (outsAt0 m c t.val t.isLt).2.2.2.2.2 y = k0_pay1 (F := Ideal) y + dbB m c t y := by
  generalize hG : (fun y => k0_pay1 (F := Ideal) y + dbB m c t y) = G
  show _ = (fun y => k0_pay1 (F := Ideal) y + dbB m c t y) y
  rw [hG]
  rw [outsAt0_A m c t h0]
  dsimp only
  frame_open
  simp (disch := decide) only [↓ View.readCov_skip, ↓ View.readCov_cons_toLoadRect, ↓ View.readCov_fill]
  rw [View.read_writes_junk_eq_canon]
  refine View.canon_append_of_piecesOf (Val := Elt Ideal) (e := .f32) G [_] [_, _, _, _, _, _, _, _, _, _, _, _, _, _, _, _]
    ⟨?_, ?_, ?_, ?_, ?_, ?_, ?_, ?_, ?_, ?_, ?_, ?_, ?_, ?_, ?_, ?_, trivial⟩ y ?_
  rotate_left 16
  · exact View.cover_of_tiledL (s := S16x128x256) _ S1x128x256.size (by sl_kernel_rfl) y
  all_goals
    intro x
    simp only [View.readAt_eq_ld, Memref.IsWhole.read_unread]
    subst hG
    exact db_piece _ _ _ _ _ _ _ _ _ _ _ _ _ x _ (by rfl) (by decide) (by simp) (by simp) (by simp) (by decide) (by decide) (by decide)

end Cert.AttnIdeal.Value
-- ==== Proof.AttnSoft.lean ====
/- One row of the attention's forward and backward softmax, stated step by step, and the closed form of its gradient at finite operands. -/
module

public import proofs.«01_k».proof.Proof.AttnMath

@[expose] public section

set_option maxRecDepth 16384

noncomputable section

open Idealize.ShloMosaic Idealize.ShloMosaic.TcCoe Idealize.SL.Sem

namespace Cert.Attn.Soft

variable (s ind : Fin 256 → EReal) (V : Fin 256 → Fin 64 → EReal) (d : Fin 64 → EReal) (g : EReal)

/-- The greatest score of the row. -/
def mx : EReal := Finset.univ.sup s

def p (j : Fin 256) : EReal := Ideal.exp (s j - mx s)

def l : EReal := ∑ j, p s j

/-- The weighted sum of the values before it is divided by the weights' sum. -/
def nu (e : Fin 64) : EReal := ∑ j, p s j * V j e

def o (e : Fin 64) : EReal := Ideal.div (nu s V e) (l s)

def lse : EReal := mx s + Ideal.log (l s)

/-- What the row's scores share in their gradient. -/
def dl : EReal := (∑ e, d e * o s V e) - g

def inner : EReal := Ideal.div g (l s) + -(∑ e, d e * Ideal.div 1 (l s * l s) * nu s V e)

def dp (j : Fin 256) : EReal := (∑ e, Ideal.div (d e) (l s) * V j e) + inner s V d g

def pull (j : Fin 256) : EReal := dp s V d g j * p s j

/-- The gradient at the greatest score. -/
def dm : EReal := g + ∑ j, -(pull s V d g j)

def ds (j : Fin 256) : EReal := pull s V d g j + Ideal.div (dm s V d g) (∑ k, ind k) * ind j

/-- A row of scores: each is finite or masked, and one is finite. -/
def Row : Prop := (∃ j, ∃ r : ℝ, s j = (r : EReal)) ∧ ∀ j, s j = ⊥ ∨ ∃ r : ℝ, s j = (r : EReal)

theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem div_real (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

theorem zero_div {c : EReal} (hc : c ≠ 0) : Ideal.div 0 c = 0 := by
  unfold Ideal.div; rw [if_neg hc, zero_mul]

theorem exists_mx : ∃ j, s j = mx s := by
  obtain ⟨j, -, h⟩ := Finset.exists_mem_eq_sup Finset.univ ⟨0, Finset.mem_univ _⟩ s
  exact ⟨j, h.symm⟩

theorem mx_real (h : Row s) : ∃ μ : ℝ, mx s = (μ : EReal) := by
  obtain ⟨⟨j0, r0, h0⟩, h⟩ := h
  obtain ⟨j, hj⟩ := exists_mx s
  rcases h j with hb | ⟨r, hr⟩
  · exfalso
    have : s j0 ≤ mx s := Finset.le_sup (f := s) (Finset.mem_univ j0)
    rw [← hj, hb, h0] at this
    exact absurd (le_bot_iff.mp this) (EReal.coe_ne_bot r0)
  · exact ⟨r, hj ▸ hr⟩

/-- The weights and their sum are finite, the sum is above zero, and the saved log gives the weight over the sum. -/
theorem weights (h : Row s) : ∃ (ρ : Fin 256 → ℝ) (w : ℝ), 0 < w ∧ (∑ j, ρ j) = w ∧ (∀ j, p s j = (ρ j : EReal)) ∧ l s = (w : EReal)
    ∧ ∀ j, Ideal.exp (s j - lse s) = ((ρ j / w : ℝ) : EReal) := by
  obtain ⟨μ, hμ⟩ := mx_real s h
  obtain ⟨⟨j0, r0, h0⟩, h⟩ := h
  have hp : ∀ j, ∃ r : ℝ, 0 ≤ r ∧ p s j = (r : EReal) := fun j => by
    unfold p
    rcases h j with hb | ⟨r, hr⟩
    · exact ⟨0, le_refl _, by rw [hb, hμ, EReal.bot_sub]; rfl⟩
    · exact ⟨Real.exp (r - μ), (Real.exp_pos _).le, by rw [hr, hμ, ← EReal.coe_sub]; rfl⟩
  choose ρ hρ0 hρ using hp
  have hl : l s = ((∑ j, ρ j : ℝ) : EReal) := by
    unfold l; rw [coe_sum]; exact Finset.sum_congr rfl fun j _ => hρ j
  have h0' : 0 < ρ j0 := by
    have : p s j0 = ((Real.exp (r0 - μ) : ℝ) : EReal) := by unfold p; rw [h0, hμ, ← EReal.coe_sub]; rfl
    rw [hρ j0] at this
    rw [EReal.coe_injective this]; exact Real.exp_pos _
  have hw : 0 < ∑ j, ρ j := lt_of_lt_of_le h0' (Finset.single_le_sum (fun j _ => hρ0 j) (Finset.mem_univ j0))
  refine ⟨ρ, ∑ j, ρ j, hw, rfl, hρ, hl, fun j => ?_⟩
  have hlse : lse s = ((μ + Real.log (∑ j, ρ j) : ℝ) : EReal) := by
    unfold lse; rw [hμ, hl, EReal.coe_add]
    refine congrArg _ ?_
    show (if (∑ j, ρ j) ≤ 0 then (⊥ : EReal) else _) = _
    rw [if_neg (not_le.mpr hw)]
  rcases h j with hb | ⟨r, hr⟩
  · have : ρ j = 0 := by
      have : p s j = 0 := by unfold p; rw [hb, hμ, EReal.bot_sub]; rfl
      rw [hρ j] at this; exact_mod_cast this
    rw [hb, hlse, EReal.bot_sub, this, _root_.zero_div]; rfl
  · have : ρ j = Real.exp (r - μ) := by
      have : p s j = ((Real.exp (r - μ) : ℝ) : EReal) := by unfold p; rw [hr, hμ, ← EReal.coe_sub]; rfl
      rw [hρ j] at this; exact EReal.coe_injective this
    rw [hr, hlse, ← EReal.coe_sub, this]
    show ((Real.exp _ : ℝ) : EReal) = _
    rw [← sub_sub, Real.exp_sub, Real.exp_log hw]

/-- A weight of the values' gradient: divided before the product or after it. -/
theorem weight_mul (h : Row s) (a : ℝ) (j : Fin 256) : Ideal.div (a : EReal) (l s) * p s j = Ideal.exp (s j - lse s) * (a : EReal) := by
  obtain ⟨ρ, w, hw, hs, hp, hl, he⟩ := weights s h
  rw [he, hp, hl, div_real _ _ hw.ne', ← EReal.coe_mul, ← EReal.coe_mul]
  exact congrArg _ (by ring)

variable {s V d g}

/-- The step-by-step gradient at the scores is the weight times the value product less the shared part. -/
theorem ds_eq (h : Row s) (hV : ∀ j e, ∃ r : ℝ, V j e = (r : EReal)) (hd : ∀ e, ∃ r : ℝ, d e = (r : EReal)) (hg : ∃ r : ℝ, g = (r : EReal))
    (hi : (∑ k, ind k) ≠ 0) (j : Fin 256) : ds s ind V d g j = Ideal.exp (s j - lse s) * (∑ e, d e * V j e - dl s V d g) := by
  obtain ⟨ρ, w, hw, hs, hp, hl, he⟩ := weights s h
  choose v hv using hV
  choose a ha using hd
  obtain ⟨c, rfl⟩ := hg
  have hnu : ∀ e, nu s V e = ((∑ j, ρ j * v j e : ℝ) : EReal) := fun e => by
    unfold nu; simp only [hp, hv, coe_sum, EReal.coe_mul]
  have ho : ∀ e, o s V e = (((∑ j, ρ j * v j e) / w : ℝ) : EReal) := fun e => by unfold o; rw [hnu, hl, div_real _ _ hw.ne']
  have hdl : dl s V d c = (((∑ e, a e * ((∑ j, ρ j * v j e) / w)) - c : ℝ) : EReal) := by
    unfold dl; simp only [ho, ha, coe_sum, EReal.coe_mul, EReal.coe_sub]
  have hin : inner s V d c = ((c / w + -(∑ e, a e * (1 / (w * w)) * (∑ j, ρ j * v j e)) : ℝ) : EReal) := by
    unfold inner
    rw [hl, ← EReal.coe_mul, show (1 : EReal) = ((1 : ℝ) : EReal) from rfl, div_real _ _ (mul_pos hw hw).ne', div_real _ _ hw.ne']
    simp only [hnu, ha, coe_sum, EReal.coe_mul, EReal.coe_add, EReal.coe_neg]
  have hpull : ∀ j, pull s V d c j = (((ρ j / w) * ((∑ e, a e * v j e) - ((∑ e, a e * ((∑ j, ρ j * v j e) / w)) - c)) : ℝ) : EReal) := fun j => by
    have : pull s V d c j = ((((∑ e, a e / w * v j e) + (c / w + -(∑ e, a e * (1 / (w * w)) * (∑ j, ρ j * v j e)))) * ρ j : ℝ) : EReal) := by
      unfold pull dp
      rw [hin, hp, hl]
      simp only [ha, hv, div_real _ _ hw.ne', coe_sum, EReal.coe_mul, EReal.coe_add]
    rw [this]
    refine congrArg _ ?_
    have h1 : (∑ e, a e / w * v j e) = (∑ e, a e * v j e) / w := by rw [Finset.sum_div]; exact Finset.sum_congr rfl fun e _ => by ring
    have h2 : (∑ e, a e * (1 / (w * w)) * (∑ j, ρ j * v j e)) = (∑ e, a e * ((∑ j, ρ j * v j e) / w)) / w := by
      rw [Finset.sum_div]; exact Finset.sum_congr rfl fun e _ => by field_simp
    rw [h1, h2]; ring
  have hdm : dm s V d c = 0 := by
    have : dm s V d c = ((c + ∑ j, -((ρ j / w) * ((∑ e, a e * v j e) - ((∑ e, a e * ((∑ j, ρ j * v j e) / w)) - c))) : ℝ) : EReal) := by
      unfold dm; simp only [hpull]
      rw [EReal.coe_add, coe_sum]
      exact congrArg _ (Finset.sum_congr rfl fun j _ => (EReal.coe_neg _).symm)
    rw [this]
    refine (congrArg (fun x : ℝ => (x : EReal)) ?_).trans EReal.coe_zero
    have h1 : (∑ j, (ρ j / w) * (∑ e, a e * v j e)) = ∑ e, a e * ((∑ j, ρ j * v j e) / w) := by
      simp only [Finset.mul_sum, Finset.sum_div]
      rw [Finset.sum_comm]
      exact Finset.sum_congr rfl fun e _ => Finset.sum_congr rfl fun j _ => by ring
    have h2 : (∑ j, ρ j / w) = 1 := by rw [← Finset.sum_div, hs, div_self hw.ne']
    rw [Finset.sum_neg_distrib]
    have h3 : ∀ T : ℝ, (∑ j, (ρ j / w) * ((∑ e, a e * v j e) - T)) = (∑ e, a e * ((∑ j, ρ j * v j e) / w)) - T := fun T => by
      simp only [mul_sub]
      rw [Finset.sum_sub_distrib, h1, ← Finset.sum_mul, h2, one_mul]
    rw [h3]; ring
  unfold ds
  rw [hdm, zero_div hi, zero_mul, add_zero, hpull, he, hdl]
  simp only [ha, hv, ← EReal.coe_mul, ← coe_sum, ← EReal.coe_sub]

end Cert.Attn.Soft
-- ==== Proof.AttnRef.lean ====
/- The reference's attention gradient, read one value at a time for one head of one block. -/
module

public import proofs.«01_k».proof.Proof.Gen.AttnRefIdeal.Read
public import proofs.«01_k».proof.Proof.AttnHead
public import proofs.«01_k».proof.Proof.AttnSoft

@[expose] public section

set_option maxRecDepth 16384

noncomputable section

open Idealize.ShloMosaic Idealize.ShloMosaic.TcCoe Idealize.SL.Sem

namespace Cert.AttnRefIdeal.Val

open Cert.AttnRefIdeal Cert.AttnRefIdeal.Read Cert.Attn

theorem at3 {α : Type} {a b c : ℕ} (x : (⟨3, ![a, b, c]⟩ : Shape).Idx → α) (f : (⟨3, ![a, b, c]⟩ : Shape).Idx) (i : Fin a) (j : Fin b) (k : Fin c)
    (h0 : (f 0).val = i.val) (h1 : (f 1).val = j.val) (h2 : (f 2).val = k.val) : x f = x (ix3 i j k) :=
  congrArg x (funext fun q => match q with | ⟨0, _⟩ => Fin.ext h0 | ⟨1, _⟩ => Fin.ext h1 | ⟨2, _⟩ => Fin.ext h2)

theorem at4 {α : Type} {a b c d : ℕ} (x : (⟨4, ![a, b, c, d]⟩ : Shape).Idx → α) (f : (⟨4, ![a, b, c, d]⟩ : Shape).Idx) (i : Fin a) (j : Fin b) (k : Fin c)
    (l : Fin d) (h0 : (f 0).val = i.val) (h1 : (f 1).val = j.val) (h2 : (f 2).val = k.val) (h3 : (f 3).val = l.val) : x f = x (ix4 i j k l) :=
  congrArg x (funext fun q => match q with | ⟨0, _⟩ => Fin.ext h0 | ⟨1, _⟩ => Fin.ext h1 | ⟨2, _⟩ => Fin.ext h2 | ⟨3, _⟩ => Fin.ext h3)

theorem at5 {α : Type} {a b c d e : ℕ} (x : (⟨5, ![a, b, c, d, e]⟩ : Shape).Idx → α) (f : (⟨5, ![a, b, c, d, e]⟩ : Shape).Idx) (i : Fin a) (j : Fin b)
    (k : Fin c) (l : Fin d) (m : Fin e) (h0 : (f 0).val = i.val) (h1 : (f 1).val = j.val) (h2 : (f 2).val = k.val) (h3 : (f 3).val = l.val)
    (h4 : (f 4).val = m.val) : x f = x (ix5 i j k l m) :=
  congrArg x (funext fun q => match q with
    | ⟨0, _⟩ => Fin.ext h0 | ⟨1, _⟩ => Fin.ext h1 | ⟨2, _⟩ => Fin.ext h2 | ⟨3, _⟩ => Fin.ext h3 | ⟨4, _⟩ => Fin.ext h4)

variable (x0 x1 x2 : S16384x16x64.Idx → EReal) (x3 : S16x128x256.Idx → EReal) (x4 : S16384x16x64.Idx → EReal) (x5 : S16384x16.Idx → EReal)
variable (n : Fin 8) (r h : Fin 16)

/-- Row `i` of residue `r` of block `n`, one head. -/
def tok (x : S16384x16x64.Idx → EReal) (i : Fin 128) (e : Fin 64) : EReal := x (ix3 ⟨(n.val * 128 + i.val) * 16 + r.val, by omega⟩ h e)

def tok1 (x : S16384x16.Idx → EReal) (i : Fin 128) : EReal := x (ix2 ⟨(n.val * 128 + i.val) * 16 + r.val, by omega⟩ h)

/-- The block before, and zeros before the first. -/
def prev (x : S16384x16x64.Idx → EReal) (i : Fin 128) (e : Fin 64) : EReal := if n.val = 0 then 0 else tok ⟨n.val - 1, by omega⟩ r h x i e

def two (x : S16384x16x64.Idx → EReal) : Fin 256 → Fin 64 → EReal := cat (prev n r h x) (tok n r h x)

def bi (i : Fin 128) (j : Fin 256) : EReal := x3 (ix3 h i j)

theorem v1_at (i : Fin 128) (e : Fin 64) : val_main_v1 (F := Ideal) x0 (ix5 n i r h e) = tok n r h x0 i e := by
  rw [val_main_v1_apply, val_main_v0_apply]
  exact at3 x0 _ _ _ _ (by show ((((n.val * 128 + i.val) * 16 + r.val) * 16 + h.val) * 64 + e.val) / 1024 = (n.val * 128 + i.val) * 16 + r.val; omega)
    (by show ((((n.val * 128 + i.val) * 16 + r.val) * 16 + h.val) * 64 + e.val) / 64 % 16 = h.val; omega)
    (by show ((((n.val * 128 + i.val) * 16 + r.val) * 16 + h.val) * 64 + e.val) % 64 = e.val; omega)

theorem v3_at (i : Fin 128) (e : Fin 64) : val_main_v3 (F := Ideal) x1 (ix5 n i r h e) = tok n r h x1 i e := v1_at x1 n r h i e
theorem v5_at (i : Fin 128) (e : Fin 64) : val_main_v5 (F := Ideal) x2 (ix5 n i r h e) = tok n r h x2 i e := v1_at x2 n r h i e
theorem v7_at (i : Fin 128) (e : Fin 64) : val_main_v7 (F := Ideal) x4 (ix5 n i r h e) = tok n r h x4 i e := v1_at x4 n r h i e

theorem v8_at (i : Fin 128) : val_main_v8 (F := Ideal) x5 (ix4 n i r h) = tok1 n r h x5 i := by
  rw [val_main_v8_apply]
  refine congrArg x5 (funext fun q => match q with | ⟨0, _⟩ => Fin.ext ?_ | ⟨1, _⟩ => Fin.ext ?_)
  · show (((n.val * 128 + i.val) * 16 + r.val) * 16 + h.val) / 16 = (n.val * 128 + i.val) * 16 + r.val; omega
  · show (((n.val * 128 + i.val) * 16 + r.val) * 16 + h.val) % 16 = h.val; omega

theorem v12_at (i : Fin 128) (e : Fin 64) : val_main_v12 (F := Ideal) x1 (ix5 n i r h e) = prev n r h x1 i e := by
  pointwise [val_main_v12]
  unfold prev
  by_cases hn : n.val = 0
  · rw [dif_pos (by simp [hn]), if_pos hn, val_main_v10_apply, val_main_cst_apply]
    simp [Ideal.ofBits, Ideal.ieee]
  · rw [dif_neg (by simp; omega), if_neg hn, val_main_v11_apply, ← v3_at]
    refine at5 _ _ _ _ _ _ _ ?_ ?_ ?_ ?_ ?_ <;> simp

theorem v16_at (i : Fin 128) (e : Fin 64) : val_main_v16 (F := Ideal) x2 (ix5 n i r h e) = prev n r h x2 i e := v12_at x2 n r h i e

theorem v17_at (j : Fin 256) (e : Fin 64) : val_main_v17 (F := Ideal) x1 (ix5 n j r h e) = two n r h x1 j e := by
  pointwise [val_main_v17]
  unfold two cat
  by_cases hj : j.val < 128
  · rw [dif_pos (by simpa using hj), dif_pos hj, ← v12_at]
  · rw [dif_neg (by simpa using hj), dif_neg hj, ← v3_at]

theorem v18_at (j : Fin 256) (e : Fin 64) : val_main_v18 (F := Ideal) x2 (ix5 n j r h e) = two n r h x2 j e := v17_at x2 n r h j e

theorem gap_word (a b : ℕ) (ha : a < 128) (hb : b < 256) :
    (IntOp.subi (IntOp.addi 128#32 (BitVec.ofNat 32 a)) (BitVec.ofNat 32 b)).toInt = 128 + (a : ℤ) - b := by
  have e : ∀ c : ℕ, c < 256 → (BitVec.ofNat 32 c).toInt = c := fun c hc => by
    rw [BitVec.toInt_eq_toNat_of_lt (by simp; omega)]; simp; omega
  have e1 : (128#32 : BitVec 32).toInt = 128 := rfl
  simp only [IntOp.subi, IntOp.addi, BitVec.toInt_sub, BitVec.toInt_add, e a (by omega), e b hb, e1, Int.bmod_def]
  omega

theorem v36_at (i : Fin 128) (j : Fin 256) : val_main_v36 (F := Ideal) (ix5 n 0 0 i j) = if band n.val i j then 1#1 else 0#1 := by
  simp only [val_main_v36_apply, val_main_v35_apply, val_main_v34_apply, val_main_v33_apply, val_main_v32_apply, val_main_c_4_apply, val_main_v31_apply,
    val_main_v30_apply, val_main_c_3_apply, val_main_v29_apply, val_main_v28_apply, val_main_v27_apply, val_main_c_2_apply, val_main_v26_apply,
    val_main_v25_apply, val_main_c_1_apply, val_main_v24_apply, val_main_v23_apply, val_main_v22_apply, val_main_c_apply, val_main_v21_apply,
    val_main_v20_apply, val_main_v19_apply]
  show IntOp.andi (IntOp.andi (IntOp.cmpi .sge (IntOp.subi (IntOp.addi 128#32 (BitVec.ofNat 32 i.val)) (BitVec.ofNat 32 j.val)) 0#32)
    (IntOp.cmpi .sle (IntOp.subi (IntOp.addi 128#32 (BitVec.ofNat 32 i.val)) (BitVec.ofNat 32 j.val)) 128#32))
    (~~~(IntOp.andi (IntOp.cmpi .eq (BitVec.ofNat 32 n.val) 0#32) (IntOp.cmpi .slt (BitVec.ofNat 32 j.val) 128#32))) = _
  have g := gap_word i.val j.val i.isLt j.isLt
  generalize IntOp.subi (IntOp.addi 128#32 (BitVec.ofNat 32 i.val)) (BitVec.ofNat 32 j.val) = w at g
  have h1 : (0#32 : BitVec 32).sle w = decide (j.val ≤ i.val + 128) := by
    rw [Bool.eq_iff_iff, BitVec.sle_iff_toInt_le, g, decide_eq_true_eq]; simp; omega
  have h2 : w.sle 128#32 = decide (i.val ≤ j.val) := by
    rw [Bool.eq_iff_iff, BitVec.sle_iff_toInt_le, g, decide_eq_true_eq]; simp
  have h3 : (BitVec.ofNat 32 j.val).slt 128#32 = decide (j.val < 128) := AttnIdeal.Value.slt_word _ _ (by omega) (by omega)
  have h4 : (BitVec.ofNat 32 n.val == 0#32) = decide (n.val = 0) := by
    rw [Bool.eq_iff_iff, beq_iff_eq, decide_eq_true_eq]
    constructor
    · intro h; have := congrArg BitVec.toNat h; simp at this <;> omega
    · intro h; simp [h]
  simp only [IntOp.cmpi, h1, h2, h3, h4]
  unfold band
  by_cases c1 : i.val ≤ j.val <;> by_cases c2 : j.val ≤ i.val + 128 <;> rcases Nat.lt_or_ge j.val 128 with c3 | c3 <;>
    by_cases c4 : n.val = 0 <;> simp [c1, c2, c3, c4, not_lt.mpr, not_le.mpr, IntOp.andi, Nat.pos_iff_ne_zero]

theorem v42_at (i : Fin 128) (j : Fin 256) : val_main_v42 (F := Ideal) x0 x1 x3 (ix5 n r h i j)
    = (∑ e, tok n r h x0 i e * two n r h x1 j e) * sc + bi x3 h i j := by
  rw [val_main_v42_apply, val_main_v39_apply, val_main_v37_apply, val_main_v38_apply, val_main_cst_5_apply, val_main_v41_apply, val_main_v40_apply]
  refine congrArg₂ (· + ·) (congrArg (· * sc) (Finset.sum_congr rfl fun e _ => congrArg₂ (· * ·) ?_ ?_)) ?_
  · rw [← v1_at]; exact at5 _ _ _ _ _ _ _ rfl rfl rfl rfl rfl
  · rw [← v17_at]; exact at5 _ _ _ _ _ _ _ rfl rfl rfl rfl rfl
  · exact at3 _ _ _ _ _ rfl rfl rfl

/-- The scores of one row. -/
abbrev row (i : Fin 128) : Fin 256 → EReal := S n.val (tok n r h x0) (two n r h x1) (bi x3 h) i

theorem v43_at (i : Fin 128) (j : Fin 256) : val_main_v43_0 (F := Ideal) x0 x1 x3 (ix5 n r h i j) = row x0 x1 x3 n r h i j := by
  rw [val_main_v43_0_apply, val_main_v43_1_apply, v42_at, at5 (val_main_v36 (F := Ideal)) _ n 0 0 i j rfl rfl rfl rfl rfl, v36_at, AttnIdeal.Value.sel]
  unfold row S
  refine if_congr Iff.rfl rfl ?_
  rw [val_main_call0_v2_apply, val_main_call0_v0_apply, val_main_cst_6_apply]
  exact AttnIdeal.Value.bot

theorem zero_word : (FloatOps.ofBits .f32 0x00000000#32 : Ideal .f32) = (0 : EReal) := by
  show Ideal.ofBits .f32 0#32 = 0
  simp [Ideal.ofBits, Ideal.ieee]

theorem one_word : (FloatOps.ofBits .f32 0x3F800000#32 : Ideal .f32) = (1 : EReal) := by
  show Ideal.ofBits .f32 0x3F800000#32 = 1
  simp [Ideal.ofBits, Ideal.ieee]
  norm_cast
  norm_num

theorem v44_at (i : Fin 128) : val_main_v44 (F := Ideal) x0 x1 x3 (ix4 n r h i) = Soft.mx (row x0 x1 x3 n r h i) := by
  unfold val_main_v44
  rw [Host.reduce_eq_fold_single (FloatOps.maximumf (F := Ideal) (φ := .f32)) _ _ _ (h := by decide), val_main_cst_7_apply, show (FloatOps.ofBits .f32 0xFF800000#32 : Ideal .f32) = (⊥ : EReal) from AttnIdeal.Value.bot]
  refine (congrArg (Finset.fold _ _ · _) (funext fun j => ?_)).trans rfl
  exact (at5 (val_main_v43_0 (F := Ideal) x0 x1 x3) _ n r h i j rfl rfl rfl rfl rfl).trans (v43_at x0 x1 x3 n r h i j)

theorem v50_at (i : Fin 128) : val_main_v50 (F := Ideal) x0 x1 x3 (ix5 n r h i 0) = Soft.mx (row x0 x1 x3 n r h i) := by
  rw [val_main_v50_apply, ← v44_at]; exact at4 _ _ _ _ _ _ rfl rfl rfl rfl

theorem v53_at (i : Fin 128) (j : Fin 256) : val_main_v53 (F := Ideal) x0 x1 x3 (ix5 n r h i j) = Soft.p (row x0 x1 x3 n r h i) j := by
  rw [val_main_v53_apply, val_main_v52_apply, v43_at, val_main_v51_apply, at5 (val_main_v50 (F := Ideal) x0 x1 x3) _ n r h i 0 rfl rfl rfl rfl rfl, v50_at]
  rfl

theorem v54_at (i : Fin 128) : val_main_v54 (F := Ideal) x0 x1 x3 (ix4 n r h i) = Soft.l (row x0 x1 x3 n r h i) := by
  rw [val_main_v54_apply, val_main_cst_9_apply, zero_word, zero_add]
  refine Finset.sum_congr rfl fun j _ => ?_
  rw [← v53_at]; exact at5 _ _ _ _ _ _ _ rfl rfl rfl rfl rfl

theorem v55_at (i : Fin 128) (e : Fin 64) : val_main_v55 (F := Ideal) x0 x1 x2 x3 (ix5 n r h i e) = Soft.nu (row x0 x1 x3 n r h i) (two n r h x2) e := by
  rw [val_main_v55_apply]
  refine Finset.sum_congr rfl fun j _ => congrArg₂ (· * ·) ?_ ?_
  · rw [← v53_at]; exact at5 _ _ _ _ _ _ _ rfl rfl rfl rfl rfl
  · rw [← v18_at]; exact at5 _ _ _ _ _ _ _ rfl rfl rfl rfl rfl

theorem v56_at (i : Fin 128) : val_main_v56 (F := Ideal) x0 x1 x3 (ix5 n r h i 0) = Soft.l (row x0 x1 x3 n r h i) := by
  rw [val_main_v56_apply, ← v54_at]; exact at4 _ _ _ _ _ _ rfl rfl rfl rfl

theorem v58_at (i : Fin 128) (e : Fin 64) : val_main_v58 (F := Ideal) x0 x1 x2 x3 (ix5 n r h i e) = Soft.o (row x0 x1 x3 n r h i) (two n r h x2) e := by
  rw [val_main_v58_apply, v55_at, val_main_v57_apply, at5 (val_main_v56 (F := Ideal) x0 x1 x3) _ n r h i 0 rfl rfl rfl rfl rfl, v56_at]; rfl

theorem v65_at (i : Fin 128) (e : Fin 64) : val_main_v65 (F := Ideal) x0 x1 x2 x3 (ix5 n i r h e) = Soft.o (row x0 x1 x3 n r h i) (two n r h x2) e := by
  rw [val_main_v65_apply, ← v58_at]; exact at5 _ _ _ _ _ _ _ rfl rfl rfl rfl rfl

theorem v64_at (i : Fin 128) : val_main_v64 (F := Ideal) x0 x1 x3 (ix4 n r h i) = Soft.lse (row x0 x1 x3 n r h i) := by
  rw [val_main_v64_apply, val_main_v63_apply, v54_at, val_main_v62_apply, at5 (val_main_v50 (F := Ideal) x0 x1 x3) _ n r h i 0, v50_at]
  · rfl
  all_goals simp; try omega

theorem v66_at (i : Fin 128) : val_main_v66 (F := Ideal) x0 x1 x3 (ix4 n i r h) = Soft.lse (row x0 x1 x3 n r h i) := by
  rw [val_main_v66_apply, ← v64_at]; exact at4 _ _ _ _ _ _ rfl rfl rfl rfl

theorem v67_at (i : Fin 128) : val_main_v67 (F := Ideal) x5 (ix4 n r h i) = tok1 n r h x5 i := by
  rw [val_main_v67_apply, ← v8_at]; exact at4 _ _ _ _ _ _ rfl rfl rfl rfl

theorem v68_at (i : Fin 128) (e : Fin 64) : val_main_v68 (F := Ideal) x4 (ix5 n r h i e) = tok n r h x4 i e := by
  rw [val_main_v68_apply, ← v7_at]; exact at5 _ _ _ _ _ _ _ rfl rfl rfl rfl rfl

theorem v74_at (i : Fin 128) : val_main_v74 (F := Ideal) x0 x1 x2 x3 x4 (ix4 n r h i)
    = ∑ e, tok n r h x4 i e * Ideal.div 1 (Soft.l (row x0 x1 x3 n r h i) * Soft.l (row x0 x1 x3 n r h i)) * Soft.nu (row x0 x1 x3 n r h i) (two n r h x2) e := by
  rw [val_main_v74_apply, val_main_cst_11_apply, zero_word, zero_add]
  refine Finset.sum_congr rfl fun e _ => ?_
  rw [at5 (val_main_v73 (F := Ideal) x0 x1 x2 x3 x4) _ n r h i e rfl rfl rfl rfl rfl, val_main_v73_apply, val_main_v72_apply, v68_at, v55_at, val_main_v71_apply,
    at5 (val_main_v61 (F := Ideal) x0 x1 x3) _ n r h i 0 rfl rfl rfl rfl rfl, val_main_v61_apply, val_main_v60_apply, val_main_cst_10_apply, one_word,
    val_main_v59_apply, v56_at]
  rfl

theorem v80_at (i : Fin 128) : val_main_v80 (F := Ideal) x0 x1 x2 x3 x4 x5 (ix4 n r h i)
    = Soft.inner (row x0 x1 x3 n r h i) (two n r h x2) (tok n r h x4 i) (tok1 n r h x5 i) := by
  rw [val_main_v80_apply, val_main_v69_apply, v67_at, v54_at, val_main_v79_apply, val_main_cst_12_apply, zero_word, zero_add, Fin.sum_univ_one,
    at5 (val_main_v76 (F := Ideal) x0 x1 x2 x3 x4) _ n r h i 0 rfl rfl rfl rfl rfl, val_main_v76_apply, val_main_v75_apply, at4 (val_main_v74 (F := Ideal) x0 x1 x2 x3 x4) _ n r h i, v74_at]
  · rfl
  all_goals simp; try omega

theorem v78_at (i : Fin 128) (e : Fin 64) : val_main_v78 (F := Ideal) x0 x1 x3 x4 (ix5 n r h i e)
    = Ideal.div (tok n r h x4 i e) (Soft.l (row x0 x1 x3 n r h i)) := by
  rw [val_main_v78_apply, v68_at, val_main_v77_apply, at5 (val_main_v56 (F := Ideal) x0 x1 x3) _ n r h i 0 rfl rfl rfl rfl rfl, v56_at]; rfl

theorem v86_at (i : Fin 128) (j : Fin 256) : val_main_v86 (F := Ideal) x0 x1 x2 x3 x4 x5 (ix5 n r h i j)
    = Soft.pull (row x0 x1 x3 n r h i) (two n r h x2) (tok n r h x4 i) (tok1 n r h x5 i) j := by
  rw [val_main_v86_apply, v53_at, val_main_v85_apply, val_main_v84_apply, at4 (val_main_v80 (F := Ideal) x0 x1 x2 x3 x4 x5) _ n r h i rfl rfl rfl rfl, v80_at, val_main_v83_apply]
  refine congrArg (fun u : EReal => (u + _) * _) (Finset.sum_congr rfl fun e _ => congrArg₂ (· * ·) ?_ ?_)
  · rw [← v78_at]; exact at5 _ _ _ _ _ _ _ rfl rfl rfl rfl rfl
  · rw [← v18_at]; exact at5 _ _ _ _ _ _ _ rfl rfl rfl rfl rfl

theorem v88_at (i : Fin 128) : val_main_v88 (F := Ideal) x0 x1 x2 x3 x4 x5 (ix4 n r h i)
    = ∑ j, -(Soft.pull (row x0 x1 x3 n r h i) (two n r h x2) (tok n r h x4 i) (tok1 n r h x5 i) j) := by
  rw [val_main_v88_apply, val_main_cst_13_apply, zero_word, zero_add]
  refine Finset.sum_congr rfl fun j _ => ?_
  rw [at5 (val_main_v87 (F := Ideal) x0 x1 x2 x3 x4 x5) _ n r h i j rfl rfl rfl rfl rfl, val_main_v87_apply, v86_at]; rfl

theorem v91_at (i : Fin 128) : val_main_v91 (F := Ideal) x0 x1 x2 x3 x4 x5 (ix4 n r h i)
    = Soft.dm (row x0 x1 x3 n r h i) (two n r h x2) (tok n r h x4 i) (tok1 n r h x5 i) := by
  rw [val_main_v91_apply, val_main_cst_14_apply, zero_word, zero_add, Fin.sum_univ_one, at5 (val_main_v90 (F := Ideal) x0 x1 x2 x3 x4 x5) _ n r h i 0 rfl rfl rfl rfl rfl,
    val_main_v90_apply, val_main_v70_apply, at4 (val_main_v67 (F := Ideal) x5) _ n r h i rfl rfl rfl rfl, v67_at, val_main_v89_apply,
    at4 (val_main_v88 (F := Ideal) x0 x1 x2 x3 x4 x5) _ n r h i, v88_at]
  · rfl
  all_goals simp; try omega

/-- Whether a score is its row's greatest, as zero or one. -/
def ind (i : Fin 128) (j : Fin 256) : EReal := val_main_v48 (F := Ideal) x0 x1 x3 (ix5 n r h i j)

theorem v49_at (i : Fin 128) : val_main_v49 (F := Ideal) x0 x1 x3 (ix4 n r h i) = ∑ j, ind x0 x1 x3 n r h i j := by
  rw [val_main_v49_apply, val_main_cst_8_apply, zero_word, zero_add]
  exact Finset.sum_congr rfl fun j _ => at5 _ _ _ _ _ _ _ rfl rfl rfl rfl rfl

theorem ind_eq (i : Fin 128) (j : Fin 256) : ind x0 x1 x3 n r h i j = if row x0 x1 x3 n r h i j = Soft.mx (row x0 x1 x3 n r h i) then 1 else 0 := by
  unfold ind
  rw [val_main_v48_apply, val_main_v47_apply, v43_at, val_main_v46_apply, at5 (val_main_v45 (F := Ideal) x0 x1 x3) _ n r h i 0 rfl rfl rfl rfl rfl, val_main_v45_apply,
    at4 (val_main_v44 (F := Ideal) x0 x1 x3) _ n r h i, v44_at]
  · show (((BitVec.ofBool (decide (row x0 x1 x3 n r h i j = Soft.mx (row x0 x1 x3 n r h i)))).toNat : ℝ) : EReal) = _
    split <;> simp [*]
  all_goals simp; try omega

theorem count_ne (i : Fin 128) : (∑ j, ind x0 x1 x3 n r h i j) ≠ 0 := by
  obtain ⟨j, hj⟩ := Soft.exists_mx (row x0 x1 x3 n r h i)
  have h0 : ∀ j ∈ Finset.univ, 0 ≤ ind x0 x1 x3 n r h i j := fun j _ => by rw [ind_eq]; split <;> simp
  have := Finset.single_le_sum h0 (Finset.mem_univ j)
  rw [ind_eq, if_pos hj] at this
  exact (lt_of_lt_of_le zero_lt_one this).ne'

theorem v95_at (i : Fin 128) (j : Fin 256) : val_main_v95 (F := Ideal) x0 x1 x2 x3 x4 x5 (ix5 n r h i j)
    = Soft.ds (row x0 x1 x3 n r h i) (ind x0 x1 x3 n r h i) (two n r h x2) (tok n r h x4 i) (tok1 n r h x5 i) j := by
  rw [val_main_v95_apply, v86_at, val_main_v94_apply, val_main_v93_apply, at4 (val_main_v92 (F := Ideal) x0 x1 x2 x3 x4 x5) _ n r h i rfl rfl rfl rfl, val_main_v92_apply,
    v91_at, v49_at]
  rfl

theorem v43_1_at (i : Fin 128) (j : Fin 256) : val_main_v43_1 (F := Ideal) (ix5 n r h i j) = if band n.val i j then 1#1 else 0#1 := by
  rw [val_main_v43_1_apply, at5 (val_main_v36 (F := Ideal)) _ n 0 0 i j rfl rfl rfl rfl rfl, v36_at]

/-- Every element is a finite number. -/
def Finite {t : Shape} (x : t.Idx → EReal) : Prop := ∀ i, ∃ r : ℝ, x i = (r : EReal)

theorem two_real {x : S16384x16x64.Idx → EReal} (hx : Finite x) (j : Fin 256) (e : Fin 64) : ∃ r' : ℝ, two n r h x j e = (r' : EReal) := by
  unfold two cat prev tok
  split
  · split
    · exact ⟨0, rfl⟩
    · exact hx _
  · exact hx _

theorem sc_real : ∃ r : ℝ, sc = (r : EReal) := by
  unfold sc
  refine ⟨1 / 8, ?_⟩
  simp [Ideal.ofBits, Ideal.ieee]
  norm_cast
  norm_num

theorem row_ok (h0 : Finite x0) (h1 : Finite x1) (h3 : Finite x3) (i : Fin 128) : Soft.Row (row x0 x1 x3 n r h i) := by
  have hr : ∀ j, ∃ t : ℝ, (∑ e, tok n r h x0 i e * two n r h x1 j e) * sc + bi x3 h i j = (t : EReal) := fun j => by
    obtain ⟨c, hc⟩ := sc_real
    have hq : ∀ e, ∃ t : ℝ, tok n r h x0 i e = (t : EReal) := fun e => h0 _
    choose q hq using hq
    choose k hk using fun e => two_real n r h h1 j e
    obtain ⟨b, hb⟩ : ∃ t : ℝ, bi x3 h i j = (t : EReal) := h3 _
    exact ⟨(∑ e, q e * k e) * c + b, by simp only [hq, hk, hb, hc, EReal.coe_add, EReal.coe_mul, Soft.coe_sum]⟩
  refine ⟨⟨⟨i.val + 128, by omega⟩, ?_⟩, fun j => ?_⟩
  · unfold row S
    rw [if_pos (by unfold band; simp)]
    exact hr _
  · unfold row S
    split
    · exact Or.inr (hr _)
    · exact Or.inl rfl

/-- The saved log of the scores' sum. -/
def lse (i : Fin 128) : EReal := Soft.lse (row x0 x1 x3 n r h i)

/-- What a row's scores share in their gradient. -/
def dl (i : Fin 128) : EReal := Soft.dl (row x0 x1 x3 n r h i) (two n r h x2) (tok n r h x4 i) (tok1 n r h x5 i)

/-- The gradient at the scores of one head of one block. -/
abbrev dsc (i : Fin 128) (j : Fin 256) : EReal :=
  DS n.val (tok n r h x0) (tok n r h x4) (two n r h x1) (two n r h x2) (bi x3 h) (lse x0 x1 x3 n r h) (dl x0 x1 x2 x3 x4 x5 n r h) i j

variable {x0 x1 x2 x3 x4 x5}

theorem v96_at (h0 : Finite x0) (h1 : Finite x1) (h2 : Finite x2) (h3 : Finite x3) (h4 : Finite x4) (h5 : Finite x5) (i : Fin 128) (j : Fin 256) :
    val_main_v96 (F := Ideal) x0 x1 x2 x3 x4 x5 (ix5 n r h i j) = dsc x0 x1 x2 x3 x4 x5 n r h i j := by
  rw [val_main_v96_apply, v43_1_at, v95_at, AttnIdeal.Value.sel, val_main_call1_v0_apply, val_main_call1_cst_apply, zero_word,
    Soft.ds_eq (V := two n r h x2) (d := tok n r h x4 i) (g := tok1 n r h x5 i) _ (row_ok x0 x1 x3 n r h h0 h1 h3 i) (two_real n r h h2) (fun e => h4 _) (h5 _) (count_ne x0 x1 x3 n r h i) j]
  split
  · rfl
  · next hb =>
    unfold dsc DS P S
    rw [if_neg hb, EReal.bot_sub, show Ideal.exp ⊥ = 0 from rfl, zero_mul]

theorem dq_at (h0 : Finite x0) (h1 : Finite x1) (h2 : Finite x2) (h3 : Finite x3) (h4 : Finite x4) (h5 : Finite x5) (i : Fin 128) (e : Fin 64) :
    val_main_v105 (F := Ideal) x0 x1 x2 x3 x4 x5 (ix5 n i r h e) = ∑ j, dsc x0 x1 x2 x3 x4 x5 n r h i j * sc * two n r h x1 j e := by
  rw [val_main_v105_apply, val_main_v104_apply]
  refine Finset.sum_congr rfl fun j _ => congrArg₂ (· * ·) ?_ ?_
  · rw [← v96_at n r h h0 h1 h2 h3 h4 h5, at5 (val_main_v101 (F := Ideal) x0 x1 x2 x3 x4 x5) _ n r h i j rfl rfl rfl rfl rfl, val_main_v101_apply,
      val_main_v100_apply, val_main_cst_17_apply]; rfl
  · rw [← v17_at]; exact at5 _ _ _ _ _ _ _ rfl rfl rfl rfl rfl

theorem dk_at (h0 : Finite x0) (h1 : Finite x1) (h2 : Finite x2) (h3 : Finite x3) (h4 : Finite x4) (h5 : Finite x5) (j : Fin 256) (e : Fin 64) :
    val_main_v103 (F := Ideal) x0 x1 x2 x3 x4 x5 (ix5 n j r h e) = ∑ i, dsc x0 x1 x2 x3 x4 x5 n r h i j * sc * tok n r h x0 i e := by
  rw [val_main_v103_apply, val_main_v102_apply]
  refine Finset.sum_congr rfl fun i _ => congrArg₂ (· * ·) ?_ ?_
  · rw [← v96_at n r h h0 h1 h2 h3 h4 h5, at5 (val_main_v101 (F := Ideal) x0 x1 x2 x3 x4 x5) _ n r h i j rfl rfl rfl rfl rfl, val_main_v101_apply,
      val_main_v100_apply, val_main_cst_17_apply]; rfl
  · rw [← v1_at]; exact at5 _ _ _ _ _ _ _ rfl rfl rfl rfl rfl

theorem dv_at (h0 : Finite x0) (h1 : Finite x1) (h3 : Finite x3) (h4 : Finite x4) (j : Fin 256) (e : Fin 64) :
    val_main_v82 (F := Ideal) x0 x1 x3 x4 (ix5 n j r h e)
      = ∑ i, P n.val (tok n r h x0) (two n r h x1) (bi x3 h) (lse x0 x1 x3 n r h) i j * tok n r h x4 i e := by
  rw [val_main_v82_apply, val_main_v81_apply]
  refine Finset.sum_congr rfl fun i _ => ?_
  obtain ⟨a, ha⟩ : ∃ t : ℝ, tok n r h x4 i e = (t : EReal) := h4 _
  rw [at5 (val_main_v78 (F := Ideal) x0 x1 x3 x4) _ n r h i e rfl rfl rfl rfl rfl, at5 (val_main_v53 (F := Ideal) x0 x1 x3) _ n r h i j rfl rfl rfl rfl rfl,
    v78_at, v53_at, ha, Soft.weight_mul _ (row_ok x0 x1 x3 n r h h0 h1 h3 i)]
  rfl

end Cert.AttnRefIdeal.Val
-- ==== Proof.AttnEntry.lean ====
/- What the attention gradient's call is given, read from the arguments. -/
module

public import proofs.«01_k».proof.Proof.AttnFirst
public import proofs.«01_k».proof.Proof.AttnRef
public import Idealize.ShloMosaic.Lib.StableHlo.ReadAt

@[expose] public section

set_option maxRecDepth 16384

noncomputable section

open Idealize.ShloMosaic Idealize.ShloMosaic.TcCoe Idealize.SL.Sem

namespace Cert.AttnIdeal.Value

open Cert.AttnIdeal Cert.AttnIdeal.Gen Cert.Attn
open Cert.AttnRefIdeal.Val (tok tok1)

variable (m : (ℓ : Loc nD τ sig) → Buf (Elt Ideal) ℓ)

abbrev arg0 (c : Dev nD) : FVec Ideal S16384x16x64 .bf16 := m (c.tc.loc main_arg0)
abbrev arg1 (c : Dev nD) : FVec Ideal S16384x16x64 .bf16 := m (c.tc.loc main_arg1)
abbrev arg2 (c : Dev nD) : FVec Ideal S16384x16x64 .bf16 := m (c.tc.loc main_arg2)
abbrev arg3 (c : Dev nD) : FVec Ideal S16x128x256 .f32 := m (c.tc.loc main_arg3)
abbrev arg4 (c : Dev nD) : FVec Ideal S16384x16x64 .bf16 := m (c.tc.loc main_arg4)
abbrev arg5 (c : Dev nD) : FVec Ideal S16384x16 .f32 := m (c.tc.loc main_arg5)

theorem idx : ∀ t : Fin cfg0.N, t.val < 128 ∧ win0_0.index t = ![t.val % 8, t.val / 8] ∧ win0_1.index t = ![t.val % 8 - 1, t.val / 8]
    ∧ win0_2.index t = ![t.val % 8, t.val / 8] ∧ win0_3.index t = ![t.val % 8 - 1, t.val / 8]
    ∧ win0_4.index t = ![t.val % 8, t.val / 8] ∧ win0_5.index t = ![0, 0, 0] ∧ win0_6.index t = ![0, 0, 0]
    ∧ win0_7.index t = ![t.val % 8, t.val / 8] ∧ win0_8.index t = ![t.val % 8, t.val / 8] ∧ win0_9.index t = ![t.val % 8, t.val / 8]
    ∧ win0_10.index t = ![t.val % 8, t.val / 8] ∧ win0_11.index t = ![t.val % 8, t.val / 8] ∧ win0_12.index t = ![t.val % 8, t.val / 8]
    ∧ win0_13.index t = ![t.val % 8, t.val / 8] ∧ win0_14.index t = ![t.val % 8, t.val / 8] ∧ win0_15.index t = ![0, 0, 0] :=
  (by decide +kernel : ∀ t : Fin grid0.N, _)

theorem wide (x : S16384x16x64.Idx → EReal) (n : Fin 8) (r h : Fin 16) (i : Fin 128) (e : Fin 64) (k : S1024x16384.Idx)
    (h0 : (k 0).val = 128 * n.val + i.val) (h1 : (k 1).val = 1024 * r.val + 64 * h.val + e.val) (hs : S16384x16x64.ShapeCasts S1024x16384) :
    shapeCast S1024x16384 x hs k = tok n r h x i e := by
  refine shapeCast_apply x hs k (ix3 ⟨(n.val * 128 + i.val) * 16 + r.val, by omega⟩ h e) ?_
  rewrite [Shape.rowMajor_val_three, Shape.rowMajor_val_two]
  show (((n.val * 128 + i.val) * 16 + r.val) * 16 + h.val) * 64 + e.val = (k 0).val * 16384 + (k 1).val
  omega

theorem narrow (x : S8x128x16x16.Idx → EReal) (z : S8x128x16x112.Idx → EReal) (n : Fin 8) (r h : Fin 16) (i : Fin 128) (k : S1024x2048.Idx)
    (h0 : (k 0).val = 128 * n.val + i.val) (h1 : (k 1).val = 128 * r.val + h.val) :
    shapeCast S1024x2048 (concatenate S8x128x16x128 3 [⟨S8x128x16x16, x⟩, ⟨S8x128x16x112, z⟩] concatenates_S8x128x16x16_S8x128x16x112_S8x128x16x128_d3)
      shapeCasts_S8x128x16x128_S1024x2048 k = x (ix4 n i r h) := by
  refine (shapeCast_apply _ shapeCasts_S8x128x16x128_S1024x2048 k (ix4 n i r ⟨h.val, by omega⟩) ?_).trans ?_
  · rewrite [Shape.rowMajor_val_four, Shape.rowMajor_val_two]
    show ((n.val * 128 + i.val) * 16 + r.val) * 128 + h.val = (k 0).val * 2048 + (k 1).val
    omega
  · pointwise

theorem entry62 (c : Dev nD) : V m c main_v62 = shapeCast S1024x16384 (arg0 m c) shapeCasts_S16384x16x64_S1024x16384 := by
  unfold V
  after_reads_simp
  rfl

theorem entry72 (c : Dev nD) (h : Fin 16) (i : Fin 128) (j : Fin 256) : V m c main_v72 (ix3 h j i) = arg3 m c (ix3 h i j) := by
  unfold V
  after_reads_at

theorem r7 (c : Dev nD) : StableHlo.upto [hostOps0, hostOps0_1, hostOps0_2].flatten (fun b => m (c, b)) 10 (Proc.tc.devRef main_v7) = AttnRefIdeal.Read.val_main_v10 (F := Ideal) := by
  after_reads_simp; rfl
theorem r8 (c : Dev nD) : StableHlo.upto [hostOps0, hostOps0_1, hostOps0_2].flatten (fun b => m (c, b)) 10 (Proc.tc.devRef main_v8) = AttnRefIdeal.Read.val_main_v11 (F := Ideal) (arg1 m c) := by
  after_reads_simp; rfl
theorem r3 (c : Dev nD) : StableHlo.upto [hostOps0, hostOps0_1, hostOps0_2].flatten (fun b => m (c, b)) 16 (Proc.tc.devRef main_v3) = AttnRefIdeal.Read.val_main_v3 (F := Ideal) (arg1 m c) := by
  after_reads_simp; rfl
theorem r9 (c : Dev nD) : StableHlo.upto [hostOps0, hostOps0_1, hostOps0_2].flatten (fun b => m (c, b)) 16 (Proc.tc.devRef main_v9) = AttnRefIdeal.Read.val_main_v12 (F := Ideal) (arg1 m c) := by
  after_reads_simp
  rw [r7, r8]; rfl
theorem r11 (c : Dev nD) : StableHlo.upto [hostOps0, hostOps0_1, hostOps0_2].flatten (fun b => m (c, b)) 15 (Proc.tc.devRef main_v11) = AttnRefIdeal.Read.val_main_v14 (F := Ideal) := by
  after_reads_simp; rfl
theorem r12 (c : Dev nD) : StableHlo.upto [hostOps0, hostOps0_1, hostOps0_2].flatten (fun b => m (c, b)) 15 (Proc.tc.devRef main_v12) = AttnRefIdeal.Read.val_main_v15 (F := Ideal) (arg2 m c) := by
  after_reads_simp; rfl
theorem r5 (c : Dev nD) : StableHlo.upto [hostOps0, hostOps0_1, hostOps0_2].flatten (fun b => m (c, b)) 17 (Proc.tc.devRef main_v5) = AttnRefIdeal.Read.val_main_v5 (F := Ideal) (arg2 m c) := by
  after_reads_simp; rfl
theorem r13 (c : Dev nD) : StableHlo.upto [hostOps0, hostOps0_1, hostOps0_2].flatten (fun b => m (c, b)) 17 (Proc.tc.devRef main_v13) = AttnRefIdeal.Read.val_main_v16 (F := Ideal) (arg2 m c) := by
  after_reads_simp
  rw [r11, r12]; rfl

theorem r55 (c : Dev nD) : StableHlo.upto [hostOps0, hostOps0_1, hostOps0_2].flatten (fun b => m (c, b)) 83 (Proc.tc.devRef main_v55) = AttnRefIdeal.Read.val_main_v66 (F := Ideal) (arg0 m c) (arg1 m c) (arg3 m c) := by
  after_reads_simp
  rw [r9, r3]
  rfl

theorem r66 (c : Dev nD) : StableHlo.upto [hostOps0, hostOps0_1, hostOps0_2].flatten (fun b => m (c, b)) 83 (Proc.tc.devRef main_v66) = broadcastInDim S8x128x16x112 ![] bcast_S_S8x128x16x112 (constant (F := Ideal) S_ .f32 0x00000000#32) := by
  after_reads_simp

/-- The weighted output's row sum less the saved log's gradient. -/
def shared (c : Dev nD) : FVec Ideal S8x128x16x16 .f32 :=
  subf (Host.reduceAdd (mulf (AttnRefIdeal.Read.val_main_v7 (F := Ideal) (arg4 m c)) (AttnRefIdeal.Read.val_main_v65 (F := Ideal) (arg0 m c) (arg1 m c) (arg2 m c) (arg3 m c)))
    (constant (F := Ideal) S_ .f32 0x00000000#32) reducesTo_S8x128x16x16x64_S8x128x16x16_d4 h_S_) (AttnRefIdeal.Read.val_main_v8 (F := Ideal) (arg5 m c))

theorem r61 (c : Dev nD) : StableHlo.upto [hostOps0, hostOps0_1, hostOps0_2].flatten (fun b => m (c, b)) 87 (Proc.tc.devRef main_v61) = shared m c := by
  after_reads_simp
  rw [r9, r3, r13, r5]
  rfl

theorem r69 (c : Dev nD) : StableHlo.upto [hostOps0, hostOps0_1, hostOps0_2].flatten (fun b => m (c, b)) 87 (Proc.tc.devRef main_v69) = broadcastInDim S8x128x16x112 ![] bcast_S_S8x128x16x112 (constant (F := Ideal) S_ .f32 0x00000000#32) := by
  after_reads_simp

theorem entry63 (c : Dev nD) : V m c main_v63 = shapeCast S1024x16384 (arg1 m c) shapeCasts_S16384x16x64_S1024x16384 := by
  unfold V
  after_reads_simp
  rfl

theorem entry64 (c : Dev nD) : V m c main_v64 = shapeCast S1024x16384 (arg2 m c) shapeCasts_S16384x16x64_S1024x16384 := by
  unfold V
  after_reads_simp
  rfl

theorem entry65 (c : Dev nD) : V m c main_v65 = shapeCast S1024x16384 (arg4 m c) shapeCasts_S16384x16x64_S1024x16384 := by
  unfold V
  after_reads_simp
  rfl

theorem entry68 (c : Dev nD) (n : Fin 8) (r h : Fin 16) (i : Fin 128) (k : S1024x2048.Idx)
    (h0 : (k 0).val = 128 * n.val + i.val) (h1 : (k 1).val = 128 * r.val + h.val) :
    V m c main_v68 k = AttnRefIdeal.Val.lse (arg0 m c) (arg1 m c) (arg3 m c) n r h i := by
  unfold V
  after_reads_simp
  rw [r55, r66]
  exact (narrow _ _ n r h i k h0 h1).trans (AttnRefIdeal.Val.v66_at _ _ _ n r h i)

theorem shared_at (c : Dev nD) (n : Fin 8) (r h : Fin 16) (i : Fin 128) :
    shared m c (ix4 n i r h) = AttnRefIdeal.Val.dl (arg0 m c) (arg1 m c) (arg2 m c) (arg3 m c) (arg4 m c) (arg5 m c) n r h i := by
  pointwise [shared]
  simp only [AttnRefIdeal.Val.v7_at, AttnRefIdeal.Val.v65_at, AttnRefIdeal.Val.v8_at]
  rfl

theorem entry71 (c : Dev nD) (n : Fin 8) (r h : Fin 16) (i : Fin 128) (k : S1024x2048.Idx)
    (h0 : (k 0).val = 128 * n.val + i.val) (h1 : (k 1).val = 128 * r.val + h.val) :
    V m c main_v71 k = AttnRefIdeal.Val.dl (arg0 m c) (arg1 m c) (arg2 m c) (arg3 m c) (arg4 m c) (arg5 m c) n r h i := by
  unfold V
  after_reads_simp
  rw [r61, r69]
  exact (narrow _ _ n r h i k h0 h1).trans (shared_at m c n r h i)

theorem blk0 (c : Dev nD) (t : Fin cfg0.N) (n : Fin 8) (r h : Fin 16) (hn : t.val % 8 = n.val) (hr : t.val / 8 = r.val) (i : Fin 128) (e : Fin 64) :
    head (iblk m c 0 t) h i e = tok n r h (arg0 m c) i e := by
  have : head (iblk m c 0 t) h i e
      = V m c main_v62 (ix2 ⟨(t.val % 8) * 128 + i.val, by omega⟩ ⟨t.val / 8 * 1024 + (64 * h.val + e.val), by have := (idx t).1; omega⟩) := by
    unfold head
    blk_ext [iblk, idx t]
  rw [this, entry62]
  exact wide _ n r h i e _ (by show (t.val % 8) * 128 + i.val = _; omega) (by show t.val / 8 * 1024 + _ = _; omega) _

theorem blk1 (c : Dev nD) (t : Fin cfg0.N) (n : Fin 8) (r h : Fin 16) (hn : t.val % 8 - 1 = n.val) (hr : t.val / 8 = r.val) (i : Fin 128) (e : Fin 64) :
    head (iblk m c 1 t) h i e = tok n r h (arg1 m c) i e := by
  have : head (iblk m c 1 t) h i e
      = V m c main_v63 (ix2 ⟨(t.val % 8 - 1) * 128 + i.val, by omega⟩ ⟨t.val / 8 * 1024 + (64 * h.val + e.val), by have := (idx t).1; omega⟩) := by
    unfold head
    blk_ext [iblk, idx t]
  rw [this, entry63]
  exact wide _ n r h i e _ (by show (t.val % 8 - 1) * 128 + i.val = _; omega) (by show t.val / 8 * 1024 + _ = _; omega) _

theorem blk2 (c : Dev nD) (t : Fin cfg0.N) (n : Fin 8) (r h : Fin 16) (hn : t.val % 8 = n.val) (hr : t.val / 8 = r.val) (i : Fin 128) (e : Fin 64) :
    head (iblk m c 2 t) h i e = tok n r h (arg1 m c) i e := by
  have : head (iblk m c 2 t) h i e
      = V m c main_v63 (ix2 ⟨(t.val % 8) * 128 + i.val, by omega⟩ ⟨t.val / 8 * 1024 + (64 * h.val + e.val), by have := (idx t).1; omega⟩) := by
    unfold head
    blk_ext [iblk, idx t]
  rw [this, entry63]
  exact wide _ n r h i e _ (by show (t.val % 8) * 128 + i.val = _; omega) (by show t.val / 8 * 1024 + _ = _; omega) _

theorem blk3 (c : Dev nD) (t : Fin cfg0.N) (n : Fin 8) (r h : Fin 16) (hn : t.val % 8 - 1 = n.val) (hr : t.val / 8 = r.val) (i : Fin 128) (e : Fin 64) :
    head (iblk m c 3 t) h i e = tok n r h (arg2 m c) i e := by
  have : head (iblk m c 3 t) h i e
      = V m c main_v64 (ix2 ⟨(t.val % 8 - 1) * 128 + i.val, by omega⟩ ⟨t.val / 8 * 1024 + (64 * h.val + e.val), by have := (idx t).1; omega⟩) := by
    unfold head
    blk_ext [iblk, idx t]
  rw [this, entry64]
  exact wide _ n r h i e _ (by show (t.val % 8 - 1) * 128 + i.val = _; omega) (by show t.val / 8 * 1024 + _ = _; omega) _

theorem blk4 (c : Dev nD) (t : Fin cfg0.N) (n : Fin 8) (r h : Fin 16) (hn : t.val % 8 = n.val) (hr : t.val / 8 = r.val) (i : Fin 128) (e : Fin 64) :
    head (iblk m c 4 t) h i e = tok n r h (arg2 m c) i e := by
  have : head (iblk m c 4 t) h i e
      = V m c main_v64 (ix2 ⟨(t.val % 8) * 128 + i.val, by omega⟩ ⟨t.val / 8 * 1024 + (64 * h.val + e.val), by have := (idx t).1; omega⟩) := by
    unfold head
    blk_ext [iblk, idx t]
  rw [this, entry64]
  exact wide _ n r h i e _ (by show (t.val % 8) * 128 + i.val = _; omega) (by show t.val / 8 * 1024 + _ = _; omega) _

theorem blk7 (c : Dev nD) (t : Fin cfg0.N) (n : Fin 8) (r h : Fin 16) (hn : t.val % 8 = n.val) (hr : t.val / 8 = r.val) (i : Fin 128) (e : Fin 64) :
    head (iblk m c 7 t) h i e = tok n r h (arg4 m c) i e := by
  have : head (iblk m c 7 t) h i e
      = V m c main_v65 (ix2 ⟨(t.val % 8) * 128 + i.val, by omega⟩ ⟨t.val / 8 * 1024 + (64 * h.val + e.val), by have := (idx t).1; omega⟩) := by
    unfold head
    blk_ext [iblk, idx t]
  rw [this, entry65]
  exact wide _ n r h i e _ (by show (t.val % 8) * 128 + i.val = _; omega) (by show t.val / 8 * 1024 + _ = _; omega) _

theorem blk8 (c : Dev nD) (t : Fin cfg0.N) (n : Fin 8) (r h : Fin 16) (hn : t.val % 8 = n.val) (hr : t.val / 8 = r.val) (i : Fin 128) :
    stat (iblk m c 8 t) h i = AttnRefIdeal.Val.lse (arg0 m c) (arg1 m c) (arg3 m c) n r h i := by
  have : stat (iblk m c 8 t) h i
      = V m c main_v68 (ix2 ⟨t.val % 8 * 128 + i.val, by omega⟩ ⟨t.val / 8 * 128 + h.val, by have := (idx t).1; omega⟩) := by
    unfold stat
    blk_ext [iblk, idx t]
  rw [this]
  exact entry68 m c n r h i _ (by show t.val % 8 * 128 + i.val = _; omega) (by show t.val / 8 * 128 + _ = _; omega)

theorem blk9 (c : Dev nD) (t : Fin cfg0.N) (n : Fin 8) (r h : Fin 16) (hn : t.val % 8 = n.val) (hr : t.val / 8 = r.val) (i : Fin 128) :
    stat (iblk m c 9 t) h i = AttnRefIdeal.Val.dl (arg0 m c) (arg1 m c) (arg2 m c) (arg3 m c) (arg4 m c) (arg5 m c) n r h i := by
  have : stat (iblk m c 9 t) h i
      = V m c main_v71 (ix2 ⟨t.val % 8 * 128 + i.val, by omega⟩ ⟨t.val / 8 * 128 + h.val, by have := (idx t).1; omega⟩) := by
    unfold stat
    blk_ext [iblk, idx t]
  rw [this]
  exact entry71 m c n r h i _ (by show t.val % 8 * 128 + i.val = _; omega) (by show t.val / 8 * 128 + _ = _; omega)

theorem blk5 (c : Dev nD) (t : Fin cfg0.N) (h : Fin 16) (i : Fin 128) (j : Fin 256) : iblk m c 5 t (ix3 h i j) = AttnRefIdeal.Val.bi (arg3 m c) h i j := by
  blk_ext [iblk, V, idx t]

theorem blk6 (c : Dev nD) (t : Fin cfg0.N) (h : Fin 16) (i : Fin 128) (j : Fin 256) : iblk m c 6 t (ix3 h j i) = AttnRefIdeal.Val.bi (arg3 m c) h i j := by
  refine Eq.trans ?_ (entry72 m c h i j)
  blk_ext [iblk, idx t]

end Cert.AttnIdeal.Value
-- ==== Proof.AttnArrays.lean ====
/- The attention gradient's results are the reference's. -/
module

public import proofs.«01_k».proof.Proof.AttnEntry

@[expose] public section

set_option maxRecDepth 16384

noncomputable section

open Idealize.ShloMosaic Idealize.ShloMosaic.TcCoe Idealize.SL.Sem

namespace Cert.Attn

variable {n : ℕ} {Q D : Fin 128 → Fin 64 → EReal} {K V K' V' : Fin 256 → Fin 64 → EReal} {B : Fin 128 → Fin 256 → EReal} {L Dl : Fin 128 → EReal}

/-- Two lists of rows agree where a row of block `n` can look. -/
def Agree (n : ℕ) (K K' : Fin 256 → Fin 64 → EReal) : Prop := ∀ j e, (128 ≤ j.val ∨ 0 < n) → K j e = K' j e

theorem S_congr (h : Agree n K K') (i : Fin 128) (j : Fin 256) : S n Q K B i j = S n Q K' B i j := by
  unfold S
  by_cases hb : band n i j
  · rw [if_pos hb, if_pos hb]
    exact congrArg (· * sc + B i j) (Finset.sum_congr rfl fun e _ => congrArg (_ * ·) (h j e hb.2.2))
  · rw [if_neg hb, if_neg hb]

theorem P_congr (h : Agree n K K') (i : Fin 128) (j : Fin 256) : P n Q K B L i j = P n Q K' B L i j := by
  unfold P; rw [S_congr h]

theorem P_off (i : Fin 128) (j : Fin 256) (h : ¬band n i j) : P n Q K B L i j = 0 := by
  unfold P S; rw [if_neg h, EReal.bot_sub]; rfl

theorem DS_congr (h : Agree n K K') (h' : Agree n V V') (i : Fin 128) (j : Fin 256) : DS n Q D K V B L Dl i j = DS n Q D K' V' B L Dl i j := by
  unfold DS
  by_cases hb : band n i j
  · rw [P_congr h]
    exact congrArg (fun u => _ * (u - _)) (Finset.sum_congr rfl fun e _ => congrArg (_ * ·) (h' j e hb.2.2))
  · rw [P_off i j hb, P_off i j hb, zero_mul, zero_mul]

theorem DQ_congr (h : Agree n K K') (h' : Agree n V V') (i : Fin 128) (e : Fin 64) : DQ n Q D K V B L Dl i e = DQ n Q D K' V' B L Dl i e := by
  unfold DQ
  refine Finset.sum_congr rfl fun j _ => ?_
  rw [DS_congr h h']
  by_cases hb : band n i j
  · rw [h j e hb.2.2]
  · unfold DS; rw [P_off i j hb]; simp only [zero_mul]

theorem DK_congr (h : Agree n K K') (h' : Agree n V V') (j : Fin 256) (e : Fin 64) : DK n Q D K V B L Dl j e = DK n Q D K' V' B L Dl j e := by
  unfold DK
  exact Finset.sum_congr rfl fun i _ => by rw [DS_congr h h']

theorem DV_congr (h : Agree n K K') (j : Fin 256) (e : Fin 64) : DV n Q D K B L j e = DV n Q D K' B L j e := by
  unfold DV
  exact Finset.sum_congr rfl fun i _ => by rw [P_congr h]

end Cert.Attn

namespace Cert.AttnIdeal.Value

open Cert.AttnIdeal Cert.AttnIdeal.Gen Cert.Attn
open Cert.AttnRefIdeal.Val (tok tok1 prev two bi lse dl Finite)

variable (m : (ℓ : Loc nD τ sig) → Buf (Elt Ideal) ℓ)

theorem agree (x : S16384x16x64.Idx → EReal) (n : Fin 8) (r h : Fin 16) (a b : Fin 128 → Fin 64 → EReal)
    (ha : ∀ n' : Fin 8, n.val - 1 = n'.val → ∀ i e, a i e = tok n' r h x i e) (hb : ∀ i e, b i e = tok n r h x i e) :
    Agree n.val (cat a b) (two n r h x) := by
  intro j e hj
  unfold two cat
  split
  · unfold prev
    rw [if_neg (by omega)]
    exact ha _ rfl _ _
  · exact hb _ _

theorem coord : ∀ t : Fin grid0.N, (grid0.coords t 1).val = t.val % 8 := by decide +kernel

section point

variable (c : Dev nD) (t : Fin cfg0.N) (n : Fin 8) (r h : Fin 16) (hn : t.val % 8 = n.val) (hr : t.val / 8 = r.val)
include hn hr

theorem agreeK : Agree n.val (cat (head (iblk m c 1 t) h) (head (iblk m c 2 t) h)) (two n r h (arg1 m c)) :=
  agree _ n r h _ _ (fun n' hn' i e => blk1 m c t n' r h (by rw [hn]; exact hn') hr i e) (fun i e => blk2 m c t n r h hn hr i e)

theorem agreeV : Agree n.val (cat (head (iblk m c 3 t) h) (head (iblk m c 4 t) h)) (two n r h (arg2 m c)) :=
  agree _ n r h _ _ (fun n' hn' i e => blk3 m c t n' r h (by rw [hn]; exact hn') hr i e) (fun i e => blk4 m c t n r h hn hr i e)

theorem q_eq : head (iblk m c 0 t) h = tok n r h (arg0 m c) := by funext i e; exact blk0 m c t n r h hn hr i e
theorem d_eq : head (iblk m c 7 t) h = tok n r h (arg4 m c) := by funext i e; exact blk7 m c t n r h hn hr i e
theorem l_eq : stat (iblk m c 8 t) h = lse (arg0 m c) (arg1 m c) (arg3 m c) n r h := by funext i; exact blk8 m c t n r h hn hr i
theorem dl_eq : stat (iblk m c 9 t) h = dl (arg0 m c) (arg1 m c) (arg2 m c) (arg3 m c) (arg4 m c) (arg5 m c) n r h := by
  funext i; exact blk9 m c t n r h hn hr i
omit hn hr in
theorem b_eq : (fun a j => iblk m c 5 t (ix3 h a j)) = bi (arg3 m c) h := by funext a j; exact blk5 m c t h a j
omit hn hr in
theorem bt_eq : (fun a j => iblk m c 6 t (ix3 h j a)) = bi (arg3 m c) h := by funext a j; exact blk6 m c t h a j

/-- The query gradient of one head at one grid point. -/
theorem dq_point (i : Fin 128) (e : Fin 64) :
    DQ (grid0.coords t 1).val (head (iblk m c 0 t) h) (head (iblk m c 7 t) h) (cat (head (iblk m c 1 t) h) (head (iblk m c 2 t) h))
      (cat (head (iblk m c 3 t) h) (head (iblk m c 4 t) h)) (fun a j => iblk m c 5 t (ix3 h a j)) (stat (iblk m c 8 t) h) (stat (iblk m c 9 t) h) i e
    = DQ n.val (tok n r h (arg0 m c)) (tok n r h (arg4 m c)) (two n r h (arg1 m c)) (two n r h (arg2 m c)) (bi (arg3 m c) h)
      (lse (arg0 m c) (arg1 m c) (arg3 m c) n r h) (dl (arg0 m c) (arg1 m c) (arg2 m c) (arg3 m c) (arg4 m c) (arg5 m c) n r h) i e := by
  rw [coord t, hn, q_eq m c t n r h hn hr, d_eq m c t n r h hn hr, l_eq m c t n r h hn hr, dl_eq m c t n r h hn hr, b_eq m c t h]
  exact DQ_congr (agreeK m c t n r h hn hr) (agreeV m c t n r h hn hr) i e

theorem ds_point (i : Fin 128) (j : Fin 256) :
    DS (grid0.coords t 1).val (head (iblk m c 0 t) h) (head (iblk m c 7 t) h) (cat (head (iblk m c 1 t) h) (head (iblk m c 2 t) h))
      (cat (head (iblk m c 3 t) h) (head (iblk m c 4 t) h)) (fun a j => iblk m c 5 t (ix3 h a j)) (stat (iblk m c 8 t) h) (stat (iblk m c 9 t) h) i j
    = AttnRefIdeal.Val.dsc (arg0 m c) (arg1 m c) (arg2 m c) (arg3 m c) (arg4 m c) (arg5 m c) n r h i j := by
  rw [coord t, hn, q_eq m c t n r h hn hr, d_eq m c t n r h hn hr, l_eq m c t n r h hn hr, dl_eq m c t n r h hn hr, b_eq m c t h]
  exact DS_congr (agreeK m c t n r h hn hr) (agreeV m c t n r h hn hr) i j

theorem dk_point (j : Fin 256) (e : Fin 64) :
    dkB (grid0.coords t) (iblk m c 0 t) (iblk m c 1 t) (iblk m c 2 t) (iblk m c 3 t) (iblk m c 4 t) (iblk m c 7 t) (iblk m c 6 t) (iblk m c 8 t) (iblk m c 9 t) h j e
    = DK n.val (tok n r h (arg0 m c)) (tok n r h (arg4 m c)) (two n r h (arg1 m c)) (two n r h (arg2 m c)) (bi (arg3 m c) h)
      (lse (arg0 m c) (arg1 m c) (arg3 m c) n r h) (dl (arg0 m c) (arg1 m c) (arg2 m c) (arg3 m c) (arg4 m c) (arg5 m c) n r h) j e := by
  unfold dkB
  rw [coord t, hn, q_eq m c t n r h hn hr, d_eq m c t n r h hn hr, l_eq m c t n r h hn hr, dl_eq m c t n r h hn hr, bt_eq m c t h]
  exact DK_congr (agreeK m c t n r h hn hr) (agreeV m c t n r h hn hr) j e

theorem dv_point (j : Fin 256) (e : Fin 64) :
    dvB (grid0.coords t) (iblk m c 0 t) (iblk m c 1 t) (iblk m c 2 t) (iblk m c 7 t) (iblk m c 6 t) (iblk m c 8 t) h j e
    = DV n.val (tok n r h (arg0 m c)) (tok n r h (arg4 m c)) (two n r h (arg1 m c)) (bi (arg3 m c) h) (lse (arg0 m c) (arg1 m c) (arg3 m c) n r h) j e := by
  unfold dvB
  rw [coord t, hn, q_eq m c t n r h hn hr, d_eq m c t n r h hn hr, l_eq m c t n r h hn hr, bt_eq m c t h]
  exact DV_congr (agreeK m c t n r h hn hr) j e

end point

/-- The arguments hold finite numbers. -/
structure Fin6 (c : Dev nD) : Prop where
  h0 : Finite (arg0 m c)
  h1 : Finite (arg1 m c)
  h2 : Finite (arg2 m c)
  h3 : Finite (arg3 m c)
  h4 : Finite (arg4 m c)
  h5 : Finite (arg5 m c)

open Cert.AttnRefIdeal.Read

/-- A row of the wide array is a row of one head of one block. -/
theorem wide_row {α : Type} (x : S8x128x16x16x64.Idx → α) (n : Fin 8) (r h : Fin 16) (i : Fin 128) (e : Fin 64) (k : S1024x16384.Idx)
    (h0 : (k 0).val = n.val * 128 + i.val) (h1 : (k 1).val = r.val * 1024 + (64 * h.val + e.val)) : x (idx_main_v110 k) = x (ix5 n i r h e) :=
  AttnRefIdeal.Val.at5 _ _ _ _ _ _ _
    (by show ((k 0).val * 16384 + (k 1).val) / 2097152 = n.val; omega)
    (by show ((k 0).val * 16384 + (k 1).val) / 16384 % 128 = i.val; omega)
    (by show ((k 0).val * 16384 + (k 1).val) / 1024 % 16 = r.val; omega)
    (by show ((k 0).val * 16384 + (k 1).val) / 64 % 16 = h.val; omega)
    (by show ((k 0).val * 16384 + (k 1).val) % 64 = e.val; omega)

variable {m}

section rows

variable (x0 x1 x2 : S16384x16x64.Idx → EReal) (x3 : S16x128x256.Idx → EReal) (x4 : S16384x16x64.Idx → EReal) (x5 : S16384x16.Idx → EReal)
  (n : Fin 8) (r h : Fin 16) (i : Fin 128) (e : Fin 64) (k : S1024x16384.Idx)
  (h0 : (k 0).val = n.val * 128 + i.val) (h1 : (k 1).val = r.val * 1024 + (64 * h.val + e.val))
include h0 h1

theorem v111_at : val_main_v111 (F := Ideal) x0 x1 x2 x3 x4 x5 k = val_main_v105 (F := Ideal) x0 x1 x2 x3 x4 x5 (ix5 n i r h e) := by
  rw [val_main_v111_apply, val_main_v110_apply]
  exact wide_row (val_main_v105 (F := Ideal) x0 x1 x2 x3 x4 x5) n r h i e k h0 h1

theorem v115_at : val_main_v115 (F := Ideal) x0 x1 x2 x3 x4 x5 k = val_main_v103 (F := Ideal) x0 x1 x2 x3 x4 x5 (ix5 n ⟨128 + i.val, by omega⟩ r h e) := by
  rw [val_main_v115_apply, val_main_v114_apply]
  refine (wide_row (val_main_v109 (F := Ideal) x0 x1 x2 x3 x4 x5) n r h i e k h0 h1).trans ?_
  rw [val_main_v109_apply]
  exact AttnRefIdeal.Val.at5 _ _ _ _ _ _ _ rfl rfl rfl rfl rfl

theorem v113_at : val_main_v113 (F := Ideal) x0 x1 x2 x3 x4 x5 k = val_main_v103 (F := Ideal) x0 x1 x2 x3 x4 x5 (ix5 n ⟨i.val, by omega⟩ r h e) := by
  rw [val_main_v113_apply, val_main_v112_apply]
  refine (wide_row (val_main_v108 (F := Ideal) x0 x1 x2 x3 x4 x5) n r h i e k h0 h1).trans ?_
  rw [val_main_v108_apply]
  exact AttnRefIdeal.Val.at5 _ _ _ _ _ _ _ rfl rfl rfl rfl rfl

theorem v119_at : val_main_v119 (F := Ideal) x0 x1 x3 x4 k = val_main_v82 (F := Ideal) x0 x1 x3 x4 (ix5 n ⟨128 + i.val, by omega⟩ r h e) := by
  rw [val_main_v119_apply, val_main_v118_apply]
  refine (wide_row (val_main_v107 (F := Ideal) x0 x1 x3 x4) n r h i e k h0 h1).trans ?_
  rw [val_main_v107_apply]
  exact AttnRefIdeal.Val.at5 _ _ _ _ _ _ _ rfl rfl rfl rfl rfl

theorem v117_at : val_main_v117 (F := Ideal) x0 x1 x3 x4 k = val_main_v82 (F := Ideal) x0 x1 x3 x4 (ix5 n ⟨i.val, by omega⟩ r h e) := by
  rw [val_main_v117_apply, val_main_v116_apply]
  refine (wide_row (val_main_v106 (F := Ideal) x0 x1 x3 x4) n r h i e k h0 h1).trans ?_
  rw [val_main_v106_apply]
  exact AttnRefIdeal.Val.at5 _ _ _ _ _ _ _ rfl rfl rfl rfl rfl

end rows

theorem final_dq (c : Dev nD) (H : Fin6 m c) : (dats m 0 c).arrAt 10 (cfgs 0).N = val_main_v111 (F := Ideal) (arg0 m c) (arg1 m c) (arg2 m c) (arg3 m c) (arg4 m c) (arg5 m c) := by
  refine (dats m 0 c).arrAt_eq_of_covers 10 _ (by decide +kernel) fun t hf y => ?_
  blk_simp
  rw [after0_10]
  idx_vars y
  have hN := (idx t).1
  obtain ⟨h0, h1⟩ : win0_10.index t 0 = t.val % 8 ∧ win0_10.index t 1 = t.val / 8 := by
    rw [(idx t).2.2.2.2.2.2.2.2.2.2.2.1]; exact ⟨rfl, rfl⟩
  refine (out_dq m c t (ix2 y0 y1)).trans ((dq_point m c t ⟨t.val % 8, by omega⟩ ⟨t.val / 8, by omega⟩ ⟨y1.val / 64, by omega⟩ rfl rfl _ ⟨y1.val % 64, by omega⟩).trans ?_)
  refine ((v111_at _ _ _ _ _ _ ⟨t.val % 8, by omega⟩ ⟨t.val / 8, by omega⟩ ⟨y1.val / 64, by omega⟩ y0 ⟨y1.val % 64, by omega⟩ _ ?_ ?_).trans ?_).symm
  · blk_simp [h0]
  · blk_simp [h1]
    show t.val / 8 * 1024 + y1.val = t.val / 8 * 1024 + (64 * (y1.val / 64) + y1.val % 64)
    omega
  · exact AttnRefIdeal.Val.dq_at _ _ _ H.h0 H.h1 H.h2 H.h3 H.h4 H.h5 _ _

theorem final_dkc (c : Dev nD) (H : Fin6 m c) : (dats m 0 c).arrAt 11 (cfgs 0).N = val_main_v115 (F := Ideal) (arg0 m c) (arg1 m c) (arg2 m c) (arg3 m c) (arg4 m c) (arg5 m c) := by
  refine (dats m 0 c).arrAt_eq_of_covers 11 _ (by decide +kernel) fun t hf y => ?_
  blk_simp
  rw [after0_11]
  idx_vars y
  have hN := (idx t).1
  obtain ⟨h0, h1⟩ : win0_11.index t 0 = t.val % 8 ∧ win0_11.index t 1 = t.val / 8 := by
    rw [(idx t).2.2.2.2.2.2.2.2.2.2.2.2.1]; exact ⟨rfl, rfl⟩
  refine (out_dkc m c t (ix2 y0 y1)).trans ((dk_point m c t ⟨t.val % 8, by omega⟩ ⟨t.val / 8, by omega⟩ ⟨y1.val / 64, by omega⟩ rfl rfl _ ⟨y1.val % 64, by omega⟩).trans ?_)
  refine ((v115_at _ _ _ _ _ _ ⟨t.val % 8, by omega⟩ ⟨t.val / 8, by omega⟩ ⟨y1.val / 64, by omega⟩ y0 ⟨y1.val % 64, by omega⟩ _ ?_ ?_).trans ?_).symm
  · blk_simp [h0]
  · blk_simp [h1]
    show t.val / 8 * 1024 + y1.val = t.val / 8 * 1024 + (64 * (y1.val / 64) + y1.val % 64)
    omega
  · exact AttnRefIdeal.Val.dk_at _ _ _ H.h0 H.h1 H.h2 H.h3 H.h4 H.h5 _ _

theorem final_dkp (c : Dev nD) (H : Fin6 m c) : (dats m 0 c).arrAt 12 (cfgs 0).N = val_main_v113 (F := Ideal) (arg0 m c) (arg1 m c) (arg2 m c) (arg3 m c) (arg4 m c) (arg5 m c) := by
  refine (dats m 0 c).arrAt_eq_of_covers 12 _ (by decide +kernel) fun t hf y => ?_
  blk_simp
  rw [after0_12]
  idx_vars y
  have hN := (idx t).1
  obtain ⟨h0, h1⟩ : win0_12.index t 0 = t.val % 8 ∧ win0_12.index t 1 = t.val / 8 := by
    rw [(idx t).2.2.2.2.2.2.2.2.2.2.2.2.2.1]; exact ⟨rfl, rfl⟩
  refine (out_dkp m c t (ix2 y0 y1)).trans ((dk_point m c t ⟨t.val % 8, by omega⟩ ⟨t.val / 8, by omega⟩ ⟨y1.val / 64, by omega⟩ rfl rfl _ ⟨y1.val % 64, by omega⟩).trans ?_)
  refine ((v113_at _ _ _ _ _ _ ⟨t.val % 8, by omega⟩ ⟨t.val / 8, by omega⟩ ⟨y1.val / 64, by omega⟩ y0 ⟨y1.val % 64, by omega⟩ _ ?_ ?_).trans ?_).symm
  · blk_simp [h0]
  · blk_simp [h1]
    show t.val / 8 * 1024 + y1.val = t.val / 8 * 1024 + (64 * (y1.val / 64) + y1.val % 64)
    omega
  · exact AttnRefIdeal.Val.dk_at _ _ _ H.h0 H.h1 H.h2 H.h3 H.h4 H.h5 _ _

theorem final_dvc (c : Dev nD) (H : Fin6 m c) : (dats m 0 c).arrAt 13 (cfgs 0).N = val_main_v119 (F := Ideal) (arg0 m c) (arg1 m c) (arg3 m c) (arg4 m c) := by
  refine (dats m 0 c).arrAt_eq_of_covers 13 _ (by decide +kernel) fun t hf y => ?_
  blk_simp
  rw [after0_13]
  idx_vars y
  have hN := (idx t).1
  obtain ⟨h0, h1⟩ : win0_13.index t 0 = t.val % 8 ∧ win0_13.index t 1 = t.val / 8 := by
    rw [(idx t).2.2.2.2.2.2.2.2.2.2.2.2.2.2.1]; exact ⟨rfl, rfl⟩
  refine (out_dvc m c t (ix2 y0 y1)).trans ((dv_point m c t ⟨t.val % 8, by omega⟩ ⟨t.val / 8, by omega⟩ ⟨y1.val / 64, by omega⟩ rfl rfl _ ⟨y1.val % 64, by omega⟩).trans ?_)
  refine ((v119_at _ _ _ _ ⟨t.val % 8, by omega⟩ ⟨t.val / 8, by omega⟩ ⟨y1.val / 64, by omega⟩ y0 ⟨y1.val % 64, by omega⟩ _ ?_ ?_).trans ?_).symm
  · blk_simp [h0]
  · blk_simp [h1]
    show t.val / 8 * 1024 + y1.val = t.val / 8 * 1024 + (64 * (y1.val / 64) + y1.val % 64)
    omega
  · exact AttnRefIdeal.Val.dv_at _ _ _ H.h0 H.h1 H.h3 H.h4 _ _

theorem final_dvp (c : Dev nD) (H : Fin6 m c) : (dats m 0 c).arrAt 14 (cfgs 0).N = val_main_v117 (F := Ideal) (arg0 m c) (arg1 m c) (arg3 m c) (arg4 m c) := by
  refine (dats m 0 c).arrAt_eq_of_covers 14 _ (by decide +kernel) fun t hf y => ?_
  blk_simp
  rw [after0_14]
  idx_vars y
  have hN := (idx t).1
  obtain ⟨h0, h1⟩ : win0_14.index t 0 = t.val % 8 ∧ win0_14.index t 1 = t.val / 8 := by
    rw [(idx t).2.2.2.2.2.2.2.2.2.2.2.2.2.2.2.1]; exact ⟨rfl, rfl⟩
  refine (out_dvp m c t (ix2 y0 y1)).trans ((dv_point m c t ⟨t.val % 8, by omega⟩ ⟨t.val / 8, by omega⟩ ⟨y1.val / 64, by omega⟩ rfl rfl _ ⟨y1.val % 64, by omega⟩).trans ?_)
  refine ((v117_at _ _ _ _ ⟨t.val % 8, by omega⟩ ⟨t.val / 8, by omega⟩ ⟨y1.val / 64, by omega⟩ y0 ⟨y1.val % 64, by omega⟩ _ ?_ ?_).trans ?_).symm
  · blk_simp [h0]
  · blk_simp [h1]
    show t.val / 8 * 1024 + y1.val = t.val / 8 * 1024 + (64 * (y1.val / 64) + y1.val % 64)
    omega
  · exact AttnRefIdeal.Val.dv_at _ _ _ H.h0 H.h1 H.h3 H.h4 _ _

/-- A sum over the two leading axes. -/
theorem two_axes {n0 n1 n2 n3 n4 : ℕ} (h : (⟨5, ![n0, n1, n2, n3, n4]⟩ : Shape).ReducesTo [0, 1] ⟨3, ![n2, n3, n4]⟩)
    (v : (⟨5, ![n0, n1, n2, n3, n4]⟩ : Shape).Idx → EReal) (init : EReal) (a : Fin n2) (i : Fin n3) (j : Fin n4) :
    Ideal.hostReduceAdd h v init (ix3 a i j) = init + ∑ n : Fin n0, ∑ r : Fin n1, v (ix5 n r a i j) := by
  refine congrArg (init + ·) ?_
  rw [← Fintype.sum_prod_type' (f := fun n r => v (ix5 n r a i j))]
  refine Finset.sum_filter_eq_sum_of_fiber _ (fun k : Fin n0 × Fin n1 => ix5 k.1 k.2 a i j)
    (fun _ _ e => Prod.ext (congrFun e 0) (congrFun e 1)) (fun x => ?_) v
  constructor
  · intro e
    refine ⟨(x 0, x 1), ?_⟩
    funext b; apply Fin.ext
    match b with
    | ⟨0, _⟩ => rfl
    | ⟨1, _⟩ => rfl
    | ⟨2, _⟩ => exact (congrArg Fin.val (congrFun e 0)).symm
    | ⟨3, _⟩ => exact (congrArg Fin.val (congrFun e 1)).symm
    | ⟨4, _⟩ => exact (congrArg Fin.val (congrFun e 2)).symm
  · rintro ⟨k, rfl⟩
    funext b
    apply Fin.ext
    match b with
    | ⟨0, _⟩ => rfl
    | ⟨1, _⟩ => rfl
    | ⟨2, _⟩ => rfl

theorem v99_at (x0 x1 x2 : S16384x16x64.Idx → EReal) (x3 : S16x128x256.Idx → EReal) (x4 : S16384x16x64.Idx → EReal) (x5 : S16384x16.Idx → EReal)
    (h : Fin 16) (i : Fin 128) (j : Fin 256) :
    val_main_v99 (F := Ideal) x0 x1 x2 x3 x4 x5 (ix3 h i j) = ∑ n : Fin 8, ∑ r : Fin 16, val_main_v96 (F := Ideal) x0 x1 x2 x3 x4 x5 (ix5 n r h i j) := by
  have z : FloatOps.ofBits (F := Ideal) .f32 0x00000000#32 = 0 := AttnRefIdeal.Val.zero_word
  refine (two_axes _ _ _ h i j).trans ?_
  rw [val_main_cst_16_apply, z, zero_add, Fin.sum_univ_one, Fin.sum_univ_one, val_main_v98_apply,
    AttnRefIdeal.Val.at3 (val_main_v97 (F := Ideal) x0 x1 x2 x3 x4 x5) _ h i j (by show _ / 32768 = _; simp; omega) (by show _ / 256 % 128 = _; simp; omega) (by show _ % 256 = _; simp)]
  refine (two_axes _ _ _ h i j).trans ?_
  rw [val_main_cst_15_apply, z, zero_add]

/-- One grid point's part of the bias gradient, nothing outside the grid. -/
def part (m : (ℓ : Loc nD τ sig) → Buf (Elt Ideal) ℓ) (c : Dev nD) (y : S16x128x256.Idx) (k : ℕ) : EReal :=
  if hk : k < grid0.N then dbB m c ⟨k, hk⟩ y else 0

/-- After every point the buffer holds the sum of the parts so far. -/
theorem acc (c : Dev nD) (y : S16x128x256.Idx) : ∀ (k : ℕ) (hk : k < grid0.N),
    (outsAt0 m c k hk).2.2.2.2.2 y = ∑ s ∈ Finset.range (k + 1), part m c y s := by
  intro k
  induction k with
  | zero =>
    intro hk
    rw [Finset.sum_range_one, part, dif_pos hk]
    refine (out_db_first m c ⟨0, hk⟩ rfl y).trans ?_
    rw [clear, zero_add]
  | succ k ih =>
    intro hk
    have hN : k + 1 < 128 := (idx ⟨k + 1, hk⟩).1
    rw [Finset.sum_range_succ, ← ih (by omega)]
    refine (out_db m c ⟨k + 1, hk⟩ (by show ¬(k + 1) % 128 = 0; omega) y).trans ?_
    rw [part, dif_pos hk]
    rfl

theorem final_db (c : Dev nD) (H : Fin6 m c) : (dats m 0 c).arrAt 15 (cfgs 0).N
    = val_main_v99 (F := Ideal) (arg0 m c) (arg1 m c) (arg2 m c) (arg3 m c) (arg4 m c) (arg5 m c) := by
  refine (dats m 0 c).arrAt_eq_of_covers 15 _ (by decide +kernel) fun t hf y => ?_
  have hN := (idx t).1
  have hl : t.val = 127 := by have := (flush0_15 t).mp hf; omega
  blk_simp
  rw [after0_15]
  refine (acc c y t.val t.isLt).trans ?_
  idx_vars y
  rw [hl]
  refine (Finset.sum_range _).trans ?_
  refine (Equiv.sum_comp (finProdFinEquiv (m := 16) (n := 8)) fun k : Fin 128 => part m c (ix3 y0 y1 y2) k.val).symm.trans ?_
  rw [Fintype.sum_prod_type, Finset.sum_comm]
  have hk : ((View.whole main_v73_5).slice (win0_15.rect t)).emb (ix3 y0 y1 y2) = ix3 y0 y1 y2 := by blk_ext [idx t]
  rw [hk, v99_at]
  refine Finset.sum_congr rfl fun n _ => Finset.sum_congr rfl fun r _ => ?_
  rw [AttnRefIdeal.Val.v96_at n r y0 H.h0 H.h1 H.h2 H.h3 H.h4 H.h5]
  have hp : (finProdFinEquiv (r, n)).val = n.val + 8 * r.val := rfl
  rw [hp, part, dif_pos (by show n.val + 8 * r.val < 128; omega)]
  exact ds_point m c ⟨n.val + 8 * r.val, by show n.val + 8 * r.val < 128; omega⟩ n r y0 (by show (n.val + 8 * r.val) % 8 = _; omega) (by show (n.val + 8 * r.val) / 8 = _; omega) y1 y2

end Cert.AttnIdeal.Value
-- ==== Proof.Din.lean ====
/- The gradient of that projection's input. -/
module

public import proofs.«01_k».proof.Proof.Gen.DinIdeal.Value
public import proofs.«01_k».proof.Proof.Gen.DinRefIdeal.Read
public import proofs.«01_k».proof.Proof.Prod
public import Idealize.ShloMosaic.Lib.StableHlo.ReadAt
public import Idealize.ShloMosaic.Lib.Tactic.IndexArith

@[expose] public section

set_option maxRecDepth 16384

noncomputable section

open Idealize.ShloMosaic Idealize.ShloMosaic.TcCoe Idealize.SL.Sem

namespace Cert.DinIdeal.Value

open Cert.DinIdeal Cert.DinIdeal.Gen

variable (m : (ℓ : Loc nD τ sig) → Buf (Elt Ideal) ℓ)

abbrev argA (c : Dev nD) : FVec Ideal S16384x3200 .bf16 := m (c.tc.loc main_arg0)
abbrev argW (c : Dev nD) : FVec Ideal S1024x3080 .bf16 := m (c.tc.loc main_arg1)

theorem idx : ∀ t : Fin cfg0.N, t.val < 16 ∧ win0_0.index t = ![t.val, 0] ∧ win0_1.index t = ![0, 0]
    ∧ win0_2.index t = ![t.val, 0] :=
  (by decide +kernel : ∀ t : Fin grid0.N, _)

theorem entry (c : Dev nD) (k : Fin 3200) (q : Fin 1024) : V m c main_v1 (ix2 k q) = Prod.wide (Q := 3200) (argW m c) (ix2 q k) := by
  unfold V
  after_reads_at
  exact dite_congr rfl (fun _ => rfl) fun _ => Prod.zero_int

theorem blk0 (c : Dev nD) (t : Fin cfg0.N) (r : Fin 1024) (k : Fin 3200) (h : t.val * 1024 + r.val < 16384) :
    iblk m c 0 t (ix2 r k) = argA m c (ix2 ⟨t.val * 1024 + r.val, h⟩ k) := by
  blk_ext [iblk, V, idx t]

theorem blk1 (c : Dev nD) (t : Fin cfg0.N) (k : Fin 3200) (l : Fin 1024) :
    iblk m c 1 t (ix2 k l) = Prod.wide (Q := 3200) (argW m c) (ix2 l k) := by
  refine Eq.trans ?_ (entry m c k l)
  blk_ext [iblk, V, idx t]

theorem pay (a : FVec Ideal S1024x3200 .bf16) (b : FVec Ideal S3200x1024 .bf16) (r l : Fin 1024) :
    k0_pay1 (F := Ideal) a b (ix2 r l) = ∑ k : Fin 3200, a (ix2 r k) * b (ix2 k l) := by
  pointwise [k0_pay1]

theorem final (c : Dev nD) : (dats m 0 c).arrAt 2 (cfgs 0).N
    = Prod.nt (M := 16384) (N := 1024) (g := .bf16) (argA m c) (Prod.wide (g := .bf16) (Q := 3200) (argW m c)) := by
  refine (dats m 0 c).arrAt_eq_of_covers 2 _ (by decide +kernel) fun t hf y => ?_
  blk_simp
  rw [after0_2]
  idx_vars y
  unfold outsAt0
  frame_out
  refine (pay _ _ _ _).trans (Finset.sum_congr rfl fun k _ => congrArg₂ (· * ·) ?_ ?_)
  · refine (blk0 m c t y0 k (by have := (idx t).1; omega)).trans ?_
    blk_ext [idx t]
  · refine (blk1 m c t k y1).trans ?_
    blk_ext [idx t]

/-- The reference holds the same product: the added columns meet zeros. -/
theorem ref (a : FVec Ideal S16384x3200 .bf16) (w : FVec Ideal S1024x3080 .bf16) :
    DinRefIdeal.Read.val_main_v5 (F := Ideal) a w = Prod.nt (M := 16384) (N := 1024) (g := .bf16) a (Prod.wide (g := .bf16) (Q := 3200) w) := by
  funext y
  idx_vars y
  rw [Prod.nt_wide (by decide), DinRefIdeal.Read.val_main_v5_apply]
  refine Finset.sum_congr rfl fun k _ => congrArg₂ (· * ·) ?_ (congrArg w (ix2_eta _).symm)
  show DinRefIdeal.Read.val_main_v0 (F := Ideal) a _ = _
  rw [DinRefIdeal.Read.val_main_v0_apply]
  exact congrArg a (ix2_eta _).symm

end Cert.DinIdeal.Value
-- ==== Proof.Gin.lean ====
/- The gradient of that projection. -/
module

public import proofs.«01_k».proof.Proof.Gen.GinIdeal.Frame
public import proofs.«01_k».proof.Proof.Gen.GinRefIdeal.Read
public import proofs.«01_k».proof.Proof.Prod
public import Idealize.ShloMosaic.Lib.StableHlo.ReadAt
public import Idealize.ShloMosaic.Lib.Tactic.IndexArith

@[expose] public section

set_option maxRecDepth 16384

noncomputable section

open Idealize.ShloMosaic Idealize.ShloMosaic.TcCoe Idealize.SL.Sem

namespace Cert.GinIdeal.Value

open Cert.GinIdeal Cert.GinIdeal.Gen

variable (m : (ℓ : Loc nD τ sig) → Buf (Elt Ideal) ℓ)

abbrev argA (c : Dev nD) : FVec Ideal S16384x1024 .bf16 := m (c.tc.loc main_arg0)
abbrev argB (c : Dev nD) : FVec Ideal S16384x3200 .bf16 := m (c.tc.loc main_arg1)

theorem idx : ∀ t : Fin cfg0.N, t.val < 16 ∧ win0_0.index t = ![t.val % 16, 0] ∧ win0_1.index t = ![t.val % 16, 0]
    ∧ win0_2.index t = ![0, 0] :=
  (by decide +kernel : ∀ t : Fin grid0.N, _)

theorem pay (a : FVec Ideal S1024x1024 .bf16) (b : FVec Ideal S1024x3200 .bf16) (y : S1024x3200.Idx) :
    k0_pay1 (F := Ideal) a b y = Prod.tn (M := 1024) (N := 3200) (K := 1024) a b y := by
  idx_vars y
  pointwise [k0_pay1]
  rfl

/-- The block of the result when its last row block has been added. -/
theorem out (c : Dev nD) (t : Fin cfg0.N) (hf : t.val % 16 = 16 - 1) (y : S1024x3200.Idx) :
    outsAt0 m c t.val t.isLt y = Prod.tn (M := 1024) (N := 3200) (argA m c) (argB m c) y := by
  refine Prod.tn_run (S := 16) (n := 1024) (fun n h => outsAt0 m c n h) (fun t => iblk m c 0 t) (fun t => iblk m c 1 t)
    (fun t h0 y => ?_) (fun t h0 y => ?_) (argA m c) (argB m c) rfl t hf y _
    (fun u hu k hk => ?_) (fun u hu k hk => ?_)
  · rw [Gen.outsAt0_A m c t h0 (by have := (idx t).1; omega)]
    frame_out
    exact pay _ _ y
  · rw [Gen.outsAt0_B m c t h0 (by have := (idx t).1; omega)]
    frame_out
    idx_vars y
    pointwise [k0_pay2]
    exact congrArg (_ + ·) (pay _ _ (ix2 y0 y1))
  · blk_ext [iblk, V, idx u]
  · blk_ext [iblk, V, idx u]

theorem final (c : Dev nD) : (dats m 0 c).arrAt 2 (cfgs 0).N = Prod.tn (M := 1024) (N := 3200) (argA m c) (argB m c) := by
  refine (dats m 0 c).arrAt_eq_of_covers 2 _ (by decide +kernel) fun t hf y => ?_
  blk_simp
  rw [after0_2]
  idx_vars y
  refine (out m c t ((flush0_2 t).mp hf) (ix2 y0 y1)).trans ?_
  refine congrArg (Prod.tn (M := 1024) (N := 3200) (argA m c) (argB m c)) ?_
  blk_ext [idx t]

/-- The buffers of a device when the call has ended. -/
abbrev ended (c : Dev nD) :=
  Pipeline.withArrays (cfgs 0).spec c (V0 m c) fun w => (dats m 0 c).arrAt w (cfgs 0).N

/-- The weights' columns of the product. -/
def kept (a : FVec Ideal S16384x1024 .bf16) (b : FVec Ideal S16384x3200 .bf16) (y : S1024x3080.Idx) : EReal :=
  Prod.tn (M := 1024) (N := 3200) a b (ix2 (y 0) ⟨(y 1).val, Nat.lt_of_lt_of_le (y 1).isLt (by decide)⟩)

/-- The result without the added columns. -/
theorem tail1 (c : Dev nD) : StableHlo.after hostOps1 (ended m c) (Proc.devRef .tc main_v1) = kept (argA m c) (argB m c) := by
  funext y
  idx_vars y
  refine Eq.trans (b := ended m c (Proc.devRef .tc main_v0) (ix2 y0 ⟨y1.val, Nat.lt_of_lt_of_le y1.isLt (by decide)⟩)) ?_ ?_
  · unfold_abbrev_sides
    after_reads_at
  · exact (congrFun (Pipeline.withArrays_arr_shared spec0 c (V0 m c) _
      ((dats m 0 c).arrAt_sharedIn (by decide) (V0 m c) (A_eq m c) _) 2) (ix2 y0 ⟨y1.val, Nat.lt_of_lt_of_le y1.isLt (by decide)⟩)).trans
      (congrFun (final m c) _)

/-- The reference holds the same product. -/
theorem ref (a : FVec Ideal S16384x1024 .bf16) (b : FVec Ideal S16384x3200 .bf16) :
    GinRefIdeal.Read.val_main_v6 (F := Ideal) a b = kept a b := by
  funext i
  rw [GinRefIdeal.Read.val_main_v6_apply, GinRefIdeal.Read.val_main_v5_apply]
  unfold kept Prod.tn
  refine Finset.sum_congr rfl fun k _ => (mul_comm _ _).trans (congrArg₂ (· * ·) (congrArg a (ix2_eta _).symm) ?_)
  refine (GinRefIdeal.Read.val_main_v0_apply (F := Ideal) b _).trans ?_
  exact congrArg b (ix2_eta _).symm

end Cert.GinIdeal.Value
-- ==== Proof.Ain.lean ====
/- The input projection of the recurrent layer, over a weight with 120 columns of zeros added. -/
module

public import proofs.«01_k».proof.Proof.Gen.AinIdeal.Value
public import proofs.«01_k».proof.Proof.Gen.AinRefIdeal.Read
public import proofs.«01_k».proof.Proof.Prod
public import Idealize.ShloMosaic.Lib.StableHlo.ReadAt
public import Idealize.ShloMosaic.Lib.Tactic.IndexArith

@[expose] public section

set_option maxRecDepth 16384

noncomputable section

open Idealize.ShloMosaic Idealize.ShloMosaic.TcCoe Idealize.SL.Sem

namespace Cert.AinIdeal.Value

open Cert.AinIdeal Cert.AinIdeal.Gen

variable (m : (ℓ : Loc nD τ sig) → Buf (Elt Ideal) ℓ)

abbrev argA (c : Dev nD) : FVec Ideal S16384x1024 .bf16 := m (c.tc.loc main_arg0)
abbrev argW (c : Dev nD) : FVec Ideal S1024x3080 .bf16 := m (c.tc.loc main_arg1)

theorem idx : ∀ t : Fin cfg0.N, t.val < 16 ∧ win0_0.index t = ![t.val, 0] ∧ win0_1.index t = ![0, 0]
    ∧ win0_2.index t = ![t.val, 0] :=
  (by decide +kernel : ∀ t : Fin grid0.N, _)

theorem entry (c : Dev nD) (k : Fin 1024) (q : Fin 3200) : V m c main_v0 (ix2 k q) = Prod.wide (Q := 3200) (argW m c) (ix2 k q) := by
  unfold V
  after_reads_at
  exact dite_congr rfl (fun _ => rfl) fun _ => Prod.zero_int

theorem blk0 (c : Dev nD) (t : Fin cfg0.N) (r : Fin 1024) (k : Fin 1024) (h : t.val * 1024 + r.val < 16384) :
    iblk m c 0 t (ix2 r k) = argA m c (ix2 ⟨t.val * 1024 + r.val, h⟩ k) := by
  blk_ext [iblk, V, idx t]

theorem blk1 (c : Dev nD) (t : Fin cfg0.N) (k : Fin 1024) (l : Fin 3200) :
    iblk m c 1 t (ix2 k l) = Prod.wide (Q := 3200) (argW m c) (ix2 k l) := by
  refine Eq.trans ?_ (entry m c k l)
  blk_ext [iblk, V, idx t]

theorem pay (a : FVec Ideal S1024x1024 .bf16) (b : FVec Ideal S1024x3200 .bf16) (r : Fin 1024) (l : Fin 3200) :
    k0_pay1 (F := Ideal) a b (ix2 r l) = ∑ k : Fin 1024, a (ix2 r k) * b (ix2 k l) := by
  pointwise [k0_pay1]

theorem final (c : Dev nD) : (dats m 0 c).arrAt 2 (cfgs 0).N
    = Prod.nn (M := 16384) (N := 3200) (g := .bf16) (argA m c) (Prod.wide (g := .bf16) (Q := 3200) (argW m c)) := by
  refine (dats m 0 c).arrAt_eq_of_covers 2 _ (by decide +kernel) fun t hf y => ?_
  blk_simp
  rw [after0_2]
  idx_vars y
  unfold outsAt0
  frame_out
  refine (pay _ _ _ _).trans (Finset.sum_congr rfl fun k _ => congrArg₂ (· * ·) ?_ ?_)
  · refine (blk0 m c t y0 k (by have := (idx t).1; omega)).trans ?_
    blk_ext [idx t]
  · refine (blk1 m c t k y1).trans ?_
    blk_ext [idx t]

/-- The reference holds the same product: in the added columns it has zeros, the kernel sums of zeros. -/
theorem ref (a : FVec Ideal S16384x1024 .bf16) (w : FVec Ideal S1024x3080 .bf16) :
    AinRefIdeal.Read.val_main_v3 (F := Ideal) a w = Prod.nn (M := 16384) (N := 3200) (g := .bf16) a (Prod.wide (g := .bf16) (Q := 3200) w) := by
  funext y
  idx_vars y
  rw [Prod.nn_wide]
  unfold AinRefIdeal.Read.val_main_v3
  pointwise
  refine dite_congr rfl (fun h => ?_) fun _ => Prod.zero_int
  rw [AinRefIdeal.Read.val_main_v2_apply]
  exact Finset.sum_congr rfl fun k _ => congrArg₂ (· * ·) (congrArg a (ix2_eta _).symm) (congrArg w (ix2_eta _).symm)

end Cert.AinIdeal.Value
-- ==== Proof.Down.lean ====
/- The feed-forward layer's down projection, added to the residual. -/
module

public import proofs.«01_k».proof.Proof.Gen.DownIdeal.Value
public import proofs.«01_k».proof.Proof.Gen.DownRefIdeal.Read
public import proofs.«01_k».proof.Proof.Prod
public import Idealize.ShloMosaic.Lib.StableHlo.ReadAt
public import Idealize.ShloMosaic.Lib.Tactic.IndexArith

@[expose] public section

set_option maxRecDepth 16384

noncomputable section

open Idealize.ShloMosaic Idealize.ShloMosaic.TcCoe Idealize.SL.Sem

namespace Cert.DownIdeal.Value

open Cert.DownIdeal Cert.DownIdeal.Gen

variable (m : (ℓ : Loc nD τ sig) → Buf (Elt Ideal) ℓ)

abbrev argA (c : Dev nD) : FVec Ideal S16384x2816 .bf16 := m (c.tc.loc main_arg0)
abbrev argW (c : Dev nD) : FVec Ideal S2816x1024 .bf16 := m (c.tc.loc main_arg1)
abbrev argX (c : Dev nD) : FVec Ideal S16384x1024 .f32 := m (c.tc.loc main_arg2)

/-- The residual with the product added. -/
def sum (c : Dev nD) (y : S16384x1024.Idx) : EReal := argX m c y + Prod.nn (M := 16384) (N := 1024) (argA m c) (argW m c) y

theorem idx : ∀ t : Fin cfg0.N, t.val < 16 ∧ win0_0.index t = ![t.val, 0] ∧ win0_1.index t = ![0, 0]
    ∧ win0_2.index t = ![t.val, 0] ∧ win0_3.index t = ![t.val, 0] :=
  (by decide +kernel : ∀ t : Fin grid0.N, _)

theorem blk0 (c : Dev nD) (t : Fin cfg0.N) (r : Fin 1024) (k : Fin 2816) (h : t.val * 1024 + r.val < 16384) :
    iblk m c 0 t (ix2 r k) = argA m c (ix2 ⟨t.val * 1024 + r.val, h⟩ k) := by
  blk_ext [iblk, V, idx t]

theorem blk1 (c : Dev nD) (t : Fin cfg0.N) (k : Fin 2816) (l : Fin 1024) : iblk m c 1 t (ix2 k l) = argW m c (ix2 k l) := by
  blk_ext [iblk, V, idx t]

theorem blk2 (c : Dev nD) (t : Fin cfg0.N) (r : Fin 1024) (k : Fin 1024) (h : t.val * 1024 + r.val < 16384) :
    iblk m c 2 t (ix2 r k) = argX m c (ix2 ⟨t.val * 1024 + r.val, h⟩ k) := by
  blk_ext [iblk, V, idx t]

theorem pay (a : FVec Ideal S1024x2816 .bf16) (b : FVec Ideal S2816x1024 .bf16) (x : FVec Ideal S1024x1024 .f32) (r l : Fin 1024) :
    k0_pay1 (F := Ideal) a b x (ix2 r l) = (∑ k : Fin 2816, a (ix2 r k) * b (ix2 k l)) + x (ix2 r l) := by
  pointwise [k0_pay1]

theorem final (c : Dev nD) : (dats m 0 c).arrAt 3 (cfgs 0).N = sum m c := by
  refine (dats m 0 c).arrAt_eq_of_covers 3 _ (by decide +kernel) fun t hf y => ?_
  blk_simp
  rw [after0_3]
  idx_vars y
  unfold outsAt0
  frame_out
  refine (pay _ _ _ _ _).trans ((add_comm _ _).trans (congrArg₂ (· + ·) ?_ (Finset.sum_congr rfl fun k _ => congrArg₂ (· * ·) ?_ ?_)))
  · refine (blk2 m c t y0 y1 (by have := (idx t).1; omega)).trans ?_
    blk_ext [idx t]
  · refine (blk0 m c t y0 k (by have := (idx t).1; omega)).trans ?_
    blk_ext [idx t]
  · refine (blk1 m c t k y1).trans ?_
    blk_ext [idx t]

/-- The reference holds the same sum. -/
theorem ref (a : FVec Ideal S16384x2816 .bf16) (w : FVec Ideal S2816x1024 .bf16) (x : FVec Ideal S16384x1024 .f32) :
    DownRefIdeal.Read.val_main_v3 (F := Ideal) a w x = fun y => x y + Prod.nn (M := 16384) (N := 1024) a w y := by
  funext i
  rw [DownRefIdeal.Read.val_main_v3_apply, DownRefIdeal.Read.val_main_v2_apply]
  exact congrArg (x i + ·) (Finset.sum_congr rfl fun k _ => congrArg₂ (· * ·) (congrArg a (ix2_eta _).symm) (congrArg w (ix2_eta _).symm))

end Cert.DownIdeal.Value
-- ==== Proof.Out.lean ====
/- An output projection, added to the residual. -/
module

public import proofs.«01_k».proof.Proof.Gen.OutIdeal.Value
public import proofs.«01_k».proof.Proof.Gen.OutRefIdeal.Read
public import proofs.«01_k».proof.Proof.Prod
public import Idealize.ShloMosaic.Lib.StableHlo.ReadAt
public import Idealize.ShloMosaic.Lib.Tactic.IndexArith

@[expose] public section

set_option maxRecDepth 16384

noncomputable section

open Idealize.ShloMosaic Idealize.ShloMosaic.TcCoe Idealize.SL.Sem

namespace Cert.OutIdeal.Value

open Cert.OutIdeal Cert.OutIdeal.Gen

variable (m : (ℓ : Loc nD τ sig) → Buf (Elt Ideal) ℓ)

abbrev argA (c : Dev nD) : FVec Ideal S16384x1024 .bf16 := m (c.tc.loc main_arg0)
abbrev argW (c : Dev nD) : FVec Ideal S1024x1024 .bf16 := m (c.tc.loc main_arg1)
abbrev argX (c : Dev nD) : FVec Ideal S16384x1024 .f32 := m (c.tc.loc main_arg2)

/-- The residual with the product added. -/
def sum (c : Dev nD) (y : S16384x1024.Idx) : EReal := argX m c y + Prod.nn (M := 16384) (N := 1024) (argA m c) (argW m c) y

theorem idx : ∀ t : Fin cfg0.N, t.val < 16 ∧ win0_0.index t = ![t.val, 0] ∧ win0_1.index t = ![0, 0]
    ∧ win0_2.index t = ![t.val, 0] ∧ win0_3.index t = ![t.val, 0] :=
  (by decide +kernel : ∀ t : Fin grid0.N, _)

theorem blk0 (c : Dev nD) (t : Fin cfg0.N) (r : Fin 1024) (k : Fin 1024) (h : t.val * 1024 + r.val < 16384) :
    iblk m c 0 t (ix2 r k) = argA m c (ix2 ⟨t.val * 1024 + r.val, h⟩ k) := by
  blk_ext [iblk, V, idx t]

theorem blk1 (c : Dev nD) (t : Fin cfg0.N) (k : Fin 1024) (l : Fin 1024) : iblk m c 1 t (ix2 k l) = argW m c (ix2 k l) := by
  blk_ext [iblk, V, idx t]

theorem blk2 (c : Dev nD) (t : Fin cfg0.N) (r : Fin 1024) (k : Fin 1024) (h : t.val * 1024 + r.val < 16384) :
    iblk m c 2 t (ix2 r k) = argX m c (ix2 ⟨t.val * 1024 + r.val, h⟩ k) := by
  blk_ext [iblk, V, idx t]

theorem pay (a : FVec Ideal S1024x1024 .bf16) (b : FVec Ideal S1024x1024 .bf16) (x : FVec Ideal S1024x1024 .f32) (r l : Fin 1024) :
    k0_pay1 (F := Ideal) a b x (ix2 r l) = (∑ k : Fin 1024, a (ix2 r k) * b (ix2 k l)) + x (ix2 r l) := by
  pointwise [k0_pay1]

theorem final (c : Dev nD) : (dats m 0 c).arrAt 3 (cfgs 0).N = sum m c := by
  refine (dats m 0 c).arrAt_eq_of_covers 3 _ (by decide +kernel) fun t hf y => ?_
  blk_simp
  rw [after0_3]
  idx_vars y
  unfold outsAt0
  frame_out
  refine (pay _ _ _ _ _).trans ((add_comm _ _).trans (congrArg₂ (· + ·) ?_ (Finset.sum_congr rfl fun k _ => congrArg₂ (· * ·) ?_ ?_)))
  · refine (blk2 m c t y0 y1 (by have := (idx t).1; omega)).trans ?_
    blk_ext [idx t]
  · refine (blk0 m c t y0 k (by have := (idx t).1; omega)).trans ?_
    blk_ext [idx t]
  · refine (blk1 m c t k y1).trans ?_
    blk_ext [idx t]

/-- The reference holds the same sum. -/
theorem ref (a : FVec Ideal S16384x1024 .bf16) (w : FVec Ideal S1024x1024 .bf16) (x : FVec Ideal S16384x1024 .f32) :
    OutRefIdeal.Read.val_main_v3 (F := Ideal) a w x = fun y => x y + Prod.nn (M := 16384) (N := 1024) a w y := by
  funext i
  rw [OutRefIdeal.Read.val_main_v3_apply, OutRefIdeal.Read.val_main_v2_apply]
  exact congrArg (x i + ·) (Finset.sum_congr rfl fun k _ => congrArg₂ (· * ·) (congrArg a (ix2_eta _).symm) (congrArg w (ix2_eta _).symm))

end Cert.OutIdeal.Value
-- ==== Proof.View0.lean ====
/- The projections of the first attention group. -/
module

public import proofs.«01_k».proof.Proof.Gen.View0Ideal.Value
public import proofs.«01_k».proof.Proof.Gen.View0RefIdeal.Read
public import proofs.«01_k».proof.Proof.Prod
public import Idealize.ShloMosaic.Lib.StableHlo.ReadAt
public import Idealize.ShloMosaic.Lib.Tactic.IndexArith

@[expose] public section

set_option maxRecDepth 16384

noncomputable section

open Idealize.ShloMosaic Idealize.ShloMosaic.TcCoe Idealize.SL.Sem

namespace Cert.View0Ideal.Value

open Cert.View0Ideal Cert.View0Ideal.Gen

variable (m : (ℓ : Loc nD τ sig) → Buf (Elt Ideal) ℓ)

abbrev argA (c : Dev nD) : FVec Ideal S16384x1024 .bf16 := m (c.tc.loc main_arg0)
abbrev argW (c : Dev nD) : FVec Ideal S1024x1024 .bf16 := m (c.tc.loc main_arg1)

theorem idx : ∀ t : Fin cfg0.N, t.val < 16 ∧ win0_0.index t = ![t.val, 0] ∧ win0_1.index t = ![0, 0]
    ∧ win0_2.index t = ![t.val, 0] :=
  (by decide +kernel : ∀ t : Fin grid0.N, _)

theorem blk0 (c : Dev nD) (t : Fin cfg0.N) (r k : Fin 1024) (h : t.val * 1024 + r.val < 16384) :
    iblk m c 0 t (ix2 r k) = argA m c (ix2 ⟨t.val * 1024 + r.val, h⟩ k) := by
  blk_ext [iblk, V, idx t]

theorem blk1 (c : Dev nD) (t : Fin cfg0.N) (k l : Fin 1024) : iblk m c 1 t (ix2 k l) = argW m c (ix2 k l) := by
  blk_ext [iblk, V, idx t]

theorem pay (a b : FVec Ideal S1024x1024 .bf16) (r l : Fin 1024) :
    k0_pay1 (F := Ideal) a b (ix2 r l) = ∑ k : Fin 1024, a (ix2 r k) * b (ix2 k l) := by
  pointwise [k0_pay1]

theorem final (c : Dev nD) : (dats m 0 c).arrAt 2 (cfgs 0).N = Prod.nn (M := 16384) (N := 1024) (argA m c) (argW m c) := by
  refine (dats m 0 c).arrAt_eq_of_covers 2 _ (by decide +kernel) fun t hf y => ?_
  blk_simp
  rw [after0_2]
  idx_vars y
  unfold outsAt0
  frame_out
  refine (pay _ _ _ _).trans (Finset.sum_congr rfl fun k _ => congrArg₂ (· * ·) ?_ ?_)
  · refine (blk0 m c t y0 k (by have := (idx t).1; omega)).trans ?_
    blk_ext [idx t]
  · refine (blk1 m c t k y1).trans ?_
    blk_ext [idx t]

/-- The reference holds the same product. -/
theorem ref (a : FVec Ideal S16384x1024 .bf16) (w : FVec Ideal S1024x1024 .bf16) :
    View0RefIdeal.Read.val_main_v3 (F := Ideal) a w = Prod.nn (M := 16384) (N := 1024) a w := by
  funext i
  rw [View0RefIdeal.Read.val_main_v3_apply]
  refine (show _ = View0RefIdeal.Read.val_main_v2 (F := Ideal) a w i from rfl).trans ?_
  rw [View0RefIdeal.Read.val_main_v2_apply]
  exact Finset.sum_congr rfl fun k _ => congrArg₂ (· * ·) (congrArg a (ix2_eta _).symm) (congrArg w (ix2_eta _).symm)

end Cert.View0Ideal.Value
-- ==== Proof.View1.lean ====
/- The projections of the second attention group, with 4 rows side by side. -/
module

public import proofs.«01_k».proof.Proof.Gen.View1Ideal.Value
public import proofs.«01_k».proof.Proof.Gen.View1RefIdeal.Read
public import proofs.«01_k».proof.Proof.Prod
public import Idealize.ShloMosaic.Lib.StableHlo.ReadAt
public import Idealize.ShloMosaic.Lib.Tactic.IndexArith

@[expose] public section

set_option maxRecDepth 16384

noncomputable section

open Idealize.ShloMosaic Idealize.ShloMosaic.TcCoe Idealize.SL.Sem

namespace Cert.View1Ideal.Value

open Cert.View1Ideal Cert.View1Ideal.Gen

variable (m : (ℓ : Loc nD τ sig) → Buf (Elt Ideal) ℓ)

abbrev argA (c : Dev nD) : FVec Ideal S16384x1024 .bf16 := m (c.tc.loc main_arg0)
abbrev argW (c : Dev nD) : FVec Ideal S1024x1024 .bf16 := m (c.tc.loc main_arg1)

theorem idx : ∀ t : Fin cfg0.N, t.val < 16 ∧ win0_0.index t = ![t.val, 0] ∧ win0_1.index t = ![0, 0]
    ∧ win0_2.index t = ![t.val, 0] :=
  (by decide +kernel : ∀ t : Fin grid0.N, _)

theorem blk0 (c : Dev nD) (t : Fin cfg0.N) (r k : Fin 1024) (h : t.val * 1024 + r.val < 16384) :
    iblk m c 0 t (ix2 r k) = argA m c (ix2 ⟨t.val * 1024 + r.val, h⟩ k) := by
  blk_ext [iblk, V, idx t]

theorem blk1 (c : Dev nD) (t : Fin cfg0.N) (k l : Fin 1024) : iblk m c 1 t (ix2 k l) = argW m c (ix2 k l) := by
  blk_ext [iblk, V, idx t]

/-- The product of a block in the eight column blocks the scratch holds it in. -/
def chunks (a b : FVec Ideal S1024x1024 .bf16) (y : S8x1024x128.Idx) : EReal :=
  ∑ k : Fin 1024, a (ix2 (y 1) k)
    * b (ix2 k ⟨(y 0).val * 128 + (y 2).val, by have := (y 0).isLt; have := (y 2).isLt; simp at *; omega⟩)

/-- The product of a block with 4 of its rows side by side. -/
def rows (a b : FVec Ideal S1024x1024 .bf16) (y : S256x4096.Idx) : EReal :=
  ∑ k : Fin 1024, a (ix2 ⟨(y 0).val * 4 + (y 1).val / 1024, by have := (y 0).isLt; have := (y 1).isLt; simp at *; omega⟩ k)
    * b (ix2 k ⟨(y 1).val % 1024, Nat.mod_lt _ (by decide)⟩)

theorem chunk (a b : FVec Ideal S1024x1024 .bf16) (r : Fin 1024) (l : Fin 128) (j : Fin 1024)
    (y : S8x1024x128.Idx) (h0 : j.val = (y 0).val * 128 + l.val) (h1 : (y 1).val = r.val) (h2 : (y 2).val = l.val) :
    ∑ k : Fin 1024, a (ix2 r k) * b (ix2 k j) = chunks a b y := by
  refine Finset.sum_congr rfl fun k _ => congrArg₂ (· * ·) ?_ ?_
  · exact congrArg (fun q => a (ix2 q k)) (Fin.ext h1.symm)
  · exact congrArg (fun q => b (ix2 k q)) (Fin.ext (by simp only []; omega))

/-- The scratch when its eight blocks are written. -/
theorem scratch (a b : FVec Ideal S1024x1024 .bf16) :
    View.canon (Val := Elt Ideal) (s := S8x1024x128) (e := .f32)
      [⟨Rect.unit ![7, 0, 0] ![1, 1024, 128] inb_S8x1024x128_S1x1024x128_7_0_0, k0_pay13 (F := Ideal) (k0_pay4 a b)⟩,
       ⟨Rect.unit ![6, 0, 0] ![1, 1024, 128] inb_S8x1024x128_S1x1024x128_6_0_0, k0_pay12 (F := Ideal) (k0_pay11 a b)⟩,
       ⟨Rect.unit ![5, 0, 0] ![1, 1024, 128] inb_S8x1024x128_S1x1024x128_5_0_0, k0_pay10 (F := Ideal) a b⟩,
       ⟨Rect.unit ![4, 0, 0] ![1, 1024, 128] inb_S8x1024x128_S1x1024x128_4_0_0, k0_pay9 (F := Ideal) a b⟩,
       ⟨Rect.unit ![3, 0, 0] ![1, 1024, 128] inb_S8x1024x128_S1x1024x128_3_0_0, k0_pay8 (F := Ideal) a b⟩,
       ⟨Rect.unit ![2, 0, 0] ![1, 1024, 128] inb_S8x1024x128_S1x1024x128_2_0_0, k0_pay7 (F := Ideal) a b⟩,
       ⟨Rect.unit ![1, 0, 0] ![1, 1024, 128] inb_S8x1024x128_S1x1024x128_1_0_0, k0_pay6 (F := Ideal) a b⟩,
       ⟨Rect.unit ![0, 0, 0] ![1, 1024, 128] inb_S8x1024x128_S1x1024x128_0_0_0, k0_pay5 (F := Ideal) a b⟩]
      = chunks a b := by
  funext y
  generalize hv : chunks a b y = v
  canon_tiles x h
  all_goals
    subst hv
    idx_vars x
    pointwise [k0_pay4, k0_pay5, k0_pay6, k0_pay7, k0_pay8, k0_pay9, k0_pay10, k0_pay11, k0_pay12, k0_pay13]
    have hx : x0.val < 1 := x0.isLt
    exact chunk a b x1 x2 _ y (by dsimp only; omega) (by omega) (by omega)

/-- One stored piece: every 4th row of a column block. -/
theorem piece (a b : FVec Ideal S1024x1024 .bf16) (x : S256x128.Idx) (y : S256x4096.Idx) (c r : ℕ)
    (hin : ∀ e, (![1, 256, 128] : Fin 3 → ℕ) e = 0
      ∨ (![c, r, 0] : Fin 3 → ℕ) e + (![1, 4, 1] : Fin 3 → ℕ) e * ((![1, 256, 128] : Fin 3 → ℕ) e - 1) < S8x1024x128.size e)
    (hc : c < 8) (h0 : (y 0).val = (x 0).val) (h1 : (y 1).val = (r * 8 + c) * 128 + (x 1).val) :
    k0_pay1 (F := Ideal) (fun j => chunks a b
      (({ off := ![c, r, 0], size := ![1, 256, 128], stride := ![1, 4, 1], inb := hin } : LoadRect S8x1024x128).idx j)) x
      = rows a b y := by
  idx_vars x
  have hx : x1.val < 128 := x1.isLt
  pointwise [k0_pay1]
  refine Finset.sum_congr rfl fun k _ => congrArg₂ (· * ·) ?_ ?_
  · exact congrArg (fun q => a (ix2 q k)) (Fin.ext (by show r + 4 * x0.val = (y 0).val * 4 + (y 1).val / 1024; omega))
  · exact congrArg (fun q => b (ix2 k q)) (Fin.ext (by show c * 128 + x1.val = (y 1).val % 1024; omega))

set_option maxHeartbeats 8000000 in
theorem out (c : Dev nD) (t : Fin cfg0.N) (y : S256x4096.Idx) : outsAt0 m c t y = rows (iblk m c 0 t) (iblk m c 1 t) y := by
  generalize hv : rows (iblk m c 0 t) (iblk m c 1 t) y = v
  unfold outsAt0
  frame_out
  simp only [View.readCov_eq_canon', scratch]
  canon_tiles x h
  all_goals
    subst hv
    exact piece _ _ x y _ _ _ (by decide) (by omega) (by omega)

/-- The product with 4 of its rows side by side. -/
def sides (a : FVec Ideal S16384x1024 .bf16) (w : FVec Ideal S1024x1024 .bf16) (y : S4096x4096.Idx) : EReal :=
  Prod.nn (M := 16384) (N := 1024) a w
    (ix2 ⟨(y 0).val * 4 + (y 1).val / 1024, by have h : (y 0).val < 4096 := (y 0).isLt; have h : (y 1).val < 4096 := (y 1).isLt; omega⟩
      ⟨(y 1).val % 1024, Nat.mod_lt _ (by decide)⟩)

theorem rows_eq (c : Dev nD) (t : Fin cfg0.N) (y : S256x4096.Idx) (z : S4096x4096.Idx) (h0 : (z 0).val = t.val * 256 + (y 0).val)
    (h1 : (z 1).val = (y 1).val) : rows (iblk m c 0 t) (iblk m c 1 t) y = sides (argA m c) (argW m c) z := by
  have hd := (idx t).1
  have hy0 : (y 0).val < 256 := (y 0).isLt
  have hy1 : (y 1).val < 4096 := (y 1).isLt
  unfold rows sides Prod.nn
  refine Finset.sum_congr rfl fun k _ => congrArg₂ (· * ·) ?_ ?_
  · refine (blk0 m c t _ k (by show t.val * 1024 + ((y 0).val * 4 + (y 1).val / 1024) < 16384; omega)).trans ?_
    refine congrArg (fun q => argA m c (ix2 q k)) (Fin.ext ?_)
    show t.val * 1024 + ((y 0).val * 4 + (y 1).val / 1024) = (z 0).val * 4 + (z 1).val / 1024
    omega
  · refine (blk1 m c t k _).trans ?_
    refine congrArg (fun q => argW m c (ix2 k q)) (Fin.ext ?_)
    show (y 1).val % 1024 = (z 1).val % 1024
    omega

theorem final (c : Dev nD) : (dats m 0 c).arrAt 2 (cfgs 0).N = sides (argA m c) (argW m c) := by
  refine (dats m 0 c).arrAt_eq_of_covers 2 _ (by decide +kernel) fun t hf y => ?_
  have hi : win0_2.index t = ![t.val, 0] := (idx t).2.2.2
  blk_simp
  rw [after0_2, out]
  refine rows_eq m c t y _ ?_ ?_
  · blk_simp [hi]
  · blk_simp [hi]

/-- The reference holds the same product. -/
theorem ref (a : FVec Ideal S16384x1024 .bf16) (w : FVec Ideal S1024x1024 .bf16) :
    View1RefIdeal.Read.val_main_v4 (F := Ideal) a w = sides a w := by
  funext i
  rw [View1RefIdeal.Read.val_main_v4_apply]
  refine (show _ = View1RefIdeal.Read.val_main_v2 (F := Ideal) a w (View1RefIdeal.Read.idx_main_v4 i) from rfl).trans ?_
  rw [View1RefIdeal.Read.val_main_v2_apply]
  have h0 : (i 0).val < 4096 := (i 0).isLt
  have h1 : (i 1).val < 4096 := (i 1).isLt
  unfold sides Prod.nn
  refine Finset.sum_congr rfl fun k _ => congrArg₂ (· * ·) ?_ ?_
  · refine (congrArg a (ix2_eta _).symm).trans (congrArg (fun q => a (ix2 q k)) (Fin.ext ?_))
    show ((i 0).val * 4096 + (i 1).val) / 1024 = (i 0).val * 4 + (i 1).val / 1024
    omega
  · refine (congrArg w (ix2_eta _).symm).trans (congrArg (fun q => w (ix2 k q)) (Fin.ext ?_))
    show ((i 0).val * 4096 + (i 1).val) % 1024 = (i 1).val % 1024
    omega

end Cert.View1Ideal.Value
-- ==== Proof.View2.lean ====
/- The projections of the third attention group, with 16 rows side by side. -/
module

public import proofs.«01_k».proof.Proof.Gen.View2Ideal.Value
public import proofs.«01_k».proof.Proof.Gen.View2RefIdeal.Read
public import proofs.«01_k».proof.Proof.Prod
public import Idealize.ShloMosaic.Lib.StableHlo.ReadAt
public import Idealize.ShloMosaic.Lib.Tactic.IndexArith

@[expose] public section

set_option maxRecDepth 16384

noncomputable section

open Idealize.ShloMosaic Idealize.ShloMosaic.TcCoe Idealize.SL.Sem

namespace Cert.View2Ideal.Value

open Cert.View2Ideal Cert.View2Ideal.Gen

variable (m : (ℓ : Loc nD τ sig) → Buf (Elt Ideal) ℓ)

abbrev argA (c : Dev nD) : FVec Ideal S16384x1024 .bf16 := m (c.tc.loc main_arg0)
abbrev argW (c : Dev nD) : FVec Ideal S1024x1024 .bf16 := m (c.tc.loc main_arg1)

theorem idx : ∀ t : Fin cfg0.N, t.val < 16 ∧ win0_0.index t = ![t.val, 0] ∧ win0_1.index t = ![0, 0]
    ∧ win0_2.index t = ![t.val, 0] :=
  (by decide +kernel : ∀ t : Fin grid0.N, _)

theorem blk0 (c : Dev nD) (t : Fin cfg0.N) (r k : Fin 1024) (h : t.val * 1024 + r.val < 16384) :
    iblk m c 0 t (ix2 r k) = argA m c (ix2 ⟨t.val * 1024 + r.val, h⟩ k) := by
  blk_ext [iblk, V, idx t]

theorem blk1 (c : Dev nD) (t : Fin cfg0.N) (k l : Fin 1024) : iblk m c 1 t (ix2 k l) = argW m c (ix2 k l) := by
  blk_ext [iblk, V, idx t]

/-- The product of a block in the eight column blocks the scratch holds it in. -/
def chunks (a b : FVec Ideal S1024x1024 .bf16) (y : S8x1024x128.Idx) : EReal :=
  ∑ k : Fin 1024, a (ix2 (y 1) k)
    * b (ix2 k ⟨(y 0).val * 128 + (y 2).val, by have := (y 0).isLt; have := (y 2).isLt; simp at *; omega⟩)

/-- The product of a block with 16 of its rows side by side. -/
def rows (a b : FVec Ideal S1024x1024 .bf16) (y : S64x16384.Idx) : EReal :=
  ∑ k : Fin 1024, a (ix2 ⟨(y 0).val * 16 + (y 1).val / 1024, by have := (y 0).isLt; have := (y 1).isLt; simp at *; omega⟩ k)
    * b (ix2 k ⟨(y 1).val % 1024, Nat.mod_lt _ (by decide)⟩)

theorem chunk (a b : FVec Ideal S1024x1024 .bf16) (r : Fin 1024) (l : Fin 128) (j : Fin 1024)
    (y : S8x1024x128.Idx) (h0 : j.val = (y 0).val * 128 + l.val) (h1 : (y 1).val = r.val) (h2 : (y 2).val = l.val) :
    ∑ k : Fin 1024, a (ix2 r k) * b (ix2 k j) = chunks a b y := by
  refine Finset.sum_congr rfl fun k _ => congrArg₂ (· * ·) ?_ ?_
  · exact congrArg (fun q => a (ix2 q k)) (Fin.ext h1.symm)
  · exact congrArg (fun q => b (ix2 k q)) (Fin.ext (by simp only []; omega))

/-- The scratch when its eight blocks are written. -/
theorem scratch (a b : FVec Ideal S1024x1024 .bf16) :
    View.canon (Val := Elt Ideal) (s := S8x1024x128) (e := .f32)
      [⟨Rect.unit ![7, 0, 0] ![1, 1024, 128] inb_S8x1024x128_S1x1024x128_7_0_0, k0_pay13 (F := Ideal) (k0_pay4 a b)⟩,
       ⟨Rect.unit ![6, 0, 0] ![1, 1024, 128] inb_S8x1024x128_S1x1024x128_6_0_0, k0_pay12 (F := Ideal) (k0_pay11 a b)⟩,
       ⟨Rect.unit ![5, 0, 0] ![1, 1024, 128] inb_S8x1024x128_S1x1024x128_5_0_0, k0_pay10 (F := Ideal) a b⟩,
       ⟨Rect.unit ![4, 0, 0] ![1, 1024, 128] inb_S8x1024x128_S1x1024x128_4_0_0, k0_pay9 (F := Ideal) a b⟩,
       ⟨Rect.unit ![3, 0, 0] ![1, 1024, 128] inb_S8x1024x128_S1x1024x128_3_0_0, k0_pay8 (F := Ideal) a b⟩,
       ⟨Rect.unit ![2, 0, 0] ![1, 1024, 128] inb_S8x1024x128_S1x1024x128_2_0_0, k0_pay7 (F := Ideal) a b⟩,
       ⟨Rect.unit ![1, 0, 0] ![1, 1024, 128] inb_S8x1024x128_S1x1024x128_1_0_0, k0_pay6 (F := Ideal) a b⟩,
       ⟨Rect.unit ![0, 0, 0] ![1, 1024, 128] inb_S8x1024x128_S1x1024x128_0_0_0, k0_pay5 (F := Ideal) a b⟩]
      = chunks a b := by
  funext y
  generalize hv : chunks a b y = v
  canon_tiles x h
  all_goals
    subst hv
    idx_vars x
    pointwise [k0_pay4, k0_pay5, k0_pay6, k0_pay7, k0_pay8, k0_pay9, k0_pay10, k0_pay11, k0_pay12, k0_pay13]
    have hx : x0.val < 1 := x0.isLt
    exact chunk a b x1 x2 _ y (by dsimp only; omega) (by omega) (by omega)

/-- One stored piece: every 16th row of a column block. -/
theorem piece (a b : FVec Ideal S1024x1024 .bf16) (x : S64x128.Idx) (y : S64x16384.Idx) (c r : ℕ)
    (hin : ∀ e, (![1, 64, 128] : Fin 3 → ℕ) e = 0
      ∨ (![c, r, 0] : Fin 3 → ℕ) e + (![1, 16, 1] : Fin 3 → ℕ) e * ((![1, 64, 128] : Fin 3 → ℕ) e - 1) < S8x1024x128.size e)
    (hc : c < 8) (h0 : (y 0).val = (x 0).val) (h1 : (y 1).val = (r * 8 + c) * 128 + (x 1).val) :
    k0_pay1 (F := Ideal) (fun j => chunks a b
      (({ off := ![c, r, 0], size := ![1, 64, 128], stride := ![1, 16, 1], inb := hin } : LoadRect S8x1024x128).idx j)) x
      = rows a b y := by
  idx_vars x
  have hx : x1.val < 128 := x1.isLt
  pointwise [k0_pay1]
  refine Finset.sum_congr rfl fun k _ => congrArg₂ (· * ·) ?_ ?_
  · exact congrArg (fun q => a (ix2 q k)) (Fin.ext (by show r + 16 * x0.val = (y 0).val * 16 + (y 1).val / 1024; omega))
  · exact congrArg (fun q => b (ix2 k q)) (Fin.ext (by show c * 128 + x1.val = (y 1).val % 1024; omega))

set_option maxHeartbeats 8000000 in
theorem out (c : Dev nD) (t : Fin cfg0.N) (y : S64x16384.Idx) : outsAt0 m c t y = rows (iblk m c 0 t) (iblk m c 1 t) y := by
  generalize hv : rows (iblk m c 0 t) (iblk m c 1 t) y = v
  unfold outsAt0
  frame_out
  simp only [View.readCov_eq_canon', scratch]
  canon_tiles x h
  all_goals
    subst hv
    exact piece _ _ x y _ _ _ (by decide) (by omega) (by omega)

/-- The product with 16 of its rows side by side. -/
def sides (a : FVec Ideal S16384x1024 .bf16) (w : FVec Ideal S1024x1024 .bf16) (y : S1024x16384.Idx) : EReal :=
  Prod.nn (M := 16384) (N := 1024) a w
    (ix2 ⟨(y 0).val * 16 + (y 1).val / 1024, by have h : (y 0).val < 1024 := (y 0).isLt; have h : (y 1).val < 16384 := (y 1).isLt; omega⟩
      ⟨(y 1).val % 1024, Nat.mod_lt _ (by decide)⟩)

theorem rows_eq (c : Dev nD) (t : Fin cfg0.N) (y : S64x16384.Idx) (z : S1024x16384.Idx) (h0 : (z 0).val = t.val * 64 + (y 0).val)
    (h1 : (z 1).val = (y 1).val) : rows (iblk m c 0 t) (iblk m c 1 t) y = sides (argA m c) (argW m c) z := by
  have hd := (idx t).1
  have hy0 : (y 0).val < 64 := (y 0).isLt
  have hy1 : (y 1).val < 16384 := (y 1).isLt
  unfold rows sides Prod.nn
  refine Finset.sum_congr rfl fun k _ => congrArg₂ (· * ·) ?_ ?_
  · refine (blk0 m c t _ k (by show t.val * 1024 + ((y 0).val * 16 + (y 1).val / 1024) < 16384; omega)).trans ?_
    refine congrArg (fun q => argA m c (ix2 q k)) (Fin.ext ?_)
    show t.val * 1024 + ((y 0).val * 16 + (y 1).val / 1024) = (z 0).val * 16 + (z 1).val / 1024
    omega
  · refine (blk1 m c t k _).trans ?_
    refine congrArg (fun q => argW m c (ix2 k q)) (Fin.ext ?_)
    show (y 1).val % 1024 = (z 1).val % 1024
    omega

theorem final (c : Dev nD) : (dats m 0 c).arrAt 2 (cfgs 0).N = sides (argA m c) (argW m c) := by
  refine (dats m 0 c).arrAt_eq_of_covers 2 _ (by decide +kernel) fun t hf y => ?_
  have hi : win0_2.index t = ![t.val, 0] := (idx t).2.2.2
  blk_simp
  rw [after0_2, out]
  refine rows_eq m c t y _ ?_ ?_
  · blk_simp [hi]
  · blk_simp [hi]

/-- The reference holds the same product. -/
theorem ref (a : FVec Ideal S16384x1024 .bf16) (w : FVec Ideal S1024x1024 .bf16) :
    View2RefIdeal.Read.val_main_v4 (F := Ideal) a w = sides a w := by
  funext i
  rw [View2RefIdeal.Read.val_main_v4_apply]
  refine (show _ = View2RefIdeal.Read.val_main_v2 (F := Ideal) a w (View2RefIdeal.Read.idx_main_v4 i) from rfl).trans ?_
  rw [View2RefIdeal.Read.val_main_v2_apply]
  have h0 : (i 0).val < 1024 := (i 0).isLt
  have h1 : (i 1).val < 16384 := (i 1).isLt
  unfold sides Prod.nn
  refine Finset.sum_congr rfl fun k _ => congrArg₂ (· * ·) ?_ ?_
  · refine (congrArg a (ix2_eta _).symm).trans (congrArg (fun q => a (ix2 q k)) (Fin.ext ?_))
    show ((i 0).val * 16384 + (i 1).val) / 1024 = (i 0).val * 16 + (i 1).val / 1024
    omega
  · refine (congrArg w (ix2_eta _).symm).trans (congrArg (fun q => w (ix2 k q)) (Fin.ext ?_))
    show ((i 0).val * 16384 + (i 1).val) % 1024 = (i 1).val % 1024
    omega

end Cert.View2Ideal.Value
-- ==== Proof.UpRun.lean ====
module

public import proofs.«01_k».proof.Proof.Gen.UpActIdeal.Frame
public import proofs.«01_k».proof.Proof.Gen.UpActIdeal.Skeleton
public import Idealize.ShloMosaic.Lib.Claim
public import Idealize.ShloMosaic.Lib.Pipeline.FrameBody
public import Idealize.ShloMosaic.Lib.Ring
public import Idealize.ShloMosaic.Lib.Tactic
public import Idealize.ShloMosaic.Lib.VecWindow

@[expose] public section

set_option maxRecDepth 16384

noncomputable section

namespace Cert.UpActIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.UpActIdeal.Gen

variable {F : FTy → Type} [FloatOps F]

local notation "𝕄" => MT nD τ sig Unit (Elt F) ℕ (UR sig nD τ) ℕ

/-- The gated activation that the body stores, from the blocks and from the eight rows `p` that the scratch held. -/
def gated (i : grid0.Coords) (x : Vec F S2048x1024 .bf16) (w : Vec F S1024x512 .bf16) (k : Vec F S3x512 .f32)
    (b : Vec F S1x512 .f32) (p : Vec F S8x512 .f32) : Vec F S2048x256 .bf16 :=
  k0_pay2 (k0_pay3 x w) (k0_pay4 k) (k0_pay5 b) (k0_pay6 i x w p k) (k0_pay7 x w) (k0_pay8 i p) k0_pay9

/-- The body on whole buffers: it leaves its inputs, stores the product, the last eight rows of the product and the gated
    activation. -/
theorem body (c : Dev nD) (i : grid0.Coords) (arg2 : Memref sig .tc .vmem S2048x1024 .bf16) (harg2 : arg2.IsWhole)
    (arg3 : Memref sig .tc .vmem S1024x512 .bf16) (harg3 : arg3.IsWhole)
    (arg4 : Memref sig .tc .vmem S3x512 .f32) (harg4 : arg4.IsWhole)
    (arg5 : Memref sig .tc .vmem S1x512 .f32) (harg5 : arg5.IsWhole)
    (arg6 : Memref sig .tc .vmem S2048x512 .f32) (harg6 : arg6.IsWhole)
    (arg7 : Memref sig .tc .vmem S2048x256 .bf16) (harg7 : arg7.IsWhole)
    (arg8 : Memref sig .tc .vmem S8x512 .f32) (harg8 : arg8.IsWhole)
    (x : Vec F S2048x1024 .bf16) (w : Vec F S1024x512 .bf16) (k : Vec F S3x512 .f32)
    (b : Vec F S1x512 .f32) (p : Vec F S8x512 .f32) (E : Set ℕ) (K : PUnit → sProp 𝕄) :
    iprop(owns (c : Thread nD τ) arg2 fullShare x ∗ owns (c : Thread nD τ) arg3 fullShare w
        ∗ owns (c : Thread nD τ) arg4 fullShare k ∗ owns (c : Thread nD τ) arg5 fullShare b
        ∗ (∃ d, owns (c : Thread nD τ) arg6 fullShare d) ∗ (∃ d, owns (c : Thread nD τ) arg7 fullShare d)
        ∗ owns (c : Thread nD τ) arg8 fullShare p
        ∗ (iprop(owns (c : Thread nD τ) arg2 fullShare x ∗ owns (c : Thread nD τ) arg3 fullShare w
            ∗ owns (c : Thread nD τ) arg4 fullShare k ∗ owns (c : Thread nD τ) arg5 fullShare b
            ∗ owns (c : Thread nD τ) arg6 fullShare (k0_pay3 x w)
            ∗ owns (c : Thread nD τ) arg7 fullShare (gated i x w k b p)
            ∗ owns (c : Thread nD τ) arg8 fullShare (k0_pay1 (k0_pay3 x w))) -∗ K ⟨⟩))
      ⊢ wp frame (wpE (defs₀ (F := F)) Variants.none c none) E
          (cc0_ffn1_up_act i arg2 harg2 arg3 harg3 arg4 harg4 arg5 harg5 arg6 harg6 arg7 harg7 arg8 harg8) K := by
  simp only [cc0_ffn1_up_act_eq_skeleton]; unfold cc0_ffn1_up_act_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs, %hfs, HS⟩, Hk⟩
  obtain rfl := harg2.eq_unread hf0; obtain rfl := harg3.eq_unread hf1
  obtain rfl := harg4.eq_unread hf2; obtain rfl := harg5.eq_unread hf3; obtain rfl := harg8.eq_unread hfs
  have e0 : View.readAt (Elt F) arg2.view (Rect.unit ![0, 0] S2048x1024.size inb_S2048x1024_S2048x1024_0_0).toLoadRect (harg2.unread x) = x :=
    (View.readAt_full _ _ _).trans hf0
  have e1 : View.readAt (Elt F) arg3.view (Rect.unit ![0, 0] S1024x512.size inb_S1024x512_S1024x512_0_0).toLoadRect (harg3.unread w) = w :=
    (View.readAt_full _ _ _).trans hf1
  have e2 : View.readAt (Elt F) arg4.view (Rect.unit ![0, 0] S3x512.size inb_S3x512_S3x512_0_0).toLoadRect (harg4.unread k) = k :=
    (View.readAt_full _ _ _).trans hf2
  have e3 : View.readAt (Elt F) arg5.view (Rect.unit ![0, 0] S1x512.size inb_S1x512_S1x512_0_0).toLoadRect (harg5.unread b) = b :=
    (View.readAt_full _ _ _).trans hf3
  have e4 : View.readAt (Elt F) arg8.view (Rect.unit ![0, 0] S8x512.size inb_S8x512_S8x512_0_0).toLoadRect (harg8.unread p) = p :=
    (View.readAt_full _ _ _).trans hfs
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (View.read_writes_full _ _ _ _ _).trans ?_
    rfl
  isplitl [H5]
  · iexists _; isplitr
    swap; · iexact H5
    ipureintro
    refine (View.read_writes_full (s := S2048x256) _ _ _ _ _).trans ?_
    rfl
  iexists _; isplitr
  swap; · iexact HS
  ipureintro
  refine (View.read_writes_full (s := S8x512) _ _ _ _ _).trans ?_
  rfl

/-- Where the second coordinate is zero the gated activation does not read the scratch. -/
theorem gated_first (i : grid0.Coords) (hi : (i 1).val = 0) (x : Vec F S2048x1024 .bf16) (w : Vec F S1024x512 .bf16)
    (k : Vec F S3x512 .f32) (b : Vec F S1x512 .f32) (p p' : Vec F S8x512 .f32) :
    gated i x w k b p = gated i x w k b p' := by
  have hc : Scalar.cmpi .eq (BitVec.ofNat 32 (i 1).val) 0#32 = 1#1 := by rw [hi]; rfl
  unfold gated k0_pay6 k0_pay8
  simp only [hc]
  rfl

theorem coord_row : ∀ t : Fin grid0.N, (grid0.coords t 1).val = t.val % 8 := by decide +kernel

variable (m : (ℓ : Loc nD τ sig) → Buf (Elt F) ℓ) (ρ : Dev nD → PrngReg)

/-- The point before `t`. -/
def prev (t : Fin cfg0.N) : Fin cfg0.N := ⟨t.val - 1, by have := t.isLt; omega⟩

/-- The last eight rows of the product at the point before `t`. -/
def carried (c : Dev nD) (t : Fin cfg0.N) : Vec F S8x512 .f32 :=
  k0_pay1 (k0_pay3 (iblk m c 0 (prev t)) (iblk m c 1 (prev t)))

/-- The gated activation stored at point `t`. -/
def actAt (c : Dev nD) (t : Fin cfg0.N) : Vec F S2048x256 .bf16 :=
  gated (grid0.coords t) (iblk m c 0 t) (iblk m c 1 t) (iblk m c 2 t) (iblk m c 3 t) (carried m c t)

abbrev sc : Memref sig .tc .vmem S8x512 .f32 := Memref.whole cc0_scratch0

/-- Between two points the scratch holds the last eight rows of the product before it, except where a column of blocks
    begins. -/
def inv (c : Dev nD) (n : ℕ) : sProp 𝕄 :=
  iprop(∃ X, ⌜∀ t : Fin cfg0.N, t.val = n → t.val % 8 ≠ 0 → X = carried m c t⌝ ∗ owns (c : Thread nD τ) sc fullShare X
    ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (iblk m c 0 t) (iblk m c 1 t)
    | ⟨5, _⟩ => actAt m c t
  Φ p := inv m c p.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = k0_pay3 (iblk m c 0 t) (iblk m c 1 t) := by dsimp only [dats]
theorem after0_5 (c : Dev nD) (t : Fin cfg0.N) : (dats m 0 c).after 5 t = actAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The launch's own invariant: the scratch at some contents. -/
theorem invA_eq (c : Dev nD) :
    (Pipeline.ΦA spec0 c : sProp 𝕄)
      = iprop(iprop((∃ d, owns (c : Thread nD τ) sc fullShare d)) ∗ (∃ r, prngReg c r)) := by
  unfold Pipeline.ΦA; rw [scopedRest0_eq]; simp only [sc, owns_whole]; try rfl

/-- The scratch's contents decide the activation only through `carried`. -/
theorem actAt_of (c : Dev nD) (t : Fin cfg0.N) (X : Vec F S8x512 .f32)
    (h : ∀ t' : Fin cfg0.N, t'.val = t.val → t'.val % 8 ≠ 0 → X = carried m c t') :
    gated (grid0.coords t) (iblk m c 0 t) (iblk m c 1 t) (iblk m c 2 t) (iblk m c 3 t) X = actAt m c t := by
  by_cases h0 : t.val % 8 = 0
  · exact gated_first _ ((coord_row t).trans h0) _ _ _ _ _ _
  · rw [h t rfl h0]; rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = inv m c (t.val + 1) from rfl,
    show (dats m 0 c).owesAt () t.succ = (dats m 0 c).owesAt () t.castSucc from rfl,
    after0_0, after0_1, after0_2, after0_3, after0_4, after0_5]
  rw [show (dats m 0 c).Φ t.castSucc = inv m c t.val from rfl]
  unfold inv
  iintro ⟨⟨%X, %hX, HS, Hg⟩, Ho, ⟨%d0, H0⟩, ⟨%d1, H1⟩, ⟨%d2, H2⟩, ⟨%d3, H3⟩, ⟨%d4, H4⟩, ⟨%d5, H5⟩⟩
  rw [← actAt_of m c t X hX]
  iapply (body c (grid0.coords t) _ _ _ _ _ _ _ _ _ _ _ _ _ _ (iblk m c 0 t) (iblk m c 1 t) (iblk m c 2 t) (iblk m c 3 t) X Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS]; · iexact HS
  iintro ⟨H0, H1, H2, H3, H4, H5, HS⟩
  isplitl [HS Hg]
  · iexists _
    isplitr
    swap
    · isplitl [HS]
      · iexact HS
      iexact Hg
    ipureintro
    intro t' ht' _
    have : prev t' = t := Fin.ext (by show t'.val - 1 = t.val; omega)
    rw [carried, this]
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem inv_in (c : Dev nD) : (Pipeline.ΦA spec0 c : sProp 𝕄) ⊢ (dats m 0 c).Φ 0 := by
  rw [show (dats m 0 c).Φ 0 = inv m c 0 from rfl, invA_eq]
  unfold inv
  iintro ⟨⟨%X, HS⟩, Hg⟩
  iexists X
  isplitr
  · ipureintro; intro t ht h; omega
  isplitl [HS]
  · iexact HS
  iexact Hg

theorem inv_out (c : Dev nD) : (dats m 0 c).Φ (Fin.last cfg0.N) ⊢ (Pipeline.ΦA spec0 c : sProp 𝕄) := by
  rw [show (dats m 0 c).Φ (Fin.last cfg0.N) = inv m c cfg0.N from rfl, invA_eq]
  unfold inv
  iintro ⟨%X, -, HS, Hg⟩
  isplitl [HS]
  · iexists X; iexact HS
  iexact Hg

set_option maxHeartbeats 800000 in
set_option backward.isDefEq.respectTransparency.types false in
/-- The run of the whole program, at any values: the arrays at what the pipeline leaves, every semaphore at zero. -/
theorem run_quiescent : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := A_eq m) (hin := inv_in m) (hout := inv_out m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.UpActIdeal.Run

end
-- ==== Proof.Algebra.lean ====
/- The two forms of the gradient of the gate agree at finite numbers. -/
module

public import proofs.«01_k».proof.Proof.Spec
public import Mathlib.Analysis.SpecialFunctions.Trigonometric.DerivHyp

@[expose] public section

set_option maxRecDepth 16384

noncomputable section

open Idealize.ShloMosaic

namespace Cert.Conv

/-- A finite number. -/
def IsReal (x : EReal) : Prop := ∃ r : ℝ, x = (r : EReal)

theorem IsReal.add {x y : EReal} : IsReal x → IsReal y → IsReal (x + y) := by
  rintro ⟨a, rfl⟩ ⟨b, rfl⟩
  exact ⟨a + b, (EReal.coe_add a b).symm⟩

theorem IsReal.mul {x y : EReal} : IsReal x → IsReal y → IsReal (x * y) := by
  rintro ⟨a, rfl⟩ ⟨b, rfl⟩
  exact ⟨a * b, (EReal.coe_mul a b).symm⟩

theorem half_eq : Ideal.ofBits FTy.f32 1056964608#32 = ((1 / 2 : ℝ) : EReal) := by
  simp [Ideal.ofBits, Ideal.ieee, -EReal.coe_mul]; norm_num

theorem inf_eq : Ideal.ofBits FTy.f32 2139095040#32 = ⊤ := by
  simp [Ideal.ofBits, Ideal.ieee]

/-- The sigmoid by the tangent is the sigmoid by the exponential, over the reals. -/
theorem tanh_half (r : ℝ) : 1 / 2 * Real.tanh (1 / 2 * r) + 1 / 2 = (1 + Real.exp (-r))⁻¹ := by
  have h1 : Real.exp (-r) = Real.exp (-(1 / 2 * r)) * Real.exp (-(1 / 2 * r)) := by
    rw [← Real.exp_add]; congr 1; ring
  have h2 : Real.exp (1 / 2 * r) * Real.exp (-(1 / 2 * r)) = 1 := by
    rw [← Real.exp_add]; simp
  rw [Real.tanh_eq_sinh_div_cosh, Real.sinh_eq, Real.cosh_eq, h1]
  have p := Real.exp_pos (1 / 2 * r)
  have q := Real.exp_pos (-(1 / 2 * r))
  generalize Real.exp (1 / 2 * r) = a at *
  generalize Real.exp (-(1 / 2 * r)) = b at *
  field_simp
  nlinarith

/-- The sigmoid at a finite number, with the exponential. -/
def sgR (r : ℝ) : ℝ := (1 + Real.exp (-r))⁻¹

theorem sg_real (r : ℝ) : sg (r : EReal) = ((sgR r : ℝ) : EReal) := by
  unfold sg sgR
  rw [half_eq, ← EReal.coe_mul, Ideal.tanh_coe, ← EReal.coe_mul, ← EReal.coe_add, tanh_half]

theorem logistic_real (r : ℝ) : Ideal.div 1 (1 + Ideal.exp (-(r : EReal))) = ((sgR r : ℝ) : EReal) := by
  unfold sgR
  rw [← EReal.coe_neg, Ideal.exp_coe, ← EReal.coe_one, ← EReal.coe_add,
    Ideal.div_coe (by have := Real.exp_pos (-r); positivity), ← EReal.coe_mul]
  congr 1; ring

theorem gateGrad_eq {g v d : EReal} (hg : IsReal g) (hv : IsReal v) (hd : IsReal d) :
    d * v * Ideal.div 1 (1 + Ideal.exp (-g))
      + g * (d * v) * (Ideal.div 1 (1 + Ideal.exp (-g)) * (1 - Ideal.div 1 (1 + Ideal.exp (-g)))) = gateGrad g v d := by
  obtain ⟨g, rfl⟩ := hg
  obtain ⟨v, rfl⟩ := hv
  obtain ⟨d, rfl⟩ := hd
  unfold gateGrad
  rw [sg_real, logistic_real, ← EReal.coe_one]
  simp only [← EReal.coe_mul, ← EReal.coe_add, ← EReal.coe_sub]
  congr 1; ring

theorem valGrad_eq {g d : EReal} (hg : IsReal g) : g * Ideal.div 1 (1 + Ideal.exp (-g)) * d = valGrad g d := by
  obtain ⟨g, rfl⟩ := hg
  unfold valGrad
  rw [sg_real, logistic_real, mul_comm]

/-- A number whose absolute value is below infinity is finite. -/
theorem isReal_of_lt (x : EReal) (h : FloatOps.cmpf (F := Ideal) (φ := .f32) .olt (FloatOps.absf (F := Ideal) (φ := .f32) x) (Ideal.ofBits FTy.f32 2139095040#32) = 1#1) : IsReal x := by
  rw [inf_eq] at h
  induction x with
  | bot => simp [FloatOps.cmpf, FloatOps.absf, Ideal.cmp] at h
  | top => simp [FloatOps.cmpf, FloatOps.absf, Ideal.cmp] at h
  | coe r => exact ⟨r, rfl⟩

section

variable {U : FVec Ideal U2 .f32} {W : FVec Ideal W2 .f32} {B : FVec Ideal B1 .f32}

theorem up_real (hU : ∀ i, IsReal (U i)) (x : ℕ) (k : Fin 5632) : IsReal (up U x k) := by
  unfold up
  split
  · exact hU _
  · exact ⟨0, rfl⟩

theorem cv_real (hU : ∀ i, IsReal (U i)) (hW : ∀ i, IsReal (W i)) (hB : ∀ i, IsReal (B i)) (x : ℕ) (k : Fin 5632) :
    IsReal (cv U W B x k) :=
  ((((up_real hU _ _).mul (hW _)).add ((up_real hU _ _).mul (hW _))).add ((up_real hU _ _).mul (hW _))).add (hB _)

end

end Cert.Conv
-- ==== Proof.UpAct.lean ====
/- The forward up projection with the convolution and the gate: its two results. -/
module

public import proofs.«01_k».proof.Proof.UpRun
public import proofs.«01_k».proof.Proof.Gen.UpActRefIdeal.Read
public import proofs.«01_k».proof.Proof.Prod
public import proofs.«01_k».proof.Proof.Tail
public import proofs.«01_k».proof.Proof.Algebra
public import Idealize.ShloMosaic.Lib.StableHlo.ReadAt
public import Idealize.ShloMosaic.Lib.Tactic.IndexArith

@[expose] public section

set_option maxRecDepth 16384

noncomputable section

open Idealize.ShloMosaic Idealize.ShloMosaic.TcCoe Idealize.SL.Sem

namespace Cert.UpActIdeal.Value

open Cert.UpActIdeal Cert.UpActIdeal.Gen Cert.UpActIdeal.Run Cert.Conv
open Cert.KernelIdeal.Value (std at' std_at std_col sel_eq)

/-- The gated activation, from the convolution's input, the filter and the bias. -/
def act (U : FVec Ideal U2 .f32) (W : FVec Ideal W2 .f32) (B : FVec Ideal B1 .f32) (y : Shape.Idx D2) : EReal :=
  let k : Fin 2816 := y 1
  cv U W B (y 0).val ⟨k.val, by omega⟩ * sg (cv U W B (y 0).val ⟨k.val, by omega⟩)
    * cv U W B (y 0).val ⟨2816 + k.val, by omega⟩

/-- The sigmoid by the tangent is the sigmoid by the exponential, at infinity too. -/
theorem sg_eq (g : EReal) : Ideal.div 1 (1 + Ideal.exp (-g)) = sg g := by
  induction g with
  | coe r => rw [sg_real, logistic_real]
  | top =>
    unfold sg
    rw [half_eq, EReal.coe_mul_top_of_pos (by norm_num), Ideal.tanh_top, EReal.neg_top, Ideal.exp_bot, add_zero, mul_one,
      ← EReal.coe_one, Ideal.div_coe (by norm_num), ← EReal.coe_mul, ← EReal.coe_add]
    norm_num
  | bot =>
    unfold sg
    rw [half_eq, EReal.coe_mul_bot_of_pos (by norm_num), Ideal.tanh_bot, EReal.neg_bot, Ideal.exp_top,
      EReal.add_top_of_ne_bot (by decide), ← EReal.coe_one, ← EReal.coe_neg, ← EReal.coe_mul, ← EReal.coe_add]
    simp [Ideal.div]

variable (m : (ℓ : Loc nD τ sig) → Buf (Elt Ideal) ℓ)

abbrev argX (c : Dev nD) : FVec Ideal S16384x1024 .bf16 := m (c.tc.loc main_arg0)
abbrev argU (c : Dev nD) : FVec Ideal S1024x5632 .bf16 := m (c.tc.loc main_arg1)
abbrev argW (c : Dev nD) : FVec Ideal W2 .f32 := m (c.tc.loc main_arg2)
abbrev argB (c : Dev nD) : FVec Ideal B1 .f32 := m (c.tc.loc main_arg3)

/-- The product. -/
abbrev pr (c : Dev nD) : FVec Ideal U2 .f32 := Prod.nn (M := 16384) (N := 5632) (argX m c) (argU m c)

theorem idx : ∀ t : Fin cfg0.N, t.val / 8 < 11 ∧ t.val % 8 < 8 ∧ (grid0.coords t 1).val = t.val % 8
    ∧ win0_0.index t = ![t.val % 8, 0] ∧ win0_1.index t = ![0, t.val / 8]
    ∧ win0_2.index t = ![0, t.val / 8] ∧ win0_3.index t = ![0, t.val / 8]
    ∧ win0_4.index t = ![t.val % 8, t.val / 8] ∧ win0_5.index t = ![t.val % 8, t.val / 8] :=
  (by decide +kernel : ∀ t : Fin grid0.N, _)

theorem entry2 (c : Dev nD) (r : Fin 1024) (q : Fin 5632) :
    V0 m c (Proc.devRef .tc main_v2) (ix2 r q) = argU m c (ix2 r (std q.val q.isLt)) := by
  unfold V0
  after_reads_at
  rfl

theorem entry5 (c : Dev nD) (r : Fin 3) (q : Fin 5632) :
    V0 m c (Proc.devRef .tc main_v5) (ix2 r q) = argW m c (ix2 r (std q.val q.isLt)) := by
  unfold V0
  after_reads_at
  rfl

theorem entry9 (c : Dev nD) (q : Fin 5632) :
    V0 m c (Proc.devRef .tc main_v9) (ix2 0 q) = argB m c (ix1 (std q.val q.isLt)) := by
  unfold V0
  after_reads_at
  rfl

theorem blk0 (c : Dev nD) (t : Fin cfg0.N) (r : Fin 2048) (k : Fin 1024) (h : t.val % 8 * 2048 + r.val < 16384) :
    iblk m c 0 t (ix2 r k) = argX m c (ix2 ⟨t.val % 8 * 2048 + r.val, h⟩ k) := by
  refine Eq.trans ?_ (congrFun (V_main_arg0 m c) _)
  blk_ext [iblk, V, idx t]

theorem blk1 (c : Dev nD) (t : Fin cfg0.N) (k : Fin 1024) (l : Fin 512) :
    iblk m c 1 t (ix2 k l) = argU m c (ix2 k (col (t.val / 8) (idx t).1 l)) := by
  refine Eq.trans ?_ ((entry2 m c k ⟨t.val / 8 * 512 + l.val, by have := (idx t).1; omega⟩).trans ?_)
  · blk_ext [iblk, V, idx t]
  · blk_ext [std, col]

theorem blk2 (c : Dev nD) (t : Fin cfg0.N) (a : Fin 3) (l : Fin 512) :
    iblk m c 2 t (ix2 a l) = argW m c (ix2 a (col (t.val / 8) (idx t).1 l)) := by
  refine Eq.trans ?_ ((entry5 m c a ⟨t.val / 8 * 512 + l.val, by have := (idx t).1; omega⟩).trans ?_)
  · blk_ext [iblk, V, idx t]
  · blk_ext [std, col]

theorem blk3 (c : Dev nD) (t : Fin cfg0.N) (l : Fin 512) :
    iblk m c 3 t (ix2 0 l) = argB m c (ix1 (col (t.val / 8) (idx t).1 l)) := by
  refine Eq.trans ?_ ((entry9 m c ⟨t.val / 8 * 512 + l.val, by have := (idx t).1; omega⟩).trans ?_)
  · blk_ext [iblk, V, idx t]
  · blk_ext [std, col]

theorem pay (x : FVec Ideal S2048x1024 .bf16) (w : FVec Ideal S1024x512 .bf16) (r : Fin 2048) (l : Fin 512) :
    k0_pay3 (F := Ideal) x w (ix2 r l) = ∑ k : Fin 1024, x (ix2 r k) * w (ix2 k l) := by
  pointwise [k0_pay3]

/-- A point's block of the product. -/
theorem prod_at (c : Dev nD) (t : Fin cfg0.N) (r : Fin 2048) (l : Fin 512) (h : t.val % 8 * 2048 + r.val < 16384) :
    k0_pay3 (F := Ideal) (iblk m c 0 t) (iblk m c 1 t) (ix2 r l)
      = pr m c (ix2 ⟨t.val % 8 * 2048 + r.val, h⟩ (col (t.val / 8) (idx t).1 l)) :=
  (pay _ _ r l).trans (Finset.sum_congr rfl fun k _ => congrArg₂ (· * ·) (blk0 m c t r k h) (blk1 m c t k l))

/-- The rows carried over: the last rows of the row block before. -/
theorem carried_at (c : Dev nD) (t : Fin cfg0.N) (r : Fin 8) (l : Fin 512) (h0 : t.val % 8 ≠ 0)
    (h : t.val % 8 * 2048 + r.val - 8 < 16384) :
    carried (F := Ideal) m c t (ix2 r l) = pr m c (ix2 ⟨t.val % 8 * 2048 + r.val - 8, h⟩ (col (t.val / 8) (idx t).1 l)) := by
  have e1 : (prev t).val = t.val - 1 := rfl
  unfold carried
  refine Eq.trans (b := k0_pay3 (F := Ideal) (iblk m c 0 (prev t)) (iblk m c 1 (prev t)) (ix2 ⟨2040 + r.val, by omega⟩ l)) ?_ ?_
  · pointwise [k0_pay1]
  · refine (prod_at m c (prev t) _ l (by show (prev t).val % 8 * 2048 + (2040 + r.val) < _; omega)).trans ?_
    refine congrArg (pr m c) (congrArg₂ ix2 (Fin.ext ?_) (Fin.ext ?_))
    · show (prev t).val % 8 * 2048 + (2040 + r.val) = t.val % 8 * 2048 + r.val - 8
      omega
    · show l.val / 256 * 2816 + (prev t).val / 8 * 256 + l.val % 256 = l.val / 256 * 2816 + t.val / 8 * 256 + l.val % 256
      omega

theorem pay8 (g : grid0.Coords) (p : FVec Ideal S8x512 .f32) (a : Fin 8) (l : Fin 512) (h : (g 1).val < 8) :
    k0_pay8 (F := Ideal) g p (ix2 a l) = if (g 1).val = 0 then 0 else p (ix2 a l) := by
  pointwise [k0_pay8]
  exact sel_eq (g 1).val 0 (by omega) (by omega) _ _

section Body

variable (c : Dev nD) (t : Fin cfg0.N) (r : Fin 2048) (l : Fin 512)

/-- The convolution's result, as a point computes it. -/
def cvP : EReal :=
  k0_pay6 (F := Ideal) (grid0.coords t) (iblk m c 0 t) (iblk m c 1 t) (carried m c t) (iblk m c 2 t) (ix2 r l)
    + Scalar.select (IntOp.cmpi .eq (BitVec.ofNat 32 r.val) 0#32)
        (k0_pay8 (F := Ideal) (grid0.coords t) (carried m c t) (ix2 7 l))
        (k0_pay7 (F := Ideal) (iblk m c 0 t) (iblk m c 1 t) (ix2 r l)) * iblk m c 2 t (ix2 1 l)
    + k0_pay3 (F := Ideal) (iblk m c 0 t) (iblk m c 1 t) (ix2 r l) * iblk m c 2 t (ix2 2 l) + iblk m c 3 t (ix2 0 l)

theorem first_at (a : Fin 8) (ha : 6 ≤ a.val) :
    k0_pay8 (F := Ideal) (grid0.coords t) (carried m c t) (ix2 a l)
      = up (pr m c) (t.val % 8 * 2048 + a.val - 6) (col (t.val / 8) (idx t).1 l) := by
  have hg := (idx t).2.2.1
  rw [pay8 _ _ a l (by omega)]
  by_cases h : t.val % 8 = 0
  · rw [if_pos (hg.trans h), up_lt _ (by omega)]
  · rw [if_neg (hg ▸ h), carried_at m c t a l h (by omega)]
    exact (up_of _ _ _ (by omega) _).symm

theorem shift1 : Scalar.select (IntOp.cmpi .eq (BitVec.ofNat 32 r.val) 0#32)
      (k0_pay8 (F := Ideal) (grid0.coords t) (carried m c t) (ix2 7 l))
      (k0_pay7 (F := Ideal) (iblk m c 0 t) (iblk m c 1 t) (ix2 r l))
    = up (pr m c) (t.val % 8 * 2048 + r.val + 1) (col (t.val / 8) (idx t).1 l) := by
  rw [sel_eq r.val 0 (by omega) (by omega)]
  by_cases h : r.val = 0
  · rw [if_pos h, first_at m c t l 7 (by decide)]
    congr 1
    show t.val % 8 * 2048 + 7 - 6 = _
    omega
  · rw [if_neg h]
    pointwise [k0_pay7]
    rw [prod_at m c t _ l (by show t.val % 8 * 2048 + (r.val + 2048 - 1) % 2048 < _; omega)]
    exact (up_of _ _ _ (by show _ = t.val % 8 * 2048 + (r.val + 2048 - 1) % 2048 + 2; omega) _).symm

theorem shift2 : k0_pay6 (F := Ideal) (grid0.coords t) (iblk m c 0 t) (iblk m c 1 t) (carried m c t) (iblk m c 2 t) (ix2 r l)
    = up (pr m c) (t.val % 8 * 2048 + r.val) (col (t.val / 8) (idx t).1 l) * iblk m c 2 t (ix2 0 l) := by
  refine Eq.trans (b := Scalar.select (IntOp.cmpi .eq (BitVec.ofNat 32 r.val) 1#32)
      (k0_pay8 (F := Ideal) (grid0.coords t) (carried m c t) (ix2 7 l))
      (Scalar.select (IntOp.cmpi .eq (BitVec.ofNat 32 r.val) 0#32)
        (k0_pay8 (F := Ideal) (grid0.coords t) (carried m c t) (ix2 6 l))
        (k0_pay3 (F := Ideal) (iblk m c 0 t) (iblk m c 1 t) (ix2 ⟨(r.val + 2048 - 2) % 2048, by omega⟩ l)))
      * iblk m c 2 t (ix2 0 l)) ?_ (congrArg (· * _) ?_)
  · pointwise [k0_pay6, k0_pay4, k0_pay8]
  · rw [sel_eq r.val 1 (by omega) (by omega), sel_eq r.val 0 (by omega) (by omega)]
    by_cases h1 : r.val = 1
    · rw [if_pos h1, first_at m c t l 7 (by decide)]
      congr 1
      show t.val % 8 * 2048 + 7 - 6 = _
      omega
    · rw [if_neg h1]
      by_cases h0 : r.val = 0
      · rw [if_pos h0, first_at m c t l 6 (by decide)]
        congr 1
        show t.val % 8 * 2048 + 6 - 6 = _
        omega
      · rw [if_neg h0, prod_at m c t _ l (by show t.val % 8 * 2048 + (r.val + 2048 - 2) % 2048 < _; omega)]
        exact (up_of _ _ _ (by show _ = t.val % 8 * 2048 + (r.val + 2048 - 2) % 2048 + 2; omega) _).symm

theorem cvP_eq : cvP m c t r l
    = cv (pr m c) (argW m c) (argB m c) (t.val % 8 * 2048 + r.val) (col (t.val / 8) (idx t).1 l) := by
  unfold cvP cv
  rw [shift2, shift1, prod_at m c t r l (by omega), blk2, blk2, blk2, blk3,
    up_of (pr m c) (x := t.val % 8 * 2048 + r.val + 2) (t.val % 8 * 2048 + r.val) (by omega) rfl]

end Body

/-- A point's block of the activation. -/
theorem actAt_at (c : Dev nD) (t : Fin cfg0.N) (r : Fin 2048) (l : Fin 256) (h : t.val % 8 * 2048 + r.val < 16384)
    (h' : t.val / 8 * 256 + l.val < 2816) :
    actAt (F := Ideal) m c t (ix2 r l)
      = act (pr m c) (argW m c) (argB m c) (ix2 ⟨t.val % 8 * 2048 + r.val, h⟩ ⟨t.val / 8 * 256 + l.val, h'⟩) := by
  refine Eq.trans (b := cvP m c t r ⟨l.val, by omega⟩ * sg (cvP m c t r ⟨l.val, by omega⟩) * cvP m c t r ⟨256 + l.val, by omega⟩) ?_ ?_
  · unfold actAt gated
    pointwise [k0_pay2, k0_pay9, k0_pay4, k0_pay5]
    rfl
  · have e1 : col (t.val / 8) (idx t).1 ⟨l.val, by omega⟩ = ⟨t.val / 8 * 256 + l.val, by omega⟩ := Fin.ext (by
      show l.val / 256 * 2816 + t.val / 8 * 256 + l.val % 256 = t.val / 8 * 256 + l.val; omega)
    have e2 : col (t.val / 8) (idx t).1 ⟨256 + l.val, by omega⟩ = ⟨2816 + (t.val / 8 * 256 + l.val), by omega⟩ := Fin.ext (by
      show (256 + l.val) / 256 * 2816 + t.val / 8 * 256 + (256 + l.val) % 256 = 2816 + (t.val / 8 * 256 + l.val); omega)
    rw [cvP_eq, cvP_eq, e1, e2]
    rfl

/-- The product, interleaved. -/
theorem final4 (c : Dev nD) : (dats m 0 c).arrAt 4 (cfgs 0).N
    = fun y => pr m c (ix2 (y 0) (std (y 1).val (y 1).isLt)) := by
  refine (dats m 0 c).arrAt_eq_of_covers 4 _ (by decide +kernel) fun t hf y => ?_
  blk_simp
  rw [after0_4]
  idx_vars y
  refine (prod_at m c t y0 y1 (by have := (idx t).2.1; omega)).trans ?_
  refine congrArg (pr m c) ?_
  blk_ext [idx t, std, col]

theorem final5 (c : Dev nD) : (dats m 0 c).arrAt 5 (cfgs 0).N = act (pr m c) (argW m c) (argB m c) := by
  refine (dats m 0 c).arrAt_eq_of_covers 5 _ (by decide +kernel) fun t hf y => ?_
  blk_simp
  rw [after0_5]
  idx_vars y
  refine (actAt_at m c t y0 y1 (by have := (idx t).2.1; omega) (by have := (idx t).1; omega)).trans ?_
  refine congrArg (act (pr m c) (argW m c) (argB m c)) ?_
  blk_ext [idx t]

/-- The buffers of a device when the call has ended. -/
abbrev ended (c : Dev nD) :=
  Pipeline.withArrays (cfgs 0).spec c (V0 m c) fun w => (dats m 0 c).arrAt w (cfgs 0).N

/-- The product with its columns put back in order. -/
theorem tail13 (c : Dev nD) : StableHlo.after hostOps1 (ended m c) (Proc.devRef .tc main_v13) = pr m c := by
  funext y
  idx_vars y
  refine Eq.trans (b := ended m c (Proc.devRef .tc main_v10_0) (ix2 y0 (at' y1))) ?_ ?_
  · unfold_abbrev_sides
    after_reads_at
    rfl
  · refine (congrFun (Pipeline.withArrays_arr_shared spec0 c (V0 m c) _
      ((dats m 0 c).arrAt_sharedIn (by decide) (V0 m c) (A_eq m c) _) 4) (ix2 y0 (at' y1))).trans
      ((congrFun (final4 m c) (ix2 y0 (at' y1))).trans ?_)
    show pr m c (ix2 y0 (std (at' y1).val (at' y1).isLt)) = _
    rw [std_at]

section Ref

open Cert.UpActRefIdeal.Read

variable (X : FVec Ideal S16384x1024 .bf16) (P : FVec Ideal S1024x5632 .bf16) (W : FVec Ideal W2 .f32) (B : FVec Ideal B1 .f32)

/-- The reference holds the same product, -/
theorem ref_prod : val_main_v2 (F := Ideal) X P = Prod.nn (M := 16384) (N := 5632) X P := by
  funext i
  rw [val_main_v2_apply]
  exact Finset.sum_congr rfl fun k _ => congrArg₂ (· * ·) (congrArg X (ix2_eta _).symm) (congrArg P (ix2_eta _).symm)

theorem ref_up (x : Fin 16386) (k : Fin 5632) :
    val_main_v4 (F := Ideal) X P (ix2 x k) = up (Prod.nn (M := 16384) (N := 5632) X P) x.val k := by
  rw [← ref_prod]
  pointwise [val_main_v4, val_main_v3, val_main_cst]
  unfold up
  by_cases h : x.val < 2
  · rw [dif_neg (show ¬ (2 ≤ x.val ∧ x.val - 2 < 16384) by omega)]
    exact dif_pos h
  · rw [dif_pos (show 2 ≤ x.val ∧ x.val - 2 < 16384 by omega)]
    exact dif_neg h

theorem ref_cv (x : Fin 16384) (k : Fin 5632) :
    val_main_v27 (F := Ideal) X P W B (ix2 x k) = cv (Prod.nn (M := 16384) (N := 5632) X P) W B x.val k := by
  refine Eq.trans (b := val_main_v4 (F := Ideal) X P (ix2 ⟨x.val, by omega⟩ k) * W (ix2 0 k)
    + val_main_v4 (F := Ideal) X P (ix2 ⟨1 + x.val, by omega⟩ k) * W (ix2 1 k)
    + val_main_v4 (F := Ideal) X P (ix2 ⟨2 + x.val, by omega⟩ k) * W (ix2 2 k) + B (ix1 k)) ?_ ?_
  · pointwise [val_main_v27, val_main_v26, val_main_v25, val_main_v24, val_main_v23, val_main_v22, val_main_v21,
      val_main_v20, val_main_v19, val_main_v18, val_main_v17, val_main_v16, val_main_v15, val_main_v14, val_main_v13,
      val_main_v12, val_main_v11, val_main_v10, val_main_v9, val_main_v8, val_main_v7, val_main_v6, val_main_v5]
  · rw [ref_up, ref_up, ref_up]
    show up _ x.val k * _ + up _ (1 + x.val) k * _ + up _ (2 + x.val) k * _ + _ = _
    rw [Nat.add_comm 1, Nat.add_comm 2]
    rfl

/-- and the same activation. -/
theorem ref_act : val_main_v32 (F := Ideal) X P W B = act (Prod.nn (M := 16384) (N := 5632) X P) W B := by
  funext y
  idx_vars y
  refine Eq.trans (b := val_main_v27 (F := Ideal) X P W B (ix2 y0 ⟨y1.val, by omega⟩)
      * Ideal.div 1 (1 + Ideal.exp (-val_main_v27 (F := Ideal) X P W B (ix2 y0 ⟨y1.val, by omega⟩)))
      * val_main_v27 (F := Ideal) X P W B (ix2 y0 ⟨2816 + y1.val, by omega⟩)) ?_ ?_
  · pointwise [val_main_v32, val_main_v31, val_main_v30, val_main_v29, val_main_v28, val_main_call0_v0, val_main_call0_v1,
      val_main_call0_v2, val_main_call0_v3, val_main_call0_v4, val_main_call0_v5, val_main_call0_cst, val_main_call0_cst_0]
  · rw [sg_eq, ref_cv, ref_cv]
    rfl

end Ref

end Cert.UpActIdeal.Value
-- ==== Proof.Norm.lean ====
/- The gradient of the norm of one row: the form with the normalised row in it is the form the chain rule gives. Both
   hold at infinity too: an infinite entry makes the row's factor zero, and a finite row's factor is a positive number. -/
module

public import proofs.«01_k».proof.Proof.Algebra

@[expose] public section

set_option maxRecDepth 16384

noncomputable section

open Idealize.ShloMosaic

namespace Cert.Norm

theorem lanes_eq : Ideal.ofBits FTy.f32 0x44800000#32 = ((1024 : ℝ) : EReal) := by
  simp [Ideal.ofBits, Ideal.ieee, -EReal.coe_mul]; norm_num

theorem mhalf_eq : Ideal.ofBits FTy.f32 0xBF000000#32 = ((-(1 / 2) : ℝ) : EReal) := by
  simp [Ideal.ofBits, Ideal.ieee, -EReal.coe_mul]; norm_num

theorem eps_pos : ∃ e : ℝ, 0 < e ∧ Ideal.ofBits FTy.f32 0x358637BD#32 = (e : EReal) := by
  refine ⟨_, ?_, by simp [Ideal.ofBits, Ideal.ieee, -EReal.coe_mul]; rfl⟩
  positivity

/-- The mean square of a row, with the small constant. -/
def ms (x : Fin 1024 → EReal) : EReal :=
  Ideal.div (∑ k, x k * x k) (Ideal.ofBits FTy.f32 0x44800000#32) + Ideal.ofBits FTy.f32 0x358637BD#32

/-- The row's factor. -/
def fac (x : Fin 1024 → EReal) : EReal := Ideal.rsqrt (ms x)

/-- An entry of the gradient, with the normalised row. -/
def dx (x y g : Fin 1024 → EReal) (d : EReal) (j : Fin 1024) : EReal :=
  d + fac x * (y j * g j - x j * fac x * Ideal.div (∑ k, y k * g k * (x k * fac x)) (Ideal.ofBits FTy.f32 0x44800000#32))

/-- What the mean square sends back to the row. -/
def back (x y g : Fin 1024 → EReal) : EReal :=
  Ideal.div ((∑ k, x k * (y k * g k)) * (Ideal.ofBits FTy.f32 0xBF000000#32 * Ideal.div (fac x) (ms x)))
    (Ideal.ofBits FTy.f32 0x44800000#32)

theorem sq_nonneg (x : EReal) : 0 ≤ x * x := by
  induction x with
  | coe r => rw [← EReal.coe_mul]; exact_mod_cast mul_self_nonneg r
  | top => simp
  | bot => simp

theorem ms_cases (x : Fin 1024 → EReal) : ms x = ⊤ ∨ ∃ p : ℝ, 0 < p ∧ ms x = (p : EReal) := by
  obtain ⟨e, he, h⟩ := eps_pos
  have hs : 0 ≤ (∑ k, x k * x k) * (((1 / 1024 : ℝ)) : EReal) :=
    mul_nonneg (Finset.sum_nonneg fun k _ => sq_nonneg (x k)) (by exact_mod_cast (by norm_num : (0 : ℝ) ≤ 1 / 1024))
  have e1 : ms x = (∑ k, x k * x k) * (((1 / 1024 : ℝ)) : EReal) + (e : EReal) := by
    unfold ms
    rw [lanes_eq, h, Ideal.div_coe (by norm_num)]
  rw [e1]
  generalize (∑ k, x k * x k) * (((1 / 1024 : ℝ)) : EReal) = s at hs
  induction s with
  | coe r =>
    have hr : (0 : ℝ) ≤ r := by exact_mod_cast hs
    exact .inr ⟨r + e, by linarith, (EReal.coe_add r e).symm⟩
  | top => exact .inl (EReal.top_add_coe e)
  | bot => exact absurd hs (by simp)

theorem twice (u : EReal) (a : ℝ) (ha : a < 0) : u * (a : EReal) + u * (a : EReal) = u * ((2 * a : ℝ) : EReal) := by
  induction u with
  | coe r => rw [← EReal.coe_mul, ← EReal.coe_mul, ← EReal.coe_add]; congr 1; ring
  | top => rw [EReal.top_mul_coe_of_neg ha, EReal.top_mul_coe_of_neg (by linarith)]; rfl
  | bot => rw [EReal.bot_mul_coe_of_neg ha, EReal.bot_mul_coe_of_neg (by linarith)]; rfl

theorem sum_mul (f : Fin 1024 → EReal) (s : ℝ) (hs : 0 ≤ s) : ∑ k, f k * (s : EReal) = (∑ k, f k) * (s : EReal) := by
  induction (Finset.univ : Finset (Fin 1024)) using Finset.induction with
  | empty => simp
  | insert a t ha ih =>
    rw [Finset.sum_insert ha, Finset.sum_insert ha, ih,
      EReal.right_distrib_of_nonneg_of_ne_top (by exact_mod_cast hs) (EReal.coe_ne_top s)]

theorem dx_eq (x y g : Fin 1024 → EReal) (d : EReal) (j : Fin 1024) :
    d + (y j * g j * fac x + x j * back x y g + back x y g * x j) = dx x y g d j := by
  unfold dx
  refine congrArg (d + ·) ?_
  rcases ms_cases x with h | ⟨p, hp, h⟩
  · have hf : fac x = 0 := by unfold fac; rw [h]; rfl
    have hb : back x y g = 0 := by
      unfold back
      rw [hf, lanes_eq, Ideal.div_coe (by norm_num), h]
      simp [Ideal.div]
    rw [hf, hb]
    simp
  · have hs : 0 < Real.sqrt p := Real.sqrt_pos.mpr hp
    have hf : fac x = (((Real.sqrt p)⁻¹ : ℝ) : EReal) := by
      unfold fac
      rw [h, Ideal.rsqrt_coe, if_neg (by linarith), if_neg (by linarith)]
    have hp2 : p = Real.sqrt p * Real.sqrt p := (Real.mul_self_sqrt hp.le).symm
    have hb : x j * back x y g = x j * (∑ k, x k * (y k * g k))
        * ((-(1 / 2) * ((Real.sqrt p)⁻¹ * (1 / p)) * (1 / 1024) : ℝ) : EReal) := by
      unfold back
      rw [hf, lanes_eq, mhalf_eq, h, Ideal.div_coe hp.ne', Ideal.div_coe (by norm_num), ← EReal.coe_mul, ← EReal.coe_mul,
        mul_assoc, ← EReal.coe_mul, ← mul_assoc (x j)]
    have hT : ∑ k, y k * g k * (x k * fac x) = (∑ k, x k * (y k * g k)) * (((Real.sqrt p)⁻¹ : ℝ) : EReal) := by
      rw [hf, ← sum_mul _ _ (inv_nonneg.mpr hs.le)]
      exact Finset.sum_congr rfl fun k _ => by ac_rfl
    have hn : -(1 / 2) * ((Real.sqrt p)⁻¹ * (1 / p)) * (1 / 1024) < 0 := by
      have : 0 < (Real.sqrt p)⁻¹ * (1 / p) := by positivity
      nlinarith
    rw [mul_comm (back x y g), add_assoc, hb, twice _ _ hn, hT, hf, lanes_eq, Ideal.div_coe (by norm_num), sub_eq_add_neg,
      EReal.left_distrib_of_nonneg_of_ne_top (by exact_mod_cast (inv_nonneg.mpr hs.le)) (EReal.coe_ne_top _),
      mul_comm (y j * g j)]
    refine congrArg₂ (· + ·) rfl ?_
    generalize (∑ k, x k * (y k * g k)) = S
    have e1 : x j * (((Real.sqrt p)⁻¹ : ℝ) : EReal) * (S * (((Real.sqrt p)⁻¹ : ℝ) : EReal) * ((1 / 1024 : ℝ) : EReal))
        = x j * S * (((Real.sqrt p)⁻¹ * (Real.sqrt p)⁻¹ * (1 / 1024) : ℝ) : EReal) := by
      rw [EReal.coe_mul, EReal.coe_mul]
      ac_rfl
    rw [e1, ← mul_neg, ← EReal.coe_neg, mul_left_comm (((Real.sqrt p)⁻¹ : ℝ) : EReal), ← EReal.coe_mul]
    refine congrArg (fun q : ℝ => x j * S * (q : EReal)) ?_
    rw [show (1 / p : ℝ) = (Real.sqrt p)⁻¹ * (Real.sqrt p)⁻¹ by rw [← mul_inv, ← hp2, one_div]]
    ring

end Cert.Norm
-- ==== Proof.Dnorm.lean ====
/- The gradient of the norm, row by row, with the residual's; and of its gain, summed over the rows. -/
module

public import proofs.«01_k».proof.Proof.Gen.DnormIdeal.Value
public import proofs.«01_k».proof.Proof.Gen.DnormRefIdeal.Read
public import proofs.«01_k».proof.Proof.Prod
public import proofs.«01_k».proof.Proof.Norm
public import Idealize.ShloMosaic.Lib.StableHlo.ReadAt
public import Idealize.ShloMosaic.Lib.Tactic.IndexArith

@[expose] public section

set_option maxRecDepth 16384

noncomputable section

open Idealize.ShloMosaic Idealize.ShloMosaic.TcCoe Idealize.SL.Sem

namespace Cert.DnormIdeal.Value

open Cert.DnormIdeal Cert.DnormIdeal.Gen Cert.Norm

/-- A row of an array. -/
abbrev row {n : ℕ} (x : FVec Ideal ⟨2, ![n, 1024]⟩ .f32) (i : Fin n) : Fin 1024 → EReal := fun k => x (ix2 i k)

/-- The gradient of the norm's argument. -/
def dxA (x d y : FVec Ideal S16384x1024 .f32) (g : FVec Ideal S1024 .f32) (z : S16384x1024.Idx) : EReal :=
  dx (row (n := 16384) x (z 0)) (row (n := 16384) y (z 0)) (fun k => g (ix1 k)) (d z) (z 1)

/-- The gradient of its gain. -/
def dgA (x y : FVec Ideal S16384x1024 .f32) (z : S1x1024.Idx) : EReal :=
  ∑ i : Fin 16384, y (ix2 i (z 1)) * (x (ix2 i (z 1)) * fac (row (n := 16384) x i))

section Kernel

variable (m : (ℓ : Loc nD τ sig) → Buf (Elt Ideal) ℓ)

abbrev argX (c : Dev nD) : FVec Ideal S16384x1024 .f32 := m (c.tc.loc main_arg0)
abbrev argD (c : Dev nD) : FVec Ideal S16384x1024 .f32 := m (c.tc.loc main_arg1)
abbrev argY (c : Dev nD) : FVec Ideal S16384x1024 .f32 := m (c.tc.loc main_arg2)
abbrev argG (c : Dev nD) : FVec Ideal S1024 .f32 := m (c.tc.loc main_arg3)

theorem idx : ∀ t : Fin cfg0.N, t.val < 16 ∧ win0_0.index t = ![t.val, 0] ∧ win0_1.index t = ![t.val, 0]
    ∧ win0_2.index t = ![t.val, 0] ∧ win0_3.index t = ![0, 0] ∧ win0_4.index t = ![t.val, 0] ∧ win0_5.index t = ![0, 0] :=
  (by decide +kernel : ∀ t : Fin grid0.N, _)

theorem entry0 (c : Dev nD) (k : Fin 1024) : V m c main_v0 (ix2 0 k) = argG m c (ix1 k) := by
  unfold V
  after_reads_at

theorem blk0 (c : Dev nD) (t : Fin cfg0.N) (r : Fin 1024) (k : Fin 1024) (h : t.val * 1024 + r.val < 16384) :
    iblk m c 0 t (ix2 r k) = argX m c (ix2 ⟨t.val * 1024 + r.val, h⟩ k) := by
  blk_ext [iblk, V, idx t]

theorem blk1 (c : Dev nD) (t : Fin cfg0.N) (r : Fin 1024) (k : Fin 1024) (h : t.val * 1024 + r.val < 16384) :
    iblk m c 1 t (ix2 r k) = argD m c (ix2 ⟨t.val * 1024 + r.val, h⟩ k) := by
  blk_ext [iblk, V, idx t]

theorem blk2 (c : Dev nD) (t : Fin cfg0.N) (r : Fin 1024) (k : Fin 1024) (h : t.val * 1024 + r.val < 16384) :
    iblk m c 2 t (ix2 r k) = argY m c (ix2 ⟨t.val * 1024 + r.val, h⟩ k) := by
  blk_ext [iblk, V, idx t]

theorem blk3 (c : Dev nD) (t : Fin cfg0.N) (k : Fin 1024) : iblk m c 3 t (ix2 0 k) = argG m c (ix1 k) := by
  refine Eq.trans ?_ (entry0 m c k)
  blk_ext [iblk, idx t]

theorem pay1 (x : FVec Ideal S1024x1024 .f32) (r : Fin 1024) : k0_pay1 (F := Ideal) x (ix2 r 0) = fac (row (n := 1024) x r) := by
  pointwise [k0_pay1]
  rfl

theorem pay2 (x : FVec Ideal S1024x1024 .f32) (r k : Fin 1024) :
    k0_pay2 (F := Ideal) x (ix2 r k) = x (ix2 r k) * fac (row (n := 1024) x r) := by
  rw [← pay1]
  pointwise [k0_pay2]

theorem pay3 (x d y : FVec Ideal S1024x1024 .f32) (g : FVec Ideal S1x1024 .f32) (r k : Fin 1024) :
    k0_pay3 (F := Ideal) x d y g (ix2 r k)
      = dx (row (n := 1024) x r) (row (n := 1024) y r) (fun q => g (ix2 0 q)) (d (ix2 r k)) k := by
  unfold dx
  have h : ∀ q, k0_pay2 (F := Ideal) x (ix2 r q) = row (n := 1024) x r q * k0_pay1 (F := Ideal) x (ix2 r 0) := fun q => by
    rw [pay1]
    exact pay2 x r q
  rw [← pay1]
  pointwise [k0_pay3]
  simp only [h]

theorem pay4 (x y : FVec Ideal S1024x1024 .f32) (k : Fin 1024) :
    k0_pay4 (F := Ideal) x y (ix2 0 k) = ∑ r : Fin 1024, y (ix2 r k) * (x (ix2 r k) * fac (row (n := 1024) x r)) := by
  simp only [← pay2]
  pointwise [k0_pay4]

theorem final4 (c : Dev nD) : (dats m 0 c).arrAt 4 (cfgs 0).N = dxA (argX m c) (argD m c) (argY m c) (argG m c) := by
  refine (dats m 0 c).arrAt_eq_of_covers 4 _ (by decide +kernel) fun t hf y => ?_
  blk_simp
  rw [after0_4]
  idx_vars y
  have hr : t.val * 1024 + y0.val < 16384 := by have := (idx t).1; omega
  have hp : (outsAt0 m c t.val t.isLt).1 (ix2 y0 y1)
      = k0_pay3 (F := Ideal) (iblk m c 0 t) (iblk m c 1 t) (iblk m c 2 t) (iblk m c 3 t) (ix2 y0 y1) := by
    by_cases h0 : t.val % 16 = 0
    · rw [Gen.outsAt0_A m c t h0 (by have := (idx t).1; omega)]
      frame_out
    · rw [Gen.outsAt0_B m c t h0 (by omega)]
      frame_out
  refine hp.trans ((pay3 _ _ _ _ y0 y1).trans ?_)
  have e0 : row (n := 1024) (iblk m c 0 t) y0 = row (n := 16384) (argX m c) ⟨t.val * 1024 + y0.val, hr⟩ :=
    funext fun k => blk0 m c t y0 k hr
  have e2 : row (n := 1024) (iblk m c 2 t) y0 = row (n := 16384) (argY m c) ⟨t.val * 1024 + y0.val, hr⟩ :=
    funext fun k => blk2 m c t y0 k hr
  rw [e0, e2, blk1 m c t y0 y1 hr, funext fun q => blk3 m c t q]
  refine Eq.trans (b := dxA (argX m c) (argD m c) (argY m c) (argG m c) (ix2 ⟨t.val * 1024 + y0.val, hr⟩ y1)) rfl
    (congrArg (dxA (argX m c) (argD m c) (argY m c) (argG m c)) ?_)
  blk_ext [idx t]

/-- A row block's share of the gain's gradient. -/
def term (c : Dev nD) (t : Fin cfg0.N) (z : S1x1024.Idx) : EReal :=
  ∑ r : Fin 1024, argY m c (ix2 ⟨t.val % 16 * 1024 + r.val, by omega⟩ (z 1))
    * (argX m c (ix2 ⟨t.val % 16 * 1024 + r.val, by omega⟩ (z 1))
      * fac (row (n := 16384) (argX m c) ⟨t.val % 16 * 1024 + r.val, by omega⟩))

theorem share (c : Dev nD) (t : Fin cfg0.N) (k : Fin 1024) :
    k0_pay4 (F := Ideal) (iblk m c 0 t) (iblk m c 2 t) (ix2 0 k) = term m c t (ix2 0 k) := by
  rw [pay4]
  refine Finset.sum_congr rfl fun r _ => ?_
  have ht : t.val % 16 = t.val := Nat.mod_eq_of_lt (idx t).1
  have hr : t.val * 1024 + r.val < 16384 := by have := (idx t).1; omega
  have e0 : row (n := 1024) (iblk m c 0 t) r = row (n := 16384) (argX m c) ⟨t.val * 1024 + r.val, hr⟩ :=
    funext fun k => blk0 m c t r k hr
  rw [blk2 m c t r k hr, blk0 m c t r k hr, e0]
  simp only [ht]
  rfl

theorem outDg (c : Dev nD) (t : Fin cfg0.N) (hf : t.val % 16 = 16 - 1) (z : S1x1024.Idx) :
    (outsAt0 m c t.val t.isLt).2 z = dgA (argX m c) (argY m c) z := by
  rw [Pipeline.eq_sum_fin_of_reset_step_apply_of_flush (fun n h => (outsAt0 m c n h).2) 16 (fun _ => (0 : EReal))
    (term m c) ?_ ?_ t hf z]
  · rw [zero_add]
    refine Fin.sum_mul_add_congr (S := 16) (n := 1024) (L := 16384) fun s k hl => ?_
    have h2 : (16 * (t.val / 16) + s.val) % 16 = s.val := by omega
    simp only [h2]
  · intro t h0 z
    rw [Gen.outsAt0_A m c t h0 (by have := (idx t).1; omega)]
    frame_out
    idx_vars z
    obtain rfl : z0 = 0 := by omega
    rw [zero_add]
    exact share m c t z1
  · intro t h0 z
    rw [Gen.outsAt0_B m c t h0 (by omega)]
    frame_out
    idx_vars z
    obtain rfl : z0 = 0 := by omega
    pointwise [k0_pay5]
    exact congrArg (_ + ·) (share m c t z1)

theorem final5 (c : Dev nD) : (dats m 0 c).arrAt 5 (cfgs 0).N = dgA (argX m c) (argY m c) := by
  refine (dats m 0 c).arrAt_eq_of_covers 5 _ (by decide +kernel) fun t hf y => ?_
  blk_simp
  rw [after0_5]
  idx_vars y
  refine (outDg m c t ((flush0_5 t).mp hf) (ix2 y0 y1)).trans (congrArg (dgA (argX m c) (argY m c)) ?_)
  blk_ext [idx t]

end Kernel

section Ref

open Cert.DnormRefIdeal.Read

variable (x d y : FVec Ideal S16384x1024 .f32) (g : FVec Ideal S1024 .f32)

theorem ref_ms (i : Fin 16384) : val_main_v6 (F := Ideal) x (ix2 i 0) = ms (row (n := 16384) x i) := by
  pointwise [val_main_v6, val_main_v5, val_main_v4, val_main_v3, val_main_v2, val_main_v1, val_main_v0, val_main_cst,
    val_main_cst_0, val_main_cst_1]
  rfl

theorem ref_fac (i : Fin 16384) : val_main_v7 (F := Ideal) x (ix2 i 0) = fac (row (n := 16384) x i) := by
  unfold fac
  rw [← ref_ms]
  rfl

theorem ref_back (i : Fin 16384) : val_main_v30 (F := Ideal) x y g (ix1 i)
    = back (row (n := 16384) x i) (row (n := 16384) y i) (fun k => g (ix1 k)) := by
  unfold back
  rw [← ref_fac, ← ref_ms]
  pointwise [val_main_v30, val_main_v29, val_main_v28, val_main_v27, val_main_v24, val_main_v23, val_main_v22, val_main_v20,
    val_main_v19, val_main_v13, val_main_v10, val_main_v9, val_main_v8, val_main_cst_2, val_main_cst_5, val_main_cst_6,
    val_main_cst_7]
  simp

/-- The reference's gradients are these, -/
theorem ref_dx : val_main_v36 (F := Ideal) x d y g = dxA x d y g := by
  funext z
  idx_vars z
  refine Eq.trans ?_ (dx_eq (row (n := 16384) x z0) (row (n := 16384) y z0) (fun k => g (ix1 k)) (d (ix2 z0 z1)) z1)
  rw [← ref_fac, ← ref_back]
  pointwise [val_main_v36, val_main_v35, val_main_v34, val_main_v33, val_main_v32, val_main_v31, val_main_v26, val_main_v25,
    val_main_v20, val_main_v19, val_main_v13]

theorem ref_dg : val_main_v37 (F := Ideal) x y = dgA x y := by
  funext z
  idx_vars z
  obtain rfl : z0 = 0 := by omega
  unfold dgA
  simp only [← ref_fac]
  pointwise [val_main_v37, val_main_v21, val_main_v18, val_main_v17, val_main_v16, val_main_v12, val_main_v11, val_main_cst_3,
    val_main_cst_4]
  simp
  exact Finset.sum_congr rfl fun _ _ => mul_comm _ _

end Ref

end Cert.DnormIdeal.Value
-- ==== Proof.Adam.lean ====
/- The optimiser's step of the weights, each shard at its own shape. The call and the reference do the same operations at
   every entry; that is shown once, for any shape, and each claim sets its two runs side by side by it. -/
module

public import proofs.«01_k».proof.Defs
public import proofs.«01_k».proof.Proof.Gen.AdamUpIdeal.Value
public import proofs.«01_k».proof.Proof.Gen.AdamUpRefIdeal.Run
public import proofs.«01_k».proof.Proof.Gen.AdamInIdeal.Value
public import proofs.«01_k».proof.Proof.Gen.AdamInRefIdeal.Run
public import proofs.«01_k».proof.Proof.Gen.AdamOutIdeal.Value
public import proofs.«01_k».proof.Proof.Gen.AdamOutRefIdeal.Run
public import proofs.«01_k».proof.Proof.Gen.AdamKvIdeal.Value
public import proofs.«01_k».proof.Proof.Gen.AdamKvRefIdeal.Run
public import proofs.«01_k».proof.Proof.Gen.AdamQIdeal.Value
public import proofs.«01_k».proof.Proof.Gen.AdamQRefIdeal.Run
public import proofs.«01_k».proof.Proof.Gen.AdamDownIdeal.Value
public import proofs.«01_k».proof.Proof.Gen.AdamDownRefIdeal.Run
public import proofs.«01_k».proof.Proof.Gen.AdamGainIdeal.Value
public import proofs.«01_k».proof.Proof.Gen.AdamGainRefIdeal.Run
public import proofs.«01_k».proof.Proof.Gen.AdamGainsIdeal.Value
public import proofs.«01_k».proof.Proof.Gen.AdamGainsRefIdeal.Run
public import proofs.«01_k».proof.Proof.Gen.AdamNormIdeal.Value
public import proofs.«01_k».proof.Proof.Gen.AdamNormRefIdeal.Run
public import proofs.«01_k».proof.Proof.Gen.AdamHeadsIdeal.Value
public import proofs.«01_k».proof.Proof.Gen.AdamHeadsRefIdeal.Run
public import proofs.«01_k».proof.Proof.Gen.AdamGatesIdeal.Value
public import proofs.«01_k».proof.Proof.Gen.AdamGatesRefIdeal.Run
public import proofs.«01_k».proof.Proof.Gen.AdamRelIdeal.Value
public import proofs.«01_k».proof.Proof.Gen.AdamRelRefIdeal.Run
public import proofs.«01_k».proof.Proof.Gen.AdamConvIdeal.Value
public import proofs.«01_k».proof.Proof.Gen.AdamConvRefIdeal.Run
public import proofs.«01_k».proof.Proof.Gen.AdamConvBIdeal.Value
public import proofs.«01_k».proof.Proof.Gen.AdamConvBRefIdeal.Run
public import Idealize.ShloMosaic.PureOps.Ideal.Laws

@[expose] public section

set_option maxRecDepth 16384

noncomputable section

open Idealize.ShloMosaic Idealize.ShloMosaic.TcCoe Idealize.SL.Sem

namespace Cert.Adam

section Step

variable {s : Shape}

/-- A constant at every entry. -/
abbrev all (hb : (⟨0, ![]⟩ : Shape).BroadcastsInDim s ![]) (b : BitVec 32) : FVec Ideal s .f32 :=
  broadcastInDim s ![] hb (constant ⟨0, ![]⟩ .f32 b)

/-- The reference's new first moment. -/
abbrev hostM (hb : (⟨0, ![]⟩ : Shape).BroadcastsInDim s ![]) (g m : FVec Ideal s .f32) : FVec Ideal s .f32 :=
  addf (mulf (all hb 0x3F666666#32) m) (mulf (all hb 0x3DCCCCCD#32) g)

/-- The reference's new second moment. -/
abbrev hostV (hb : (⟨0, ![]⟩ : Shape).BroadcastsInDim s ![]) (g v : FVec Ideal s .f32) : FVec Ideal s .f32 :=
  addf (mulf (all hb 0x3F7FBE77#32) v) (mulf (all hb 0x3A83126F#32) (mulf g g))

/-- The reference's change of the weights. -/
abbrev hostD (hb : (⟨0, ![]⟩ : Shape).BroadcastsInDim s ![]) (w g m v : FVec Ideal s .f32) : FVec Ideal s .f32 :=
  mulf (all hb 0xBA83126F#32) (addf (Host.divf (Host.divf (hostM hb g m) (all hb 0x3F26BD02#32))
    (addf (Host.sqrt (Host.divf (hostV hb g v) (all hb 0x3C231ACC#32))) (all hb 0x322BCC77#32))) (mulf (all hb 0x3C23D70A#32) w))

/-- The new first moment. -/
def newM (g m : FVec Ideal s .f32) (i : s.Idx) : EReal :=
  Ideal.ofBits .f32 0x3F666666#32 * m i + Ideal.ofBits .f32 0x3DCCCCCD#32 * g i

/-- The new second moment. -/
def newV (g v : FVec Ideal s .f32) (i : s.Idx) : EReal :=
  Ideal.ofBits .f32 0x3F7FBE77#32 * v i + Ideal.ofBits .f32 0x3A83126F#32 * (g i * g i)

/-- The change of the weights. -/
def delta (w g m v : FVec Ideal s .f32) (i : s.Idx) : EReal :=
  Ideal.ofBits .f32 0xBA83126F#32 * (Ideal.div (Ideal.div (newM g m i) (Ideal.ofBits .f32 0x3F26BD02#32))
    (Ideal.sqrt (Ideal.div (newV g v i) (Ideal.ofBits .f32 0x3C231ACC#32)) + Ideal.ofBits .f32 0x322BCC77#32)
    + Ideal.ofBits .f32 0x3C23D70A#32 * w i)

/-- A reference that has run on the same arguments holds these three arrays. -/
theorem meet {hb : (⟨0, ![]⟩ : Shape).BroadcastsInDim s ![]} {K : Prop} {w g m v w' g' m' v' d a b : FVec Ideal s .f32}
    (e : w' = w ∧ g' = g ∧ m' = m ∧ v' = v) (h : d = hostD hb w' g' m' v' ∧ a = hostM hb g' m' ∧ b = hostV hb g' v' ∧ K) :
    d = delta w g m v ∧ a = newM g m ∧ b = newV g v ∧ K := by
  obtain ⟨rfl, rfl, rfl, rfl⟩ := e
  exact h

/-- A reference without semaphores ends with its arguments as they were and every counter at zero. -/
theorem quiet {C : Type} {D A B : C → Prop} {K : C → Prop} {Z : Prop} (h : ∀ c, D c ∧ A c ∧ B c ∧ K c) (z : Z) : (∀ c, K c) ∧ Z :=
  ⟨fun c => (h c).2.2.2, z⟩

end Step

theorem algebraic_Up : Cert.algebraic_AdamUpIdeal_AdamUpRefIdeal := fun m g m' g' _ e =>
  ⟨fun c => _, fun c => _, fun c => _, AdamUpIdeal.Value.run m g, θ_run_mono (AdamUpRefIdeal.Value.run m' g') fun _ h c => meet (e c) (h c)⟩

theorem frame_Up : Cert.quiescent_AdamUpRefIdeal := fun m g _ =>
  θ_run_mono (AdamUpRefIdeal.Value.run m g) fun r h => quiet h (sem_eq_zero_of_no_sems (by decide) r.2)

theorem algebraic_In : Cert.algebraic_AdamInIdeal_AdamInRefIdeal := fun m g m' g' _ e =>
  ⟨fun c => _, fun c => _, fun c => _, AdamInIdeal.Value.run m g, θ_run_mono (AdamInRefIdeal.Value.run m' g') fun _ h c => meet (e c) (h c)⟩

theorem frame_In : Cert.quiescent_AdamInRefIdeal := fun m g _ =>
  θ_run_mono (AdamInRefIdeal.Value.run m g) fun r h => quiet h (sem_eq_zero_of_no_sems (by decide) r.2)

theorem algebraic_Out : Cert.algebraic_AdamOutIdeal_AdamOutRefIdeal := fun m g m' g' _ e =>
  ⟨fun c => _, fun c => _, fun c => _, AdamOutIdeal.Value.run m g, θ_run_mono (AdamOutRefIdeal.Value.run m' g') fun _ h c => meet (e c) (h c)⟩

theorem frame_Out : Cert.quiescent_AdamOutRefIdeal := fun m g _ =>
  θ_run_mono (AdamOutRefIdeal.Value.run m g) fun r h => quiet h (sem_eq_zero_of_no_sems (by decide) r.2)

theorem algebraic_Kv : Cert.algebraic_AdamKvIdeal_AdamKvRefIdeal := fun m g m' g' _ e =>
  ⟨fun c => _, fun c => _, fun c => _, AdamKvIdeal.Value.run m g, θ_run_mono (AdamKvRefIdeal.Value.run m' g') fun _ h c => meet (e c) (h c)⟩

theorem frame_Kv : Cert.quiescent_AdamKvRefIdeal := fun m g _ =>
  θ_run_mono (AdamKvRefIdeal.Value.run m g) fun r h => quiet h (sem_eq_zero_of_no_sems (by decide) r.2)

theorem algebraic_Q : Cert.algebraic_AdamQIdeal_AdamQRefIdeal := fun m g m' g' _ e =>
  ⟨fun c => _, fun c => _, fun c => _, AdamQIdeal.Value.run m g, θ_run_mono (AdamQRefIdeal.Value.run m' g') fun _ h c => meet (e c) (h c)⟩

theorem frame_Q : Cert.quiescent_AdamQRefIdeal := fun m g _ =>
  θ_run_mono (AdamQRefIdeal.Value.run m g) fun r h => quiet h (sem_eq_zero_of_no_sems (by decide) r.2)

theorem algebraic_Down : Cert.algebraic_AdamDownIdeal_AdamDownRefIdeal := fun m g m' g' _ e =>
  ⟨fun c => _, fun c => _, fun c => _, AdamDownIdeal.Value.run m g, θ_run_mono (AdamDownRefIdeal.Value.run m' g') fun _ h c => meet (e c) (h c)⟩

theorem frame_Down : Cert.quiescent_AdamDownRefIdeal := fun m g _ =>
  θ_run_mono (AdamDownRefIdeal.Value.run m g) fun r h => quiet h (sem_eq_zero_of_no_sems (by decide) r.2)

theorem algebraic_Gain : Cert.algebraic_AdamGainIdeal_AdamGainRefIdeal := fun m g m' g' _ e =>
  ⟨fun c => _, fun c => _, fun c => _, AdamGainIdeal.Value.run m g, θ_run_mono (AdamGainRefIdeal.Value.run m' g') fun _ h c => meet (e c) (h c)⟩

theorem frame_Gain : Cert.quiescent_AdamGainRefIdeal := fun m g _ =>
  θ_run_mono (AdamGainRefIdeal.Value.run m g) fun r h => quiet h (sem_eq_zero_of_no_sems (by decide) r.2)

theorem algebraic_Gains : Cert.algebraic_AdamGainsIdeal_AdamGainsRefIdeal := fun m g m' g' _ e =>
  ⟨fun c => _, fun c => _, fun c => _, AdamGainsIdeal.Value.run m g, θ_run_mono (AdamGainsRefIdeal.Value.run m' g') fun _ h c => meet (e c) (h c)⟩

theorem frame_Gains : Cert.quiescent_AdamGainsRefIdeal := fun m g _ =>
  θ_run_mono (AdamGainsRefIdeal.Value.run m g) fun r h => quiet h (sem_eq_zero_of_no_sems (by decide) r.2)

theorem algebraic_Norm : Cert.algebraic_AdamNormIdeal_AdamNormRefIdeal := fun m g m' g' _ e =>
  ⟨fun c => _, fun c => _, fun c => _, AdamNormIdeal.Value.run m g, θ_run_mono (AdamNormRefIdeal.Value.run m' g') fun _ h c => meet (e c) (h c)⟩

theorem frame_Norm : Cert.quiescent_AdamNormRefIdeal := fun m g _ =>
  θ_run_mono (AdamNormRefIdeal.Value.run m g) fun r h => quiet h (sem_eq_zero_of_no_sems (by decide) r.2)

theorem algebraic_Heads : Cert.algebraic_AdamHeadsIdeal_AdamHeadsRefIdeal := fun m g m' g' _ e =>
  ⟨fun c => _, fun c => _, fun c => _, AdamHeadsIdeal.Value.run m g, θ_run_mono (AdamHeadsRefIdeal.Value.run m' g') fun _ h c => meet (e c) (h c)⟩

theorem frame_Heads : Cert.quiescent_AdamHeadsRefIdeal := fun m g _ =>
  θ_run_mono (AdamHeadsRefIdeal.Value.run m g) fun r h => quiet h (sem_eq_zero_of_no_sems (by decide) r.2)

theorem algebraic_Gates : Cert.algebraic_AdamGatesIdeal_AdamGatesRefIdeal := fun m g m' g' _ e =>
  ⟨fun c => _, fun c => _, fun c => _, AdamGatesIdeal.Value.run m g, θ_run_mono (AdamGatesRefIdeal.Value.run m' g') fun _ h c => meet (e c) (h c)⟩

theorem frame_Gates : Cert.quiescent_AdamGatesRefIdeal := fun m g _ =>
  θ_run_mono (AdamGatesRefIdeal.Value.run m g) fun r h => quiet h (sem_eq_zero_of_no_sems (by decide) r.2)

theorem algebraic_Rel : Cert.algebraic_AdamRelIdeal_AdamRelRefIdeal := fun m g m' g' _ e =>
  ⟨fun c => _, fun c => _, fun c => _, AdamRelIdeal.Value.run m g, θ_run_mono (AdamRelRefIdeal.Value.run m' g') fun _ h c => meet (e c) (h c)⟩

theorem frame_Rel : Cert.quiescent_AdamRelRefIdeal := fun m g _ =>
  θ_run_mono (AdamRelRefIdeal.Value.run m g) fun r h => quiet h (sem_eq_zero_of_no_sems (by decide) r.2)

theorem algebraic_Conv : Cert.algebraic_AdamConvIdeal_AdamConvRefIdeal := fun m g m' g' _ e =>
  ⟨fun c => _, fun c => _, fun c => _, AdamConvIdeal.Value.run m g, θ_run_mono (AdamConvRefIdeal.Value.run m' g') fun _ h c => meet (e c) (h c)⟩

theorem frame_Conv : Cert.quiescent_AdamConvRefIdeal := fun m g _ =>
  θ_run_mono (AdamConvRefIdeal.Value.run m g) fun r h => quiet h (sem_eq_zero_of_no_sems (by decide) r.2)

theorem algebraic_ConvB : Cert.algebraic_AdamConvBIdeal_AdamConvBRefIdeal := fun m g m' g' _ e =>
  ⟨fun c => _, fun c => _, fun c => _, AdamConvBIdeal.Value.run m g, θ_run_mono (AdamConvBRefIdeal.Value.run m' g') fun _ h c => meet (e c) (h c)⟩

theorem frame_ConvB : Cert.quiescent_AdamConvBRefIdeal := fun m g _ =>
  θ_run_mono (AdamConvBRefIdeal.Value.run m g) fun r h => quiet h (sem_eq_zero_of_no_sems (by decide) r.2)

end Cert.Adam
-- ==== Proof.Ref.lean ====
/- What the reference computes, at an index. -/
module

public import proofs.«01_k».proof.Proof.Gen.ReferenceIdeal.Read
public import proofs.«01_k».proof.Proof.Algebra

@[expose] public section

set_option maxRecDepth 16384

noncomputable section

open Idealize.ShloMosaic Idealize.ShloMosaic.TcCoe Idealize.SL.Sem

namespace Cert.ReferenceIdeal.Closed

open Cert.ReferenceIdeal Cert.ReferenceIdeal.Read Cert.Conv

variable (U : FVec Ideal U2 .f32) (D : FVec Ideal D2 .f32) (W : FVec Ideal W2 .f32) (B : FVec Ideal B1 .f32)

theorem up_at (x : Fin 16386) (k : Fin 5632) : val_main_v1 (F := Ideal) U (ix2 x k) = up U x.val k := by
  pointwise [val_main_v1, val_main_v0, val_main_cst]
  unfold up
  by_cases h : x.val < 2
  · rw [dif_neg (show ¬ (2 ≤ x.val ∧ x.val - 2 < 16384) by omega)]
    exact dif_pos h
  · rw [dif_pos (show 2 ≤ x.val ∧ x.val - 2 < 16384 by omega)]
    exact dif_neg h

theorem cv_at (x : Fin 16384) (k : Fin 5632) : val_main_v25 (F := Ideal) U W B (ix2 x k) = cv U W B x.val k := by
  refine Eq.trans (b := val_main_v1 (F := Ideal) U (ix2 ⟨x.val, by omega⟩ k) * W (ix2 0 k)
    + val_main_v1 (F := Ideal) U (ix2 ⟨1 + x.val, by omega⟩ k) * W (ix2 1 k)
    + val_main_v1 (F := Ideal) U (ix2 ⟨2 + x.val, by omega⟩ k) * W (ix2 2 k) + B (ix1 k)) ?_ ?_
  · pointwise [val_main_v25, val_main_v22, val_main_v24, val_main_v23, val_main_v21, val_main_v20, val_main_v19,
      val_main_v18, val_main_v17, val_main_v16, val_main_v15, val_main_v14, val_main_v13, val_main_v12, val_main_v11,
      val_main_v10, val_main_v9, val_main_v8, val_main_v7, val_main_v6, val_main_v5, val_main_v4, val_main_v3, val_main_v2]
  · rw [up_at, up_at, up_at]
    show up U x.val k * _ + up U (1 + x.val) k * _ + up U (2 + x.val) k * _ + _ = _
    rw [Nat.add_comm 1, Nat.add_comm 2]
    rfl

section Finite

variable {U D W B} (hU : ∀ i, IsReal (U i)) (hD : ∀ i, IsReal (D i)) (hW : ∀ i, IsReal (W i)) (hB : ∀ i, IsReal (B i))

include hU hD hW hB in
theorem dc_at (x : Fin 16384) (k : Fin 5632) :
    val_main_v33 (F := Ideal) U D W B (ix2 x k) = Conv.dc U D W B x.val k := by
  by_cases h : k.val < 2816
  · refine Eq.trans (b := D (ix2 x ⟨k.val, h⟩) * val_main_v25 (F := Ideal) U W B (ix2 x ⟨2816 + k.val, by omega⟩)
        * Ideal.div 1 (1 + Ideal.exp (-val_main_v25 (F := Ideal) U W B (ix2 x k)))
      + val_main_v25 (F := Ideal) U W B (ix2 x k) * (D (ix2 x ⟨k.val, h⟩)
        * val_main_v25 (F := Ideal) U W B (ix2 x ⟨2816 + k.val, by omega⟩))
        * (Ideal.div 1 (1 + Ideal.exp (-val_main_v25 (F := Ideal) U W B (ix2 x k)))
          * (1 - Ideal.div 1 (1 + Ideal.exp (-val_main_v25 (F := Ideal) U W B (ix2 x k)))))) ?_ ?_
    · pointwise [val_main_v33, val_main_v32, val_main_v30, val_main_v31, val_main_v26, val_main_v27, val_main_call1_v1,
        val_main_call1_v2, val_main_v28_2, val_main_v28_1, val_main_v28_0, val_main_v29, val_main_call1_v0,
        val_main_call0_v0, val_main_call0_v1, val_main_call0_v2, val_main_call0_v3, val_main_call0_v4,
        val_main_call0_v6, val_main_call0_v7, val_main_call0_cst, val_main_call0_cst_0, val_main_call0_cst_1]
      exact dif_pos h
    · rw [cv_at, cv_at, gateGrad_eq (cv_real hU hW hB _ _) (cv_real hU hW hB _ _) (hD _)]
      unfold Conv.dc
      rw [dif_pos x.isLt, dif_pos h]
  · refine Eq.trans (b := val_main_v25 (F := Ideal) U W B (ix2 x ⟨k.val - 2816, by omega⟩)
        * Ideal.div 1 (1 + Ideal.exp (-val_main_v25 (F := Ideal) U W B (ix2 x ⟨k.val - 2816, by omega⟩)))
        * D (ix2 x ⟨k.val - 2816, by omega⟩)) ?_ ?_
    · pointwise [val_main_v33, val_main_v32, val_main_v30, val_main_v31, val_main_v26, val_main_v27, val_main_call1_v1,
        val_main_call1_v2, val_main_v28_2, val_main_v28_1, val_main_v28_0, val_main_v29, val_main_call1_v0,
        val_main_call0_v0, val_main_call0_v1, val_main_call0_v2, val_main_call0_v3, val_main_call0_v4,
        val_main_call0_v6, val_main_call0_v7, val_main_call0_cst, val_main_call0_cst_0, val_main_call0_cst_1]
      exact dif_neg h
    · rw [cv_at, valGrad_eq (cv_real hU hW hB _ _)]
      unfold Conv.dc
      rw [dif_pos x.isLt, dif_neg h]

/-- The gradient of the convolution's result is zero below the last row. -/
theorem dc_ge {x : ℕ} (h : 16384 ≤ x) (k : Fin 5632) : Conv.dc U D W B x k = 0 := dif_neg (by omega)

include hU hD hW hB in
theorem du_at (x : Fin 16384) (k : Fin 5632) :
    val_main_v70 (F := Ideal) U D W B (ix2 x k) = Conv.du (Conv.dc U D W B) W x.val k := by
  refine Eq.trans (b := val_main_v33 (F := Ideal) U D W B (ix2 x k) * W (ix2 2 k)
    + (if h : 1 ≤ 2 + x.val ∧ 2 + x.val - 1 < 16384 then
        val_main_v33 (F := Ideal) U D W B (ix2 ⟨2 + x.val - 1, h.2⟩ k) * W (ix2 1 k) else 0)
    + (if h : 2 + x.val < 16384 then
        val_main_v33 (F := Ideal) U D W B (ix2 ⟨2 + x.val, h⟩ k) * W (ix2 0 k) else 0)) ?_ ?_
  · pointwise [val_main_v70, val_main_v69, val_main_v67, val_main_v66, val_main_v56, val_main_v55, val_main_v45,
      val_main_v41, val_main_v50, val_main_v61, val_main_v60, val_main_v59, val_main_v49, val_main_v48, val_main_v40,
      val_main_v39, val_main_cst_14, val_main_cst_10, val_main_v19, val_main_v18, val_main_v17, val_main_v12,
      val_main_v11, val_main_v10, val_main_v6, val_main_v5, val_main_v4]
  · unfold Conv.du
    congr 1
    · congr 1
      · rw [dc_at hU hD hW hB]
      · split
        · rw [dc_at hU hD hW hB]
          show Conv.dc U D W B (2 + x.val - 1) k * _ = _
          rw [show 2 + x.val - 1 = x.val + 1 by omega]
        · rw [dc_ge (by omega), zero_mul]
    · split
      · rw [dc_at hU hD hW hB]
        show Conv.dc U D W B (2 + x.val) k * _ = _
        rw [Nat.add_comm 2]
      · rw [dc_ge (by omega), zero_mul]

include hU hD hW hB in
theorem sum_at (n : ℕ) (hn : n < 3) (k : Fin 5632) :
    (∑ r : Fin 1, ∑ x : Fin 16384, val_main_v1 (F := Ideal) U (ix2 ⟨n + x.val, by omega⟩ k)
      * val_main_v33 (F := Ideal) U D W B (ix2 x k)) = Conv.dw (Conv.dc U D W B) U n k := by
  simp only [Finset.univ_unique, Finset.sum_singleton]
  unfold Conv.dw
  refine Finset.sum_congr rfl fun x _ => ?_
  rw [dc_at hU hD hW hB, up_at, mul_comm]
  show _ * up U (n + x.val) k = _
  rw [Nat.add_comm n]

include hU hD hW hB in
theorem dw_at (a : Fin 3) (k : Fin 5632) :
    val_main_v65 (F := Ideal) U D W B (ix2 a k) = Conv.dw (Conv.dc U D W B) U a.val k := by
  refine Eq.trans (b := (if h : 2 ≤ a.val ∧ a.val - 2 < 1 then
      ∑ r : Fin 1, ∑ x : Fin 16384, val_main_v1 (F := Ideal) U (ix2 ⟨2 + x.val, by omega⟩ k)
        * val_main_v33 (F := Ideal) U D W B (ix2 x k) else 0)
    + (if h : 1 ≤ a.val ∧ a.val - 1 < 1 then
      ∑ r : Fin 1, ∑ x : Fin 16384, val_main_v1 (F := Ideal) U (ix2 ⟨1 + x.val, by omega⟩ k)
        * val_main_v33 (F := Ideal) U D W B (ix2 x k) else 0)
    + (if h : a.val < 1 then
      ∑ r : Fin 1, ∑ x : Fin 16384, val_main_v1 (F := Ideal) U (ix2 ⟨x.val, by omega⟩ k)
        * val_main_v33 (F := Ideal) U D W B (ix2 x k) else 0)) ?_ ?_
  · pointwise [val_main_v65, val_main_v54, val_main_v64, val_main_v63, val_main_v62, val_main_v44, val_main_v43,
      val_main_v42, val_main_v53, val_main_v52, val_main_v51, val_main_v58, val_main_v47, val_main_v38, val_main_v57,
      val_main_v46, val_main_v37, val_main_v39, val_main_v48, val_main_v59, val_main_v16, val_main_v9, val_main_v3,
      val_main_cst_3, val_main_cst_4, val_main_cst_5, val_main_cst_7, val_main_cst_8, val_main_cst_9,
      val_main_cst_11, val_main_cst_12, val_main_cst_13]
  · have s0 := sum_at hU hD hW hB 0 (by omega) k
    simp only [Nat.zero_add] at s0
    rw [sum_at hU hD hW hB 2 (by omega), sum_at hU hD hW hB 1 (by omega), s0]
    obtain ⟨a, ha⟩ := a
    rcases (by omega : a = 0 ∨ a = 1 ∨ a = 2) with rfl | rfl | rfl <;> simp

include hU hD hW hB in
theorem db_at (k : Fin 5632) : val_main_v71 (F := Ideal) U D W B (ix2 0 k) = Conv.db (Conv.dc U D W B) k := by
  refine Eq.trans (b := ∑ r : Fin 1, ∑ x : Fin 16384, val_main_v33 (F := Ideal) U D W B (ix2 x k)) ?_ ?_
  · pointwise [val_main_v71, val_main_v36, val_main_v35, val_main_v34, val_main_cst_1, val_main_cst_2]
  · simp only [Finset.univ_unique, Finset.sum_singleton]
    unfold Conv.db
    exact Finset.sum_congr rfl fun x _ => dc_at hU hD hW hB x k

end Finite

end Cert.ReferenceIdeal.Closed
-- ==== Proof.lean ====
module

public import proofs.«01_k».proof.Proof.Gen.Ddown.Frame
public import proofs.«01_k».proof.Proof.Ddown
public import proofs.«01_k».proof.Proof.Gen.Gdown.Frame
public import proofs.«01_k».proof.Proof.Gdown
public import proofs.«01_k».proof.Proof.Gen.Dup.Frame
public import proofs.«01_k».proof.Proof.Dup
public import proofs.«01_k».proof.Proof.Gen.Gup.Frame
public import proofs.«01_k».proof.Proof.Gup
public import proofs.«01_k».proof.Proof.Gen.Dout.Frame
public import proofs.«01_k».proof.Proof.Dout
public import proofs.«01_k».proof.Proof.Gen.Gout.Frame
public import proofs.«01_k».proof.Proof.Gout
public import proofs.«01_k».proof.Proof.Gen.Dq.Frame
public import proofs.«01_k».proof.Proof.Dq
public import proofs.«01_k».proof.Proof.Gen.Gq.Frame
public import proofs.«01_k».proof.Proof.Gq
public import proofs.«01_k».proof.Proof.Gen.Dkv.Frame
public import proofs.«01_k».proof.Proof.Dkv
public import proofs.«01_k».proof.Proof.Gen.Gkv.Frame
public import proofs.«01_k».proof.Proof.Gkv
public import proofs.«01_k».proof.Proof.Gen.Attn.Frame
public import proofs.«01_k».proof.Proof.AttnArrays
public import proofs.«01_k».proof.Proof.Gen.Din.Frame
public import proofs.«01_k».proof.Proof.Din
public import proofs.«01_k».proof.Proof.Gen.Gin.Frame
public import proofs.«01_k».proof.Proof.Gin
public import proofs.«01_k».proof.Proof.Gen.Ain.Frame
public import proofs.«01_k».proof.Proof.Ain
public import proofs.«01_k».proof.Proof.Gen.Down.Frame
public import proofs.«01_k».proof.Proof.Down
public import proofs.«01_k».proof.Proof.Gen.Out.Frame
public import proofs.«01_k».proof.Proof.Out
public import proofs.«01_k».proof.Proof.Gen.View0.Frame
public import proofs.«01_k».proof.Proof.View0
public import proofs.«01_k».proof.Proof.Gen.View1.Frame
public import proofs.«01_k».proof.Proof.View1
public import proofs.«01_k».proof.Proof.Gen.View2.Frame
public import proofs.«01_k».proof.Proof.View2
public import proofs.«01_k».proof.Proof.Gen.UpAct
public import proofs.«01_k».proof.Proof.Gen.UpActIdeal
public import proofs.«01_k».proof.Proof.UpAct
public import proofs.«01_k».proof.Proof.Dnorm
public import proofs.«01_k».proof.Proof.Adam
public import proofs.«01_k».proof.Proof.Gen.Dnorm.Frame
public import proofs.«01_k».proof.Proof.Gen.AdamUp.Frame
public import proofs.«01_k».proof.Proof.Gen.AdamIn.Frame
public import proofs.«01_k».proof.Proof.Gen.AdamOut.Frame
public import proofs.«01_k».proof.Proof.Gen.AdamKv.Frame
public import proofs.«01_k».proof.Proof.Gen.AdamQ.Frame
public import proofs.«01_k».proof.Proof.Gen.AdamDown.Frame
public import proofs.«01_k».proof.Proof.Gen.AdamGain.Frame
public import proofs.«01_k».proof.Proof.Gen.AdamGains.Frame
public import proofs.«01_k».proof.Proof.Gen.AdamNorm.Frame
public import proofs.«01_k».proof.Proof.Gen.AdamHeads.Frame
public import proofs.«01_k».proof.Proof.Gen.AdamGates.Frame
public import proofs.«01_k».proof.Proof.Gen.AdamRel.Frame
public import proofs.«01_k».proof.Proof.Gen.AdamConv.Frame
public import proofs.«01_k».proof.Proof.Gen.AdamConvB.Frame
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Pre_finite_attn
public import proofs.«01_k».proof.Proof.Gen.ReferenceIdeal.Run
public import proofs.«01_k».proof.Proof.Gen.ReferenceIdeal.Read
public import proofs.«01_k».proof.Proof.Tail
public import proofs.«01_k».proof.Proof.Ref
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Cert.Kernel

/-- Where every argument is finite, so is each element of it. -/
theorem reals {m : (ℓ : Loc KernelIdeal.nD KernelIdeal.τ KernelIdeal.sig) → Buf (Elt Ideal) ℓ}
    (h : Pre_KernelIdeal_finite m) (c : Dev KernelIdeal.nD) :
    (∀ i, Conv.IsReal (KernelIdeal.Value.argU m c i)) ∧ (∀ i, Conv.IsReal (KernelIdeal.Value.argD m c i))
      ∧ (∀ i, Conv.IsReal (KernelIdeal.Value.argW m c i)) ∧ (∀ i, Conv.IsReal (KernelIdeal.Value.argB m c i)) :=
  ⟨fun i => Conv.isReal_of_lt _ (congrFun (h c).1 i), fun i => Conv.isReal_of_lt _ (congrFun (h c).2.1 i),
    fun i => Conv.isReal_of_lt _ (congrFun (h c).2.2.1 i), fun i => Conv.isReal_of_lt _ (congrFun (h c).2.2.2 i)⟩

open Cert.KernelIdeal Cert.KernelIdeal.Gen Cert.KernelIdeal.Value in
/-- The kernel's run with its three results. -/
theorem kernel_run (m : (ℓ : Loc KernelIdeal.nD KernelIdeal.τ KernelIdeal.sig) → Buf (Elt Ideal) ℓ)
    (g : Dev KernelIdeal.nD → PrngReg) :
    θ_run (KernelIdeal.defs (F := Ideal)) (onTc (τ := KernelIdeal.τ) (KernelIdeal.main (F := Ideal))) ⟨m, fun _ => 0, g⟩
      (fun r => ∀ c : Dev KernelIdeal.nD,
        r.2.mem ((c.tc : Thread KernelIdeal.nD KernelIdeal.τ).loc KernelIdeal.main_v13) = resDu m c
        ∧ r.2.mem ((c.tc : Thread KernelIdeal.nD KernelIdeal.τ).loc KernelIdeal.main_v16) = resDw m c
        ∧ r.2.mem ((c.tc : Thread KernelIdeal.nD KernelIdeal.τ).loc KernelIdeal.main_v19) = resDb m c
        ∧ r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1)
        ∧ r.2.mem ((c.tc : Thread KernelIdeal.nD KernelIdeal.τ).loc KernelIdeal.main_arg2) = m ((c.tc : Thread KernelIdeal.nD KernelIdeal.τ).loc KernelIdeal.main_arg2)
        ∧ r.2.mem ((c.tc : Thread KernelIdeal.nD KernelIdeal.τ).loc KernelIdeal.main_arg3) = m ((c.tc : Thread KernelIdeal.nD KernelIdeal.τ).loc KernelIdeal.main_arg3)) :=
  θ_run_mono (θ_run_and (KernelIdeal.Gen.run_main (F := Ideal) m g) (KernelIdeal.Gen.unchanged (F := Ideal) m g)) fun r h c =>
    ⟨((h.1 c).2 KernelIdeal.main_v13 (Pipeline.mem_restRefs_of _ (by decide) (by decide))).trans (tail13 m c),
      ((h.1 c).2 KernelIdeal.main_v16 (Pipeline.mem_restRefs_of _ (by decide) (by decide))).trans (tail16 m c),
      ((h.1 c).2 KernelIdeal.main_v19 (Pipeline.mem_restRefs_of _ (by decide) (by decide))).trans (tail19 m c), h.2 c⟩

theorem algebraic_conv : Cert.algebraic_KernelIdeal_ReferenceIdeal_pre_finite := by
  intro m g m' g' hpre hagree
  refine ⟨_, _, _, kernel_run m g, θ_run_mono (Cert.ReferenceIdeal.Value.run (F := Ideal) m' g') fun r h c => ?_⟩
  obtain ⟨h0, h1, h2, h3⟩ := h c
  obtain ⟨a0, a1, a2, a3⟩ := hagree c
  obtain ⟨hU, hD, hW, hB⟩ := reals hpre c
  refine ⟨h0.trans ?_, h1.trans ?_, h2.trans ?_, h3⟩
  · rw [ReferenceIdeal.Read.val_main_v70_eq, a0, a1, a2, a3]
    funext y
    obtain ⟨r, k, rfl⟩ : ∃ r k, y = ix2 r k := ⟨y 0, y 1, (ix2_eta y).symm⟩
    exact ReferenceIdeal.Closed.du_at hU hD hW hB r k
  · rw [ReferenceIdeal.Read.val_main_v65_eq, a0, a1, a2, a3]
    funext y
    obtain ⟨r, k, rfl⟩ : ∃ r k, y = ix2 r k := ⟨y 0, y 1, (ix2_eta y).symm⟩
    exact ReferenceIdeal.Closed.dw_at hU hD hW hB r k
  · rw [ReferenceIdeal.Read.val_main_v71_eq, a0, a1, a2, a3]
    funext y
    obtain ⟨r, k, rfl⟩ : ∃ r k, y = ix2 r k := ⟨y 0, y 1, (ix2_eta y).symm⟩
    obtain rfl : 0 = r := Subsingleton.elim _ _
    exact ReferenceIdeal.Closed.db_at hU hD hW hB k

/-- The reference leaves its arguments unchanged and has no semaphore. -/
theorem reference_frame : Cert.quiescent_ReferenceIdeal := fun m g _ =>
  θ_run_mono (Cert.ReferenceIdeal.Value.run (F := Ideal) m g) fun r h =>
    And.intro (fun c => (h c).2.2.2) (sem_eq_zero_of_no_sems (by decide) r.2)

open Cert.DdownIdeal.Value in
theorem algebraic_Ddown : Cert.algebraic_DdownIdeal_DdownRefIdeal := by
  intro m g m' g' _ hagree
  refine ⟨fun c => Prod.nt (argA m c) (argW m c),
    θ_run_mono (run_blocks m g) fun r h c => ⟨(h c).1.trans (final m c), (h c).2⟩,
    θ_run_mono (Cert.DdownRefIdeal.Value.run (F := Ideal) m' g') fun r h c => ⟨(h c).1.trans ?_, (h c).2⟩⟩
  rw [DdownRefIdeal.Read.val_main_v3_eq, (hagree c).1, (hagree c).2]
  exact ref _ _

theorem reference_frame_Ddown : Cert.quiescent_DdownRefIdeal := fun m g _ =>
  θ_run_mono (Cert.DdownRefIdeal.Value.run (F := Ideal) m g) fun r h =>
    And.intro (fun c => (h c).2) (sem_eq_zero_of_no_sems (by decide) r.2)

open Cert.GdownIdeal.Value in
theorem algebraic_Gdown : Cert.algebraic_GdownIdeal_GdownRefIdeal := by
  intro m g m' g' _ hagree
  refine ⟨fun c => Prod.tn (argA m c) (argB m c),
    θ_run_mono (run_blocks m g) fun r h c => ⟨(h c).1.trans (final m c), (h c).2⟩,
    θ_run_mono (Cert.GdownRefIdeal.Value.run (F := Ideal) m' g') fun r h c => ⟨(h c).1.trans ?_, (h c).2⟩⟩
  rw [GdownRefIdeal.Read.val_main_v4_eq, (hagree c).1, (hagree c).2]
  exact ref _ _

theorem reference_frame_Gdown : Cert.quiescent_GdownRefIdeal := fun m g _ =>
  θ_run_mono (Cert.GdownRefIdeal.Value.run (F := Ideal) m g) fun r h =>
    And.intro (fun c => (h c).2) (sem_eq_zero_of_no_sems (by decide) r.2)

open Cert.DupIdeal.Value in
theorem algebraic_Dup : Cert.algebraic_DupIdeal_DupRefIdeal := by
  intro m g m' g' _ hagree
  refine ⟨fun c => Prod.nt (argA m c) (argW m c),
    θ_run_mono (run_blocks m g) fun r h c => ⟨(h c).1.trans (final m c), (h c).2⟩,
    θ_run_mono (Cert.DupRefIdeal.Value.run (F := Ideal) m' g') fun r h c => ⟨(h c).1.trans ?_, (h c).2⟩⟩
  rw [DupRefIdeal.Read.val_main_v4_eq, (hagree c).1, (hagree c).2]
  exact ref _ _

theorem reference_frame_Dup : Cert.quiescent_DupRefIdeal := fun m g _ =>
  θ_run_mono (Cert.DupRefIdeal.Value.run (F := Ideal) m g) fun r h =>
    And.intro (fun c => (h c).2) (sem_eq_zero_of_no_sems (by decide) r.2)

open Cert.GupIdeal.Value in
theorem algebraic_Gup : Cert.algebraic_GupIdeal_GupRefIdeal := by
  intro m g m' g' _ hagree
  refine ⟨fun c => Prod.tn (argA m c) (argB m c),
    θ_run_mono (θ_run_and (GupIdeal.Gen.run_main (F := Ideal) m g) (GupIdeal.Gen.unchanged (F := Ideal) m g)) fun r h c =>
      ⟨((h.1 c).2 GupIdeal.main_v6 (Pipeline.mem_restRefs_of _ (by decide) (by decide))).trans (tail6 m c), h.2 c⟩,
    θ_run_mono (Cert.GupRefIdeal.Value.run (F := Ideal) m' g') fun r h c => ⟨(h c).1.trans ?_, (h c).2⟩⟩
  rw [GupRefIdeal.Read.val_main_v5_eq, (hagree c).1, (hagree c).2]
  exact ref _ _

theorem reference_frame_Gup : Cert.quiescent_GupRefIdeal := fun m g _ =>
  θ_run_mono (Cert.GupRefIdeal.Value.run (F := Ideal) m g) fun r h =>
    And.intro (fun c => (h c).2) (sem_eq_zero_of_no_sems (by decide) r.2)

open Cert.DoutIdeal.Value in
theorem algebraic_Dout : Cert.algebraic_DoutIdeal_DoutRefIdeal := by
  intro m g m' g' _ hagree
  refine ⟨fun c => Prod.nt (argA m c) (argW m c),
    θ_run_mono (run_blocks m g) fun r h c => ⟨(h c).1.trans (final m c), (h c).2⟩,
    θ_run_mono (Cert.DoutRefIdeal.Value.run (F := Ideal) m' g') fun r h c => ⟨(h c).1.trans ?_, (h c).2⟩⟩
  rw [DoutRefIdeal.Read.val_main_v3_eq, (hagree c).1, (hagree c).2]
  exact ref _ _

theorem reference_frame_Dout : Cert.quiescent_DoutRefIdeal := fun m g _ =>
  θ_run_mono (Cert.DoutRefIdeal.Value.run (F := Ideal) m g) fun r h =>
    And.intro (fun c => (h c).2) (sem_eq_zero_of_no_sems (by decide) r.2)

open Cert.GoutIdeal.Value in
theorem algebraic_Gout : Cert.algebraic_GoutIdeal_GoutRefIdeal := by
  intro m g m' g' _ hagree
  refine ⟨fun c => Prod.tn (argA m c) (argB m c),
    θ_run_mono (run_blocks m g) fun r h c => ⟨(h c).1.trans (final m c), (h c).2⟩,
    θ_run_mono (Cert.GoutRefIdeal.Value.run (F := Ideal) m' g') fun r h c => ⟨(h c).1.trans ?_, (h c).2⟩⟩
  rw [GoutRefIdeal.Read.val_main_v4_eq, (hagree c).1, (hagree c).2]
  exact ref _ _

theorem reference_frame_Gout : Cert.quiescent_GoutRefIdeal := fun m g _ =>
  θ_run_mono (Cert.GoutRefIdeal.Value.run (F := Ideal) m g) fun r h =>
    And.intro (fun c => (h c).2) (sem_eq_zero_of_no_sems (by decide) r.2)

open Cert.DqIdeal.Value in
theorem algebraic_Dq : Cert.algebraic_DqIdeal_DqRefIdeal := by
  intro m g m' g' _ hagree
  refine ⟨fun c => Prod.nt (argA m c) (argW m c),
    θ_run_mono (run_blocks m g) fun r h c => ⟨(h c).1.trans (final m c), (h c).2⟩,
    θ_run_mono (Cert.DqRefIdeal.Value.run (F := Ideal) m' g') fun r h c => ⟨(h c).1.trans ?_, (h c).2⟩⟩
  rw [DqRefIdeal.Read.val_main_v4_eq, (hagree c).1, (hagree c).2]
  exact ref _ _

theorem reference_frame_Dq : Cert.quiescent_DqRefIdeal := fun m g _ =>
  θ_run_mono (Cert.DqRefIdeal.Value.run (F := Ideal) m g) fun r h =>
    And.intro (fun c => (h c).2) (sem_eq_zero_of_no_sems (by decide) r.2)

open Cert.GqIdeal.Value in
theorem algebraic_Gq : Cert.algebraic_GqIdeal_GqRefIdeal := by
  intro m g m' g' _ hagree
  refine ⟨fun c => Prod.tn (argA m c) (argB m c),
    θ_run_mono (run_blocks m g) fun r h c => ⟨(h c).1.trans (final m c), (h c).2⟩,
    θ_run_mono (Cert.GqRefIdeal.Value.run (F := Ideal) m' g') fun r h c => ⟨(h c).1.trans ?_, (h c).2⟩⟩
  rw [GqRefIdeal.Read.val_main_v5_eq, (hagree c).1, (hagree c).2]
  exact ref _ _

theorem reference_frame_Gq : Cert.quiescent_GqRefIdeal := fun m g _ =>
  θ_run_mono (Cert.GqRefIdeal.Value.run (F := Ideal) m g) fun r h =>
    And.intro (fun c => (h c).2) (sem_eq_zero_of_no_sems (by decide) r.2)

open Cert.DkvIdeal.Value in
theorem algebraic_Dkv : Cert.algebraic_DkvIdeal_DkvRefIdeal := by
  intro m g m' g' _ hagree
  refine ⟨fun c => Prod.nt (argA m c) (argW m c),
    θ_run_mono (run_blocks m g) fun r h c => ⟨(h c).1.trans (final m c), (h c).2⟩,
    θ_run_mono (Cert.DkvRefIdeal.Value.run (F := Ideal) m' g') fun r h c => ⟨(h c).1.trans ?_, (h c).2⟩⟩
  rw [DkvRefIdeal.Read.val_main_v4_eq, (hagree c).1, (hagree c).2]
  exact ref _ _

theorem reference_frame_Dkv : Cert.quiescent_DkvRefIdeal := fun m g _ =>
  θ_run_mono (Cert.DkvRefIdeal.Value.run (F := Ideal) m g) fun r h =>
    And.intro (fun c => (h c).2) (sem_eq_zero_of_no_sems (by decide) r.2)

open Cert.GkvIdeal.Value in
theorem algebraic_Gkv : Cert.algebraic_GkvIdeal_GkvRefIdeal := by
  intro m g m' g' _ hagree
  refine ⟨fun c => Prod.tn (argA m c) (argB m c),
    θ_run_mono (run_blocks m g) fun r h c => ⟨(h c).1.trans (final m c), (h c).2⟩,
    θ_run_mono (Cert.GkvRefIdeal.Value.run (F := Ideal) m' g') fun r h c => ⟨(h c).1.trans ?_, (h c).2⟩⟩
  rw [GkvRefIdeal.Read.val_main_v5_eq, (hagree c).1, (hagree c).2]
  exact ref _ _

theorem reference_frame_Gkv : Cert.quiescent_GkvRefIdeal := fun m g _ =>
  θ_run_mono (Cert.GkvRefIdeal.Value.run (F := Ideal) m g) fun r h =>
    And.intro (fun c => (h c).2) (sem_eq_zero_of_no_sems (by decide) r.2)

/-- Where every argument of the attention gradient is finite, so is each element of it. -/
theorem reals_attn {m : (ℓ : Loc AttnIdeal.nD AttnIdeal.τ AttnIdeal.sig) → Buf (Elt Ideal) ℓ}
    (h : Pre_AttnIdeal_finite_attn m) (c : Dev AttnIdeal.nD) : AttnIdeal.Value.Fin6 m c :=
  ⟨fun i => Conv.isReal_of_lt _ (congrFun (h c).1 i), fun i => Conv.isReal_of_lt _ (congrFun (h c).2.1 i),
    fun i => Conv.isReal_of_lt _ (congrFun (h c).2.2.1 i), fun i => Conv.isReal_of_lt _ (congrFun (h c).2.2.2.1 i),
    fun i => Conv.isReal_of_lt _ (congrFun (h c).2.2.2.2.1 i), fun i => Conv.isReal_of_lt _ (congrFun (h c).2.2.2.2.2 i)⟩

open Cert.AttnIdeal.Value in
theorem algebraic_attn : Cert.algebraic_AttnIdeal_AttnRefIdeal_pre_finite_attn := by
  intro m g m' g' hpre hagree
  refine ⟨_, _, _, _, _, _,
    θ_run_mono (run_blocks m g) fun r h c =>
      have H := reals_attn hpre c
      ⟨(h c).1.trans (final_dq c H), (h c).2.1.trans (final_dkc c H), (h c).2.2.1.trans (final_dkp c H), (h c).2.2.2.1.trans (final_dvc c H),
        (h c).2.2.2.2.1.trans (final_dvp c H), (h c).2.2.2.2.2.1.trans (final_db c H), (h c).2.2.2.2.2.2⟩,
    θ_run_mono (Cert.AttnRefIdeal.Value.run (F := Ideal) m' g') fun r h c => ?_⟩
  obtain ⟨h0, h1, h2, h3, h4, h5, h6⟩ := h c
  obtain ⟨a0, a1, a2, a3, a4, a5⟩ := hagree c
  refine ⟨h0.trans ?_, h1.trans ?_, h2.trans ?_, h3.trans ?_, h4.trans ?_, h5.trans ?_, h6⟩
  · rw [AttnRefIdeal.Read.val_main_v111_eq, a0, a1, a2, a3, a4, a5]
  · rw [AttnRefIdeal.Read.val_main_v115_eq, a0, a1, a2, a3, a4, a5]
  · rw [AttnRefIdeal.Read.val_main_v113_eq, a0, a1, a2, a3, a4, a5]
  · rw [AttnRefIdeal.Read.val_main_v119_eq, a0, a1, a3, a4]
  · rw [AttnRefIdeal.Read.val_main_v117_eq, a0, a1, a3, a4]
  · rw [AttnRefIdeal.Read.val_main_v99_eq, a0, a1, a2, a3, a4, a5]

theorem reference_frame_attn : Cert.quiescent_AttnRefIdeal := fun m g _ =>
  θ_run_mono (Cert.AttnRefIdeal.Value.run (F := Ideal) m g) fun r h =>
    And.intro (fun c => (h c).2.2.2.2.2.2) (sem_eq_zero_of_no_sems (by decide) r.2)

open Cert.DinIdeal.Value in
theorem algebraic_Din : Cert.algebraic_DinIdeal_DinRefIdeal := by
  intro m g m' g' _ hagree
  refine ⟨fun c => Prod.nt (M := 16384) (N := 1024) (g := .bf16) (argA m c) (Prod.wide (g := .bf16) (Q := 3200) (argW m c)),
    θ_run_mono (run_blocks m g) fun r h c => ⟨(h c).1.trans (final m c), (h c).2⟩,
    θ_run_mono (Cert.DinRefIdeal.Value.run (F := Ideal) m' g') fun r h c => ⟨(h c).1.trans ?_, (h c).2⟩⟩
  rw [DinRefIdeal.Read.val_main_v5_eq, (hagree c).1, (hagree c).2]
  exact ref _ _

theorem reference_frame_Din : Cert.quiescent_DinRefIdeal := fun m g _ =>
  θ_run_mono (Cert.DinRefIdeal.Value.run (F := Ideal) m g) fun r h =>
    And.intro (fun c => (h c).2) (sem_eq_zero_of_no_sems (by decide) r.2)

open Cert.GinIdeal.Value in
theorem algebraic_Gin : Cert.algebraic_GinIdeal_GinRefIdeal := by
  intro m g m' g' _ hagree
  refine ⟨fun c => kept (argA m c) (argB m c),
    θ_run_mono (θ_run_and (GinIdeal.Gen.run_main (F := Ideal) m g) (GinIdeal.Gen.unchanged (F := Ideal) m g)) fun r h c =>
      ⟨((h.1 c).2 GinIdeal.main_v1 (Pipeline.mem_restRefs_of _ (by decide) (by decide))).trans (tail1 m c), h.2 c⟩,
    θ_run_mono (Cert.GinRefIdeal.Value.run (F := Ideal) m' g') fun r h c => ⟨(h c).1.trans ?_, (h c).2⟩⟩
  rw [GinRefIdeal.Read.val_main_v6_eq, (hagree c).1, (hagree c).2]
  exact ref _ _

theorem reference_frame_Gin : Cert.quiescent_GinRefIdeal := fun m g _ =>
  θ_run_mono (Cert.GinRefIdeal.Value.run (F := Ideal) m g) fun r h =>
    And.intro (fun c => (h c).2) (sem_eq_zero_of_no_sems (by decide) r.2)

open Cert.AinIdeal.Value in
theorem algebraic_Ain : Cert.algebraic_AinIdeal_AinRefIdeal := by
  intro m g m' g' _ hagree
  refine ⟨fun c => Prod.nn (M := 16384) (N := 3200) (g := .bf16) (argA m c) (Prod.wide (g := .bf16) (Q := 3200) (argW m c)),
    θ_run_mono (run_blocks m g) fun r h c => ⟨(h c).1.trans (final m c), (h c).2⟩,
    θ_run_mono (Cert.AinRefIdeal.Value.run (F := Ideal) m' g') fun r h c => ⟨(h c).1.trans ?_, (h c).2⟩⟩
  rw [AinRefIdeal.Read.val_main_v3_eq, (hagree c).1, (hagree c).2]
  exact ref _ _

theorem reference_frame_Ain : Cert.quiescent_AinRefIdeal := fun m g _ =>
  θ_run_mono (Cert.AinRefIdeal.Value.run (F := Ideal) m g) fun r h =>
    And.intro (fun c => (h c).2) (sem_eq_zero_of_no_sems (by decide) r.2)

open Cert.DownIdeal.Value in
theorem algebraic_Down : Cert.algebraic_DownIdeal_DownRefIdeal := by
  intro m g m' g' _ hagree
  refine ⟨fun c => sum m c,
    θ_run_mono (run_blocks m g) fun r h c => ⟨(h c).1.trans (final m c), (h c).2⟩,
    θ_run_mono (Cert.DownRefIdeal.Value.run (F := Ideal) m' g') fun r h c => ⟨(h c).1.trans ?_, (h c).2⟩⟩
  rw [DownRefIdeal.Read.val_main_v3_eq, (hagree c).1, (hagree c).2.1, (hagree c).2.2]
  exact ref _ _ _

theorem reference_frame_Down : Cert.quiescent_DownRefIdeal := fun m g _ =>
  θ_run_mono (Cert.DownRefIdeal.Value.run (F := Ideal) m g) fun r h =>
    And.intro (fun c => (h c).2) (sem_eq_zero_of_no_sems (by decide) r.2)

open Cert.OutIdeal.Value in
theorem algebraic_Out : Cert.algebraic_OutIdeal_OutRefIdeal := by
  intro m g m' g' _ hagree
  refine ⟨fun c => sum m c,
    θ_run_mono (run_blocks m g) fun r h c => ⟨(h c).1.trans (final m c), (h c).2⟩,
    θ_run_mono (Cert.OutRefIdeal.Value.run (F := Ideal) m' g') fun r h c => ⟨(h c).1.trans ?_, (h c).2⟩⟩
  rw [OutRefIdeal.Read.val_main_v3_eq, (hagree c).1, (hagree c).2.1, (hagree c).2.2]
  exact ref _ _ _

theorem reference_frame_Out : Cert.quiescent_OutRefIdeal := fun m g _ =>
  θ_run_mono (Cert.OutRefIdeal.Value.run (F := Ideal) m g) fun r h =>
    And.intro (fun c => (h c).2) (sem_eq_zero_of_no_sems (by decide) r.2)

open Cert.View0Ideal.Value in
theorem algebraic_View0 : Cert.algebraic_View0Ideal_View0RefIdeal := by
  intro m g m' g' _ hagree
  refine ⟨fun c => Prod.nn (M := 16384) (N := 1024) (argA m c) (argW m c),
    θ_run_mono (run_blocks m g) fun r h c => ⟨(h c).1.trans (final m c), (h c).2⟩,
    θ_run_mono (Cert.View0RefIdeal.Value.run (F := Ideal) m' g') fun r h c => ⟨(h c).1.trans ?_, (h c).2⟩⟩
  rw [View0RefIdeal.Read.val_main_v3_eq, (hagree c).1, (hagree c).2]
  exact ref _ _

theorem reference_frame_View0 : Cert.quiescent_View0RefIdeal := fun m g _ =>
  θ_run_mono (Cert.View0RefIdeal.Value.run (F := Ideal) m g) fun r h =>
    And.intro (fun c => (h c).2) (sem_eq_zero_of_no_sems (by decide) r.2)

open Cert.View1Ideal.Value in
theorem algebraic_View1 : Cert.algebraic_View1Ideal_View1RefIdeal := by
  intro m g m' g' _ hagree
  refine ⟨fun c => sides (argA m c) (argW m c),
    θ_run_mono (run_blocks m g) fun r h c => ⟨(h c).1.trans (final m c), (h c).2⟩,
    θ_run_mono (Cert.View1RefIdeal.Value.run (F := Ideal) m' g') fun r h c => ⟨(h c).1.trans ?_, (h c).2⟩⟩
  rw [View1RefIdeal.Read.val_main_v4_eq, (hagree c).1, (hagree c).2]
  exact ref _ _

theorem reference_frame_View1 : Cert.quiescent_View1RefIdeal := fun m g _ =>
  θ_run_mono (Cert.View1RefIdeal.Value.run (F := Ideal) m g) fun r h =>
    And.intro (fun c => (h c).2) (sem_eq_zero_of_no_sems (by decide) r.2)

open Cert.View2Ideal.Value in
theorem algebraic_View2 : Cert.algebraic_View2Ideal_View2RefIdeal := by
  intro m g m' g' _ hagree
  refine ⟨fun c => sides (argA m c) (argW m c),
    θ_run_mono (run_blocks m g) fun r h c => ⟨(h c).1.trans (final m c), (h c).2⟩,
    θ_run_mono (Cert.View2RefIdeal.Value.run (F := Ideal) m' g') fun r h c => ⟨(h c).1.trans ?_, (h c).2⟩⟩
  rw [View2RefIdeal.Read.val_main_v4_eq, (hagree c).1, (hagree c).2]
  exact ref _ _

theorem reference_frame_View2 : Cert.quiescent_View2RefIdeal := fun m g _ =>
  θ_run_mono (Cert.View2RefIdeal.Value.run (F := Ideal) m g) fun r h =>
    And.intro (fun c => (h c).2) (sem_eq_zero_of_no_sems (by decide) r.2)

open Cert.UpActIdeal.Value in
theorem algebraic_UpAct : Cert.algebraic_UpActIdeal_UpActRefIdeal := by
  intro m g m' g' _ hagree
  refine ⟨fun c => pr m c, fun c => act (pr m c) (argW m c) (argB m c),
    θ_run_mono (θ_run_and (UpActIdeal.Run.run_main m g)
      (UpActIdeal.Gen.frame_of m g (UpActIdeal.Run.dats m) (UpActIdeal.Run.A_eq m) (UpActIdeal.Run.run_main m g))) fun r h c =>
      ⟨((h.1 c).2 UpActIdeal.main_v13 (Pipeline.mem_restRefs_of _ (by decide) (by decide))).trans (tail13 m c),
        ((h.1 c).1 5).trans (final5 m c), h.2 c⟩,
    θ_run_mono (Cert.UpActRefIdeal.Value.run (F := Ideal) m' g') fun r h c => ?_⟩
  obtain ⟨h0, h1, h2⟩ := h c
  obtain ⟨a0, a1, a2, a3⟩ := hagree c
  refine ⟨h0.trans ?_, h1.trans ?_, h2⟩
  · rw [UpActRefIdeal.Read.val_main_v2_eq, a0, a1]
    exact ref_prod _ _
  · rw [UpActRefIdeal.Read.val_main_v32_eq, a0, a1, a2, a3]
    exact ref_act _ _ _ _

section UpAct

variable {F : FTy → Type} [FloatOps F]

theorem bodies_UpAct [Cert.UpAct.Facts] [Cert.UpActIdeal.Facts] : Cert.UpAct.defs₀ (F := F) = Cert.UpActIdeal.defs₀ (F := F) := by
  refine congrArg Defs.onTc (funext fun l => ?_)
  match l with
  | 0 => rfl
  | ⟨_ + 1, h⟩ => exact absurd h (Nat.not_lt.2 (Nat.le_add_left _ _))

theorem defs_UpAct [Cert.UpAct.Facts] [Cert.UpActIdeal.Facts] : Cert.UpAct.defs (F := F) = Cert.UpActIdeal.defs (F := F) := by
  unfold Cert.UpAct.defs Cert.UpActIdeal.defs
  exact congrArg (Pipeline.defs (Cert.UpAct.pcfgs (F := F))) bodies_UpAct

end UpAct

/-- The two programs of the up projection have the same text, so the run over any floats is the run of both. -/
theorem frame_UpAct : Cert.quiescent_UpAct := by
  intro m g _
  rw [defs_UpAct]
  exact Cert.UpActIdeal.Run.frame (F := Bits) m g

theorem reference_frame_UpAct : Cert.quiescent_UpActRefIdeal := fun m g _ =>
  θ_run_mono (Cert.UpActRefIdeal.Value.run (F := Ideal) m g) fun r h =>
    And.intro (fun c => (h c).2.2) (sem_eq_zero_of_no_sems (by decide) r.2)

open Cert.DnormIdeal.Value in
theorem algebraic_Dnorm : Cert.algebraic_DnormIdeal_DnormRefIdeal := by
  intro m g m' g' _ hagree
  refine ⟨fun c => dxA (argX m c) (argD m c) (argY m c) (argG m c), fun c => dgA (argX m c) (argY m c),
    θ_run_mono (run_blocks m g) fun r h c => ⟨(h c).1.trans (final4 m c), (h c).2.1.trans (final5 m c), (h c).2.2⟩,
    θ_run_mono (Cert.DnormRefIdeal.Value.run (F := Ideal) m' g') fun r h c => ?_⟩
  obtain ⟨h0, h1, h2⟩ := h c
  obtain ⟨a0, a1, a2, a3⟩ := hagree c
  refine ⟨h0.trans ?_, h1.trans ?_, h2⟩
  · rw [DnormRefIdeal.Read.val_main_v36_eq, a0, a1, a2, a3]
    exact ref_dx _ _ _ _
  · rw [DnormRefIdeal.Read.val_main_v37_eq, a0, a2]
    exact ref_dg _ _

theorem reference_frame_Dnorm : Cert.quiescent_DnormRefIdeal := fun m g _ =>
  θ_run_mono (Cert.DnormRefIdeal.Value.run (F := Ideal) m g) fun r h =>
    And.intro (fun c => (h c).2.2) (sem_eq_zero_of_no_sems (by decide) r.2)

theorem claim : Cert.Claim :=
  ⟨Cert.Kernel.Gen.facts, Cert.KernelIdeal.Gen.facts, Cert.ReferenceIdeal.Gen.facts,
    Cert.Ddown.Gen.facts, Cert.DdownIdeal.Gen.facts, Cert.DdownRefIdeal.Gen.facts,
    Cert.Gdown.Gen.facts, Cert.GdownIdeal.Gen.facts, Cert.GdownRefIdeal.Gen.facts,
    Cert.Dup.Gen.facts, Cert.DupIdeal.Gen.facts, Cert.DupRefIdeal.Gen.facts,
    Cert.Gup.Gen.facts, Cert.GupIdeal.Gen.facts, Cert.GupRefIdeal.Gen.facts,
    Cert.Dout.Gen.facts, Cert.DoutIdeal.Gen.facts, Cert.DoutRefIdeal.Gen.facts,
    Cert.Gout.Gen.facts, Cert.GoutIdeal.Gen.facts, Cert.GoutRefIdeal.Gen.facts,
    Cert.Dq.Gen.facts, Cert.DqIdeal.Gen.facts, Cert.DqRefIdeal.Gen.facts,
    Cert.Gq.Gen.facts, Cert.GqIdeal.Gen.facts, Cert.GqRefIdeal.Gen.facts,
    Cert.Dkv.Gen.facts, Cert.DkvIdeal.Gen.facts, Cert.DkvRefIdeal.Gen.facts,
    Cert.Gkv.Gen.facts, Cert.GkvIdeal.Gen.facts, Cert.GkvRefIdeal.Gen.facts,
    Cert.Attn.Gen.facts, Cert.AttnIdeal.Gen.facts, Cert.AttnRefIdeal.Gen.facts,
    Cert.Din.Gen.facts, Cert.DinIdeal.Gen.facts, Cert.DinRefIdeal.Gen.facts,
    Cert.Gin.Gen.facts, Cert.GinIdeal.Gen.facts, Cert.GinRefIdeal.Gen.facts,
    Cert.Ain.Gen.facts, Cert.AinIdeal.Gen.facts, Cert.AinRefIdeal.Gen.facts,
    Cert.Down.Gen.facts, Cert.DownIdeal.Gen.facts, Cert.DownRefIdeal.Gen.facts,
    Cert.Out.Gen.facts, Cert.OutIdeal.Gen.facts, Cert.OutRefIdeal.Gen.facts,
    Cert.View0.Gen.facts, Cert.View0Ideal.Gen.facts, Cert.View0RefIdeal.Gen.facts,
    Cert.View1.Gen.facts, Cert.View1Ideal.Gen.facts, Cert.View1RefIdeal.Gen.facts,
    Cert.View2.Gen.facts, Cert.View2Ideal.Gen.facts, Cert.View2RefIdeal.Gen.facts,
    Cert.UpAct.Gen.facts, Cert.UpActIdeal.Gen.facts, Cert.UpActRefIdeal.Gen.facts,
    Cert.Dnorm.Gen.facts, Cert.DnormIdeal.Gen.facts, Cert.DnormRefIdeal.Gen.facts,
    Cert.AdamUp.Gen.facts, Cert.AdamUpIdeal.Gen.facts, Cert.AdamUpRefIdeal.Gen.facts,
    Cert.AdamIn.Gen.facts, Cert.AdamInIdeal.Gen.facts, Cert.AdamInRefIdeal.Gen.facts,
    Cert.AdamOut.Gen.facts, Cert.AdamOutIdeal.Gen.facts, Cert.AdamOutRefIdeal.Gen.facts,
    Cert.AdamKv.Gen.facts, Cert.AdamKvIdeal.Gen.facts, Cert.AdamKvRefIdeal.Gen.facts,
    Cert.AdamQ.Gen.facts, Cert.AdamQIdeal.Gen.facts, Cert.AdamQRefIdeal.Gen.facts,
    Cert.AdamDown.Gen.facts, Cert.AdamDownIdeal.Gen.facts, Cert.AdamDownRefIdeal.Gen.facts,
    Cert.AdamGain.Gen.facts, Cert.AdamGainIdeal.Gen.facts, Cert.AdamGainRefIdeal.Gen.facts,
    Cert.AdamGains.Gen.facts, Cert.AdamGainsIdeal.Gen.facts, Cert.AdamGainsRefIdeal.Gen.facts,
    Cert.AdamNorm.Gen.facts, Cert.AdamNormIdeal.Gen.facts, Cert.AdamNormRefIdeal.Gen.facts,
    Cert.AdamHeads.Gen.facts, Cert.AdamHeadsIdeal.Gen.facts, Cert.AdamHeadsRefIdeal.Gen.facts,
    Cert.AdamGates.Gen.facts, Cert.AdamGatesIdeal.Gen.facts, Cert.AdamGatesRefIdeal.Gen.facts,
    Cert.AdamRel.Gen.facts, Cert.AdamRelIdeal.Gen.facts, Cert.AdamRelRefIdeal.Gen.facts,
    Cert.AdamConv.Gen.facts, Cert.AdamConvIdeal.Gen.facts, Cert.AdamConvRefIdeal.Gen.facts,
    Cert.AdamConvB.Gen.facts, Cert.AdamConvBIdeal.Gen.facts, Cert.AdamConvBRefIdeal.Gen.facts,
    Cert.Pre_finite.Gen.facts, Cert.Pre_finite_attn.Gen.facts,
    fun m g _ => Cert.Kernel.Gen.frame m g, fun m g _ => Cert.KernelIdeal.Gen.frame m g,
    fun m g _ => Cert.KernelIdeal.Gen.frame m g, fun m g _ => reference_frame m g trivial, fun m g _ => reference_frame m g trivial,
    fun m g _ => Cert.Ddown.Gen.frame m g, fun m g _ => Cert.DdownIdeal.Gen.frame m g, reference_frame_Ddown,
    fun m g _ => Cert.Gdown.Gen.frame m g, fun m g _ => Cert.GdownIdeal.Gen.frame m g, reference_frame_Gdown,
    fun m g _ => Cert.Dup.Gen.frame m g, fun m g _ => Cert.DupIdeal.Gen.frame m g, reference_frame_Dup,
    fun m g _ => Cert.Gup.Gen.frame m g, fun m g _ => Cert.GupIdeal.Gen.frame m g, reference_frame_Gup,
    fun m g _ => Cert.Dout.Gen.frame m g, fun m g _ => Cert.DoutIdeal.Gen.frame m g, reference_frame_Dout,
    fun m g _ => Cert.Gout.Gen.frame m g, fun m g _ => Cert.GoutIdeal.Gen.frame m g, reference_frame_Gout,
    fun m g _ => Cert.Dq.Gen.frame m g, fun m g _ => Cert.DqIdeal.Gen.frame m g, reference_frame_Dq,
    fun m g _ => Cert.Gq.Gen.frame m g, fun m g _ => Cert.GqIdeal.Gen.frame m g, reference_frame_Gq,
    fun m g _ => Cert.Dkv.Gen.frame m g, fun m g _ => Cert.DkvIdeal.Gen.frame m g, reference_frame_Dkv,
    fun m g _ => Cert.Gkv.Gen.frame m g, fun m g _ => Cert.GkvIdeal.Gen.frame m g, reference_frame_Gkv,
    fun m g _ => Cert.Attn.Gen.frame m g, fun m g _ => Cert.AttnIdeal.Gen.frame m g, fun m g _ => Cert.AttnIdeal.Gen.frame m g,
    reference_frame_attn, fun m g _ => reference_frame_attn m g trivial,
    fun m g _ => Cert.Din.Gen.frame m g, fun m g _ => Cert.DinIdeal.Gen.frame m g, reference_frame_Din,
    fun m g _ => Cert.Gin.Gen.frame m g, fun m g _ => Cert.GinIdeal.Gen.frame m g, reference_frame_Gin,
    fun m g _ => Cert.Ain.Gen.frame m g, fun m g _ => Cert.AinIdeal.Gen.frame m g, reference_frame_Ain,
    fun m g _ => Cert.Down.Gen.frame m g, fun m g _ => Cert.DownIdeal.Gen.frame m g, reference_frame_Down,
    fun m g _ => Cert.Out.Gen.frame m g, fun m g _ => Cert.OutIdeal.Gen.frame m g, reference_frame_Out,
    fun m g _ => Cert.View0.Gen.frame m g, fun m g _ => Cert.View0Ideal.Gen.frame m g, reference_frame_View0,
    fun m g _ => Cert.View1.Gen.frame m g, fun m g _ => Cert.View1Ideal.Gen.frame m g, reference_frame_View1,
    fun m g _ => Cert.View2.Gen.frame m g, fun m g _ => Cert.View2Ideal.Gen.frame m g, reference_frame_View2,
    frame_UpAct, fun m g _ => Cert.UpActIdeal.Run.frame m g, reference_frame_UpAct,
    fun m g _ => Cert.Dnorm.Gen.frame m g, fun m g _ => Cert.DnormIdeal.Gen.frame m g, reference_frame_Dnorm,
    fun m g _ => Cert.AdamUp.Gen.frame m g, fun m g _ => Cert.AdamUpIdeal.Gen.frame m g, Adam.frame_Up,
    fun m g _ => Cert.AdamIn.Gen.frame m g, fun m g _ => Cert.AdamInIdeal.Gen.frame m g, Adam.frame_In,
    fun m g _ => Cert.AdamOut.Gen.frame m g, fun m g _ => Cert.AdamOutIdeal.Gen.frame m g, Adam.frame_Out,
    fun m g _ => Cert.AdamKv.Gen.frame m g, fun m g _ => Cert.AdamKvIdeal.Gen.frame m g, Adam.frame_Kv,
    fun m g _ => Cert.AdamQ.Gen.frame m g, fun m g _ => Cert.AdamQIdeal.Gen.frame m g, Adam.frame_Q,
    fun m g _ => Cert.AdamDown.Gen.frame m g, fun m g _ => Cert.AdamDownIdeal.Gen.frame m g, Adam.frame_Down,
    fun m g _ => Cert.AdamGain.Gen.frame m g, fun m g _ => Cert.AdamGainIdeal.Gen.frame m g, Adam.frame_Gain,
    fun m g _ => Cert.AdamGains.Gen.frame m g, fun m g _ => Cert.AdamGainsIdeal.Gen.frame m g, Adam.frame_Gains,
    fun m g _ => Cert.AdamNorm.Gen.frame m g, fun m g _ => Cert.AdamNormIdeal.Gen.frame m g, Adam.frame_Norm,
    fun m g _ => Cert.AdamHeads.Gen.frame m g, fun m g _ => Cert.AdamHeadsIdeal.Gen.frame m g, Adam.frame_Heads,
    fun m g _ => Cert.AdamGates.Gen.frame m g, fun m g _ => Cert.AdamGatesIdeal.Gen.frame m g, Adam.frame_Gates,
    fun m g _ => Cert.AdamRel.Gen.frame m g, fun m g _ => Cert.AdamRelIdeal.Gen.frame m g, Adam.frame_Rel,
    fun m g _ => Cert.AdamConv.Gen.frame m g, fun m g _ => Cert.AdamConvIdeal.Gen.frame m g, Adam.frame_Conv,
    fun m g _ => Cert.AdamConvB.Gen.frame m g, fun m g _ => Cert.AdamConvBIdeal.Gen.frame m g, Adam.frame_ConvB,
    trivial, algebraic_conv,
    trivial, algebraic_Ddown,
    trivial, algebraic_Gdown,
    trivial, algebraic_Dup,
    trivial, algebraic_Gup,
    trivial, algebraic_Dout,
    trivial, algebraic_Gout,
    trivial, algebraic_Dq,
    trivial, algebraic_Gq,
    trivial, algebraic_Dkv,
    trivial, algebraic_Gkv,
    trivial, algebraic_attn,
    trivial, algebraic_Din,
    trivial, algebraic_Gin,
    trivial, algebraic_Ain,
    trivial, algebraic_Down,
    trivial, algebraic_Out,
    trivial, algebraic_View0,
    trivial, algebraic_View1,
    trivial, algebraic_View2,
    trivial, algebraic_UpAct, trivial, algebraic_Dnorm, trivial, Adam.algebraic_Up,
    trivial, Adam.algebraic_In, trivial, Adam.algebraic_Out, trivial, Adam.algebraic_Kv, trivial, Adam.algebraic_Q, trivial, Adam.algebraic_Down,
    trivial, Adam.algebraic_Gain, trivial, Adam.algebraic_Gains, trivial, Adam.algebraic_Norm, trivial, Adam.algebraic_Heads,
    trivial, Adam.algebraic_Gates, trivial, Adam.algebraic_Rel, trivial, Adam.algebraic_Conv, trivial, Adam.algebraic_ConvB⟩

end Cert.Proof

end
